-- ==== Defs.lean ====
def Pre_Kernel [hPre_sound : Cert.Pre_sound.Facts] (m : (ℓ : Loc Cert.Kernel.nD Cert.Kernel.τ Cert.Kernel.sig) → Buf (Elt Bits) ℓ) : Prop :=
  ∀ c : Dev Cert.Kernel.nD,
    (Cert.Pre_sound.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).1 = (fun _ => 1#1)
    ∧ (Cert.Pre_sound.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2.1 = (fun _ => 1#1)
    ∧ (Cert.Pre_sound.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2.2.1 = (fun _ => 1#1)
    ∧ (Cert.Pre_sound.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2.2.2.1 = (fun _ => 1#1)
    ∧ (Cert.Pre_sound.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2.2.2.2 = (fun _ => 1#1)

def Pre_KernelIdeal [hPre_sound : Cert.Pre_sound.Facts] (m : (ℓ : Loc Cert.KernelIdeal.nD Cert.KernelIdeal.τ Cert.KernelIdeal.sig) → Buf (Elt Ideal) ℓ) : Prop :=
  ∀ c : Dev Cert.KernelIdeal.nD,
    (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound [hPre_sound : Cert.Pre_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] [hPre_sound : Cert.Pre_sound.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_sound [hReferenceIdeal : Cert.ReferenceIdeal.Facts] [hPre_sound : Cert.Pre_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2_softmax_scale" .f32 0x3E0293EE#32 (((Real.sqrt 128)⁻¹ * (Real.log 2)⁻¹ : ℝ) : EReal)
  ∧ IdealRules.named_const.Statement Cert.KernelIdeal.κ "neg_inf" .f32 0xF149F2CA#32 ⊥

def algebraic_KernelIdeal_ReferenceIdeal [hKernelIdeal : Cert.KernelIdeal.Facts] [hReferenceIdeal : Cert.ReferenceIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v32_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_sound : Cert.Pre_sound.Facts),
    quiescent_Kernel (hKernel := hKernel) (hPre_sound := hPre_sound)
    ∧ quiescent_KernelIdeal (hKernelIdeal := hKernelIdeal) (hPre_sound := hPre_sound)
    ∧ quiescent_ReferenceIdeal (hReferenceIdeal := hReferenceIdeal)
    ∧ quiescent_ReferenceIdeal_pre_sound (hReferenceIdeal := hReferenceIdeal) (hPre_sound := hPre_sound)
    ∧ preserves_Kernel_KernelIdeal
    ∧ algebraic_KernelIdeal_ReferenceIdeal (hKernelIdeal := hKernelIdeal) (hReferenceIdeal := hReferenceIdeal) (hPre_sound := hPre_sound)
-- ==== Pre_sound.lean ====
abbrev S1x1x16384 : Shape := ⟨3, ![1, 1, 16384]⟩
abbrev S1x1x8x128 : Shape := ⟨4, ![1, 1, 8, 128]⟩
abbrev S1024x128x8x128 : Shape := ⟨4, ![1024, 128, 8, 128]⟩
abbrev S8 : Shape := ⟨1, ![8]⟩
abbrev S1x1024 : Shape := ⟨2, ![1, 1024]⟩
abbrev S1 : Shape := ⟨1, ![1]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S131072 : Shape := ⟨1, ![131072]⟩

class Facts : Prop where
  shapeCasts_S1x1024_S1024 : S1x1024.ShapeCasts S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S128_S1x128_1 : S128.BroadcastsInDim S1x128 (![1] : Fin 1 → Fin S1x128.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  shapeCasts_S1024x128_S131072 : S1024x128.ShapeCasts S131072
  bcast_S_S1x1024 : S_.BroadcastsInDim S1x1024 (![] : Fin 0 → Fin S1x1024.rank)
  bcast_S_S1 : S_.BroadcastsInDim S1 (![] : Fin 0 → Fin S1.rank)
  bcast_S_S8 : S_.BroadcastsInDim S8 (![] : Fin 0 → Fin S8.rank)
  shapeCasts_S1_S_ : S1.ShapeCasts S_
  sliceFits_S131072_S1 : S131072.Slices (fun _ => 0) S1
  h_S_ : 0 < S_.numel
  bcast_S1_S131072_0 : S1.BroadcastsInDim S131072 (![0] : Fin 1 → Fin S131072.rank)
  bcast_S_S131072 : S_.BroadcastsInDim S131072 (![] : Fin 0 → Fin S131072.rank)

variable [Facts]

def fn_part2 {F : FTy → Type} [FloatOps F] (main_arg8 : IVec S1 32) (main_v9 : IVec S131072 32) (main_v10 : IVec S131072 32) (main_v15 : IVec S1x1024 1) (main_v20 : IVec S1 1) (main_v25 : IVec S8 1) (main_v30 : IVec S8 1) (main_v36 : IVec S131072 32) : IVec S1x1024 1 × IVec S1 1 × IVec S8 1 × IVec S8 1 × IVec S131072 1 :=
  let main_v37 : IVec S131072 1 := cmpi .ne main_v9 main_v36
  let main_v38 : IVec S_ 32 := shapeCast S_ main_arg8 shapeCasts_S1_S_
  let main_v39 : IVec S131072 32 := broadcastInDim S131072 ![] bcast_S_S131072 main_v38
  let main_v40 : IVec S131072 1 := cmpi .sge main_v10 main_v39
  let main_v41 : IVec S131072 1 := ori main_v37 main_v40
  (main_v15, main_v20, main_v25, main_v30, main_v41)

def fn_part1 {F : FTy → Type} [FloatOps F] (main_arg4 : FVec F S8 .f32) (main_arg6 : FVec F S8 .f32) (main_arg8 : IVec S1 32) (main_v9 : IVec S131072 32) (main_v10 : IVec S131072 32) (main_v15 : IVec S1x1024 1) (main_v17 : IVec S1 1) (main_v18 : IVec S1 32) : IVec S1x1024 1 × IVec S1 1 × IVec S8 1 × IVec S8 1 × IVec S131072 1 :=
  let main_v19 : IVec S1 1 := cmpi .slt main_arg8 main_v18
  let main_v20 : IVec S1 1 := andi main_v17 main_v19
  let main_cst : FVec F S_ .f32 := constant S_ .f32 0x00000000#32
  let main_v21 : FVec F S8 .f32 := broadcastInDim S8 ![] bcast_S_S8 main_cst
  let main_v22 : IVec S8 1 := cmpf .oge main_arg4 main_v21
  let main_cst_4 : FVec F S_ .f32 := constant S_ .f32 0x7F800000#32
  let main_v23 : FVec F S8 .f32 := broadcastInDim S8 ![] bcast_S_S8 main_cst_4
  let main_v24 : IVec S8 1 := cmpf .olt main_arg4 main_v23
  let main_v25 : IVec S8 1 := andi main_v22 main_v24
  let main_cst_5 : FVec F S_ .f32 := constant S_ .f32 0x00000000#32
  let main_v26 : FVec F S8 .f32 := broadcastInDim S8 ![] bcast_S_S8 main_cst_5
  let main_v27 : IVec S8 1 := cmpf .oge main_arg6 main_v26
  let main_cst_6 : FVec F S_ .f32 := constant S_ .f32 0x7F800000#32
  let main_v28 : FVec F S8 .f32 := broadcastInDim S8 ![] bcast_S_S8 main_cst_6
  let main_v29 : IVec S8 1 := cmpf .olt main_arg6 main_v28
  let main_v30 : IVec S8 1 := andi main_v27 main_v29
  let main_v31 : IVec S_ 32 := shapeCast S_ main_arg8 shapeCasts_S1_S_
  let main_c_7 : IVec S_ 32 := constantI S_ 32 0#32
  let main_v32 : IVec S_ 1 := cmpi .slt main_v31 main_c_7
  let main_c_8 : IVec S_ 32 := constantI S_ 32 131072#32
  let main_v33 : IVec S_ 32 := addi main_v31 main_c_8
  let main_v34 : IVec S_ 32 := select main_v32 main_v33 main_v31
  let main_v35 : IVec S1 32 := (fun x i => Host.dynamicSlice S1 x (fun k => (i k (Shape.Idx.first h_S_)).toInt) sliceFits_S131072_S1) main_v9 (![main_v34] : Fin 1 → IVec S_ 32)
  let main_v36 : IVec S131072 32 := broadcastInDim S131072 ![0] bcast_S1_S131072_0 main_v35
  fn_part2 (F := F) main_arg8 main_v9 main_v10 main_v15 main_v20 main_v25 main_v30 main_v36

def fn {F : FTy → Type} [FloatOps F] (main_arg0 : FVec F S1x1x16384 .bf16) (main_arg1 : FVec F S1x1x8x128 .bf16) (main_arg2 : FVec F S1x1x8x128 .bf16) (main_arg3 : FVec F S1024x128x8x128 .fp8e4m3) (main_arg4 : FVec F S8 .f32) (main_arg5 : FVec F S1024x128x8x128 .fp8e4m3) (main_arg6 : FVec F S8 .f32) (main_arg7 : IVec S1x1024 32) (main_arg8 : IVec S1 32) (main_arg9 : IVec S1 32) (main_arg10 : FVec F S8 .f32) (main_arg11 : FVec F S8 .f32) : IVec S1x1024 1 × IVec S1 1 × IVec S8 1 × IVec S8 1 × IVec S131072 1 :=
  let main_v0 : IVec S1024 32 := shapeCast S1024 main_arg7 shapeCasts_S1x1024_S1024
  let main_v1 : IVec S1024x1 32 := broadcastInDim S1024x1 ![0] bcast_S1024_S1024x1_0 main_v0
  let main_c : IVec S_ 32 := constantI S_ 32 128#32
  let main_v2 : IVec S1024x1 32 := broadcastInDim S1024x1 ![] bcast_S_S1024x1 main_c
  let main_v3 : IVec S1024x1 32 := muli main_v1 main_v2
  let main_v4 : IVec S128 32 := iotaInDim S128 32 0
  let main_v5 : IVec S1x128 32 := broadcastInDim S1x128 ![1] bcast_S128_S1x128_1 main_v4
  let main_v6 : IVec S1024x128 32 := broadcastInDim S1024x128 ![0, 1] bcast_S1024x1_S1024x128_0_1 main_v3
  let main_v7 : IVec S1024x128 32 := broadcastInDim S1024x128 ![0, 1] bcast_S1x128_S1024x128_0_1 main_v5
  let main_v8 : IVec S1024x128 32 := addi main_v6 main_v7
  let main_v9 : IVec S131072 32 := shapeCast S131072 main_v8 shapeCasts_S1024x128_S131072
  let main_v10 : IVec S131072 32 := iotaInDim S131072 32 0
  let main_c_0 : IVec S_ 32 := constantI S_ 32 0#32
  let main_v11 : IVec S1x1024 32 := broadcastInDim S1x1024 ![] bcast_S_S1x1024 main_c_0
  let main_v12 : IVec S1x1024 1 := cmpi .sge main_arg7 main_v11
  let main_c_1 : IVec S_ 32 := constantI S_ 32 1024#32
  let main_v13 : IVec S1x1024 32 := broadcastInDim S1x1024 ![] bcast_S_S1x1024 main_c_1
  let main_v14 : IVec S1x1024 1 := cmpi .slt main_arg7 main_v13
  let main_v15 : IVec S1x1024 1 := andi main_v12 main_v14
  let main_c_2 : IVec S_ 32 := constantI S_ 32 0#32
  let main_v16 : IVec S1 32 := broadcastInDim S1 ![] bcast_S_S1 main_c_2
  let main_v17 : IVec S1 1 := cmpi .sge main_arg8 main_v16
  let main_c_3 : IVec S_ 32 := constantI S_ 32 131072#32
  let main_v18 : IVec S1 32 := broadcastInDim S1 ![] bcast_S_S1 main_c_3
  fn_part1 (F := F) main_arg4 main_arg6 main_arg8 main_v9 main_v10 main_v15 main_v17 main_v18
-- ==== Kernel.lean ====
abbrev S1x1x16384 : Shape := ⟨3, ![1, 1, 16384]⟩
abbrev S1x1x8x128 : Shape := ⟨4, ![1, 1, 8, 128]⟩
abbrev S1024x128x8x128 : Shape := ⟨4, ![1024, 128, 8, 128]⟩
abbrev S8 : Shape := ⟨1, ![8]⟩
abbrev S1x1024 : Shape := ⟨2, ![1, 1024]⟩
abbrev S1 : Shape := ⟨1, ![1]⟩
abbrev S_ : Shape := ⟨0, ![]⟩
abbrev S2 : Shape := ⟨1, ![2]⟩
abbrev S2x64x128 : Shape := ⟨3, ![2, 64, 128]⟩
abbrev S1x64x128 : Shape := ⟨3, ![1, 64, 128]⟩
abbrev S64x128 : Shape := ⟨2, ![64, 128]⟩
abbrev S64x256 : Shape := ⟨2, ![64, 256]⟩
abbrev S128x256 : Shape := ⟨2, ![128, 256]⟩
abbrev S2x1x1x4 : Shape := ⟨4, ![2, 1, 1, 4]⟩
abbrev S1x2x1x1x1x1x1x4 : Shape := ⟨8, ![1, 2, 1, 1, 1, 1, 1, 4]⟩
abbrev S1x2x16x1x64x1x1x4 : Shape := ⟨8, ![1, 2, 16, 1, 64, 1, 1, 4]⟩
abbrev S2x16x64x4 : Shape := ⟨4, ![2, 16, 64, 4]⟩
abbrev S32x256 : Shape := ⟨2, ![32, 256]⟩
abbrev S8x16 : Shape := ⟨2, ![8, 16]⟩
abbrev S128 : Shape := ⟨1, ![128]⟩
abbrev S128x1 : Shape := ⟨2, ![128, 1]⟩
abbrev S128x128 : Shape := ⟨2, ![128, 128]⟩
abbrev S1024 : Shape := ⟨1, ![1024]⟩
abbrev S8x128 : Shape := ⟨2, ![8, 128]⟩
abbrev S8x1 : Shape := ⟨2, ![8, 1]⟩
abbrev S2x1x4 : Shape := ⟨3, ![2, 1, 4]⟩
abbrev S1x2x1x1x1x4 : Shape := ⟨6, ![1, 2, 1, 1, 1, 4]⟩
abbrev S1x2x64x1x1x4 : Shape := ⟨6, ![1, 2, 64, 1, 1, 4]⟩
abbrev S2x64x4 : Shape := ⟨3, ![2, 64, 4]⟩
abbrev S2x256x1 : Shape := ⟨3, ![2, 256, 1]⟩
abbrev S2x256x128 : Shape := ⟨3, ![2, 256, 128]⟩
abbrev S1024x1024x128 : Shape := ⟨3, ![1024, 1024, 128]⟩
abbrev S6x8x1024x128 : Shape := ⟨4, ![6, 8, 1024, 128]⟩
abbrev S32x4096 : Shape := ⟨2, ![32, 4096]⟩
abbrev S6 : Shape := ⟨1, ![6]⟩
abbrev S16x256 : Shape := ⟨2, ![16, 256]⟩
abbrev S1x1x1024x128 : Shape := ⟨4, ![1, 1, 1024, 128]⟩
abbrev S1024x128 : Shape := ⟨2, ![1024, 128]⟩
abbrev S1x1024x128 : Shape := ⟨3, ![1, 1024, 128]⟩
abbrev S32x128 : Shape := ⟨2, ![32, 128]⟩
abbrev S1x1x32x128 : Shape := ⟨4, ![1, 1, 32, 128]⟩
abbrev S1x1x512x128 : Shape := ⟨4, ![1, 1, 512, 128]⟩
abbrev S512x128 : Shape := ⟨2, ![512, 128]⟩
abbrev S64x8x128 : Shape := ⟨3, ![64, 8, 128]⟩
abbrev S64x4x128 : Shape := ⟨3, ![64, 4, 128]⟩
abbrev S256x128 : Shape := ⟨2, ![256, 128]⟩
abbrev S256x256 : Shape := ⟨2, ![256, 256]⟩
abbrev S2x4x16x256 : Shape := ⟨4, ![2, 4, 16, 256]⟩
abbrev S2x1x16x256 : Shape := ⟨4, ![2, 1, 16, 256]⟩
abbrev S2x16x256 : Shape := ⟨3, ![2, 16, 256]⟩
abbrev S1x16x256 : Shape := ⟨3, ![1, 16, 256]⟩
abbrev S32x1 : Shape := ⟨2, ![32, 1]⟩
abbrev S2x1x16x128 : Shape := ⟨4, ![2, 1, 16, 128]⟩
abbrev S2x4x16x128 : Shape := ⟨4, ![2, 4, 16, 128]⟩
abbrev S1x256x128 : Shape := ⟨3, ![1, 256, 128]⟩

abbrev nBuf : Space → Nat
  | .hbm => 77
  | .vmem => 15
  | .smem => 2
  | _ => 0

abbrev bufTy : (tb : Table) → Fin (tcTables nBuf tb) → BufTy
  | .hbm, ⟨0, _⟩ => ⟨S1x1x16384, .bf16⟩
  | .hbm, ⟨1, _⟩ => ⟨S1x1x8x128, .bf16⟩
  | .hbm, ⟨2, _⟩ => ⟨S1x1x8x128, .bf16⟩
  | .hbm, ⟨3, _⟩ => ⟨S1024x128x8x128, .fp8e4m3⟩
  | .hbm, ⟨4, _⟩ => ⟨S8, .f32⟩
  | .hbm, ⟨5, _⟩ => ⟨S1024x128x8x128, .fp8e4m3⟩
  | .hbm, ⟨6, _⟩ => ⟨S8, .f32⟩
  | .hbm, ⟨7, _⟩ => ⟨S1x1024, .i32⟩
  | .hbm, ⟨8, _⟩ => ⟨S1, .i32⟩
  | .hbm, ⟨9, _⟩ => ⟨S1, .i32⟩
  | .hbm, ⟨10, _⟩ => ⟨S8, .f32⟩
  | .hbm, ⟨11, _⟩ => ⟨S8, .f32⟩
  | .hbm, ⟨12, _⟩ => ⟨S8, .bf16⟩
  | .hbm, ⟨13, _⟩ => ⟨S8, .bf16⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S2, .i32⟩
  | .hbm, ⟨22, _⟩ => ⟨S2x64x128, .bf16⟩
  | .hbm, ⟨23, _⟩ => ⟨S1x64x128, .bf16⟩
  | .hbm, ⟨24, _⟩ => ⟨S64x128, .bf16⟩
  | .hbm, ⟨25, _⟩ => ⟨S_, .bf16⟩
  | .hbm, ⟨26, _⟩ => ⟨S64x128, .bf16⟩
  | .hbm, ⟨27, _⟩ => ⟨S1x64x128, .bf16⟩
  | .hbm, ⟨28, _⟩ => ⟨S64x128, .bf16⟩
  | .hbm, ⟨29, _⟩ => ⟨S64x256, .bf16⟩
  | .hbm, ⟨30, _⟩ => ⟨S1x64x128, .bf16⟩
  | .hbm, ⟨31, _⟩ => ⟨S64x128, .bf16⟩
  | .hbm, ⟨32, _⟩ => ⟨S64x256, .bf16⟩
  | .hbm, ⟨33, _⟩ => ⟨S128x256, .bf16⟩
  | .hbm, ⟨34, _⟩ => ⟨S8, .f32⟩
  | .hbm, ⟨35, _⟩ => ⟨S_, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S2x1x1x4, .f32⟩
  | .hbm, ⟨45, _⟩ => ⟨S1x2x1x1x1x1x1x4, .f32⟩
  | .hbm, ⟨46, _⟩ => ⟨S1x2x16x1x64x1x1x4, .f32⟩
  | .hbm, ⟨47, _⟩ => ⟨S2x16x64x4, .f32⟩
  | .hbm, ⟨48, _⟩ => ⟨S32x256, .f32⟩
  | .hbm, ⟨49, _⟩ => ⟨S8x16, .f32⟩
  | .hbm, ⟨50, _⟩ => ⟨S128, .f32⟩
  | .hbm, ⟨51, _⟩ => ⟨S128x1, .f32⟩
  | .hbm, ⟨52, _⟩ => ⟨S128x128, .f32⟩
  | .hbm, ⟨53, _⟩ => ⟨S1024, .i32⟩
  | .hbm, ⟨54, _⟩ => ⟨S8x128, .bf16⟩
  | .hbm, ⟨55, _⟩ => ⟨S8x128, .bf16⟩
  | .hbm, ⟨56, _⟩ => ⟨S8x1, .f32⟩
  | .hbm, ⟨57, _⟩ => ⟨S8x128, .f32⟩
  | .hbm, ⟨58, _⟩ => ⟨S8x1, .f32⟩
  | .hbm, ⟨59, _⟩ => ⟨S8x128, .f32⟩
  | .hbm, ⟨60, _⟩ => ⟨S2x1x4, .bf16⟩
  | .hbm, ⟨61, _⟩ => ⟨S1x2x1x1x1x4, .bf16⟩
  | .hbm, ⟨62, _⟩ => ⟨S1x2x64x1x1x4, .bf16⟩
  | .hbm, ⟨63, _⟩ => ⟨S2x64x4, .bf16⟩
  | .hbm, ⟨64, _⟩ => ⟨S2x256x1, .bf16⟩
  | .hbm, ⟨65, _⟩ => ⟨S2x256x128, .bf16⟩
  | .hbm, ⟨66, _⟩ => ⟨S2x1x4, .bf16⟩
  | .hbm, ⟨67, _⟩ => ⟨S1x2x1x1x1x4, .bf16⟩
  | .hbm, ⟨68, _⟩ => ⟨S1x2x64x1x1x4, .bf16⟩
  | .hbm, ⟨69, _⟩ => ⟨S2x64x4, .bf16⟩
  | .hbm, ⟨70, _⟩ => ⟨S2x256x1, .bf16⟩
  | .hbm, ⟨71, _⟩ => ⟨S2x256x128, .bf16⟩
  | .hbm, ⟨72, _⟩ => ⟨S1024x1024x128, .fp8e4m3⟩
  | .hbm, ⟨73, _⟩ => ⟨S1024x1024x128, .fp8e4m3⟩
  | .hbm, ⟨74, _⟩ => ⟨S128x128, .bf16⟩
  | .hbm, ⟨75, _⟩ => ⟨S8x128, .fp8e4m3⟩
  | .hbm, ⟨76, _⟩ => ⟨S8x128, .fp8e4m3⟩
  | .local _ .vmem, ⟨0, _⟩ => ⟨S128x256, .bf16⟩
  | .local _ .vmem, ⟨1, _⟩ => ⟨S8x128, .bf16⟩
  | .local _ .vmem, ⟨2, _⟩ => ⟨S8x128, .bf16⟩
  | .local _ .vmem, ⟨3, _⟩ => ⟨S8x128, .f32⟩
  | .local _ .vmem, ⟨4, _⟩ => ⟨S8x128, .f32⟩
  | .local _ .vmem, ⟨5, _⟩ => ⟨S2x256x128, .bf16⟩
  | .local _ .vmem, ⟨6, _⟩ => ⟨S2x256x128, .bf16⟩
  | .local _ .vmem, ⟨7, _⟩ => ⟨S32x256, .f32⟩
  | .local _ .vmem, ⟨8, _⟩ => ⟨S128x128, .f32⟩
  | .local _ .vmem, ⟨9, _⟩ => ⟨S128x128, .bf16⟩
  | .local _ .vmem, ⟨10, _⟩ => ⟨S8x128, .fp8e4m3⟩
  | .local _ .vmem, ⟨11, _⟩ => ⟨S8x128, .fp8e4m3⟩
  | .local _ .vmem, ⟨12, _⟩ => ⟨S6x8x1024x128, .fp8e4m3⟩
  | .local _ .vmem, ⟨13, _⟩ => ⟨S6x8x1024x128, .fp8e4m3⟩
  | .local _ .vmem, ⟨14, _⟩ => ⟨S32x4096, .f32⟩
  | .local _ .smem, ⟨0, _⟩ => ⟨S2, .i32⟩
  | .local _ .smem, ⟨1, _⟩ => ⟨S1024, .i32⟩
  | _, _ => ⟨S1x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54_0 : Ref sig .tc := ⟨.hbm, 74, rfl⟩
abbrev main_v54_1 : Ref sig .tc := ⟨.hbm, 75, rfl⟩
abbrev main_v54_2 : Ref sig .tc := ⟨.hbm, 76, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32_46 : BitVec 32 := 0#32
  let c5_i32 : BitVec 32 := 5#32
  let v124 : BitVec 32 := Scalar.addi c0_i32_46 c5_i32
  let c1_i32_47 : BitVec 32 := 1#32
  ⟨c0_i32_46, v124, c1_i32_47⟩
@[reducible] def k0_t2_loop : Scf.Loop 32 :=
  let c0_i32_62 : BitVec 32 := 0#32
  let c8_i32_63 : BitVec 32 := 8#32
  let v172 : BitVec 32 := Scalar.addi c0_i32_62 c8_i32_63
  let c1_i32_64 : BitVec 32 := 1#32
  ⟨c0_i32_62, v172, c1_i32_64⟩
def k0_off1 (k0_t1 : Fin k0_t1_loop.trips) (k0_t2 : Fin k0_t2_loop.trips) : Fin 1 → Nat :=
  let c0_i32_46 : BitVec 32 := 0#32
  let c1_i32_47 : BitVec 32 := 1#32
  let arg21 : BitVec 32 := Scf.iv c0_i32_46 c1_i32_47 k0_t1
  let c8_i32_70 : BitVec 32 := 8#32
  let v174 : BitVec 32 := Scalar.muli arg21 c8_i32_70
  let c0_i32_62 : BitVec 32 := 0#32
  let c1_i32_64 : BitVec 32 := 1#32
  let arg22 : BitVec 32 := Scf.iv c0_i32_62 c1_i32_64 k0_t2
  let v175 : BitVec 32 := Scalar.addi v174 arg22
  let v176 : Index := Scalar.indexCast v175
  ![v176.toNat]
def k0_off2 (k0_t1 : Fin k0_t1_loop.trips) : Fin 1 → Nat :=
  let c0_i32_46 : BitVec 32 := 0#32
  let c1_i32_47 : BitVec 32 := 1#32
  let arg21 : BitVec 32 := Scf.iv c0_i32_46 c1_i32_47 k0_t1
  ![arg21.toNat]
def k0_off3 (k0_t1 : Fin k0_t1_loop.trips) (k0_t2 : Fin k0_t2_loop.trips) : Fin 4 → Nat :=
  let c0_i32_46 : BitVec 32 := 0#32
  let c1_i32_47 : BitVec 32 := 1#32
  let arg21 : BitVec 32 := Scf.iv c0_i32_46 c1_i32_47 k0_t1
  let c0_i32_62 : BitVec 32 := 0#32
  let c1_i32_64 : BitVec 32 := 1#32
  let arg22 : BitVec 32 := Scf.iv c0_i32_62 c1_i32_64 k0_t2
  let c0_i32_71 : BitVec 32 := 0#32
  let c0_i32_72 : BitVec 32 := 0#32
  ![arg21.toNat, arg22.toNat, 0, 0]
def k0_off4 (v177 : BitVec 32) : Fin 3 → Nat :=
  let c0_i32_73 : BitVec 32 := 0#32
  let c0_i32_74 : BitVec 32 := 0#32
  ![v177.toNat, 0, 0]
def k0_cond1 (v1 : BitVec 32) : BitVec 1 :=
  let c1_i32_20 : BitVec 32 := 1#32
  let v44 : BitVec 1 := Scalar.cmpi .eq v1 c1_i32_20
  let v45 : BitVec 32 := Scalar.extui v44
  let c0_i32_21 : BitVec 32 := 0#32
  let v46 : BitVec 1 := Scalar.cmpi .ne v45 c0_i32_21
  v46

def k0_cond2 (v0 : BitVec 32) (k0_t1 : Fin k0_t1_loop.trips) : BitVec 1 :=
  let c0_i32_46 : BitVec 32 := 0#32
  let c1_i32_47 : BitVec 32 := 1#32
  let arg21 : BitVec 32 := Scf.iv c0_i32_46 c1_i32_47 k0_t1
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v169 : BitVec 1 := Scalar.cmpi .slt arg21 v19
  let v170 : BitVec 32 := Scalar.extui v169
  let c0_i32_61 : BitVec 32 := 0#32
  let v171 : BitVec 1 := Scalar.cmpi .ne v170 c0_i32_61
  v171

def k0_chk1 (v0 : BitVec 32) (v1 : BitVec 32) (k0_t1 : Fin k0_t1_loop.trips) (v177 : BitVec 32) : Prop :=
  (∀ (k0_h1 : k0_cond1 v1 = 1#1), ∀ (k0_h2 : k0_cond2 v0 k0_t1 = 1#1), ∀ a, (k0_off4 v177) a + S1x1024x128.size a ≤ S1024x1024x128.size a) ∧
  (∀ (k0_h1 : k0_cond1 v1 = 1#1), ∀ (k0_h2 : k0_cond2 v0 k0_t1 = 1#1), ∀ (hinb : ∀ a, (k0_off4 v177) a + S1x1024x128.size a ≤ S1024x1024x128.size a), (Rect.unit (s := S1024x1024x128) (k0_off4 v177) S1x1024x128.size hinb).WholeWords (EltTy.packing .fp8e4m3))
theorem k0_off4_inb : ∀ (v0 : BitVec 32) (v1 : BitVec 32) (k0_t1 : Fin k0_t1_loop.trips) (v177 : BitVec 32) (k0_hw1 : k0_chk1 v0 v1 k0_t1 v177), ∀ (k0_h1 : k0_cond1 v1 = 1#1), ∀ (k0_h2 : k0_cond2 v0 k0_t1 = 1#1), ∀ a, (k0_off4 v177) a + S1x1024x128.size a ≤ S1024x1024x128.size a := fun v0 v1 k0_t1 v177 k0_hw1 k0_h1 k0_h2 => k0_hw1.1 k0_h1 k0_h2
theorem k0_off4_wordsfp8e4m3 : ∀ (v0 : BitVec 32) (v1 : BitVec 32) (k0_t1 : Fin k0_t1_loop.trips) (v177 : BitVec 32) (k0_hw1 : k0_chk1 v0 v1 k0_t1 v177), ∀ (k0_h1 : k0_cond1 v1 = 1#1), ∀ (k0_h2 : k0_cond2 v0 k0_t1 = 1#1), (Rect.unit (s := S1024x1024x128) (k0_off4 v177) S1x1024x128.size (k0_off4_inb v0 v1 k0_t1 v177 k0_hw1 k0_h1 k0_h2)).WholeWords (EltTy.packing .fp8e4m3) := fun v0 v1 k0_t1 v177 k0_hw1 k0_h1 k0_h2 => k0_hw1.2 k0_h1 k0_h2 (k0_off4_inb v0 v1 k0_t1 v177 k0_hw1 k0_h1 k0_h2)

@[reducible] def k0_t3_loop : Scf.Loop 32 :=
  let c0_i32_66 : BitVec 32 := 0#32
  let c8_i32_67 : BitVec 32 := 8#32
  let v173 : BitVec 32 := Scalar.addi c0_i32_66 c8_i32_67
  let c1_i32_68 : BitVec 32 := 1#32
  ⟨c0_i32_66, v173, c1_i32_68⟩
def k0_off5 (k0_t1 : Fin k0_t1_loop.trips) (k0_t3 : Fin k0_t3_loop.trips) : Fin 1 → Nat :=
  let c0_i32_46 : BitVec 32 := 0#32
  let c1_i32_47 : BitVec 32 := 1#32
  let arg21 : BitVec 32 := Scf.iv c0_i32_46 c1_i32_47 k0_t1
  let c8_i32_70 : BitVec 32 := 8#32
  let v174 : BitVec 32 := Scalar.muli arg21 c8_i32_70
  let c0_i32_66 : BitVec 32 := 0#32
  let c1_i32_68 : BitVec 32 := 1#32
  let arg22 : BitVec 32 := Scf.iv c0_i32_66 c1_i32_68 k0_t3
  let v175 : BitVec 32 := Scalar.addi v174 arg22
  let v176 : Index := Scalar.indexCast v175
  ![v176.toNat]
def k0_off6 (k0_t1 : Fin k0_t1_loop.trips) : Fin 1 → Nat :=
  let c0_i32_46 : BitVec 32 := 0#32
  let c1_i32_47 : BitVec 32 := 1#32
  let arg21 : BitVec 32 := Scf.iv c0_i32_46 c1_i32_47 k0_t1
  ![arg21.toNat]
def k0_off7 (k0_t1 : Fin k0_t1_loop.trips) (k0_t3 : Fin k0_t3_loop.trips) : Fin 4 → Nat :=
  let c0_i32_46 : BitVec 32 := 0#32
  let c1_i32_47 : BitVec 32 := 1#32
  let arg21 : BitVec 32 := Scf.iv c0_i32_46 c1_i32_47 k0_t1
  let c0_i32_66 : BitVec 32 := 0#32
  let c1_i32_68 : BitVec 32 := 1#32
  let arg22 : BitVec 32 := Scf.iv c0_i32_66 c1_i32_68 k0_t3
  let c0_i32_71 : BitVec 32 := 0#32
  let c0_i32_72 : BitVec 32 := 0#32
  ![arg21.toNat, arg22.toNat, 0, 0]
def k0_off8 (v177 : BitVec 32) : Fin 3 → Nat :=
  let c0_i32_73 : BitVec 32 := 0#32
  let c0_i32_74 : BitVec 32 := 0#32
  ![v177.toNat, 0, 0]

def k0_chk2 (v0 : BitVec 32) (v1 : BitVec 32) (k0_t1 : Fin k0_t1_loop.trips) (v177 : BitVec 32) : Prop :=
  (∀ (k0_h1 : k0_cond1 v1 = 1#1), ∀ (k0_h2 : k0_cond2 v0 k0_t1 = 1#1), ∀ a, (k0_off8 v177) a + S1x1024x128.size a ≤ S1024x1024x128.size a) ∧
  (∀ (k0_h1 : k0_cond1 v1 = 1#1), ∀ (k0_h2 : k0_cond2 v0 k0_t1 = 1#1), ∀ (hinb : ∀ a, (k0_off8 v177) a + S1x1024x128.size a ≤ S1024x1024x128.size a), (Rect.unit (s := S1024x1024x128) (k0_off8 v177) S1x1024x128.size hinb).WholeWords (EltTy.packing .fp8e4m3))
theorem k0_off8_inb : ∀ (v0 : BitVec 32) (v1 : BitVec 32) (k0_t1 : Fin k0_t1_loop.trips) (v177 : BitVec 32) (k0_hw2 : k0_chk2 v0 v1 k0_t1 v177), ∀ (k0_h1 : k0_cond1 v1 = 1#1), ∀ (k0_h2 : k0_cond2 v0 k0_t1 = 1#1), ∀ a, (k0_off8 v177) a + S1x1024x128.size a ≤ S1024x1024x128.size a := fun v0 v1 k0_t1 v177 k0_hw2 k0_h1 k0_h2 => k0_hw2.1 k0_h1 k0_h2
theorem k0_off8_wordsfp8e4m3 : ∀ (v0 : BitVec 32) (v1 : BitVec 32) (k0_t1 : Fin k0_t1_loop.trips) (v177 : BitVec 32) (k0_hw2 : k0_chk2 v0 v1 k0_t1 v177), ∀ (k0_h1 : k0_cond1 v1 = 1#1), ∀ (k0_h2 : k0_cond2 v0 k0_t1 = 1#1), (Rect.unit (s := S1024x1024x128) (k0_off8 v177) S1x1024x128.size (k0_off8_inb v0 v1 k0_t1 v177 k0_hw2 k0_h1 k0_h2)).WholeWords (EltTy.packing .fp8e4m3) := fun v0 v1 k0_t1 v177 k0_hw2 k0_h1 k0_h2 => k0_hw2.2 k0_h1 k0_h2 (k0_off8_inb v0 v1 k0_t1 v177 k0_hw2 k0_h1 k0_h2)

@[reducible] def k0_t4_loop (v0 : BitVec 32) : Scf.Loop 32 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_54 : BitVec 32 := 1#32
  ⟨c0_i32_52, v132, c1_i32_54⟩

@[reducible] def k0_t5_loop : Scf.Loop 32 :=
  let c0_i32_96 : BitVec 32 := 0#32
  let c8_i32_97 : BitVec 32 := 8#32
  let v229 : BitVec 32 := Scalar.addi c0_i32_96 c8_i32_97
  let c1_i32_98 : BitVec 32 := 1#32
  ⟨c0_i32_96, v229, c1_i32_98⟩
def k0_off9 (v0 : BitVec 32) (k0_t4 : Fin (k0_t4_loop v0).trips) (k0_t5 : Fin k0_t5_loop.trips) : Fin 1 → Nat :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_96 : BitVec 32 := 0#32
  let c1_i32_98 : BitVec 32 := 1#32
  let arg25 : BitVec 32 := Scf.iv c0_i32_96 c1_i32_98 k0_t5
  let v232 : BitVec 32 := Scalar.addi v231 arg25
  let v233 : Index := Scalar.indexCast v232
  ![v233.toNat]
def k0_cond3 (v0 : BitVec 32) (k0_t4 : Fin (k0_t4_loop v0).trips) : BitVec 1 :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v172 : BitVec 1 := Scalar.cmpi .slt v171 v19
  let v173 : BitVec 32 := Scalar.extui v172
  let c0_i32_63 : BitVec 32 := 0#32
  let v174 : BitVec 1 := Scalar.cmpi .ne v173 c0_i32_63
  v174

def k0_off10 (v0 : BitVec 32) (k0_t4 : Fin (k0_t4_loop v0).trips) : Fin 1 → Nat :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off11 (v0 : BitVec 32) (k0_t4 : Fin (k0_t4_loop v0).trips) (k0_t5 : Fin k0_t5_loop.trips) : Fin 4 → Nat :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_96 : BitVec 32 := 0#32
  let c1_i32_98 : BitVec 32 := 1#32
  let arg25 : BitVec 32 := Scf.iv c0_i32_96 c1_i32_98 k0_t5
  let c0_i32_106 : BitVec 32 := 0#32
  let c0_i32_107 : BitVec 32 := 0#32
  ![v228.toNat, arg25.toNat, 0, 0]
def k0_off12 (v234 : BitVec 32) : Fin 3 → Nat :=
  let c0_i32_108 : BitVec 32 := 0#32
  let c0_i32_109 : BitVec 32 := 0#32
  ![v234.toNat, 0, 0]

def k0_chk4 (v0 : BitVec 32) (v1 : BitVec 32) (k0_t4 : Fin (k0_t4_loop v0).trips) (v234 : BitVec 32) : Prop :=
  (∀ (k0_h1 : k0_cond1 v1 = 1#1), ∀ (k0_h3 : k0_cond3 v0 k0_t4 = 1#1), ∀ a, (k0_off12 v234) a + S1x1024x128.size a ≤ S1024x1024x128.size a) ∧
  (∀ (k0_h1 : k0_cond1 v1 = 1#1), ∀ (k0_h3 : k0_cond3 v0 k0_t4 = 1#1), ∀ (hinb : ∀ a, (k0_off12 v234) a + S1x1024x128.size a ≤ S1024x1024x128.size a), (Rect.unit (s := S1024x1024x128) (k0_off12 v234) S1x1024x128.size hinb).WholeWords (EltTy.packing .fp8e4m3))
theorem k0_off12_inb : ∀ (v0 : BitVec 32) (v1 : BitVec 32) (k0_t4 : Fin (k0_t4_loop v0).trips) (v234 : BitVec 32) (k0_hw4 : k0_chk4 v0 v1 k0_t4 v234), ∀ (k0_h1 : k0_cond1 v1 = 1#1), ∀ (k0_h3 : k0_cond3 v0 k0_t4 = 1#1), ∀ a, (k0_off12 v234) a + S1x1024x128.size a ≤ S1024x1024x128.size a := fun v0 v1 k0_t4 v234 k0_hw4 k0_h1 k0_h3 => k0_hw4.1 k0_h1 k0_h3
theorem k0_off12_wordsfp8e4m3 : ∀ (v0 : BitVec 32) (v1 : BitVec 32) (k0_t4 : Fin (k0_t4_loop v0).trips) (v234 : BitVec 32) (k0_hw4 : k0_chk4 v0 v1 k0_t4 v234), ∀ (k0_h1 : k0_cond1 v1 = 1#1), ∀ (k0_h3 : k0_cond3 v0 k0_t4 = 1#1), (Rect.unit (s := S1024x1024x128) (k0_off12 v234) S1x1024x128.size (k0_off12_inb v0 v1 k0_t4 v234 k0_hw4 k0_h1 k0_h3)).WholeWords (EltTy.packing .fp8e4m3) := fun v0 v1 k0_t4 v234 k0_hw4 k0_h1 k0_h3 => k0_hw4.2 k0_h1 k0_h3 (k0_off12_inb v0 v1 k0_t4 v234 k0_hw4 k0_h1 k0_h3)

@[reducible] def k0_t6_loop : Scf.Loop 32 :=
  let c0_i32_101 : BitVec 32 := 0#32
  let c8_i32_102 : BitVec 32 := 8#32
  let v230 : BitVec 32 := Scalar.addi c0_i32_101 c8_i32_102
  let c1_i32_103 : BitVec 32 := 1#32
  ⟨c0_i32_101, v230, c1_i32_103⟩
def k0_off13 (v0 : BitVec 32) (k0_t4 : Fin (k0_t4_loop v0).trips) (k0_t6 : Fin k0_t6_loop.trips) : Fin 1 → Nat :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_101 : BitVec 32 := 0#32
  let c1_i32_103 : BitVec 32 := 1#32
  let arg25 : BitVec 32 := Scf.iv c0_i32_101 c1_i32_103 k0_t6
  let v232 : BitVec 32 := Scalar.addi v231 arg25
  let v233 : Index := Scalar.indexCast v232
  ![v233.toNat]
def k0_off14 (v0 : BitVec 32) (k0_t4 : Fin (k0_t4_loop v0).trips) : Fin 1 → Nat :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off15 (v0 : BitVec 32) (k0_t4 : Fin (k0_t4_loop v0).trips) (k0_t6 : Fin k0_t6_loop.trips) : Fin 4 → Nat :=
  let c0_i32_52 : BitVec 32 := 0#32
  let c1_i32_54 : BitVec 32 := 1#32
  let arg21 : BitVec 32 := Scf.iv c0_i32_52 c1_i32_54 k0_t4
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_101 : BitVec 32 := 0#32
  let c1_i32_103 : BitVec 32 := 1#32
  let arg25 : BitVec 32 := Scf.iv c0_i32_101 c1_i32_103 k0_t6
  let c0_i32_106 : BitVec 32 := 0#32
  let c0_i32_107 : BitVec 32 := 0#32
  ![v228.toNat, arg25.toNat, 0, 0]
def k0_off16 (v234 : BitVec 32) : Fin 3 → Nat :=
  let c0_i32_108 : BitVec 32 := 0#32
  let c0_i32_109 : BitVec 32 := 0#32
  ![v234.toNat, 0, 0]

def k0_chk5 (v0 : BitVec 32) (v1 : BitVec 32) (k0_t4 : Fin (k0_t4_loop v0).trips) (v234 : BitVec 32) : Prop :=
  (∀ (k0_h1 : k0_cond1 v1 = 1#1), ∀ (k0_h3 : k0_cond3 v0 k0_t4 = 1#1), ∀ a, (k0_off16 v234) a + S1x1024x128.size a ≤ S1024x1024x128.size a) ∧
  (∀ (k0_h1 : k0_cond1 v1 = 1#1), ∀ (k0_h3 : k0_cond3 v0 k0_t4 = 1#1), ∀ (hinb : ∀ a, (k0_off16 v234) a + S1x1024x128.size a ≤ S1024x1024x128.size a), (Rect.unit (s := S1024x1024x128) (k0_off16 v234) S1x1024x128.size hinb).WholeWords (EltTy.packing .fp8e4m3))
theorem k0_off16_inb : ∀ (v0 : BitVec 32) (v1 : BitVec 32) (k0_t4 : Fin (k0_t4_loop v0).trips) (v234 : BitVec 32) (k0_hw5 : k0_chk5 v0 v1 k0_t4 v234), ∀ (k0_h1 : k0_cond1 v1 = 1#1), ∀ (k0_h3 : k0_cond3 v0 k0_t4 = 1#1), ∀ a, (k0_off16 v234) a + S1x1024x128.size a ≤ S1024x1024x128.size a := fun v0 v1 k0_t4 v234 k0_hw5 k0_h1 k0_h3 => k0_hw5.1 k0_h1 k0_h3
theorem k0_off16_wordsfp8e4m3 : ∀ (v0 : BitVec 32) (v1 : BitVec 32) (k0_t4 : Fin (k0_t4_loop v0).trips) (v234 : BitVec 32) (k0_hw5 : k0_chk5 v0 v1 k0_t4 v234), ∀ (k0_h1 : k0_cond1 v1 = 1#1), ∀ (k0_h3 : k0_cond3 v0 k0_t4 = 1#1), (Rect.unit (s := S1024x1024x128) (k0_off16 v234) S1x1024x128.size (k0_off16_inb v0 v1 k0_t4 v234 k0_hw5 k0_h1 k0_h3)).WholeWords (EltTy.packing .fp8e4m3) := fun v0 v1 k0_t4 v234 k0_hw5 k0_h1 k0_h3 => k0_hw5.2 k0_h1 k0_h3 (k0_off16_inb v0 v1 k0_t4 v234 k0_hw5 k0_h1 k0_h3)

@[reducible] def k0_t7_loop : Scf.Loop 32 :=
  let c0_i32_65 : BitVec 32 := 0#32
  let c8_i32_66 : BitVec 32 := 8#32
  let v175 : BitVec 32 := Scalar.addi c0_i32_65 c8_i32_66
  let c1_i32_67 : BitVec 32 := 1#32
  ⟨c0_i32_65, v175, c1_i32_67⟩
def k0_off17 (v0 : BitVec 32) (k0_t4 : Fin (k0_t4_loop v0).trips) (k0_t7 : Fin k0_t7_loop.trips) : Fin 1 → Nat :=
  let c0_i32_52 : BitVec 32 := 0#32
  let c1_i32_54 : BitVec 32 := 1#32
  let arg21 : BitVec 32 := Scf.iv c0_i32_52 c1_i32_54 k0_t4
  let c8_i32_94 : BitVec 32 := 8#32
  let v228 : BitVec 32 := Scalar.muli arg21 c8_i32_94
  let c0_i32_65 : BitVec 32 := 0#32
  let c1_i32_67 : BitVec 32 := 1#32
  let arg25 : BitVec 32 := Scf.iv c0_i32_65 c1_i32_67 k0_t7
  let v229 : BitVec 32 := Scalar.addi v228 arg25
  let v230 : Index := Scalar.indexCast v229
  ![v230.toNat]
def k0_off18 (v0 : BitVec 32) (k0_t4 : Fin (k0_t4_loop v0).trips) : Fin 1 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  ![v169.toNat]
def k0_off19 (v0 : BitVec 32) (k0_t4 : Fin (k0_t4_loop v0).trips) (k0_t7 : Fin k0_t7_loop.trips) : Fin 4 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  let c0_i32_65 : BitVec 32 := 0#32
  let c1_i32_67 : BitVec 32 := 1#32
  let arg25 : BitVec 32 := Scf.iv c0_i32_65 c1_i32_67 k0_t7
  let c0_i32_95 : BitVec 32 := 0#32
  let c0_i32_96 : BitVec 32 := 0#32
  ![v169.toNat, arg25.toNat, 0, 0]
def k0_off20 (v231 : BitVec 32) : Fin 3 → Nat :=
  let c0_i32_97 : BitVec 32 := 0#32
  let c0_i32_98 : BitVec 32 := 0#32
  ![v231.toNat, 0, 0]

def k0_chk6 (v1 : BitVec 32) (v231 : BitVec 32) : Prop :=
  (∀ (k0_h1 : k0_cond1 v1 = 1#1), ∀ a, (k0_off20 v231) a + S1x1024x128.size a ≤ S1024x1024x128.size a) ∧
  (∀ (k0_h1 : k0_cond1 v1 = 1#1), ∀ (hinb : ∀ a, (k0_off20 v231) a + S1x1024x128.size a ≤ S1024x1024x128.size a), (Rect.unit (s := S1024x1024x128) (k0_off20 v231) S1x1024x128.size hinb).WholeWords (EltTy.packing .fp8e4m3))
theorem k0_off20_inb : ∀ (v1 : BitVec 32) (v231 : BitVec 32) (k0_hw6 : k0_chk6 v1 v231), ∀ (k0_h1 : k0_cond1 v1 = 1#1), ∀ a, (k0_off20 v231) a + S1x1024x128.size a ≤ S1024x1024x128.size a := fun v1 v231 k0_hw6 k0_h1 => k0_hw6.1 k0_h1
theorem k0_off20_wordsfp8e4m3 : ∀ (v1 : BitVec 32) (v231 : BitVec 32) (k0_hw6 : k0_chk6 v1 v231), ∀ (k0_h1 : k0_cond1 v1 = 1#1), (Rect.unit (s := S1024x1024x128) (k0_off20 v231) S1x1024x128.size (k0_off20_inb v1 v231 k0_hw6 k0_h1)).WholeWords (EltTy.packing .fp8e4m3) := fun v1 v231 k0_hw6 k0_h1 => k0_hw6.2 k0_h1 (k0_off20_inb v1 v231 k0_hw6 k0_h1)

@[reducible] def k0_t8_loop : Scf.Loop 32 :=
  let c0_i32_70 : BitVec 32 := 0#32
  let c8_i32_71 : BitVec 32 := 8#32
  let v176 : BitVec 32 := Scalar.addi c0_i32_70 c8_i32_71
  let c1_i32_72 : BitVec 32 := 1#32
  ⟨c0_i32_70, v176, c1_i32_72⟩
def k0_off21 (v0 : BitVec 32) (k0_t4 : Fin (k0_t4_loop v0).trips) (k0_t8 : Fin k0_t8_loop.trips) : Fin 1 → Nat :=
  let c0_i32_52 : BitVec 32 := 0#32
  let c1_i32_54 : BitVec 32 := 1#32
  let arg21 : BitVec 32 := Scf.iv c0_i32_52 c1_i32_54 k0_t4
  let c8_i32_94 : BitVec 32 := 8#32
  let v228 : BitVec 32 := Scalar.muli arg21 c8_i32_94
  let c0_i32_70 : BitVec 32 := 0#32
  let c1_i32_72 : BitVec 32 := 1#32
  let arg25 : BitVec 32 := Scf.iv c0_i32_70 c1_i32_72 k0_t8
  let v229 : BitVec 32 := Scalar.addi v228 arg25
  let v230 : Index := Scalar.indexCast v229
  ![v230.toNat]
def k0_off22 (v0 : BitVec 32) (k0_t4 : Fin (k0_t4_loop v0).trips) : Fin 1 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  ![v169.toNat]
def k0_off23 (v0 : BitVec 32) (k0_t4 : Fin (k0_t4_loop v0).trips) (k0_t8 : Fin k0_t8_loop.trips) : Fin 4 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  let c0_i32_70 : BitVec 32 := 0#32
  let c1_i32_72 : BitVec 32 := 1#32
  let arg25 : BitVec 32 := Scf.iv c0_i32_70 c1_i32_72 k0_t8
  let c0_i32_95 : BitVec 32 := 0#32
  let c0_i32_96 : BitVec 32 := 0#32
  ![v169.toNat, arg25.toNat, 0, 0]
def k0_off24 (v231 : BitVec 32) : Fin 3 → Nat :=
  let c0_i32_97 : BitVec 32 := 0#32
  let c0_i32_98 : BitVec 32 := 0#32
  ![v231.toNat, 0, 0]

def k0_chk7 (v1 : BitVec 32) (v231 : BitVec 32) : Prop :=
  (∀ (k0_h1 : k0_cond1 v1 = 1#1), ∀ a, (k0_off24 v231) a + S1x1024x128.size a ≤ S1024x1024x128.size a) ∧
  (∀ (k0_h1 : k0_cond1 v1 = 1#1), ∀ (hinb : ∀ a, (k0_off24 v231) a + S1x1024x128.size a ≤ S1024x1024x128.size a), (Rect.unit (s := S1024x1024x128) (k0_off24 v231) S1x1024x128.size hinb).WholeWords (EltTy.packing .fp8e4m3))
theorem k0_off24_inb : ∀ (v1 : BitVec 32) (v231 : BitVec 32) (k0_hw7 : k0_chk7 v1 v231), ∀ (k0_h1 : k0_cond1 v1 = 1#1), ∀ a, (k0_off24 v231) a + S1x1024x128.size a ≤ S1024x1024x128.size a := fun v1 v231 k0_hw7 k0_h1 => k0_hw7.1 k0_h1
theorem k0_off24_wordsfp8e4m3 : ∀ (v1 : BitVec 32) (v231 : BitVec 32) (k0_hw7 : k0_chk7 v1 v231), ∀ (k0_h1 : k0_cond1 v1 = 1#1), (Rect.unit (s := S1024x1024x128) (k0_off24 v231) S1x1024x128.size (k0_off24_inb v1 v231 k0_hw7 k0_h1)).WholeWords (EltTy.packing .fp8e4m3) := fun v1 v231 k0_hw7 k0_h1 => k0_hw7.2 k0_h1 (k0_off24_inb v1 v231 k0_hw7 k0_h1)

def k0_mult1 (v0 : BitVec 32) : BitVec 32 :=
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  v282
def k0_cond4 (v0 : BitVec 32) (k0_t4 : Fin (k0_t4_loop v0).trips) : BitVec 1 :=
  let c0_i32_52 : BitVec 32 := 0#32
  let c1_i32_54 : BitVec 32 := 1#32
  let arg21 : BitVec 32 := Scf.iv c0_i32_52 c1_i32_54 k0_t4
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c1_i32_74 : BitVec 32 := 1#32
  let v177 : BitVec 32 := Scalar.subi v19 c1_i32_74
  let v178 : BitVec 1 := Scalar.cmpi .eq arg21 v177
  let v179 : BitVec 32 := Scalar.extui v178
  let c0_i32_75 : BitVec 32 := 0#32
  let v180 : BitVec 1 := Scalar.cmpi .ne v179 c0_i32_75
  v180

def k0_off25 (v0 : BitVec 32) (k0_t4 : Fin (k0_t4_loop v0).trips) : Fin 4 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  let v284 : Index := Scalar.indexCast v169
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c0_i32_100 : BitVec 32 := 0#32
  let v239 : BitVec 1 := Scalar.cmpi .sgt v237 c0_i32_100
  let v240 : BitVec 32 := Scalar.extui v239
  let c0_i32_101 : BitVec 32 := 0#32
  let v241 : BitVec 1 := Scalar.cmpi .slt v237 c0_i32_101
  let v242 : BitVec 32 := Scalar.extui v241
  let v243 : BitVec 32 := Scalar.subi v240 v242
  let c128_i32 : BitVec 32 := 128#32
  let c0_i32_102 : BitVec 32 := 0#32
  let v244 : BitVec 1 := Scalar.cmpi .sgt c128_i32 c0_i32_102
  let v245 : BitVec 32 := Scalar.extui v244
  let c0_i32_103 : BitVec 32 := 0#32
  let v246 : BitVec 1 := Scalar.cmpi .slt c128_i32 c0_i32_103
  let v247 : BitVec 32 := Scalar.extui v246
  let v248 : BitVec 32 := Scalar.subi v245 v247
  let v249 : BitVec 1 := Scalar.cmpi .ne v243 v248
  let v250 : BitVec 32 := Scalar.remsi v237 c128_i32
  let c0_i32_104 : BitVec 32 := 0#32
  let v251 : BitVec 1 := Scalar.cmpi .ne v250 c0_i32_104
  let v252 : BitVec 1 := Scalar.andi v249 v251
  let v238 : BitVec 32 := Scalar.divsi v237 c128_i32
  let c1_i32_105 : BitVec 32 := 1#32
  let v253 : BitVec 32 := Scalar.subi v238 c1_i32_105
  let v254 : BitVec 32 := Scalar.select v252 v253 v238
  let v285 : Index := Scalar.indexCast v254
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  let v283 : BitVec 32 := v282
  let v286 : Index := Scalar.indexCast v283
  let c0_120 : Index := 0#32
  ![v284.toNat, v285.toNat, v286.toNat, 0]
def k0_mult2 (v0 : BitVec 32) : BitVec 32 :=
  let c1024_i32_135 : BitVec 32 := 1024#32
  let c0_i32_136 : BitVec 32 := 0#32
  let v334 : BitVec 1 := Scalar.cmpi .eq c1024_i32_135 c0_i32_136
  let c1_i32_137 : BitVec 32 := 1#32
  let v335 : BitVec 32 := Scalar.select v334 c1_i32_137 c1024_i32_135
  let v336 : BitVec 32 := Scalar.remsi v0 v335
  let c0_i32_139 : BitVec 32 := 0#32
  let v338 : BitVec 1 := Scalar.cmpi .slt v336 c0_i32_139
  let c0_i32_140 : BitVec 32 := 0#32
  let v339 : BitVec 1 := Scalar.cmpi .slt v335 c0_i32_140
  let v340 : BitVec 1 := Scalar.xori v338 v339
  let c0_i32_138 : BitVec 32 := 0#32
  let v337 : BitVec 1 := Scalar.cmpi .ne v336 c0_i32_138
  let v341 : BitVec 1 := Scalar.andi v340 v337
  let v342 : BitVec 32 := Scalar.addi v336 v335
  let v343 : BitVec 32 := Scalar.select v341 v342 v336
  let c128_i32_148 : BitVec 32 := 128#32
  let c0_i32_149 : BitVec 32 := 0#32
  let v361 : BitVec 1 := Scalar.cmpi .eq c128_i32_148 c0_i32_149
  let c1_i32_150 : BitVec 32 := 1#32
  let v362 : BitVec 32 := Scalar.select v361 c1_i32_150 c128_i32_148
  let v363 : BitVec 32 := Scalar.remsi v343 v362
  let c0_i32_152 : BitVec 32 := 0#32
  let v365 : BitVec 1 := Scalar.cmpi .slt v363 c0_i32_152
  let c0_i32_153 : BitVec 32 := 0#32
  let v366 : BitVec 1 := Scalar.cmpi .slt v362 c0_i32_153
  let v367 : BitVec 1 := Scalar.xori v365 v366
  let c0_i32_151 : BitVec 32 := 0#32
  let v364 : BitVec 1 := Scalar.cmpi .ne v363 c0_i32_151
  let v368 : BitVec 1 := Scalar.andi v367 v364
  let v369 : BitVec 32 := Scalar.addi v363 v362
  let v370 : BitVec 32 := Scalar.select v368 v369 v363
  let c0_i32_155 : BitVec 32 := 0#32
  let v372 : BitVec 1 := Scalar.cmpi .sgt v370 c0_i32_155
  let v373 : BitVec 32 := Scalar.extui v372
  let c0_i32_156 : BitVec 32 := 0#32
  let v374 : BitVec 1 := Scalar.cmpi .slt v370 c0_i32_156
  let v375 : BitVec 32 := Scalar.extui v374
  let v376 : BitVec 32 := Scalar.subi v373 v375
  let c4_i32_154 : BitVec 32 := 4#32
  let c0_i32_157 : BitVec 32 := 0#32
  let v377 : BitVec 1 := Scalar.cmpi .sgt c4_i32_154 c0_i32_157
  let v378 : BitVec 32 := Scalar.extui v377
  let c0_i32_158 : BitVec 32 := 0#32
  let v379 : BitVec 1 := Scalar.cmpi .slt c4_i32_154 c0_i32_158
  let v380 : BitVec 32 := Scalar.extui v379
  let v381 : BitVec 32 := Scalar.subi v378 v380
  let v382 : BitVec 1 := Scalar.cmpi .ne v376 v381
  let v383 : BitVec 32 := Scalar.remsi v370 c4_i32_154
  let c0_i32_159 : BitVec 32 := 0#32
  let v384 : BitVec 1 := Scalar.cmpi .ne v383 c0_i32_159
  let v385 : BitVec 1 := Scalar.andi v382 v384
  let v371 : BitVec 32 := Scalar.divsi v370 c4_i32_154
  let c1_i32_160 : BitVec 32 := 1#32
  let v386 : BitVec 32 := Scalar.subi v371 c1_i32_160
  let v387 : BitVec 32 := Scalar.select v385 v386 v371
  let c32_i32_161 : BitVec 32 := 32#32
  let v388 : BitVec 32 := Scalar.muli v387 c32_i32_161
  v388
@[reducible] def k0_t9_loop : Scf.Loop 32 :=
  let c0_i32_78 : BitVec 32 := 0#32
  let c16_i32_79 : BitVec 32 := 16#32
  let v184 : BitVec 32 := Scalar.addi c0_i32_78 c16_i32_79
  let c1_i32_80 : BitVec 32 := 1#32
  ⟨c0_i32_78, v184, c1_i32_80⟩
def k0_off26 (v0 : BitVec 32) (k0_t4 : Fin (k0_t4_loop v0).trips) (k0_t9 : Fin k0_t9_loop.trips) : Fin 4 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  let v233 : Index := Scalar.indexCast v169
  let c0_i32_78 : BitVec 32 := 0#32
  let c1_i32_80 : BitVec 32 := 1#32
  let arg25 : BitVec 32 := Scf.iv c0_i32_78 c1_i32_80 k0_t9
  let c128_i32 : BitVec 32 := 128#32
  let v228 : BitVec 32 := Scalar.muli arg25 c128_i32
  let c256_i32 : BitVec 32 := 256#32
  let v229 : BitVec 32 := Scalar.divsi v228 c256_i32
  let v234 : Index := Scalar.indexCast v229
  let c128_i32_94 : BitVec 32 := 128#32
  let v230 : BitVec 32 := Scalar.muli arg25 c128_i32_94
  let c256_i32_95 : BitVec 32 := 256#32
  let v231 : BitVec 32 := Scalar.remsi v230 c256_i32_95
  let c4_i32_96 : BitVec 32 := 4#32
  let v232 : BitVec 32 := Scalar.muli v231 c4_i32_96
  let v235 : Index := Scalar.indexCast v232
  let c0_97 : Index := 0#32
  ![v233.toNat, v234.toNat, v235.toNat, 0]
def k0_mult3 (k0_t9 : Fin k0_t9_loop.trips) : BitVec 32 :=
  let c0_i32_78 : BitVec 32 := 0#32
  let c1_i32_80 : BitVec 32 := 1#32
  let arg25 : BitVec 32 := Scf.iv c0_i32_78 c1_i32_80 k0_t9
  let c256_i32_107 : BitVec 32 := 256#32
  let v285 : BitVec 32 := Scalar.muli arg25 c256_i32_107
  v285
def k0_off27 (k0_t9 : Fin k0_t9_loop.trips) : Fin 2 → Nat :=
  let c0_108 : Index := 0#32
  let c0_i32_78 : BitVec 32 := 0#32
  let c1_i32_80 : BitVec 32 := 1#32
  let arg25 : BitVec 32 := Scf.iv c0_i32_78 c1_i32_80 k0_t9
  let c256_i32_107 : BitVec 32 := 256#32
  let v285 : BitVec 32 := Scalar.muli arg25 c256_i32_107
  let v286 : BitVec 32 := v285
  let v287 : Index := Scalar.indexCast v286
  ![0, v287.toNat]
@[reducible] def k0_t10_loop : Scf.Loop 32 :=
  let c0_i32_90 : BitVec 32 := 0#32
  let c16_i32_91 : BitVec 32 := 16#32
  let v203 : BitVec 32 := Scalar.addi c0_i32_90 c16_i32_91
  let c1_i32_92 : BitVec 32 := 1#32
  ⟨c0_i32_90, v203, c1_i32_92⟩
def k0_mult4 (k0_t10 : Fin k0_t10_loop.trips) : BitVec 32 :=
  let c0_i32_90 : BitVec 32 := 0#32
  let c1_i32_92 : BitVec 32 := 1#32
  let arg25 : BitVec 32 := Scf.iv c0_i32_90 c1_i32_92 k0_t10
  let c256_i32 : BitVec 32 := 256#32
  let v228 : BitVec 32 := Scalar.muli arg25 c256_i32
  v228
def k0_off28 (k0_t10 : Fin k0_t10_loop.trips) : Fin 2 → Nat :=
  let c0_94 : Index := 0#32
  let c0_i32_90 : BitVec 32 := 0#32
  let c1_i32_92 : BitVec 32 := 1#32
  let arg25 : BitVec 32 := Scf.iv c0_i32_90 c1_i32_92 k0_t10
  let c256_i32 : BitVec 32 := 256#32
  let v228 : BitVec 32 := Scalar.muli arg25 c256_i32
  let v229 : BitVec 32 := v228
  let v230 : Index := Scalar.indexCast v229
  ![0, v230.toNat]
def k0_off29 (v0 : BitVec 32) (k0_t4 : Fin (k0_t4_loop v0).trips) (k0_t10 : Fin k0_t10_loop.trips) : Fin 4 → Nat :=
  let c0_i32_52 : BitVec 32 := 0#32
  let c1_i32_54 : BitVec 32 := 1#32
  let arg21 : BitVec 32 := Scf.iv c0_i32_52 c1_i32_54 k0_t4
  let c6_i32 : BitVec 32 := 6#32
  let v169 : BitVec 32 := Scalar.remsi arg21 c6_i32
  let v250 : Index := Scalar.indexCast v169
  let c0_i32_90 : BitVec 32 := 0#32
  let c1_i32_92 : BitVec 32 := 1#32
  let arg25 : BitVec 32 := Scf.iv c0_i32_90 c1_i32_92 k0_t10
  let c128_i32 : BitVec 32 := 128#32
  let v245 : BitVec 32 := Scalar.muli arg25 c128_i32
  let c256_i32_95 : BitVec 32 := 256#32
  let v246 : BitVec 32 := Scalar.divsi v245 c256_i32_95
  let v251 : Index := Scalar.indexCast v246
  let c128_i32_96 : BitVec 32 := 128#32
  let v247 : BitVec 32 := Scalar.muli arg25 c128_i32_96
  let c256_i32_97 : BitVec 32 := 256#32
  let v248 : BitVec 32 := Scalar.remsi v247 c256_i32_97
  let c4_i32_98 : BitVec 32 := 4#32
  let v249 : BitVec 32 := Scalar.muli v248 c4_i32_98
  let v252 : Index := Scalar.indexCast v249
  let c0_99 : Index := 0#32
  ![v250.toNat, v251.toNat, v252.toNat, 0]
@[reducible] def k0_t11_loop (v0 : BitVec 32) : Scf.Loop 32 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let v129 : BitVec 32 := Scalar.addi c0_i32_52 v128
  let c1_i32_55 : BitVec 32 := 1#32
  ⟨v132, v129, c1_i32_55⟩
@[reducible] def k0_t12_loop : Scf.Loop 32 :=
  let c0_i32_96 : BitVec 32 := 0#32
  let c8_i32_97 : BitVec 32 := 8#32
  let v229 : BitVec 32 := Scalar.addi c0_i32_96 c8_i32_97
  let c1_i32_98 : BitVec 32 := 1#32
  ⟨c0_i32_96, v229, c1_i32_98⟩
def k0_off30 (v0 : BitVec 32) (k0_t11 : Fin (k0_t11_loop v0).trips) (k0_t12 : Fin k0_t12_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_96 : BitVec 32 := 0#32
  let c1_i32_98 : BitVec 32 := 1#32
  let arg25 : BitVec 32 := Scf.iv c0_i32_96 c1_i32_98 k0_t12
  let v232 : BitVec 32 := Scalar.addi v231 arg25
  let v233 : Index := Scalar.indexCast v232
  ![v233.toNat]
def k0_cond5 (v0 : BitVec 32) (k0_t11 : Fin (k0_t11_loop v0).trips) : BitVec 1 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let v172 : BitVec 1 := Scalar.cmpi .slt v171 v19
  let v173 : BitVec 32 := Scalar.extui v172
  let c0_i32_63 : BitVec 32 := 0#32
  let v174 : BitVec 1 := Scalar.cmpi .ne v173 c0_i32_63
  v174

def k0_off31 (v0 : BitVec 32) (k0_t11 : Fin (k0_t11_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off32 (v0 : BitVec 32) (k0_t11 : Fin (k0_t11_loop v0).trips) (k0_t12 : Fin k0_t12_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_96 : BitVec 32 := 0#32
  let c1_i32_98 : BitVec 32 := 1#32
  let arg25 : BitVec 32 := Scf.iv c0_i32_96 c1_i32_98 k0_t12
  let c0_i32_106 : BitVec 32 := 0#32
  let c0_i32_107 : BitVec 32 := 0#32
  ![v228.toNat, arg25.toNat, 0, 0]
def k0_off33 (v234 : BitVec 32) : Fin 3 → Nat :=
  let c0_i32_108 : BitVec 32 := 0#32
  let c0_i32_109 : BitVec 32 := 0#32
  ![v234.toNat, 0, 0]

def k0_chk8 (v0 : BitVec 32) (v1 : BitVec 32) (k0_t11 : Fin (k0_t11_loop v0).trips) (v234 : BitVec 32) : Prop :=
  (∀ (k0_h1 : k0_cond1 v1 = 1#1), ∀ (k0_h5 : k0_cond5 v0 k0_t11 = 1#1), ∀ a, (k0_off33 v234) a + S1x1024x128.size a ≤ S1024x1024x128.size a) ∧
  (∀ (k0_h1 : k0_cond1 v1 = 1#1), ∀ (k0_h5 : k0_cond5 v0 k0_t11 = 1#1), ∀ (hinb : ∀ a, (k0_off33 v234) a + S1x1024x128.size a ≤ S1024x1024x128.size a), (Rect.unit (s := S1024x1024x128) (k0_off33 v234) S1x1024x128.size hinb).WholeWords (EltTy.packing .fp8e4m3))
theorem k0_off33_inb : ∀ (v0 : BitVec 32) (v1 : BitVec 32) (k0_t11 : Fin (k0_t11_loop v0).trips) (v234 : BitVec 32) (k0_hw8 : k0_chk8 v0 v1 k0_t11 v234), ∀ (k0_h1 : k0_cond1 v1 = 1#1), ∀ (k0_h5 : k0_cond5 v0 k0_t11 = 1#1), ∀ a, (k0_off33 v234) a + S1x1024x128.size a ≤ S1024x1024x128.size a := fun v0 v1 k0_t11 v234 k0_hw8 k0_h1 k0_h5 => k0_hw8.1 k0_h1 k0_h5
theorem k0_off33_wordsfp8e4m3 : ∀ (v0 : BitVec 32) (v1 : BitVec 32) (k0_t11 : Fin (k0_t11_loop v0).trips) (v234 : BitVec 32) (k0_hw8 : k0_chk8 v0 v1 k0_t11 v234), ∀ (k0_h1 : k0_cond1 v1 = 1#1), ∀ (k0_h5 : k0_cond5 v0 k0_t11 = 1#1), (Rect.unit (s := S1024x1024x128) (k0_off33 v234) S1x1024x128.size (k0_off33_inb v0 v1 k0_t11 v234 k0_hw8 k0_h1 k0_h5)).WholeWords (EltTy.packing .fp8e4m3) := fun v0 v1 k0_t11 v234 k0_hw8 k0_h1 k0_h5 => k0_hw8.2 k0_h1 k0_h5 (k0_off33_inb v0 v1 k0_t11 v234 k0_hw8 k0_h1 k0_h5)

@[reducible] def k0_t13_loop : Scf.Loop 32 :=
  let c0_i32_101 : BitVec 32 := 0#32
  let c8_i32_102 : BitVec 32 := 8#32
  let v230 : BitVec 32 := Scalar.addi c0_i32_101 c8_i32_102
  let c1_i32_103 : BitVec 32 := 1#32
  ⟨c0_i32_101, v230, c1_i32_103⟩
def k0_off34 (v0 : BitVec 32) (k0_t11 : Fin (k0_t11_loop v0).trips) (k0_t13 : Fin k0_t13_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_101 : BitVec 32 := 0#32
  let c1_i32_103 : BitVec 32 := 1#32
  let arg25 : BitVec 32 := Scf.iv c0_i32_101 c1_i32_103 k0_t13
  let v232 : BitVec 32 := Scalar.addi v231 arg25
  let v233 : Index := Scalar.indexCast v232
  ![v233.toNat]
def k0_off35 (v0 : BitVec 32) (k0_t11 : Fin (k0_t11_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off36 (v0 : BitVec 32) (k0_t11 : Fin (k0_t11_loop v0).trips) (k0_t13 : Fin k0_t13_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_101 : BitVec 32 := 0#32
  let c1_i32_103 : BitVec 32 := 1#32
  let arg25 : BitVec 32 := Scf.iv c0_i32_101 c1_i32_103 k0_t13
  let c0_i32_106 : BitVec 32 := 0#32
  let c0_i32_107 : BitVec 32 := 0#32
  ![v228.toNat, arg25.toNat, 0, 0]
def k0_off37 (v234 : BitVec 32) : Fin 3 → Nat :=
  let c0_i32_108 : BitVec 32 := 0#32
  let c0_i32_109 : BitVec 32 := 0#32
  ![v234.toNat, 0, 0]

def k0_chk9 (v0 : BitVec 32) (v1 : BitVec 32) (k0_t11 : Fin (k0_t11_loop v0).trips) (v234 : BitVec 32) : Prop :=
  (∀ (k0_h1 : k0_cond1 v1 = 1#1), ∀ (k0_h5 : k0_cond5 v0 k0_t11 = 1#1), ∀ a, (k0_off37 v234) a + S1x1024x128.size a ≤ S1024x1024x128.size a) ∧
  (∀ (k0_h1 : k0_cond1 v1 = 1#1), ∀ (k0_h5 : k0_cond5 v0 k0_t11 = 1#1), ∀ (hinb : ∀ a, (k0_off37 v234) a + S1x1024x128.size a ≤ S1024x1024x128.size a), (Rect.unit (s := S1024x1024x128) (k0_off37 v234) S1x1024x128.size hinb).WholeWords (EltTy.packing .fp8e4m3))
theorem k0_off37_inb : ∀ (v0 : BitVec 32) (v1 : BitVec 32) (k0_t11 : Fin (k0_t11_loop v0).trips) (v234 : BitVec 32) (k0_hw9 : k0_chk9 v0 v1 k0_t11 v234), ∀ (k0_h1 : k0_cond1 v1 = 1#1), ∀ (k0_h5 : k0_cond5 v0 k0_t11 = 1#1), ∀ a, (k0_off37 v234) a + S1x1024x128.size a ≤ S1024x1024x128.size a := fun v0 v1 k0_t11 v234 k0_hw9 k0_h1 k0_h5 => k0_hw9.1 k0_h1 k0_h5
theorem k0_off37_wordsfp8e4m3 : ∀ (v0 : BitVec 32) (v1 : BitVec 32) (k0_t11 : Fin (k0_t11_loop v0).trips) (v234 : BitVec 32) (k0_hw9 : k0_chk9 v0 v1 k0_t11 v234), ∀ (k0_h1 : k0_cond1 v1 = 1#1), ∀ (k0_h5 : k0_cond5 v0 k0_t11 = 1#1), (Rect.unit (s := S1024x1024x128) (k0_off37 v234) S1x1024x128.size (k0_off37_inb v0 v1 k0_t11 v234 k0_hw9 k0_h1 k0_h5)).WholeWords (EltTy.packing .fp8e4m3) := fun v0 v1 k0_t11 v234 k0_hw9 k0_h1 k0_h5 => k0_hw9.2 k0_h1 k0_h5 (k0_off37_inb v0 v1 k0_t11 v234 k0_hw9 k0_h1 k0_h5)

@[reducible] def k0_t14_loop : Scf.Loop 32 :=
  let c0_i32_65 : BitVec 32 := 0#32
  let c8_i32_66 : BitVec 32 := 8#32
  let v175 : BitVec 32 := Scalar.addi c0_i32_65 c8_i32_66
  let c1_i32_67 : BitVec 32 := 1#32
  ⟨c0_i32_65, v175, c1_i32_67⟩
def k0_off38 (v0 : BitVec 32) (k0_t11 : Fin (k0_t11_loop v0).trips) (k0_t14 : Fin k0_t14_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c8_i32_94 : BitVec 32 := 8#32
  let v228 : BitVec 32 := Scalar.muli arg21 c8_i32_94
  let c0_i32_65 : BitVec 32 := 0#32
  let c1_i32_67 : BitVec 32 := 1#32
  let arg25 : BitVec 32 := Scf.iv c0_i32_65 c1_i32_67 k0_t14
  let v229 : BitVec 32 := Scalar.addi v228 arg25
  let v230 : Index := Scalar.indexCast v229
  ![v230.toNat]
def k0_off39 (v0 : BitVec 32) (k0_t11 : Fin (k0_t11_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  ![v169.toNat]
def k0_off40 (v0 : BitVec 32) (k0_t11 : Fin (k0_t11_loop v0).trips) (k0_t14 : Fin k0_t14_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  let c0_i32_65 : BitVec 32 := 0#32
  let c1_i32_67 : BitVec 32 := 1#32
  let arg25 : BitVec 32 := Scf.iv c0_i32_65 c1_i32_67 k0_t14
  let c0_i32_95 : BitVec 32 := 0#32
  let c0_i32_96 : BitVec 32 := 0#32
  ![v169.toNat, arg25.toNat, 0, 0]
def k0_off41 (v231 : BitVec 32) : Fin 3 → Nat :=
  let c0_i32_97 : BitVec 32 := 0#32
  let c0_i32_98 : BitVec 32 := 0#32
  ![v231.toNat, 0, 0]

def k0_chk10 (v1 : BitVec 32) (v231 : BitVec 32) : Prop :=
  (∀ (k0_h1 : k0_cond1 v1 = 1#1), ∀ a, (k0_off41 v231) a + S1x1024x128.size a ≤ S1024x1024x128.size a) ∧
  (∀ (k0_h1 : k0_cond1 v1 = 1#1), ∀ (hinb : ∀ a, (k0_off41 v231) a + S1x1024x128.size a ≤ S1024x1024x128.size a), (Rect.unit (s := S1024x1024x128) (k0_off41 v231) S1x1024x128.size hinb).WholeWords (EltTy.packing .fp8e4m3))
theorem k0_off41_inb : ∀ (v1 : BitVec 32) (v231 : BitVec 32) (k0_hw10 : k0_chk10 v1 v231), ∀ (k0_h1 : k0_cond1 v1 = 1#1), ∀ a, (k0_off41 v231) a + S1x1024x128.size a ≤ S1024x1024x128.size a := fun v1 v231 k0_hw10 k0_h1 => k0_hw10.1 k0_h1
theorem k0_off41_wordsfp8e4m3 : ∀ (v1 : BitVec 32) (v231 : BitVec 32) (k0_hw10 : k0_chk10 v1 v231), ∀ (k0_h1 : k0_cond1 v1 = 1#1), (Rect.unit (s := S1024x1024x128) (k0_off41 v231) S1x1024x128.size (k0_off41_inb v1 v231 k0_hw10 k0_h1)).WholeWords (EltTy.packing .fp8e4m3) := fun v1 v231 k0_hw10 k0_h1 => k0_hw10.2 k0_h1 (k0_off41_inb v1 v231 k0_hw10 k0_h1)

@[reducible] def k0_t15_loop : Scf.Loop 32 :=
  let c0_i32_70 : BitVec 32 := 0#32
  let c8_i32_71 : BitVec 32 := 8#32
  let v176 : BitVec 32 := Scalar.addi c0_i32_70 c8_i32_71
  let c1_i32_72 : BitVec 32 := 1#32
  ⟨c0_i32_70, v176, c1_i32_72⟩
def k0_off42 (v0 : BitVec 32) (k0_t11 : Fin (k0_t11_loop v0).trips) (k0_t15 : Fin k0_t15_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c8_i32_94 : BitVec 32 := 8#32
  let v228 : BitVec 32 := Scalar.muli arg21 c8_i32_94
  let c0_i32_70 : BitVec 32 := 0#32
  let c1_i32_72 : BitVec 32 := 1#32
  let arg25 : BitVec 32 := Scf.iv c0_i32_70 c1_i32_72 k0_t15
  let v229 : BitVec 32 := Scalar.addi v228 arg25
  let v230 : Index := Scalar.indexCast v229
  ![v230.toNat]
def k0_off43 (v0 : BitVec 32) (k0_t11 : Fin (k0_t11_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  ![v169.toNat]
def k0_off44 (v0 : BitVec 32) (k0_t11 : Fin (k0_t11_loop v0).trips) (k0_t15 : Fin k0_t15_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  let c0_i32_70 : BitVec 32 := 0#32
  let c1_i32_72 : BitVec 32 := 1#32
  let arg25 : BitVec 32 := Scf.iv c0_i32_70 c1_i32_72 k0_t15
  let c0_i32_95 : BitVec 32 := 0#32
  let c0_i32_96 : BitVec 32 := 0#32
  ![v169.toNat, arg25.toNat, 0, 0]
def k0_off45 (v231 : BitVec 32) : Fin 3 → Nat :=
  let c0_i32_97 : BitVec 32 := 0#32
  let c0_i32_98 : BitVec 32 := 0#32
  ![v231.toNat, 0, 0]

def k0_chk11 (v1 : BitVec 32) (v231 : BitVec 32) : Prop :=
  (∀ (k0_h1 : k0_cond1 v1 = 1#1), ∀ a, (k0_off45 v231) a + S1x1024x128.size a ≤ S1024x1024x128.size a) ∧
  (∀ (k0_h1 : k0_cond1 v1 = 1#1), ∀ (hinb : ∀ a, (k0_off45 v231) a + S1x1024x128.size a ≤ S1024x1024x128.size a), (Rect.unit (s := S1024x1024x128) (k0_off45 v231) S1x1024x128.size hinb).WholeWords (EltTy.packing .fp8e4m3))
theorem k0_off45_inb : ∀ (v1 : BitVec 32) (v231 : BitVec 32) (k0_hw11 : k0_chk11 v1 v231), ∀ (k0_h1 : k0_cond1 v1 = 1#1), ∀ a, (k0_off45 v231) a + S1x1024x128.size a ≤ S1024x1024x128.size a := fun v1 v231 k0_hw11 k0_h1 => k0_hw11.1 k0_h1
theorem k0_off45_wordsfp8e4m3 : ∀ (v1 : BitVec 32) (v231 : BitVec 32) (k0_hw11 : k0_chk11 v1 v231), ∀ (k0_h1 : k0_cond1 v1 = 1#1), (Rect.unit (s := S1024x1024x128) (k0_off45 v231) S1x1024x128.size (k0_off45_inb v1 v231 k0_hw11 k0_h1)).WholeWords (EltTy.packing .fp8e4m3) := fun v1 v231 k0_hw11 k0_h1 => k0_hw11.2 k0_h1 (k0_off45_inb v1 v231 k0_hw11 k0_h1)

def k0_mult5 (v0 : BitVec 32) : BitVec 32 :=
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  v282
def k0_cond6 (v0 : BitVec 32) (k0_t11 : Fin (k0_t11_loop v0).trips) : BitVec 1 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c1_i32_74 : BitVec 32 := 1#32
  let v177 : BitVec 32 := Scalar.subi v19 c1_i32_74
  let v178 : BitVec 1 := Scalar.cmpi .eq arg21 v177
  let v179 : BitVec 32 := Scalar.extui v178
  let c0_i32_75 : BitVec 32 := 0#32
  let v180 : BitVec 1 := Scalar.cmpi .ne v179 c0_i32_75
  v180

def k0_off46 (v0 : BitVec 32) (k0_t11 : Fin (k0_t11_loop v0).trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  let v284 : Index := Scalar.indexCast v169
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c0_i32_100 : BitVec 32 := 0#32
  let v239 : BitVec 1 := Scalar.cmpi .sgt v237 c0_i32_100
  let v240 : BitVec 32 := Scalar.extui v239
  let c0_i32_101 : BitVec 32 := 0#32
  let v241 : BitVec 1 := Scalar.cmpi .slt v237 c0_i32_101
  let v242 : BitVec 32 := Scalar.extui v241
  let v243 : BitVec 32 := Scalar.subi v240 v242
  let c128_i32 : BitVec 32 := 128#32
  let c0_i32_102 : BitVec 32 := 0#32
  let v244 : BitVec 1 := Scalar.cmpi .sgt c128_i32 c0_i32_102
  let v245 : BitVec 32 := Scalar.extui v244
  let c0_i32_103 : BitVec 32 := 0#32
  let v246 : BitVec 1 := Scalar.cmpi .slt c128_i32 c0_i32_103
  let v247 : BitVec 32 := Scalar.extui v246
  let v248 : BitVec 32 := Scalar.subi v245 v247
  let v249 : BitVec 1 := Scalar.cmpi .ne v243 v248
  let v250 : BitVec 32 := Scalar.remsi v237 c128_i32
  let c0_i32_104 : BitVec 32 := 0#32
  let v251 : BitVec 1 := Scalar.cmpi .ne v250 c0_i32_104
  let v252 : BitVec 1 := Scalar.andi v249 v251
  let v238 : BitVec 32 := Scalar.divsi v237 c128_i32
  let c1_i32_105 : BitVec 32 := 1#32
  let v253 : BitVec 32 := Scalar.subi v238 c1_i32_105
  let v254 : BitVec 32 := Scalar.select v252 v253 v238
  let v285 : Index := Scalar.indexCast v254
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  let v283 : BitVec 32 := v282
  let v286 : Index := Scalar.indexCast v283
  let c0_120 : Index := 0#32
  ![v284.toNat, v285.toNat, v286.toNat, 0]
def k0_mult6 (v0 : BitVec 32) : BitVec 32 :=
  let c1024_i32_135 : BitVec 32 := 1024#32
  let c0_i32_136 : BitVec 32 := 0#32
  let v334 : BitVec 1 := Scalar.cmpi .eq c1024_i32_135 c0_i32_136
  let c1_i32_137 : BitVec 32 := 1#32
  let v335 : BitVec 32 := Scalar.select v334 c1_i32_137 c1024_i32_135
  let v336 : BitVec 32 := Scalar.remsi v0 v335
  let c0_i32_139 : BitVec 32 := 0#32
  let v338 : BitVec 1 := Scalar.cmpi .slt v336 c0_i32_139
  let c0_i32_140 : BitVec 32 := 0#32
  let v339 : BitVec 1 := Scalar.cmpi .slt v335 c0_i32_140
  let v340 : BitVec 1 := Scalar.xori v338 v339
  let c0_i32_138 : BitVec 32 := 0#32
  let v337 : BitVec 1 := Scalar.cmpi .ne v336 c0_i32_138
  let v341 : BitVec 1 := Scalar.andi v340 v337
  let v342 : BitVec 32 := Scalar.addi v336 v335
  let v343 : BitVec 32 := Scalar.select v341 v342 v336
  let c128_i32_148 : BitVec 32 := 128#32
  let c0_i32_149 : BitVec 32 := 0#32
  let v361 : BitVec 1 := Scalar.cmpi .eq c128_i32_148 c0_i32_149
  let c1_i32_150 : BitVec 32 := 1#32
  let v362 : BitVec 32 := Scalar.select v361 c1_i32_150 c128_i32_148
  let v363 : BitVec 32 := Scalar.remsi v343 v362
  let c0_i32_152 : BitVec 32 := 0#32
  let v365 : BitVec 1 := Scalar.cmpi .slt v363 c0_i32_152
  let c0_i32_153 : BitVec 32 := 0#32
  let v366 : BitVec 1 := Scalar.cmpi .slt v362 c0_i32_153
  let v367 : BitVec 1 := Scalar.xori v365 v366
  let c0_i32_151 : BitVec 32 := 0#32
  let v364 : BitVec 1 := Scalar.cmpi .ne v363 c0_i32_151
  let v368 : BitVec 1 := Scalar.andi v367 v364
  let v369 : BitVec 32 := Scalar.addi v363 v362
  let v370 : BitVec 32 := Scalar.select v368 v369 v363
  let c0_i32_155 : BitVec 32 := 0#32
  let v372 : BitVec 1 := Scalar.cmpi .sgt v370 c0_i32_155
  let v373 : BitVec 32 := Scalar.extui v372
  let c0_i32_156 : BitVec 32 := 0#32
  let v374 : BitVec 1 := Scalar.cmpi .slt v370 c0_i32_156
  let v375 : BitVec 32 := Scalar.extui v374
  let v376 : BitVec 32 := Scalar.subi v373 v375
  let c4_i32_154 : BitVec 32 := 4#32
  let c0_i32_157 : BitVec 32 := 0#32
  let v377 : BitVec 1 := Scalar.cmpi .sgt c4_i32_154 c0_i32_157
  let v378 : BitVec 32 := Scalar.extui v377
  let c0_i32_158 : BitVec 32 := 0#32
  let v379 : BitVec 1 := Scalar.cmpi .slt c4_i32_154 c0_i32_158
  let v380 : BitVec 32 := Scalar.extui v379
  let v381 : BitVec 32 := Scalar.subi v378 v380
  let v382 : BitVec 1 := Scalar.cmpi .ne v376 v381
  let v383 : BitVec 32 := Scalar.remsi v370 c4_i32_154
  let c0_i32_159 : BitVec 32 := 0#32
  let v384 : BitVec 1 := Scalar.cmpi .ne v383 c0_i32_159
  let v385 : BitVec 1 := Scalar.andi v382 v384
  let v371 : BitVec 32 := Scalar.divsi v370 c4_i32_154
  let c1_i32_160 : BitVec 32 := 1#32
  let v386 : BitVec 32 := Scalar.subi v371 c1_i32_160
  let v387 : BitVec 32 := Scalar.select v385 v386 v371
  let c32_i32_161 : BitVec 32 := 32#32
  let v388 : BitVec 32 := Scalar.muli v387 c32_i32_161
  v388
@[reducible] def k0_t16_loop : Scf.Loop 32 :=
  let c0_i32_78 : BitVec 32 := 0#32
  let c16_i32_79 : BitVec 32 := 16#32
  let v184 : BitVec 32 := Scalar.addi c0_i32_78 c16_i32_79
  let c1_i32_80 : BitVec 32 := 1#32
  ⟨c0_i32_78, v184, c1_i32_80⟩
def k0_off47 (v0 : BitVec 32) (k0_t11 : Fin (k0_t11_loop v0).trips) (k0_t16 : Fin k0_t16_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  let v233 : Index := Scalar.indexCast v169
  let c0_i32_78 : BitVec 32 := 0#32
  let c1_i32_80 : BitVec 32 := 1#32
  let arg25 : BitVec 32 := Scf.iv c0_i32_78 c1_i32_80 k0_t16
  let c128_i32 : BitVec 32 := 128#32
  let v228 : BitVec 32 := Scalar.muli arg25 c128_i32
  let c256_i32 : BitVec 32 := 256#32
  let v229 : BitVec 32 := Scalar.divsi v228 c256_i32
  let v234 : Index := Scalar.indexCast v229
  let c128_i32_94 : BitVec 32 := 128#32
  let v230 : BitVec 32 := Scalar.muli arg25 c128_i32_94
  let c256_i32_95 : BitVec 32 := 256#32
  let v231 : BitVec 32 := Scalar.remsi v230 c256_i32_95
  let c4_i32_96 : BitVec 32 := 4#32
  let v232 : BitVec 32 := Scalar.muli v231 c4_i32_96
  let v235 : Index := Scalar.indexCast v232
  let c0_97 : Index := 0#32
  ![v233.toNat, v234.toNat, v235.toNat, 0]
def k0_mult7 (k0_t16 : Fin k0_t16_loop.trips) : BitVec 32 :=
  let c0_i32_78 : BitVec 32 := 0#32
  let c1_i32_80 : BitVec 32 := 1#32
  let arg25 : BitVec 32 := Scf.iv c0_i32_78 c1_i32_80 k0_t16
  let c256_i32_107 : BitVec 32 := 256#32
  let v285 : BitVec 32 := Scalar.muli arg25 c256_i32_107
  v285
def k0_off48 (k0_t16 : Fin k0_t16_loop.trips) : Fin 2 → Nat :=
  let c0_108 : Index := 0#32
  let c0_i32_78 : BitVec 32 := 0#32
  let c1_i32_80 : BitVec 32 := 1#32
  let arg25 : BitVec 32 := Scf.iv c0_i32_78 c1_i32_80 k0_t16
  let c256_i32_107 : BitVec 32 := 256#32
  let v285 : BitVec 32 := Scalar.muli arg25 c256_i32_107
  let v286 : BitVec 32 := v285
  let v287 : Index := Scalar.indexCast v286
  ![0, v287.toNat]
@[reducible] def k0_t17_loop : Scf.Loop 32 :=
  let c0_i32_90 : BitVec 32 := 0#32
  let c16_i32_91 : BitVec 32 := 16#32
  let v203 : BitVec 32 := Scalar.addi c0_i32_90 c16_i32_91
  let c1_i32_92 : BitVec 32 := 1#32
  ⟨c0_i32_90, v203, c1_i32_92⟩
def k0_mult8 (k0_t17 : Fin k0_t17_loop.trips) : BitVec 32 :=
  let c0_i32_90 : BitVec 32 := 0#32
  let c1_i32_92 : BitVec 32 := 1#32
  let arg25 : BitVec 32 := Scf.iv c0_i32_90 c1_i32_92 k0_t17
  let c256_i32 : BitVec 32 := 256#32
  let v228 : BitVec 32 := Scalar.muli arg25 c256_i32
  v228
def k0_off49 (k0_t17 : Fin k0_t17_loop.trips) : Fin 2 → Nat :=
  let c0_94 : Index := 0#32
  let c0_i32_90 : BitVec 32 := 0#32
  let c1_i32_92 : BitVec 32 := 1#32
  let arg25 : BitVec 32 := Scf.iv c0_i32_90 c1_i32_92 k0_t17
  let c256_i32 : BitVec 32 := 256#32
  let v228 : BitVec 32 := Scalar.muli arg25 c256_i32
  let v229 : BitVec 32 := v228
  let v230 : Index := Scalar.indexCast v229
  ![0, v230.toNat]
def k0_off50 (v0 : BitVec 32) (k0_t11 : Fin (k0_t11_loop v0).trips) (k0_t17 : Fin k0_t17_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t11
  let c6_i32 : BitVec 32 := 6#32
  let v169 : BitVec 32 := Scalar.remsi arg21 c6_i32
  let v250 : Index := Scalar.indexCast v169
  let c0_i32_90 : BitVec 32 := 0#32
  let c1_i32_92 : BitVec 32 := 1#32
  let arg25 : BitVec 32 := Scf.iv c0_i32_90 c1_i32_92 k0_t17
  let c128_i32 : BitVec 32 := 128#32
  let v245 : BitVec 32 := Scalar.muli arg25 c128_i32
  let c256_i32_95 : BitVec 32 := 256#32
  let v246 : BitVec 32 := Scalar.divsi v245 c256_i32_95
  let v251 : Index := Scalar.indexCast v246
  let c128_i32_96 : BitVec 32 := 128#32
  let v247 : BitVec 32 := Scalar.muli arg25 c128_i32_96
  let c256_i32_97 : BitVec 32 := 256#32
  let v248 : BitVec 32 := Scalar.remsi v247 c256_i32_97
  let c4_i32_98 : BitVec 32 := 4#32
  let v249 : BitVec 32 := Scalar.muli v248 c4_i32_98
  let v252 : Index := Scalar.indexCast v249
  let c0_99 : Index := 0#32
  ![v250.toNat, v251.toNat, v252.toNat, 0]
@[reducible] def k0_t18_loop : Scf.Loop 32 :=
  let c0_i32_46 : BitVec 32 := 0#32
  let c5_i32 : BitVec 32 := 5#32
  let v124 : BitVec 32 := Scalar.addi c0_i32_46 c5_i32
  let c1_i32_47 : BitVec 32 := 1#32
  ⟨c0_i32_46, v124, c1_i32_47⟩
@[reducible] def k0_t19_loop : Scf.Loop 32 :=
  let c0_i32_62 : BitVec 32 := 0#32
  let c8_i32_63 : BitVec 32 := 8#32
  let v172 : BitVec 32 := Scalar.addi c0_i32_62 c8_i32_63
  let c1_i32_64 : BitVec 32 := 1#32
  ⟨c0_i32_62, v172, c1_i32_64⟩
def k0_off51 (k0_t18 : Fin k0_t18_loop.trips) (k0_t19 : Fin k0_t19_loop.trips) : Fin 1 → Nat :=
  let c0_i32_46 : BitVec 32 := 0#32
  let c1_i32_47 : BitVec 32 := 1#32
  let arg21 : BitVec 32 := Scf.iv c0_i32_46 c1_i32_47 k0_t18
  let c8_i32_70 : BitVec 32 := 8#32
  let v174 : BitVec 32 := Scalar.muli arg21 c8_i32_70
  let c0_i32_62 : BitVec 32 := 0#32
  let c1_i32_64 : BitVec 32 := 1#32
  let arg22 : BitVec 32 := Scf.iv c0_i32_62 c1_i32_64 k0_t19
  let v175 : BitVec 32 := Scalar.addi v174 arg22
  let v176 : Index := Scalar.indexCast v175
  ![v176.toNat]
def k0_off52 (k0_t18 : Fin k0_t18_loop.trips) : Fin 1 → Nat :=
  let c0_i32_46 : BitVec 32 := 0#32
  let c1_i32_47 : BitVec 32 := 1#32
  let arg21 : BitVec 32 := Scf.iv c0_i32_46 c1_i32_47 k0_t18
  ![arg21.toNat]
def k0_off53 (k0_t18 : Fin k0_t18_loop.trips) (k0_t19 : Fin k0_t19_loop.trips) : Fin 4 → Nat :=
  let c0_i32_46 : BitVec 32 := 0#32
  let c1_i32_47 : BitVec 32 := 1#32
  let arg21 : BitVec 32 := Scf.iv c0_i32_46 c1_i32_47 k0_t18
  let c0_i32_62 : BitVec 32 := 0#32
  let c1_i32_64 : BitVec 32 := 1#32
  let arg22 : BitVec 32 := Scf.iv c0_i32_62 c1_i32_64 k0_t19
  let c0_i32_71 : BitVec 32 := 0#32
  let c0_i32_72 : BitVec 32 := 0#32
  ![arg21.toNat, arg22.toNat, 0, 0]
def k0_off54 (v177 : BitVec 32) : Fin 3 → Nat :=
  let c0_i32_73 : BitVec 32 := 0#32
  let c0_i32_74 : BitVec 32 := 0#32
  ![v177.toNat, 0, 0]
def k0_cond7 (v1 : BitVec 32) : BitVec 1 :=
  let c0_i32_22 : BitVec 32 := 0#32
  let v47 : BitVec 1 := Scalar.cmpi .eq v1 c0_i32_22
  let v48 : BitVec 32 := Scalar.extui v47
  let c0_i32_23 : BitVec 32 := 0#32
  let v49 : BitVec 1 := Scalar.cmpi .ne v48 c0_i32_23
  v49

def k0_cond8 (v0 : BitVec 32) (k0_t18 : Fin k0_t18_loop.trips) : BitVec 1 :=
  let c0_i32_46 : BitVec 32 := 0#32
  let c1_i32_47 : BitVec 32 := 1#32
  let arg21 : BitVec 32 := Scf.iv c0_i32_46 c1_i32_47 k0_t18
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v169 : BitVec 1 := Scalar.cmpi .slt arg21 v19
  let v170 : BitVec 32 := Scalar.extui v169
  let c0_i32_61 : BitVec 32 := 0#32
  let v171 : BitVec 1 := Scalar.cmpi .ne v170 c0_i32_61
  v171

def k0_chk12 (v0 : BitVec 32) (v1 : BitVec 32) (k0_t18 : Fin k0_t18_loop.trips) (v177 : BitVec 32) : Prop :=
  (∀ (k0_h7 : k0_cond7 v1 = 1#1), ∀ (k0_h8 : k0_cond8 v0 k0_t18 = 1#1), ∀ a, (k0_off54 v177) a + S1x1024x128.size a ≤ S1024x1024x128.size a) ∧
  (∀ (k0_h7 : k0_cond7 v1 = 1#1), ∀ (k0_h8 : k0_cond8 v0 k0_t18 = 1#1), ∀ (hinb : ∀ a, (k0_off54 v177) a + S1x1024x128.size a ≤ S1024x1024x128.size a), (Rect.unit (s := S1024x1024x128) (k0_off54 v177) S1x1024x128.size hinb).WholeWords (EltTy.packing .fp8e4m3))
theorem k0_off54_inb : ∀ (v0 : BitVec 32) (v1 : BitVec 32) (k0_t18 : Fin k0_t18_loop.trips) (v177 : BitVec 32) (k0_hw12 : k0_chk12 v0 v1 k0_t18 v177), ∀ (k0_h7 : k0_cond7 v1 = 1#1), ∀ (k0_h8 : k0_cond8 v0 k0_t18 = 1#1), ∀ a, (k0_off54 v177) a + S1x1024x128.size a ≤ S1024x1024x128.size a := fun v0 v1 k0_t18 v177 k0_hw12 k0_h7 k0_h8 => k0_hw12.1 k0_h7 k0_h8
theorem k0_off54_wordsfp8e4m3 : ∀ (v0 : BitVec 32) (v1 : BitVec 32) (k0_t18 : Fin k0_t18_loop.trips) (v177 : BitVec 32) (k0_hw12 : k0_chk12 v0 v1 k0_t18 v177), ∀ (k0_h7 : k0_cond7 v1 = 1#1), ∀ (k0_h8 : k0_cond8 v0 k0_t18 = 1#1), (Rect.unit (s := S1024x1024x128) (k0_off54 v177) S1x1024x128.size (k0_off54_inb v0 v1 k0_t18 v177 k0_hw12 k0_h7 k0_h8)).WholeWords (EltTy.packing .fp8e4m3) := fun v0 v1 k0_t18 v177 k0_hw12 k0_h7 k0_h8 => k0_hw12.2 k0_h7 k0_h8 (k0_off54_inb v0 v1 k0_t18 v177 k0_hw12 k0_h7 k0_h8)

@[reducible] def k0_t20_loop : Scf.Loop 32 :=
  let c0_i32_66 : BitVec 32 := 0#32
  let c8_i32_67 : BitVec 32 := 8#32
  let v173 : BitVec 32 := Scalar.addi c0_i32_66 c8_i32_67
  let c1_i32_68 : BitVec 32 := 1#32
  ⟨c0_i32_66, v173, c1_i32_68⟩
def k0_off55 (k0_t18 : Fin k0_t18_loop.trips) (k0_t20 : Fin k0_t20_loop.trips) : Fin 1 → Nat :=
  let c0_i32_46 : BitVec 32 := 0#32
  let c1_i32_47 : BitVec 32 := 1#32
  let arg21 : BitVec 32 := Scf.iv c0_i32_46 c1_i32_47 k0_t18
  let c8_i32_70 : BitVec 32 := 8#32
  let v174 : BitVec 32 := Scalar.muli arg21 c8_i32_70
  let c0_i32_66 : BitVec 32 := 0#32
  let c1_i32_68 : BitVec 32 := 1#32
  let arg22 : BitVec 32 := Scf.iv c0_i32_66 c1_i32_68 k0_t20
  let v175 : BitVec 32 := Scalar.addi v174 arg22
  let v176 : Index := Scalar.indexCast v175
  ![v176.toNat]
def k0_off56 (k0_t18 : Fin k0_t18_loop.trips) : Fin 1 → Nat :=
  let c0_i32_46 : BitVec 32 := 0#32
  let c1_i32_47 : BitVec 32 := 1#32
  let arg21 : BitVec 32 := Scf.iv c0_i32_46 c1_i32_47 k0_t18
  ![arg21.toNat]
def k0_off57 (k0_t18 : Fin k0_t18_loop.trips) (k0_t20 : Fin k0_t20_loop.trips) : Fin 4 → Nat :=
  let c0_i32_46 : BitVec 32 := 0#32
  let c1_i32_47 : BitVec 32 := 1#32
  let arg21 : BitVec 32 := Scf.iv c0_i32_46 c1_i32_47 k0_t18
  let c0_i32_66 : BitVec 32 := 0#32
  let c1_i32_68 : BitVec 32 := 1#32
  let arg22 : BitVec 32 := Scf.iv c0_i32_66 c1_i32_68 k0_t20
  let c0_i32_71 : BitVec 32 := 0#32
  let c0_i32_72 : BitVec 32 := 0#32
  ![arg21.toNat, arg22.toNat, 0, 0]
def k0_off58 (v177 : BitVec 32) : Fin 3 → Nat :=
  let c0_i32_73 : BitVec 32 := 0#32
  let c0_i32_74 : BitVec 32 := 0#32
  ![v177.toNat, 0, 0]

def k0_chk13 (v0 : BitVec 32) (v1 : BitVec 32) (k0_t18 : Fin k0_t18_loop.trips) (v177 : BitVec 32) : Prop :=
  (∀ (k0_h7 : k0_cond7 v1 = 1#1), ∀ (k0_h8 : k0_cond8 v0 k0_t18 = 1#1), ∀ a, (k0_off58 v177) a + S1x1024x128.size a ≤ S1024x1024x128.size a) ∧
  (∀ (k0_h7 : k0_cond7 v1 = 1#1), ∀ (k0_h8 : k0_cond8 v0 k0_t18 = 1#1), ∀ (hinb : ∀ a, (k0_off58 v177) a + S1x1024x128.size a ≤ S1024x1024x128.size a), (Rect.unit (s := S1024x1024x128) (k0_off58 v177) S1x1024x128.size hinb).WholeWords (EltTy.packing .fp8e4m3))
theorem k0_off58_inb : ∀ (v0 : BitVec 32) (v1 : BitVec 32) (k0_t18 : Fin k0_t18_loop.trips) (v177 : BitVec 32) (k0_hw13 : k0_chk13 v0 v1 k0_t18 v177), ∀ (k0_h7 : k0_cond7 v1 = 1#1), ∀ (k0_h8 : k0_cond8 v0 k0_t18 = 1#1), ∀ a, (k0_off58 v177) a + S1x1024x128.size a ≤ S1024x1024x128.size a := fun v0 v1 k0_t18 v177 k0_hw13 k0_h7 k0_h8 => k0_hw13.1 k0_h7 k0_h8
theorem k0_off58_wordsfp8e4m3 : ∀ (v0 : BitVec 32) (v1 : BitVec 32) (k0_t18 : Fin k0_t18_loop.trips) (v177 : BitVec 32) (k0_hw13 : k0_chk13 v0 v1 k0_t18 v177), ∀ (k0_h7 : k0_cond7 v1 = 1#1), ∀ (k0_h8 : k0_cond8 v0 k0_t18 = 1#1), (Rect.unit (s := S1024x1024x128) (k0_off58 v177) S1x1024x128.size (k0_off58_inb v0 v1 k0_t18 v177 k0_hw13 k0_h7 k0_h8)).WholeWords (EltTy.packing .fp8e4m3) := fun v0 v1 k0_t18 v177 k0_hw13 k0_h7 k0_h8 => k0_hw13.2 k0_h7 k0_h8 (k0_off58_inb v0 v1 k0_t18 v177 k0_hw13 k0_h7 k0_h8)

@[reducible] def k0_t21_loop (v0 : BitVec 32) : Scf.Loop 32 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_54 : BitVec 32 := 1#32
  ⟨c0_i32_52, v132, c1_i32_54⟩
@[reducible] def k0_t22_loop : Scf.Loop 32 :=
  let c0_i32_96 : BitVec 32 := 0#32
  let c8_i32_97 : BitVec 32 := 8#32
  let v229 : BitVec 32 := Scalar.addi c0_i32_96 c8_i32_97
  let c1_i32_98 : BitVec 32 := 1#32
  ⟨c0_i32_96, v229, c1_i32_98⟩
def k0_off59 (v0 : BitVec 32) (k0_t21 : Fin (k0_t21_loop v0).trips) (k0_t22 : Fin k0_t22_loop.trips) : Fin 1 → Nat :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_96 : BitVec 32 := 0#32
  let c1_i32_98 : BitVec 32 := 1#32
  let arg25 : BitVec 32 := Scf.iv c0_i32_96 c1_i32_98 k0_t22
  let v232 : BitVec 32 := Scalar.addi v231 arg25
  let v233 : Index := Scalar.indexCast v232
  ![v233.toNat]
def k0_cond9 (v0 : BitVec 32) (k0_t21 : Fin (k0_t21_loop v0).trips) : BitVec 1 :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v172 : BitVec 1 := Scalar.cmpi .slt v171 v19
  let v173 : BitVec 32 := Scalar.extui v172
  let c0_i32_63 : BitVec 32 := 0#32
  let v174 : BitVec 1 := Scalar.cmpi .ne v173 c0_i32_63
  v174

def k0_off60 (v0 : BitVec 32) (k0_t21 : Fin (k0_t21_loop v0).trips) : Fin 1 → Nat :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off61 (v0 : BitVec 32) (k0_t21 : Fin (k0_t21_loop v0).trips) (k0_t22 : Fin k0_t22_loop.trips) : Fin 4 → Nat :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_96 : BitVec 32 := 0#32
  let c1_i32_98 : BitVec 32 := 1#32
  let arg25 : BitVec 32 := Scf.iv c0_i32_96 c1_i32_98 k0_t22
  let c0_i32_106 : BitVec 32 := 0#32
  let c0_i32_107 : BitVec 32 := 0#32
  ![v228.toNat, arg25.toNat, 0, 0]
def k0_off62 (v234 : BitVec 32) : Fin 3 → Nat :=
  let c0_i32_108 : BitVec 32 := 0#32
  let c0_i32_109 : BitVec 32 := 0#32
  ![v234.toNat, 0, 0]

def k0_chk14 (v0 : BitVec 32) (v1 : BitVec 32) (k0_t21 : Fin (k0_t21_loop v0).trips) (v234 : BitVec 32) : Prop :=
  (∀ (k0_h7 : k0_cond7 v1 = 1#1), ∀ (k0_h9 : k0_cond9 v0 k0_t21 = 1#1), ∀ a, (k0_off62 v234) a + S1x1024x128.size a ≤ S1024x1024x128.size a) ∧
  (∀ (k0_h7 : k0_cond7 v1 = 1#1), ∀ (k0_h9 : k0_cond9 v0 k0_t21 = 1#1), ∀ (hinb : ∀ a, (k0_off62 v234) a + S1x1024x128.size a ≤ S1024x1024x128.size a), (Rect.unit (s := S1024x1024x128) (k0_off62 v234) S1x1024x128.size hinb).WholeWords (EltTy.packing .fp8e4m3))
theorem k0_off62_inb : ∀ (v0 : BitVec 32) (v1 : BitVec 32) (k0_t21 : Fin (k0_t21_loop v0).trips) (v234 : BitVec 32) (k0_hw14 : k0_chk14 v0 v1 k0_t21 v234), ∀ (k0_h7 : k0_cond7 v1 = 1#1), ∀ (k0_h9 : k0_cond9 v0 k0_t21 = 1#1), ∀ a, (k0_off62 v234) a + S1x1024x128.size a ≤ S1024x1024x128.size a := fun v0 v1 k0_t21 v234 k0_hw14 k0_h7 k0_h9 => k0_hw14.1 k0_h7 k0_h9
theorem k0_off62_wordsfp8e4m3 : ∀ (v0 : BitVec 32) (v1 : BitVec 32) (k0_t21 : Fin (k0_t21_loop v0).trips) (v234 : BitVec 32) (k0_hw14 : k0_chk14 v0 v1 k0_t21 v234), ∀ (k0_h7 : k0_cond7 v1 = 1#1), ∀ (k0_h9 : k0_cond9 v0 k0_t21 = 1#1), (Rect.unit (s := S1024x1024x128) (k0_off62 v234) S1x1024x128.size (k0_off62_inb v0 v1 k0_t21 v234 k0_hw14 k0_h7 k0_h9)).WholeWords (EltTy.packing .fp8e4m3) := fun v0 v1 k0_t21 v234 k0_hw14 k0_h7 k0_h9 => k0_hw14.2 k0_h7 k0_h9 (k0_off62_inb v0 v1 k0_t21 v234 k0_hw14 k0_h7 k0_h9)

@[reducible] def k0_t23_loop : Scf.Loop 32 :=
  let c0_i32_101 : BitVec 32 := 0#32
  let c8_i32_102 : BitVec 32 := 8#32
  let v230 : BitVec 32 := Scalar.addi c0_i32_101 c8_i32_102
  let c1_i32_103 : BitVec 32 := 1#32
  ⟨c0_i32_101, v230, c1_i32_103⟩
def k0_off63 (v0 : BitVec 32) (k0_t21 : Fin (k0_t21_loop v0).trips) (k0_t23 : Fin k0_t23_loop.trips) : Fin 1 → Nat :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_101 : BitVec 32 := 0#32
  let c1_i32_103 : BitVec 32 := 1#32
  let arg25 : BitVec 32 := Scf.iv c0_i32_101 c1_i32_103 k0_t23
  let v232 : BitVec 32 := Scalar.addi v231 arg25
  let v233 : Index := Scalar.indexCast v232
  ![v233.toNat]
def k0_off64 (v0 : BitVec 32) (k0_t21 : Fin (k0_t21_loop v0).trips) : Fin 1 → Nat :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off65 (v0 : BitVec 32) (k0_t21 : Fin (k0_t21_loop v0).trips) (k0_t23 : Fin k0_t23_loop.trips) : Fin 4 → Nat :=
  let c0_i32_52 : BitVec 32 := 0#32
  let c1_i32_54 : BitVec 32 := 1#32
  let arg21 : BitVec 32 := Scf.iv c0_i32_52 c1_i32_54 k0_t21
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_101 : BitVec 32 := 0#32
  let c1_i32_103 : BitVec 32 := 1#32
  let arg25 : BitVec 32 := Scf.iv c0_i32_101 c1_i32_103 k0_t23
  let c0_i32_106 : BitVec 32 := 0#32
  let c0_i32_107 : BitVec 32 := 0#32
  ![v228.toNat, arg25.toNat, 0, 0]
def k0_off66 (v234 : BitVec 32) : Fin 3 → Nat :=
  let c0_i32_108 : BitVec 32 := 0#32
  let c0_i32_109 : BitVec 32 := 0#32
  ![v234.toNat, 0, 0]

def k0_chk15 (v0 : BitVec 32) (v1 : BitVec 32) (k0_t21 : Fin (k0_t21_loop v0).trips) (v234 : BitVec 32) : Prop :=
  (∀ (k0_h7 : k0_cond7 v1 = 1#1), ∀ (k0_h9 : k0_cond9 v0 k0_t21 = 1#1), ∀ a, (k0_off66 v234) a + S1x1024x128.size a ≤ S1024x1024x128.size a) ∧
  (∀ (k0_h7 : k0_cond7 v1 = 1#1), ∀ (k0_h9 : k0_cond9 v0 k0_t21 = 1#1), ∀ (hinb : ∀ a, (k0_off66 v234) a + S1x1024x128.size a ≤ S1024x1024x128.size a), (Rect.unit (s := S1024x1024x128) (k0_off66 v234) S1x1024x128.size hinb).WholeWords (EltTy.packing .fp8e4m3))
theorem k0_off66_inb : ∀ (v0 : BitVec 32) (v1 : BitVec 32) (k0_t21 : Fin (k0_t21_loop v0).trips) (v234 : BitVec 32) (k0_hw15 : k0_chk15 v0 v1 k0_t21 v234), ∀ (k0_h7 : k0_cond7 v1 = 1#1), ∀ (k0_h9 : k0_cond9 v0 k0_t21 = 1#1), ∀ a, (k0_off66 v234) a + S1x1024x128.size a ≤ S1024x1024x128.size a := fun v0 v1 k0_t21 v234 k0_hw15 k0_h7 k0_h9 => k0_hw15.1 k0_h7 k0_h9
theorem k0_off66_wordsfp8e4m3 : ∀ (v0 : BitVec 32) (v1 : BitVec 32) (k0_t21 : Fin (k0_t21_loop v0).trips) (v234 : BitVec 32) (k0_hw15 : k0_chk15 v0 v1 k0_t21 v234), ∀ (k0_h7 : k0_cond7 v1 = 1#1), ∀ (k0_h9 : k0_cond9 v0 k0_t21 = 1#1), (Rect.unit (s := S1024x1024x128) (k0_off66 v234) S1x1024x128.size (k0_off66_inb v0 v1 k0_t21 v234 k0_hw15 k0_h7 k0_h9)).WholeWords (EltTy.packing .fp8e4m3) := fun v0 v1 k0_t21 v234 k0_hw15 k0_h7 k0_h9 => k0_hw15.2 k0_h7 k0_h9 (k0_off66_inb v0 v1 k0_t21 v234 k0_hw15 k0_h7 k0_h9)

@[reducible] def k0_t24_loop : Scf.Loop 32 :=
  let c0_i32_65 : BitVec 32 := 0#32
  let c8_i32_66 : BitVec 32 := 8#32
  let v175 : BitVec 32 := Scalar.addi c0_i32_65 c8_i32_66
  let c1_i32_67 : BitVec 32 := 1#32
  ⟨c0_i32_65, v175, c1_i32_67⟩
def k0_off67 (v0 : BitVec 32) (k0_t21 : Fin (k0_t21_loop v0).trips) (k0_t24 : Fin k0_t24_loop.trips) : Fin 1 → Nat :=
  let c0_i32_52 : BitVec 32 := 0#32
  let c1_i32_54 : BitVec 32 := 1#32
  let arg21 : BitVec 32 := Scf.iv c0_i32_52 c1_i32_54 k0_t21
  let c8_i32_94 : BitVec 32 := 8#32
  let v228 : BitVec 32 := Scalar.muli arg21 c8_i32_94
  let c0_i32_65 : BitVec 32 := 0#32
  let c1_i32_67 : BitVec 32 := 1#32
  let arg25 : BitVec 32 := Scf.iv c0_i32_65 c1_i32_67 k0_t24
  let v229 : BitVec 32 := Scalar.addi v228 arg25
  let v230 : Index := Scalar.indexCast v229
  ![v230.toNat]
def k0_off68 (v0 : BitVec 32) (k0_t21 : Fin (k0_t21_loop v0).trips) : Fin 1 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  ![v169.toNat]
def k0_off69 (v0 : BitVec 32) (k0_t21 : Fin (k0_t21_loop v0).trips) (k0_t24 : Fin k0_t24_loop.trips) : Fin 4 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  let c0_i32_65 : BitVec 32 := 0#32
  let c1_i32_67 : BitVec 32 := 1#32
  let arg25 : BitVec 32 := Scf.iv c0_i32_65 c1_i32_67 k0_t24
  let c0_i32_95 : BitVec 32 := 0#32
  let c0_i32_96 : BitVec 32 := 0#32
  ![v169.toNat, arg25.toNat, 0, 0]
def k0_off70 (v231 : BitVec 32) : Fin 3 → Nat :=
  let c0_i32_97 : BitVec 32 := 0#32
  let c0_i32_98 : BitVec 32 := 0#32
  ![v231.toNat, 0, 0]

def k0_chk16 (v1 : BitVec 32) (v231 : BitVec 32) : Prop :=
  (∀ (k0_h7 : k0_cond7 v1 = 1#1), ∀ a, (k0_off70 v231) a + S1x1024x128.size a ≤ S1024x1024x128.size a) ∧
  (∀ (k0_h7 : k0_cond7 v1 = 1#1), ∀ (hinb : ∀ a, (k0_off70 v231) a + S1x1024x128.size a ≤ S1024x1024x128.size a), (Rect.unit (s := S1024x1024x128) (k0_off70 v231) S1x1024x128.size hinb).WholeWords (EltTy.packing .fp8e4m3))
theorem k0_off70_inb : ∀ (v1 : BitVec 32) (v231 : BitVec 32) (k0_hw16 : k0_chk16 v1 v231), ∀ (k0_h7 : k0_cond7 v1 = 1#1), ∀ a, (k0_off70 v231) a + S1x1024x128.size a ≤ S1024x1024x128.size a := fun v1 v231 k0_hw16 k0_h7 => k0_hw16.1 k0_h7
theorem k0_off70_wordsfp8e4m3 : ∀ (v1 : BitVec 32) (v231 : BitVec 32) (k0_hw16 : k0_chk16 v1 v231), ∀ (k0_h7 : k0_cond7 v1 = 1#1), (Rect.unit (s := S1024x1024x128) (k0_off70 v231) S1x1024x128.size (k0_off70_inb v1 v231 k0_hw16 k0_h7)).WholeWords (EltTy.packing .fp8e4m3) := fun v1 v231 k0_hw16 k0_h7 => k0_hw16.2 k0_h7 (k0_off70_inb v1 v231 k0_hw16 k0_h7)

@[reducible] def k0_t25_loop : Scf.Loop 32 :=
  let c0_i32_70 : BitVec 32 := 0#32
  let c8_i32_71 : BitVec 32 := 8#32
  let v176 : BitVec 32 := Scalar.addi c0_i32_70 c8_i32_71
  let c1_i32_72 : BitVec 32 := 1#32
  ⟨c0_i32_70, v176, c1_i32_72⟩
def k0_off71 (v0 : BitVec 32) (k0_t21 : Fin (k0_t21_loop v0).trips) (k0_t25 : Fin k0_t25_loop.trips) : Fin 1 → Nat :=
  let c0_i32_52 : BitVec 32 := 0#32
  let c1_i32_54 : BitVec 32 := 1#32
  let arg21 : BitVec 32 := Scf.iv c0_i32_52 c1_i32_54 k0_t21
  let c8_i32_94 : BitVec 32 := 8#32
  let v228 : BitVec 32 := Scalar.muli arg21 c8_i32_94
  let c0_i32_70 : BitVec 32 := 0#32
  let c1_i32_72 : BitVec 32 := 1#32
  let arg25 : BitVec 32 := Scf.iv c0_i32_70 c1_i32_72 k0_t25
  let v229 : BitVec 32 := Scalar.addi v228 arg25
  let v230 : Index := Scalar.indexCast v229
  ![v230.toNat]
def k0_off72 (v0 : BitVec 32) (k0_t21 : Fin (k0_t21_loop v0).trips) : Fin 1 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  ![v169.toNat]
def k0_off73 (v0 : BitVec 32) (k0_t21 : Fin (k0_t21_loop v0).trips) (k0_t25 : Fin k0_t25_loop.trips) : Fin 4 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  let c0_i32_70 : BitVec 32 := 0#32
  let c1_i32_72 : BitVec 32 := 1#32
  let arg25 : BitVec 32 := Scf.iv c0_i32_70 c1_i32_72 k0_t25
  let c0_i32_95 : BitVec 32 := 0#32
  let c0_i32_96 : BitVec 32 := 0#32
  ![v169.toNat, arg25.toNat, 0, 0]
def k0_off74 (v231 : BitVec 32) : Fin 3 → Nat :=
  let c0_i32_97 : BitVec 32 := 0#32
  let c0_i32_98 : BitVec 32 := 0#32
  ![v231.toNat, 0, 0]

def k0_chk17 (v1 : BitVec 32) (v231 : BitVec 32) : Prop :=
  (∀ (k0_h7 : k0_cond7 v1 = 1#1), ∀ a, (k0_off74 v231) a + S1x1024x128.size a ≤ S1024x1024x128.size a) ∧
  (∀ (k0_h7 : k0_cond7 v1 = 1#1), ∀ (hinb : ∀ a, (k0_off74 v231) a + S1x1024x128.size a ≤ S1024x1024x128.size a), (Rect.unit (s := S1024x1024x128) (k0_off74 v231) S1x1024x128.size hinb).WholeWords (EltTy.packing .fp8e4m3))
theorem k0_off74_inb : ∀ (v1 : BitVec 32) (v231 : BitVec 32) (k0_hw17 : k0_chk17 v1 v231), ∀ (k0_h7 : k0_cond7 v1 = 1#1), ∀ a, (k0_off74 v231) a + S1x1024x128.size a ≤ S1024x1024x128.size a := fun v1 v231 k0_hw17 k0_h7 => k0_hw17.1 k0_h7
theorem k0_off74_wordsfp8e4m3 : ∀ (v1 : BitVec 32) (v231 : BitVec 32) (k0_hw17 : k0_chk17 v1 v231), ∀ (k0_h7 : k0_cond7 v1 = 1#1), (Rect.unit (s := S1024x1024x128) (k0_off74 v231) S1x1024x128.size (k0_off74_inb v1 v231 k0_hw17 k0_h7)).WholeWords (EltTy.packing .fp8e4m3) := fun v1 v231 k0_hw17 k0_h7 => k0_hw17.2 k0_h7 (k0_off74_inb v1 v231 k0_hw17 k0_h7)

def k0_mult9 (v0 : BitVec 32) : BitVec 32 :=
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  v282
def k0_cond10 (v0 : BitVec 32) (k0_t21 : Fin (k0_t21_loop v0).trips) : BitVec 1 :=
  let c0_i32_52 : BitVec 32 := 0#32
  let c1_i32_54 : BitVec 32 := 1#32
  let arg21 : BitVec 32 := Scf.iv c0_i32_52 c1_i32_54 k0_t21
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c1_i32_74 : BitVec 32 := 1#32
  let v177 : BitVec 32 := Scalar.subi v19 c1_i32_74
  let v178 : BitVec 1 := Scalar.cmpi .eq arg21 v177
  let v179 : BitVec 32 := Scalar.extui v178
  let c0_i32_75 : BitVec 32 := 0#32
  let v180 : BitVec 1 := Scalar.cmpi .ne v179 c0_i32_75
  v180

def k0_off75 (v0 : BitVec 32) (k0_t21 : Fin (k0_t21_loop v0).trips) : Fin 4 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  let v284 : Index := Scalar.indexCast v169
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c0_i32_100 : BitVec 32 := 0#32
  let v239 : BitVec 1 := Scalar.cmpi .sgt v237 c0_i32_100
  let v240 : BitVec 32 := Scalar.extui v239
  let c0_i32_101 : BitVec 32 := 0#32
  let v241 : BitVec 1 := Scalar.cmpi .slt v237 c0_i32_101
  let v242 : BitVec 32 := Scalar.extui v241
  let v243 : BitVec 32 := Scalar.subi v240 v242
  let c128_i32 : BitVec 32 := 128#32
  let c0_i32_102 : BitVec 32 := 0#32
  let v244 : BitVec 1 := Scalar.cmpi .sgt c128_i32 c0_i32_102
  let v245 : BitVec 32 := Scalar.extui v244
  let c0_i32_103 : BitVec 32 := 0#32
  let v246 : BitVec 1 := Scalar.cmpi .slt c128_i32 c0_i32_103
  let v247 : BitVec 32 := Scalar.extui v246
  let v248 : BitVec 32 := Scalar.subi v245 v247
  let v249 : BitVec 1 := Scalar.cmpi .ne v243 v248
  let v250 : BitVec 32 := Scalar.remsi v237 c128_i32
  let c0_i32_104 : BitVec 32 := 0#32
  let v251 : BitVec 1 := Scalar.cmpi .ne v250 c0_i32_104
  let v252 : BitVec 1 := Scalar.andi v249 v251
  let v238 : BitVec 32 := Scalar.divsi v237 c128_i32
  let c1_i32_105 : BitVec 32 := 1#32
  let v253 : BitVec 32 := Scalar.subi v238 c1_i32_105
  let v254 : BitVec 32 := Scalar.select v252 v253 v238
  let v285 : Index := Scalar.indexCast v254
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  let v283 : BitVec 32 := v282
  let v286 : Index := Scalar.indexCast v283
  let c0_120 : Index := 0#32
  ![v284.toNat, v285.toNat, v286.toNat, 0]
def k0_mult10 (v0 : BitVec 32) : BitVec 32 :=
  let c1024_i32_135 : BitVec 32 := 1024#32
  let c0_i32_136 : BitVec 32 := 0#32
  let v334 : BitVec 1 := Scalar.cmpi .eq c1024_i32_135 c0_i32_136
  let c1_i32_137 : BitVec 32 := 1#32
  let v335 : BitVec 32 := Scalar.select v334 c1_i32_137 c1024_i32_135
  let v336 : BitVec 32 := Scalar.remsi v0 v335
  let c0_i32_139 : BitVec 32 := 0#32
  let v338 : BitVec 1 := Scalar.cmpi .slt v336 c0_i32_139
  let c0_i32_140 : BitVec 32 := 0#32
  let v339 : BitVec 1 := Scalar.cmpi .slt v335 c0_i32_140
  let v340 : BitVec 1 := Scalar.xori v338 v339
  let c0_i32_138 : BitVec 32 := 0#32
  let v337 : BitVec 1 := Scalar.cmpi .ne v336 c0_i32_138
  let v341 : BitVec 1 := Scalar.andi v340 v337
  let v342 : BitVec 32 := Scalar.addi v336 v335
  let v343 : BitVec 32 := Scalar.select v341 v342 v336
  let c128_i32_148 : BitVec 32 := 128#32
  let c0_i32_149 : BitVec 32 := 0#32
  let v361 : BitVec 1 := Scalar.cmpi .eq c128_i32_148 c0_i32_149
  let c1_i32_150 : BitVec 32 := 1#32
  let v362 : BitVec 32 := Scalar.select v361 c1_i32_150 c128_i32_148
  let v363 : BitVec 32 := Scalar.remsi v343 v362
  let c0_i32_152 : BitVec 32 := 0#32
  let v365 : BitVec 1 := Scalar.cmpi .slt v363 c0_i32_152
  let c0_i32_153 : BitVec 32 := 0#32
  let v366 : BitVec 1 := Scalar.cmpi .slt v362 c0_i32_153
  let v367 : BitVec 1 := Scalar.xori v365 v366
  let c0_i32_151 : BitVec 32 := 0#32
  let v364 : BitVec 1 := Scalar.cmpi .ne v363 c0_i32_151
  let v368 : BitVec 1 := Scalar.andi v367 v364
  let v369 : BitVec 32 := Scalar.addi v363 v362
  let v370 : BitVec 32 := Scalar.select v368 v369 v363
  let c0_i32_155 : BitVec 32 := 0#32
  let v372 : BitVec 1 := Scalar.cmpi .sgt v370 c0_i32_155
  let v373 : BitVec 32 := Scalar.extui v372
  let c0_i32_156 : BitVec 32 := 0#32
  let v374 : BitVec 1 := Scalar.cmpi .slt v370 c0_i32_156
  let v375 : BitVec 32 := Scalar.extui v374
  let v376 : BitVec 32 := Scalar.subi v373 v375
  let c4_i32_154 : BitVec 32 := 4#32
  let c0_i32_157 : BitVec 32 := 0#32
  let v377 : BitVec 1 := Scalar.cmpi .sgt c4_i32_154 c0_i32_157
  let v378 : BitVec 32 := Scalar.extui v377
  let c0_i32_158 : BitVec 32 := 0#32
  let v379 : BitVec 1 := Scalar.cmpi .slt c4_i32_154 c0_i32_158
  let v380 : BitVec 32 := Scalar.extui v379
  let v381 : BitVec 32 := Scalar.subi v378 v380
  let v382 : BitVec 1 := Scalar.cmpi .ne v376 v381
  let v383 : BitVec 32 := Scalar.remsi v370 c4_i32_154
  let c0_i32_159 : BitVec 32 := 0#32
  let v384 : BitVec 1 := Scalar.cmpi .ne v383 c0_i32_159
  let v385 : BitVec 1 := Scalar.andi v382 v384
  let v371 : BitVec 32 := Scalar.divsi v370 c4_i32_154
  let c1_i32_160 : BitVec 32 := 1#32
  let v386 : BitVec 32 := Scalar.subi v371 c1_i32_160
  let v387 : BitVec 32 := Scalar.select v385 v386 v371
  let c32_i32_161 : BitVec 32 := 32#32
  let v388 : BitVec 32 := Scalar.muli v387 c32_i32_161
  v388
@[reducible] def k0_t26_loop : Scf.Loop 32 :=
  let c0_i32_78 : BitVec 32 := 0#32
  let c16_i32_79 : BitVec 32 := 16#32
  let v184 : BitVec 32 := Scalar.addi c0_i32_78 c16_i32_79
  let c1_i32_80 : BitVec 32 := 1#32
  ⟨c0_i32_78, v184, c1_i32_80⟩
def k0_off76 (v0 : BitVec 32) (k0_t21 : Fin (k0_t21_loop v0).trips) (k0_t26 : Fin k0_t26_loop.trips) : Fin 4 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  let v233 : Index := Scalar.indexCast v169
  let c0_i32_78 : BitVec 32 := 0#32
  let c1_i32_80 : BitVec 32 := 1#32
  let arg25 : BitVec 32 := Scf.iv c0_i32_78 c1_i32_80 k0_t26
  let c128_i32 : BitVec 32 := 128#32
  let v228 : BitVec 32 := Scalar.muli arg25 c128_i32
  let c256_i32 : BitVec 32 := 256#32
  let v229 : BitVec 32 := Scalar.divsi v228 c256_i32
  let v234 : Index := Scalar.indexCast v229
  let c128_i32_94 : BitVec 32 := 128#32
  let v230 : BitVec 32 := Scalar.muli arg25 c128_i32_94
  let c256_i32_95 : BitVec 32 := 256#32
  let v231 : BitVec 32 := Scalar.remsi v230 c256_i32_95
  let c4_i32_96 : BitVec 32 := 4#32
  let v232 : BitVec 32 := Scalar.muli v231 c4_i32_96
  let v235 : Index := Scalar.indexCast v232
  let c0_97 : Index := 0#32
  ![v233.toNat, v234.toNat, v235.toNat, 0]
def k0_mult11 (k0_t26 : Fin k0_t26_loop.trips) : BitVec 32 :=
  let c0_i32_78 : BitVec 32 := 0#32
  let c1_i32_80 : BitVec 32 := 1#32
  let arg25 : BitVec 32 := Scf.iv c0_i32_78 c1_i32_80 k0_t26
  let c256_i32_113 : BitVec 32 := 256#32
  let v293 : BitVec 32 := Scalar.muli arg25 c256_i32_113
  v293
def k0_off77 (k0_t26 : Fin k0_t26_loop.trips) : Fin 2 → Nat :=
  let c0_114 : Index := 0#32
  let c0_i32_78 : BitVec 32 := 0#32
  let c1_i32_80 : BitVec 32 := 1#32
  let arg25 : BitVec 32 := Scf.iv c0_i32_78 c1_i32_80 k0_t26
  let c256_i32_113 : BitVec 32 := 256#32
  let v293 : BitVec 32 := Scalar.muli arg25 c256_i32_113
  let v294 : BitVec 32 := v293
  let v295 : Index := Scalar.indexCast v294
  ![0, v295.toNat]
@[reducible] def k0_t27_loop : Scf.Loop 32 :=
  let c0_i32_90 : BitVec 32 := 0#32
  let c16_i32_91 : BitVec 32 := 16#32
  let v203 : BitVec 32 := Scalar.addi c0_i32_90 c16_i32_91
  let c1_i32_92 : BitVec 32 := 1#32
  ⟨c0_i32_90, v203, c1_i32_92⟩
def k0_mult12 (k0_t27 : Fin k0_t27_loop.trips) : BitVec 32 :=
  let c0_i32_90 : BitVec 32 := 0#32
  let c1_i32_92 : BitVec 32 := 1#32
  let arg25 : BitVec 32 := Scf.iv c0_i32_90 c1_i32_92 k0_t27
  let c256_i32 : BitVec 32 := 256#32
  let v228 : BitVec 32 := Scalar.muli arg25 c256_i32
  v228
def k0_off78 (k0_t27 : Fin k0_t27_loop.trips) : Fin 2 → Nat :=
  let c0_94 : Index := 0#32
  let c0_i32_90 : BitVec 32 := 0#32
  let c1_i32_92 : BitVec 32 := 1#32
  let arg25 : BitVec 32 := Scf.iv c0_i32_90 c1_i32_92 k0_t27
  let c256_i32 : BitVec 32 := 256#32
  let v228 : BitVec 32 := Scalar.muli arg25 c256_i32
  let v229 : BitVec 32 := v228
  let v230 : Index := Scalar.indexCast v229
  ![0, v230.toNat]
def k0_off79 (v0 : BitVec 32) (k0_t21 : Fin (k0_t21_loop v0).trips) (k0_t27 : Fin k0_t27_loop.trips) : Fin 4 → Nat :=
  let c0_i32_52 : BitVec 32 := 0#32
  let c1_i32_54 : BitVec 32 := 1#32
  let arg21 : BitVec 32 := Scf.iv c0_i32_52 c1_i32_54 k0_t21
  let c6_i32 : BitVec 32 := 6#32
  let v169 : BitVec 32 := Scalar.remsi arg21 c6_i32
  let v250 : Index := Scalar.indexCast v169
  let c0_i32_90 : BitVec 32 := 0#32
  let c1_i32_92 : BitVec 32 := 1#32
  let arg25 : BitVec 32 := Scf.iv c0_i32_90 c1_i32_92 k0_t27
  let c128_i32 : BitVec 32 := 128#32
  let v245 : BitVec 32 := Scalar.muli arg25 c128_i32
  let c256_i32_95 : BitVec 32 := 256#32
  let v246 : BitVec 32 := Scalar.divsi v245 c256_i32_95
  let v251 : Index := Scalar.indexCast v246
  let c128_i32_96 : BitVec 32 := 128#32
  let v247 : BitVec 32 := Scalar.muli arg25 c128_i32_96
  let c256_i32_97 : BitVec 32 := 256#32
  let v248 : BitVec 32 := Scalar.remsi v247 c256_i32_97
  let c4_i32_98 : BitVec 32 := 4#32
  let v249 : BitVec 32 := Scalar.muli v248 c4_i32_98
  let v252 : Index := Scalar.indexCast v249
  let c0_99 : Index := 0#32
  ![v250.toNat, v251.toNat, v252.toNat, 0]
@[reducible] def k0_t28_loop (v0 : BitVec 32) : Scf.Loop 32 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let v129 : BitVec 32 := Scalar.addi c0_i32_52 v128
  let c1_i32_55 : BitVec 32 := 1#32
  ⟨v132, v129, c1_i32_55⟩
@[reducible] def k0_t29_loop : Scf.Loop 32 :=
  let c0_i32_96 : BitVec 32 := 0#32
  let c8_i32_97 : BitVec 32 := 8#32
  let v229 : BitVec 32 := Scalar.addi c0_i32_96 c8_i32_97
  let c1_i32_98 : BitVec 32 := 1#32
  ⟨c0_i32_96, v229, c1_i32_98⟩
def k0_off80 (v0 : BitVec 32) (k0_t28 : Fin (k0_t28_loop v0).trips) (k0_t29 : Fin k0_t29_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_96 : BitVec 32 := 0#32
  let c1_i32_98 : BitVec 32 := 1#32
  let arg25 : BitVec 32 := Scf.iv c0_i32_96 c1_i32_98 k0_t29
  let v232 : BitVec 32 := Scalar.addi v231 arg25
  let v233 : Index := Scalar.indexCast v232
  ![v233.toNat]
def k0_cond11 (v0 : BitVec 32) (k0_t28 : Fin (k0_t28_loop v0).trips) : BitVec 1 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let v172 : BitVec 1 := Scalar.cmpi .slt v171 v19
  let v173 : BitVec 32 := Scalar.extui v172
  let c0_i32_63 : BitVec 32 := 0#32
  let v174 : BitVec 1 := Scalar.cmpi .ne v173 c0_i32_63
  v174

def k0_off81 (v0 : BitVec 32) (k0_t28 : Fin (k0_t28_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off82 (v0 : BitVec 32) (k0_t28 : Fin (k0_t28_loop v0).trips) (k0_t29 : Fin k0_t29_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_96 : BitVec 32 := 0#32
  let c1_i32_98 : BitVec 32 := 1#32
  let arg25 : BitVec 32 := Scf.iv c0_i32_96 c1_i32_98 k0_t29
  let c0_i32_106 : BitVec 32 := 0#32
  let c0_i32_107 : BitVec 32 := 0#32
  ![v228.toNat, arg25.toNat, 0, 0]
def k0_off83 (v234 : BitVec 32) : Fin 3 → Nat :=
  let c0_i32_108 : BitVec 32 := 0#32
  let c0_i32_109 : BitVec 32 := 0#32
  ![v234.toNat, 0, 0]

def k0_chk18 (v0 : BitVec 32) (v1 : BitVec 32) (k0_t28 : Fin (k0_t28_loop v0).trips) (v234 : BitVec 32) : Prop :=
  (∀ (k0_h7 : k0_cond7 v1 = 1#1), ∀ (k0_h11 : k0_cond11 v0 k0_t28 = 1#1), ∀ a, (k0_off83 v234) a + S1x1024x128.size a ≤ S1024x1024x128.size a) ∧
  (∀ (k0_h7 : k0_cond7 v1 = 1#1), ∀ (k0_h11 : k0_cond11 v0 k0_t28 = 1#1), ∀ (hinb : ∀ a, (k0_off83 v234) a + S1x1024x128.size a ≤ S1024x1024x128.size a), (Rect.unit (s := S1024x1024x128) (k0_off83 v234) S1x1024x128.size hinb).WholeWords (EltTy.packing .fp8e4m3))
theorem k0_off83_inb : ∀ (v0 : BitVec 32) (v1 : BitVec 32) (k0_t28 : Fin (k0_t28_loop v0).trips) (v234 : BitVec 32) (k0_hw18 : k0_chk18 v0 v1 k0_t28 v234), ∀ (k0_h7 : k0_cond7 v1 = 1#1), ∀ (k0_h11 : k0_cond11 v0 k0_t28 = 1#1), ∀ a, (k0_off83 v234) a + S1x1024x128.size a ≤ S1024x1024x128.size a := fun v0 v1 k0_t28 v234 k0_hw18 k0_h7 k0_h11 => k0_hw18.1 k0_h7 k0_h11
theorem k0_off83_wordsfp8e4m3 : ∀ (v0 : BitVec 32) (v1 : BitVec 32) (k0_t28 : Fin (k0_t28_loop v0).trips) (v234 : BitVec 32) (k0_hw18 : k0_chk18 v0 v1 k0_t28 v234), ∀ (k0_h7 : k0_cond7 v1 = 1#1), ∀ (k0_h11 : k0_cond11 v0 k0_t28 = 1#1), (Rect.unit (s := S1024x1024x128) (k0_off83 v234) S1x1024x128.size (k0_off83_inb v0 v1 k0_t28 v234 k0_hw18 k0_h7 k0_h11)).WholeWords (EltTy.packing .fp8e4m3) := fun v0 v1 k0_t28 v234 k0_hw18 k0_h7 k0_h11 => k0_hw18.2 k0_h7 k0_h11 (k0_off83_inb v0 v1 k0_t28 v234 k0_hw18 k0_h7 k0_h11)

@[reducible] def k0_t30_loop : Scf.Loop 32 :=
  let c0_i32_101 : BitVec 32 := 0#32
  let c8_i32_102 : BitVec 32 := 8#32
  let v230 : BitVec 32 := Scalar.addi c0_i32_101 c8_i32_102
  let c1_i32_103 : BitVec 32 := 1#32
  ⟨c0_i32_101, v230, c1_i32_103⟩
def k0_off84 (v0 : BitVec 32) (k0_t28 : Fin (k0_t28_loop v0).trips) (k0_t30 : Fin k0_t30_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let c8_i32_105 : BitVec 32 := 8#32
  let v231 : BitVec 32 := Scalar.muli v171 c8_i32_105
  let c0_i32_101 : BitVec 32 := 0#32
  let c1_i32_103 : BitVec 32 := 1#32
  let arg25 : BitVec 32 := Scf.iv c0_i32_101 c1_i32_103 k0_t30
  let v232 : BitVec 32 := Scalar.addi v231 arg25
  let v233 : Index := Scalar.indexCast v232
  ![v233.toNat]
def k0_off85 (v0 : BitVec 32) (k0_t28 : Fin (k0_t28_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  ![v228.toNat]
def k0_off86 (v0 : BitVec 32) (k0_t28 : Fin (k0_t28_loop v0).trips) (k0_t30 : Fin k0_t30_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32_61 : BitVec 32 := 6#32
  let v170 : BitVec 32 := Scalar.addi arg21 c6_i32_61
  let c1_i32_62 : BitVec 32 := 1#32
  let v171 : BitVec 32 := Scalar.subi v170 c1_i32_62
  let c6_i32_94 : BitVec 32 := 6#32
  let v228 : BitVec 32 := Scalar.remsi v171 c6_i32_94
  let c0_i32_101 : BitVec 32 := 0#32
  let c1_i32_103 : BitVec 32 := 1#32
  let arg25 : BitVec 32 := Scf.iv c0_i32_101 c1_i32_103 k0_t30
  let c0_i32_106 : BitVec 32 := 0#32
  let c0_i32_107 : BitVec 32 := 0#32
  ![v228.toNat, arg25.toNat, 0, 0]
def k0_off87 (v234 : BitVec 32) : Fin 3 → Nat :=
  let c0_i32_108 : BitVec 32 := 0#32
  let c0_i32_109 : BitVec 32 := 0#32
  ![v234.toNat, 0, 0]

def k0_chk19 (v0 : BitVec 32) (v1 : BitVec 32) (k0_t28 : Fin (k0_t28_loop v0).trips) (v234 : BitVec 32) : Prop :=
  (∀ (k0_h7 : k0_cond7 v1 = 1#1), ∀ (k0_h11 : k0_cond11 v0 k0_t28 = 1#1), ∀ a, (k0_off87 v234) a + S1x1024x128.size a ≤ S1024x1024x128.size a) ∧
  (∀ (k0_h7 : k0_cond7 v1 = 1#1), ∀ (k0_h11 : k0_cond11 v0 k0_t28 = 1#1), ∀ (hinb : ∀ a, (k0_off87 v234) a + S1x1024x128.size a ≤ S1024x1024x128.size a), (Rect.unit (s := S1024x1024x128) (k0_off87 v234) S1x1024x128.size hinb).WholeWords (EltTy.packing .fp8e4m3))
theorem k0_off87_inb : ∀ (v0 : BitVec 32) (v1 : BitVec 32) (k0_t28 : Fin (k0_t28_loop v0).trips) (v234 : BitVec 32) (k0_hw19 : k0_chk19 v0 v1 k0_t28 v234), ∀ (k0_h7 : k0_cond7 v1 = 1#1), ∀ (k0_h11 : k0_cond11 v0 k0_t28 = 1#1), ∀ a, (k0_off87 v234) a + S1x1024x128.size a ≤ S1024x1024x128.size a := fun v0 v1 k0_t28 v234 k0_hw19 k0_h7 k0_h11 => k0_hw19.1 k0_h7 k0_h11
theorem k0_off87_wordsfp8e4m3 : ∀ (v0 : BitVec 32) (v1 : BitVec 32) (k0_t28 : Fin (k0_t28_loop v0).trips) (v234 : BitVec 32) (k0_hw19 : k0_chk19 v0 v1 k0_t28 v234), ∀ (k0_h7 : k0_cond7 v1 = 1#1), ∀ (k0_h11 : k0_cond11 v0 k0_t28 = 1#1), (Rect.unit (s := S1024x1024x128) (k0_off87 v234) S1x1024x128.size (k0_off87_inb v0 v1 k0_t28 v234 k0_hw19 k0_h7 k0_h11)).WholeWords (EltTy.packing .fp8e4m3) := fun v0 v1 k0_t28 v234 k0_hw19 k0_h7 k0_h11 => k0_hw19.2 k0_h7 k0_h11 (k0_off87_inb v0 v1 k0_t28 v234 k0_hw19 k0_h7 k0_h11)

@[reducible] def k0_t31_loop : Scf.Loop 32 :=
  let c0_i32_65 : BitVec 32 := 0#32
  let c8_i32_66 : BitVec 32 := 8#32
  let v175 : BitVec 32 := Scalar.addi c0_i32_65 c8_i32_66
  let c1_i32_67 : BitVec 32 := 1#32
  ⟨c0_i32_65, v175, c1_i32_67⟩
def k0_off88 (v0 : BitVec 32) (k0_t28 : Fin (k0_t28_loop v0).trips) (k0_t31 : Fin k0_t31_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c8_i32_94 : BitVec 32 := 8#32
  let v228 : BitVec 32 := Scalar.muli arg21 c8_i32_94
  let c0_i32_65 : BitVec 32 := 0#32
  let c1_i32_67 : BitVec 32 := 1#32
  let arg25 : BitVec 32 := Scf.iv c0_i32_65 c1_i32_67 k0_t31
  let v229 : BitVec 32 := Scalar.addi v228 arg25
  let v230 : Index := Scalar.indexCast v229
  ![v230.toNat]
def k0_off89 (v0 : BitVec 32) (k0_t28 : Fin (k0_t28_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  ![v169.toNat]
def k0_off90 (v0 : BitVec 32) (k0_t28 : Fin (k0_t28_loop v0).trips) (k0_t31 : Fin k0_t31_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  let c0_i32_65 : BitVec 32 := 0#32
  let c1_i32_67 : BitVec 32 := 1#32
  let arg25 : BitVec 32 := Scf.iv c0_i32_65 c1_i32_67 k0_t31
  let c0_i32_95 : BitVec 32 := 0#32
  let c0_i32_96 : BitVec 32 := 0#32
  ![v169.toNat, arg25.toNat, 0, 0]
def k0_off91 (v231 : BitVec 32) : Fin 3 → Nat :=
  let c0_i32_97 : BitVec 32 := 0#32
  let c0_i32_98 : BitVec 32 := 0#32
  ![v231.toNat, 0, 0]

def k0_chk20 (v1 : BitVec 32) (v231 : BitVec 32) : Prop :=
  (∀ (k0_h7 : k0_cond7 v1 = 1#1), ∀ a, (k0_off91 v231) a + S1x1024x128.size a ≤ S1024x1024x128.size a) ∧
  (∀ (k0_h7 : k0_cond7 v1 = 1#1), ∀ (hinb : ∀ a, (k0_off91 v231) a + S1x1024x128.size a ≤ S1024x1024x128.size a), (Rect.unit (s := S1024x1024x128) (k0_off91 v231) S1x1024x128.size hinb).WholeWords (EltTy.packing .fp8e4m3))
theorem k0_off91_inb : ∀ (v1 : BitVec 32) (v231 : BitVec 32) (k0_hw20 : k0_chk20 v1 v231), ∀ (k0_h7 : k0_cond7 v1 = 1#1), ∀ a, (k0_off91 v231) a + S1x1024x128.size a ≤ S1024x1024x128.size a := fun v1 v231 k0_hw20 k0_h7 => k0_hw20.1 k0_h7
theorem k0_off91_wordsfp8e4m3 : ∀ (v1 : BitVec 32) (v231 : BitVec 32) (k0_hw20 : k0_chk20 v1 v231), ∀ (k0_h7 : k0_cond7 v1 = 1#1), (Rect.unit (s := S1024x1024x128) (k0_off91 v231) S1x1024x128.size (k0_off91_inb v1 v231 k0_hw20 k0_h7)).WholeWords (EltTy.packing .fp8e4m3) := fun v1 v231 k0_hw20 k0_h7 => k0_hw20.2 k0_h7 (k0_off91_inb v1 v231 k0_hw20 k0_h7)

@[reducible] def k0_t32_loop : Scf.Loop 32 :=
  let c0_i32_70 : BitVec 32 := 0#32
  let c8_i32_71 : BitVec 32 := 8#32
  let v176 : BitVec 32 := Scalar.addi c0_i32_70 c8_i32_71
  let c1_i32_72 : BitVec 32 := 1#32
  ⟨c0_i32_70, v176, c1_i32_72⟩
def k0_off92 (v0 : BitVec 32) (k0_t28 : Fin (k0_t28_loop v0).trips) (k0_t32 : Fin k0_t32_loop.trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c8_i32_94 : BitVec 32 := 8#32
  let v228 : BitVec 32 := Scalar.muli arg21 c8_i32_94
  let c0_i32_70 : BitVec 32 := 0#32
  let c1_i32_72 : BitVec 32 := 1#32
  let arg25 : BitVec 32 := Scf.iv c0_i32_70 c1_i32_72 k0_t32
  let v229 : BitVec 32 := Scalar.addi v228 arg25
  let v230 : Index := Scalar.indexCast v229
  ![v230.toNat]
def k0_off93 (v0 : BitVec 32) (k0_t28 : Fin (k0_t28_loop v0).trips) : Fin 1 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  ![v169.toNat]
def k0_off94 (v0 : BitVec 32) (k0_t28 : Fin (k0_t28_loop v0).trips) (k0_t32 : Fin k0_t32_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  let c0_i32_70 : BitVec 32 := 0#32
  let c1_i32_72 : BitVec 32 := 1#32
  let arg25 : BitVec 32 := Scf.iv c0_i32_70 c1_i32_72 k0_t32
  let c0_i32_95 : BitVec 32 := 0#32
  let c0_i32_96 : BitVec 32 := 0#32
  ![v169.toNat, arg25.toNat, 0, 0]
def k0_off95 (v231 : BitVec 32) : Fin 3 → Nat :=
  let c0_i32_97 : BitVec 32 := 0#32
  let c0_i32_98 : BitVec 32 := 0#32
  ![v231.toNat, 0, 0]

def k0_chk21 (v1 : BitVec 32) (v231 : BitVec 32) : Prop :=
  (∀ (k0_h7 : k0_cond7 v1 = 1#1), ∀ a, (k0_off95 v231) a + S1x1024x128.size a ≤ S1024x1024x128.size a) ∧
  (∀ (k0_h7 : k0_cond7 v1 = 1#1), ∀ (hinb : ∀ a, (k0_off95 v231) a + S1x1024x128.size a ≤ S1024x1024x128.size a), (Rect.unit (s := S1024x1024x128) (k0_off95 v231) S1x1024x128.size hinb).WholeWords (EltTy.packing .fp8e4m3))
theorem k0_off95_inb : ∀ (v1 : BitVec 32) (v231 : BitVec 32) (k0_hw21 : k0_chk21 v1 v231), ∀ (k0_h7 : k0_cond7 v1 = 1#1), ∀ a, (k0_off95 v231) a + S1x1024x128.size a ≤ S1024x1024x128.size a := fun v1 v231 k0_hw21 k0_h7 => k0_hw21.1 k0_h7
theorem k0_off95_wordsfp8e4m3 : ∀ (v1 : BitVec 32) (v231 : BitVec 32) (k0_hw21 : k0_chk21 v1 v231), ∀ (k0_h7 : k0_cond7 v1 = 1#1), (Rect.unit (s := S1024x1024x128) (k0_off95 v231) S1x1024x128.size (k0_off95_inb v1 v231 k0_hw21 k0_h7)).WholeWords (EltTy.packing .fp8e4m3) := fun v1 v231 k0_hw21 k0_h7 => k0_hw21.2 k0_h7 (k0_off95_inb v1 v231 k0_hw21 k0_h7)

def k0_mult13 (v0 : BitVec 32) : BitVec 32 :=
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  v282
def k0_cond12 (v0 : BitVec 32) (k0_t28 : Fin (k0_t28_loop v0).trips) : BitVec 1 :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c1_i32_74 : BitVec 32 := 1#32
  let v177 : BitVec 32 := Scalar.subi v19 c1_i32_74
  let v178 : BitVec 1 := Scalar.cmpi .eq arg21 v177
  let v179 : BitVec 32 := Scalar.extui v178
  let c0_i32_75 : BitVec 32 := 0#32
  let v180 : BitVec 1 := Scalar.cmpi .ne v179 c0_i32_75
  v180

def k0_off96 (v0 : BitVec 32) (k0_t28 : Fin (k0_t28_loop v0).trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  let v284 : Index := Scalar.indexCast v169
  let c1024_i32_94 : BitVec 32 := 1024#32
  let c0_i32_95 : BitVec 32 := 0#32
  let v228 : BitVec 1 := Scalar.cmpi .eq c1024_i32_94 c0_i32_95
  let c1_i32_96 : BitVec 32 := 1#32
  let v229 : BitVec 32 := Scalar.select v228 c1_i32_96 c1024_i32_94
  let v230 : BitVec 32 := Scalar.remsi v0 v229
  let c0_i32_98 : BitVec 32 := 0#32
  let v232 : BitVec 1 := Scalar.cmpi .slt v230 c0_i32_98
  let c0_i32_99 : BitVec 32 := 0#32
  let v233 : BitVec 1 := Scalar.cmpi .slt v229 c0_i32_99
  let v234 : BitVec 1 := Scalar.xori v232 v233
  let c0_i32_97 : BitVec 32 := 0#32
  let v231 : BitVec 1 := Scalar.cmpi .ne v230 c0_i32_97
  let v235 : BitVec 1 := Scalar.andi v234 v231
  let v236 : BitVec 32 := Scalar.addi v230 v229
  let v237 : BitVec 32 := Scalar.select v235 v236 v230
  let c0_i32_100 : BitVec 32 := 0#32
  let v239 : BitVec 1 := Scalar.cmpi .sgt v237 c0_i32_100
  let v240 : BitVec 32 := Scalar.extui v239
  let c0_i32_101 : BitVec 32 := 0#32
  let v241 : BitVec 1 := Scalar.cmpi .slt v237 c0_i32_101
  let v242 : BitVec 32 := Scalar.extui v241
  let v243 : BitVec 32 := Scalar.subi v240 v242
  let c128_i32 : BitVec 32 := 128#32
  let c0_i32_102 : BitVec 32 := 0#32
  let v244 : BitVec 1 := Scalar.cmpi .sgt c128_i32 c0_i32_102
  let v245 : BitVec 32 := Scalar.extui v244
  let c0_i32_103 : BitVec 32 := 0#32
  let v246 : BitVec 1 := Scalar.cmpi .slt c128_i32 c0_i32_103
  let v247 : BitVec 32 := Scalar.extui v246
  let v248 : BitVec 32 := Scalar.subi v245 v247
  let v249 : BitVec 1 := Scalar.cmpi .ne v243 v248
  let v250 : BitVec 32 := Scalar.remsi v237 c128_i32
  let c0_i32_104 : BitVec 32 := 0#32
  let v251 : BitVec 1 := Scalar.cmpi .ne v250 c0_i32_104
  let v252 : BitVec 1 := Scalar.andi v249 v251
  let v238 : BitVec 32 := Scalar.divsi v237 c128_i32
  let c1_i32_105 : BitVec 32 := 1#32
  let v253 : BitVec 32 := Scalar.subi v238 c1_i32_105
  let v254 : BitVec 32 := Scalar.select v252 v253 v238
  let v285 : Index := Scalar.indexCast v254
  let c128_i32_106 : BitVec 32 := 128#32
  let c0_i32_107 : BitVec 32 := 0#32
  let v255 : BitVec 1 := Scalar.cmpi .eq c128_i32_106 c0_i32_107
  let c1_i32_108 : BitVec 32 := 1#32
  let v256 : BitVec 32 := Scalar.select v255 c1_i32_108 c128_i32_106
  let v257 : BitVec 32 := Scalar.remsi v237 v256
  let c0_i32_110 : BitVec 32 := 0#32
  let v259 : BitVec 1 := Scalar.cmpi .slt v257 c0_i32_110
  let c0_i32_111 : BitVec 32 := 0#32
  let v260 : BitVec 1 := Scalar.cmpi .slt v256 c0_i32_111
  let v261 : BitVec 1 := Scalar.xori v259 v260
  let c0_i32_109 : BitVec 32 := 0#32
  let v258 : BitVec 1 := Scalar.cmpi .ne v257 c0_i32_109
  let v262 : BitVec 1 := Scalar.andi v261 v258
  let v263 : BitVec 32 := Scalar.addi v257 v256
  let v264 : BitVec 32 := Scalar.select v262 v263 v257
  let c0_i32_113 : BitVec 32 := 0#32
  let v266 : BitVec 1 := Scalar.cmpi .sgt v264 c0_i32_113
  let v267 : BitVec 32 := Scalar.extui v266
  let c0_i32_114 : BitVec 32 := 0#32
  let v268 : BitVec 1 := Scalar.cmpi .slt v264 c0_i32_114
  let v269 : BitVec 32 := Scalar.extui v268
  let v270 : BitVec 32 := Scalar.subi v267 v269
  let c4_i32_112 : BitVec 32 := 4#32
  let c0_i32_115 : BitVec 32 := 0#32
  let v271 : BitVec 1 := Scalar.cmpi .sgt c4_i32_112 c0_i32_115
  let v272 : BitVec 32 := Scalar.extui v271
  let c0_i32_116 : BitVec 32 := 0#32
  let v273 : BitVec 1 := Scalar.cmpi .slt c4_i32_112 c0_i32_116
  let v274 : BitVec 32 := Scalar.extui v273
  let v275 : BitVec 32 := Scalar.subi v272 v274
  let v276 : BitVec 1 := Scalar.cmpi .ne v270 v275
  let v277 : BitVec 32 := Scalar.remsi v264 c4_i32_112
  let c0_i32_117 : BitVec 32 := 0#32
  let v278 : BitVec 1 := Scalar.cmpi .ne v277 c0_i32_117
  let v279 : BitVec 1 := Scalar.andi v276 v278
  let v265 : BitVec 32 := Scalar.divsi v264 c4_i32_112
  let c1_i32_118 : BitVec 32 := 1#32
  let v280 : BitVec 32 := Scalar.subi v265 c1_i32_118
  let v281 : BitVec 32 := Scalar.select v279 v280 v265
  let c32_i32_119 : BitVec 32 := 32#32
  let v282 : BitVec 32 := Scalar.muli v281 c32_i32_119
  let v283 : BitVec 32 := v282
  let v286 : Index := Scalar.indexCast v283
  let c0_120 : Index := 0#32
  ![v284.toNat, v285.toNat, v286.toNat, 0]
def k0_mult14 (v0 : BitVec 32) : BitVec 32 :=
  let c1024_i32_135 : BitVec 32 := 1024#32
  let c0_i32_136 : BitVec 32 := 0#32
  let v334 : BitVec 1 := Scalar.cmpi .eq c1024_i32_135 c0_i32_136
  let c1_i32_137 : BitVec 32 := 1#32
  let v335 : BitVec 32 := Scalar.select v334 c1_i32_137 c1024_i32_135
  let v336 : BitVec 32 := Scalar.remsi v0 v335
  let c0_i32_139 : BitVec 32 := 0#32
  let v338 : BitVec 1 := Scalar.cmpi .slt v336 c0_i32_139
  let c0_i32_140 : BitVec 32 := 0#32
  let v339 : BitVec 1 := Scalar.cmpi .slt v335 c0_i32_140
  let v340 : BitVec 1 := Scalar.xori v338 v339
  let c0_i32_138 : BitVec 32 := 0#32
  let v337 : BitVec 1 := Scalar.cmpi .ne v336 c0_i32_138
  let v341 : BitVec 1 := Scalar.andi v340 v337
  let v342 : BitVec 32 := Scalar.addi v336 v335
  let v343 : BitVec 32 := Scalar.select v341 v342 v336
  let c128_i32_148 : BitVec 32 := 128#32
  let c0_i32_149 : BitVec 32 := 0#32
  let v361 : BitVec 1 := Scalar.cmpi .eq c128_i32_148 c0_i32_149
  let c1_i32_150 : BitVec 32 := 1#32
  let v362 : BitVec 32 := Scalar.select v361 c1_i32_150 c128_i32_148
  let v363 : BitVec 32 := Scalar.remsi v343 v362
  let c0_i32_152 : BitVec 32 := 0#32
  let v365 : BitVec 1 := Scalar.cmpi .slt v363 c0_i32_152
  let c0_i32_153 : BitVec 32 := 0#32
  let v366 : BitVec 1 := Scalar.cmpi .slt v362 c0_i32_153
  let v367 : BitVec 1 := Scalar.xori v365 v366
  let c0_i32_151 : BitVec 32 := 0#32
  let v364 : BitVec 1 := Scalar.cmpi .ne v363 c0_i32_151
  let v368 : BitVec 1 := Scalar.andi v367 v364
  let v369 : BitVec 32 := Scalar.addi v363 v362
  let v370 : BitVec 32 := Scalar.select v368 v369 v363
  let c0_i32_155 : BitVec 32 := 0#32
  let v372 : BitVec 1 := Scalar.cmpi .sgt v370 c0_i32_155
  let v373 : BitVec 32 := Scalar.extui v372
  let c0_i32_156 : BitVec 32 := 0#32
  let v374 : BitVec 1 := Scalar.cmpi .slt v370 c0_i32_156
  let v375 : BitVec 32 := Scalar.extui v374
  let v376 : BitVec 32 := Scalar.subi v373 v375
  let c4_i32_154 : BitVec 32 := 4#32
  let c0_i32_157 : BitVec 32 := 0#32
  let v377 : BitVec 1 := Scalar.cmpi .sgt c4_i32_154 c0_i32_157
  let v378 : BitVec 32 := Scalar.extui v377
  let c0_i32_158 : BitVec 32 := 0#32
  let v379 : BitVec 1 := Scalar.cmpi .slt c4_i32_154 c0_i32_158
  let v380 : BitVec 32 := Scalar.extui v379
  let v381 : BitVec 32 := Scalar.subi v378 v380
  let v382 : BitVec 1 := Scalar.cmpi .ne v376 v381
  let v383 : BitVec 32 := Scalar.remsi v370 c4_i32_154
  let c0_i32_159 : BitVec 32 := 0#32
  let v384 : BitVec 1 := Scalar.cmpi .ne v383 c0_i32_159
  let v385 : BitVec 1 := Scalar.andi v382 v384
  let v371 : BitVec 32 := Scalar.divsi v370 c4_i32_154
  let c1_i32_160 : BitVec 32 := 1#32
  let v386 : BitVec 32 := Scalar.subi v371 c1_i32_160
  let v387 : BitVec 32 := Scalar.select v385 v386 v371
  let c32_i32_161 : BitVec 32 := 32#32
  let v388 : BitVec 32 := Scalar.muli v387 c32_i32_161
  v388
@[reducible] def k0_t33_loop : Scf.Loop 32 :=
  let c0_i32_78 : BitVec 32 := 0#32
  let c16_i32_79 : BitVec 32 := 16#32
  let v184 : BitVec 32 := Scalar.addi c0_i32_78 c16_i32_79
  let c1_i32_80 : BitVec 32 := 1#32
  ⟨c0_i32_78, v184, c1_i32_80⟩
def k0_off97 (v0 : BitVec 32) (k0_t28 : Fin (k0_t28_loop v0).trips) (k0_t33 : Fin k0_t33_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  let v233 : Index := Scalar.indexCast v169
  let c0_i32_78 : BitVec 32 := 0#32
  let c1_i32_80 : BitVec 32 := 1#32
  let arg25 : BitVec 32 := Scf.iv c0_i32_78 c1_i32_80 k0_t33
  let c128_i32 : BitVec 32 := 128#32
  let v228 : BitVec 32 := Scalar.muli arg25 c128_i32
  let c256_i32 : BitVec 32 := 256#32
  let v229 : BitVec 32 := Scalar.divsi v228 c256_i32
  let v234 : Index := Scalar.indexCast v229
  let c128_i32_94 : BitVec 32 := 128#32
  let v230 : BitVec 32 := Scalar.muli arg25 c128_i32_94
  let c256_i32_95 : BitVec 32 := 256#32
  let v231 : BitVec 32 := Scalar.remsi v230 c256_i32_95
  let c4_i32_96 : BitVec 32 := 4#32
  let v232 : BitVec 32 := Scalar.muli v231 c4_i32_96
  let v235 : Index := Scalar.indexCast v232
  let c0_97 : Index := 0#32
  ![v233.toNat, v234.toNat, v235.toNat, 0]
def k0_mult15 (k0_t33 : Fin k0_t33_loop.trips) : BitVec 32 :=
  let c0_i32_78 : BitVec 32 := 0#32
  let c1_i32_80 : BitVec 32 := 1#32
  let arg25 : BitVec 32 := Scf.iv c0_i32_78 c1_i32_80 k0_t33
  let c256_i32_113 : BitVec 32 := 256#32
  let v293 : BitVec 32 := Scalar.muli arg25 c256_i32_113
  v293
def k0_off98 (k0_t33 : Fin k0_t33_loop.trips) : Fin 2 → Nat :=
  let c0_114 : Index := 0#32
  let c0_i32_78 : BitVec 32 := 0#32
  let c1_i32_80 : BitVec 32 := 1#32
  let arg25 : BitVec 32 := Scf.iv c0_i32_78 c1_i32_80 k0_t33
  let c256_i32_113 : BitVec 32 := 256#32
  let v293 : BitVec 32 := Scalar.muli arg25 c256_i32_113
  let v294 : BitVec 32 := v293
  let v295 : Index := Scalar.indexCast v294
  ![0, v295.toNat]
@[reducible] def k0_t34_loop : Scf.Loop 32 :=
  let c0_i32_90 : BitVec 32 := 0#32
  let c16_i32_91 : BitVec 32 := 16#32
  let v203 : BitVec 32 := Scalar.addi c0_i32_90 c16_i32_91
  let c1_i32_92 : BitVec 32 := 1#32
  ⟨c0_i32_90, v203, c1_i32_92⟩
def k0_mult16 (k0_t34 : Fin k0_t34_loop.trips) : BitVec 32 :=
  let c0_i32_90 : BitVec 32 := 0#32
  let c1_i32_92 : BitVec 32 := 1#32
  let arg25 : BitVec 32 := Scf.iv c0_i32_90 c1_i32_92 k0_t34
  let c256_i32 : BitVec 32 := 256#32
  let v228 : BitVec 32 := Scalar.muli arg25 c256_i32
  v228
def k0_off99 (k0_t34 : Fin k0_t34_loop.trips) : Fin 2 → Nat :=
  let c0_94 : Index := 0#32
  let c0_i32_90 : BitVec 32 := 0#32
  let c1_i32_92 : BitVec 32 := 1#32
  let arg25 : BitVec 32 := Scf.iv c0_i32_90 c1_i32_92 k0_t34
  let c256_i32 : BitVec 32 := 256#32
  let v228 : BitVec 32 := Scalar.muli arg25 c256_i32
  let v229 : BitVec 32 := v228
  let v230 : Index := Scalar.indexCast v229
  ![0, v230.toNat]
def k0_off100 (v0 : BitVec 32) (k0_t28 : Fin (k0_t28_loop v0).trips) (k0_t34 : Fin k0_t34_loop.trips) : Fin 4 → Nat :=
  let c0_i32_52 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v0 c1024_i32
  let c0_i32_3 : BitVec 32 := 0#32
  let v15 : BitVec 1 := Scalar.cmpi .ne v14 c0_i32_3
  let v16 : BitVec 1 := Scalar.andi v13 v15
  let v2 : BitVec 32 := Scalar.divsi v0 c1024_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v128 : BitVec 32 := Scalar.subi v19 c0_i32_52
  let c1_i32_53 : BitVec 32 := 1#32
  let v130 : BitVec 32 := Scalar.divsi v128 c1_i32_53
  let v131 : BitVec 32 := Scalar.muli v130 c1_i32_53
  let v132 : BitVec 32 := Scalar.addi c0_i32_52 v131
  let c1_i32_55 : BitVec 32 := 1#32
  let arg21 : BitVec 32 := Scf.iv v132 c1_i32_55 k0_t28
  let c6_i32 : BitVec 32 := 6#32
  let v169 : BitVec 32 := Scalar.remsi arg21 c6_i32
  let v250 : Index := Scalar.indexCast v169
  let c0_i32_90 : BitVec 32 := 0#32
  let c1_i32_92 : BitVec 32 := 1#32
  let arg25 : BitVec 32 := Scf.iv c0_i32_90 c1_i32_92 k0_t34
  let c128_i32 : BitVec 32 := 128#32
  let v245 : BitVec 32 := Scalar.muli arg25 c128_i32
  let c256_i32_95 : BitVec 32 := 256#32
  let v246 : BitVec 32 := Scalar.divsi v245 c256_i32_95
  let v251 : Index := Scalar.indexCast v246
  let c128_i32_96 : BitVec 32 := 128#32
  let v247 : BitVec 32 := Scalar.muli arg25 c128_i32_96
  let c256_i32_97 : BitVec 32 := 256#32
  let v248 : BitVec 32 := Scalar.remsi v247 c256_i32_97
  let c4_i32_98 : BitVec 32 := 4#32
  let v249 : BitVec 32 := Scalar.muli v248 c4_i32_98
  let v252 : Index := Scalar.indexCast v249
  let c0_99 : Index := 0#32
  ![v250.toNat, v251.toNat, v252.toNat, 0]

def k0_chk3_0 (v0 : BitVec 32) (v1 : BitVec 32) : Prop :=
  (∀ (k0_h1 : k0_cond1 v1 = 1#1), (k0_t4_loop v0).OK) ∧
  (∀ (k0_t4 : Fin (k0_t4_loop v0).trips) (k0_t5 : Fin k0_t5_loop.trips), ∀ (k0_h1 : k0_cond1 v1 = 1#1), ∀ (k0_h3 : k0_cond3 v0 k0_t4 = 1#1), ∀ a, (k0_off9 v0 k0_t4 k0_t5) a + S1.size a ≤ S1024.size a) ∧
  (∀ k0_t4 : Fin (k0_t4_loop v0).trips, ∀ (k0_h1 : k0_cond1 v1 = 1#1), ∀ (k0_h3 : k0_cond3 v0 k0_t4 = 1#1), ∀ a, (k0_off10 v0 k0_t4) a + S1.size a ≤ S6.size a) ∧
  (∀ (k0_t4 : Fin (k0_t4_loop v0).trips) (k0_t5 : Fin k0_t5_loop.trips), ∀ (k0_h1 : k0_cond1 v1 = 1#1), ∀ (k0_h3 : k0_cond3 v0 k0_t4 = 1#1), ∀ a, (k0_off11 v0 k0_t4 k0_t5) a + S1x1x1024x128.size a ≤ S6x8x1024x128.size a) ∧
  (∀ (k0_t4 : Fin (k0_t4_loop v0).trips) (k0_t5 : Fin k0_t5_loop.trips), ∀ (k0_h1 : k0_cond1 v1 = 1#1), ∀ (k0_h3 : k0_cond3 v0 k0_t4 = 1#1), ∀ (hinb : ∀ a, (k0_off11 v0 k0_t4 k0_t5) a + S1x1x1024x128.size a ≤ S6x8x1024x128.size a), (Rect.unit (s := S6x8x1024x128) (k0_off11 v0 k0_t4 k0_t5) S1x1x1024x128.size hinb).WholeWords (EltTy.packing .fp8e4m3)) ∧
  (∀ (k0_t4 : Fin (k0_t4_loop v0).trips) (k0_t6 : Fin k0_t6_loop.trips), ∀ (k0_h1 : k0_cond1 v1 = 1#1), ∀ (k0_h3 : k0_cond3 v0 k0_t4 = 1#1), ∀ a, (k0_off13 v0 k0_t4 k0_t6) a + S1.size a ≤ S1024.size a) ∧
  (∀ k0_t4 : Fin (k0_t4_loop v0).trips, ∀ (k0_h1 : k0_cond1 v1 = 1#1), ∀ (k0_h3 : k0_cond3 v0 k0_t4 = 1#1), ∀ a, (k0_off14 v0 k0_t4) a + S1.size a ≤ S6.size a) ∧
  (∀ (k0_t4 : Fin (k0_t4_loop v0).trips) (k0_t6 : Fin k0_t6_loop.trips), ∀ (k0_h1 : k0_cond1 v1 = 1#1), ∀ (k0_h3 : k0_cond3 v0 k0_t4 = 1#1), ∀ a, (k0_off15 v0 k0_t4 k0_t6) a + S1x1x1024x128.size a ≤ S6x8x1024x128.size a) ∧
  (∀ (k0_t4 : Fin (k0_t4_loop v0).trips) (k0_t6 : Fin k0_t6_loop.trips), ∀ (k0_h1 : k0_cond1 v1 = 1#1), ∀ (k0_h3 : k0_cond3 v0 k0_t4 = 1#1), ∀ (hinb : ∀ a, (k0_off15 v0 k0_t4 k0_t6) a + S1x1x1024x128.size a ≤ S6x8x1024x128.size a), (Rect.unit (s := S6x8x1024x128) (k0_off15 v0 k0_t4 k0_t6) S1x1x1024x128.size hinb).WholeWords (EltTy.packing .fp8e4m3)) ∧
  (∀ (k0_t4 : Fin (k0_t4_loop v0).trips) (k0_t7 : Fin k0_t7_loop.trips), ∀ (k0_h1 : k0_cond1 v1 = 1#1), ∀ a, (k0_off17 v0 k0_t4 k0_t7) a + S1.size a ≤ S1024.size a) ∧
  (∀ k0_t4 : Fin (k0_t4_loop v0).trips, ∀ (k0_h1 : k0_cond1 v1 = 1#1), ∀ a, (k0_off18 v0 k0_t4) a + S1.size a ≤ S6.size a) ∧
  (∀ (k0_t4 : Fin (k0_t4_loop v0).trips) (k0_t7 : Fin k0_t7_loop.trips), ∀ (k0_h1 : k0_cond1 v1 = 1#1), ∀ a, (k0_off19 v0 k0_t4 k0_t7) a + S1x1x1024x128.size a ≤ S6x8x1024x128.size a) ∧
  (∀ (k0_t4 : Fin (k0_t4_loop v0).trips) (k0_t7 : Fin k0_t7_loop.trips), ∀ (k0_h1 : k0_cond1 v1 = 1#1), ∀ (hinb : ∀ a, (k0_off19 v0 k0_t4 k0_t7) a + S1x1x1024x128.size a ≤ S6x8x1024x128.size a), (Rect.unit (s := S6x8x1024x128) (k0_off19 v0 k0_t4 k0_t7) S1x1x1024x128.size hinb).WholeWords (EltTy.packing .fp8e4m3)) ∧
  (∀ (k0_t4 : Fin (k0_t4_loop v0).trips) (k0_t8 : Fin k0_t8_loop.trips), ∀ (k0_h1 : k0_cond1 v1 = 1#1), ∀ a, (k0_off21 v0 k0_t4 k0_t8) a + S1.size a ≤ S1024.size a) ∧
  (∀ k0_t4 : Fin (k0_t4_loop v0).trips, ∀ (k0_h1 : k0_cond1 v1 = 1#1), ∀ a, (k0_off22 v0 k0_t4) a + S1.size a ≤ S6.size a) ∧
  (∀ (k0_t4 : Fin (k0_t4_loop v0).trips) (k0_t8 : Fin k0_t8_loop.trips), ∀ (k0_h1 : k0_cond1 v1 = 1#1), ∀ a, (k0_off23 v0 k0_t4 k0_t8) a + S1x1x1024x128.size a ≤ S6x8x1024x128.size a) ∧
  (∀ (k0_t4 : Fin (k0_t4_loop v0).trips) (k0_t8 : Fin k0_t8_loop.trips), ∀ (k0_h1 : k0_cond1 v1 = 1#1), ∀ (hinb : ∀ a, (k0_off23 v0 k0_t4 k0_t8) a + S1x1x1024x128.size a ≤ S6x8x1024x128.size a), (Rect.unit (s := S6x8x1024x128) (k0_off23 v0 k0_t4 k0_t8) S1x1x1024x128.size hinb).WholeWords (EltTy.packing .fp8e4m3)) ∧
  (∀ k0_t4 : Fin (k0_t4_loop v0).trips, ∀ (k0_h1 : k0_cond1 v1 = 1#1), ∀ (k0_h4 : k0_cond4 v0 k0_t4 = 1#1), 32 ∣ (k0_mult1 v0).toNat) ∧
  (∀ k0_t4 : Fin (k0_t4_loop v0).trips, ∀ (k0_h1 : k0_cond1 v1 = 1#1), ∀ (k0_h4 : k0_cond4 v0 k0_t4 = 1#1), ∀ a, (k0_off25 v0 k0_t4) a + S1x1x32x128.size a ≤ S6x8x1024x128.size a) ∧
  (∀ k0_t4 : Fin (k0_t4_loop v0).trips, ∀ (k0_h1 : k0_cond1 v1 = 1#1), ∀ (k0_h4 : k0_cond4 v0 k0_t4 = 1#1), ∀ (hinb : ∀ a, (k0_off25 v0 k0_t4) a + S1x1x32x128.size a ≤ S6x8x1024x128.size a), (Rect.unit (s := S6x8x1024x128) (k0_off25 v0 k0_t4) S1x1x32x128.size hinb).PackedRows (EltTy.packing .fp8e4m3)) ∧
  (∀ k0_t4 : Fin (k0_t4_loop v0).trips, ∀ (k0_h1 : k0_cond1 v1 = 1#1), ∀ (k0_h4 : k0_cond4 v0 k0_t4 = 1#1), 32 ∣ (k0_mult2 v0).toNat) ∧
  (∀ (k0_t4 : Fin (k0_t4_loop v0).trips) (k0_t9 : Fin k0_t9_loop.trips), ∀ (k0_h1 : k0_cond1 v1 = 1#1), ∀ a, (k0_off26 v0 k0_t4 k0_t9) a + S1x1x512x128.size a ≤ S6x8x1024x128.size a) ∧
  (∀ (k0_t4 : Fin (k0_t4_loop v0).trips) (k0_t10 : Fin k0_t10_loop.trips), ∀ (k0_h1 : k0_cond1 v1 = 1#1), ∀ a, (k0_off29 v0 k0_t4 k0_t10) a + S1x1x512x128.size a ≤ S6x8x1024x128.size a) ∧
  (∀ (k0_h1 : k0_cond1 v1 = 1#1), (k0_t11_loop v0).OK) ∧
  (∀ (k0_t11 : Fin (k0_t11_loop v0).trips) (k0_t12 : Fin k0_t12_loop.trips), ∀ (k0_h1 : k0_cond1 v1 = 1#1), ∀ (k0_h5 : k0_cond5 v0 k0_t11 = 1#1), ∀ a, (k0_off30 v0 k0_t11 k0_t12) a + S1.size a ≤ S1024.size a) ∧
  (∀ k0_t11 : Fin (k0_t11_loop v0).trips, ∀ (k0_h1 : k0_cond1 v1 = 1#1), ∀ (k0_h5 : k0_cond5 v0 k0_t11 = 1#1), ∀ a, (k0_off31 v0 k0_t11) a + S1.size a ≤ S6.size a) ∧
  (∀ (k0_t11 : Fin (k0_t11_loop v0).trips) (k0_t12 : Fin k0_t12_loop.trips), ∀ (k0_h1 : k0_cond1 v1 = 1#1), ∀ (k0_h5 : k0_cond5 v0 k0_t11 = 1#1), ∀ a, (k0_off32 v0 k0_t11 k0_t12) a + S1x1x1024x128.size a ≤ S6x8x1024x128.size a) ∧
  (∀ (k0_t11 : Fin (k0_t11_loop v0).trips) (k0_t12 : Fin k0_t12_loop.trips), ∀ (k0_h1 : k0_cond1 v1 = 1#1), ∀ (k0_h5 : k0_cond5 v0 k0_t11 = 1#1), ∀ (hinb : ∀ a, (k0_off32 v0 k0_t11 k0_t12) a + S1x1x1024x128.size a ≤ S6x8x1024x128.size a), (Rect.unit (s := S6x8x1024x128) (k0_off32 v0 k0_t11 k0_t12) S1x1x1024x128.size hinb).WholeWords (EltTy.packing .fp8e4m3)) ∧
  (∀ (k0_t11 : Fin (k0_t11_loop v0).trips) (k0_t13 : Fin k0_t13_loop.trips), ∀ (k0_h1 : k0_cond1 v1 = 1#1), ∀ (k0_h5 : k0_cond5 v0 k0_t11 = 1#1), ∀ a, (k0_off34 v0 k0_t11 k0_t13) a + S1.size a ≤ S1024.size a) ∧
  (∀ k0_t11 : Fin (k0_t11_loop v0).trips, ∀ (k0_h1 : k0_cond1 v1 = 1#1), ∀ (k0_h5 : k0_cond5 v0 k0_t11 = 1#1), ∀ a, (k0_off35 v0 k0_t11) a + S1.size a ≤ S6.size a) ∧
  (∀ (k0_t11 : Fin (k0_t11_loop v0).trips) (k0_t13 : Fin k0_t13_loop.trips), ∀ (k0_h1 : k0_cond1 v1 = 1#1), ∀ (k0_h5 : k0_cond5 v0 k0_t11 = 1#1), ∀ a, (k0_off36 v0 k0_t11 k0_t13) a + S1x1x1024x128.size a ≤ S6x8x1024x128.size a) ∧
  (∀ (k0_t11 : Fin (k0_t11_loop v0).trips) (k0_t13 : Fin k0_t13_loop.trips), ∀ (k0_h1 : k0_cond1 v1 = 1#1), ∀ (k0_h5 : k0_cond5 v0 k0_t11 = 1#1), ∀ (hinb : ∀ a, (k0_off36 v0 k0_t11 k0_t13) a + S1x1x1024x128.size a ≤ S6x8x1024x128.size a), (Rect.unit (s := S6x8x1024x128) (k0_off36 v0 k0_t11 k0_t13) S1x1x1024x128.size hinb).WholeWords (EltTy.packing .fp8e4m3))
def k0_chk3_1 (v0 : BitVec 32) (v1 : BitVec 32) : Prop :=
  (∀ (k0_t11 : Fin (k0_t11_loop v0).trips) (k0_t14 : Fin k0_t14_loop.trips), ∀ (k0_h1 : k0_cond1 v1 = 1#1), ∀ a, (k0_off38 v0 k0_t11 k0_t14) a + S1.size a ≤ S1024.size a) ∧
  (∀ k0_t11 : Fin (k0_t11_loop v0).trips, ∀ (k0_h1 : k0_cond1 v1 = 1#1), ∀ a, (k0_off39 v0 k0_t11) a + S1.size a ≤ S6.size a) ∧
  (∀ (k0_t11 : Fin (k0_t11_loop v0).trips) (k0_t14 : Fin k0_t14_loop.trips), ∀ (k0_h1 : k0_cond1 v1 = 1#1), ∀ a, (k0_off40 v0 k0_t11 k0_t14) a + S1x1x1024x128.size a ≤ S6x8x1024x128.size a) ∧
  (∀ (k0_t11 : Fin (k0_t11_loop v0).trips) (k0_t14 : Fin k0_t14_loop.trips), ∀ (k0_h1 : k0_cond1 v1 = 1#1), ∀ (hinb : ∀ a, (k0_off40 v0 k0_t11 k0_t14) a + S1x1x1024x128.size a ≤ S6x8x1024x128.size a), (Rect.unit (s := S6x8x1024x128) (k0_off40 v0 k0_t11 k0_t14) S1x1x1024x128.size hinb).WholeWords (EltTy.packing .fp8e4m3)) ∧
  (∀ (k0_t11 : Fin (k0_t11_loop v0).trips) (k0_t15 : Fin k0_t15_loop.trips), ∀ (k0_h1 : k0_cond1 v1 = 1#1), ∀ a, (k0_off42 v0 k0_t11 k0_t15) a + S1.size a ≤ S1024.size a) ∧
  (∀ k0_t11 : Fin (k0_t11_loop v0).trips, ∀ (k0_h1 : k0_cond1 v1 = 1#1), ∀ a, (k0_off43 v0 k0_t11) a + S1.size a ≤ S6.size a) ∧
  (∀ (k0_t11 : Fin (k0_t11_loop v0).trips) (k0_t15 : Fin k0_t15_loop.trips), ∀ (k0_h1 : k0_cond1 v1 = 1#1), ∀ a, (k0_off44 v0 k0_t11 k0_t15) a + S1x1x1024x128.size a ≤ S6x8x1024x128.size a) ∧
  (∀ (k0_t11 : Fin (k0_t11_loop v0).trips) (k0_t15 : Fin k0_t15_loop.trips), ∀ (k0_h1 : k0_cond1 v1 = 1#1), ∀ (hinb : ∀ a, (k0_off44 v0 k0_t11 k0_t15) a + S1x1x1024x128.size a ≤ S6x8x1024x128.size a), (Rect.unit (s := S6x8x1024x128) (k0_off44 v0 k0_t11 k0_t15) S1x1x1024x128.size hinb).WholeWords (EltTy.packing .fp8e4m3)) ∧
  (∀ k0_t11 : Fin (k0_t11_loop v0).trips, ∀ (k0_h1 : k0_cond1 v1 = 1#1), ∀ (k0_h6 : k0_cond6 v0 k0_t11 = 1#1), 32 ∣ (k0_mult5 v0).toNat) ∧
  (∀ k0_t11 : Fin (k0_t11_loop v0).trips, ∀ (k0_h1 : k0_cond1 v1 = 1#1), ∀ (k0_h6 : k0_cond6 v0 k0_t11 = 1#1), ∀ a, (k0_off46 v0 k0_t11) a + S1x1x32x128.size a ≤ S6x8x1024x128.size a) ∧
  (∀ k0_t11 : Fin (k0_t11_loop v0).trips, ∀ (k0_h1 : k0_cond1 v1 = 1#1), ∀ (k0_h6 : k0_cond6 v0 k0_t11 = 1#1), ∀ (hinb : ∀ a, (k0_off46 v0 k0_t11) a + S1x1x32x128.size a ≤ S6x8x1024x128.size a), (Rect.unit (s := S6x8x1024x128) (k0_off46 v0 k0_t11) S1x1x32x128.size hinb).PackedRows (EltTy.packing .fp8e4m3)) ∧
  (∀ k0_t11 : Fin (k0_t11_loop v0).trips, ∀ (k0_h1 : k0_cond1 v1 = 1#1), ∀ (k0_h6 : k0_cond6 v0 k0_t11 = 1#1), 32 ∣ (k0_mult6 v0).toNat) ∧
  (∀ (k0_t11 : Fin (k0_t11_loop v0).trips) (k0_t16 : Fin k0_t16_loop.trips), ∀ (k0_h1 : k0_cond1 v1 = 1#1), ∀ a, (k0_off47 v0 k0_t11 k0_t16) a + S1x1x512x128.size a ≤ S6x8x1024x128.size a) ∧
  (∀ (k0_t11 : Fin (k0_t11_loop v0).trips) (k0_t17 : Fin k0_t17_loop.trips), ∀ (k0_h1 : k0_cond1 v1 = 1#1), ∀ a, (k0_off50 v0 k0_t11 k0_t17) a + S1x1x512x128.size a ≤ S6x8x1024x128.size a) ∧
  (∀ (k0_h7 : k0_cond7 v1 = 1#1), (k0_t21_loop v0).OK) ∧
  (∀ (k0_t21 : Fin (k0_t21_loop v0).trips) (k0_t22 : Fin k0_t22_loop.trips), ∀ (k0_h7 : k0_cond7 v1 = 1#1), ∀ (k0_h9 : k0_cond9 v0 k0_t21 = 1#1), ∀ a, (k0_off59 v0 k0_t21 k0_t22) a + S1.size a ≤ S1024.size a) ∧
  (∀ k0_t21 : Fin (k0_t21_loop v0).trips, ∀ (k0_h7 : k0_cond7 v1 = 1#1), ∀ (k0_h9 : k0_cond9 v0 k0_t21 = 1#1), ∀ a, (k0_off60 v0 k0_t21) a + S1.size a ≤ S6.size a) ∧
  (∀ (k0_t21 : Fin (k0_t21_loop v0).trips) (k0_t22 : Fin k0_t22_loop.trips), ∀ (k0_h7 : k0_cond7 v1 = 1#1), ∀ (k0_h9 : k0_cond9 v0 k0_t21 = 1#1), ∀ a, (k0_off61 v0 k0_t21 k0_t22) a + S1x1x1024x128.size a ≤ S6x8x1024x128.size a) ∧
  (∀ (k0_t21 : Fin (k0_t21_loop v0).trips) (k0_t22 : Fin k0_t22_loop.trips), ∀ (k0_h7 : k0_cond7 v1 = 1#1), ∀ (k0_h9 : k0_cond9 v0 k0_t21 = 1#1), ∀ (hinb : ∀ a, (k0_off61 v0 k0_t21 k0_t22) a + S1x1x1024x128.size a ≤ S6x8x1024x128.size a), (Rect.unit (s := S6x8x1024x128) (k0_off61 v0 k0_t21 k0_t22) S1x1x1024x128.size hinb).WholeWords (EltTy.packing .fp8e4m3)) ∧
  (∀ (k0_t21 : Fin (k0_t21_loop v0).trips) (k0_t23 : Fin k0_t23_loop.trips), ∀ (k0_h7 : k0_cond7 v1 = 1#1), ∀ (k0_h9 : k0_cond9 v0 k0_t21 = 1#1), ∀ a, (k0_off63 v0 k0_t21 k0_t23) a + S1.size a ≤ S1024.size a) ∧
  (∀ k0_t21 : Fin (k0_t21_loop v0).trips, ∀ (k0_h7 : k0_cond7 v1 = 1#1), ∀ (k0_h9 : k0_cond9 v0 k0_t21 = 1#1), ∀ a, (k0_off64 v0 k0_t21) a + S1.size a ≤ S6.size a) ∧
  (∀ (k0_t21 : Fin (k0_t21_loop v0).trips) (k0_t23 : Fin k0_t23_loop.trips), ∀ (k0_h7 : k0_cond7 v1 = 1#1), ∀ (k0_h9 : k0_cond9 v0 k0_t21 = 1#1), ∀ a, (k0_off65 v0 k0_t21 k0_t23) a + S1x1x1024x128.size a ≤ S6x8x1024x128.size a) ∧
  (∀ (k0_t21 : Fin (k0_t21_loop v0).trips) (k0_t23 : Fin k0_t23_loop.trips), ∀ (k0_h7 : k0_cond7 v1 = 1#1), ∀ (k0_h9 : k0_cond9 v0 k0_t21 = 1#1), ∀ (hinb : ∀ a, (k0_off65 v0 k0_t21 k0_t23) a + S1x1x1024x128.size a ≤ S6x8x1024x128.size a), (Rect.unit (s := S6x8x1024x128) (k0_off65 v0 k0_t21 k0_t23) S1x1x1024x128.size hinb).WholeWords (EltTy.packing .fp8e4m3)) ∧
  (∀ (k0_t21 : Fin (k0_t21_loop v0).trips) (k0_t24 : Fin k0_t24_loop.trips), ∀ (k0_h7 : k0_cond7 v1 = 1#1), ∀ a, (k0_off67 v0 k0_t21 k0_t24) a + S1.size a ≤ S1024.size a) ∧
  (∀ k0_t21 : Fin (k0_t21_loop v0).trips, ∀ (k0_h7 : k0_cond7 v1 = 1#1), ∀ a, (k0_off68 v0 k0_t21) a + S1.size a ≤ S6.size a) ∧
  (∀ (k0_t21 : Fin (k0_t21_loop v0).trips) (k0_t24 : Fin k0_t24_loop.trips), ∀ (k0_h7 : k0_cond7 v1 = 1#1), ∀ a, (k0_off69 v0 k0_t21 k0_t24) a + S1x1x1024x128.size a ≤ S6x8x1024x128.size a) ∧
  (∀ (k0_t21 : Fin (k0_t21_loop v0).trips) (k0_t24 : Fin k0_t24_loop.trips), ∀ (k0_h7 : k0_cond7 v1 = 1#1), ∀ (hinb : ∀ a, (k0_off69 v0 k0_t21 k0_t24) a + S1x1x1024x128.size a ≤ S6x8x1024x128.size a), (Rect.unit (s := S6x8x1024x128) (k0_off69 v0 k0_t21 k0_t24) S1x1x1024x128.size hinb).WholeWords (EltTy.packing .fp8e4m3)) ∧
  (∀ (k0_t21 : Fin (k0_t21_loop v0).trips) (k0_t25 : Fin k0_t25_loop.trips), ∀ (k0_h7 : k0_cond7 v1 = 1#1), ∀ a, (k0_off71 v0 k0_t21 k0_t25) a + S1.size a ≤ S1024.size a) ∧
  (∀ k0_t21 : Fin (k0_t21_loop v0).trips, ∀ (k0_h7 : k0_cond7 v1 = 1#1), ∀ a, (k0_off72 v0 k0_t21) a + S1.size a ≤ S6.size a) ∧
  (∀ (k0_t21 : Fin (k0_t21_loop v0).trips) (k0_t25 : Fin k0_t25_loop.trips), ∀ (k0_h7 : k0_cond7 v1 = 1#1), ∀ a, (k0_off73 v0 k0_t21 k0_t25) a + S1x1x1024x128.size a ≤ S6x8x1024x128.size a) ∧
  (∀ (k0_t21 : Fin (k0_t21_loop v0).trips) (k0_t25 : Fin k0_t25_loop.trips), ∀ (k0_h7 : k0_cond7 v1 = 1#1), ∀ (hinb : ∀ a, (k0_off73 v0 k0_t21 k0_t25) a + S1x1x1024x128.size a ≤ S6x8x1024x128.size a), (Rect.unit (s := S6x8x1024x128) (k0_off73 v0 k0_t21 k0_t25) S1x1x1024x128.size hinb).WholeWords (EltTy.packing .fp8e4m3)) ∧
  (∀ k0_t21 : Fin (k0_t21_loop v0).trips, ∀ (k0_h7 : k0_cond7 v1 = 1#1), ∀ (k0_h10 : k0_cond10 v0 k0_t21 = 1#1), 32 ∣ (k0_mult9 v0).toNat)
def k0_chk3_2 (v0 : BitVec 32) (v1 : BitVec 32) : Prop :=
  (∀ k0_t21 : Fin (k0_t21_loop v0).trips, ∀ (k0_h7 : k0_cond7 v1 = 1#1), ∀ (k0_h10 : k0_cond10 v0 k0_t21 = 1#1), ∀ a, (k0_off75 v0 k0_t21) a + S1x1x32x128.size a ≤ S6x8x1024x128.size a) ∧
  (∀ k0_t21 : Fin (k0_t21_loop v0).trips, ∀ (k0_h7 : k0_cond7 v1 = 1#1), ∀ (k0_h10 : k0_cond10 v0 k0_t21 = 1#1), ∀ (hinb : ∀ a, (k0_off75 v0 k0_t21) a + S1x1x32x128.size a ≤ S6x8x1024x128.size a), (Rect.unit (s := S6x8x1024x128) (k0_off75 v0 k0_t21) S1x1x32x128.size hinb).PackedRows (EltTy.packing .fp8e4m3)) ∧
  (∀ k0_t21 : Fin (k0_t21_loop v0).trips, ∀ (k0_h7 : k0_cond7 v1 = 1#1), ∀ (k0_h10 : k0_cond10 v0 k0_t21 = 1#1), 32 ∣ (k0_mult10 v0).toNat) ∧
  (∀ (k0_t21 : Fin (k0_t21_loop v0).trips) (k0_t26 : Fin k0_t26_loop.trips), ∀ (k0_h7 : k0_cond7 v1 = 1#1), ∀ a, (k0_off76 v0 k0_t21 k0_t26) a + S1x1x512x128.size a ≤ S6x8x1024x128.size a) ∧
  (∀ (k0_t21 : Fin (k0_t21_loop v0).trips) (k0_t27 : Fin k0_t27_loop.trips), ∀ (k0_h7 : k0_cond7 v1 = 1#1), ∀ a, (k0_off79 v0 k0_t21 k0_t27) a + S1x1x512x128.size a ≤ S6x8x1024x128.size a) ∧
  (∀ (k0_h7 : k0_cond7 v1 = 1#1), (k0_t28_loop v0).OK) ∧
  (∀ (k0_t28 : Fin (k0_t28_loop v0).trips) (k0_t29 : Fin k0_t29_loop.trips), ∀ (k0_h7 : k0_cond7 v1 = 1#1), ∀ (k0_h11 : k0_cond11 v0 k0_t28 = 1#1), ∀ a, (k0_off80 v0 k0_t28 k0_t29) a + S1.size a ≤ S1024.size a) ∧
  (∀ k0_t28 : Fin (k0_t28_loop v0).trips, ∀ (k0_h7 : k0_cond7 v1 = 1#1), ∀ (k0_h11 : k0_cond11 v0 k0_t28 = 1#1), ∀ a, (k0_off81 v0 k0_t28) a + S1.size a ≤ S6.size a) ∧
  (∀ (k0_t28 : Fin (k0_t28_loop v0).trips) (k0_t29 : Fin k0_t29_loop.trips), ∀ (k0_h7 : k0_cond7 v1 = 1#1), ∀ (k0_h11 : k0_cond11 v0 k0_t28 = 1#1), ∀ a, (k0_off82 v0 k0_t28 k0_t29) a + S1x1x1024x128.size a ≤ S6x8x1024x128.size a) ∧
  (∀ (k0_t28 : Fin (k0_t28_loop v0).trips) (k0_t29 : Fin k0_t29_loop.trips), ∀ (k0_h7 : k0_cond7 v1 = 1#1), ∀ (k0_h11 : k0_cond11 v0 k0_t28 = 1#1), ∀ (hinb : ∀ a, (k0_off82 v0 k0_t28 k0_t29) a + S1x1x1024x128.size a ≤ S6x8x1024x128.size a), (Rect.unit (s := S6x8x1024x128) (k0_off82 v0 k0_t28 k0_t29) S1x1x1024x128.size hinb).WholeWords (EltTy.packing .fp8e4m3)) ∧
  (∀ (k0_t28 : Fin (k0_t28_loop v0).trips) (k0_t30 : Fin k0_t30_loop.trips), ∀ (k0_h7 : k0_cond7 v1 = 1#1), ∀ (k0_h11 : k0_cond11 v0 k0_t28 = 1#1), ∀ a, (k0_off84 v0 k0_t28 k0_t30) a + S1.size a ≤ S1024.size a) ∧
  (∀ k0_t28 : Fin (k0_t28_loop v0).trips, ∀ (k0_h7 : k0_cond7 v1 = 1#1), ∀ (k0_h11 : k0_cond11 v0 k0_t28 = 1#1), ∀ a, (k0_off85 v0 k0_t28) a + S1.size a ≤ S6.size a) ∧
  (∀ (k0_t28 : Fin (k0_t28_loop v0).trips) (k0_t30 : Fin k0_t30_loop.trips), ∀ (k0_h7 : k0_cond7 v1 = 1#1), ∀ (k0_h11 : k0_cond11 v0 k0_t28 = 1#1), ∀ a, (k0_off86 v0 k0_t28 k0_t30) a + S1x1x1024x128.size a ≤ S6x8x1024x128.size a) ∧
  (∀ (k0_t28 : Fin (k0_t28_loop v0).trips) (k0_t30 : Fin k0_t30_loop.trips), ∀ (k0_h7 : k0_cond7 v1 = 1#1), ∀ (k0_h11 : k0_cond11 v0 k0_t28 = 1#1), ∀ (hinb : ∀ a, (k0_off86 v0 k0_t28 k0_t30) a + S1x1x1024x128.size a ≤ S6x8x1024x128.size a), (Rect.unit (s := S6x8x1024x128) (k0_off86 v0 k0_t28 k0_t30) S1x1x1024x128.size hinb).WholeWords (EltTy.packing .fp8e4m3)) ∧
  (∀ (k0_t28 : Fin (k0_t28_loop v0).trips) (k0_t31 : Fin k0_t31_loop.trips), ∀ (k0_h7 : k0_cond7 v1 = 1#1), ∀ a, (k0_off88 v0 k0_t28 k0_t31) a + S1.size a ≤ S1024.size a) ∧
  (∀ k0_t28 : Fin (k0_t28_loop v0).trips, ∀ (k0_h7 : k0_cond7 v1 = 1#1), ∀ a, (k0_off89 v0 k0_t28) a + S1.size a ≤ S6.size a) ∧
  (∀ (k0_t28 : Fin (k0_t28_loop v0).trips) (k0_t31 : Fin k0_t31_loop.trips), ∀ (k0_h7 : k0_cond7 v1 = 1#1), ∀ a, (k0_off90 v0 k0_t28 k0_t31) a + S1x1x1024x128.size a ≤ S6x8x1024x128.size a) ∧
  (∀ (k0_t28 : Fin (k0_t28_loop v0).trips) (k0_t31 : Fin k0_t31_loop.trips), ∀ (k0_h7 : k0_cond7 v1 = 1#1), ∀ (hinb : ∀ a, (k0_off90 v0 k0_t28 k0_t31) a + S1x1x1024x128.size a ≤ S6x8x1024x128.size a), (Rect.unit (s := S6x8x1024x128) (k0_off90 v0 k0_t28 k0_t31) S1x1x1024x128.size hinb).WholeWords (EltTy.packing .fp8e4m3)) ∧
  (∀ (k0_t28 : Fin (k0_t28_loop v0).trips) (k0_t32 : Fin k0_t32_loop.trips), ∀ (k0_h7 : k0_cond7 v1 = 1#1), ∀ a, (k0_off92 v0 k0_t28 k0_t32) a + S1.size a ≤ S1024.size a) ∧
  (∀ k0_t28 : Fin (k0_t28_loop v0).trips, ∀ (k0_h7 : k0_cond7 v1 = 1#1), ∀ a, (k0_off93 v0 k0_t28) a + S1.size a ≤ S6.size a) ∧
  (∀ (k0_t28 : Fin (k0_t28_loop v0).trips) (k0_t32 : Fin k0_t32_loop.trips), ∀ (k0_h7 : k0_cond7 v1 = 1#1), ∀ a, (k0_off94 v0 k0_t28 k0_t32) a + S1x1x1024x128.size a ≤ S6x8x1024x128.size a) ∧
  (∀ (k0_t28 : Fin (k0_t28_loop v0).trips) (k0_t32 : Fin k0_t32_loop.trips), ∀ (k0_h7 : k0_cond7 v1 = 1#1), ∀ (hinb : ∀ a, (k0_off94 v0 k0_t28 k0_t32) a + S1x1x1024x128.size a ≤ S6x8x1024x128.size a), (Rect.unit (s := S6x8x1024x128) (k0_off94 v0 k0_t28 k0_t32) S1x1x1024x128.size hinb).WholeWords (EltTy.packing .fp8e4m3)) ∧
  (∀ k0_t28 : Fin (k0_t28_loop v0).trips, ∀ (k0_h7 : k0_cond7 v1 = 1#1), ∀ (k0_h12 : k0_cond12 v0 k0_t28 = 1#1), 32 ∣ (k0_mult13 v0).toNat) ∧
  (∀ k0_t28 : Fin (k0_t28_loop v0).trips, ∀ (k0_h7 : k0_cond7 v1 = 1#1), ∀ (k0_h12 : k0_cond12 v0 k0_t28 = 1#1), ∀ a, (k0_off96 v0 k0_t28) a + S1x1x32x128.size a ≤ S6x8x1024x128.size a) ∧
  (∀ k0_t28 : Fin (k0_t28_loop v0).trips, ∀ (k0_h7 : k0_cond7 v1 = 1#1), ∀ (k0_h12 : k0_cond12 v0 k0_t28 = 1#1), ∀ (hinb : ∀ a, (k0_off96 v0 k0_t28) a + S1x1x32x128.size a ≤ S6x8x1024x128.size a), (Rect.unit (s := S6x8x1024x128) (k0_off96 v0 k0_t28) S1x1x32x128.size hinb).PackedRows (EltTy.packing .fp8e4m3)) ∧
  (∀ k0_t28 : Fin (k0_t28_loop v0).trips, ∀ (k0_h7 : k0_cond7 v1 = 1#1), ∀ (k0_h12 : k0_cond12 v0 k0_t28 = 1#1), 32 ∣ (k0_mult14 v0).toNat) ∧
  (∀ (k0_t28 : Fin (k0_t28_loop v0).trips) (k0_t33 : Fin k0_t33_loop.trips), ∀ (k0_h7 : k0_cond7 v1 = 1#1), ∀ a, (k0_off97 v0 k0_t28 k0_t33) a + S1x1x512x128.size a ≤ S6x8x1024x128.size a) ∧
  (∀ (k0_t28 : Fin (k0_t28_loop v0).trips) (k0_t34 : Fin k0_t34_loop.trips), ∀ (k0_h7 : k0_cond7 v1 = 1#1), ∀ a, (k0_off100 v0 k0_t28 k0_t34) a + S1x1x512x128.size a ≤ S6x8x1024x128.size a)
def k0_chk3 (v0 : BitVec 32) (v1 : BitVec 32) : Prop :=
  k0_chk3_0 v0 v1 ∧
  k0_chk3_1 v0 v1 ∧
  k0_chk3_2 v0 v1
theorem k0_t4_ok : ∀ (v0 : BitVec 32) (v1 : BitVec 32) (k0_hw3 : k0_chk3 v0 v1), ∀ (k0_h1 : k0_cond1 v1 = 1#1), (k0_t4_loop v0).OK := fun v0 v1 k0_hw3 k0_h1 => k0_hw3.1.1 k0_h1
theorem k0_off9_inb : ∀ (v0 : BitVec 32) (v1 : BitVec 32) (k0_hw3 : k0_chk3 v0 v1) (k0_t4 : Fin (k0_t4_loop v0).trips) (k0_t5 : Fin k0_t5_loop.trips), ∀ (k0_h1 : k0_cond1 v1 = 1#1), ∀ (k0_h3 : k0_cond3 v0 k0_t4 = 1#1), ∀ a, (k0_off9 v0 k0_t4 k0_t5) a + S1.size a ≤ S1024.size a := fun v0 v1 k0_hw3 k0_t4 k0_t5 k0_h1 k0_h3 => k0_hw3.1.2.1 k0_t4 k0_t5 k0_h1 k0_h3
theorem k0_off10_inb : ∀ (v0 : BitVec 32) (v1 : BitVec 32) (k0_hw3 : k0_chk3 v0 v1) (k0_t4 : Fin (k0_t4_loop v0).trips), ∀ (k0_h1 : k0_cond1 v1 = 1#1), ∀ (k0_h3 : k0_cond3 v0 k0_t4 = 1#1), ∀ a, (k0_off10 v0 k0_t4) a + S1.size a ≤ S6.size a := fun v0 v1 k0_hw3 k0_t4 k0_h1 k0_h3 => k0_hw3.1.2.2.1 k0_t4 k0_h1 k0_h3
theorem k0_off11_inb : ∀ (v0 : BitVec 32) (v1 : BitVec 32) (k0_hw3 : k0_chk3 v0 v1) (k0_t4 : Fin (k0_t4_loop v0).trips) (k0_t5 : Fin k0_t5_loop.trips), ∀ (k0_h1 : k0_cond1 v1 = 1#1), ∀ (k0_h3 : k0_cond3 v0 k0_t4 = 1#1), ∀ a, (k0_off11 v0 k0_t4 k0_t5) a + S1x1x1024x128.size a ≤ S6x8x1024x128.size a := fun v0 v1 k0_hw3 k0_t4 k0_t5 k0_h1 k0_h3 => k0_hw3.1.2.2.2.1 k0_t4 k0_t5 k0_h1 k0_h3
theorem k0_off11_wordsfp8e4m3 : ∀ (v0 : BitVec 32) (v1 : BitVec 32) (k0_hw3 : k0_chk3 v0 v1) (k0_t4 : Fin (k0_t4_loop v0).trips) (k0_t5 : Fin k0_t5_loop.trips), ∀ (k0_h1 : k0_cond1 v1 = 1#1), ∀ (k0_h3 : k0_cond3 v0 k0_t4 = 1#1), (Rect.unit (s := S6x8x1024x128) (k0_off11 v0 k0_t4 k0_t5) S1x1x1024x128.size (k0_off11_inb v0 v1 k0_hw3 k0_t4 k0_t5 k0_h1 k0_h3)).WholeWords (EltTy.packing .fp8e4m3) := fun v0 v1 k0_hw3 k0_t4 k0_t5 k0_h1 k0_h3 => k0_hw3.1.2.2.2.2.1 k0_t4 k0_t5 k0_h1 k0_h3 (k0_off11_inb v0 v1 k0_hw3 k0_t4 k0_t5 k0_h1 k0_h3)
theorem k0_off13_inb : ∀ (v0 : BitVec 32) (v1 : BitVec 32) (k0_hw3 : k0_chk3 v0 v1) (k0_t4 : Fin (k0_t4_loop v0).trips) (k0_t6 : Fin k0_t6_loop.trips), ∀ (k0_h1 : k0_cond1 v1 = 1#1), ∀ (k0_h3 : k0_cond3 v0 k0_t4 = 1#1), ∀ a, (k0_off13 v0 k0_t4 k0_t6) a + S1.size a ≤ S1024.size a := fun v0 v1 k0_hw3 k0_t4 k0_t6 k0_h1 k0_h3 => k0_hw3.1.2.2.2.2.2.1 k0_t4 k0_t6 k0_h1 k0_h3
theorem k0_off14_inb : ∀ (v0 : BitVec 32) (v1 : BitVec 32) (k0_hw3 : k0_chk3 v0 v1) (k0_t4 : Fin (k0_t4_loop v0).trips), ∀ (k0_h1 : k0_cond1 v1 = 1#1), ∀ (k0_h3 : k0_cond3 v0 k0_t4 = 1#1), ∀ a, (k0_off14 v0 k0_t4) a + S1.size a ≤ S6.size a := fun v0 v1 k0_hw3 k0_t4 k0_h1 k0_h3 => k0_hw3.1.2.2.2.2.2.2.1 k0_t4 k0_h1 k0_h3
theorem k0_off15_inb : ∀ (v0 : BitVec 32) (v1 : BitVec 32) (k0_hw3 : k0_chk3 v0 v1) (k0_t4 : Fin (k0_t4_loop v0).trips) (k0_t6 : Fin k0_t6_loop.trips), ∀ (k0_h1 : k0_cond1 v1 = 1#1), ∀ (k0_h3 : k0_cond3 v0 k0_t4 = 1#1), ∀ a, (k0_off15 v0 k0_t4 k0_t6) a + S1x1x1024x128.size a ≤ S6x8x1024x128.size a := fun v0 v1 k0_hw3 k0_t4 k0_t6 k0_h1 k0_h3 => k0_hw3.1.2.2.2.2.2.2.2.1 k0_t4 k0_t6 k0_h1 k0_h3
theorem k0_off15_wordsfp8e4m3 : ∀ (v0 : BitVec 32) (v1 : BitVec 32) (k0_hw3 : k0_chk3 v0 v1) (k0_t4 : Fin (k0_t4_loop v0).trips) (k0_t6 : Fin k0_t6_loop.trips), ∀ (k0_h1 : k0_cond1 v1 = 1#1), ∀ (k0_h3 : k0_cond3 v0 k0_t4 = 1#1), (Rect.unit (s := S6x8x1024x128) (k0_off15 v0 k0_t4 k0_t6) S1x1x1024x128.size (k0_off15_inb v0 v1 k0_hw3 k0_t4 k0_t6 k0_h1 k0_h3)).WholeWords (EltTy.packing .fp8e4m3) := fun v0 v1 k0_hw3 k0_t4 k0_t6 k0_h1 k0_h3 => k0_hw3.1.2.2.2.2.2.2.2.2.1 k0_t4 k0_t6 k0_h1 k0_h3 (k0_off15_inb v0 v1 k0_hw3 k0_t4 k0_t6 k0_h1 k0_h3)
theorem k0_off17_inb : ∀ (v0 : BitVec 32) (v1 : BitVec 32) (k0_hw3 : k0_chk3 v0 v1) (k0_t4 : Fin (k0_t4_loop v0).trips) (k0_t7 : Fin k0_t7_loop.trips), ∀ (k0_h1 : k0_cond1 v1 = 1#1), ∀ a, (k0_off17 v0 k0_t4 k0_t7) a + S1.size a ≤ S1024.size a := fun v0 v1 k0_hw3 k0_t4 k0_t7 k0_h1 => k0_hw3.1.2.2.2.2.2.2.2.2.2.1 k0_t4 k0_t7 k0_h1
theorem k0_off18_inb : ∀ (v0 : BitVec 32) (v1 : BitVec 32) (k0_hw3 : k0_chk3 v0 v1) (k0_t4 : Fin (k0_t4_loop v0).trips), ∀ (k0_h1 : k0_cond1 v1 = 1#1), ∀ a, (k0_off18 v0 k0_t4) a + S1.size a ≤ S6.size a := fun v0 v1 k0_hw3 k0_t4 k0_h1 => k0_hw3.1.2.2.2.2.2.2.2.2.2.2.1 k0_t4 k0_h1
theorem k0_off19_inb : ∀ (v0 : BitVec 32) (v1 : BitVec 32) (k0_hw3 : k0_chk3 v0 v1) (k0_t4 : Fin (k0_t4_loop v0).trips) (k0_t7 : Fin k0_t7_loop.trips), ∀ (k0_h1 : k0_cond1 v1 = 1#1), ∀ a, (k0_off19 v0 k0_t4 k0_t7) a + S1x1x1024x128.size a ≤ S6x8x1024x128.size a := fun v0 v1 k0_hw3 k0_t4 k0_t7 k0_h1 => k0_hw3.1.2.2.2.2.2.2.2.2.2.2.2.1 k0_t4 k0_t7 k0_h1
theorem k0_off19_wordsfp8e4m3 : ∀ (v0 : BitVec 32) (v1 : BitVec 32) (k0_hw3 : k0_chk3 v0 v1) (k0_t4 : Fin (k0_t4_loop v0).trips) (k0_t7 : Fin k0_t7_loop.trips), ∀ (k0_h1 : k0_cond1 v1 = 1#1), (Rect.unit (s := S6x8x1024x128) (k0_off19 v0 k0_t4 k0_t7) S1x1x1024x128.size (k0_off19_inb v0 v1 k0_hw3 k0_t4 k0_t7 k0_h1)).WholeWords (EltTy.packing .fp8e4m3) := fun v0 v1 k0_hw3 k0_t4 k0_t7 k0_h1 => k0_hw3.1.2.2.2.2.2.2.2.2.2.2.2.2.1 k0_t4 k0_t7 k0_h1 (k0_off19_inb v0 v1 k0_hw3 k0_t4 k0_t7 k0_h1)
theorem k0_off21_inb : ∀ (v0 : BitVec 32) (v1 : BitVec 32) (k0_hw3 : k0_chk3 v0 v1) (k0_t4 : Fin (k0_t4_loop v0).trips) (k0_t8 : Fin k0_t8_loop.trips), ∀ (k0_h1 : k0_cond1 v1 = 1#1), ∀ a, (k0_off21 v0 k0_t4 k0_t8) a + S1.size a ≤ S1024.size a := fun v0 v1 k0_hw3 k0_t4 k0_t8 k0_h1 => k0_hw3.1.2.2.2.2.2.2.2.2.2.2.2.2.2.1 k0_t4 k0_t8 k0_h1
theorem k0_off22_inb : ∀ (v0 : BitVec 32) (v1 : BitVec 32) (k0_hw3 : k0_chk3 v0 v1) (k0_t4 : Fin (k0_t4_loop v0).trips), ∀ (k0_h1 : k0_cond1 v1 = 1#1), ∀ a, (k0_off22 v0 k0_t4) a + S1.size a ≤ S6.size a := fun v0 v1 k0_hw3 k0_t4 k0_h1 => k0_hw3.1.2.2.2.2.2.2.2.2.2.2.2.2.2.2.1 k0_t4 k0_h1
theorem k0_off23_inb : ∀ (v0 : BitVec 32) (v1 : BitVec 32) (k0_hw3 : k0_chk3 v0 v1) (k0_t4 : Fin (k0_t4_loop v0).trips) (k0_t8 : Fin k0_t8_loop.trips), ∀ (k0_h1 : k0_cond1 v1 = 1#1), ∀ a, (k0_off23 v0 k0_t4 k0_t8) a + S1x1x1024x128.size a ≤ S6x8x1024x128.size a := fun v0 v1 k0_hw3 k0_t4 k0_t8 k0_h1 => k0_hw3.1.2.2.2.2.2.2.2.2.2.2.2.2.2.2.2.1 k0_t4 k0_t8 k0_h1
theorem k0_off23_wordsfp8e4m3 : ∀ (v0 : BitVec 32) (v1 : BitVec 32) (k0_hw3 : k0_chk3 v0 v1) (k0_t4 : Fin (k0_t4_loop v0).trips) (k0_t8 : Fin k0_t8_loop.trips), ∀ (k0_h1 : k0_cond1 v1 = 1#1), (Rect.unit (s := S6x8x1024x128) (k0_off23 v0 k0_t4 k0_t8) S1x1x1024x128.size (k0_off23_inb v0 v1 k0_hw3 k0_t4 k0_t8 k0_h1)).WholeWords (EltTy.packing .fp8e4m3) := fun v0 v1 k0_hw3 k0_t4 k0_t8 k0_h1 => k0_hw3.1.2.2.2.2.2.2.2.2.2.2.2.2.2.2.2.2.1 k0_t4 k0_t8 k0_h1 (k0_off23_inb v0 v1 k0_hw3 k0_t4 k0_t8 k0_h1)
theorem k0_mult1_dvd : ∀ (v0 : BitVec 32) (v1 : BitVec 32) (k0_hw3 : k0_chk3 v0 v1) (k0_t4 : Fin (k0_t4_loop v0).trips), ∀ (k0_h1 : k0_cond1 v1 = 1#1), ∀ (k0_h4 : k0_cond4 v0 k0_t4 = 1#1), 32 ∣ (k0_mult1 v0).toNat := fun v0 v1 k0_hw3 k0_t4 k0_h1 k0_h4 => k0_hw3.1.2.2.2.2.2.2.2.2.2.2.2.2.2.2.2.2.2.1 k0_t4 k0_h1 k0_h4
theorem k0_off25_inb : ∀ (v0 : BitVec 32) (v1 : BitVec 32) (k0_hw3 : k0_chk3 v0 v1) (k0_t4 : Fin (k0_t4_loop v0).trips), ∀ (k0_h1 : k0_cond1 v1 = 1#1), ∀ (k0_h4 : k0_cond4 v0 k0_t4 = 1#1), ∀ a, (k0_off25 v0 k0_t4) a + S1x1x32x128.size a ≤ S6x8x1024x128.size a := fun v0 v1 k0_hw3 k0_t4 k0_h1 k0_h4 => k0_hw3.1.2.2.2.2.2.2.2.2.2.2.2.2.2.2.2.2.2.2.1 k0_t4 k0_h1 k0_h4
theorem k0_off25_packedfp8e4m3 : ∀ (v0 : BitVec 32) (v1 : BitVec 32) (k0_hw3 : k0_chk3 v0 v1) (k0_t4 : Fin (k0_t4_loop v0).trips), ∀ (k0_h1 : k0_cond1 v1 = 1#1), ∀ (k0_h4 : k0_cond4 v0 k0_t4 = 1#1), (Rect.unit (s := S6x8x1024x128) (k0_off25 v0 k0_t4) S1x1x32x128.size (k0_off25_inb v0 v1 k0_hw3 k0_t4 k0_h1 k0_h4)).PackedRows (EltTy.packing .fp8e4m3) := fun v0 v1 k0_hw3 k0_t4 k0_h1 k0_h4 => k0_hw3.1.2.2.2.2.2.2.2.2.2.2.2.2.2.2.2.2.2.2.2.1 k0_t4 k0_h1 k0_h4 (k0_off25_inb v0 v1 k0_hw3 k0_t4 k0_h1 k0_h4)
theorem k0_mult2_dvd : ∀ (v0 : BitVec 32) (v1 : BitVec 32) (k0_hw3 : k0_chk3 v0 v1) (k0_t4 : Fin (k0_t4_loop v0).trips), ∀ (k0_h1 : k0_cond1 v1 = 1#1), ∀ (k0_h4 : k0_cond4 v0 k0_t4 = 1#1), 32 ∣ (k0_mult2 v0).toNat := fun v0 v1 k0_hw3 k0_t4 k0_h1 k0_h4 => k0_hw3.1.2.2.2.2.2.2.2.2.2.2.2.2.2.2.2.2.2.2.2.2.1 k0_t4 k0_h1 k0_h4
theorem k0_off26_inb : ∀ (v0 : BitVec 32) (v1 : BitVec 32) (k0_hw3 : k0_chk3 v0 v1) (k0_t4 : Fin (k0_t4_loop v0).trips) (k0_t9 : Fin k0_t9_loop.trips), ∀ (k0_h1 : k0_cond1 v1 = 1#1), ∀ a, (k0_off26 v0 k0_t4 k0_t9) a + S1x1x512x128.size a ≤ S6x8x1024x128.size a := fun v0 v1 k0_hw3 k0_t4 k0_t9 k0_h1 => k0_hw3.1.2.2.2.2.2.2.2.2.2.2.2.2.2.2.2.2.2.2.2.2.2.1 k0_t4 k0_t9 k0_h1
theorem k0_off29_inb : ∀ (v0 : BitVec 32) (v1 : BitVec 32) (k0_hw3 : k0_chk3 v0 v1) (k0_t4 : Fin (k0_t4_loop v0).trips) (k0_t10 : Fin k0_t10_loop.trips), ∀ (k0_h1 : k0_cond1 v1 = 1#1), ∀ a, (k0_off29 v0 k0_t4 k0_t10) a + S1x1x512x128.size a ≤ S6x8x1024x128.size a := fun v0 v1 k0_hw3 k0_t4 k0_t10 k0_h1 => k0_hw3.1.2.2.2.2.2.2.2.2.2.2.2.2.2.2.2.2.2.2.2.2.2.2.1 k0_t4 k0_t10 k0_h1
theorem k0_t11_ok : ∀ (v0 : BitVec 32) (v1 : BitVec 32) (k0_hw3 : k0_chk3 v0 v1), ∀ (k0_h1 : k0_cond1 v1 = 1#1), (k0_t11_loop v0).OK := fun v0 v1 k0_hw3 k0_h1 => k0_hw3.1.2.2.2.2.2.2.2.2.2.2.2.2.2.2.2.2.2.2.2.2.2.2.2.1 k0_h1
theorem k0_off30_inb : ∀ (v0 : BitVec 32) (v1 : BitVec 32) (k0_hw3 : k0_chk3 v0 v1) (k0_t11 : Fin (k0_t11_loop v0).trips) (k0_t12 : Fin k0_t12_loop.trips), ∀ (k0_h1 : k0_cond1 v1 = 1#1), ∀ (k0_h5 : k0_cond5 v0 k0_t11 = 1#1), ∀ a, (k0_off30 v0 k0_t11 k0_t12) a + S1.size a ≤ S1024.size a := fun v0 v1 k0_hw3 k0_t11 k0_t12 k0_h1 k0_h5 => k0_hw3.1.2.2.2.2.2.2.2.2.2.2.2.2.2.2.2.2.2.2.2.2.2.2.2.2.1 k0_t11 k0_t12 k0_h1 k0_h5
theorem k0_off31_inb : ∀ (v0 : BitVec 32) (v1 : BitVec 32) (k0_hw3 : k0_chk3 v0 v1) (k0_t11 : Fin (k0_t11_loop v0).trips), ∀ (k0_h1 : k0_cond1 v1 = 1#1), ∀ (k0_h5 : k0_cond5 v0 k0_t11 = 1#1), ∀ a, (k0_off31 v0 k0_t11) a + S1.size a ≤ S6.size a := fun v0 v1 k0_hw3 k0_t11 k0_h1 k0_h5 => k0_hw3.1.2.2.2.2.2.2.2.2.2.2.2.2.2.2.2.2.2.2.2.2.2.2.2.2.2.1 k0_t11 k0_h1 k0_h5
theorem k0_off32_inb : ∀ (v0 : BitVec 32) (v1 : BitVec 32) (k0_hw3 : k0_chk3 v0 v1) (k0_t11 : Fin (k0_t11_loop v0).trips) (k0_t12 : Fin k0_t12_loop.trips), ∀ (k0_h1 : k0_cond1 v1 = 1#1), ∀ (k0_h5 : k0_cond5 v0 k0_t11 = 1#1), ∀ a, (k0_off32 v0 k0_t11 k0_t12) a + S1x1x1024x128.size a ≤ S6x8x1024x128.size a := fun v0 v1 k0_hw3 k0_t11 k0_t12 k0_h1 k0_h5 => k0_hw3.1.2.2.2.2.2.2.2.2.2.2.2.2.2.2.2.2.2.2.2.2.2.2.2.2.2.2.1 k0_t11 k0_t12 k0_h1 k0_h5
theorem k0_off32_wordsfp8e4m3 : ∀ (v0 : BitVec 32) (v1 : BitVec 32) (k0_hw3 : k0_chk3 v0 v1) (k0_t11 : Fin (k0_t11_loop v0).trips) (k0_t12 : Fin k0_t12_loop.trips), ∀ (k0_h1 : k0_cond1 v1 = 1#1), ∀ (k0_h5 : k0_cond5 v0 k0_t11 = 1#1), (Rect.unit (s := S6x8x1024x128) (k0_off32 v0 k0_t11 k0_t12) S1x1x1024x128.size (k0_off32_inb v0 v1 k0_hw3 k0_t11 k0_t12 k0_h1 k0_h5)).WholeWords (EltTy.packing .fp8e4m3) := fun v0 v1 k0_hw3 k0_t11 k0_t12 k0_h1 k0_h5 => k0_hw3.1.2.2.2.2.2.2.2.2.2.2.2.2.2.2.2.2.2.2.2.2.2.2.2.2.2.2.2.1 k0_t11 k0_t12 k0_h1 k0_h5 (k0_off32_inb v0 v1 k0_hw3 k0_t11 k0_t12 k0_h1 k0_h5)
theorem k0_off34_inb : ∀ (v0 : BitVec 32) (v1 : BitVec 32) (k0_hw3 : k0_chk3 v0 v1) (k0_t11 : Fin (k0_t11_loop v0).trips) (k0_t13 : Fin k0_t13_loop.trips), ∀ (k0_h1 : k0_cond1 v1 = 1#1), ∀ (k0_h5 : k0_cond5 v0 k0_t11 = 1#1), ∀ a, (k0_off34 v0 k0_t11 k0_t13) a + S1.size a ≤ S1024.size a := fun v0 v1 k0_hw3 k0_t11 k0_t13 k0_h1 k0_h5 => k0_hw3.1.2.2.2.2.2.2.2.2.2.2.2.2.2.2.2.2.2.2.2.2.2.2.2.2.2.2.2.2.1 k0_t11 k0_t13 k0_h1 k0_h5
theorem k0_off35_inb : ∀ (v0 : BitVec 32) (v1 : BitVec 32) (k0_hw3 : k0_chk3 v0 v1) (k0_t11 : Fin (k0_t11_loop v0).trips), ∀ (k0_h1 : k0_cond1 v1 = 1#1), ∀ (k0_h5 : k0_cond5 v0 k0_t11 = 1#1), ∀ a, (k0_off35 v0 k0_t11) a + S1.size a ≤ S6.size a := fun v0 v1 k0_hw3 k0_t11 k0_h1 k0_h5 => k0_hw3.1.2.2.2.2.2.2.2.2.2.2.2.2.2.2.2.2.2.2.2.2.2.2.2.2.2.2.2.2.2.1 k0_t11 k0_h1 k0_h5
theorem k0_off36_inb : ∀ (v0 : BitVec 32) (v1 : BitVec 32) (k0_hw3 : k0_chk3 v0 v1) (k0_t11 : Fin (k0_t11_loop v0).trips) (k0_t13 : Fin k0_t13_loop.trips), ∀ (k0_h1 : k0_cond1 v1 = 1#1), ∀ (k0_h5 : k0_cond5 v0 k0_t11 = 1#1), ∀ a, (k0_off36 v0 k0_t11 k0_t13) a + S1x1x1024x128.size a ≤ S6x8x1024x128.size a := fun v0 v1 k0_hw3 k0_t11 k0_t13 k0_h1 k0_h5 => k0_hw3.1.2.2.2.2.2.2.2.2.2.2.2.2.2.2.2.2.2.2.2.2.2.2.2.2.2.2.2.2.2.2.1 k0_t11 k0_t13 k0_h1 k0_h5
theorem k0_off36_wordsfp8e4m3 : ∀ (v0 : BitVec 32) (v1 : BitVec 32) (k0_hw3 : k0_chk3 v0 v1) (k0_t11 : Fin (k0_t11_loop v0).trips) (k0_t13 : Fin k0_t13_loop.trips), ∀ (k0_h1 : k0_cond1 v1 = 1#1), ∀ (k0_h5 : k0_cond5 v0 k0_t11 = 1#1), (Rect.unit (s := S6x8x1024x128) (k0_off36 v0 k0_t11 k0_t13) S1x1x1024x128.size (k0_off36_inb v0 v1 k0_hw3 k0_t11 k0_t13 k0_h1 k0_h5)).WholeWords (EltTy.packing .fp8e4m3) := fun v0 v1 k0_hw3 k0_t11 k0_t13 k0_h1 k0_h5 => k0_hw3.1.2.2.2.2.2.2.2.2.2.2.2.2.2.2.2.2.2.2.2.2.2.2.2.2.2.2.2.2.2.2.2 k0_t11 k0_t13 k0_h1 k0_h5 (k0_off36_inb v0 v1 k0_hw3 k0_t11 k0_t13 k0_h1 k0_h5)
theorem k0_off38_inb : ∀ (v0 : BitVec 32) (v1 : BitVec 32) (k0_hw3 : k0_chk3 v0 v1) (k0_t11 : Fin (k0_t11_loop v0).trips) (k0_t14 : Fin k0_t14_loop.trips), ∀ (k0_h1 : k0_cond1 v1 = 1#1), ∀ a, (k0_off38 v0 k0_t11 k0_t14) a + S1.size a ≤ S1024.size a := fun v0 v1 k0_hw3 k0_t11 k0_t14 k0_h1 => k0_hw3.2.1.1 k0_t11 k0_t14 k0_h1
theorem k0_off39_inb : ∀ (v0 : BitVec 32) (v1 : BitVec 32) (k0_hw3 : k0_chk3 v0 v1) (k0_t11 : Fin (k0_t11_loop v0).trips), ∀ (k0_h1 : k0_cond1 v1 = 1#1), ∀ a, (k0_off39 v0 k0_t11) a + S1.size a ≤ S6.size a := fun v0 v1 k0_hw3 k0_t11 k0_h1 => k0_hw3.2.1.2.1 k0_t11 k0_h1
theorem k0_off40_inb : ∀ (v0 : BitVec 32) (v1 : BitVec 32) (k0_hw3 : k0_chk3 v0 v1) (k0_t11 : Fin (k0_t11_loop v0).trips) (k0_t14 : Fin k0_t14_loop.trips), ∀ (k0_h1 : k0_cond1 v1 = 1#1), ∀ a, (k0_off40 v0 k0_t11 k0_t14) a + S1x1x1024x128.size a ≤ S6x8x1024x128.size a := fun v0 v1 k0_hw3 k0_t11 k0_t14 k0_h1 => k0_hw3.2.1.2.2.1 k0_t11 k0_t14 k0_h1
theorem k0_off40_wordsfp8e4m3 : ∀ (v0 : BitVec 32) (v1 : BitVec 32) (k0_hw3 : k0_chk3 v0 v1) (k0_t11 : Fin (k0_t11_loop v0).trips) (k0_t14 : Fin k0_t14_loop.trips), ∀ (k0_h1 : k0_cond1 v1 = 1#1), (Rect.unit (s := S6x8x1024x128) (k0_off40 v0 k0_t11 k0_t14) S1x1x1024x128.size (k0_off40_inb v0 v1 k0_hw3 k0_t11 k0_t14 k0_h1)).WholeWords (EltTy.packing .fp8e4m3) := fun v0 v1 k0_hw3 k0_t11 k0_t14 k0_h1 => k0_hw3.2.1.2.2.2.1 k0_t11 k0_t14 k0_h1 (k0_off40_inb v0 v1 k0_hw3 k0_t11 k0_t14 k0_h1)
theorem k0_off42_inb : ∀ (v0 : BitVec 32) (v1 : BitVec 32) (k0_hw3 : k0_chk3 v0 v1) (k0_t11 : Fin (k0_t11_loop v0).trips) (k0_t15 : Fin k0_t15_loop.trips), ∀ (k0_h1 : k0_cond1 v1 = 1#1), ∀ a, (k0_off42 v0 k0_t11 k0_t15) a + S1.size a ≤ S1024.size a := fun v0 v1 k0_hw3 k0_t11 k0_t15 k0_h1 => k0_hw3.2.1.2.2.2.2.1 k0_t11 k0_t15 k0_h1
theorem k0_off43_inb : ∀ (v0 : BitVec 32) (v1 : BitVec 32) (k0_hw3 : k0_chk3 v0 v1) (k0_t11 : Fin (k0_t11_loop v0).trips), ∀ (k0_h1 : k0_cond1 v1 = 1#1), ∀ a, (k0_off43 v0 k0_t11) a + S1.size a ≤ S6.size a := fun v0 v1 k0_hw3 k0_t11 k0_h1 => k0_hw3.2.1.2.2.2.2.2.1 k0_t11 k0_h1
theorem k0_off44_inb : ∀ (v0 : BitVec 32) (v1 : BitVec 32) (k0_hw3 : k0_chk3 v0 v1) (k0_t11 : Fin (k0_t11_loop v0).trips) (k0_t15 : Fin k0_t15_loop.trips), ∀ (k0_h1 : k0_cond1 v1 = 1#1), ∀ a, (k0_off44 v0 k0_t11 k0_t15) a + S1x1x1024x128.size a ≤ S6x8x1024x128.size a := fun v0 v1 k0_hw3 k0_t11 k0_t15 k0_h1 => k0_hw3.2.1.2.2.2.2.2.2.1 k0_t11 k0_t15 k0_h1
theorem k0_off44_wordsfp8e4m3 : ∀ (v0 : BitVec 32) (v1 : BitVec 32) (k0_hw3 : k0_chk3 v0 v1) (k0_t11 : Fin (k0_t11_loop v0).trips) (k0_t15 : Fin k0_t15_loop.trips), ∀ (k0_h1 : k0_cond1 v1 = 1#1), (Rect.unit (s := S6x8x1024x128) (k0_off44 v0 k0_t11 k0_t15) S1x1x1024x128.size (k0_off44_inb v0 v1 k0_hw3 k0_t11 k0_t15 k0_h1)).WholeWords (EltTy.packing .fp8e4m3) := fun v0 v1 k0_hw3 k0_t11 k0_t15 k0_h1 => k0_hw3.2.1.2.2.2.2.2.2.2.1 k0_t11 k0_t15 k0_h1 (k0_off44_inb v0 v1 k0_hw3 k0_t11 k0_t15 k0_h1)
theorem k0_mult5_dvd : ∀ (v0 : BitVec 32) (v1 : BitVec 32) (k0_hw3 : k0_chk3 v0 v1) (k0_t11 : Fin (k0_t11_loop v0).trips), ∀ (k0_h1 : k0_cond1 v1 = 1#1), ∀ (k0_h6 : k0_cond6 v0 k0_t11 = 1#1), 32 ∣ (k0_mult5 v0).toNat := fun v0 v1 k0_hw3 k0_t11 k0_h1 k0_h6 => k0_hw3.2.1.2.2.2.2.2.2.2.2.1 k0_t11 k0_h1 k0_h6
theorem k0_off46_inb : ∀ (v0 : BitVec 32) (v1 : BitVec 32) (k0_hw3 : k0_chk3 v0 v1) (k0_t11 : Fin (k0_t11_loop v0).trips), ∀ (k0_h1 : k0_cond1 v1 = 1#1), ∀ (k0_h6 : k0_cond6 v0 k0_t11 = 1#1), ∀ a, (k0_off46 v0 k0_t11) a + S1x1x32x128.size a ≤ S6x8x1024x128.size a := fun v0 v1 k0_hw3 k0_t11 k0_h1 k0_h6 => k0_hw3.2.1.2.2.2.2.2.2.2.2.2.1 k0_t11 k0_h1 k0_h6
theorem k0_off46_packedfp8e4m3 : ∀ (v0 : BitVec 32) (v1 : BitVec 32) (k0_hw3 : k0_chk3 v0 v1) (k0_t11 : Fin (k0_t11_loop v0).trips), ∀ (k0_h1 : k0_cond1 v1 = 1#1), ∀ (k0_h6 : k0_cond6 v0 k0_t11 = 1#1), (Rect.unit (s := S6x8x1024x128) (k0_off46 v0 k0_t11) S1x1x32x128.size (k0_off46_inb v0 v1 k0_hw3 k0_t11 k0_h1 k0_h6)).PackedRows (EltTy.packing .fp8e4m3) := fun v0 v1 k0_hw3 k0_t11 k0_h1 k0_h6 => k0_hw3.2.1.2.2.2.2.2.2.2.2.2.2.1 k0_t11 k0_h1 k0_h6 (k0_off46_inb v0 v1 k0_hw3 k0_t11 k0_h1 k0_h6)
theorem k0_mult6_dvd : ∀ (v0 : BitVec 32) (v1 : BitVec 32) (k0_hw3 : k0_chk3 v0 v1) (k0_t11 : Fin (k0_t11_loop v0).trips), ∀ (k0_h1 : k0_cond1 v1 = 1#1), ∀ (k0_h6 : k0_cond6 v0 k0_t11 = 1#1), 32 ∣ (k0_mult6 v0).toNat := fun v0 v1 k0_hw3 k0_t11 k0_h1 k0_h6 => k0_hw3.2.1.2.2.2.2.2.2.2.2.2.2.2.1 k0_t11 k0_h1 k0_h6
theorem k0_off47_inb : ∀ (v0 : BitVec 32) (v1 : BitVec 32) (k0_hw3 : k0_chk3 v0 v1) (k0_t11 : Fin (k0_t11_loop v0).trips) (k0_t16 : Fin k0_t16_loop.trips), ∀ (k0_h1 : k0_cond1 v1 = 1#1), ∀ a, (k0_off47 v0 k0_t11 k0_t16) a + S1x1x512x128.size a ≤ S6x8x1024x128.size a := fun v0 v1 k0_hw3 k0_t11 k0_t16 k0_h1 => k0_hw3.2.1.2.2.2.2.2.2.2.2.2.2.2.2.1 k0_t11 k0_t16 k0_h1
theorem k0_off50_inb : ∀ (v0 : BitVec 32) (v1 : BitVec 32) (k0_hw3 : k0_chk3 v0 v1) (k0_t11 : Fin (k0_t11_loop v0).trips) (k0_t17 : Fin k0_t17_loop.trips), ∀ (k0_h1 : k0_cond1 v1 = 1#1), ∀ a, (k0_off50 v0 k0_t11 k0_t17) a + S1x1x512x128.size a ≤ S6x8x1024x128.size a := fun v0 v1 k0_hw3 k0_t11 k0_t17 k0_h1 => k0_hw3.2.1.2.2.2.2.2.2.2.2.2.2.2.2.2.1 k0_t11 k0_t17 k0_h1
theorem k0_t21_ok : ∀ (v0 : BitVec 32) (v1 : BitVec 32) (k0_hw3 : k0_chk3 v0 v1), ∀ (k0_h7 : k0_cond7 v1 = 1#1), (k0_t21_loop v0).OK := fun v0 v1 k0_hw3 k0_h7 => k0_hw3.2.1.2.2.2.2.2.2.2.2.2.2.2.2.2.2.1 k0_h7
theorem k0_off59_inb : ∀ (v0 : BitVec 32) (v1 : BitVec 32) (k0_hw3 : k0_chk3 v0 v1) (k0_t21 : Fin (k0_t21_loop v0).trips) (k0_t22 : Fin k0_t22_loop.trips), ∀ (k0_h7 : k0_cond7 v1 = 1#1), ∀ (k0_h9 : k0_cond9 v0 k0_t21 = 1#1), ∀ a, (k0_off59 v0 k0_t21 k0_t22) a + S1.size a ≤ S1024.size a := fun v0 v1 k0_hw3 k0_t21 k0_t22 k0_h7 k0_h9 => k0_hw3.2.1.2.2.2.2.2.2.2.2.2.2.2.2.2.2.2.1 k0_t21 k0_t22 k0_h7 k0_h9
theorem k0_off60_inb : ∀ (v0 : BitVec 32) (v1 : BitVec 32) (k0_hw3 : k0_chk3 v0 v1) (k0_t21 : Fin (k0_t21_loop v0).trips), ∀ (k0_h7 : k0_cond7 v1 = 1#1), ∀ (k0_h9 : k0_cond9 v0 k0_t21 = 1#1), ∀ a, (k0_off60 v0 k0_t21) a + S1.size a ≤ S6.size a := fun v0 v1 k0_hw3 k0_t21 k0_h7 k0_h9 => k0_hw3.2.1.2.2.2.2.2.2.2.2.2.2.2.2.2.2.2.2.1 k0_t21 k0_h7 k0_h9
theorem k0_off61_inb : ∀ (v0 : BitVec 32) (v1 : BitVec 32) (k0_hw3 : k0_chk3 v0 v1) (k0_t21 : Fin (k0_t21_loop v0).trips) (k0_t22 : Fin k0_t22_loop.trips), ∀ (k0_h7 : k0_cond7 v1 = 1#1), ∀ (k0_h9 : k0_cond9 v0 k0_t21 = 1#1), ∀ a, (k0_off61 v0 k0_t21 k0_t22) a + S1x1x1024x128.size a ≤ S6x8x1024x128.size a := fun v0 v1 k0_hw3 k0_t21 k0_t22 k0_h7 k0_h9 => k0_hw3.2.1.2.2.2.2.2.2.2.2.2.2.2.2.2.2.2.2.2.1 k0_t21 k0_t22 k0_h7 k0_h9
theorem k0_off61_wordsfp8e4m3 : ∀ (v0 : BitVec 32) (v1 : BitVec 32) (k0_hw3 : k0_chk3 v0 v1) (k0_t21 : Fin (k0_t21_loop v0).trips) (k0_t22 : Fin k0_t22_loop.trips), ∀ (k0_h7 : k0_cond7 v1 = 1#1), ∀ (k0_h9 : k0_cond9 v0 k0_t21 = 1#1), (Rect.unit (s := S6x8x1024x128) (k0_off61 v0 k0_t21 k0_t22) S1x1x1024x128.size (k0_off61_inb v0 v1 k0_hw3 k0_t21 k0_t22 k0_h7 k0_h9)).WholeWords (EltTy.packing .fp8e4m3) := fun v0 v1 k0_hw3 k0_t21 k0_t22 k0_h7 k0_h9 => k0_hw3.2.1.2.2.2.2.2.2.2.2.2.2.2.2.2.2.2.2.2.2.1 k0_t21 k0_t22 k0_h7 k0_h9 (k0_off61_inb v0 v1 k0_hw3 k0_t21 k0_t22 k0_h7 k0_h9)
theorem k0_off63_inb : ∀ (v0 : BitVec 32) (v1 : BitVec 32) (k0_hw3 : k0_chk3 v0 v1) (k0_t21 : Fin (k0_t21_loop v0).trips) (k0_t23 : Fin k0_t23_loop.trips), ∀ (k0_h7 : k0_cond7 v1 = 1#1), ∀ (k0_h9 : k0_cond9 v0 k0_t21 = 1#1), ∀ a, (k0_off63 v0 k0_t21 k0_t23) a + S1.size a ≤ S1024.size a := fun v0 v1 k0_hw3 k0_t21 k0_t23 k0_h7 k0_h9 => k0_hw3.2.1.2.2.2.2.2.2.2.2.2.2.2.2.2.2.2.2.2.2.2.1 k0_t21 k0_t23 k0_h7 k0_h9
theorem k0_off64_inb : ∀ (v0 : BitVec 32) (v1 : BitVec 32) (k0_hw3 : k0_chk3 v0 v1) (k0_t21 : Fin (k0_t21_loop v0).trips), ∀ (k0_h7 : k0_cond7 v1 = 1#1), ∀ (k0_h9 : k0_cond9 v0 k0_t21 = 1#1), ∀ a, (k0_off64 v0 k0_t21) a + S1.size a ≤ S6.size a := fun v0 v1 k0_hw3 k0_t21 k0_h7 k0_h9 => k0_hw3.2.1.2.2.2.2.2.2.2.2.2.2.2.2.2.2.2.2.2.2.2.2.1 k0_t21 k0_h7 k0_h9
theorem k0_off65_inb : ∀ (v0 : BitVec 32) (v1 : BitVec 32) (k0_hw3 : k0_chk3 v0 v1) (k0_t21 : Fin (k0_t21_loop v0).trips) (k0_t23 : Fin k0_t23_loop.trips), ∀ (k0_h7 : k0_cond7 v1 = 1#1), ∀ (k0_h9 : k0_cond9 v0 k0_t21 = 1#1), ∀ a, (k0_off65 v0 k0_t21 k0_t23) a + S1x1x1024x128.size a ≤ S6x8x1024x128.size a := fun v0 v1 k0_hw3 k0_t21 k0_t23 k0_h7 k0_h9 => k0_hw3.2.1.2.2.2.2.2.2.2.2.2.2.2.2.2.2.2.2.2.2.2.2.2.1 k0_t21 k0_t23 k0_h7 k0_h9
theorem k0_off65_wordsfp8e4m3 : ∀ (v0 : BitVec 32) (v1 : BitVec 32) (k0_hw3 : k0_chk3 v0 v1) (k0_t21 : Fin (k0_t21_loop v0).trips) (k0_t23 : Fin k0_t23_loop.trips), ∀ (k0_h7 : k0_cond7 v1 = 1#1), ∀ (k0_h9 : k0_cond9 v0 k0_t21 = 1#1), (Rect.unit (s := S6x8x1024x128) (k0_off65 v0 k0_t21 k0_t23) S1x1x1024x128.size (k0_off65_inb v0 v1 k0_hw3 k0_t21 k0_t23 k0_h7 k0_h9)).WholeWords (EltTy.packing .fp8e4m3) := fun v0 v1 k0_hw3 k0_t21 k0_t23 k0_h7 k0_h9 => k0_hw3.2.1.2.2.2.2.2.2.2.2.2.2.2.2.2.2.2.2.2.2.2.2.2.2.1 k0_t21 k0_t23 k0_h7 k0_h9 (k0_off65_inb v0 v1 k0_hw3 k0_t21 k0_t23 k0_h7 k0_h9)
theorem k0_off67_inb : ∀ (v0 : BitVec 32) (v1 : BitVec 32) (k0_hw3 : k0_chk3 v0 v1) (k0_t21 : Fin (k0_t21_loop v0).trips) (k0_t24 : Fin k0_t24_loop.trips), ∀ (k0_h7 : k0_cond7 v1 = 1#1), ∀ a, (k0_off67 v0 k0_t21 k0_t24) a + S1.size a ≤ S1024.size a := fun v0 v1 k0_hw3 k0_t21 k0_t24 k0_h7 => k0_hw3.2.1.2.2.2.2.2.2.2.2.2.2.2.2.2.2.2.2.2.2.2.2.2.2.2.1 k0_t21 k0_t24 k0_h7
theorem k0_off68_inb : ∀ (v0 : BitVec 32) (v1 : BitVec 32) (k0_hw3 : k0_chk3 v0 v1) (k0_t21 : Fin (k0_t21_loop v0).trips), ∀ (k0_h7 : k0_cond7 v1 = 1#1), ∀ a, (k0_off68 v0 k0_t21) a + S1.size a ≤ S6.size a := fun v0 v1 k0_hw3 k0_t21 k0_h7 => k0_hw3.2.1.2.2.2.2.2.2.2.2.2.2.2.2.2.2.2.2.2.2.2.2.2.2.2.2.1 k0_t21 k0_h7
theorem k0_off69_inb : ∀ (v0 : BitVec 32) (v1 : BitVec 32) (k0_hw3 : k0_chk3 v0 v1) (k0_t21 : Fin (k0_t21_loop v0).trips) (k0_t24 : Fin k0_t24_loop.trips), ∀ (k0_h7 : k0_cond7 v1 = 1#1), ∀ a, (k0_off69 v0 k0_t21 k0_t24) a + S1x1x1024x128.size a ≤ S6x8x1024x128.size a := fun v0 v1 k0_hw3 k0_t21 k0_t24 k0_h7 => k0_hw3.2.1.2.2.2.2.2.2.2.2.2.2.2.2.2.2.2.2.2.2.2.2.2.2.2.2.2.1 k0_t21 k0_t24 k0_h7
theorem k0_off69_wordsfp8e4m3 : ∀ (v0 : BitVec 32) (v1 : BitVec 32) (k0_hw3 : k0_chk3 v0 v1) (k0_t21 : Fin (k0_t21_loop v0).trips) (k0_t24 : Fin k0_t24_loop.trips), ∀ (k0_h7 : k0_cond7 v1 = 1#1), (Rect.unit (s := S6x8x1024x128) (k0_off69 v0 k0_t21 k0_t24) S1x1x1024x128.size (k0_off69_inb v0 v1 k0_hw3 k0_t21 k0_t24 k0_h7)).WholeWords (EltTy.packing .fp8e4m3) := fun v0 v1 k0_hw3 k0_t21 k0_t24 k0_h7 => k0_hw3.2.1.2.2.2.2.2.2.2.2.2.2.2.2.2.2.2.2.2.2.2.2.2.2.2.2.2.2.1 k0_t21 k0_t24 k0_h7 (k0_off69_inb v0 v1 k0_hw3 k0_t21 k0_t24 k0_h7)
theorem k0_off71_inb : ∀ (v0 : BitVec 32) (v1 : BitVec 32) (k0_hw3 : k0_chk3 v0 v1) (k0_t21 : Fin (k0_t21_loop v0).trips) (k0_t25 : Fin k0_t25_loop.trips), ∀ (k0_h7 : k0_cond7 v1 = 1#1), ∀ a, (k0_off71 v0 k0_t21 k0_t25) a + S1.size a ≤ S1024.size a := fun v0 v1 k0_hw3 k0_t21 k0_t25 k0_h7 => k0_hw3.2.1.2.2.2.2.2.2.2.2.2.2.2.2.2.2.2.2.2.2.2.2.2.2.2.2.2.2.2.1 k0_t21 k0_t25 k0_h7
theorem k0_off72_inb : ∀ (v0 : BitVec 32) (v1 : BitVec 32) (k0_hw3 : k0_chk3 v0 v1) (k0_t21 : Fin (k0_t21_loop v0).trips), ∀ (k0_h7 : k0_cond7 v1 = 1#1), ∀ a, (k0_off72 v0 k0_t21) a + S1.size a ≤ S6.size a := fun v0 v1 k0_hw3 k0_t21 k0_h7 => k0_hw3.2.1.2.2.2.2.2.2.2.2.2.2.2.2.2.2.2.2.2.2.2.2.2.2.2.2.2.2.2.2.1 k0_t21 k0_h7
theorem k0_off73_inb : ∀ (v0 : BitVec 32) (v1 : BitVec 32) (k0_hw3 : k0_chk3 v0 v1) (k0_t21 : Fin (k0_t21_loop v0).trips) (k0_t25 : Fin k0_t25_loop.trips), ∀ (k0_h7 : k0_cond7 v1 = 1#1), ∀ a, (k0_off73 v0 k0_t21 k0_t25) a + S1x1x1024x128.size a ≤ S6x8x1024x128.size a := fun v0 v1 k0_hw3 k0_t21 k0_t25 k0_h7 => k0_hw3.2.1.2.2.2.2.2.2.2.2.2.2.2.2.2.2.2.2.2.2.2.2.2.2.2.2.2.2.2.2.2.1 k0_t21 k0_t25 k0_h7
theorem k0_off73_wordsfp8e4m3 : ∀ (v0 : BitVec 32) (v1 : BitVec 32) (k0_hw3 : k0_chk3 v0 v1) (k0_t21 : Fin (k0_t21_loop v0).trips) (k0_t25 : Fin k0_t25_loop.trips), ∀ (k0_h7 : k0_cond7 v1 = 1#1), (Rect.unit (s := S6x8x1024x128) (k0_off73 v0 k0_t21 k0_t25) S1x1x1024x128.size (k0_off73_inb v0 v1 k0_hw3 k0_t21 k0_t25 k0_h7)).WholeWords (EltTy.packing .fp8e4m3) := fun v0 v1 k0_hw3 k0_t21 k0_t25 k0_h7 => k0_hw3.2.1.2.2.2.2.2.2.2.2.2.2.2.2.2.2.2.2.2.2.2.2.2.2.2.2.2.2.2.2.2.2.1 k0_t21 k0_t25 k0_h7 (k0_off73_inb v0 v1 k0_hw3 k0_t21 k0_t25 k0_h7)
theorem k0_mult9_dvd : ∀ (v0 : BitVec 32) (v1 : BitVec 32) (k0_hw3 : k0_chk3 v0 v1) (k0_t21 : Fin (k0_t21_loop v0).trips), ∀ (k0_h7 : k0_cond7 v1 = 1#1), ∀ (k0_h10 : k0_cond10 v0 k0_t21 = 1#1), 32 ∣ (k0_mult9 v0).toNat := fun v0 v1 k0_hw3 k0_t21 k0_h7 k0_h10 => k0_hw3.2.1.2.2.2.2.2.2.2.2.2.2.2.2.2.2.2.2.2.2.2.2.2.2.2.2.2.2.2.2.2.2.2 k0_t21 k0_h7 k0_h10
theorem k0_off75_inb : ∀ (v0 : BitVec 32) (v1 : BitVec 32) (k0_hw3 : k0_chk3 v0 v1) (k0_t21 : Fin (k0_t21_loop v0).trips), ∀ (k0_h7 : k0_cond7 v1 = 1#1), ∀ (k0_h10 : k0_cond10 v0 k0_t21 = 1#1), ∀ a, (k0_off75 v0 k0_t21) a + S1x1x32x128.size a ≤ S6x8x1024x128.size a := fun v0 v1 k0_hw3 k0_t21 k0_h7 k0_h10 => k0_hw3.2.2.1 k0_t21 k0_h7 k0_h10
theorem k0_off75_packedfp8e4m3 : ∀ (v0 : BitVec 32) (v1 : BitVec 32) (k0_hw3 : k0_chk3 v0 v1) (k0_t21 : Fin (k0_t21_loop v0).trips), ∀ (k0_h7 : k0_cond7 v1 = 1#1), ∀ (k0_h10 : k0_cond10 v0 k0_t21 = 1#1), (Rect.unit (s := S6x8x1024x128) (k0_off75 v0 k0_t21) S1x1x32x128.size (k0_off75_inb v0 v1 k0_hw3 k0_t21 k0_h7 k0_h10)).PackedRows (EltTy.packing .fp8e4m3) := fun v0 v1 k0_hw3 k0_t21 k0_h7 k0_h10 => k0_hw3.2.2.2.1 k0_t21 k0_h7 k0_h10 (k0_off75_inb v0 v1 k0_hw3 k0_t21 k0_h7 k0_h10)
theorem k0_mult10_dvd : ∀ (v0 : BitVec 32) (v1 : BitVec 32) (k0_hw3 : k0_chk3 v0 v1) (k0_t21 : Fin (k0_t21_loop v0).trips), ∀ (k0_h7 : k0_cond7 v1 = 1#1), ∀ (k0_h10 : k0_cond10 v0 k0_t21 = 1#1), 32 ∣ (k0_mult10 v0).toNat := fun v0 v1 k0_hw3 k0_t21 k0_h7 k0_h10 => k0_hw3.2.2.2.2.1 k0_t21 k0_h7 k0_h10
theorem k0_off76_inb : ∀ (v0 : BitVec 32) (v1 : BitVec 32) (k0_hw3 : k0_chk3 v0 v1) (k0_t21 : Fin (k0_t21_loop v0).trips) (k0_t26 : Fin k0_t26_loop.trips), ∀ (k0_h7 : k0_cond7 v1 = 1#1), ∀ a, (k0_off76 v0 k0_t21 k0_t26) a + S1x1x512x128.size a ≤ S6x8x1024x128.size a := fun v0 v1 k0_hw3 k0_t21 k0_t26 k0_h7 => k0_hw3.2.2.2.2.2.1 k0_t21 k0_t26 k0_h7
theorem k0_off79_inb : ∀ (v0 : BitVec 32) (v1 : BitVec 32) (k0_hw3 : k0_chk3 v0 v1) (k0_t21 : Fin (k0_t21_loop v0).trips) (k0_t27 : Fin k0_t27_loop.trips), ∀ (k0_h7 : k0_cond7 v1 = 1#1), ∀ a, (k0_off79 v0 k0_t21 k0_t27) a + S1x1x512x128.size a ≤ S6x8x1024x128.size a := fun v0 v1 k0_hw3 k0_t21 k0_t27 k0_h7 => k0_hw3.2.2.2.2.2.2.1 k0_t21 k0_t27 k0_h7
theorem k0_t28_ok : ∀ (v0 : BitVec 32) (v1 : BitVec 32) (k0_hw3 : k0_chk3 v0 v1), ∀ (k0_h7 : k0_cond7 v1 = 1#1), (k0_t28_loop v0).OK := fun v0 v1 k0_hw3 k0_h7 => k0_hw3.2.2.2.2.2.2.2.1 k0_h7
theorem k0_off80_inb : ∀ (v0 : BitVec 32) (v1 : BitVec 32) (k0_hw3 : k0_chk3 v0 v1) (k0_t28 : Fin (k0_t28_loop v0).trips) (k0_t29 : Fin k0_t29_loop.trips), ∀ (k0_h7 : k0_cond7 v1 = 1#1), ∀ (k0_h11 : k0_cond11 v0 k0_t28 = 1#1), ∀ a, (k0_off80 v0 k0_t28 k0_t29) a + S1.size a ≤ S1024.size a := fun v0 v1 k0_hw3 k0_t28 k0_t29 k0_h7 k0_h11 => k0_hw3.2.2.2.2.2.2.2.2.1 k0_t28 k0_t29 k0_h7 k0_h11
theorem k0_off81_inb : ∀ (v0 : BitVec 32) (v1 : BitVec 32) (k0_hw3 : k0_chk3 v0 v1) (k0_t28 : Fin (k0_t28_loop v0).trips), ∀ (k0_h7 : k0_cond7 v1 = 1#1), ∀ (k0_h11 : k0_cond11 v0 k0_t28 = 1#1), ∀ a, (k0_off81 v0 k0_t28) a + S1.size a ≤ S6.size a := fun v0 v1 k0_hw3 k0_t28 k0_h7 k0_h11 => k0_hw3.2.2.2.2.2.2.2.2.2.1 k0_t28 k0_h7 k0_h11
theorem k0_off82_inb : ∀ (v0 : BitVec 32) (v1 : BitVec 32) (k0_hw3 : k0_chk3 v0 v1) (k0_t28 : Fin (k0_t28_loop v0).trips) (k0_t29 : Fin k0_t29_loop.trips), ∀ (k0_h7 : k0_cond7 v1 = 1#1), ∀ (k0_h11 : k0_cond11 v0 k0_t28 = 1#1), ∀ a, (k0_off82 v0 k0_t28 k0_t29) a + S1x1x1024x128.size a ≤ S6x8x1024x128.size a := fun v0 v1 k0_hw3 k0_t28 k0_t29 k0_h7 k0_h11 => k0_hw3.2.2.2.2.2.2.2.2.2.2.1 k0_t28 k0_t29 k0_h7 k0_h11
theorem k0_off82_wordsfp8e4m3 : ∀ (v0 : BitVec 32) (v1 : BitVec 32) (k0_hw3 : k0_chk3 v0 v1) (k0_t28 : Fin (k0_t28_loop v0).trips) (k0_t29 : Fin k0_t29_loop.trips), ∀ (k0_h7 : k0_cond7 v1 = 1#1), ∀ (k0_h11 : k0_cond11 v0 k0_t28 = 1#1), (Rect.unit (s := S6x8x1024x128) (k0_off82 v0 k0_t28 k0_t29) S1x1x1024x128.size (k0_off82_inb v0 v1 k0_hw3 k0_t28 k0_t29 k0_h7 k0_h11)).WholeWords (EltTy.packing .fp8e4m3) := fun v0 v1 k0_hw3 k0_t28 k0_t29 k0_h7 k0_h11 => k0_hw3.2.2.2.2.2.2.2.2.2.2.2.1 k0_t28 k0_t29 k0_h7 k0_h11 (k0_off82_inb v0 v1 k0_hw3 k0_t28 k0_t29 k0_h7 k0_h11)
theorem k0_off84_inb : ∀ (v0 : BitVec 32) (v1 : BitVec 32) (k0_hw3 : k0_chk3 v0 v1) (k0_t28 : Fin (k0_t28_loop v0).trips) (k0_t30 : Fin k0_t30_loop.trips), ∀ (k0_h7 : k0_cond7 v1 = 1#1), ∀ (k0_h11 : k0_cond11 v0 k0_t28 = 1#1), ∀ a, (k0_off84 v0 k0_t28 k0_t30) a + S1.size a ≤ S1024.size a := fun v0 v1 k0_hw3 k0_t28 k0_t30 k0_h7 k0_h11 => k0_hw3.2.2.2.2.2.2.2.2.2.2.2.2.1 k0_t28 k0_t30 k0_h7 k0_h11
theorem k0_off85_inb : ∀ (v0 : BitVec 32) (v1 : BitVec 32) (k0_hw3 : k0_chk3 v0 v1) (k0_t28 : Fin (k0_t28_loop v0).trips), ∀ (k0_h7 : k0_cond7 v1 = 1#1), ∀ (k0_h11 : k0_cond11 v0 k0_t28 = 1#1), ∀ a, (k0_off85 v0 k0_t28) a + S1.size a ≤ S6.size a := fun v0 v1 k0_hw3 k0_t28 k0_h7 k0_h11 => k0_hw3.2.2.2.2.2.2.2.2.2.2.2.2.2.1 k0_t28 k0_h7 k0_h11
theorem k0_off86_inb : ∀ (v0 : BitVec 32) (v1 : BitVec 32) (k0_hw3 : k0_chk3 v0 v1) (k0_t28 : Fin (k0_t28_loop v0).trips) (k0_t30 : Fin k0_t30_loop.trips), ∀ (k0_h7 : k0_cond7 v1 = 1#1), ∀ (k0_h11 : k0_cond11 v0 k0_t28 = 1#1), ∀ a, (k0_off86 v0 k0_t28 k0_t30) a + S1x1x1024x128.size a ≤ S6x8x1024x128.size a := fun v0 v1 k0_hw3 k0_t28 k0_t30 k0_h7 k0_h11 => k0_hw3.2.2.2.2.2.2.2.2.2.2.2.2.2.2.1 k0_t28 k0_t30 k0_h7 k0_h11
theorem k0_off86_wordsfp8e4m3 : ∀ (v0 : BitVec 32) (v1 : BitVec 32) (k0_hw3 : k0_chk3 v0 v1) (k0_t28 : Fin (k0_t28_loop v0).trips) (k0_t30 : Fin k0_t30_loop.trips), ∀ (k0_h7 : k0_cond7 v1 = 1#1), ∀ (k0_h11 : k0_cond11 v0 k0_t28 = 1#1), (Rect.unit (s := S6x8x1024x128) (k0_off86 v0 k0_t28 k0_t30) S1x1x1024x128.size (k0_off86_inb v0 v1 k0_hw3 k0_t28 k0_t30 k0_h7 k0_h11)).WholeWords (EltTy.packing .fp8e4m3) := fun v0 v1 k0_hw3 k0_t28 k0_t30 k0_h7 k0_h11 => k0_hw3.2.2.2.2.2.2.2.2.2.2.2.2.2.2.2.1 k0_t28 k0_t30 k0_h7 k0_h11 (k0_off86_inb v0 v1 k0_hw3 k0_t28 k0_t30 k0_h7 k0_h11)
theorem k0_off88_inb : ∀ (v0 : BitVec 32) (v1 : BitVec 32) (k0_hw3 : k0_chk3 v0 v1) (k0_t28 : Fin (k0_t28_loop v0).trips) (k0_t31 : Fin k0_t31_loop.trips), ∀ (k0_h7 : k0_cond7 v1 = 1#1), ∀ a, (k0_off88 v0 k0_t28 k0_t31) a + S1.size a ≤ S1024.size a := fun v0 v1 k0_hw3 k0_t28 k0_t31 k0_h7 => k0_hw3.2.2.2.2.2.2.2.2.2.2.2.2.2.2.2.2.1 k0_t28 k0_t31 k0_h7
theorem k0_off89_inb : ∀ (v0 : BitVec 32) (v1 : BitVec 32) (k0_hw3 : k0_chk3 v0 v1) (k0_t28 : Fin (k0_t28_loop v0).trips), ∀ (k0_h7 : k0_cond7 v1 = 1#1), ∀ a, (k0_off89 v0 k0_t28) a + S1.size a ≤ S6.size a := fun v0 v1 k0_hw3 k0_t28 k0_h7 => k0_hw3.2.2.2.2.2.2.2.2.2.2.2.2.2.2.2.2.2.1 k0_t28 k0_h7
theorem k0_off90_inb : ∀ (v0 : BitVec 32) (v1 : BitVec 32) (k0_hw3 : k0_chk3 v0 v1) (k0_t28 : Fin (k0_t28_loop v0).trips) (k0_t31 : Fin k0_t31_loop.trips), ∀ (k0_h7 : k0_cond7 v1 = 1#1), ∀ a, (k0_off90 v0 k0_t28 k0_t31) a + S1x1x1024x128.size a ≤ S6x8x1024x128.size a := fun v0 v1 k0_hw3 k0_t28 k0_t31 k0_h7 => k0_hw3.2.2.2.2.2.2.2.2.2.2.2.2.2.2.2.2.2.2.1 k0_t28 k0_t31 k0_h7
theorem k0_off90_wordsfp8e4m3 : ∀ (v0 : BitVec 32) (v1 : BitVec 32) (k0_hw3 : k0_chk3 v0 v1) (k0_t28 : Fin (k0_t28_loop v0).trips) (k0_t31 : Fin k0_t31_loop.trips), ∀ (k0_h7 : k0_cond7 v1 = 1#1), (Rect.unit (s := S6x8x1024x128) (k0_off90 v0 k0_t28 k0_t31) S1x1x1024x128.size (k0_off90_inb v0 v1 k0_hw3 k0_t28 k0_t31 k0_h7)).WholeWords (EltTy.packing .fp8e4m3) := fun v0 v1 k0_hw3 k0_t28 k0_t31 k0_h7 => k0_hw3.2.2.2.2.2.2.2.2.2.2.2.2.2.2.2.2.2.2.2.1 k0_t28 k0_t31 k0_h7 (k0_off90_inb v0 v1 k0_hw3 k0_t28 k0_t31 k0_h7)
theorem k0_off92_inb : ∀ (v0 : BitVec 32) (v1 : BitVec 32) (k0_hw3 : k0_chk3 v0 v1) (k0_t28 : Fin (k0_t28_loop v0).trips) (k0_t32 : Fin k0_t32_loop.trips), ∀ (k0_h7 : k0_cond7 v1 = 1#1), ∀ a, (k0_off92 v0 k0_t28 k0_t32) a + S1.size a ≤ S1024.size a := fun v0 v1 k0_hw3 k0_t28 k0_t32 k0_h7 => k0_hw3.2.2.2.2.2.2.2.2.2.2.2.2.2.2.2.2.2.2.2.2.1 k0_t28 k0_t32 k0_h7
theorem k0_off93_inb : ∀ (v0 : BitVec 32) (v1 : BitVec 32) (k0_hw3 : k0_chk3 v0 v1) (k0_t28 : Fin (k0_t28_loop v0).trips), ∀ (k0_h7 : k0_cond7 v1 = 1#1), ∀ a, (k0_off93 v0 k0_t28) a + S1.size a ≤ S6.size a := fun v0 v1 k0_hw3 k0_t28 k0_h7 => k0_hw3.2.2.2.2.2.2.2.2.2.2.2.2.2.2.2.2.2.2.2.2.2.1 k0_t28 k0_h7
theorem k0_off94_inb : ∀ (v0 : BitVec 32) (v1 : BitVec 32) (k0_hw3 : k0_chk3 v0 v1) (k0_t28 : Fin (k0_t28_loop v0).trips) (k0_t32 : Fin k0_t32_loop.trips), ∀ (k0_h7 : k0_cond7 v1 = 1#1), ∀ a, (k0_off94 v0 k0_t28 k0_t32) a + S1x1x1024x128.size a ≤ S6x8x1024x128.size a := fun v0 v1 k0_hw3 k0_t28 k0_t32 k0_h7 => k0_hw3.2.2.2.2.2.2.2.2.2.2.2.2.2.2.2.2.2.2.2.2.2.2.1 k0_t28 k0_t32 k0_h7
theorem k0_off94_wordsfp8e4m3 : ∀ (v0 : BitVec 32) (v1 : BitVec 32) (k0_hw3 : k0_chk3 v0 v1) (k0_t28 : Fin (k0_t28_loop v0).trips) (k0_t32 : Fin k0_t32_loop.trips), ∀ (k0_h7 : k0_cond7 v1 = 1#1), (Rect.unit (s := S6x8x1024x128) (k0_off94 v0 k0_t28 k0_t32) S1x1x1024x128.size (k0_off94_inb v0 v1 k0_hw3 k0_t28 k0_t32 k0_h7)).WholeWords (EltTy.packing .fp8e4m3) := fun v0 v1 k0_hw3 k0_t28 k0_t32 k0_h7 => k0_hw3.2.2.2.2.2.2.2.2.2.2.2.2.2.2.2.2.2.2.2.2.2.2.2.1 k0_t28 k0_t32 k0_h7 (k0_off94_inb v0 v1 k0_hw3 k0_t28 k0_t32 k0_h7)
theorem k0_mult13_dvd : ∀ (v0 : BitVec 32) (v1 : BitVec 32) (k0_hw3 : k0_chk3 v0 v1) (k0_t28 : Fin (k0_t28_loop v0).trips), ∀ (k0_h7 : k0_cond7 v1 = 1#1), ∀ (k0_h12 : k0_cond12 v0 k0_t28 = 1#1), 32 ∣ (k0_mult13 v0).toNat := fun v0 v1 k0_hw3 k0_t28 k0_h7 k0_h12 => k0_hw3.2.2.2.2.2.2.2.2.2.2.2.2.2.2.2.2.2.2.2.2.2.2.2.2.1 k0_t28 k0_h7 k0_h12
theorem k0_off96_inb : ∀ (v0 : BitVec 32) (v1 : BitVec 32) (k0_hw3 : k0_chk3 v0 v1) (k0_t28 : Fin (k0_t28_loop v0).trips), ∀ (k0_h7 : k0_cond7 v1 = 1#1), ∀ (k0_h12 : k0_cond12 v0 k0_t28 = 1#1), ∀ a, (k0_off96 v0 k0_t28) a + S1x1x32x128.size a ≤ S6x8x1024x128.size a := fun v0 v1 k0_hw3 k0_t28 k0_h7 k0_h12 => k0_hw3.2.2.2.2.2.2.2.2.2.2.2.2.2.2.2.2.2.2.2.2.2.2.2.2.2.1 k0_t28 k0_h7 k0_h12
theorem k0_off96_packedfp8e4m3 : ∀ (v0 : BitVec 32) (v1 : BitVec 32) (k0_hw3 : k0_chk3 v0 v1) (k0_t28 : Fin (k0_t28_loop v0).trips), ∀ (k0_h7 : k0_cond7 v1 = 1#1), ∀ (k0_h12 : k0_cond12 v0 k0_t28 = 1#1), (Rect.unit (s := S6x8x1024x128) (k0_off96 v0 k0_t28) S1x1x32x128.size (k0_off96_inb v0 v1 k0_hw3 k0_t28 k0_h7 k0_h12)).PackedRows (EltTy.packing .fp8e4m3) := fun v0 v1 k0_hw3 k0_t28 k0_h7 k0_h12 => k0_hw3.2.2.2.2.2.2.2.2.2.2.2.2.2.2.2.2.2.2.2.2.2.2.2.2.2.2.1 k0_t28 k0_h7 k0_h12 (k0_off96_inb v0 v1 k0_hw3 k0_t28 k0_h7 k0_h12)
theorem k0_mult14_dvd : ∀ (v0 : BitVec 32) (v1 : BitVec 32) (k0_hw3 : k0_chk3 v0 v1) (k0_t28 : Fin (k0_t28_loop v0).trips), ∀ (k0_h7 : k0_cond7 v1 = 1#1), ∀ (k0_h12 : k0_cond12 v0 k0_t28 = 1#1), 32 ∣ (k0_mult14 v0).toNat := fun v0 v1 k0_hw3 k0_t28 k0_h7 k0_h12 => k0_hw3.2.2.2.2.2.2.2.2.2.2.2.2.2.2.2.2.2.2.2.2.2.2.2.2.2.2.2.1 k0_t28 k0_h7 k0_h12
theorem k0_off97_inb : ∀ (v0 : BitVec 32) (v1 : BitVec 32) (k0_hw3 : k0_chk3 v0 v1) (k0_t28 : Fin (k0_t28_loop v0).trips) (k0_t33 : Fin k0_t33_loop.trips), ∀ (k0_h7 : k0_cond7 v1 = 1#1), ∀ a, (k0_off97 v0 k0_t28 k0_t33) a + S1x1x512x128.size a ≤ S6x8x1024x128.size a := fun v0 v1 k0_hw3 k0_t28 k0_t33 k0_h7 => k0_hw3.2.2.2.2.2.2.2.2.2.2.2.2.2.2.2.2.2.2.2.2.2.2.2.2.2.2.2.2.1 k0_t28 k0_t33 k0_h7
theorem k0_off100_inb : ∀ (v0 : BitVec 32) (v1 : BitVec 32) (k0_hw3 : k0_chk3 v0 v1) (k0_t28 : Fin (k0_t28_loop v0).trips) (k0_t34 : Fin k0_t34_loop.trips), ∀ (k0_h7 : k0_cond7 v1 = 1#1), ∀ a, (k0_off100 v0 k0_t28 k0_t34) a + S1x1x512x128.size a ≤ S6x8x1024x128.size a := fun v0 v1 k0_hw3 k0_t28 k0_t34 k0_h7 => k0_hw3.2.2.2.2.2.2.2.2.2.2.2.2.2.2.2.2.2.2.2.2.2.2.2.2.2.2.2.2.2 k0_t28 k0_t34 k0_h7

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== KernelIdeal.lean ====
variable {F : FTy → Type} [FloatOps F] [Named F]
def κ : String → Option EReal := fun
  | "log2_softmax_scale" => some (((Real.sqrt 128)⁻¹ * (Real.log 2)⁻¹ : ℝ) : EReal)
  | "neg_inf" => some ⊥
  | _ => none
-- ==== ReferenceIdeal.lean ====
abbrev S1x1x16384 : Shape := ⟨3, ![1, 1, 16384]⟩
abbrev S1x1x8x128 : Shape := ⟨4, ![1, 1, 8, 128]⟩
abbrev S1024x128x8x128 : Shape := ⟨4, ![1024, 128, 8, 128]⟩
abbrev S8 : Shape := ⟨1, ![8]⟩
abbrev S1x1024 : Shape := ⟨2, ![1, 1024]⟩
abbrev S1 : Shape := ⟨1, ![1]⟩
abbrev S_ : Shape := ⟨0, ![]⟩
abbrev S1024 : Shape := ⟨1, ![1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S131072 : Shape := ⟨1, ![131072]⟩
abbrev S8x16x128 : Shape := ⟨3, ![8, 16, 128]⟩
abbrev S131072x8x128 : Shape := ⟨3, ![131072, 8, 128]⟩
abbrev S8x131072x128 : Shape := ⟨3, ![8, 131072, 128]⟩
abbrev S1x131072x1 : Shape := ⟨3, ![1, 131072, 1]⟩
abbrev S1x1x131072 : Shape := ⟨3, ![1, 1, 131072]⟩
abbrev S128x128 : Shape := ⟨2, ![128, 128]⟩
abbrev S8x128 : Shape := ⟨2, ![8, 128]⟩
abbrev S8x1 : Shape := ⟨2, ![8, 1]⟩
abbrev S8x1x128 : Shape := ⟨3, ![8, 1, 128]⟩
abbrev S8x1x1 : Shape := ⟨3, ![8, 1, 1]⟩
abbrev S8x16x131072 : Shape := ⟨3, ![8, 16, 131072]⟩
abbrev S8x16 : Shape := ⟨2, ![8, 16]⟩
abbrev S8x16x1 : Shape := ⟨3, ![8, 16, 1]⟩

abbrev nBuf : Space → Nat
  | .hbm => 52
  | .vmem => 14
  | .smem => 0
  | _ => 0

abbrev bufTy : (tb : Table) → Fin (tcTables nBuf tb) → BufTy
  | .hbm, ⟨0, _⟩ => ⟨S1x1x16384, .bf16⟩
  | .hbm, ⟨1, _⟩ => ⟨S1x1x8x128, .bf16⟩
  | .hbm, ⟨2, _⟩ => ⟨S1x1x8x128, .bf16⟩
  | .hbm, ⟨3, _⟩ => ⟨S1024x128x8x128, .fp8e4m3⟩
  | .hbm, ⟨4, _⟩ => ⟨S8, .f32⟩
  | .hbm, ⟨5, _⟩ => ⟨S1024x128x8x128, .fp8e4m3⟩
  | .hbm, ⟨6, _⟩ => ⟨S8, .f32⟩
  | .hbm, ⟨7, _⟩ => ⟨S1x1024, .i32⟩
  | .hbm, ⟨8, _⟩ => ⟨S1, .i32⟩
  | .hbm, ⟨9, _⟩ => ⟨S1, .i32⟩
  | .hbm, ⟨10, _⟩ => ⟨S8, .f32⟩
  | .hbm, ⟨11, _⟩ => ⟨S8, .f32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i32⟩
  | .hbm, ⟨19, _⟩ => ⟨S128, .i32⟩
  | .hbm, ⟨20, _⟩ => ⟨S1x128, .i32⟩
  | .hbm, ⟨21, _⟩ => ⟨S1024x128, .i32⟩
  | .hbm, ⟨22, _⟩ => ⟨S1024x128, .i32⟩
  | .hbm, ⟨23, _⟩ => ⟨S1024x128, .i32⟩
  | .hbm, ⟨24, _⟩ => ⟨S131072, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S131072, .i32⟩
  | .hbm, ⟨32, _⟩ => ⟨S131072, .i1⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072, .i1⟩
  | .hbm, ⟨37, _⟩ => ⟨S131072, .i32⟩
  | .hbm, ⟨38, _⟩ => ⟨S8x16x128, .bf16⟩
  | .hbm, ⟨39, _⟩ => ⟨S1024x1, .i32⟩
  | .hbm, ⟨40, _⟩ => ⟨S1024x128x8x128, .fp8e4m3⟩
  | .hbm, ⟨41, _⟩ => ⟨S131072x8x128, .fp8e4m3⟩
  | .hbm, ⟨42, _⟩ => ⟨S8x131072x128, .fp8e4m3⟩
  | .hbm, ⟨43, _⟩ => ⟨S1024x1, .i32⟩
  | .hbm, ⟨44, _⟩ => ⟨S1024x128x8x128, .fp8e4m3⟩
  | .hbm, ⟨45, _⟩ => ⟨S131072x8x128, .fp8e4m3⟩
  | .hbm, ⟨46, _⟩ => ⟨S8x131072x128, .fp8e4m3⟩
  | .hbm, ⟨47, _⟩ => ⟨S1x131072x1, .i32⟩
  | .hbm, ⟨48, _⟩ => ⟨S1x1x131072, .i32⟩
  | .hbm, ⟨49, _⟩ => ⟨S128x128, .bf16⟩
  | .hbm, ⟨50, _⟩ => ⟨S8x128, .fp8e4m3⟩
  | .hbm, ⟨51, _⟩ => ⟨S8x128, .fp8e4m3⟩
  | .local _ .vmem, ⟨0, _⟩ => ⟨S8x16x128, .bf16⟩
  | .local _ .vmem, ⟨1, _⟩ => ⟨S1x1x8x128, .bf16⟩
  | .local _ .vmem, ⟨2, _⟩ => ⟨S1x1x8x128, .bf16⟩
  | .local _ .vmem, ⟨3, _⟩ => ⟨S8, .f32⟩
  | .local _ .vmem, ⟨4, _⟩ => ⟨S8, .f32⟩
  | .local _ .vmem, ⟨5, _⟩ => ⟨S8, .f32⟩
  | .local _ .vmem, ⟨6, _⟩ => ⟨S8, .f32⟩
  | .local _ .vmem, ⟨7, _⟩ => ⟨S8x131072x128, .fp8e4m3⟩
  | .local _ .vmem, ⟨8, _⟩ => ⟨S8x131072x128, .fp8e4m3⟩
  | .local _ .vmem, ⟨9, _⟩ => ⟨S1x131072x1, .i32⟩
  | .local _ .vmem, ⟨10, _⟩ => ⟨S1x1x131072, .i32⟩
  | .local _ .vmem, ⟨11, _⟩ => ⟨S128x128, .bf16⟩
  | .local _ .vmem, ⟨12, _⟩ => ⟨S8x128, .fp8e4m3⟩
  | .local _ .vmem, ⟨13, _⟩ => ⟨S8x128, .fp8e4m3⟩
  | _, _ => ⟨S1x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S8x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x131072x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x131072x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x131072x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1x131072 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Asked.lean ====
/-
  What the precondition says: the position is below 131072 and every page number below 1024; over the reals, the scales are
  nonnegative and finite; no earlier token is stored at the place of the position.
-/
module

public import proofs.«01_k».proof.Pre_sound
public import Idealize.ShloMosaic.Lib.WordCmp
public import Idealize.ShloMosaic.Lib.IdealHost
public import Idealize.ShloMosaic.Lib.ValueIdxCore
public import Idealize.ShloMosaic.Lib.StableHlo.ReadAt
public import Idealize.ShloMosaic.Lib.Pointwise
public import Idealize.ShloMosaic.Lib.StableHlo

@[expose] public section

noncomputable section

namespace Cert.Pre_sound

open Idealize.ShloMosaic Facts

variable [Facts] {F : FTy → Type} [FloatOps F]

/-- A word at least 0 and below `n`, both read as signed, is below `n`. -/
theorem word_lt {n : BitVec 32} (hn : n.toNat < 2147483648) (v : BitVec 32)
    (e : IntOp.andi (IntOp.cmpi .sge v 0#32) (IntOp.cmpi .slt v n) = 1#1) : v.toNat < n.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hv := v.isLt
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem asked (a0 : FVec F S1x1x16384 .bf16) (a1 a2 : FVec F S1x1x8x128 .bf16) (a3 : FVec F S1024x128x8x128 .fp8e4m3) (a4 : FVec F S8 .f32)
    (a5 : FVec F S1024x128x8x128 .fp8e4m3) (a6 : FVec F S8 .f32) (a7 : IVec S1x1024 32) (a8 a9 : IVec S1 32) (a10 a11 : FVec F S8 .f32)
    (h7 : (fn (F := F) a0 a1 a2 a3 a4 a5 a6 a7 a8 a9 a10 a11).1 = fun _ => 1#1)
    (h8 : (fn (F := F) a0 a1 a2 a3 a4 a5 a6 a7 a8 a9 a10 a11).2.1 = fun _ => 1#1) :
    (∀ i : S1x1024.Idx, (a7 i).toNat < 1024) ∧ (∀ i : S1.Idx, (a8 i).toNat < 131072) :=
  ⟨fun i => word_lt (n := 1024#32) (by decide) _ (congrFun h7 i), fun i => word_lt (n := 131072#32) (by decide) _ (congrFun h8 i)⟩

theorem and_one {a b : BitVec 1} (h : IntOp.andi a b = 1#1) : a = 1#1 ∧ b = 1#1 := by
  revert a b; decide

/-- A scale at least 0 and below infinity. -/
theorem in_range {x : EReal} (e : IntOp.andi (Ideal.cmp .oge x (Ideal.ofBits .f32 0x00000000#32)) (Ideal.cmp .olt x (Ideal.ofBits .f32 0x7F800000#32)) = 1#1) :
    0 ≤ x ∧ x ≠ ⊤ := by
  rw [Ideal.ofBits_zero_f32, show Ideal.ofBits .f32 0x7F800000#32 = ⊤ by simp [Ideal.ofBits, Ideal.ieee]] at e
  have h := and_one e
  simp only [Ideal.cmp] at h
  have ofBool_eq_one (p : Bool) : (BitVec.ofBool p = 1#1) ↔ p = true := by cases p <;> decide
  rw [ofBool_eq_one, ofBool_eq_one, decide_eq_true_eq, decide_eq_true_eq] at h
  exact ⟨h.1, h.2.ne⟩

theorem slice_at {α : Type} (x : S131072.Idx → α) (st : Fin 1 → ℤ) (p : ℕ) (hp : p < 131072) (hst : st = fun _ => (p : ℤ)) (j : S1.Idx) :
    Host.dynamicSlice S1 x st sliceFits_S131072_S1 j = x (ix1 ⟨p, hp⟩) := by
  subst hst
  rw [Host.dynamicSlice_apply]
  refine congrArg x (funext fun a => Fin.ext ?_)
  match a with
  | ⟨0, _⟩ =>
    have hj : (j 0).val < 1 := (j 0).isLt
    show Host.clampedStart S131072 S1 _ (fun _ => (p : ℤ)) 0 + (j 0).val = p
    rw [Host.clampedStart_of_le _ _ _ p rfl (by show p + 1 ≤ 131072; omega)]
    omega

/-- The place of a token. -/
def placeOf (x : IVec S1x1024 32) (t : Fin 131072) : BitVec 32 :=
  IntOp.addi (IntOp.muli (x (ix2 0 ⟨t.val / 128, by omega⟩)) 128#32) (BitVec.ofNat 32 (t.val % 128))

theorem place_apart {p : ℕ} (hp : p < 131072) {t : Fin 131072} (ht : t.val < p) {a b : BitVec 32}
    (e : IntOp.ori (IntOp.cmpi .ne a b) (IntOp.cmpi .sge (BitVec.ofNat 32 t.val) (BitVec.ofNat 32 p)) = 1#1) : a ≠ b := by
  rintro rfl
  have h : IntOp.cmpi .sge (BitVec.ofNat 32 t.val) (BitVec.ofNat 32 p) = 0#1 := by
    show BitVec.ofBool ((BitVec.ofNat 32 p).sle (BitVec.ofNat 32 t.val)) = 0#1
    have : ¬ (BitVec.ofNat 32 p).sle (BitVec.ofNat 32 t.val) = true := by
      rw [BitVec.sle_eq_decide, decide_eq_true_eq]
      simp only [BitVec.toInt_eq_toNat_cond, BitVec.toNat_ofNat]
      rw [Nat.mod_eq_of_lt (by omega), Nat.mod_eq_of_lt (by omega), if_pos (by omega), if_pos (by omega)]
      omega
    rw [Bool.not_eq_true] at this
    rw [this]; rfl
  have h' : IntOp.cmpi .ne a a = 0#1 := by
    show BitVec.ofBool (a != a) = 0#1
    simp
  rw [h, h'] at e
  exact absurd e (by decide)

section
variable (a0 : FVec Ideal S1x1x16384 .bf16) (a1 a2 : FVec Ideal S1x1x8x128 .bf16) (a3 : FVec Ideal S1024x128x8x128 .fp8e4m3) (a4 : FVec Ideal S8 .f32)
  (a5 : FVec Ideal S1024x128x8x128 .fp8e4m3) (a6 : FVec Ideal S8 .f32) (a7 : IVec S1x1024 32) (a8 a9 : IVec S1 32) (a10 a11 : FVec Ideal S8 .f32)
theorem scale4 (h : (fn (F := Ideal) a0 a1 a2 a3 a4 a5 a6 a7 a8 a9 a10 a11).2.2.1 = fun _ => 1#1) (i : S8.Idx) : 0 ≤ (a4 i : EReal) ∧ (a4 i : EReal) ≠ ⊤ := in_range (congrFun h i)
theorem scale6 (h : (fn (F := Ideal) a0 a1 a2 a3 a4 a5 a6 a7 a8 a9 a10 a11).2.2.2.1 = fun _ => 1#1) (i : S8.Idx) : 0 ≤ (a6 i : EReal) ∧ (a6 i : EReal) ≠ ⊤ := in_range (congrFun h i)
theorem apart (h : (fn (F := Ideal) a0 a1 a2 a3 a4 a5 a6 a7 a8 a9 a10 a11).2.2.2.2 = fun _ => 1#1) (p : ℕ) (hp : p < 131072) (h8 : ∀ i, a8 i = BitVec.ofNat 32 p)
    (t : Fin 131072) (ht : t.val < p) : placeOf a7 t ≠ placeOf a7 ⟨p, hp⟩ := by
  have hs : IntOp.cmpi .slt (BitVec.ofNat 32 p) 0#32 = 0#1 := by
    have : ¬ (BitVec.ofNat 32 p).slt 0#32 = true := by
      rw [BitVec.slt_eq_decide, decide_eq_true_eq, BitVec.toInt_eq_toNat_cond, BitVec.toNat_ofNat]
      simp; omega
    show BitVec.ofBool ((BitVec.ofNat 32 p).slt 0#32) = 0#1
    rw [Bool.not_eq_true] at this
    rw [this]; rfl
  obtain rfl : a8 = fun _ => BitVec.ofNat 32 p := funext h8
  have e := congrFun h (ix1 t)
  unfold fn fn_part1 fn_part2 at e
  dsimp only at e
  obtain ⟨x, st, j, hx, hst, e⟩ : ∃ (x : S131072.Idx → BitVec 32) (st : Fin 1 → ℤ) (j : S1.Idx), (∀ u : Fin 131072, x (ix1 u) = placeOf a7 u) ∧ (st = fun _ => (p : ℤ)) ∧
      IntOp.ori (IntOp.cmpi .ne (x (ix1 t)) (Host.dynamicSlice S1 x st sliceFits_S131072_S1 j)) (IntOp.cmpi .sge (BitVec.ofNat 32 t.val) (BitVec.ofNat 32 p)) = 1#1 := by
    refine ⟨_, _, _, ?_, ?_, e⟩
    · intro u
      unfold placeOf
      pointwise
    · funext k
      obtain rfl : k = 0 := Subsingleton.elim _ _
      show (Scalar.select (IntOp.cmpi .slt (BitVec.ofNat 32 p) 0#32) (IntOp.addi (BitVec.ofNat 32 p) 131072#32) (BitVec.ofNat 32 p)).toInt = (p : ℤ)
      rw [hs]
      show (BitVec.ofNat 32 p).toInt = p
      rw [BitVec.toInt_eq_toNat_cond, BitVec.toNat_ofNat]
      split <;> omega
  rw [slice_at x st p hp hst j, hx, hx] at e
  exact place_apart hp ht e
end

end Cert.Pre_sound

end
-- ==== Proof.Words.lean ====
/-
  The words of the kernel: floor division and remainder by a power of two as the program writes them, the number of
  blocks of 1024 tokens a position needs, and the closed form of each window's offsets at a trip of a loop.
-/
module

public import proofs.«01_k».proof.KernelIdeal
public import Idealize.ShloMosaic.Lib.WordArith
public import Idealize.ShloMosaic.Lib.WordCmp

@[expose] public section

namespace Cert.KernelIdeal.Words

open Idealize.ShloMosaic

/-- The floor of a quotient of words, as the program computes it from the quotient toward zero. -/
def fdiv (x c : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

/-- The remainder of the divisor's sign, as the program computes it from the remainder of the dividend's. -/
def fmod (x c : BitVec 32) : BitVec 32 :=
  let d := Scalar.select (Scalar.cmpi .eq c 0#32) 1#32 c
  let r := Scalar.remsi x d
  Scalar.select (Scalar.andi (Scalar.xori (Scalar.cmpi .slt r 0#32) (Scalar.cmpi .slt d 0#32)) (Scalar.cmpi .ne r 0#32))
    (Scalar.addi r d) r

theorem not_corner (a c : ℕ) (hc : 0 < c) (hc' : c < 2 ^ 31) (ha : a < 2 ^ 31) :
    ¬ IntOp.SDivCorner (BitVec.ofNat 32 a) (BitVec.ofNat 32 c) := by
  rintro (h | ⟨h, -⟩)
  · have := congrArg BitVec.toNat h
    simp at this; omega
  · have := congrArg BitVec.toNat h
    simp [BitVec.intMin] at this; omega

theorem msb_false (a : ℕ) (ha : a < 2 ^ 31) : (BitVec.ofNat 32 a).msb = false := by
  rw [BitVec.msb_eq_decide]; simp; omega

theorem divsi_ofNat (a c : ℕ) (hc : 0 < c) (hc' : c < 2 ^ 31) (ha : a < 2 ^ 31) :
    Scalar.divsi (BitVec.ofNat 32 a) (BitVec.ofNat 32 c) = BitVec.ofNat 32 (a / c) := by
  unfold Scalar.divsi IntOp.divsi
  rw [if_neg (not_corner a c hc hc' ha), BitVec.sdiv_eq, msb_false a ha, msb_false c hc']
  apply BitVec.eq_of_toNat_eq
  have : a / c ≤ a := Nat.div_le_self _ _
  simp only [BitVec.udiv_eq, BitVec.toNat_udiv, BitVec.toNat_ofNat]
  rw [Nat.mod_eq_of_lt (by omega), Nat.mod_eq_of_lt (by omega), Nat.mod_eq_of_lt (by omega)]

theorem remsi_ofNat (a c : ℕ) (hc : 0 < c) (hc' : c < 2 ^ 31) (ha : a < 2 ^ 31) :
    Scalar.remsi (BitVec.ofNat 32 a) (BitVec.ofNat 32 c) = BitVec.ofNat 32 (a % c) := by
  unfold Scalar.remsi IntOp.remsi
  rw [if_neg (not_corner a c hc hc' ha), BitVec.srem_eq, msb_false a ha, msb_false c hc']
  apply BitVec.eq_of_toNat_eq
  have : a % c ≤ a := Nat.mod_le _ _
  simp only [BitVec.umod_eq, BitVec.toNat_umod, BitVec.toNat_ofNat]
  rw [Nat.mod_eq_of_lt (a := a) (by omega), Nat.mod_eq_of_lt (a := c) (by omega), Nat.mod_eq_of_lt (a := a % c) (by omega)]

theorem slt_zero (a : ℕ) (ha : a < 2 ^ 31) : Scalar.cmpi .slt (BitVec.ofNat 32 a) 0#32 = 0#1 := by
  unfold Scalar.cmpi
  rw [WordCmp.cmpi_slt_zero]
  have : ¬ (2 ^ (32 - 1) ≤ (BitVec.ofNat 32 a).toNat) := by simp; omega
  rw [decide_eq_false this]; rfl

theorem sgt_zero (a : ℕ) (h0 : 0 < a) (ha : a < 2 ^ 31) : Scalar.cmpi .sgt (BitVec.ofNat 32 a) 0#32 = 1#1 :=
  (WordCmp.cmpi_sgt_ofNat_eq_one_iff (w := 32) (a := a) (b := 0) (by omega) (by omega)).2 h0

theorem fdiv_ofNat (a c : ℕ) (hc : 0 < c) (hc' : c < 2 ^ 31) (ha : a < 2 ^ 31) :
    fdiv (BitVec.ofNat 32 a) (BitVec.ofNat 32 c) = BitVec.ofNat 32 (a / c) := by
  unfold fdiv
  rw [divsi_ofNat a c hc hc' ha, remsi_ofNat a c hc hc' ha, slt_zero a ha, slt_zero c hc', sgt_zero c hc hc']
  apply WordCmp.select_of_eq_zero
  rcases Nat.eq_zero_or_pos a with rfl | h0
  · simp; decide
  · rw [sgt_zero a h0 ha]
    have : Scalar.cmpi .ne (Scalar.subi (Scalar.extui 1#1) (Scalar.extui 0#1)) (Scalar.subi (Scalar.extui 1#1) (Scalar.extui 0#1)) = 0#1 := by
      decide
    rw [this]; unfold Scalar.andi IntOp.andi; simp

theorem fmod_ofNat (a c : ℕ) (hc : 0 < c) (hc' : c < 2 ^ 31) (ha : a < 2 ^ 31) :
    fmod (BitVec.ofNat 32 a) (BitVec.ofNat 32 c) = BitVec.ofNat 32 (a % c) := by
  have hd : Scalar.select (Scalar.cmpi .eq (BitVec.ofNat 32 c) 0#32) 1#32 (BitVec.ofNat 32 c) = BitVec.ofNat 32 c :=
    WordCmp.select_of_eq_zero ((WordCmp.cmpi_eq_ofNat_eq_zero_iff (w := 32) (a := c) (b := 0) (by omega) (by omega)).2 (by omega)) _ _
  unfold fmod
  simp only [hd, remsi_ofNat a c hc hc' ha]
  have hm : a % c ≤ a := Nat.mod_le _ _
  rw [slt_zero (a % c) (by omega), slt_zero c hc']
  apply WordCmp.select_of_eq_zero
  have : Scalar.xori 0#1 0#1 = 0#1 := by decide
  rw [this]; unfold Scalar.andi IntOp.andi; simp

/-- The number of blocks of 1024 tokens that hold the positions 0 to `q`. -/
abbrev nb (q : ℕ) : ℕ := q / 1024 + 1

theorem nb_lt {q : ℕ} (hq : q < 131072) : nb q < 129 := by show q / 1024 + 1 < 129; omega

theorem nb_word (q : ℕ) (hq : q < 131072) : Scalar.addi (fdiv (BitVec.ofNat 32 q) 1024#32) 1#32 = BitVec.ofNat 32 (nb q) := by
  have h := fdiv_ofNat q 1024 (by omega) (by omega) (by omega)
  have h' : fdiv (BitVec.ofNat 32 q) 1024#32 = BitVec.ofNat 32 (q / 1024) := h
  rw [h']
  exact WordCmp.addi_ofNat (w := 32) (q / 1024) 1

theorem loop_ub (q : ℕ) (hq : q < 131072) :
    Scalar.addi 0#32 (Scalar.muli (Scalar.divsi (Scalar.subi (Scalar.addi (fdiv (BitVec.ofNat 32 q) 1024#32) 1#32) 0#32) 1#32) 1#32)
      = BitVec.ofNat 32 (nb q) := by
  rw [nb_word q hq]
  have : ∀ n < 129, Scalar.addi 0#32 (Scalar.muli (Scalar.divsi (Scalar.subi (BitVec.ofNat 32 n) 0#32) 1#32) 1#32) = BitVec.ofNat 32 n := by
    decide +kernel
  exact this _ (nb_lt hq)

theorem t4_loop (q : ℕ) (hq : q < 131072) : k0_t4_loop (BitVec.ofNat 32 q) = ⟨0#32, BitVec.ofNat 32 (nb q), 1#32⟩ :=
  congrArg (fun u => (⟨0#32, u, 1#32⟩ : Scf.Loop 32)) (loop_ub q hq)
theorem t21_loop (q : ℕ) (hq : q < 131072) : k0_t21_loop (BitVec.ofNat 32 q) = ⟨0#32, BitVec.ofNat 32 (nb q), 1#32⟩ :=
  congrArg (fun u => (⟨0#32, u, 1#32⟩ : Scf.Loop 32)) (loop_ub q hq)
theorem t11_loop (q : ℕ) (hq : q < 131072) : k0_t11_loop (BitVec.ofNat 32 q) = ⟨BitVec.ofNat 32 (nb q), BitVec.ofNat 32 (nb q), 1#32⟩ := by
  have h2 : Scalar.addi 0#32 (Scalar.subi (Scalar.addi (fdiv (BitVec.ofNat 32 q) 1024#32) 1#32) 0#32) = BitVec.ofNat 32 (nb q) := by
    rw [nb_word q hq]
    have : ∀ n < 129, Scalar.addi 0#32 (Scalar.subi (BitVec.ofNat 32 n) 0#32) = BitVec.ofNat 32 n := by decide +kernel
    exact this _ (nb_lt hq)
  exact congrArg₂ (fun l u => (⟨l, u, 1#32⟩ : Scf.Loop 32)) (loop_ub q hq) h2
theorem t28_loop (q : ℕ) (hq : q < 131072) : k0_t28_loop (BitVec.ofNat 32 q) = ⟨BitVec.ofNat 32 (nb q), BitVec.ofNat 32 (nb q), 1#32⟩ :=
  t11_loop q hq

theorem trips_main : ∀ n < 129, Scf.trips 0#32 (BitVec.ofNat 32 n) 1#32 = n ∧ Scf.OK 0#32 (BitVec.ofNat 32 n) 1#32
    ∧ Scf.trips (BitVec.ofNat 32 n) (BitVec.ofNat 32 n) 1#32 = 0 ∧ Scf.OK (BitVec.ofNat 32 n) (BitVec.ofNat 32 n) 1#32 := by
  decide +kernel

theorem t4_trips (q : ℕ) (hq : q < 131072) : (k0_t4_loop (BitVec.ofNat 32 q)).trips = nb q := by
  rw [t4_loop q hq]; exact (trips_main _ (nb_lt hq)).1
theorem t21_trips (q : ℕ) (hq : q < 131072) : (k0_t21_loop (BitVec.ofNat 32 q)).trips = nb q := by
  rw [t21_loop q hq]; exact (trips_main _ (nb_lt hq)).1
theorem t11_trips (q : ℕ) (hq : q < 131072) : (k0_t11_loop (BitVec.ofNat 32 q)).trips = 0 := by
  rw [t11_loop q hq]; exact (trips_main _ (nb_lt hq)).2.2.1
theorem t28_trips (q : ℕ) (hq : q < 131072) : (k0_t28_loop (BitVec.ofNat 32 q)).trips = 0 := by
  rw [t28_loop q hq]; exact (trips_main _ (nb_lt hq)).2.2.1
theorem t4_OK (q : ℕ) (hq : q < 131072) : (k0_t4_loop (BitVec.ofNat 32 q)).OK := by
  rw [t4_loop q hq]; exact (trips_main _ (nb_lt hq)).2.1
theorem t11_OK (q : ℕ) (hq : q < 131072) : (k0_t11_loop (BitVec.ofNat 32 q)).OK := by
  rw [t11_loop q hq]; exact (trips_main _ (nb_lt hq)).2.2.2

/-! ## Closed forms at a trip -/

theorem prime_off : ∀ i < 5, ∀ g < 8,
    (Scalar.addi (Scalar.muli (Scf.iv 0#32 1#32 i) 8#32) (Scf.iv 0#32 1#32 g)).toNat = 8 * i + g
    ∧ (Scf.iv 0#32 1#32 i : BitVec 32).toNat = i ∧ (Scf.iv 0#32 1#32 g : BitVec 32).toNat = g := by decide +kernel

theorem start_off : ∀ i < 128, ∀ g < 8,
    (Scalar.addi (Scalar.muli (Scalar.subi (Scalar.addi (Scf.iv 0#32 1#32 i) 6#32) 1#32) 8#32) (Scf.iv 0#32 1#32 g)).toNat = 8 * (i + 5) + g
    ∧ (Scalar.remsi (Scalar.subi (Scalar.addi (Scf.iv 0#32 1#32 i) 6#32) 1#32) 6#32).toNat = (i + 5) % 6
    ∧ (Scf.iv 0#32 1#32 g : BitVec 32).toNat = g := by decide +kernel

theorem wait_off : ∀ i < 128, ∀ g < 8,
    (Scalar.addi (Scalar.muli (Scf.iv 0#32 1#32 i) 8#32) (Scf.iv 0#32 1#32 g)).toNat = 8 * i + g
    ∧ (Scalar.remsi (Scf.iv 0#32 1#32 i) 6#32).toNat = i % 6
    ∧ (Scf.iv 0#32 1#32 g : BitVec 32).toNat = g := by decide +kernel

theorem pair_off : ∀ j < 16,
    (Scalar.divsi (Scalar.muli (Scf.iv 0#32 1#32 j) 128#32) 256#32).toNat = j / 2
    ∧ (Scalar.muli (Scalar.remsi (Scalar.muli (Scf.iv 0#32 1#32 j) 128#32) 256#32) 4#32).toNat = 512 * (j % 2)
    ∧ (Scalar.muli (Scf.iv 0#32 1#32 j) 256#32).toNat = 256 * j := by decide +kernel

theorem cond_lt (q : ℕ) (hq : q < 131072) (x : ℕ) (hx : x < 2 ^ 31) (w : BitVec 32) (hw : w = BitVec.ofNat 32 x) :
    (Scalar.cmpi .ne (Scalar.extui (Scalar.cmpi .slt w (Scalar.addi (fdiv (BitVec.ofNat 32 q) 1024#32) 1#32))) 0#32 = 1#1) ↔ x < nb q := by
  rw [nb_word q hq, hw]
  have key : ∀ b : BitVec 1, (Scalar.cmpi .ne (Scalar.extui b) 0#32 = 1#1) ↔ b = 1#1 := by decide
  have hn := nb_lt hq
  rw [key]
  exact WordCmp.cmpi_slt_ofNat_eq_one_iff (w := 32) (by omega) (by omega)

theorem start_word : ∀ i < 128, Scalar.subi (Scalar.addi (Scf.iv 0#32 1#32 i) 6#32) 1#32 = BitVec.ofNat 32 (i + 5) := by decide +kernel

theorem iv_word : ∀ i < 128, (Scf.iv 0#32 1#32 i : BitVec 32) = BitVec.ofNat 32 i := by decide +kernel

theorem cond2_iff (q : ℕ) (hq : q < 131072) (k : Fin k0_t1_loop.trips) : k0_cond2 (BitVec.ofNat 32 q) k = 1#1 ↔ k.val < nb q :=
  cond_lt q hq k.val (by have : k.val < 5 := k.isLt; omega) _ (iv_word _ (by have : k.val < 5 := k.isLt; omega))

theorem cond3_iff (q : ℕ) (hq : q < 131072) (k : Fin (k0_t4_loop (BitVec.ofNat 32 q)).trips) :
    k0_cond3 (BitVec.ofNat 32 q) k = 1#1 ↔ k.val + 5 < nb q := by
  have hk : k.val < nb q := lt_of_lt_of_eq k.isLt (t4_trips q hq)
  have hn : nb q = q / 1024 + 1 := rfl
  exact cond_lt q hq (k.val + 5) (by omega) _ (start_word _ (by omega))

theorem cond4_iff (q : ℕ) (hq : q < 131072) (k : Fin (k0_t4_loop (BitVec.ofNat 32 q)).trips) :
    k0_cond4 (BitVec.ofNat 32 q) k = 1#1 ↔ k.val + 1 = nb q := by
  have hk : k.val < nb q := lt_of_lt_of_eq k.isLt (t4_trips q hq)
  have hn : nb q = q / 1024 + 1 := rfl
  show (Scalar.cmpi .ne (Scalar.extui (Scalar.cmpi .eq (Scf.iv 0#32 1#32 k.val)
    (Scalar.subi (Scalar.addi (fdiv (BitVec.ofNat 32 q) 1024#32) 1#32) 1#32))) 0#32 = 1#1) ↔ _
  rw [nb_word q hq, iv_word _ (by omega)]
  have h1 : Scalar.subi (BitVec.ofNat 32 (nb q)) 1#32 = BitVec.ofNat 32 (q / 1024) := by
    have : ∀ n < 128, Scalar.subi (BitVec.ofNat 32 (n + 1)) 1#32 = BitVec.ofNat 32 n := by decide +kernel
    exact this _ (by omega)
  have key : ∀ b : BitVec 1, (Scalar.cmpi .ne (Scalar.extui b) 0#32 = 1#1) ↔ b = 1#1 := by decide
  rw [h1, key]
  refine (WordCmp.cmpi_eq_ofNat_eq_one_iff (w := 32) (by omega) (by omega)).trans ?_
  omega

theorem cond8_iff (q : ℕ) (hq : q < 131072) (k : Fin k0_t18_loop.trips) : k0_cond8 (BitVec.ofNat 32 q) k = 1#1 ↔ k.val < nb q :=
  cond2_iff q hq k
theorem cond9_iff (q : ℕ) (hq : q < 131072) (k : Fin (k0_t21_loop (BitVec.ofNat 32 q)).trips) :
    k0_cond9 (BitVec.ofNat 32 q) k = 1#1 ↔ k.val + 5 < nb q := cond3_iff q hq k
theorem cond10_iff (q : ℕ) (hq : q < 131072) (k : Fin (k0_t21_loop (BitVec.ofNat 32 q)).trips) :
    k0_cond10 (BitVec.ofNat 32 q) k = 1#1 ↔ k.val + 1 = nb q := cond4_iff q hq k

/-- The page within its block of the position `q`, and the first of the 32 rows (four tokens of eight heads) that
    hold its token. -/
theorem patch_page (q : ℕ) (hq : q < 131072) :
    fdiv (fmod (BitVec.ofNat 32 q) 1024#32) 128#32 = BitVec.ofNat 32 (q % 1024 / 128) := by
  have h1 : fmod (BitVec.ofNat 32 q) 1024#32 = BitVec.ofNat 32 (q % 1024) := fmod_ofNat q 1024 (by omega) (by omega) (by omega)
  rw [h1]
  exact fdiv_ofNat (q % 1024) 128 (by omega) (by omega) (by omega)

theorem patch_slot (q : ℕ) (hq : q < 131072) :
    fmod (fmod (BitVec.ofNat 32 q) 1024#32) 128#32 = BitVec.ofNat 32 (q % 128) := by
  have h1 : fmod (BitVec.ofNat 32 q) 1024#32 = BitVec.ofNat 32 (q % 1024) := fmod_ofNat q 1024 (by omega) (by omega) (by omega)
  have h2 : fmod (BitVec.ofNat 32 (q % 1024)) 128#32 = BitVec.ofNat 32 (q % 1024 % 128) := fmod_ofNat (q % 1024) 128 (by omega) (by omega) (by omega)
  rw [h1, h2, Nat.mod_mod_of_dvd q (by decide : 128 ∣ 1024)]

theorem patch_row (q : ℕ) (hq : q < 131072) :
    Scalar.muli (fdiv (fmod (fmod (BitVec.ofNat 32 q) 1024#32) 128#32) 4#32) 32#32 = BitVec.ofNat 32 (q % 128 / 4 * 32) := by
  rw [patch_slot q hq]
  have h3 : fdiv (BitVec.ofNat 32 (q % 128)) 4#32 = BitVec.ofNat 32 (q % 128 / 4) := fdiv_ofNat (q % 128) 4 (by omega) (by omega) (by omega)
  rw [h3]
  exact WordCmp.muli_ofNat (w := 32) (q % 128 / 4) 32

theorem off25_eq (q : ℕ) (hq : q < 131072) (k : Fin (k0_t4_loop (BitVec.ofNat 32 q)).trips) :
    k0_off25 (BitVec.ofNat 32 q) k = ![k.val % 6, q % 1024 / 128, q % 128 / 4 * 32, 0] := by
  have hk : k.val < nb q := lt_of_lt_of_eq k.isLt (t4_trips q hq)
  have hn : nb q = q / 1024 + 1 := rfl
  show ![(Scalar.remsi (Scf.iv 0#32 1#32 k.val) 6#32).toNat, (fdiv (fmod (BitVec.ofNat 32 q) 1024#32) 128#32).toNat,
    (Scalar.muli (fdiv (fmod (fmod (BitVec.ofNat 32 q) 1024#32) 128#32) 4#32) 32#32).toNat, 0] = _
  rw [patch_row q hq, patch_page q hq, (wait_off k.val (by omega) 0 (by omega)).2.1]
  congr 2
  · simp; omega
  · congr 1; simp; omega

theorem off9_eq (q : ℕ) (hq : q < 131072) (k : Fin (k0_t4_loop (BitVec.ofNat 32 q)).trips) (g : Fin k0_t5_loop.trips) :
    k0_off9 (BitVec.ofNat 32 q) k g = ![8 * (k.val + 5) + g.val] := by
  have hk : k.val < nb q := lt_of_lt_of_eq k.isLt (t4_trips q hq)
  have hn : nb q = q / 1024 + 1 := rfl
  exact congrArg (fun x => ![x]) (start_off k.val (by omega) g.val g.isLt).1
theorem off10_eq (q : ℕ) (hq : q < 131072) (k : Fin (k0_t4_loop (BitVec.ofNat 32 q)).trips) :
    k0_off10 (BitVec.ofNat 32 q) k = ![(k.val + 5) % 6] := by
  have hk : k.val < nb q := lt_of_lt_of_eq k.isLt (t4_trips q hq)
  have hn : nb q = q / 1024 + 1 := rfl
  exact congrArg (fun x => ![x]) (start_off k.val (by omega) 0 (by omega)).2.1
theorem off11_eq (q : ℕ) (hq : q < 131072) (k : Fin (k0_t4_loop (BitVec.ofNat 32 q)).trips) (g : Fin k0_t5_loop.trips) :
    k0_off11 (BitVec.ofNat 32 q) k g = ![(k.val + 5) % 6, g.val, 0, 0] := by
  have hk : k.val < nb q := lt_of_lt_of_eq k.isLt (t4_trips q hq)
  have hn : nb q = q / 1024 + 1 := rfl
  have h := start_off k.val (by omega) g.val g.isLt
  exact congrArg₂ (fun x y => ![x, y, 0, 0]) h.2.1 h.2.2
theorem off17_eq (q : ℕ) (hq : q < 131072) (k : Fin (k0_t4_loop (BitVec.ofNat 32 q)).trips) (g : Fin k0_t7_loop.trips) :
    k0_off17 (BitVec.ofNat 32 q) k g = ![8 * k.val + g.val] := by
  have hk : k.val < nb q := lt_of_lt_of_eq k.isLt (t4_trips q hq)
  have hn : nb q = q / 1024 + 1 := rfl
  exact congrArg (fun x => ![x]) (wait_off k.val (by omega) g.val g.isLt).1
theorem off18_eq (q : ℕ) (hq : q < 131072) (k : Fin (k0_t4_loop (BitVec.ofNat 32 q)).trips) :
    k0_off18 (BitVec.ofNat 32 q) k = ![k.val % 6] := by
  have hk : k.val < nb q := lt_of_lt_of_eq k.isLt (t4_trips q hq)
  have hn : nb q = q / 1024 + 1 := rfl
  exact congrArg (fun x => ![x]) (wait_off k.val (by omega) 0 (by omega)).2.1
theorem off19_eq (q : ℕ) (hq : q < 131072) (k : Fin (k0_t4_loop (BitVec.ofNat 32 q)).trips) (g : Fin k0_t7_loop.trips) :
    k0_off19 (BitVec.ofNat 32 q) k g = ![k.val % 6, g.val, 0, 0] := by
  have hk : k.val < nb q := lt_of_lt_of_eq k.isLt (t4_trips q hq)
  have hn : nb q = q / 1024 + 1 := rfl
  have h := wait_off k.val (by omega) g.val g.isLt
  exact congrArg₂ (fun x y => ![x, y, 0, 0]) h.2.1 h.2.2
theorem off26_eq (q : ℕ) (hq : q < 131072) (k : Fin (k0_t4_loop (BitVec.ofNat 32 q)).trips) (j : Fin k0_t9_loop.trips) :
    k0_off26 (BitVec.ofNat 32 q) k j = ![k.val % 6, j.val / 2, 512 * (j.val % 2), 0] := by
  have hk : k.val < nb q := lt_of_lt_of_eq k.isLt (t4_trips q hq)
  have hn : nb q = q / 1024 + 1 := rfl
  have h := pair_off j.val j.isLt
  show ![(Scalar.remsi (Scf.iv 0#32 1#32 k.val) 6#32).toNat, _, _, 0] = _
  rw [(wait_off k.val (by omega) 0 (by omega)).2.1]
  exact congrArg₂ (fun x y => ![k.val % 6, x, y, 0]) h.1 h.2.1
theorem off27_eq (j : Fin k0_t9_loop.trips) : k0_off27 j = ![0, 256 * j.val] :=
  congrArg (fun x => ![0, x]) (pair_off j.val j.isLt).2.2
theorem off29_eq (q : ℕ) (hq : q < 131072) (k : Fin (k0_t4_loop (BitVec.ofNat 32 q)).trips) (j : Fin k0_t10_loop.trips) :
    k0_off29 (BitVec.ofNat 32 q) k j = ![k.val % 6, j.val / 2, 512 * (j.val % 2), 0] := off26_eq q hq k j

theorem mult1_dvd (q : ℕ) (hq : q < 131072) : 32 ∣ (k0_mult1 (BitVec.ofNat 32 q)).toNat := by
  have h : k0_mult1 (BitVec.ofNat 32 q) = BitVec.ofNat 32 (q % 128 / 4 * 32) := patch_row q hq
  rw [h]; simp; omega

/-! ## The kernel's side condition -/

theorem inb1 {a b c : ℕ} (h : a + b ≤ c) : ∀ i : Fin 1, (![a] : Fin 1 → ℕ) i + (![b] : Fin 1 → ℕ) i ≤ (![c] : Fin 1 → ℕ) i := by
  intro i; fin_cases i; exact h

theorem inb4 (o : Fin 4 → ℕ) (a g r : ℕ) (t : ℕ) (ho : o = ![a, g, r, 0]) (ha : a < 6) (hg : g < 8) (hr : r + t ≤ 1024) :
    ∀ i : Fin 4, o i + (![1, 1, t, 128] : Fin 4 → ℕ) i ≤ (![6, 8, 1024, 128] : Fin 4 → ℕ) i := by
  subst ho; intro i; fin_cases i <;> simp <;> omega

theorem packed4 (o : Fin 4 → ℕ) (a g r : ℕ) (ho : o = ![a, g, r, 0]) (hr : 4 ∣ r)
    (hinb : ∀ a, o a + S1x1x32x128.size a ≤ S6x8x1024x128.size a) :
    (Rect.unit (s := S6x8x1024x128) o S1x1x32x128.size hinb).PackedRows (EltTy.packing .fp8e4m3) := by
  subst ho
  have h2 : 2 ≤ S6x8x1024x128.rank := by decide
  exact .inr ⟨h2, rfl, .inl ⟨hr, (⟨8, rfl⟩ : 4 ∣ 32)⟩⟩

theorem whole4 (o : Fin 4 → ℕ) (ho : o 2 = 0)
    (hinb : ∀ a, o a + S1x1x1024x128.size a ≤ S6x8x1024x128.size a) :
    (Rect.unit (s := S6x8x1024x128) o S1x1x1024x128.size hinb).WholeWords (EltTy.packing .fp8e4m3) :=
  .inr ⟨by decide, rfl, ho, rfl⟩

theorem whole3 (o : Fin 3 → ℕ) (ho : o 1 = 0)
    (hinb : ∀ a, o a + S1x1024x128.size a ≤ S1024x1024x128.size a) :
    (Rect.unit (s := S1024x1024x128) o S1x1024x128.size hinb).WholeWords (EltTy.packing .fp8e4m3) :=
  .inr ⟨by decide, rfl, ho, rfl⟩

/-- The facts of one branch's loop over the blocks: every window of the first branch's main loop within its memref. -/
theorem branch_facts (q : ℕ) (hq : q < 131072) (k : Fin (k0_t4_loop (BitVec.ofNat 32 q)).trips) :
    (∀ g : Fin k0_t5_loop.trips, k.val + 5 < nb q → ∀ a, k0_off9 (BitVec.ofNat 32 q) k g a + S1.size a ≤ S1024.size a)
    ∧ (∀ a, k0_off10 (BitVec.ofNat 32 q) k a + S1.size a ≤ S6.size a)
    ∧ (∀ g : Fin k0_t5_loop.trips, ∀ a, k0_off11 (BitVec.ofNat 32 q) k g a + S1x1x1024x128.size a ≤ S6x8x1024x128.size a)
    ∧ (∀ g : Fin k0_t7_loop.trips, ∀ a, k0_off17 (BitVec.ofNat 32 q) k g a + S1.size a ≤ S1024.size a)
    ∧ (∀ a, k0_off18 (BitVec.ofNat 32 q) k a + S1.size a ≤ S6.size a)
    ∧ (∀ g : Fin k0_t7_loop.trips, ∀ a, k0_off19 (BitVec.ofNat 32 q) k g a + S1x1x1024x128.size a ≤ S6x8x1024x128.size a)
    ∧ (∀ a, k0_off25 (BitVec.ofNat 32 q) k a + S1x1x32x128.size a ≤ S6x8x1024x128.size a)
    ∧ (∀ hinb : ∀ a, k0_off25 (BitVec.ofNat 32 q) k a + S1x1x32x128.size a ≤ S6x8x1024x128.size a,
        (Rect.unit (s := S6x8x1024x128) (k0_off25 (BitVec.ofNat 32 q) k) S1x1x32x128.size hinb).PackedRows (EltTy.packing .fp8e4m3))
    ∧ (∀ j : Fin k0_t9_loop.trips, ∀ a, k0_off26 (BitVec.ofNat 32 q) k j a + S1x1x512x128.size a ≤ S6x8x1024x128.size a) := by
  have hk : k.val < nb q := lt_of_lt_of_eq k.isLt (t4_trips q hq)
  have hn : nb q = q / 1024 + 1 := rfl
  refine ⟨fun g hs => ?_, ?_, fun g => ?_, fun g => ?_, ?_, fun g => ?_, ?_, ?_, fun j => ?_⟩
  · have hg : g.val < 8 := g.isLt
    rw [off9_eq q hq]; exact inb1 (by omega)
  · rw [off10_eq q hq]; exact inb1 (by omega)
  · exact inb4 _ _ _ _ 1024 (off11_eq q hq k g) (by omega) g.isLt (by omega)
  · have hg : g.val < 8 := g.isLt
    rw [off17_eq q hq]; exact inb1 (by omega)
  · rw [off18_eq q hq]; exact inb1 (by omega)
  · exact inb4 _ _ _ _ 1024 (off19_eq q hq k g) (by omega) g.isLt (by omega)
  · exact inb4 _ _ _ _ 32 (off25_eq q hq k) (by omega) (by omega) (by omega)
  · exact fun hinb => packed4 _ _ _ _ (off25_eq q hq k) (by omega) hinb
  · have hj : j.val < 16 := j.isLt
    exact inb4 _ _ _ _ 512 (off26_eq q hq k j) (by omega) (by omega) (by omega)

theorem no_trip {n : ℕ} (h : n = 0) {P : Fin n → Prop} : ∀ k, P k := by subst h; exact fun k => k.elim0

theorem chk3_0 (q : ℕ) (hq : q < 131072) (v1 : BitVec 32) : k0_chk3_0 (BitVec.ofNat 32 q) v1 := by
  have B := branch_facts q hq
  have E := @no_trip _ (t11_trips q hq)
  refine ⟨fun _ => t4_OK q hq, fun k g _ h => (B k).1 g ((cond3_iff q hq k).1 h), fun k _ _ => (B k).2.1, fun k g _ _ => (B k).2.2.1 g,
    fun k g _ _ h => whole4 _ rfl h, fun k g _ h => (B k).1 g ((cond3_iff q hq k).1 h), fun k _ _ => (B k).2.1, fun k g _ _ => (B k).2.2.1 g,
    fun k g _ _ h => whole4 _ rfl h, fun k g _ => (B k).2.2.2.1 g, fun k _ => (B k).2.2.2.2.1, fun k g _ => (B k).2.2.2.2.2.1 g,
    fun k g _ h => whole4 _ rfl h, fun k g _ => (B k).2.2.2.1 g, fun k _ => (B k).2.2.2.2.1, fun k g _ => (B k).2.2.2.2.2.1 g,
    fun k g _ h => whole4 _ rfl h, fun _ _ _ => mult1_dvd q hq, fun k _ _ => (B k).2.2.2.2.2.2.1, fun k _ _ => (B k).2.2.2.2.2.2.2.1,
    fun _ _ _ => mult1_dvd q hq, fun k j _ => (B k).2.2.2.2.2.2.2.2 j, fun k j _ => (B k).2.2.2.2.2.2.2.2 j, fun _ => t11_OK q hq, ?_⟩
  exact ⟨E, E, E, E, E, E, E, E⟩

theorem chk3_1 (q : ℕ) (hq : q < 131072) (v1 : BitVec 32) : k0_chk3_1 (BitVec.ofNat 32 q) v1 := by
  have B := branch_facts q hq
  have E := @no_trip _ (t11_trips q hq)
  refine ⟨E, E, E, E, E, E, E, E, E, E, E, E, E, E,
    fun _ => t4_OK q hq, fun k g _ h => (B k).1 g ((cond3_iff q hq k).1 h), fun k _ _ => (B k).2.1, fun k g _ _ => (B k).2.2.1 g,
    fun k g _ _ h => whole4 _ rfl h, fun k g _ h => (B k).1 g ((cond3_iff q hq k).1 h), fun k _ _ => (B k).2.1, fun k g _ _ => (B k).2.2.1 g,
    fun k g _ _ h => whole4 _ rfl h, fun k g _ => (B k).2.2.2.1 g, fun k _ => (B k).2.2.2.2.1, fun k g _ => (B k).2.2.2.2.2.1 g,
    fun k g _ h => whole4 _ rfl h, fun k g _ => (B k).2.2.2.1 g, fun k _ => (B k).2.2.2.2.1, fun k g _ => (B k).2.2.2.2.2.1 g,
    fun k g _ h => whole4 _ rfl h, fun _ _ _ => mult1_dvd q hq⟩

theorem chk3_2 (q : ℕ) (hq : q < 131072) (v1 : BitVec 32) : k0_chk3_2 (BitVec.ofNat 32 q) v1 := by
  have B := branch_facts q hq
  have E := @no_trip _ (t28_trips q hq)
  exact ⟨fun k _ _ => (B k).2.2.2.2.2.2.1, fun k _ _ => (B k).2.2.2.2.2.2.2.1,
    fun _ _ _ => mult1_dvd q hq, fun k j _ => (B k).2.2.2.2.2.2.2.2 j, fun k j _ => (B k).2.2.2.2.2.2.2.2 j, fun _ => t11_OK q hq,
    E, E, E, E, E, E, E, E, E, E, E, E, E, E, E, E, E, E, E, E, E, E⟩

theorem chk3 (q : ℕ) (hq : q < 131072) (v1 : BitVec 32) : k0_chk3 (BitVec.ofNat 32 q) v1 :=
  ⟨chk3_0 q hq v1, chk3_1 q hq v1, chk3_2 q hq v1⟩

/-- A page number within the pool: the window of its page is within the pool, of whole words. -/
theorem page_inb (w : BitVec 32) (hw : w.toNat < 1024) : ∀ a, k0_off4 w a + S1x1024x128.size a ≤ S1024x1024x128.size a := by
  intro a; show (![w.toNat, 0, 0] : Fin 3 → ℕ) a + (![1, 1024, 128] : Fin 3 → ℕ) a ≤ (![1024, 1024, 128] : Fin 3 → ℕ) a
  fin_cases a <;> simp <;> omega

theorem chk1 (v0 v1 w : BitVec 32) (hw : w.toNat < 1024) (k) : k0_chk1 v0 v1 k w :=
  ⟨fun _ _ => page_inb w hw, fun _ _ h => whole3 _ rfl h⟩
theorem chk2 (v0 v1 w : BitVec 32) (hw : w.toNat < 1024) (k) : k0_chk2 v0 v1 k w := chk1 v0 v1 w hw k
theorem chk4 (v0 v1 w : BitVec 32) (hw : w.toNat < 1024) (k) : k0_chk4 v0 v1 k w :=
  ⟨fun _ _ => page_inb w hw, fun _ _ h => whole3 _ rfl h⟩
theorem chk5 (v0 v1 w : BitVec 32) (hw : w.toNat < 1024) (k) : k0_chk5 v0 v1 k w := chk4 v0 v1 w hw k
theorem chk6 (v1 w : BitVec 32) (hw : w.toNat < 1024) : k0_chk6 v1 w := ⟨fun _ => page_inb w hw, fun _ h => whole3 _ rfl h⟩
theorem chk7 (v1 w : BitVec 32) (hw : w.toNat < 1024) : k0_chk7 v1 w := chk6 v1 w hw
theorem chk12 (v0 v1 w : BitVec 32) (hw : w.toNat < 1024) (k) : k0_chk12 v0 v1 k w :=
  ⟨fun _ _ => page_inb w hw, fun _ _ h => whole3 _ rfl h⟩
theorem chk13 (v0 v1 w : BitVec 32) (hw : w.toNat < 1024) (k) : k0_chk13 v0 v1 k w := chk12 v0 v1 w hw k
theorem chk14 (v0 v1 w : BitVec 32) (hw : w.toNat < 1024) (k) : k0_chk14 v0 v1 k w :=
  ⟨fun _ _ => page_inb w hw, fun _ _ h => whole3 _ rfl h⟩
theorem chk15 (v0 v1 w : BitVec 32) (hw : w.toNat < 1024) (k) : k0_chk15 v0 v1 k w := chk14 v0 v1 w hw k
theorem chk16 (v1 w : BitVec 32) (hw : w.toNat < 1024) : k0_chk16 v1 w := ⟨fun _ => page_inb w hw, fun _ h => whole3 _ rfl h⟩
theorem chk17 (v1 w : BitVec 32) (hw : w.toNat < 1024) : k0_chk17 v1 w := chk16 v1 w hw

end Cert.KernelIdeal.Words
-- ==== Proof.Ring.lean ====
/-
  The page ring: one scratch buffer of six slots of eight pages, filled from a pool of pages in HBM by
  eight transfers per slot, all on the slot's own semaphore cell, and drained by eight waits on it.

  Everything is generic in the memrefs (the key ring and the value ring are the same lemmas) and in the
  offsets as the program spells them.
-/
module

public import proofs.«01_k».proof.Proof.Words
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [∀ e, Nonempty (Elt F e)]

local notation "𝕄" => MT nD τ sig Unit (Elt F) ℕ (Pipeline.UD sig nD τ) ℕ

/-! ## The views -/

theorem pinb (s : Fin 6) (g : Fin 8) :
    ∀ a, (![s.val, g.val, 0, 0] : Fin 4 → ℕ) a + S1x1x1024x128.size a ≤ S6x8x1024x128.size a :=
  inb4 _ s.val g.val 0 1024 rfl s.isLt g.isLt (by omega)

theorem qinb (p : Fin 1024) : ∀ a, (![p.val, 0, 0] : Fin 3 → ℕ) a + S1x1024x128.size a ≤ S1024x1024x128.size a := by
  intro a
  show (![p.val, 0, 0] : Fin 3 → ℕ) a + (![1, 1024, 128] : Fin 3 → ℕ) a ≤ (![1024, 1024, 128] : Fin 3 → ℕ) a
  fin_cases a <;> simp <;> omega

theorem cinb (s : Fin 6) : ∀ a, (![s.val] : Fin 1 → ℕ) a + S1.size a ≤ S6.size a := inb1 (by omega)
theorem tinb {i : ℕ} (hi : i < 1024) : ∀ a, (![i] : Fin 1 → ℕ) a + S1.size a ≤ S1024.size a := inb1 (by omega)

/-- The page of a ring buffer at a printed offset. -/
abbrev pageAt (buf : Memref sig .tc .vmem S6x8x1024x128 .fp8e4m3) (o : Fin 4 → ℕ)
    (h : ∀ a, o a + S1x1x1024x128.size a ≤ S6x8x1024x128.size a) : Memref sig .tc .vmem S1024x128 .fp8e4m3 :=
  (buf.slice (Rect.unit (s := S6x8x1024x128) o S1x1x1024x128.size h) (fun _ => rfl)).squeeze S1024x128 squeezes_S1x1x1024x128_S1024x128

/-- The page of the pool at a printed offset. -/
abbrev poolAt (pool : Memref sig .tc .hbm S1024x1024x128 .fp8e4m3) (o : Fin 3 → ℕ)
    (h : ∀ a, o a + S1x1024x128.size a ≤ S1024x1024x128.size a) : Memref sig .tc .hbm S1024x128 .fp8e4m3 :=
  (pool.slice (Rect.unit (s := S1024x1024x128) o S1x1024x128.size h) (fun _ => rfl)).squeeze S1024x128 squeezes_S1x1024x128_S1024x128

abbrev pageOf (buf : Memref sig .tc .vmem S6x8x1024x128 .fp8e4m3) (s : Fin 6) (g : Fin 8) := pageAt buf _ (pinb s g)
abbrev poolPage (pool : Memref sig .tc .hbm S1024x1024x128 .fp8e4m3) (p : Fin 1024) := poolAt pool _ (qinb p)

/-- The semaphore cell at a printed offset. -/
abbrev cellAt (sems : DmaSems sig S6) (o : Fin 1 → ℕ) (h : ∀ a, o a + S1.size a ≤ S6.size a) : DmaSem sig :=
  ((sems.slice (Rect.unit (s := S6) o S1.size h)).squeeze S_ squeezes_S1_S_).sem
abbrev cellOf (sems : DmaSems sig S6) (s : Fin 6) : DmaSem sig := cellAt sems _ (cinb s)

/-- The multi-indices of a page and of a ring buffer by their coordinates. -/
def ix2 (a : Fin 1024) (b : Fin 128) : S1024x128.Idx := fun i => match i with
  | ⟨0, _⟩ => a
  | ⟨1, _⟩ => b
def ix4 (s : Fin 6) (g : Fin 8) (a : Fin 1024) (b : Fin 128) : S6x8x1024x128.Idx := fun i => match i with
  | ⟨0, _⟩ => s
  | ⟨1, _⟩ => g
  | ⟨2, _⟩ => a
  | ⟨3, _⟩ => b
def ix4' (a : Fin 1024) (b : Fin 128) : S1x1x1024x128.Idx := fun i => match i with
  | ⟨0, _⟩ => (0 : Fin 1)
  | ⟨1, _⟩ => (0 : Fin 1)
  | ⟨2, _⟩ => a
  | ⟨3, _⟩ => b

/-- The page table's word `i`, as a one-word load reads it. -/
def tw (tab : Memref sig .tc .smem S1024 .i32) (T : tab.view.ty.Contents (Elt F)) (i : ℕ) : BitVec 32 :=
  if h : i < 1024 then
    (tab.access (Rect.unit (s := S1024) ![i] S1.size (tinb h))).read (Elt F) T
      (Shape.Idx.first ((numel1_S1 : (Rect.unit (s := S1024) ![i] S1.size (tinb h)).shape.numel = 1).symm ▸ Nat.one_pos))
  else 0#32

/-! ## Element sets -/

/-- The elements of page `g` of slot `s`. -/
abbrev pgRect (s : Fin 6) (g : Fin 8) : Rect S6x8x1024x128 := Rect.unit (s := S6x8x1024x128) ![s.val, g.val, 0, 0] S1x1x1024x128.size (pinb s g)

theorem mem_pgRect (s : Fin 6) (g : Fin 8) (y : S6x8x1024x128.Idx) :
    y ∈ (pgRect s g).set ↔ (y 0).val = s.val ∧ (y 1).val = g.val := by
  rw [Rect.mem_set_unit]
  have h2 : (y 2).val < 1024 := (y 2).isLt
  have h3 : (y 3).val < 128 := (y 3).isLt
  constructor
  · intro H
    have a0 : s.val ≤ (y 0).val ∧ (y 0).val < s.val + 1 := H 0
    have a1 : g.val ≤ (y 1).val ∧ (y 1).val < g.val + 1 := H 1
    omega
  · rintro ⟨h0, h1⟩ a; fin_cases a
    · show s.val ≤ (y 0).val ∧ (y 0).val < s.val + 1; omega
    · show g.val ≤ (y 1).val ∧ (y 1).val < g.val + 1; omega
    · show 0 ≤ (y 2).val ∧ (y 2).val < 0 + 1024; omega
    · show 0 ≤ (y 3).val ∧ (y 3).val < 0 + 128; omega

variable (buf : Memref sig .tc .vmem S6x8x1024x128 .fp8e4m3)

/-- The buffer's elements under page `g` of slot `s`; those under slot `s`. -/
abbrev pgSet (s : Fin 6) (g : Fin 8) : Finset buf.view.ty.Idx := (pgRect s g).set.map buf.view.emb
def slotSet (s : Fin 6) : Finset buf.view.ty.Idx := Finset.univ.biUnion (pgSet buf s)

theorem pageOf_set (s : Fin 6) (g : Fin 8) : (pageOf buf s g).view.set = pgSet buf s g :=
  (View.set_reshape _ _).trans (View.set_slice _ _)

theorem pgSet_disjoint {s s' : Fin 6} {g g' : Fin 8} (h : s ≠ s' ∨ g ≠ g') : Disjoint (pgSet buf s g) (pgSet buf s' g') := by
  rw [Finset.disjoint_map, Finset.disjoint_left]
  intro y hy hy'
  rw [mem_pgRect] at hy hy'
  rcases h with h | h
  · exact h (Fin.ext (by omega))
  · exact h (Fin.ext (by omega))

theorem slotSet_disjoint {s s' : Fin 6} (h : s ≠ s') : Disjoint (slotSet buf s) (slotSet buf s') := by
  unfold slotSet
  rw [Finset.disjoint_biUnion_left]; intro g _
  rw [Finset.disjoint_biUnion_right]; intro g' _
  exact pgSet_disjoint buf (.inl h)

theorem mem_slotSet (s : Fin 6) (y : S6x8x1024x128.Idx) : buf.view.emb y ∈ slotSet buf s ↔ (y 0).val = s.val := by
  unfold slotSet
  rw [Finset.mem_biUnion]
  constructor
  · rintro ⟨g, -, hg⟩
    rw [Finset.mem_map' , mem_pgRect] at hg; exact hg.1
  · intro h
    refine ⟨(y 1 : Fin 8), Finset.mem_univ _, ?_⟩
    rw [Finset.mem_map']; exact (mem_pgRect s (y 1 : Fin 8) y).mpr ⟨h, rfl⟩

theorem slotSet_cover (hbuf : buf.view.set = Finset.univ) : Finset.univ.biUnion (slotSet buf) = Finset.univ := by
  ext i
  simp only [Finset.mem_biUnion, Finset.mem_univ, true_and, iff_true]
  have hi : i ∈ buf.view.set := by rw [hbuf]; exact Finset.mem_univ i
  obtain ⟨y, -, rfl⟩ := Finset.mem_map.mp hi
  exact ⟨y 0, (mem_slotSet buf _ y).mpr rfl⟩

/-! ## Contents -/

variable (pool : Memref sig .tc .hbm S1024x1024x128 .fp8e4m3) (sems : DmaSems sig S6)
variable (c : Dev nD) (pl : Buf (Elt F) (pool.view.loc (c : Thread nD τ))) (pgs : ℕ → Fin 1024)

/-- Page `i` of the sequence, as a transfer reads it. -/
def pageX (i : ℕ) : S1024x128.Idx → Elt F .fp8e4m3 := (poolPage pool (pgs i)).view.read (Elt F) pl

/-- Block `b`'s contents, at every slot. -/
def blkC (b : ℕ) : S6x8x1024x128.Idx → Elt F .fp8e4m3 := fun y => pageX pool c pl pgs (8 * b + (y 1).val) (ix2 (y 2) (y 3))

/-- A tensor as contents of the buffer. -/
def Fof (C : S6x8x1024x128.Idx → Elt F .fp8e4m3) : Buf (Elt F) (buf.view.loc (c : Thread nD τ)) :=
  buf.view.write (Elt F) buf.view.junk C Finset.univ

theorem page_idx (x : S1024x128.Idx) :
    Shape.reshapeEquiv (squeezes_S1x1x1024x128_S1024x128).numel_eq x = ix4' (x 0) (x 1) := by
  apply Shape.reshapeEquiv_eq_of_rowMajor
  refine (Shape.rowMajor_val_four (d := ![1, 1, 1024, 128]) _).trans (Eq.trans ?_ (Shape.rowMajor_val_two (d := ![1024, 128]) x).symm)
  simp [ix4']

theorem page_emb (s : Fin 6) (g : Fin 8) (x : S1024x128.Idx) :
    (pgRect s g).emb (ix4' (x 0) (x 1)) = ix4 s g (x 0) (x 1) := by
  funext a; fin_cases a <;> apply Fin.ext <;> simp [Rect.emb, ix4, ix4', Rect.unit]

theorem ix2_eta (x : S1024x128.Idx) : ix2 (x 0) (x 1) = x := by
  funext a; fin_cases a <;> rfl

theorem page_landed (b : ℕ) (s : Fin 6) (g : Fin 8) (f : Buf (Elt F) (buf.view.loc (c : Thread nD τ))) :
    ∀ i ∈ (pageOf buf s g).view.set,
      (pageOf buf s g).view.write (Elt F) f (pageX pool c pl pgs (8 * b + g.val)) Finset.univ i
        = Fof buf c (blkC pool c pl pgs b) i := by
  intro i hi
  obtain ⟨x, -, rfl⟩ := Finset.mem_map.mp hi
  refine (View.write_emb_of_mem _ _ (Finset.mem_univ x)).trans ?_
  have he : (pageOf buf s g).view.emb x = buf.view.emb (ix4 s g (x 0) (x 1)) := by
    show buf.view.emb ((pgRect s g).emb (Shape.reshapeEquiv (squeezes_S1x1x1024x128_S1024x128).numel_eq x)) = _
    rw [page_idx, page_emb]
  refine Eq.trans ?_ ((congrArg (Fof buf c (blkC pool c pl pgs b)) he).trans (View.write_emb_of_mem _ _ (Finset.mem_univ _))).symm
  show _ = cast _ (pageX pool c pl pgs (8 * b + g.val) (ix2 (x 0) (x 1)))
  rw [ix2_eta]

/-! ## The slot's states -/

/-- The pool's elements under page `p`. -/
abbrev poolSet (p : Fin 1024) : Finset (Idx (pool.view.loc (c : Thread nD τ))) :=
  (Rect.unit (s := S1024x1024x128) ![p.val, 0, 0] S1x1024x128.size (qinb p)).set.map pool.view.emb

theorem poolPage_set (p : Fin 1024) : (poolPage pool p).view.set = poolSet pool c p :=
  (View.set_reshape _ _).trans (View.set_slice _ _)

/-- Read token `g` of slot `s`'s share of the pool. -/
abbrev tok (S : Finset (Idx (pool.view.loc (c : Thread nD τ)))) (s : Fin 6) (g : Fin 8) : sProp 𝕄 :=
  pool.view.loc (c : Thread nD τ) ↦[S]{Transfers.shareTokN (Transfers.shareTokN fullShare s.val) g.val} pl

/-- A slot at rest, its contents `f`. -/
def Held (s : Fin 6) (f : Buf (Elt F) (buf.view.loc (c : Thread nD τ))) : sProp 𝕄 :=
  iprop(semVal ((c : Thread nD τ), SemLoc.dma (cellOf sems s)) 0
    ∗ (buf.view.loc (c : Thread nD τ) ↦[slotSet buf s]{fullShare} f)
    ∗ bigSep Finset.univ fun g => tok pool c pl pool.view.set s g)

/-- What transfer `g` of block `b` into slot `s` delivers. -/
def Dlv (s : Fin 6) (b : ℕ) (g : Fin 8) : sProp 𝕄 :=
  iprop((buf.view.loc (c : Thread nD τ) ↦[pgSet buf s g]{fullShare} Fof buf c (blkC pool c pl pgs b))
    ∗ tok pool c pl (poolSet pool c (pgs (8 * b + g.val))) s g)

instance Dlv_storable (s : Fin 6) (b : ℕ) (g : Fin 8) : BI.Storable (upEmb : UEmb _ 𝕄) (Dlv buf pool c pl pgs s b g) := by
  unfold Dlv; infer_instance

/-- What stays behind of token `g` while its transfer is in flight. -/
abbrev Left (s : Fin 6) (b : ℕ) (g : Fin 8) : sProp 𝕄 :=
  tok pool c pl (pool.view.set \ poolSet pool c (pgs (8 * b + g.val))) s g

/-- What a page's transfer credits. -/
abbrev NN : ℕ := (pageOf buf 0 0).view.dmaCredit

theorem NN_pos : 0 < NN buf := View.dmaCredit_pos _ (by decide)

abbrev Bat (s : Fin 6) (b j u : ℕ) : sProp 𝕄 :=
  Transfers.Batch (countersEmb (U := Pipeline.UD sig nD τ)) (c : Thread nD τ) (.dma (cellOf sems s)) () (NN buf)
    (Dlv buf pool c pl pgs s b) j u

/-- A slot with block `b`'s eight transfers in flight. -/
def Flight (s : Fin 6) (b : ℕ) : sProp 𝕄 :=
  iprop(Bat buf pool sems c pl pgs s b 8 0 ∗ bigSep Finset.univ (Left pool c pl pgs s b))

/-- A slot's state: at rest at some contents, or a block in flight. -/
def Slot (s : Fin 6) : Option ℕ → sProp 𝕄
  | none => iprop(∃ f, Held buf pool sems c pl s f)
  | some b => Flight buf pool sems c pl pgs s b

/-! ## One transfer, one wait -/

variable (tab : Memref sig .tc .smem S1024 .i32) (T : Buf (Elt F) (tab.view.loc (c : Thread nD τ)))

abbrev Table (q : PosShare TreeShare) : sProp 𝕄 := tab.view.loc (c : Thread nD τ) ↦[tab.view.set]{q} T

/-- The program of one transfer's issue: the page's number read from the table and checked, the page's copy enqueued. -/
def startTrip (hbuf : buf.IsWhole) (hpool : pool.IsWhole)
    (oT : Fin 1 → ℕ) (hT : ∀ a, oT a + S1.size a ≤ S1024.size a) (oS : Fin 1 → ℕ) (hS : ∀ a, oS a + S1.size a ≤ S6.size a)
    (oB : Fin 4 → ℕ) (hB : ∀ a, oB a + S1x1x1024x128.size a ≤ S6x8x1024x128.size a)
    (hBw : (Rect.unit (s := S6x8x1024x128) oB S1x1x1024x128.size hB).WholeWords (EltTy.packing .fp8e4m3))
    (chk : BitVec 32 → Prop) (dec : ∀ w, Decidable (chk w))
    (hP : ∀ w, chk w → ∀ a, (![w.toNat, 0, 0] : Fin 3 → ℕ) a + S1x1024x128.size a ≤ S1024x1024x128.size a)
    (hPw : ∀ w (h : chk w), (Rect.unit (s := S1024x1024x128) ![w.toNat, 0, 0] S1x1024x128.size (hP w h)).WholeWords (EltTy.packing .fp8e4m3)) :
    Prog (TpuEff nD τ sig (Elt F) Λ₀ .tc) Unit :=
  smemLoadElt tab (Rect.unit (s := S1024) oT S1.size hT) (View.loads_smem_one rfl numel1_S1)
    (Shape.Idx.first ((numel1_S1 : (Rect.unit (s := S1024) oT S1.size hT).shape.numel = 1).symm ▸ Nat.one_pos)) fun w =>
  .op (.assume (chk w) (dec w)) fun h =>
  .op (.enqueueDmaAs (poolAt pool ![w.toNat, 0, 0] (hP w h.down)) (.here (pageAt buf oB hB)) .same (.dma (cellAt sems oS hS))
    ((hpool.wordExact_slice rfl _ (hPw w h.down)).reshape _ _) ((hbuf.wordExact_slice rfl _ hBw).reshape _ _) ⟨Or.inl rfl, trivial⟩)
    fun _ => .ret ⟨⟩

/-- The program of one wait: the same page's number read and checked, one page's amount consumed. -/
def waitTrip (hbuf : buf.IsWhole) (hpool : pool.IsWhole)
    (oT : Fin 1 → ℕ) (hT : ∀ a, oT a + S1.size a ≤ S1024.size a) (oS : Fin 1 → ℕ) (hS : ∀ a, oS a + S1.size a ≤ S6.size a)
    (oB : Fin 4 → ℕ) (hB : ∀ a, oB a + S1x1x1024x128.size a ≤ S6x8x1024x128.size a)
    (hBw : (Rect.unit (s := S6x8x1024x128) oB S1x1x1024x128.size hB).WholeWords (EltTy.packing .fp8e4m3))
    (chk : BitVec 32 → Prop) (dec : ∀ w, Decidable (chk w))
    (hP : ∀ w, chk w → ∀ a, (![w.toNat, 0, 0] : Fin 3 → ℕ) a + S1x1024x128.size a ≤ S1024x1024x128.size a)
    (hPw : ∀ w (h : chk w), (Rect.unit (s := S1024x1024x128) ![w.toNat, 0, 0] S1x1024x128.size (hP w h)).WholeWords (EltTy.packing .fp8e4m3)) :
    Prog (TpuEff nD τ sig (Elt F) Λ₀ .tc) Unit :=
  smemLoadElt tab (Rect.unit (s := S1024) oT S1.size hT) (View.loads_smem_one rfl numel1_S1)
    (Shape.Idx.first ((numel1_S1 : (Rect.unit (s := S1024) oT S1.size hT).shape.numel = 1).symm ▸ Nat.one_pos)) fun w =>
  .op (.assume (chk w) (dec w)) fun h =>
  .op (.waitDma2 (cellAt sems oS hS) (poolAt pool ![w.toNat, 0, 0] (hP w h.down)) (pageAt buf oB hB)
    ((hpool.wordExact_slice rfl _ (hPw w h.down)).reshape _ _) ((hbuf.wordExact_slice rfl _ hBw).reshape _ _))
    fun _ => .ret ⟨⟩

section Trips

variable (defs : Defs nD τ sig (Elt F) Λ₀) (𝒱 : Variants) (bd : Option 𝒱.V) (q : PosShare TreeShare)
variable (hbuf : buf.IsWhole) (hpool : pool.IsWhole)
  (oT : Fin 1 → ℕ) (hT : ∀ a, oT a + S1.size a ≤ S1024.size a) (oS : Fin 1 → ℕ) (hS : ∀ a, oS a + S1.size a ≤ S6.size a)
  (oB : Fin 4 → ℕ) (hB : ∀ a, oB a + S1x1x1024x128.size a ≤ S6x8x1024x128.size a)
  (hBw : (Rect.unit (s := S6x8x1024x128) oB S1x1x1024x128.size hB).WholeWords (EltTy.packing .fp8e4m3))
  (chk : BitVec 32 → Prop) (dec : ∀ w, Decidable (chk w))
  (hP : ∀ w, chk w → ∀ a, (![w.toNat, 0, 0] : Fin 3 → ℕ) a + S1x1024x128.size a ≤ S1024x1024x128.size a)
  (hPw : ∀ w (h : chk w), (Rect.unit (s := S1024x1024x128) ![w.toNat, 0, 0] S1x1024x128.size (hP w h)).WholeWords (EltTy.packing .fp8e4m3))

theorem word_wp {α : Type} {Q : α → sProp 𝕄} {hw : (tab.access (Rect.unit (s := S1024) oT S1.size hT)).Loads} {x}
    {k : BitVec 32 → Prog (TpuEff nD τ sig (Elt F) Λ₀ .tc) α} :
    Table c tab T q ⊢ iprop((Table c tab T q -∗ wp frame (wpE defs 𝒱 (c : Thread nD τ) bd) Set.univ
        (k ((tab.access (Rect.unit (s := S1024) oT S1.size hT)).read (Elt F) T x)) Q)
      -∗ wp frame (wpE defs 𝒱 (c : Thread nD τ) bd) Set.univ (smemLoadElt tab (Rect.unit (s := S1024) oT S1.size hT) hw x k) Q) :=
  wp_smemLoadElt 𝒱 (c : Thread nD τ) bd Set.univ (m := tab) (r := Rect.unit (s := S1024) oT S1.size hT) (S := tab.view.set) (q := q) (f := T)
    (View.set_slice_subset _ _)

theorem issue_wp {α : Type} {Q : α → sProp 𝕄} (s : Fin 6) (b : ℕ) (g : Fin 8)
    (oS : Fin 1 → ℕ) {hS : ∀ a, oS a + S1.size a ≤ S6.size a} (eS : oS = ![s.val])
    (oB : Fin 4 → ℕ) {hB : ∀ a, oB a + S1x1x1024x128.size a ≤ S6x8x1024x128.size a} (eB : oB = ![s.val, g.val, 0, 0])
    (oP : Fin 3 → ℕ) {hP : ∀ a, oP a + S1x1024x128.size a ≤ S1024x1024x128.size a} (eP : oP = ![(pgs (8 * b + g.val)).val, 0, 0])
    {f : Buf (Elt F) (buf.view.loc (c : Thread nD τ))} {h1 h2 h3} {k : PUnit → Prog (TpuEff nD τ sig (Elt F) Λ₀ .tc) α} :
    iprop(Bat buf pool sems c pl pgs s b g.val 0 ∗ (buf.view.loc (c : Thread nD τ) ↦[pgSet buf s g]{fullShare} f)
        ∗ tok pool c pl pool.view.set s g)
      ⊢ iprop((iprop(Bat buf pool sems c pl pgs s b (g.val + 1) 0 ∗ Left pool c pl pgs s b g)
            -∗ wp frame (wpE defs 𝒱 (c : Thread nD τ) bd) Set.univ (k ⟨⟩) Q)
        -∗ wp frame (wpE defs 𝒱 (c : Thread nD τ) bd) Set.univ
          (.op (.enqueueDmaAs (poolAt pool oP hP) (.here (pageAt buf oB hB)) .same (.dma (cellAt sems oS hS)) h1 h2 h3) k) Q) := by
  subst eS eB eP
  have hsub : poolSet pool c (pgs (8 * b + g.val)) ⊆ pool.view.set := by
    rw [← poolPage_set]
    exact (View.set_reshape _ _).subset.trans (View.set_slice_subset _ _)
  iintro ⟨HB, Hf, Ht⟩ Hk
  ihave Ht' := (pointsTo_split_subset hsub).1 $$ Ht
  icases Ht' with ⟨Ht, HL⟩
  iapply (Transfers.wp_dmaBatch (countersEmb (U := Pipeline.UD sig nD τ)) 𝒱 (c : Thread nD τ) bd (n := 8)
    (src := poolPage pool (pgs (8 * b + g.val))) (dst := pageOf buf s g) (via := .same) (sm := .dma (cellOf sems s))
    (q := Transfers.shareTokN (Transfers.shareTokN fullShare s.val) g.val) (fs := pl) (Sd := pgSet buf s g) (fd := f)
    (D := Dlv buf pool c pl pgs s b) (j := g.val) (u := 0) () (NN buf) ?_ ?_ g.isLt (Nat.zero_le _) ?_) $$ [HB Hf Ht]
  · rfl
  · exact (pageOf_set buf s g).subset
  · unfold Dlv
    refine sep_mono (Entails.of_eq ?_) (Entails.of_eq ?_)
    · exact pointsTo_congr fun i hi => page_landed buf pool c pl pgs b s g f i (by rw [pageOf_set]; exact hi)
    · have h := poolPage_set pool c (pgs (8 * b + g.val))
      exact congrArg (fun S => (pool.view.loc (c : Thread nD τ) ↦[S]{Transfers.shareTokN (Transfers.shareTokN fullShare s.val) g.val} pl : sProp 𝕄)) h
  · isplitl [Ht]
    · have h := poolPage_set pool c (pgs (8 * b + g.val))
      iapply (Entails.of_eq (congrArg (fun S => (pool.view.loc (c : Thread nD τ) ↦[S]{Transfers.shareTokN (Transfers.shareTokN fullShare s.val) g.val} pl : sProp 𝕄)) h.symm))
      iexact Ht
    isplitl [Hf]; · iexact Hf
    iexact HB
  · iintro HB
    iapply Hk
    isplitl [HB]; · iexact HB
    iexact HL

theorem startTrip_wp (htw : ∀ i < 1024, (tw (F := F) tab T i).toNat = (pgs i).val)
    (hchk : ∀ w : BitVec 32, w.toNat < 1024 → chk w)
    (s : Fin 6) (b : ℕ) (hb : b < 128) (g : Fin 8) (eT : oT = ![8 * b + g.val]) (eS : oS = ![s.val]) (eB : oB = ![s.val, g.val, 0, 0]) :
    iprop(Table c tab T q ∗ Bat buf pool sems c pl pgs s b g.val 0
        ∗ (∃ f, buf.view.loc (c : Thread nD τ) ↦[pgSet buf s g]{fullShare} f) ∗ tok pool c pl pool.view.set s g)
      ⊢ wp frame (wpE defs 𝒱 (c : Thread nD τ) bd) Set.univ
        (startTrip buf pool sems tab hbuf hpool oT hT oS hS oB hB hBw chk dec hP hPw)
        fun _ => iprop(Table c tab T q ∗ Bat buf pool sems c pl pgs s b (g.val + 1) 0 ∗ Left pool c pl pgs s b g) := by
  subst eT eS eB
  have hi : 8 * b + g.val < 1024 := by omega
  have hw := htw _ hi
  unfold tw at hw
  rw [dif_pos hi] at hw
  unfold startTrip
  iintro ⟨HT, HB, ⟨%f, Hf⟩, Ht⟩
  iapply (word_wp c tab T defs 𝒱 bd q) $$ HT
  iintro HT
  generalize hwd : (tab.access (Rect.unit (s := S1024) ![8 * b + g.val] S1.size hT)).read (Elt F) T _ = w
  have hwv : w.toNat = (pgs (8 * b + g.val)).val := by rw [← hwd]; exact hw
  have hc : chk w := hchk w (by rw [hwv]; exact (pgs _).isLt)
  iapply (wp_assume 𝒱 (c : Thread nD τ) bd Set.univ hc)
  iapply (issue_wp buf pool sems c pl pgs defs 𝒱 bd s b g _ rfl _ rfl _ (by rw [hwv])) $$ [Ht Hf HB]
  · isplitl [HB]; · iexact HB
    isplitl [Hf]; · iexact Hf
    iexact Ht
  iintro ⟨HB, HL⟩
  rw [wp_ret]
  imodintro
  isplitl [HT]; · iexact HT
  isplitl [HB]; · iexact HB
  iexact HL

/-- One wait: one page's amount consumed of the slot's eight. -/
theorem waitTrip_wp (htw : ∀ i < 1024, (tw (F := F) tab T i).toNat = (pgs i).val)
    (hchk : ∀ w : BitVec 32, w.toNat < 1024 → chk w)
    (s : Fin 6) (b : ℕ) (hb : b < 128) (g : Fin 8) (eT : oT = ![8 * b + g.val]) (eS : oS = ![s.val]) (eB : oB = ![s.val, g.val, 0, 0]) :
    iprop(Table c tab T q ∗ Bat buf pool sems c pl pgs s b 8 (g.val * NN buf) ∗ (∃ W, owes (c : Thread nD τ) 0 W))
      ⊢ wp frame (wpE defs 𝒱 (c : Thread nD τ) bd) Set.univ
        (waitTrip buf pool sems tab hbuf hpool oT hT oS hS oB hB hBw chk dec hP hPw)
        fun _ => iprop(Table c tab T q ∗ Bat buf pool sems c pl pgs s b 8 ((g.val + 1) * NN buf) ∗ (∃ W, owes (c : Thread nD τ) 0 W)) := by
  subst eT eS eB
  have hi : 8 * b + g.val < 1024 := by omega
  have hw := htw _ hi
  unfold tw at hw
  rw [dif_pos hi] at hw
  unfold waitTrip
  iintro ⟨HT, HB, ⟨%W, HO⟩⟩
  iapply (word_wp c tab T defs 𝒱 bd q) $$ HT
  iintro HT
  generalize hwd : (tab.access (Rect.unit (s := S1024) ![8 * b + g.val] S1.size hT)).read (Elt F) T _ = w
  have hwv : w.toNat = (pgs (8 * b + g.val)).val := by rw [← hwd]; exact hw
  have hc : chk w := hchk w (by rw [hwv]; exact (pgs _).isLt)
  iapply (wp_assume 𝒱 (c : Thread nD τ) bd Set.univ hc)
  have hg := g.isLt
  have hle : g.val * NN buf + 1 * NN buf ≤ NN buf * 8 := by
    have : (g.val + 1) * NN buf ≤ 8 * NN buf := Nat.mul_le_mul_right _ hg
    rw [Nat.add_mul] at this; omega
  iapply (Transfers.wp_waitBatchMul (countersEmb (U := Pipeline.UD sig nD τ)) 𝒱 (c : Thread nD τ) bd (n := 8)
    (dstw := pageAt buf ![s.val, g.val, 0, 0] hB) () (N := NN buf) 1 (Nat.one_mul _).symm (D := Dlv buf pool c pl pgs s b) (j := 8)
    (u := g.val * NN buf) hle (W := W)) $$ [HB HO]
  · isplitl [HB]; · iexact HB
    iexact HO
  iintro ⟨HB, HO⟩
  rw [wp_ret]
  imodintro
  isplitl [HT]; · iexact HT
  isplitl [HB]
  · rw [Nat.add_mul]; iexact HB
  iexists _; iexact HO

end Trips

/-! ## The eight issues, the eight waits -/

section Loops

variable (defs : Defs nD τ sig (Elt F) Λ₀) (𝒱 : Variants) (bd : Option 𝒱.V) (q : PosShare TreeShare)
variable (L : Scf.Loop 32) (ok : L.OK) (body : Fin L.trips → Unit → Prog (TpuEff nD τ sig (Elt F) Λ₀ .tc) Unit)

theorem sep_split (A B : Fin 8 → sProp 𝕄) :
    bigSep Finset.univ (fun g => iprop(A g ∗ B g)) ⊢ iprop(bigSep Finset.univ A ∗ bigSep Finset.univ B) := Entails.of_eq (BI.bigSep_sep _ _ _)
theorem sep_merge (A B : Fin 8 → sProp 𝕄) :
    iprop(bigSep Finset.univ A ∗ bigSep Finset.univ B) ⊢ bigSep Finset.univ (fun g => iprop(A g ∗ B g)) := Entails.of_eq (BI.bigSep_sep _ _ _).symm

theorem fin_mono (A B : Fin 8 → sProp 𝕄) (h : ∀ g, A g ⊢ B g) : bigSep Finset.univ A ⊢ bigSep Finset.univ B :=
  BI.bigSep_mono fun g _ => h g

theorem slot_pages (s : Fin 6) (f : Buf (Elt F) (buf.view.loc (c : Thread nD τ))) :
    (buf.view.loc (c : Thread nD τ) ↦[slotSet buf s]{fullShare} f : sProp 𝕄)
      = bigSep Finset.univ fun g => buf.view.loc (c : Thread nD τ) ↦[pgSet buf s g]{fullShare} f :=
  Ring.pointsTo_sub_blocks (ℓ := buf.view.loc (c : Thread nD τ)) (pgSet buf s) (fun g g' h => pgSet_disjoint buf (.inr h)) _ rfl f

theorem start_loop (h8 : L.trips = 8) (s : Fin 6) (b : ℕ) {Q : Unit → sProp 𝕄}
    (hstep : ∀ (g : Fin 8) (k : Fin L.trips), k.val = g.val →
      iprop(Table c tab T q ∗ Bat buf pool sems c pl pgs s b g.val 0
        ∗ (∃ f, buf.view.loc (c : Thread nD τ) ↦[pgSet buf s g]{fullShare} f) ∗ tok pool c pl pool.view.set s g)
      ⊢ wp frame (wpE defs 𝒱 (c : Thread nD τ) bd) Set.univ (body k ⟨⟩)
        fun _ => iprop(Table c tab T q ∗ Bat buf pool sems c pl pgs s b (g.val + 1) 0 ∗ Left pool c pl pgs s b g)) :
    iprop((Table c tab T q ∗ Slot buf pool sems c pl pgs s none)
        ∗ (iprop(Table c tab T q ∗ Slot buf pool sems c pl pgs s (some b)) -∗ Q ⟨⟩))
      ⊢ wp frame (wpE defs 𝒱 (c : Thread nD τ) bd) Set.univ (Scf.Loop.for L ok ⟨⟩ body) Q := by
  unfold Slot Held
  iintro ⟨⟨HT, ⟨%f, Hc, Hf, Ht⟩⟩, HQ⟩
  imod (Transfers.batch_alloc' (Lvl := ℕ) (countersEmb (U := Pipeline.UD sig nD τ)) (c : Thread nD τ) () (NN buf)
    (Dlv buf pool c pl pgs s b) (sm := .dma (cellOf sems s)) (E := Set.univ)) $$ Hc with HB
  iapply (Scf.wp_for _ _ _ L.lb L.ub L.st ok () body (fun k _ => iprop(Table c tab T q
    ∗ Bat buf pool sems c pl pgs s b k 0 ∗ bigSep (Ring.rangeSet 8 0 k) (Left pool c pl pgs s b)
    ∗ bigSep (Ring.rangeSet 8 k 8) (fun g => iprop((∃ f, buf.view.loc (c : Thread nD τ) ↦[pgSet buf s g]{fullShare} f) ∗ tok pool c pl pool.view.set s g)))) ?_)
  · intro k acc
    have hk : k.val < 8 := lt_of_lt_of_eq k.isLt h8
    rw [Ring.bigSep_rangeSet_head (lo := k.val) (hi := 8) hk hk, Ring.bigSep_rangeSet_last (lo := 0) (hi := k.val + 1) (by omega) (by omega)]
    iintro ⟨HT, HB, HL, ⟨⟨Hf, Ht⟩, Hr⟩⟩
    iapply (wp_wand _ _ _) $$ [HT HB Hf Ht]
    · iapply (hstep ⟨k.val, hk⟩ k rfl)
      isplitl [HT]; · iexact HT
      isplitl [HB]; · iexact HB
      isplitl [Hf] <;> iassumption
    iintro %x ⟨HT, HB, HL'⟩
    isplitl [HT]; · iexact HT
    isplitl [HB]; · iexact HB
    isplitl [HL HL']
    · isplitl [HL']; · iexact HL'
      iexact HL
    iexact Hr
  isplitl [HT HB Hf Ht]
  · isplitl [HT]; · iexact HT
    isplitl [HB]; · iexact HB
    isplitr
    · rw [Ring.bigSep_rangeSet_empty (le_refl 0)]; iempintro
    · rw [Ring.rangeSet_univ]
      iapply (sep_merge _ _)
      isplitl [Hf]
      · iapply (fin_mono (fun g => iprop(buf.view.loc (c : Thread nD τ) ↦[pgSet buf s g]{fullShare} f)) _
          fun g => exists_intro (Φ := fun f => iprop(buf.view.loc (c : Thread nD τ) ↦[pgSet buf s g]{fullShare} f)) f)
        iapply (Entails.of_eq (slot_pages buf c s f))
        iexact Hf
      iexact Ht
  · iintro %acc ⟨HT, HB, HL, -⟩
    iapply HQ
    isplitl [HT]; · iexact HT
    unfold Flight
    rw [show Scf.trips L.lb L.ub L.st = 8 from h8, Ring.rangeSet_univ]
    isplitl [HB]; · iexact HB
    iexact HL

theorem wait_loop (h8 : L.trips = 8) (s : Fin 6) (b : ℕ) {Q : Unit → sProp 𝕄}
    (hstep : ∀ (g : Fin 8) (k : Fin L.trips), k.val = g.val →
      iprop(Table c tab T q ∗ Bat buf pool sems c pl pgs s b 8 (g.val * NN buf) ∗ (∃ W, owes (c : Thread nD τ) 0 W))
      ⊢ wp frame (wpE defs 𝒱 (c : Thread nD τ) bd) Set.univ (body k ⟨⟩)
        fun _ => iprop(Table c tab T q ∗ Bat buf pool sems c pl pgs s b 8 ((g.val + 1) * NN buf) ∗ (∃ W, owes (c : Thread nD τ) 0 W))) :
    iprop((Table c tab T q ∗ Slot buf pool sems c pl pgs s (some b) ∗ (∃ W, owes (c : Thread nD τ) 0 W))
        ∗ (iprop(Table c tab T q ∗ Held buf pool sems c pl s (Fof buf c (blkC pool c pl pgs b)) ∗ (∃ W, owes (c : Thread nD τ) 0 W)) -∗ Q ⟨⟩))
      ⊢ wp frame (wpE defs 𝒱 (c : Thread nD τ) bd) Set.univ (Scf.Loop.for L ok ⟨⟩ body) Q := by
  unfold Slot Flight Held
  iintro ⟨⟨HT, ⟨HB, HL⟩, HO⟩, HQ⟩
  iapply (wp_fupd _ _ _)
  iapply (Scf.wp_for _ _ _ L.lb L.ub L.st ok () body (fun k _ => iprop(Table c tab T q
    ∗ Bat buf pool sems c pl pgs s b 8 (k * NN buf) ∗ (∃ W, owes (c : Thread nD τ) 0 W))) ?_)
  · intro k acc
    have hk : k.val < 8 := lt_of_lt_of_eq k.isLt h8
    exact hstep ⟨k.val, hk⟩ k rfl
  isplitl [HT HB HO]
  · rw [Nat.zero_mul]
    isplitl [HT]; · iexact HT
    isplitl [HB]; · iexact HB
    iexact HO
  · iintro %acc ⟨HT, HB, HO⟩
    rw [show Scf.trips L.lb L.ub L.st = 8 from h8, Nat.mul_comm 8]
    imod (Transfers.batch_collect' (countersEmb (U := Pipeline.UD sig nD τ)) (c : Thread nD τ) (NN_pos buf)) $$ HB with ⟨HD, Hc⟩
    imodintro
    iapply HQ
    isplitl [HT]; · iexact HT
    isplitr [HO]
    · isplitl [Hc]; · iexact Hc
      unfold Dlv
      ihave HD' := (sep_split _ _) $$ HD
      icases HD' with ⟨Hf, Ht⟩
      isplitl [Hf]
      · iapply (Entails.of_eq (slot_pages buf c s _).symm); iexact Hf
      ihave H2 := (sep_merge _ _) $$ [Ht HL]
      · isplitl [Ht]; · iexact Ht
        iexact HL
      iapply (fin_mono _ _ (fun g => ?_)) $$ H2
      refine (pointsTo_split_subset ?_).2
      rw [← poolPage_set]
      exact (View.set_reshape _ _).subset.trans (View.set_slice_subset _ _)
    iexact HO

end Loops

/-! ## The ring from the whole buffer, and back -/

theorem sep6_split (A B : Fin 6 → sProp 𝕄) :
    bigSep Finset.univ (fun g => iprop(A g ∗ B g)) ⊢ iprop(bigSep Finset.univ A ∗ bigSep Finset.univ B) := Entails.of_eq (BI.bigSep_sep _ _ _)
theorem sep6_merge (A B : Fin 6 → sProp 𝕄) :
    iprop(bigSep Finset.univ A ∗ bigSep Finset.univ B) ⊢ bigSep Finset.univ (fun g => iprop(A g ∗ B g)) := Entails.of_eq (BI.bigSep_sep _ _ _).symm
theorem fin6_mono (A B : Fin 6 → sProp 𝕄) (h : ∀ g, A g ⊢ B g) : bigSep Finset.univ A ⊢ bigSep Finset.univ B :=
  BI.bigSep_mono fun g _ => h g

/-- The pool at a share. -/
abbrev poolPt (q : PosShare TreeShare) : sProp 𝕄 := pool.view.loc (c : Thread nD τ) ↦[pool.view.set]{q} pl

theorem toks_fin (q : PosShare TreeShare) (n : ℕ) :
    (poolPt pool c pl q : sProp 𝕄) ⊣⊢ iprop((poolPt pool c pl (Transfers.shareDrop q n))
      ∗ bigSep (Finset.univ : Finset (Fin n)) fun i => poolPt pool c pl (Transfers.shareTokN q i.val)) := by
  have h := Ring.bigSep_fin_eq_range n (fun i => (poolPt pool c pl (Transfers.shareTokN q i.val) : sProp 𝕄))
    (fun i => poolPt pool c pl (Transfers.shareTokN q i)) (fun t ht => rfl)
  have h2 := Transfers.pointsTo_toks_range (Ix := Unit) (Name := ℕ) (U := Pipeline.UD sig nD τ) (Lvl := ℕ) (ℓ := pool.view.loc (c : Thread nD τ)) (S := pool.view.set) (f := pl) q n
  rw [h]; exact h2

/-- What is left of the pool's share beside the slots' tokens. -/
def poolRest : sProp 𝕄 :=
  iprop(poolPt pool c pl (Transfers.shareDrop fullShare 6)
    ∗ bigSep Finset.univ fun s : Fin 6 => poolPt pool c pl (Transfers.shareDrop (Transfers.shareTokN fullShare s.val) 8))

abbrev cells : sProp 𝕄 := bigSep Finset.univ fun s : Fin 6 => semVal ((c : Thread nD τ), SemLoc.dma (cellOf sems s)) 0

/-- The six slots, each in its state. -/
abbrev RingSt (st : Fin 6 → Option ℕ) : sProp 𝕄 := Ring.AtW (fun s => Slot buf pool sems c pl pgs s) st

theorem ringSt_none : (RingSt buf pool sems c pl pgs (fun _ => none) : sProp 𝕄)
    = bigSep Finset.univ (fun s => Slot buf pool sems c pl pgs s none) := rfl

theorem ring_enter (hbuf : buf.view.set = Finset.univ) (f : Buf (Elt F) (buf.view.loc (c : Thread nD τ))) :
    iprop(cells sems c ∗ (buf.view.loc (c : Thread nD τ) ↦{fullShare} f) ∗ poolPt pool c pl fullShare)
      ⊢ (iprop(RingSt buf pool sems c pl pgs (fun _ => none) ∗ poolRest pool c pl) : sProp 𝕄) := by
  iintro ⟨Hc, Hf, Hp⟩
  ihave Hp' := (toks_fin pool c pl fullShare 6).1 $$ Hp
  icases Hp' with ⟨Hd, Hs⟩
  ihave Hs' := (fin6_mono _ _ (fun s => (toks_fin pool c pl (Transfers.shareTokN fullShare s.val) 8).1)) $$ Hs
  ihave Hs2 := (sep6_split _ _) $$ Hs'
  icases Hs2 with ⟨Hr, Ht⟩
  isplitr [Hd Hr]
  · rw [ringSt_none]
    ihave Hf' := (Entails.of_eq (Ring.pointsTo_blocks (ℓ := buf.view.loc (c : Thread nD τ)) (slotSet buf)
      (fun s s' h => slotSet_disjoint buf h) (slotSet_cover buf hbuf) f)) $$ Hf
    ihave H1 := (sep6_merge _ _) $$ [Hf' Ht]
    · isplitl [Hf']; · iexact Hf'
      iexact Ht
    ihave H2 := (sep6_merge _ _) $$ [Hc H1]
    · isplitl [Hc]; · iexact Hc
      iexact H1
    iapply (fin6_mono _ _ (fun s => ?_)) $$ H2
    unfold Slot Held
    iintro H; iexists f; iexact H
  · unfold poolRest
    isplitl [Hd] <;> iassumption

theorem ring_exit (hbuf : buf.view.set = Finset.univ) :
    (iprop(RingSt buf pool sems c pl pgs (fun _ => none) ∗ poolRest pool c pl) : sProp 𝕄)
      ⊢ iprop(cells sems c ∗ (∃ f, buf.view.loc (c : Thread nD τ) ↦{fullShare} f) ∗ poolPt pool c pl fullShare) := by
  unfold poolRest
  rw [ringSt_none]
  iintro ⟨HR, ⟨Hd, Hr⟩⟩
  ihave H := (fin6_mono _ (fun s => iprop(semVal ((c : Thread nD τ), SemLoc.dma (cellOf sems s)) 0
    ∗ ((∃ f, buf.view.loc (c : Thread nD τ) ↦[slotSet buf s]{fullShare} f) ∗ bigSep Finset.univ fun g : Fin 8 => tok pool c pl pool.view.set s g)))
    (fun s => by unfold Slot Held; iintro ⟨%f, Hc, Hf, Ht⟩; isplitl [Hc]; · iexact Hc
                 isplitl [Hf]; · iexists f; iexact Hf
                 iexact Ht)) $$ HR
  ihave H1 := (sep6_split _ _) $$ H
  icases H1 with ⟨Hc, H⟩
  ihave H2 := (sep6_split _ _) $$ H
  icases H2 with ⟨Hf, Ht⟩
  isplitl [Hc]; · iexact Hc
  isplitl [Hf]
  · iapply (Ring.pointsTo_blocks_join_exists (ℓ := buf.view.loc (c : Thread nD τ)) (slotSet buf)
      (fun s s' h => slotSet_disjoint buf h) (slotSet_cover buf hbuf) (buf.view.junk)) $$ Hf
  iapply (toks_fin pool c pl fullShare 6).2
  isplitl [Hd]; · iexact Hd
  ihave H3 := (sep6_merge _ _) $$ [Hr Ht]
  · isplitl [Hr]; · iexact Hr
    iexact Ht
  iapply (fin6_mono _ _ (fun s => (toks_fin pool c pl (Transfers.shareTokN fullShare s.val) 8).2)) $$ H3

end Cert.KernelIdeal.Hand
-- ==== Proof.Walk.lean ====
/-
  One trip of the main loop over the two rings, and the loops around it, stated over the trip's parts: the blocks'
  transfers started and awaited, the new token patched in, the scores of the block's sixteen tiles, the fold of the
  tiles. What the parts compute is a parameter.
-/
module

public import proofs.«01_k».proof.Proof.Ring

@[expose] public section

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [∀ e, Nonempty (Elt F e)]

local notation "𝕄" => MT nD τ sig Unit (Elt F) ℕ (Pipeline.UD sig nD τ) ℕ

/-! ## A step function iterated along the trips of a loop -/

/-- The carried value before trip `k`. -/
def iter {σ : Type} {n : ℕ} (step : Fin n → σ → σ) (init : σ) : ℕ → σ
  | 0 => init
  | k + 1 => if h : k < n then step ⟨k, h⟩ (iter step init k) else iter step init k

theorem iter_succ {σ : Type} {n : ℕ} (step : Fin n → σ → σ) (init : σ) (k : Fin n) :
    iter step init (k.val + 1) = step k (iter step init k.val) := by
  simp [iter, k.isLt]

/-! ## The ring's schedule -/

/-- Slot of a block. -/
abbrev sl (i : ℕ) : Fin 6 := ⟨i % 6, Nat.mod_lt _ (by omega)⟩

/-- The block slot `s` serves in the window of six from block `i`. -/
def blkAt (i : ℕ) (s : Fin 6) : ℕ := i + (s.val + 6 - i % 6) % 6

/-- Before trip `i`: blocks `i` to `i + 4` below `n` in flight. -/
def st (n i : ℕ) (s : Fin 6) : Option ℕ := if blkAt i s < i + 5 ∧ blkAt i s < n then some (blkAt i s) else none
/-- In trip `i` after its start: blocks `i` to `i + 5`. -/
def stp (n i : ℕ) (s : Fin 6) : Option ℕ := if blkAt i s < n then some (blkAt i s) else none
/-- After `k` starts of the prologue. -/
def st0 (n k : ℕ) (s : Fin 6) : Option ℕ := if s.val < k ∧ s.val < n then some s.val else none

theorem st_free (n i : ℕ) : st n i (sl (i + 5)) = none := by
  unfold st blkAt; rw [if_neg]; simp only [sl]; omega

theorem st_start (n i : ℕ) : Function.update (st n i) (sl (i + 5)) (if i + 5 < n then some (i + 5) else none) = stp n i := by
  funext s
  have hs := s.isLt
  by_cases h : s = sl (i + 5)
  · have hb : blkAt i s = i + 5 := by subst h; simp only [blkAt, sl]; omega
    rw [h, Function.update_self, ← h]; unfold stp; rw [hb]
  · rw [Function.update_of_ne h]
    have hne : s.val ≠ (i + 5) % 6 := fun e => h (Fin.ext e)
    have hb : blkAt i s < i + 5 := by unfold blkAt; omega
    unfold st stp; simp [hb]

theorem stp_here (n i : ℕ) (h : i < n) : stp n i (sl i) = some i := by
  have hb : blkAt i (sl i) = i := by simp only [blkAt, sl]; omega
  unfold stp; rw [hb, if_pos h]

theorem st_next (n i : ℕ) : Function.update (stp n i) (sl i) none = st n (i + 1) := by
  funext s
  have hs := s.isLt
  by_cases h : s = sl i
  · rw [h, Function.update_self]
    unfold st; rw [if_neg]; simp only [blkAt, sl]; omega
  · rw [Function.update_of_ne h]
    have hne : s.val ≠ i % 6 := fun e => h (Fin.ext e)
    have hb : blkAt (i + 1) s = blkAt i s := by unfold blkAt; omega
    have hb2 : blkAt (i + 1) s < i + 6 := by unfold blkAt; omega
    unfold st stp; rw [hb] at hb2 ⊢
    simp [hb2]

theorem st_end (n : ℕ) : st n n = fun _ => none := by
  funext s; unfold st; rw [if_neg]; unfold blkAt; omega

theorem st0_zero (n : ℕ) : st0 n 0 = fun _ => none := by
  funext s; unfold st0; rw [if_neg]; omega

theorem st0_five (n : ℕ) : st0 n 5 = st n 0 := by
  funext s
  have hs := s.isLt
  have hb : blkAt 0 s = s.val := by unfold blkAt; omega
  unfold st0 st; rw [hb]

theorem st0_free (n k : ℕ) (hk : k < 5) : st0 n k (sl k) = none := by
  unfold st0; rw [if_neg]; simp only [sl]; omega

theorem st0_start (n k : ℕ) (hk : k < 5) : Function.update (st0 n k) (sl k) (if k < n then some k else none) = st0 n (k + 1) := by
  funext s
  by_cases h : s = sl k
  · have hv : s.val = k := by rw [h]; simp only [sl]; omega
    rw [h, Function.update_self, ← h]; unfold st0; rw [hv]; simp
  · rw [Function.update_of_ne h]
    have hne : s.val ≠ k := fun e => h (Fin.ext (by simp only [sl]; omega))
    unfold st0
    have : (s.val < k + 1) ↔ s.val < k := by omega
    simp only [this]

/-! ## Loads and stores at canonical offsets -/

section Ops

variable (c : Dev nD) (defs : Defs nD τ sig (Elt F) Λ₀) (𝒱 : Variants) (bd : Option 𝒱.V)
variable (buf : Memref sig .tc .vmem S6x8x1024x128 .fp8e4m3) (t : Memref sig .tc .vmem S32x4096 .f32)

theorem ret_wp {α : Type} {Q : α → sProp 𝕄} (x : α) :
    Q x ⊢ wp frame (wpE defs 𝒱 (c : Thread nD τ) bd) Set.univ (pure x) Q := by
  show _ ⊢ wp _ _ _ (Prog.ret x) _
  rw [wp_ret]
  iintro H
  imodintro
  iexact H

theorem hinb (s : Fin 6) (j : Fin 16) :
    ∀ a, (![s.val, j.val / 2, 512 * (j.val % 2), 0] : Fin 4 → ℕ) a + S1x1x512x128.size a ≤ S6x8x1024x128.size a :=
  inb4 _ s.val (j.val / 2) (512 * (j.val % 2)) 512 rfl s.isLt (by omega) (by omega)

/-- Half page `j` of slot `s`. -/
def half (s : Fin 6) (j : Fin 16) (f : Buf (Elt F) (buf.view.loc (c : Thread nD τ))) : Vec F S1x1x512x128 .fp8e4m3 :=
  (buf.access (Rect.unit (s := S6x8x1024x128) _ S1x1x512x128.size (hinb s j))).read (Elt F) f

theorem slot_sub (s : Fin 6) (r : Rect S6x8x1024x128) (h0 : ∀ x, (r.emb x 0).val = s.val) :
    (buf.access r).set ⊆ slotSet buf s := by
  intro i hi
  obtain ⟨x, -, rfl⟩ := Finset.mem_map.mp hi
  exact (mem_slotSet buf s _).mpr (h0 x)

theorem load_half (s : Fin 6) (j : Fin 16) {o : Fin 4 → ℕ} {h : ∀ a, o a + S1x1x512x128.size a ≤ S6x8x1024x128.size a}
    (e : o = ![s.val, j.val / 2, 512 * (j.val % 2), 0]) (f : Buf (Elt F) (buf.view.loc (c : Thread nD τ)))
    {α : Type} {Q : α → sProp 𝕄} {hl} {k : (Vec F S1x1x512x128 .fp8e4m3) → Prog (TpuEff nD τ sig (Elt F) Λ₀ .tc) α} :
    (buf.view.loc (c : Thread nD τ) ↦[slotSet buf s]{fullShare} f)
      ⊢ iprop(((buf.view.loc (c : Thread nD τ) ↦[slotSet buf s]{fullShare} f)
          -∗ wp frame (wpE defs 𝒱 (c : Thread nD τ) bd) Set.univ (k (half c buf s j f)) Q)
        -∗ wp frame (wpE defs 𝒱 (c : Thread nD τ) bd) Set.univ
          (.op (.load buf (Rect.unit (s := S6x8x1024x128) o S1x1x512x128.size h).toLoadRect hl) k) Q) := by
  subst e
  refine wp_load_rect 𝒱 (c : Thread nD τ) bd Set.univ (m := buf) (r := Rect.unit (s := S6x8x1024x128) _ S1x1x512x128.size h)
    (S := slotSet buf s) (q := fullShare) (f := f) (slot_sub buf s _ fun x => ?_)
  have : (x 0).val < 1 := (x 0).isLt
  simp [Rect.emb, Rect.unit]; omega

theorem qinb4 (s : Fin 6) (g : Fin 8) (r : Fin 32) :
    ∀ a, (![s.val, g.val, r.val * 32, 0] : Fin 4 → ℕ) a + S1x1x32x128.size a ≤ S6x8x1024x128.size a :=
  inb4 _ s.val g.val (r.val * 32) 32 rfl s.isLt g.isLt (by omega)

/-- The rectangle of the four packed token rows the new token is patched into. -/
abbrev patchR (s : Fin 6) (g : Fin 8) (r : Fin 32) : Rect S6x8x1024x128 :=
  Rect.unit (s := S6x8x1024x128) _ S1x1x32x128.size (qinb4 s g r)

def quad (s : Fin 6) (g : Fin 8) (r : Fin 32) (f : Buf (Elt F) (buf.view.loc (c : Thread nD τ))) : Vec F S1x1x32x128 .fp8e4m3 :=
  (buf.access (patchR s g r)).read (Elt F) f

def putQuad (s : Fin 6) (g : Fin 8) (r : Fin 32) (f : Buf (Elt F) (buf.view.loc (c : Thread nD τ))) (w : Vec F S1x1x32x128 .fp8e4m3) :
    Buf (Elt F) (buf.view.loc (c : Thread nD τ)) :=
  (buf.access (patchR s g r)).write (Elt F) f w Finset.univ

theorem quad_sub (s : Fin 6) (g : Fin 8) (r : Fin 32) : (buf.access (patchR s g r)).set ⊆ slotSet buf s := by
  refine slot_sub buf s _ fun x => ?_
  have : (x 0).val < 1 := (x 0).isLt
  simp [Rect.emb, Rect.unit]; omega

theorem load_quad (s : Fin 6) (g : Fin 8) (r : Fin 32) {o : Fin 4 → ℕ} {h : ∀ a, o a + S1x1x32x128.size a ≤ S6x8x1024x128.size a}
    (e : o = ![s.val, g.val, r.val * 32, 0]) (f : Buf (Elt F) (buf.view.loc (c : Thread nD τ)))
    {α : Type} {Q : α → sProp 𝕄} {hl} {k : (Vec F S1x1x32x128 .fp8e4m3) → Prog (TpuEff nD τ sig (Elt F) Λ₀ .tc) α} :
    (buf.view.loc (c : Thread nD τ) ↦[slotSet buf s]{fullShare} f)
      ⊢ iprop(((buf.view.loc (c : Thread nD τ) ↦[slotSet buf s]{fullShare} f)
          -∗ wp frame (wpE defs 𝒱 (c : Thread nD τ) bd) Set.univ (k (quad c buf s g r f)) Q)
        -∗ wp frame (wpE defs 𝒱 (c : Thread nD τ) bd) Set.univ
          (.op (.load buf (Rect.unit (s := S6x8x1024x128) o S1x1x32x128.size h).toLoadRect hl) k) Q) := by
  subst e
  exact wp_load_rect 𝒱 (c : Thread nD τ) bd Set.univ (m := buf) (r := patchR s g r) (S := slotSet buf s) (q := fullShare) (f := f)
    (quad_sub buf s g r)

theorem store_quad (s : Fin 6) (g : Fin 8) (r : Fin 32) {o : Fin 4 → ℕ} {h : ∀ a, o a + S1x1x32x128.size a ≤ S6x8x1024x128.size a}
    (e : o = ![s.val, g.val, r.val * 32, 0]) (f : Buf (Elt F) (buf.view.loc (c : Thread nD τ))) (w : Vec F S1x1x32x128 .fp8e4m3)
    {α : Type} {Q : α → sProp 𝕄} {hx hm} {k : PUnit → Prog (TpuEff nD τ sig (Elt F) Λ₀ .tc) α} :
    (buf.view.loc (c : Thread nD τ) ↦[slotSet buf s]{fullShare} f)
      ⊢ iprop(((buf.view.loc (c : Thread nD τ) ↦[slotSet buf s]{fullShare} putQuad c buf s g r f w)
          -∗ wp frame (wpE defs 𝒱 (c : Thread nD τ) bd) Set.univ (k ⟨⟩) Q)
        -∗ wp frame (wpE defs 𝒱 (c : Thread nD τ) bd) Set.univ
          (.op (.store buf (Rect.unit (s := S6x8x1024x128) o S1x1x32x128.size h) w Finset.univ hx hm) k) Q) := by
  subst e
  exact wp_store 𝒱 (c : Thread nD τ) bd Set.univ (m := buf) (r := patchR s g r) (S := slotSet buf s) (f := f) (w := w)
    ((View.setOn_univ _).subset.trans (quad_sub buf s g r))

theorem inbT (j : Fin 16) : ∀ a, (![0, 256 * j.val] : Fin 2 → ℕ) a + S32x256.size a ≤ S32x4096.size a := by
  intro a
  show (![0, 256 * j.val] : Fin 2 → ℕ) a + (![32, 256] : Fin 2 → ℕ) a ≤ (![32, 4096] : Fin 2 → ℕ) a
  fin_cases a <;> simp <;> omega

abbrev tileR (j : Fin 16) : Rect S32x4096 := Rect.unit (s := S32x4096) _ S32x256.size (inbT j)

/-- Tile `j` of the score buffer. -/
def tile (j : Fin 16) (Y : Buf (Elt F) (t.view.loc (c : Thread nD τ))) : Vec F S32x256 .f32 :=
  (t.access (tileR j)).read (Elt F) Y

def putTile (j : Fin 16) (Y : Buf (Elt F) (t.view.loc (c : Thread nD τ))) (w : Vec F S32x256 .f32) : Buf (Elt F) (t.view.loc (c : Thread nD τ)) :=
  (t.access (tileR j)).write (Elt F) Y w Finset.univ

/-- The first `k` tiles are written. -/
def TileOK (k : ℕ) (P : Fin 16 → Vec F S32x256 .f32) (Y : Buf (Elt F) (t.view.loc (c : Thread nD τ))) : Prop :=
  ∀ j : Fin 16, j.val < k → tile c t j Y = P j

theorem tile_put (j : Fin 16) (Y : Buf (Elt F) (t.view.loc (c : Thread nD τ))) (w : Vec F S32x256 .f32) :
    tile c t j (putTile c t j Y w) = w := View.read_write_univ _ _

theorem tile_put_ne (i j : Fin 16) (h : i ≠ j) (Y : Buf (Elt F) (t.view.loc (c : Thread nD τ))) (w : Vec F S32x256 .f32) :
    tile c t i (putTile c t j Y w) = tile c t i Y := by
  refine View.read_slice_write_slice_of_disjoint (v := t.view) (tileR i) (tileR j) Y w (M := Finset.univ) ?_
  rw [View.setOn_univ, View.set_slice, View.set_slice, Finset.disjoint_map, Finset.disjoint_left]
  intro y hi hj
  rw [Rect.mem_set_unit] at hi hj
  have a1 : 256 * i.val ≤ (y 1).val ∧ (y 1).val < 256 * i.val + 256 := hi 1
  have a2 : 256 * j.val ≤ (y 1).val ∧ (y 1).val < 256 * j.val + 256 := hj 1
  exact h (Fin.ext (by omega))

abbrev tPt (Y : Buf (Elt F) (t.view.loc (c : Thread nD τ))) : sProp 𝕄 := t.view.loc (c : Thread nD τ) ↦[Finset.univ]{fullShare} Y

theorem load_tile (j : Fin 16) {o : Fin 2 → ℕ} {h : ∀ a, o a + S32x256.size a ≤ S32x4096.size a}
    (e : o = ![0, 256 * j.val]) (Y : Buf (Elt F) (t.view.loc (c : Thread nD τ)))
    {α : Type} {Q : α → sProp 𝕄} {hl} {k : (Vec F S32x256 .f32) → Prog (TpuEff nD τ sig (Elt F) Λ₀ .tc) α} :
    tPt c t Y
      ⊢ iprop((tPt c t Y -∗ wp frame (wpE defs 𝒱 (c : Thread nD τ) bd) Set.univ (k (tile c t j Y)) Q)
        -∗ wp frame (wpE defs 𝒱 (c : Thread nD τ) bd) Set.univ
          (.op (.load t (Rect.unit (s := S32x4096) o S32x256.size h).toLoadRect hl) k) Q) := by
  subst e
  exact wp_load_rect 𝒱 (c : Thread nD τ) bd Set.univ (m := t) (r := tileR j) (S := Finset.univ) (q := fullShare) (f := Y)
    (Finset.subset_univ _)

theorem store_tile (j : Fin 16) {o : Fin 2 → ℕ} {h : ∀ a, o a + S32x256.size a ≤ S32x4096.size a}
    (e : o = ![0, 256 * j.val]) (Y : Buf (Elt F) (t.view.loc (c : Thread nD τ))) (w : Vec F S32x256 .f32)
    {α : Type} {Q : α → sProp 𝕄} {hx hm} {k : PUnit → Prog (TpuEff nD τ sig (Elt F) Λ₀ .tc) α} :
    tPt c t Y
      ⊢ iprop((tPt c t (putTile c t j Y w) -∗ wp frame (wpE defs 𝒱 (c : Thread nD τ) bd) Set.univ (k ⟨⟩) Q)
        -∗ wp frame (wpE defs 𝒱 (c : Thread nD τ) bd) Set.univ
          (.op (.store t (Rect.unit (s := S32x4096) o S32x256.size h) w Finset.univ hx hm) k) Q) := by
  subst e
  exact wp_store 𝒱 (c : Thread nD τ) bd Set.univ (m := t) (r := tileR j) (S := Finset.univ) (f := Y) (w := w)
    (Finset.subset_univ _)

/-! ## The loop of the scores and the loop of the fold -/

/-- The score loop: each trip writes its tile and folds its maximum. -/
theorem score_loop (R : sProp 𝕄) {σ : Type} (L : Scf.Loop 32) (ok : L.OK) (h16 : L.trips = 16) (init : σ)
    (body : Fin L.trips → σ → Prog (TpuEff nD τ sig (Elt F) Λ₀ .tc) σ)
    (P : Fin 16 → Vec F S32x256 .f32) (M : Fin 16 → σ → σ)
    (hstep : ∀ (j : Fin 16) (k : Fin L.trips), k.val = j.val → ∀ (a : σ) (Y : Buf (Elt F) (t.view.loc (c : Thread nD τ))),
      iprop(tPt c t Y ∗ R) ⊢ wp frame (wpE defs 𝒱 (c : Thread nD τ) bd) Set.univ (body k a)
        fun r => iprop(⌜r = M j a⌝ ∗ tPt c t (putTile c t j Y (P j)) ∗ R)) :
    iprop((∃ Y : Buf (Elt F) (t.view.loc (c : Thread nD τ)), tPt c t Y) ∗ R) ⊢ wp frame (wpE defs 𝒱 (c : Thread nD τ) bd) Set.univ (Scf.Loop.for L ok init body)
      fun r => iprop(⌜r = iter M init 16⌝ ∗ (∃ Y : Buf (Elt F) (t.view.loc (c : Thread nD τ)), ⌜TileOK c t 16 P Y⌝ ∗ tPt c t Y) ∗ R) := by
  iintro ⟨⟨%Y, HY⟩, HR⟩
  iapply (Scf.wp_for _ _ _ L.lb L.ub L.st ok init body (fun k a => iprop(⌜a = iter M init k⌝
    ∗ (∃ Y : Buf (Elt F) (t.view.loc (c : Thread nD τ)), ⌜TileOK c t k P Y⌝ ∗ tPt c t Y) ∗ R)) ?_)
  · intro k a
    have hk : k.val < 16 := lt_of_lt_of_eq k.isLt h16
    iintro ⟨%ha, ⟨%Y, %hY, HY⟩, HR⟩
    iapply (wp_wand _ _ _) $$ [HY HR]
    · iapply (hstep ⟨k.val, hk⟩ k rfl a Y)
      isplitl [HY] <;> iassumption
    iintro %r ⟨%hr, HY, HR⟩
    isplitr
    · ipureintro
      rw [hr, ha]; exact (iter_succ M init ⟨k.val, hk⟩).symm
    isplitl [HY]
    · iexists _
      isplitr
      · ipureintro
        intro j hj
        by_cases hjk : j = ⟨k.val, hk⟩
        · rw [hjk]; exact tile_put c t _ Y _
        · rw [tile_put_ne c t j _ hjk]
          refine hY j ?_
          have : j.val ≠ k.val := fun e => hjk (Fin.ext e)
          omega
      iexact HY
    iexact HR
  isplitl [HY HR]
  · isplitr
    · ipureintro; rfl
    isplitl [HY]
    · iexists Y
      isplitr
      · ipureintro; intro j hj; omega
      iexact HY
    iexact HR
  · iintro %a ⟨%ha, ⟨%Y, %hY, HY⟩, HR⟩
    rw [show Scf.trips L.lb L.ub L.st = 16 from h16] at ha hY
    isplitr
    · ipureintro; exact ha
    isplitl [HY]
    · iexists Y
      isplitr
      · ipureintro; exact hY
      iexact HY
    iexact HR

/-- A loop that leaves its resource as it was, carrying a value. -/
theorem carry_loop {σ : Type} {n : ℕ} (L : Scf.Loop 32) (ok : L.OK) (hn : L.trips = n) (init : σ)
    (body : Fin L.trips → σ → Prog (TpuEff nD τ sig (Elt F) Λ₀ .tc) σ) (M : Fin n → σ → σ) (I : ℕ → sProp 𝕄)
    (hstep : ∀ (j : Fin n) (k : Fin L.trips), k.val = j.val → ∀ (a : σ),
      I j.val ⊢ wp frame (wpE defs 𝒱 (c : Thread nD τ) bd) Set.univ (body k a) fun r => iprop(⌜r = M j a⌝ ∗ I (j.val + 1))) :
    I 0 ⊢ wp frame (wpE defs 𝒱 (c : Thread nD τ) bd) Set.univ (Scf.Loop.for L ok init body)
      fun r => iprop(⌜r = iter M init n⌝ ∗ I n) := by
  iintro HR
  iapply (Scf.wp_for _ _ _ L.lb L.ub L.st ok init body (fun k a => iprop(⌜a = iter M init k⌝ ∗ I k)) ?_)
  · intro k a
    have hk : k.val < n := lt_of_lt_of_eq k.isLt hn
    iintro ⟨%ha, HR⟩
    iapply (wp_wand _ _ _) $$ [HR]
    · iapply (hstep ⟨k.val, hk⟩ k rfl a) $$ HR
    iintro %r ⟨%hr, HR⟩
    isplitr
    · ipureintro
      rw [hr, ha]; exact (iter_succ M init ⟨k.val, hk⟩).symm
    iexact HR
  isplitl [HR]
  · isplitr
    · ipureintro; rfl
    iexact HR
  · iintro %a ⟨%ha, HR⟩
    rw [show Scf.trips L.lb L.ub L.st = n from hn] at ha ⊢
    isplitr
    · ipureintro; exact ha
    iexact HR

end Ops

/-! ## The eight transfers of a block from the program's loop -/

section Blocks

variable (c : Dev nD) (defs : Defs nD τ sig (Elt F) Λ₀) (𝒱 : Variants) (bd : Option 𝒱.V)
variable (buf : Memref sig .tc .vmem S6x8x1024x128 .fp8e4m3) (pool : Memref sig .tc .hbm S1024x1024x128 .fp8e4m3)
  (sems : DmaSems sig S6) (pl : Buf (Elt F) (pool.view.loc (c : Thread nD τ))) (pgs : ℕ → Fin 1024)
  (tab : Memref sig .tc .smem S1024 .i32) (T : Buf (Elt F) (tab.view.loc (c : Thread nD τ))) (q : PosShare TreeShare)
variable (htw : ∀ i < 1024, (tw (F := F) tab T i).toNat = (pgs i).val)
  (hbuf : buf.IsWhole) (hpool : pool.IsWhole)
  (L : Scf.Loop 32) (ok : L.OK) (h8 : L.trips = 8) (body : Fin L.trips → Unit → Prog (TpuEff nD τ sig (Elt F) Λ₀ .tc) Unit)
  (oT : Fin L.trips → Fin 1 → ℕ) (hT : ∀ k, ∀ a, oT k a + S1.size a ≤ S1024.size a)
  (oS : Fin 1 → ℕ) (hS : ∀ a, oS a + S1.size a ≤ S6.size a)
  (oB : Fin L.trips → Fin 4 → ℕ) (hB : ∀ k, ∀ a, oB k a + S1x1x1024x128.size a ≤ S6x8x1024x128.size a)
  (hBw : ∀ k, (Rect.unit (s := S6x8x1024x128) (oB k) S1x1x1024x128.size (hB k)).WholeWords (EltTy.packing .fp8e4m3))
  (chk : BitVec 32 → Prop) (dec : ∀ w, Decidable (chk w))
  (hP : ∀ w, chk w → ∀ a, (![w.toNat, 0, 0] : Fin 3 → ℕ) a + S1x1024x128.size a ≤ S1024x1024x128.size a)
  (hPw : ∀ w (h : chk w), (Rect.unit (s := S1024x1024x128) ![w.toNat, 0, 0] S1x1024x128.size (hP w h)).WholeWords (EltTy.packing .fp8e4m3))
  (hchk : ∀ w : BitVec 32, w.toNat < 1024 → chk w)
  (s : Fin 6) (b : ℕ) (hb : b < 128)
  (eT : ∀ k, oT k = ![8 * b + k.val]) (eS : oS = ![s.val]) (eB : ∀ k, oB k = ![s.val, k.val, 0, 0])

include htw h8 hchk hb eT eS eB

theorem start_block
    (hbody : ∀ k, body k ⟨⟩ = startTrip buf pool sems tab hbuf hpool (oT k) (hT k) oS hS (oB k) (hB k) (hBw k) chk dec hP hPw) :
    iprop(Table c tab T q ∗ Slot buf pool sems c pl pgs s none)
      ⊢ wp frame (wpE defs 𝒱 (c : Thread nD τ) bd) Set.univ (Scf.Loop.for L ok ⟨⟩ body)
        fun _ => iprop(Table c tab T q ∗ Slot buf pool sems c pl pgs s (some b)) := by
  iintro H
  iapply (start_loop buf pool sems c pl pgs tab T defs 𝒱 bd q L ok body h8 s b (fun g k hk => ?_))
  · rw [hbody k]
    exact startTrip_wp buf pool sems c pl pgs tab T defs 𝒱 bd q hbuf hpool _ _ _ _ _ _ _ _ _ _ _ htw hchk s b hb g
      (by rw [eT k, hk]) eS (by rw [eB k, hk])
  isplitl [H]; · iexact H
  iintro H; iexact H

theorem wait_block
    (hbody : ∀ k, body k ⟨⟩ = waitTrip buf pool sems tab hbuf hpool (oT k) (hT k) oS hS (oB k) (hB k) (hBw k) chk dec hP hPw) :
    iprop(Table c tab T q ∗ Slot buf pool sems c pl pgs s (some b) ∗ (∃ W, owes (c : Thread nD τ) 0 W))
      ⊢ wp frame (wpE defs 𝒱 (c : Thread nD τ) bd) Set.univ (Scf.Loop.for L ok ⟨⟩ body)
        fun _ => iprop(Table c tab T q ∗ Held buf pool sems c pl s (Fof buf c (blkC pool c pl pgs b)) ∗ (∃ W, owes (c : Thread nD τ) 0 W)) := by
  iintro H
  iapply (wait_loop buf pool sems c pl pgs tab T defs 𝒱 bd q L ok body h8 s b (fun g k hk => ?_))
  · rw [hbody k]
    exact waitTrip_wp buf pool sems c pl pgs tab T defs 𝒱 bd q hbuf hpool _ _ _ _ _ _ _ _ _ _ _ htw hchk s b hb g
      (by rw [eT k, hk]) eS (by rw [eB k, hk])
  isplitl [H]; · iexact H
  iintro H; iexact H

end Blocks

/-! ## One trip -/

section Trip

variable (c : Dev nD) (defs : Defs nD τ sig (Elt F) Λ₀) (𝒱 : Variants) (bd : Option 𝒱.V)
variable (bufK bufV : Memref sig .tc .vmem S6x8x1024x128 .fp8e4m3) (poolK poolV : Memref sig .tc .hbm S1024x1024x128 .fp8e4m3)
  (semK semV : DmaSems sig S6) (t : Memref sig .tc .vmem S32x4096 .f32)
  (plK : Buf (Elt F) (poolK.view.loc (c : Thread nD τ))) (plV : Buf (Elt F) (poolV.view.loc (c : Thread nD τ))) (pgs : ℕ → Fin 1024)
  (tab : Memref sig .tc .smem S1024 .i32) (T : Buf (Elt F) (tab.view.loc (c : Thread nD τ))) (q : PosShare TreeShare)

abbrev Owes : sProp 𝕄 := iprop(∃ W, owes (c : Thread nD τ) 0 W)
abbrev slotPt (buf : Memref sig .tc .vmem S6x8x1024x128 .fp8e4m3) (s : Fin 6) (f : Buf (Elt F) (buf.view.loc (c : Thread nD τ))) : sProp 𝕄 :=
  buf.view.loc (c : Thread nD τ) ↦[slotSet buf s]{fullShare} f

/-- What the main loop holds with the rings at schedule `a`. -/
def Main (Ex : sProp 𝕄) (a : Fin 6 → Option ℕ) : sProp 𝕄 :=
  iprop(RingSt bufK poolK semK c plK pgs a ∗ RingSt bufV poolV semV c plV pgs a ∗ Table c tab T q ∗ Owes c ∗ (∃ Y : Buf (Elt F) (t.view.loc (c : Thread nD τ)), tPt c t Y) ∗ Ex)

/-- What a trip holds between its scores and its fold. -/
def Mid (Ex : sProp 𝕄) (n i : ℕ) (fk : Buf (Elt F) (bufK.view.loc (c : Thread nD τ))) (fv : Buf (Elt F) (bufV.view.loc (c : Thread nD τ)))
    (P : Fin 16 → Vec F S32x256 .f32) : sProp 𝕄 :=
  iprop((Held bufK poolK semK c plK (sl i) fk ∗ Ring.restW (fun s => Slot bufK poolK semK c plK pgs s) (stp n i) (sl i))
    ∗ (Held bufV poolV semV c plV (sl i) fv ∗ Ring.restW (fun s => Slot bufV poolV semV c plV pgs s) (stp n i) (sl i))
    ∗ Table c tab T q ∗ Owes c ∗ (∃ Y : Buf (Elt F) (t.view.loc (c : Thread nD τ)), ⌜TileOK c t 16 P Y⌝ ∗ tPt c t Y) ∗ Ex)

/-- What follows the start of a trip's transfers: wait, patch, score. -/
def headRest {A B : Type} (wk wv : Prog (TpuEff nD τ sig (Elt F) Λ₀ .tc) Unit) (c4 : Prop) [Decidable c4]
    (pt : c4 → Prog (TpuEff nD τ sig (Elt F) Λ₀ .tc) Unit) (score : Prog (TpuEff nD τ sig (Elt F) Λ₀ .tc) A) (out : A → B)
    (_ : Unit) : Prog (TpuEff nD τ sig (Elt F) Λ₀ .tc) B :=
  wk >>= fun _ => wv >>= fun _ =>
    if h : c4 then pt h >>= fun _ => score >>= fun a => pure (out a) else score >>= fun a => pure (out a)

/-- The first half of a trip: start, wait, patch, score. -/
def headProg {A B : Type} (c3 : Prop) [Decidable c3] (sk sv : c3 → Prog (TpuEff nD τ sig (Elt F) Λ₀ .tc) Unit)
    (wk wv : Prog (TpuEff nD τ sig (Elt F) Λ₀ .tc) Unit) (c4 : Prop) [Decidable c4]
    (pt : c4 → Prog (TpuEff nD τ sig (Elt F) Λ₀ .tc) Unit) (score : Prog (TpuEff nD τ sig (Elt F) Λ₀ .tc) A) (out : A → B) :
    Prog (TpuEff nD τ sig (Elt F) Λ₀ .tc) B :=
  if h : c3 then sk h >>= fun _ => sv h >>= fun _ => headRest wk wv c4 pt score out ⟨⟩ else headRest wk wv c4 pt score out ⟨⟩

theorem start_wp (Ex : sProp 𝕄) {α : Type} {Q : α → sProp 𝕄} (n b : ℕ) (c3 : Prop) [Decidable c3] (h3 : c3 ↔ b < n)
    (sk sv : c3 → Prog (TpuEff nD τ sig (Elt F) Λ₀ .tc) Unit) (k : Unit → Prog (TpuEff nD τ sig (Elt F) Λ₀ .tc) α)
    (hsk : ∀ h, iprop(Table c tab T q ∗ Slot bufK poolK semK c plK pgs (sl b) none)
      ⊢ wp frame (wpE defs 𝒱 (c : Thread nD τ) bd) Set.univ (sk h) fun _ => iprop(Table c tab T q ∗ Slot bufK poolK semK c plK pgs (sl b) (some b)))
    (hsv : ∀ h, iprop(Table c tab T q ∗ Slot bufV poolV semV c plV pgs (sl b) none)
      ⊢ wp frame (wpE defs 𝒱 (c : Thread nD τ) bd) Set.univ (sv h) fun _ => iprop(Table c tab T q ∗ Slot bufV poolV semV c plV pgs (sl b) (some b)))
    (a : Fin 6 → Option ℕ) (ha : a (sl b) = none) :
    iprop(Main c bufK bufV poolK poolV semK semV t plK plV pgs tab T q Ex a
        ∗ (Main c bufK bufV poolK poolV semK semV t plK plV pgs tab T q Ex (Function.update a (sl b) (if b < n then some b else none))
          -∗ wp frame (wpE defs 𝒱 (c : Thread nD τ) bd) Set.univ (k ⟨⟩) Q))
      ⊢ wp frame (wpE defs 𝒱 (c : Thread nD τ) bd) Set.univ
        (if h : c3 then sk h >>= fun _ => sv h >>= fun _ => k ⟨⟩ else k ⟨⟩) Q := by
  by_cases hc : c3
  · rw [dif_pos hc, if_pos (h3.mp hc)]
    unfold Main
    iintro ⟨⟨HK, HV, HT, HO, HY, HE⟩, Hk⟩
    rw [wp_bind]
    ihave HK' := (Entails.of_eq (Ring.AtW_focus (fun s => Slot bufK poolK semK c plK pgs s) a (sl b))) $$ HK
    icases HK' with ⟨HK, HKr⟩
    ihave HV' := (Entails.of_eq (Ring.AtW_focus (fun s => Slot bufV poolV semV c plV pgs s) a (sl b))) $$ HV
    icases HV' with ⟨HV, HVr⟩
    rw [ha]
    iapply (wp_wand _ _ _) $$ [HT HK]
    · iapply (hsk hc)
      isplitl [HT] <;> iassumption
    iintro %x ⟨HT, HK⟩
    rw [wp_bind]
    iapply (wp_wand _ _ _) $$ [HT HV]
    · iapply (hsv hc)
      isplitl [HT] <;> iassumption
    iintro %x ⟨HT, HV⟩
    iapply Hk
    isplitl [HK HKr]
    · iapply (Ring.AtW_update (fun s => Slot bufK poolK semK c plK pgs s) a (sl b) (some b))
      isplitl [HK] <;> iassumption
    isplitl [HV HVr]
    · iapply (Ring.AtW_update (fun s => Slot bufV poolV semV c plV pgs s) a (sl b) (some b))
      isplitl [HV] <;> iassumption
    isplitl [HT]; · iexact HT
    isplitl [HO]; · iexact HO
    isplitl [HY]; · iexact HY
    iexact HE
  · rw [dif_neg hc, if_neg (fun h => hc (h3.mpr h))]
    have hu : Function.update a (sl b) none = a := by rw [← ha]; exact Function.update_eq_self _ _
    rw [hu]
    iintro ⟨HM, Hk⟩
    iapply Hk; iexact HM

theorem patch_wp {α : Type} {Q : α → sProp 𝕄} (i : ℕ) (c4 : Prop) [Decidable c4]
    (pt : c4 → Prog (TpuEff nD τ sig (Elt F) Λ₀ .tc) Unit) (k : Unit → Prog (TpuEff nD τ sig (Elt F) Λ₀ .tc) α)
    (gk : Buf (Elt F) (bufK.view.loc (c : Thread nD τ))) (gv : Buf (Elt F) (bufV.view.loc (c : Thread nD τ)))
    (fk : Buf (Elt F) (bufK.view.loc (c : Thread nD τ))) (fv : Buf (Elt F) (bufV.view.loc (c : Thread nD τ)))
    (hpt : ∀ h : c4, iprop(slotPt c bufK (sl i) gk ∗ slotPt c bufV (sl i) gv)
      ⊢ wp frame (wpE defs 𝒱 (c : Thread nD τ) bd) Set.univ (pt h) fun _ => iprop(slotPt c bufK (sl i) fk ∗ slotPt c bufV (sl i) fv))
    (hnp : ¬ c4 → fk = gk ∧ fv = gv) :
    iprop((slotPt c bufK (sl i) gk ∗ slotPt c bufV (sl i) gv)
        ∗ (iprop(slotPt c bufK (sl i) fk ∗ slotPt c bufV (sl i) fv) -∗ wp frame (wpE defs 𝒱 (c : Thread nD τ) bd) Set.univ (k ⟨⟩) Q))
      ⊢ wp frame (wpE defs 𝒱 (c : Thread nD τ) bd) Set.univ (if h : c4 then pt h >>= k else k ⟨⟩) Q := by
  by_cases hc : c4
  · rw [dif_pos hc, wp_bind]
    iintro ⟨H, Hk⟩
    iapply (wp_wand _ _ _) $$ [H]
    · iapply (hpt hc) $$ H
    iintro %x H
    iapply Hk; iexact H
  · rw [dif_neg hc, (hnp hc).1, (hnp hc).2]
    iintro ⟨H, Hk⟩
    iapply Hk; iexact H

theorem head_wp (Ex : sProp 𝕄) {A B : Type} (n i : ℕ) (hi : i < n) (c3 : Prop) [Decidable c3] (h3 : c3 ↔ i + 5 < n)
    (sk sv : c3 → Prog (TpuEff nD τ sig (Elt F) Λ₀ .tc) Unit)
    (wk wv : Prog (TpuEff nD τ sig (Elt F) Λ₀ .tc) Unit) (c4 : Prop) [Decidable c4]
    (pt : c4 → Prog (TpuEff nD τ sig (Elt F) Λ₀ .tc) Unit) (score : Prog (TpuEff nD τ sig (Elt F) Λ₀ .tc) A) (out : A → B)
    (fk : Buf (Elt F) (bufK.view.loc (c : Thread nD τ))) (fv : Buf (Elt F) (bufV.view.loc (c : Thread nD τ)))
    (P : Fin 16 → Vec F S32x256 .f32) (a₀ : A)
    (hsk : ∀ h, iprop(Table c tab T q ∗ Slot bufK poolK semK c plK pgs (sl (i + 5)) none)
      ⊢ wp frame (wpE defs 𝒱 (c : Thread nD τ) bd) Set.univ (sk h) fun _ => iprop(Table c tab T q ∗ Slot bufK poolK semK c plK pgs (sl (i + 5)) (some (i + 5))))
    (hsv : ∀ h, iprop(Table c tab T q ∗ Slot bufV poolV semV c plV pgs (sl (i + 5)) none)
      ⊢ wp frame (wpE defs 𝒱 (c : Thread nD τ) bd) Set.univ (sv h) fun _ => iprop(Table c tab T q ∗ Slot bufV poolV semV c plV pgs (sl (i + 5)) (some (i + 5))))
    (hwk : iprop(Table c tab T q ∗ Slot bufK poolK semK c plK pgs (sl i) (some i) ∗ Owes c)
      ⊢ wp frame (wpE defs 𝒱 (c : Thread nD τ) bd) Set.univ wk fun _ =>
        iprop(Table c tab T q ∗ Held bufK poolK semK c plK (sl i) (Fof bufK c (blkC poolK c plK pgs i)) ∗ Owes c))
    (hwv : iprop(Table c tab T q ∗ Slot bufV poolV semV c plV pgs (sl i) (some i) ∗ Owes c)
      ⊢ wp frame (wpE defs 𝒱 (c : Thread nD τ) bd) Set.univ wv fun _ =>
        iprop(Table c tab T q ∗ Held bufV poolV semV c plV (sl i) (Fof bufV c (blkC poolV c plV pgs i)) ∗ Owes c))
    (hpt : ∀ h : c4, iprop(slotPt c bufK (sl i) (Fof bufK c (blkC poolK c plK pgs i)) ∗ slotPt c bufV (sl i) (Fof bufV c (blkC poolV c plV pgs i)))
      ⊢ wp frame (wpE defs 𝒱 (c : Thread nD τ) bd) Set.univ (pt h) fun _ => iprop(slotPt c bufK (sl i) fk ∗ slotPt c bufV (sl i) fv))
    (hnp : ¬ c4 → fk = Fof bufK c (blkC poolK c plK pgs i) ∧ fv = Fof bufV c (blkC poolV c plV pgs i))
    (hsc : iprop((∃ Y : Buf (Elt F) (t.view.loc (c : Thread nD τ)), tPt c t Y) ∗ slotPt c bufK (sl i) fk ∗ Ex)
      ⊢ wp frame (wpE defs 𝒱 (c : Thread nD τ) bd) Set.univ score fun a => iprop(⌜a = a₀⌝ ∗ (∃ Y : Buf (Elt F) (t.view.loc (c : Thread nD τ)), ⌜TileOK c t 16 P Y⌝ ∗ tPt c t Y)
        ∗ slotPt c bufK (sl i) fk ∗ Ex)) :
    Main c bufK bufV poolK poolV semK semV t plK plV pgs tab T q Ex (st n i)
      ⊢ wp frame (wpE defs 𝒱 (c : Thread nD τ) bd) Set.univ (headProg c3 sk sv wk wv c4 pt score out)
        fun r => iprop(⌜r = out a₀⌝ ∗ Mid c bufK bufV poolK poolV semK semV t plK plV pgs tab T q Ex n i fk fv P) := by
  iintro HM
  unfold headProg
  iapply (start_wp c defs 𝒱 bd bufK bufV poolK poolV semK semV t plK plV pgs tab T q Ex n (i + 5) c3 h3 sk sv (headRest wk wv c4 pt score out) hsk hsv _ (st_free n i))
  isplitl [HM]; · iexact HM
  rw [st_start]
  unfold Main headRest
  iintro ⟨HK, HV, HT, HO, HY, HE⟩
  ihave HK' := (Entails.of_eq (Ring.AtW_focus (fun s => Slot bufK poolK semK c plK pgs s) (stp n i) (sl i))) $$ HK
  icases HK' with ⟨HK, HKr⟩
  ihave HV' := (Entails.of_eq (Ring.AtW_focus (fun s => Slot bufV poolV semV c plV pgs s) (stp n i) (sl i))) $$ HV
  icases HV' with ⟨HV, HVr⟩
  rw [stp_here n i hi]
  rw [wp_bind]
  iapply (wp_wand _ _ _) $$ [HT HK HO]
  · iapply hwk
    isplitl [HT]; · iexact HT
    isplitl [HK] <;> iassumption
  iintro %x ⟨HT, HK, HO⟩
  rw [wp_bind]
  iapply (wp_wand _ _ _) $$ [HT HV HO]
  · iapply hwv
    isplitl [HT]; · iexact HT
    isplitl [HV] <;> iassumption
  iintro %x ⟨HT, HV, HO⟩
  unfold Held
  icases HK with ⟨HKc, HKf, HKt⟩
  icases HV with ⟨HVc, HVf, HVt⟩
  iapply (patch_wp c defs 𝒱 bd bufK bufV i c4 pt (fun _ => score >>= fun a => pure (out a)) _ _ fk fv hpt hnp)
  isplitl [HKf HVf]
  · isplitl [HKf] <;> iassumption
  iintro ⟨HKf, HVf⟩
  rw [wp_bind]
  iapply (wp_wand _ _ _) $$ [HY HKf HE]
  · iapply hsc
    isplitl [HY]; · iexact HY
    isplitl [HKf] <;> iassumption
  iintro %r ⟨%hr, HY, HKf, HE⟩
  iapply (ret_wp c defs 𝒱 bd)
  isplitr
  · ipureintro; rw [hr]
  unfold Mid Held
  isplitl [HKc HKf HKt HKr]
  · isplitr [HKr]
    · isplitl [HKc]; · iexact HKc
      isplitl [HKf] <;> iassumption
    · iexact HKr
  isplitl [HVc HVf HVt HVr]
  · isplitr [HVr]
    · isplitl [HVc]; · iexact HVc
      isplitl [HVf] <;> iassumption
    · iexact HVr
  isplitl [HT]; · iexact HT
  isplitl [HO]; · iexact HO
  isplitl [HY]; · iexact HY
  iexact HE

/-- The second half: the fold, and the slot free again. -/
theorem tail_wp (Ex : sProp 𝕄) {X S : Type} (n i : ℕ) (fold : Prog (TpuEff nD τ sig (Elt F) Λ₀ .tc) X) (out : X → S)
    (fk : Buf (Elt F) (bufK.view.loc (c : Thread nD τ))) (fv : Buf (Elt F) (bufV.view.loc (c : Thread nD τ)))
    (P : Fin 16 → Vec F S32x256 .f32) (x₀ : X)
    (hf : ∀ Y, TileOK c t 16 P Y → iprop(tPt c t Y ∗ slotPt c bufV (sl i) fv ∗ Ex)
      ⊢ wp frame (wpE defs 𝒱 (c : Thread nD τ) bd) Set.univ fold fun x => iprop(⌜x = x₀⌝ ∗ tPt c t Y ∗ slotPt c bufV (sl i) fv ∗ Ex)) :
    Mid c bufK bufV poolK poolV semK semV t plK plV pgs tab T q Ex n i fk fv P
      ⊢ wp frame (wpE defs 𝒱 (c : Thread nD τ) bd) Set.univ (fold >>= fun x => pure (out x))
        fun r => iprop(⌜r = out x₀⌝ ∗ Main c bufK bufV poolK poolV semK semV t plK plV pgs tab T q Ex (st n (i + 1))) := by
  unfold Mid Main Held
  iintro ⟨⟨⟨HKc, HKf, HKt⟩, HKr⟩, ⟨⟨HVc, HVf, HVt⟩, HVr⟩, HT, HO, ⟨%Y, %hY, HY⟩, HE⟩
  rw [wp_bind]
  iapply (wp_wand _ _ _) $$ [HY HVf HE]
  · iapply (hf Y hY)
    isplitl [HY]; · iexact HY
    isplitl [HVf] <;> iassumption
  iintro %r ⟨%hr, HY, HVf, HE⟩
  iapply (ret_wp c defs 𝒱 bd)
  isplitr
  · ipureintro; rw [hr]
  rw [← st_next n i]
  isplitl [HKc HKf HKt HKr]
  · iapply (Ring.AtW_update (fun s => Slot bufK poolK semK c plK pgs s) (stp n i) (sl i) none)
    isplitr [HKr]
    · unfold Slot Held
      iexists fk
      isplitl [HKc]; · iexact HKc
      isplitl [HKf] <;> iassumption
    · iexact HKr
  isplitl [HVc HVf HVt HVr]
  · iapply (Ring.AtW_update (fun s => Slot bufV poolV semV c plV pgs s) (stp n i) (sl i) none)
    isplitr [HVr]
    · unfold Slot Held
      iexists fv
      isplitl [HVc]; · iexact HVc
      isplitl [HVf] <;> iassumption
    · iexact HVr
  isplitl [HT]; · iexact HT
  isplitl [HO]; · iexact HO
  isplitl [HY]; · iexists Y; iexact HY
  iexact HE

end Trip

end Cert.KernelIdeal.Hand
-- ==== Proof.Exact.lean ====
/-
  The parts of a trip where the scales are powers of two: the printed loops as the ring's lemmas read them, and the
  values the trip computes.
-/
module

public import proofs.«01_k».proof.Proof.Walk

@[expose] public section

set_option synthInstance.maxSize 4096

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)
  (T : Buf (Elt F) (arg1.view.loc (c : Thread nD τ))) (q : PosShare TreeShare)
variable (htw : ∀ i < 1024, (tw (F := F) arg1 T i).toNat = (pgs i).val)
variable (p : ℕ) (hp : p < 131072) (v1 : Elt F .i32) (k0_hw3 : k0_chk3 (BitVec.ofNat 32 p) v1)

theorem ret_bind_wp {α β : Type} {Q : β → sProp 𝕄} (x : α) (k : α → Prog (TpuEff nD τ sig (Elt F) Λ₀ .tc) β) :
    wp frame (wpE defs 𝒱 (c : Thread nD τ) bd) Set.univ (k x) Q
      ⊢ wp frame (wpE defs 𝒱 (c : Thread nD τ) bd) Set.univ (Prog.ret x >>= k) Q := .rfl

theorem bind_wp {α β : Type} {Q : β → sProp 𝕄} (p : Prog (TpuEff nD τ sig (Elt F) Λ₀ .tc) α) (k : α → Prog (TpuEff nD τ sig (Elt F) Λ₀ .tc) β) :
    wp frame (wpE defs 𝒱 (c : Thread nD τ) bd) Set.univ p (fun x => wp frame (wpE defs 𝒱 (c : Thread nD τ) bd) Set.univ (k x) Q)
      ⊢ wp frame (wpE defs 𝒱 (c : Thread nD τ) bd) Set.univ (p >>= k) Q := by
  rw [wp_bind]

theorem load_any {s : Shape} {e : EltTy} (m : Memref sig .tc .vmem s e) (r : Rect s) (qq : PosShare TreeShare) (X : Buf (Elt F) (m.view.loc (c : Thread nD τ)))
    {α : Type} {Q : α → sProp 𝕄} {hl} {k : Vec F r.shape e → Prog (TpuEff nD τ sig (Elt F) Λ₀ .tc) α} :
    (m.view.loc (c : Thread nD τ) ↦[Finset.univ]{qq} X)
      ⊢ iprop(((m.view.loc (c : Thread nD τ) ↦[Finset.univ]{qq} X)
          -∗ wp frame (wpE defs 𝒱 (c : Thread nD τ) bd) Set.univ (k ((m.access r).read (Elt F) X)) Q)
        -∗ wp frame (wpE defs 𝒱 (c : Thread nD τ) bd) Set.univ (.op (.load m r.toLoadRect hl) k) Q) :=
  wp_load_rect 𝒱 (c : Thread nD τ) bd Set.univ (m := m) (r := r) (S := Finset.univ) (q := qq) (f := X) (Finset.subset_univ _)

section Blocks4

variable (v19 : BitVec 32) (v30 : FVec F S8x128 .fp8e4m3) (v41 : FVec F S8x128 .fp8e4m3) (k0_h1 : k0_cond1 v1 = 1#1) (v68 : IVec S16x256 1) (v70 : IVec S16x256 1) (v72 : IVec S16x256 1) (v117 : IVec S32x256 32) (v121 : FVec F S32x256 .f32) (v123 : FVec F S128x256 .bf16) (k : Fin (k0_t4_loop (BitVec.ofNat 32 p)).trips) (arg22 : FVec F S32x128 .f32)
include htw hp

theorem t5_wp (h : k0_cond3 (BitVec.ofNat 32 p) k = 1#1) :
    iprop(Table c arg1 T q ∗ Slot arg16 arg11 arg19 c plK pgs (sl (k.val + 5)) none)
      ⊢ wp frame (wpE defs 𝒱 (c : Thread nD τ) bd) Set.univ
        (Scf.Loop.for k0_t5_loop k0_t5_ok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg16 arg11 arg19 c plK pgs (sl (k.val + 5)) (some (k.val + 5))) :=
  start_block c defs 𝒱 bd arg16 arg11 arg19 plK pgs arg1 T q htw harg16 harg11 k0_t5_loop k0_t5_ok rfl _
    (fun g => k0_off9 (BitVec.ofNat 32 p) k g) (fun g => k0_off9_inb (BitVec.ofNat 32 p) v1 k0_hw3 k g k0_h1 h)
    (k0_off10 (BitVec.ofNat 32 p) k) (k0_off10_inb (BitVec.ofNat 32 p) v1 k0_hw3 k k0_h1 h)
    (fun g => k0_off11 (BitVec.ofNat 32 p) k g) (fun g => k0_off11_inb (BitVec.ofNat 32 p) v1 k0_hw3 k g k0_h1 h)
    (fun g => k0_off11_wordsfp8e4m3 (BitVec.ofNat 32 p) v1 k0_hw3 k g k0_h1 h)
    (k0_chk4 (BitVec.ofNat 32 p) v1 k) (k0_chk4.dec (BitVec.ofNat 32 p) v1 k)
    (fun w hw => k0_off12_inb (BitVec.ofNat 32 p) v1 k w hw k0_h1 h) (fun w hw => k0_off12_wordsfp8e4m3 (BitVec.ofNat 32 p) v1 k w hw k0_h1 h)
    (fun w hw => chk4 _ _ w hw k) (sl (k.val + 5)) (k.val + 5)
    (by have := (cond3_iff p hp k).mp h; have := nb_lt hp; omega)
    (fun g => off9_eq p hp k g) (off10_eq p hp k) (fun g => off11_eq p hp k g) (fun _ => rfl)

theorem t6_wp (h : k0_cond3 (BitVec.ofNat 32 p) k = 1#1) :
    iprop(Table c arg1 T q ∗ Slot arg17 arg12 arg20 c plV pgs (sl (k.val + 5)) none)
      ⊢ wp frame (wpE defs 𝒱 (c : Thread nD τ) bd) Set.univ
        (Scf.Loop.for k0_t6_loop k0_t6_ok ⟨⟩ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg17 arg12 arg20 c plV pgs (sl (k.val + 5)) (some (k.val + 5))) :=
  start_block c defs 𝒱 bd arg17 arg12 arg20 plV pgs arg1 T q htw harg17 harg12 k0_t6_loop k0_t6_ok rfl _
    (fun g => k0_off13 (BitVec.ofNat 32 p) k g) (fun g => k0_off13_inb (BitVec.ofNat 32 p) v1 k0_hw3 k g k0_h1 h)
    (k0_off14 (BitVec.ofNat 32 p) k) (k0_off14_inb (BitVec.ofNat 32 p) v1 k0_hw3 k k0_h1 h)
    (fun g => k0_off15 (BitVec.ofNat 32 p) k g) (fun g => k0_off15_inb (BitVec.ofNat 32 p) v1 k0_hw3 k g k0_h1 h)
    (fun g => k0_off15_wordsfp8e4m3 (BitVec.ofNat 32 p) v1 k0_hw3 k g k0_h1 h)
    (k0_chk5 (BitVec.ofNat 32 p) v1 k) (k0_chk5.dec (BitVec.ofNat 32 p) v1 k)
    (fun w hw => k0_off16_inb (BitVec.ofNat 32 p) v1 k w hw k0_h1 h) (fun w hw => k0_off16_wordsfp8e4m3 (BitVec.ofNat 32 p) v1 k w hw k0_h1 h)
    (fun w hw => chk5 _ _ w hw k) (sl (k.val + 5)) (k.val + 5)
    (by have := (cond3_iff p hp k).mp h; have := nb_lt hp; omega)
    (fun g => off9_eq p hp k g) (off10_eq p hp k) (fun g => off11_eq p hp k g) (fun _ => rfl)

theorem t7_wp :
    iprop(Table c arg1 T q ∗ Slot arg16 arg11 arg19 c plK pgs (sl k.val) (some k.val) ∗ Owes c)
      ⊢ wp frame (wpE defs 𝒱 (c : Thread nD τ) bd) Set.univ
        (Scf.Loop.for k0_t7_loop k0_t7_ok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg16 arg11 arg19 c plK (sl k.val) (Fof arg16 c (blkC arg11 c plK pgs k.val)) ∗ Owes c) :=
  wait_block c defs 𝒱 bd arg16 arg11 arg19 plK pgs arg1 T q htw harg16 harg11 k0_t7_loop k0_t7_ok rfl _
    (fun g => k0_off17 (BitVec.ofNat 32 p) k g) (fun g => k0_off17_inb (BitVec.ofNat 32 p) v1 k0_hw3 k g k0_h1)
    (k0_off18 (BitVec.ofNat 32 p) k) (k0_off18_inb (BitVec.ofNat 32 p) v1 k0_hw3 k k0_h1)
    (fun g => k0_off19 (BitVec.ofNat 32 p) k g) (fun g => k0_off19_inb (BitVec.ofNat 32 p) v1 k0_hw3 k g k0_h1)
    (fun g => k0_off19_wordsfp8e4m3 (BitVec.ofNat 32 p) v1 k0_hw3 k g k0_h1)
    (k0_chk6 v1) (k0_chk6.dec v1)
    (fun w hw => k0_off20_inb v1 w hw k0_h1) (fun w hw => k0_off20_wordsfp8e4m3 v1 w hw k0_h1)
    (fun w hw => chk6 _ w hw) (sl k.val) k.val
    (by have := lt_of_lt_of_eq k.isLt (t4_trips p hp); have := nb_lt hp; omega)
    (fun g => off17_eq p hp k g) (off18_eq p hp k) (fun g => off19_eq p hp k g) (fun _ => rfl)

theorem t8_wp :
    iprop(Table c arg1 T q ∗ Slot arg17 arg12 arg20 c plV pgs (sl k.val) (some k.val) ∗ Owes c)
      ⊢ wp frame (wpE defs 𝒱 (c : Thread nD τ) bd) Set.univ
        (Scf.Loop.for k0_t8_loop k0_t8_ok ⟨⟩ (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg17 arg12 arg20 c plV (sl k.val) (Fof arg17 c (blkC arg12 c plV pgs k.val)) ∗ Owes c) :=
  wait_block c defs 𝒱 bd arg17 arg12 arg20 plV pgs arg1 T q htw harg17 harg12 k0_t8_loop k0_t8_ok rfl _
    (fun g => k0_off21 (BitVec.ofNat 32 p) k g) (fun g => k0_off21_inb (BitVec.ofNat 32 p) v1 k0_hw3 k g k0_h1)
    (k0_off22 (BitVec.ofNat 32 p) k) (k0_off22_inb (BitVec.ofNat 32 p) v1 k0_hw3 k k0_h1)
    (fun g => k0_off23 (BitVec.ofNat 32 p) k g) (fun g => k0_off23_inb (BitVec.ofNat 32 p) v1 k0_hw3 k g k0_h1)
    (fun g => k0_off23_wordsfp8e4m3 (BitVec.ofNat 32 p) v1 k0_hw3 k g k0_h1)
    (k0_chk7 v1) (k0_chk7.dec v1)
    (fun w hw => k0_off24_inb v1 w hw k0_h1) (fun w hw => k0_off24_wordsfp8e4m3 v1 w hw k0_h1)
    (fun w hw => chk7 _ w hw) (sl k.val) k.val
    (by have := lt_of_lt_of_eq k.isLt (t4_trips p hp); have := nb_lt hp; omega)
    (fun g => off17_eq p hp k g) (off18_eq p hp k) (fun g => off19_eq p hp k g) (fun _ => rfl)

end Blocks4

/-! ## The new token, the scores, the fold -/

/-- The place of the token among the page's rows, as the kernel computes it. -/
abbrev tokW (v0 : BitVec 32) : BitVec 32 := fmod (fmod v0 1024#32) 128#32
/-- The page of the block the token lies in. -/
def gOf : Fin 8 := ⟨p % 1024 / 128, by omega⟩
/-- The group of four rows the token lies in. -/
def rOf : Fin 32 := ⟨p % 128 / 4, by omega⟩

/-- What the store of the new key writes over the four rows `x`. -/
abbrev newK (v0 : BitVec 32) (v30 : FVec F S8x128 .fp8e4m3) (x : Vec F S1x1x32x128 .fp8e4m3) : FVec F S1x1x32x128 .fp8e4m3 :=
  k0_pay25 (tokW v0) (k0_pay20 x) (k0_pay21 v30) k0_pay22 k0_pay23 k0_pay24
abbrev newV (v0 : BitVec 32) (v41 : FVec F S8x128 .fp8e4m3) (x : Vec F S1x1x32x128 .fp8e4m3) : FVec F S1x1x32x128 .fp8e4m3 :=
  k0_pay38 (k0_pay28 (tokW v0) (k0_pay26 x) (k0_pay27 v41) (iota .tc S32x128 32 [0] iota_S32x128_d0_w32))

/-- Slot contents a trip scores: the block's pages, with the new token over its place in the last block. -/
def slotVal (buf : Memref sig .tc .vmem S6x8x1024x128 .fp8e4m3) (i : ℕ) (f : Buf (Elt F) (buf.view.loc (c : Thread nD τ)))
    (new : Vec F S1x1x32x128 .fp8e4m3 → FVec F S1x1x32x128 .fp8e4m3) : Buf (Elt F) (buf.view.loc (c : Thread nD τ)) :=
  if i + 1 = nb p then putQuad c buf (sl i) (gOf p) (rOf p) f (new (quad c buf (sl i) (gOf p) (rOf p) f)) else f

section Patch

variable {v19 : BitVec 32} {v30 : FVec F S8x128 .fp8e4m3} {v41 : FVec F S8x128 .fp8e4m3} {k0_h1 : k0_cond1 v1 = 1#1} {v68 : IVec S16x256 1} {v70 : IVec S16x256 1} {v72 : IVec S16x256 1} {v117 : IVec S32x256 32} {v121 : FVec F S32x256 .f32} {v123 : FVec F S128x256 .bf16} {k : Fin (k0_t4_loop (BitVec.ofNat 32 p)).trips} {arg22 : FVec F S32x128 .f32}

/-- The patch, as one chain of loads and stores. -/
def patchProg (h4 : k0_cond4 (BitVec.ofNat 32 p) k = 1#1) : Prog (TpuEff nD τ sig (Elt F) Λ₀ .tc) Unit := do
  let x ← Prog.lift (.load arg16 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  let _ ← Prog.lift (.load arg16 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  Prog.lift (.store arg16 (Rect.unit (s := S6x8x1024x128) (k0_off25 (BitVec.ofNat 32 p) k) S1x1x32x128.size (k0_off25_inb (BitVec.ofNat 32 p) v1 k0_hw3 k k0_h1 h4)) (newK (BitVec.ofNat 32 p) v30 x) Finset.univ (View.stores_vmem h_S1x1x32x128 (harg16.storeExact_slice rfl _ (k0_off25_packedfp8e4m3 (BitVec.ofNat 32 p) v1 k0_hw3 k k0_h1 h4)) (fun _ => rfl)) (.inl rfl))
  let y ← Prog.lift (.load arg17 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  let _ ← Prog.lift (.load arg17 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  Prog.lift (.store arg17 (Rect.unit (s := S6x8x1024x128) (k0_off25 (BitVec.ofNat 32 p) k) S1x1x32x128.size (k0_off25_inb (BitVec.ofNat 32 p) v1 k0_hw3 k k0_h1 h4)) (newV (BitVec.ofNat 32 p) v41 y) Finset.univ (View.stores_vmem h_S1x1x32x128 (harg17.storeExact_slice rfl _ (k0_off25_packedfp8e4m3 (BitVec.ofNat 32 p) v1 k0_hw3 k k0_h1 h4)) (fun _ => rfl)) (.inl rfl))
  pure ⟨⟩

include hp

theorem patchProg_wp (h4 : k0_cond4 (BitVec.ofNat 32 p) k = 1#1)
    (gk : Buf (Elt F) (arg16.view.loc (c : Thread nD τ))) (gv : Buf (Elt F) (arg17.view.loc (c : Thread nD τ))) :
    iprop(slotPt c arg16 (sl k.val) gk ∗ slotPt c arg17 (sl k.val) gv)
      ⊢ wp frame (wpE defs 𝒱 (c : Thread nD τ) bd) Set.univ (patchProg arg16 harg16 arg17 harg17 p v1 k0_hw3 (v30 := v30) (v41 := v41) (k0_h1 := k0_h1) (k := k) h4)
        fun _ => iprop(slotPt c arg16 (sl k.val) (slotVal c p arg16 k.val gk (newK (BitVec.ofNat 32 p) v30)) ∗ slotPt c arg17 (sl k.val) (slotVal c p arg17 k.val gv (newV (BitVec.ofNat 32 p) v41))) := by
  have e : k0_off25 (BitVec.ofNat 32 p) k = ![(sl k.val).val, (gOf p).val, (rOf p).val * 32, 0] := off25_eq p hp k
  unfold patchProg slotVal
  rw [if_pos ((cond4_iff p hp k).mp h4), if_pos ((cond4_iff p hp k).mp h4)]
  iintro ⟨HK, HV⟩
  iapply (load_quad c defs 𝒱 bd arg16 (sl k.val) (gOf p) (rOf p) e gk) $$ HK
  iintro HK
  iapply (load_quad c defs 𝒱 bd arg16 (sl k.val) (gOf p) (rOf p) e gk) $$ HK
  iintro HK
  iapply (store_quad c defs 𝒱 bd arg16 (sl k.val) (gOf p) (rOf p) e gk) $$ HK
  iintro HK
  iapply (load_quad c defs 𝒱 bd arg17 (sl k.val) (gOf p) (rOf p) e gv) $$ HV
  iintro HV
  iapply (load_quad c defs 𝒱 bd arg17 (sl k.val) (gOf p) (rOf p) e gv) $$ HV
  iintro HV
  iapply (store_quad c defs 𝒱 bd arg17 (sl k.val) (gOf p) (rOf p) e gv) $$ HV
  iintro HV
  iapply (ret_wp c defs 𝒱 bd)
  isplitl [HK] <;> iassumption

/-- The scores of half page `j` of the block in `f`. -/
def scE (v68 v70 v72 : IVec S16x256 1) (v117 : IVec S32x256 32) (v121 : FVec F S32x256 .f32) (v123 : FVec F S128x256 .bf16) (k : Fin (k0_t4_loop (BitVec.ofNat 32 p)).trips)
    (f : Buf (Elt F) (arg16.view.loc (c : Thread nD τ))) (j : Fin 16) : FVec F S32x256 .f32 :=
  k0_pay41 (BitVec.ofNat 32 p) v117 v121 0#32 1#32 k (Scf.iv 0#32 1#32 j.val) (k0_pay30 v68 v70 v123 (half c arg16 (sl k.val) j f) (half c arg16 (sl k.val) j f)) (k0_pay31 v72)
    (k0_pay32 v123 (half c arg16 (sl k.val) j f) (half c arg16 (sl k.val) j f))
def mxE (v68 v70 v72 : IVec S16x256 1) (v117 : IVec S32x256 32) (v121 : FVec F S32x256 .f32) (v123 : FVec F S128x256 .bf16) (k : Fin (k0_t4_loop (BitVec.ofNat 32 p)).trips)
    (f : Buf (Elt F) (arg16.view.loc (c : Thread nD τ))) (j : Fin 16) (a : FVec F S32x128 .f32) : FVec F S32x128 .f32 :=
  k0_pay42 (BitVec.ofNat 32 p) v117 v121 0#32 1#32 k a (Scf.iv 0#32 1#32 j.val) (k0_pay30 v68 v70 v123 (half c arg16 (sl k.val) j f) (half c arg16 (sl k.val) j f)) (k0_pay31 v72)
    (k0_pay32 v123 (half c arg16 (sl k.val) j f) (half c arg16 (sl k.val) j f))

theorem t9_wp (Ex : sProp 𝕄) (v169 : BitVec 32) (f : Buf (Elt F) (arg16.view.loc (c : Thread nD τ))) :
    iprop((∃ Y : Buf (Elt F) (arg18.view.loc (c : Thread nD τ)), tPt c arg18 Y) ∗ slotPt c arg16 (sl k.val) f ∗ Ex)
      ⊢ wp frame (wpE defs 𝒱 (c : Thread nD τ) bd) Set.univ (Scf.Loop.for k0_t9_loop k0_t9_ok (k0_pay39 (F := F)) (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 v169))
        fun r => iprop(⌜r = iter (mxE arg16 c p v68 v70 v72 v117 v121 v123 k f) k0_pay39 16⌝
          ∗ (∃ Y : Buf (Elt F) (arg18.view.loc (c : Thread nD τ)), ⌜TileOK c arg18 16 (scE arg16 c p v68 v70 v72 v117 v121 v123 k f) Y⌝ ∗ tPt c arg18 Y) ∗ slotPt c arg16 (sl k.val) f ∗ Ex) := by
  refine score_loop c defs 𝒱 bd arg18 iprop(slotPt c arg16 (sl k.val) f ∗ Ex) k0_t9_loop k0_t9_ok rfl k0_pay39 _ _ _ fun j t ht a Y => ?_
  obtain rfl : t = j := Fin.ext ht
  iintro ⟨HY, HK, HE⟩
  unfold k0_t9_body
  rw [k0_part6_eq_skeleton]
  unfold k0_part6_skel
  iapply (load_half c defs 𝒱 bd arg16 (sl k.val) t (off26_eq p hp k t) f) $$ HK
  iintro HK
  iapply (load_half c defs 𝒱 bd arg16 (sl k.val) t (off26_eq p hp k t) f) $$ HK
  iintro HK
  iapply (load_tile c defs 𝒱 bd arg18 t (off27_eq t) Y) $$ HY
  iintro HY
  iapply (store_tile c defs 𝒱 bd arg18 t (off27_eq t) Y) $$ HY
  iintro HY
  iapply (ret_wp c defs 𝒱 bd)
  isplitr
  · ipureintro; rfl
  isplitl [HY]; · iexact HY
  isplitl [HK] <;> iassumption

/-- One half page folded into the sum and the two halves of the accumulator. -/
def foldE (v77 v82 v87 v92 : FVec F S16x256 .bf16) (v196 : FVec F S32x128 .f32) (s : Fin 6)
    (P : Fin 16 → FVec F S32x256 .f32) (f : Buf (Elt F) (arg17.view.loc (c : Thread nD τ))) (j : Fin 16)
    (a : FVec F S32x128 .f32 × FVec F S64x128 .f32 × FVec F S64x128 .f32) : FVec F S32x128 .f32 × FVec F S64x128 .f32 × FVec F S64x128 .f32 :=
  (k0_pay34 (k0_pay84 v196) a.1 (P j), k0_pay36 v77 v82 v87 v92 (k0_pay84 v196) a.2.1 (P j) (half c arg17 s j f),
    k0_pay88 a.2.2 (k0_pay37 v77 v82 v87 v92 (k0_pay84 v196) (P j)) (half c arg17 s j f))

theorem t10_wp (Ex : sProp 𝕄) (v77 v82 v87 v92 : FVec F S16x256 .bf16) (v93 : IVec S32x256 32) (c4 : BitVec 32) (v95 : IVec S32x256 32) (v169 : BitVec 32) (v196 : FVec F S32x128 .f32)
    (P : Fin 16 → FVec F S32x256 .f32) (f : Buf (Elt F) (arg17.view.loc (c : Thread nD τ)))
    (Y : Buf (Elt F) (arg18.view.loc (c : Thread nD τ))) (hY : TileOK c arg18 16 P Y) :
    iprop(tPt c arg18 Y ∗ slotPt c arg17 (sl k.val) f ∗ Ex)
      ⊢ wp frame (wpE defs 𝒱 (c : Thread nD τ) bd) Set.univ (Scf.Loop.for k0_t10_loop k0_t10_ok (k0_pay85 (F := F), k0_pay86 (F := F), k0_pay87 (F := F))
          (k0_t10_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k v169 v196))
        fun r => iprop(⌜r = iter (foldE arg17 c v77 v82 v87 v92 v196 (sl k.val) P f) (k0_pay85, k0_pay86, k0_pay87) 16⌝
          ∗ tPt c arg18 Y ∗ slotPt c arg17 (sl k.val) f ∗ Ex) := by
  refine carry_loop c defs 𝒱 bd k0_t10_loop k0_t10_ok rfl _ _ _ (fun _ => iprop(tPt c arg18 Y ∗ slotPt c arg17 (sl k.val) f ∗ Ex)) fun j t ht a => ?_
  obtain rfl : t = j := Fin.ext ht
  obtain ⟨a, b, d⟩ := a
  iintro ⟨HY, HV, HE⟩
  unfold k0_t10_body
  rw [k0_part7_eq_skeleton]
  unfold k0_part7_skel
  iapply (load_tile c defs 𝒱 bd arg18 t (off27_eq t) Y) $$ HY
  iintro HY
  iapply (load_half c defs 𝒱 bd arg17 (sl k.val) t (off29_eq p hp k t) f) $$ HV
  iintro HV
  iapply (load_half c defs 𝒱 bd arg17 (sl k.val) t (off29_eq p hp k t) f) $$ HV
  iintro HV
  iapply (ret_wp c defs 𝒱 bd)
  isplitr
  · ipureintro
    rw [hY t t.isLt]
    rfl
  isplitl [HY]; · iexact HY
  isplitl [HV] <;> iassumption

end Patch

/-! ## A trip, the first transfers, the loop -/

section Loop4

/-- A trip's values: the new maximum, the new sum, the new accumulator. -/
def tripE (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) (k : Fin (k0_t4_loop (BitVec.ofNat 32 p)).trips) (a : FVec F S32x128 .f32 × FVec F S32x128 .f32 × FVec F S128x128 .f32) :
    FVec F S32x128 .f32 × FVec F S32x128 .f32 × FVec F S128x128 .f32 :=
  let m := k0_pay43 a.1 (iter (mxE arg16 c p v68 v70 v72 v117 v121 v123 k (slotVal c p arg16 k.val (Fof arg16 c (blkC arg11 c plK pgs k.val)) (newK (BitVec.ofNat 32 p) v30))) k0_pay39 16)
  let x := iter (foldE arg17 c v77 v82 v87 v92 m (sl k.val) (scE arg16 c p v68 v70 v72 v117 v121 v123 k (slotVal c p arg16 k.val (Fof arg16 c (blkC arg11 c plK pgs k.val)) (newK (BitVec.ofNat 32 p) v30))) (slotVal c p arg17 k.val (Fof arg17 c (blkC arg12 c plV pgs k.val)) (newV (BitVec.ofNat 32 p) v41))) (k0_pay85, k0_pay86, k0_pay87) 16
  (m, k0_pay89 a.1 a.2.1 m x.1, k0_pay90 a.1 a.2.2 m x.2.1 x.2.2)

/-- The state after `i` trips. -/
def stateE (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) : FVec F S32x128 .f32 × FVec F S32x128 .f32 × FVec F S128x128 .f32 :=
  iter (fun j : Fin (nb p) => tripE arg11 arg12 arg16 arg17 c plK plV pgs p v30 v41 v68 v70 v72 v77 v82 v87 v92 v117 v121 v123 (Fin.cast (t4_trips p hp).symm j))
    (k0_pay80, k0_pay81, k0_pay82) (nb p)

variable {v19 : BitVec 32} {v30 : FVec F S8x128 .fp8e4m3} {v41 : FVec F S8x128 .fp8e4m3} {k0_h1 : k0_cond1 v1 = 1#1} {v68 : IVec S16x256 1} {v70 : IVec S16x256 1} {v72 : IVec S16x256 1} {v77 : FVec F S16x256 .bf16} {v82 : FVec F S16x256 .bf16} {v87 : FVec F S16x256 .bf16} {v92 : FVec F S16x256 .bf16} {v93 : IVec S32x256 32} {c4 : BitVec 32} {v95 : IVec S32x256 32}

theorem part8_eq (v117 : IVec S32x256 32) (v121 : FVec F S32x256 .f32) (v123 : FVec F S128x256 .bf16) (k : Fin (k0_t4_loop (BitVec.ofNat 32 p)).trips) (arg22 : FVec F S32x128 .f32) :
    k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22
      = headProg (k0_cond3 (BitVec.ofNat 32 p) k = 1#1)
          (fun h => Scf.Loop.for k0_t5_loop k0_t5_ok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (fun h => Scf.Loop.for k0_t6_loop k0_t6_ok ⟨⟩ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (Scf.Loop.for k0_t7_loop k0_t7_ok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (Scf.Loop.for k0_t8_loop k0_t8_ok ⟨⟩ (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (k0_cond4 (BitVec.ofNat 32 p) k = 1#1)
          (fun h => patchProg arg16 harg16 arg17 harg17 p v1 k0_hw3 (v30 := v30) (v41 := v41) (k0_h1 := k0_h1) (k := k) h)
          (Scf.Loop.for k0_t9_loop k0_t9_ok (k0_pay39 (F := F)) (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 (Scalar.remsi (Scf.iv 0#32 1#32 k) 6#32)))
          (fun a => (⟨Scalar.remsi (Scf.iv 0#32 1#32 k) 6#32, k0_pay43 arg22 a⟩ : Σ' (v169 : BitVec 32), FVec F S32x128 .f32)) := by
  rw [k0_part8_eq_skeleton]
  rfl

include htw hp in
theorem t4_wp (Ex : sProp 𝕄) (v118 : Vec F S32x256 .f32) (v122 : Vec F S128x256 .bf16) (k : Fin (k0_t4_loop (BitVec.ofNat 32 p)).trips)
    (a : FVec F S32x128 .f32 × FVec F S32x128 .f32 × FVec F S128x128 .f32) :
    Main c arg16 arg17 arg11 arg12 arg19 arg20 arg18 plK plV pgs arg1 T q Ex (st (nb p) k.val)
      ⊢ wp frame (wpE defs 𝒱 (c : Thread nD τ) bd) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 v118 v122 k a)
        fun r => iprop(⌜r = tripE arg11 arg12 arg16 arg17 c plK plV pgs p v30 v41 v68 v70 v72 v77 v82 v87 v92 (k0_pay77 v93 c4 v95) (k0_pay78 v118) (k0_pay79 v122) k a⌝
          ∗ Main c arg16 arg17 arg11 arg12 arg19 arg20 arg18 plK plV pgs arg1 T q Ex (st (nb p) (k.val + 1))) := by
  obtain ⟨m, l, acc⟩ := a
  have hk : k.val < nb p := lt_of_lt_of_eq k.isLt (t4_trips p hp)
  unfold k0_t4_body
  iintro H
  rw [wp_bind, part8_eq]
  iapply (wp_wand _ _ _) $$ [H]
  · iapply (head_wp c defs 𝒱 bd arg16 arg17 arg11 arg12 arg19 arg20 arg18 plK plV pgs arg1 T q Ex (nb p) k.val hk _ (cond3_iff p hp k) _ _ _ _ _ _ _ _
      (slotVal c p arg16 k.val (Fof arg16 c (blkC arg11 c plK pgs k.val)) (newK (BitVec.ofNat 32 p) v30)) (slotVal c p arg17 k.val (Fof arg17 c (blkC arg12 c plV pgs k.val)) (newV (BitVec.ofNat 32 p) v41)) (scE arg16 c p v68 v70 v72 (k0_pay77 v93 c4 v95) (k0_pay78 v118) (k0_pay79 v122) k (slotVal c p arg16 k.val (Fof arg16 c (blkC arg11 c plK pgs k.val)) (newK (BitVec.ofNat 32 p) v30)))
      (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)
      (fun h => t5_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m) h) (fun h => t6_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m) h)
      (t7_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m)) (t8_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m))
      (fun h => patchProg_wp arg16 harg16 arg17 harg17 c defs 𝒱 bd p hp v1 k0_hw3 (v30 := v30) (v41 := v41) (k0_h1 := k0_h1) (k := k) h _ _)
      (fun h => ?_) (t9_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m) Ex _ _)) $$ H
    have h' : ¬ (k.val + 1 = nb p) := fun e => h ((cond4_iff p hp k).mpr e)
    unfold slotVal
    exact ⟨if_neg h', if_neg h'⟩
  iintro %r ⟨%hr, H⟩
  subst hr
  iapply (tail_wp c defs 𝒱 bd arg16 arg17 arg11 arg12 arg19 arg20 arg18 plK plV pgs arg1 T q Ex (nb p) k.val _
    (fun x => ((k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)), k0_pay89 m l (k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)) x.1, k0_pay90 m acc (k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)) x.2.1 x.2.2)) (slotVal c p arg16 k.val (Fof arg16 c (blkC arg11 c plK pgs k.val)) (newK (BitVec.ofNat 32 p) v30)) (slotVal c p arg17 k.val (Fof arg17 c (blkC arg12 c plV pgs k.val)) (newV (BitVec.ofNat 32 p) v41)) _ _
    (fun Y hY => t10_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (k := k) Ex v77 v82 v87 v92 v93 c4 v95 _ (k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)) _ _ Y hY)) $$ H

theorem primeS (k : Fin k0_t1_loop.trips) : k0_off2 k = ![(sl k.val).val] := by
  have hk : k.val < 5 := k.isLt
  have : k0_off2 k = ![k.val] := congrArg (fun x : ℕ => ![x]) (prime_off k.val k.isLt 0 (by decide)).2.1
  rw [this]
  show ![k.val] = ![k.val % 6]
  rw [Nat.mod_eq_of_lt (by omega)]

theorem primeB (k : Fin k0_t1_loop.trips) (g : Fin k0_t2_loop.trips) : k0_off3 k g = ![(sl k.val).val, g.val, 0, 0] := by
  have hk : k.val < 5 := k.isLt
  have h := prime_off k.val k.isLt g.val g.isLt
  show ![(Scf.iv 0#32 1#32 k.val : BitVec 32).toNat, (Scf.iv 0#32 1#32 g.val : BitVec 32).toNat, 0, 0] = ![k.val % 6, g.val, 0, 0]
  rw [h.2.1, h.2.2, Nat.mod_eq_of_lt (by omega)]

include htw

theorem t2_wp (k : Fin k0_t1_loop.trips) (h : k0_cond2 (BitVec.ofNat 32 p) k = 1#1) :
    iprop(Table c arg1 T q ∗ Slot arg16 arg11 arg19 c plK pgs (sl k.val) none)
      ⊢ wp frame (wpE defs 𝒱 (c : Thread nD τ) bd) Set.univ
        (Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg16 arg11 arg19 c plK pgs (sl k.val) (some k.val)) :=
  start_block c defs 𝒱 bd arg16 arg11 arg19 plK pgs arg1 T q htw harg16 harg11 k0_t2_loop k0_t2_ok rfl _
    (fun g => k0_off1 k g) (fun g => k0_off1_inb k g)
    (k0_off2 k) (k0_off2_inb k)
    (fun g => k0_off3 k g) (fun g => k0_off3_inb k g)
    (fun g => k0_off3_wordsfp8e4m3 k g)
    (k0_chk1 (BitVec.ofNat 32 p) v1 k) (k0_chk1.dec (BitVec.ofNat 32 p) v1 k)
    (fun w hw => k0_off4_inb (BitVec.ofNat 32 p) v1 k w hw k0_h1 h) (fun w hw => k0_off4_wordsfp8e4m3 (BitVec.ofNat 32 p) v1 k w hw k0_h1 h)
    (fun w hw => chk1 _ _ w hw k) (sl k.val) k.val
    (by have : k.val < 5 := k.isLt; omega)
    (fun g => congrArg (fun x : ℕ => ![x]) (prime_off k.val k.isLt g.val g.isLt).1) (primeS k) (fun g => primeB k g) (fun _ => rfl)

theorem t3_wp (k : Fin k0_t1_loop.trips) (h : k0_cond2 (BitVec.ofNat 32 p) k = 1#1) :
    iprop(Table c arg1 T q ∗ Slot arg17 arg12 arg20 c plV pgs (sl k.val) none)
      ⊢ wp frame (wpE defs 𝒱 (c : Thread nD τ) bd) Set.univ
        (Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg17 arg12 arg20 c plV pgs (sl k.val) (some k.val)) :=
  start_block c defs 𝒱 bd arg17 arg12 arg20 plV pgs arg1 T q htw harg17 harg12 k0_t3_loop k0_t3_ok rfl _
    (fun g => k0_off5 k g) (fun g => k0_off5_inb k g)
    (k0_off6 k) (k0_off6_inb k)
    (fun g => k0_off7 k g) (fun g => k0_off7_inb k g)
    (fun g => k0_off7_wordsfp8e4m3 k g)
    (k0_chk2 (BitVec.ofNat 32 p) v1 k) (k0_chk2.dec (BitVec.ofNat 32 p) v1 k)
    (fun w hw => k0_off8_inb (BitVec.ofNat 32 p) v1 k w hw k0_h1 h) (fun w hw => k0_off8_wordsfp8e4m3 (BitVec.ofNat 32 p) v1 k w hw k0_h1 h)
    (fun w hw => chk2 _ _ w hw k) (sl k.val) k.val
    (by have : k.val < 5 := k.isLt; omega)
    (fun g => congrArg (fun x : ℕ => ![x]) (prime_off k.val k.isLt g.val g.isLt).1) (primeS k) (fun g => primeB k g) (fun _ => rfl)

include hp in
theorem t1_wp (Ex : sProp 𝕄) :
    Main c arg16 arg17 arg11 arg12 arg19 arg20 arg18 plK plV pgs arg1 T q Ex (fun _ => none)
      ⊢ wp frame (wpE defs 𝒱 (c : Thread nD τ) bd) Set.univ (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95))
        fun _ => Main c arg16 arg17 arg11 arg12 arg19 arg20 arg18 plK plV pgs arg1 T q Ex (st (nb p) 0) := by
  iintro H
  iapply (wp_wand _ _ _) $$ [H]
  · rw [← st0_zero (nb p)]
    iapply (carry_loop c defs 𝒱 bd (n := 5) k0_t1_loop k0_t1_ok rfl () _ (fun (_ : Fin 5) _ => ()) (fun k => Main c arg16 arg17 arg11 arg12 arg19 arg20 arg18 plK plV pgs arg1 T q Ex (st0 (nb p) k)) fun j t ht a => ?_) $$ H
    obtain rfl : t = j := Fin.ext ht
    iintro H
    unfold k0_t1_body
    iapply (start_wp c defs 𝒱 bd arg16 arg17 arg11 arg12 arg19 arg20 arg18 plK plV pgs arg1 T q Ex (nb p) t.val _ (cond2_iff p hp t) _ _ (fun _ => pure ())
      (fun h => t2_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) (fun h => t3_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) _ (st0_free _ _ t.isLt))
    isplitl [H]; · iexact H
    rw [st0_start _ _ t.isLt]
    iintro H
    iapply (ret_wp c defs 𝒱 bd)
    isplitr
    · ipureintro; rfl
    iexact H
  rw [st0_five]
  iintro %r ⟨-, H⟩
  iexact H

/-- The whole of a buffer, as a load reads it. -/
abbrev rd9 (X9 : Buf (Elt F) (arg9.view.loc (c : Thread nD τ))) : Vec F S32x256 .f32 :=
  (arg9.access (Rect.unit (s := S32x256) ![0, 0] S32x256.size inb_S32x256_S32x256_0_0)).read (Elt F) X9
abbrev rd2 (X2 : Buf (Elt F) (arg2.view.loc (c : Thread nD τ))) : Vec F S128x256 .bf16 :=
  (arg2.access (Rect.unit (s := S128x256) ![0, 0] S128x256.size inb_S128x256_S128x256_0_0)).read (Elt F) X2

include hp in
theorem part18_wp (Ex : sProp 𝕄) (q9 q2 : PosShare TreeShare) (X9 : Buf (Elt F) (arg9.view.loc (c : Thread nD τ))) (X2 : Buf (Elt F) (arg2.view.loc (c : Thread nD τ))) :
    iprop((arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q Ex (fun _ => none))
      ⊢ wp frame (wpE defs 𝒱 (c : Thread nD τ) bd) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95)
        fun r => iprop(⌜r = (⟨k0_pay77 v93 c4 v95, k0_pay78 (rd9 arg9 c X9), k0_pay79 (rd2 arg2 c X2), Scalar.addi 0#32 (Scalar.muli (Scalar.divsi (Scalar.subi v19 0#32) 1#32) 1#32),
            (stateE arg11 arg12 arg16 arg17 c plK plV pgs p hp v30 v41 v68 v70 v72 v77 v82 v87 v92 (k0_pay77 v93 c4 v95) (k0_pay78 (rd9 arg9 c X9)) (k0_pay79 (rd2 arg2 c X2))).1, (stateE arg11 arg12 arg16 arg17 c plK plV pgs p hp v30 v41 v68 v70 v72 v77 v82 v87 v92 (k0_pay77 v93 c4 v95) (k0_pay78 (rd9 arg9 c X9)) (k0_pay79 (rd2 arg2 c X2))).2.1, (stateE arg11 arg12 arg16 arg17 c plK plV pgs p hp v30 v41 v68 v70 v72 v77 v82 v87 v92 (k0_pay77 v93 c4 v95) (k0_pay78 (rd9 arg9 c X9)) (k0_pay79 (rd2 arg2 c X2))).2.2⟩ :
            Σ' (v117 : IVec S32x256 32) (v121 : FVec F S32x256 .f32) (v123 : FVec F S128x256 .bf16) (v132 : BitVec 32) (v133_0 : FVec F S32x128 .f32) (v133_1 : FVec F S32x128 .f32), FVec F S128x128 .f32)⌝
          ∗ (arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q Ex (fun _ => none)) := by
  rw [k0_part18_eq_skeleton]
  unfold k0_part18_skel
  iintro ⟨H9, H2, HM⟩
  iapply (load_any c defs 𝒱 bd arg9 _ q9 X9) $$ H9
  iintro H9
  iapply (load_any c defs 𝒱 bd arg2 _ q2 X2) $$ H2
  iintro H2
  iapply (ret_bind_wp c defs 𝒱 bd _ _)
  iapply (bind_wp c defs 𝒱 bd _ _)
  iapply (wp_wand _ _ _) $$ [HM]
  · iapply (t1_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) Ex) $$ HM
  iintro %r HM
  iapply (bind_wp c defs 𝒱 bd _ _)
  iapply (wp_wand _ _ _) $$ [HM]
  · iapply (carry_loop c defs 𝒱 bd (n := nb p) (k0_t4_loop (BitVec.ofNat 32 p)) (k0_t4_ok (BitVec.ofNat 32 p) v1 k0_hw3 k0_h1) (t4_trips p hp) (k0_pay80 (F := F), k0_pay81 (F := F), k0_pay82 (F := F))
      (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 (rd9 arg9 c X9) (rd2 arg2 c X2))
      (fun j : Fin (nb p) => tripE arg11 arg12 arg16 arg17 c plK plV pgs p v30 v41 v68 v70 v72 v77 v82 v87 v92 (k0_pay77 v93 c4 v95) (k0_pay78 (rd9 arg9 c X9)) (k0_pay79 (rd2 arg2 c X2)) (Fin.cast (t4_trips p hp).symm j))
      (fun k => Main c arg16 arg17 arg11 arg12 arg19 arg20 arg18 plK plV pgs arg1 T q Ex (st (nb p) k)) fun j t ht a => ?_) $$ HM
    obtain rfl : t = Fin.cast (t4_trips p hp).symm j := Fin.ext ht
    exact t4_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) Ex (rd9 arg9 c X9) (rd2 arg2 c X2) (Fin.cast (t4_trips p hp).symm j) a
  iintro %r ⟨%hr, HM⟩
  subst hr
  rw [st_end]
  iapply (ret_wp c defs 𝒱 bd)
  isplitr
  · ipureintro; rfl
  isplitl [H9]; · iexact H9
  isplitl [H2]; · iexact H2
  iexact HM

end Loop4

end Cert.KernelIdeal.Hand
-- ==== Proof.Widen.lean ====
/-
  The parts of a trip where the scales are not powers of two: the printed loops as the ring's lemmas read them, and the
  values the trip computes.
-/
module

public import proofs.«01_k».proof.Proof.Exact

@[expose] public section

set_option synthInstance.maxSize 4096

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)
  (T : Buf (Elt F) (arg1.view.loc (c : Thread nD τ))) (q : PosShare TreeShare)
variable (htw : ∀ i < 1024, (tw (F := F) arg1 T i).toNat = (pgs i).val)
variable (p : ℕ) (hp : p < 131072) (v1 : Elt F .i32) (k0_hw3 : k0_chk3 (BitVec.ofNat 32 p) v1)

section Blocks4

variable (v19 : BitVec 32) (v30 : FVec F S8x128 .fp8e4m3) (v41 : FVec F S8x128 .fp8e4m3) (k0_h1 : k0_cond7 v1 = 1#1) (v68 : IVec S16x256 1) (v70 : IVec S16x256 1) (v72 : IVec S16x256 1) (v117 : IVec S32x256 32) (v121 : FVec F S32x256 .f32) (v123 : FVec F S128x256 .bf16) (k : Fin (k0_t21_loop (BitVec.ofNat 32 p)).trips) (arg22 : FVec F S32x128 .f32)
include htw hp

theorem t22_wp (h : k0_cond9 (BitVec.ofNat 32 p) k = 1#1) :
    iprop(Table c arg1 T q ∗ Slot arg16 arg11 arg19 c plK pgs (sl (k.val + 5)) none)
      ⊢ wp frame (wpE defs 𝒱 (c : Thread nD τ) bd) Set.univ
        (Scf.Loop.for k0_t22_loop k0_t22_ok ⟨⟩ (k0_t22_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg16 arg11 arg19 c plK pgs (sl (k.val + 5)) (some (k.val + 5))) :=
  start_block c defs 𝒱 bd arg16 arg11 arg19 plK pgs arg1 T q htw harg16 harg11 k0_t22_loop k0_t22_ok rfl _
    (fun g => k0_off59 (BitVec.ofNat 32 p) k g) (fun g => k0_off59_inb (BitVec.ofNat 32 p) v1 k0_hw3 k g k0_h1 h)
    (k0_off60 (BitVec.ofNat 32 p) k) (k0_off60_inb (BitVec.ofNat 32 p) v1 k0_hw3 k k0_h1 h)
    (fun g => k0_off61 (BitVec.ofNat 32 p) k g) (fun g => k0_off61_inb (BitVec.ofNat 32 p) v1 k0_hw3 k g k0_h1 h)
    (fun g => k0_off61_wordsfp8e4m3 (BitVec.ofNat 32 p) v1 k0_hw3 k g k0_h1 h)
    (k0_chk14 (BitVec.ofNat 32 p) v1 k) (k0_chk14.dec (BitVec.ofNat 32 p) v1 k)
    (fun w hw => k0_off62_inb (BitVec.ofNat 32 p) v1 k w hw k0_h1 h) (fun w hw => k0_off62_wordsfp8e4m3 (BitVec.ofNat 32 p) v1 k w hw k0_h1 h)
    (fun w hw => chk14 _ _ w hw k) (sl (k.val + 5)) (k.val + 5)
    (by have := (cond9_iff p hp k).mp h; have := nb_lt hp; omega)
    (fun g => off9_eq p hp k g) (off10_eq p hp k) (fun g => off11_eq p hp k g) (fun _ => rfl)

theorem t23_wp (h : k0_cond9 (BitVec.ofNat 32 p) k = 1#1) :
    iprop(Table c arg1 T q ∗ Slot arg17 arg12 arg20 c plV pgs (sl (k.val + 5)) none)
      ⊢ wp frame (wpE defs 𝒱 (c : Thread nD τ) bd) Set.univ
        (Scf.Loop.for k0_t23_loop k0_t23_ok ⟨⟩ (k0_t23_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg17 arg12 arg20 c plV pgs (sl (k.val + 5)) (some (k.val + 5))) :=
  start_block c defs 𝒱 bd arg17 arg12 arg20 plV pgs arg1 T q htw harg17 harg12 k0_t23_loop k0_t23_ok rfl _
    (fun g => k0_off63 (BitVec.ofNat 32 p) k g) (fun g => k0_off63_inb (BitVec.ofNat 32 p) v1 k0_hw3 k g k0_h1 h)
    (k0_off64 (BitVec.ofNat 32 p) k) (k0_off64_inb (BitVec.ofNat 32 p) v1 k0_hw3 k k0_h1 h)
    (fun g => k0_off65 (BitVec.ofNat 32 p) k g) (fun g => k0_off65_inb (BitVec.ofNat 32 p) v1 k0_hw3 k g k0_h1 h)
    (fun g => k0_off65_wordsfp8e4m3 (BitVec.ofNat 32 p) v1 k0_hw3 k g k0_h1 h)
    (k0_chk15 (BitVec.ofNat 32 p) v1 k) (k0_chk15.dec (BitVec.ofNat 32 p) v1 k)
    (fun w hw => k0_off66_inb (BitVec.ofNat 32 p) v1 k w hw k0_h1 h) (fun w hw => k0_off66_wordsfp8e4m3 (BitVec.ofNat 32 p) v1 k w hw k0_h1 h)
    (fun w hw => chk15 _ _ w hw k) (sl (k.val + 5)) (k.val + 5)
    (by have := (cond9_iff p hp k).mp h; have := nb_lt hp; omega)
    (fun g => off9_eq p hp k g) (off10_eq p hp k) (fun g => off11_eq p hp k g) (fun _ => rfl)

theorem t24_wp :
    iprop(Table c arg1 T q ∗ Slot arg16 arg11 arg19 c plK pgs (sl k.val) (some k.val) ∗ Owes c)
      ⊢ wp frame (wpE defs 𝒱 (c : Thread nD τ) bd) Set.univ
        (Scf.Loop.for k0_t24_loop k0_t24_ok ⟨⟩ (k0_t24_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg16 arg11 arg19 c plK (sl k.val) (Fof arg16 c (blkC arg11 c plK pgs k.val)) ∗ Owes c) :=
  wait_block c defs 𝒱 bd arg16 arg11 arg19 plK pgs arg1 T q htw harg16 harg11 k0_t24_loop k0_t24_ok rfl _
    (fun g => k0_off67 (BitVec.ofNat 32 p) k g) (fun g => k0_off67_inb (BitVec.ofNat 32 p) v1 k0_hw3 k g k0_h1)
    (k0_off68 (BitVec.ofNat 32 p) k) (k0_off68_inb (BitVec.ofNat 32 p) v1 k0_hw3 k k0_h1)
    (fun g => k0_off69 (BitVec.ofNat 32 p) k g) (fun g => k0_off69_inb (BitVec.ofNat 32 p) v1 k0_hw3 k g k0_h1)
    (fun g => k0_off69_wordsfp8e4m3 (BitVec.ofNat 32 p) v1 k0_hw3 k g k0_h1)
    (k0_chk16 v1) (k0_chk16.dec v1)
    (fun w hw => k0_off70_inb v1 w hw k0_h1) (fun w hw => k0_off70_wordsfp8e4m3 v1 w hw k0_h1)
    (fun w hw => chk16 _ w hw) (sl k.val) k.val
    (by have := lt_of_lt_of_eq k.isLt (t21_trips p hp); have := nb_lt hp; omega)
    (fun g => off17_eq p hp k g) (off18_eq p hp k) (fun g => off19_eq p hp k g) (fun _ => rfl)

theorem t25_wp :
    iprop(Table c arg1 T q ∗ Slot arg17 arg12 arg20 c plV pgs (sl k.val) (some k.val) ∗ Owes c)
      ⊢ wp frame (wpE defs 𝒱 (c : Thread nD τ) bd) Set.univ
        (Scf.Loop.for k0_t25_loop k0_t25_ok ⟨⟩ (k0_t25_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg17 arg12 arg20 c plV (sl k.val) (Fof arg17 c (blkC arg12 c plV pgs k.val)) ∗ Owes c) :=
  wait_block c defs 𝒱 bd arg17 arg12 arg20 plV pgs arg1 T q htw harg17 harg12 k0_t25_loop k0_t25_ok rfl _
    (fun g => k0_off71 (BitVec.ofNat 32 p) k g) (fun g => k0_off71_inb (BitVec.ofNat 32 p) v1 k0_hw3 k g k0_h1)
    (k0_off72 (BitVec.ofNat 32 p) k) (k0_off72_inb (BitVec.ofNat 32 p) v1 k0_hw3 k k0_h1)
    (fun g => k0_off73 (BitVec.ofNat 32 p) k g) (fun g => k0_off73_inb (BitVec.ofNat 32 p) v1 k0_hw3 k g k0_h1)
    (fun g => k0_off73_wordsfp8e4m3 (BitVec.ofNat 32 p) v1 k0_hw3 k g k0_h1)
    (k0_chk17 v1) (k0_chk17.dec v1)
    (fun w hw => k0_off74_inb v1 w hw k0_h1) (fun w hw => k0_off74_wordsfp8e4m3 v1 w hw k0_h1)
    (fun w hw => chk17 _ w hw) (sl k.val) k.val
    (by have := lt_of_lt_of_eq k.isLt (t21_trips p hp); have := nb_lt hp; omega)
    (fun g => off17_eq p hp k g) (off18_eq p hp k) (fun g => off19_eq p hp k g) (fun _ => rfl)

end Blocks4

/-! ## The new token, the scores, the fold -/

/-- What the store of the new key writes over the four rows `x`. -/
abbrev newKW (v0 : BitVec 32) (v30 : FVec F S8x128 .fp8e4m3) (x : Vec F S1x1x32x128 .fp8e4m3) : FVec F S1x1x32x128 .fp8e4m3 :=
  k0_pay96 (tokW v0) (k0_pay91 x) (k0_pay92 v30) k0_pay93 k0_pay94 k0_pay95
abbrev newVW (v0 : BitVec 32) (v41 : FVec F S8x128 .fp8e4m3) (x : Vec F S1x1x32x128 .fp8e4m3) : FVec F S1x1x32x128 .fp8e4m3 :=
  k0_pay108 (k0_pay99 (tokW v0) (k0_pay97 x) (k0_pay98 v41) (iota .tc S32x128 32 [0] iota_S32x128_d0_w32))

section Patch

variable {v19 : BitVec 32} {v30 : FVec F S8x128 .fp8e4m3} {v41 : FVec F S8x128 .fp8e4m3} {k0_h1 : k0_cond7 v1 = 1#1} {v68 : IVec S16x256 1} {v70 : IVec S16x256 1} {v72 : IVec S16x256 1} {v117 : IVec S32x256 32} {v121 : FVec F S32x256 .f32} {v123 : FVec F S128x256 .bf16} {k : Fin (k0_t21_loop (BitVec.ofNat 32 p)).trips} {arg22 : FVec F S32x128 .f32}

/-- The patch, as one chain of loads and stores. -/
def patchProgW (h4 : k0_cond10 (BitVec.ofNat 32 p) k = 1#1) : Prog (TpuEff nD τ sig (Elt F) Λ₀ .tc) Unit := do
  let x ← Prog.lift (.load arg16 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  let _ ← Prog.lift (.load arg16 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  Prog.lift (.store arg16 (Rect.unit (s := S6x8x1024x128) (k0_off75 (BitVec.ofNat 32 p) k) S1x1x32x128.size (k0_off75_inb (BitVec.ofNat 32 p) v1 k0_hw3 k k0_h1 h4)) (newKW (BitVec.ofNat 32 p) v30 x) Finset.univ (View.stores_vmem h_S1x1x32x128 (harg16.storeExact_slice rfl _ (k0_off75_packedfp8e4m3 (BitVec.ofNat 32 p) v1 k0_hw3 k k0_h1 h4)) (fun _ => rfl)) (.inl rfl))
  let y ← Prog.lift (.load arg17 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  let _ ← Prog.lift (.load arg17 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  Prog.lift (.store arg17 (Rect.unit (s := S6x8x1024x128) (k0_off75 (BitVec.ofNat 32 p) k) S1x1x32x128.size (k0_off75_inb (BitVec.ofNat 32 p) v1 k0_hw3 k k0_h1 h4)) (newVW (BitVec.ofNat 32 p) v41 y) Finset.univ (View.stores_vmem h_S1x1x32x128 (harg17.storeExact_slice rfl _ (k0_off75_packedfp8e4m3 (BitVec.ofNat 32 p) v1 k0_hw3 k k0_h1 h4)) (fun _ => rfl)) (.inl rfl))
  pure ⟨⟩

include hp

theorem patchProgW_wp (h4 : k0_cond10 (BitVec.ofNat 32 p) k = 1#1)
    (gk : Buf (Elt F) (arg16.view.loc (c : Thread nD τ))) (gv : Buf (Elt F) (arg17.view.loc (c : Thread nD τ))) :
    iprop(slotPt c arg16 (sl k.val) gk ∗ slotPt c arg17 (sl k.val) gv)
      ⊢ wp frame (wpE defs 𝒱 (c : Thread nD τ) bd) Set.univ (patchProgW arg16 harg16 arg17 harg17 p v1 k0_hw3 (v30 := v30) (v41 := v41) (k0_h1 := k0_h1) (k := k) h4)
        fun _ => iprop(slotPt c arg16 (sl k.val) (slotVal c p arg16 k.val gk (newKW (BitVec.ofNat 32 p) v30)) ∗ slotPt c arg17 (sl k.val) (slotVal c p arg17 k.val gv (newVW (BitVec.ofNat 32 p) v41))) := by
  have e : k0_off75 (BitVec.ofNat 32 p) k = ![(sl k.val).val, (gOf p).val, (rOf p).val * 32, 0] := off25_eq p hp k
  unfold patchProgW slotVal
  rw [if_pos ((cond10_iff p hp k).mp h4), if_pos ((cond10_iff p hp k).mp h4)]
  iintro ⟨HK, HV⟩
  iapply (load_quad c defs 𝒱 bd arg16 (sl k.val) (gOf p) (rOf p) e gk) $$ HK
  iintro HK
  iapply (load_quad c defs 𝒱 bd arg16 (sl k.val) (gOf p) (rOf p) e gk) $$ HK
  iintro HK
  iapply (store_quad c defs 𝒱 bd arg16 (sl k.val) (gOf p) (rOf p) e gk) $$ HK
  iintro HK
  iapply (load_quad c defs 𝒱 bd arg17 (sl k.val) (gOf p) (rOf p) e gv) $$ HV
  iintro HV
  iapply (load_quad c defs 𝒱 bd arg17 (sl k.val) (gOf p) (rOf p) e gv) $$ HV
  iintro HV
  iapply (store_quad c defs 𝒱 bd arg17 (sl k.val) (gOf p) (rOf p) e gv) $$ HV
  iintro HV
  iapply (ret_wp c defs 𝒱 bd)
  isplitl [HK] <;> iassumption

/-- The two matrices of multiples: what the keys and the values are spread with. -/
abbrev rd7 (i : Fin 2) (X7 : Buf (Elt F) (arg7.view.loc (c : Thread nD τ))) : Vec F S1x256x128 .bf16 :=
  match i with
  | 0 => (arg7.access (Rect.unit (s := S2x256x128) ![0, 0, 0] S1x256x128.size inb_S2x256x128_S1x256x128_0_0_0)).read (Elt F) X7
  | 1 => (arg7.access (Rect.unit (s := S2x256x128) ![1, 0, 0] S1x256x128.size inb_S2x256x128_S1x256x128_1_0_0)).read (Elt F) X7
abbrev rd8 (i : Fin 2) (X8 : Buf (Elt F) (arg8.view.loc (c : Thread nD τ))) : Vec F S1x256x128 .bf16 :=
  match i with
  | 0 => (arg8.access (Rect.unit (s := S2x256x128) ![0, 0, 0] S1x256x128.size inb_S2x256x128_S1x256x128_0_0_0)).read (Elt F) X8
  | 1 => (arg8.access (Rect.unit (s := S2x256x128) ![1, 0, 0] S1x256x128.size inb_S2x256x128_S1x256x128_1_0_0)).read (Elt F) X8

/-- The two matrices, held. -/
abbrev Ex78 (q7 q8 : PosShare TreeShare) (X7 : Buf (Elt F) (arg7.view.loc (c : Thread nD τ))) (X8 : Buf (Elt F) (arg8.view.loc (c : Thread nD τ))) : sProp 𝕄 :=
  iprop((arg7.view.loc (c : Thread nD τ) ↦[Finset.univ]{q7} X7) ∗ (arg8.view.loc (c : Thread nD τ) ↦[Finset.univ]{q8} X8))

/-- The scores of half page `j` of the block in `f`. -/
def scW (X7 : Buf (Elt F) (arg7.view.loc (c : Thread nD τ))) (v68 v70 v72 : IVec S16x256 1) (v117 : IVec S32x256 32) (v121 : FVec F S32x256 .f32) (v123 : FVec F S128x256 .bf16) (k : Fin (k0_t21_loop (BitVec.ofNat 32 p)).trips)
    (f : Buf (Elt F) (arg16.view.loc (c : Thread nD τ))) (j : Fin 16) : FVec F S32x256 .f32 :=
  k0_pay111 (BitVec.ofNat 32 p) v70 v72 v117 v121 0#32 1#32 k (Scf.iv 0#32 1#32 j.val)
    (k0_pay100 v123 (half c arg16 (sl k.val) j f) (rd7 arg7 c 0 X7) (half c arg16 (sl k.val) j f) (rd7 arg7 c 1 X7))
    (k0_pay101 v123 (half c arg16 (sl k.val) j f) (rd7 arg7 c 0 X7) (half c arg16 (sl k.val) j f) (rd7 arg7 c 1 X7)) (k0_pay102 v68)
def mxW (X7 : Buf (Elt F) (arg7.view.loc (c : Thread nD τ))) (v68 v70 v72 : IVec S16x256 1) (v117 : IVec S32x256 32) (v121 : FVec F S32x256 .f32) (v123 : FVec F S128x256 .bf16) (k : Fin (k0_t21_loop (BitVec.ofNat 32 p)).trips)
    (f : Buf (Elt F) (arg16.view.loc (c : Thread nD τ))) (j : Fin 16) (a : FVec F S32x128 .f32) : FVec F S32x128 .f32 :=
  k0_pay112 (BitVec.ofNat 32 p) v70 v72 v117 v121 0#32 1#32 k a (Scf.iv 0#32 1#32 j.val)
    (k0_pay100 v123 (half c arg16 (sl k.val) j f) (rd7 arg7 c 0 X7) (half c arg16 (sl k.val) j f) (rd7 arg7 c 1 X7))
    (k0_pay101 v123 (half c arg16 (sl k.val) j f) (rd7 arg7 c 0 X7) (half c arg16 (sl k.val) j f) (rd7 arg7 c 1 X7)) (k0_pay102 v68)

theorem t26_wp (q7 q8 : PosShare TreeShare) (X7 : Buf (Elt F) (arg7.view.loc (c : Thread nD τ))) (X8 : Buf (Elt F) (arg8.view.loc (c : Thread nD τ))) (v169 : BitVec 32) (f : Buf (Elt F) (arg16.view.loc (c : Thread nD τ))) :
    iprop((∃ Y : Buf (Elt F) (arg18.view.loc (c : Thread nD τ)), tPt c arg18 Y) ∗ slotPt c arg16 (sl k.val) f ∗ (Ex78 arg7 arg8 c q7 q8 X7 X8))
      ⊢ wp frame (wpE defs 𝒱 (c : Thread nD τ) bd) Set.univ (Scf.Loop.for k0_t26_loop k0_t26_ok (k0_pay109 (F := F)) (k0_t26_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 v169))
        fun r => iprop(⌜r = iter (mxW arg7 arg16 c p X7 v68 v70 v72 v117 v121 v123 k f) k0_pay109 16⌝
          ∗ (∃ Y : Buf (Elt F) (arg18.view.loc (c : Thread nD τ)), ⌜TileOK c arg18 16 (scW arg7 arg16 c p X7 v68 v70 v72 v117 v121 v123 k f) Y⌝ ∗ tPt c arg18 Y) ∗ slotPt c arg16 (sl k.val) f ∗ (Ex78 arg7 arg8 c q7 q8 X7 X8)) := by
  refine score_loop c defs 𝒱 bd arg18 iprop(slotPt c arg16 (sl k.val) f ∗ (Ex78 arg7 arg8 c q7 q8 X7 X8)) k0_t26_loop k0_t26_ok rfl k0_pay109 _ _ _ fun j t ht a Y => ?_
  obtain rfl : t = j := Fin.ext ht
  iintro ⟨HY, HK, H7, H8⟩
  unfold k0_t26_body
  rw [k0_part24_eq_skeleton]
  unfold k0_part24_skel
  iapply (load_half c defs 𝒱 bd arg16 (sl k.val) t (off26_eq p hp k t) f) $$ HK
  iintro HK
  iapply (load_any c defs 𝒱 bd arg7 _ q7 X7) $$ H7
  iintro H7
  iapply (load_half c defs 𝒱 bd arg16 (sl k.val) t (off26_eq p hp k t) f) $$ HK
  iintro HK
  iapply (load_any c defs 𝒱 bd arg7 _ q7 X7) $$ H7
  iintro H7
  iapply (load_tile c defs 𝒱 bd arg18 t (off27_eq t) Y) $$ HY
  iintro HY
  iapply (store_tile c defs 𝒱 bd arg18 t (off27_eq t) Y) $$ HY
  iintro HY
  iapply (ret_wp c defs 𝒱 bd)
  isplitr
  · ipureintro; rfl
  isplitl [HY]; · iexact HY
  isplitl [HK]; · iexact HK
  isplitl [H7] <;> iassumption

/-- One half page folded into the sum and the two halves of the accumulator. -/
def foldW (X8 : Buf (Elt F) (arg8.view.loc (c : Thread nD τ))) (v77 v82 v87 v92 : FVec F S16x256 .bf16) (v196 : FVec F S32x128 .f32) (s : Fin 6)
    (P : Fin 16 → FVec F S32x256 .f32) (f : Buf (Elt F) (arg17.view.loc (c : Thread nD τ))) (j : Fin 16)
    (a : FVec F S32x128 .f32 × FVec F S64x128 .f32 × FVec F S64x128 .f32) : FVec F S32x128 .f32 × FVec F S64x128 .f32 × FVec F S64x128 .f32 :=
  (k0_pay104 (k0_pay153 v196) a.1 (P j), k0_pay106 v77 v82 v87 v92 (k0_pay153 v196) a.2.1 (P j) (half c arg17 s j f) (rd8 arg8 c 0 X8),
    k0_pay157 a.2.2 (k0_pay107 v77 v82 v87 v92 (k0_pay153 v196) (P j)) (half c arg17 s j f) (rd8 arg8 c 1 X8))

theorem t27_wp (q7 q8 : PosShare TreeShare) (X7 : Buf (Elt F) (arg7.view.loc (c : Thread nD τ))) (X8 : Buf (Elt F) (arg8.view.loc (c : Thread nD τ))) (v77 v82 v87 v92 : FVec F S16x256 .bf16) (v93 : IVec S32x256 32) (c4 : BitVec 32) (v95 : IVec S32x256 32) (v169 : BitVec 32) (v196 : FVec F S32x128 .f32)
    (P : Fin 16 → FVec F S32x256 .f32) (f : Buf (Elt F) (arg17.view.loc (c : Thread nD τ)))
    (Y : Buf (Elt F) (arg18.view.loc (c : Thread nD τ))) (hY : TileOK c arg18 16 P Y) :
    iprop(tPt c arg18 Y ∗ slotPt c arg17 (sl k.val) f ∗ (Ex78 arg7 arg8 c q7 q8 X7 X8))
      ⊢ wp frame (wpE defs 𝒱 (c : Thread nD τ) bd) Set.univ (Scf.Loop.for k0_t27_loop k0_t27_ok (k0_pay154 (F := F), k0_pay155 (F := F), k0_pay156 (F := F))
          (k0_t27_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k v169 v196))
        fun r => iprop(⌜r = iter (foldW arg8 arg17 c X8 v77 v82 v87 v92 v196 (sl k.val) P f) (k0_pay154, k0_pay155, k0_pay156) 16⌝
          ∗ tPt c arg18 Y ∗ slotPt c arg17 (sl k.val) f ∗ (Ex78 arg7 arg8 c q7 q8 X7 X8)) := by
  refine carry_loop c defs 𝒱 bd k0_t27_loop k0_t27_ok rfl _ _ _ (fun _ => iprop(tPt c arg18 Y ∗ slotPt c arg17 (sl k.val) f ∗ (Ex78 arg7 arg8 c q7 q8 X7 X8))) fun j t ht a => ?_
  obtain rfl : t = j := Fin.ext ht
  obtain ⟨a, b, d⟩ := a
  iintro ⟨HY, HV, H7, H8⟩
  unfold k0_t27_body
  rw [k0_part25_eq_skeleton]
  unfold k0_part25_skel
  iapply (load_tile c defs 𝒱 bd arg18 t (off27_eq t) Y) $$ HY
  iintro HY
  iapply (load_half c defs 𝒱 bd arg17 (sl k.val) t (off29_eq p hp k t) f) $$ HV
  iintro HV
  iapply (load_any c defs 𝒱 bd arg8 _ q8 X8) $$ H8
  iintro H8
  iapply (load_half c defs 𝒱 bd arg17 (sl k.val) t (off29_eq p hp k t) f) $$ HV
  iintro HV
  iapply (load_any c defs 𝒱 bd arg8 _ q8 X8) $$ H8
  iintro H8
  iapply (ret_wp c defs 𝒱 bd)
  isplitr
  · ipureintro
    rw [hY t t.isLt]
    rfl
  isplitl [HY]; · iexact HY
  isplitl [HV]; · iexact HV
  isplitl [H7] <;> iassumption

end Patch

/-! ## A trip, the first transfers, the loop -/

section Loop4

/-- A trip's values: the new maximum, the new sum, the new accumulator. -/
def tripW (X7 : Buf (Elt F) (arg7.view.loc (c : Thread nD τ))) (X8 : Buf (Elt F) (arg8.view.loc (c : Thread nD τ))) (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) (k : Fin (k0_t21_loop (BitVec.ofNat 32 p)).trips) (a : FVec F S32x128 .f32 × FVec F S32x128 .f32 × FVec F S128x128 .f32) :
    FVec F S32x128 .f32 × FVec F S32x128 .f32 × FVec F S128x128 .f32 :=
  let m := k0_pay113 a.1 (iter (mxW arg7 arg16 c p X7 v68 v70 v72 v117 v121 v123 k (slotVal c p arg16 k.val (Fof arg16 c (blkC arg11 c plK pgs k.val)) (newKW (BitVec.ofNat 32 p) v30))) k0_pay109 16)
  let x := iter (foldW arg8 arg17 c X8 v77 v82 v87 v92 m (sl k.val) (scW arg7 arg16 c p X7 v68 v70 v72 v117 v121 v123 k (slotVal c p arg16 k.val (Fof arg16 c (blkC arg11 c plK pgs k.val)) (newKW (BitVec.ofNat 32 p) v30))) (slotVal c p arg17 k.val (Fof arg17 c (blkC arg12 c plV pgs k.val)) (newVW (BitVec.ofNat 32 p) v41))) (k0_pay154, k0_pay155, k0_pay156) 16
  (m, k0_pay158 a.1 a.2.1 m x.1, k0_pay159 a.1 a.2.2 m x.2.1 x.2.2)

/-- The state after `i` trips. -/
def stateW (X7 : Buf (Elt F) (arg7.view.loc (c : Thread nD τ))) (X8 : Buf (Elt F) (arg8.view.loc (c : Thread nD τ))) (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) : FVec F S32x128 .f32 × FVec F S32x128 .f32 × FVec F S128x128 .f32 :=
  iter (fun j : Fin (nb p) => tripW arg7 arg8 arg11 arg12 arg16 arg17 c plK plV pgs p X7 X8 v30 v41 v68 v70 v72 v77 v82 v87 v92 v117 v121 v123 (Fin.cast (t21_trips p hp).symm j))
    (k0_pay149, k0_pay150, k0_pay151) (nb p)

variable {v19 : BitVec 32} {v30 : FVec F S8x128 .fp8e4m3} {v41 : FVec F S8x128 .fp8e4m3} {k0_h1 : k0_cond7 v1 = 1#1} {v68 : IVec S16x256 1} {v70 : IVec S16x256 1} {v72 : IVec S16x256 1} {v77 : FVec F S16x256 .bf16} {v82 : FVec F S16x256 .bf16} {v87 : FVec F S16x256 .bf16} {v92 : FVec F S16x256 .bf16} {v93 : IVec S32x256 32} {c4 : BitVec 32} {v95 : IVec S32x256 32}

theorem part26_eq (v117 : IVec S32x256 32) (v121 : FVec F S32x256 .f32) (v123 : FVec F S128x256 .bf16) (k : Fin (k0_t21_loop (BitVec.ofNat 32 p)).trips) (arg22 : FVec F S32x128 .f32) :
    k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22
      = headProg (k0_cond9 (BitVec.ofNat 32 p) k = 1#1)
          (fun h => Scf.Loop.for k0_t22_loop k0_t22_ok ⟨⟩ (k0_t22_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (fun h => Scf.Loop.for k0_t23_loop k0_t23_ok ⟨⟩ (k0_t23_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (Scf.Loop.for k0_t24_loop k0_t24_ok ⟨⟩ (k0_t24_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (Scf.Loop.for k0_t25_loop k0_t25_ok ⟨⟩ (k0_t25_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (k0_cond10 (BitVec.ofNat 32 p) k = 1#1)
          (fun h => patchProgW arg16 harg16 arg17 harg17 p v1 k0_hw3 (v30 := v30) (v41 := v41) (k0_h1 := k0_h1) (k := k) h)
          (Scf.Loop.for k0_t26_loop k0_t26_ok (k0_pay109 (F := F)) (k0_t26_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 (Scalar.remsi (Scf.iv 0#32 1#32 k) 6#32)))
          (fun a => (⟨Scalar.remsi (Scf.iv 0#32 1#32 k) 6#32, k0_pay113 arg22 a⟩ : Σ' (v169 : BitVec 32), FVec F S32x128 .f32)) := by
  rw [k0_part26_eq_skeleton]
  rfl

include htw hp in
theorem t21_wp (q7 q8 : PosShare TreeShare) (X7 : Buf (Elt F) (arg7.view.loc (c : Thread nD τ))) (X8 : Buf (Elt F) (arg8.view.loc (c : Thread nD τ))) (v118 : Vec F S32x256 .f32) (v122 : Vec F S128x256 .bf16) (k : Fin (k0_t21_loop (BitVec.ofNat 32 p)).trips)
    (a : FVec F S32x128 .f32 × FVec F S32x128 .f32 × FVec F S128x128 .f32) :
    Main c arg16 arg17 arg11 arg12 arg19 arg20 arg18 plK plV pgs arg1 T q (Ex78 arg7 arg8 c q7 q8 X7 X8) (st (nb p) k.val)
      ⊢ wp frame (wpE defs 𝒱 (c : Thread nD τ) bd) Set.univ (k0_t21_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 v118 v122 k a)
        fun r => iprop(⌜r = tripW arg7 arg8 arg11 arg12 arg16 arg17 c plK plV pgs p X7 X8 v30 v41 v68 v70 v72 v77 v82 v87 v92 (k0_pay146 v93 c4 v95) (k0_pay147 v118) (k0_pay148 v122) k a⌝
          ∗ Main c arg16 arg17 arg11 arg12 arg19 arg20 arg18 plK plV pgs arg1 T q (Ex78 arg7 arg8 c q7 q8 X7 X8) (st (nb p) (k.val + 1))) := by
  obtain ⟨m, l, acc⟩ := a
  have hk : k.val < nb p := lt_of_lt_of_eq k.isLt (t21_trips p hp)
  unfold k0_t21_body
  iintro H
  rw [wp_bind, part26_eq]
  iapply (wp_wand _ _ _) $$ [H]
  · iapply (head_wp c defs 𝒱 bd arg16 arg17 arg11 arg12 arg19 arg20 arg18 plK plV pgs arg1 T q (Ex78 arg7 arg8 c q7 q8 X7 X8) (nb p) k.val hk _ (cond9_iff p hp k) _ _ _ _ _ _ _ _
      (slotVal c p arg16 k.val (Fof arg16 c (blkC arg11 c plK pgs k.val)) (newKW (BitVec.ofNat 32 p) v30)) (slotVal c p arg17 k.val (Fof arg17 c (blkC arg12 c plV pgs k.val)) (newVW (BitVec.ofNat 32 p) v41)) (scW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30)))
      (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)
      (fun h => t22_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m) h) (fun h => t23_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m) h)
      (t24_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m)) (t25_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m))
      (fun h => patchProgW_wp arg16 harg16 arg17 harg17 c defs 𝒱 bd p hp v1 k0_hw3 (v30 := v30) (v41 := v41) (k0_h1 := k0_h1) (k := k) h _ _)
      (fun h => ?_) (t26_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m) q7 q8 X7 X8 _ _)) $$ H
    have h' : ¬ (k.val + 1 = nb p) := fun e => h ((cond10_iff p hp k).mpr e)
    unfold slotVal
    exact ⟨if_neg h', if_neg h'⟩
  iintro %r ⟨%hr, H⟩
  subst hr
  iapply (tail_wp c defs 𝒱 bd arg16 arg17 arg11 arg12 arg19 arg20 arg18 plK plV pgs arg1 T q (Ex78 arg7 arg8 c q7 q8 X7 X8) (nb p) k.val _
    (fun x => ((k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)), k0_pay158 m l (k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)) x.1, k0_pay159 m acc (k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)) x.2.1 x.2.2)) (slotVal c p arg16 k.val (Fof arg16 c (blkC arg11 c plK pgs k.val)) (newKW (BitVec.ofNat 32 p) v30)) (slotVal c p arg17 k.val (Fof arg17 c (blkC arg12 c plV pgs k.val)) (newVW (BitVec.ofNat 32 p) v41)) _ _
    (fun Y hY => t27_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (k := k) q7 q8 X7 X8 v77 v82 v87 v92 v93 c4 v95 _ (k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)) _ _ Y hY)) $$ H

theorem primeSW (k : Fin k0_t18_loop.trips) : k0_off52 k = ![(sl k.val).val] := by
  have hk : k.val < 5 := k.isLt
  have : k0_off52 k = ![k.val] := congrArg (fun x : ℕ => ![x]) (prime_off k.val k.isLt 0 (by decide)).2.1
  rw [this]
  show ![k.val] = ![k.val % 6]
  rw [Nat.mod_eq_of_lt (by omega)]

theorem primeBW (k : Fin k0_t18_loop.trips) (g : Fin k0_t19_loop.trips) : k0_off53 k g = ![(sl k.val).val, g.val, 0, 0] := by
  have hk : k.val < 5 := k.isLt
  have h := prime_off k.val k.isLt g.val g.isLt
  show ![(Scf.iv 0#32 1#32 k.val : BitVec 32).toNat, (Scf.iv 0#32 1#32 g.val : BitVec 32).toNat, 0, 0] = ![k.val % 6, g.val, 0, 0]
  rw [h.2.1, h.2.2, Nat.mod_eq_of_lt (by omega)]

include htw

theorem t19_wp (k : Fin k0_t18_loop.trips) (h : k0_cond8 (BitVec.ofNat 32 p) k = 1#1) :
    iprop(Table c arg1 T q ∗ Slot arg16 arg11 arg19 c plK pgs (sl k.val) none)
      ⊢ wp frame (wpE defs 𝒱 (c : Thread nD τ) bd) Set.univ
        (Scf.Loop.for k0_t19_loop k0_t19_ok ⟨⟩ (k0_t19_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg16 arg11 arg19 c plK pgs (sl k.val) (some k.val)) :=
  start_block c defs 𝒱 bd arg16 arg11 arg19 plK pgs arg1 T q htw harg16 harg11 k0_t19_loop k0_t19_ok rfl _
    (fun g => k0_off51 k g) (fun g => k0_off51_inb k g)
    (k0_off52 k) (k0_off52_inb k)
    (fun g => k0_off53 k g) (fun g => k0_off53_inb k g)
    (fun g => k0_off53_wordsfp8e4m3 k g)
    (k0_chk12 (BitVec.ofNat 32 p) v1 k) (k0_chk12.dec (BitVec.ofNat 32 p) v1 k)
    (fun w hw => k0_off54_inb (BitVec.ofNat 32 p) v1 k w hw k0_h1 h) (fun w hw => k0_off54_wordsfp8e4m3 (BitVec.ofNat 32 p) v1 k w hw k0_h1 h)
    (fun w hw => chk12 _ _ w hw k) (sl k.val) k.val
    (by have : k.val < 5 := k.isLt; omega)
    (fun g => congrArg (fun x : ℕ => ![x]) (prime_off k.val k.isLt g.val g.isLt).1) (primeSW k) (fun g => primeBW k g) (fun _ => rfl)

theorem t20_wp (k : Fin k0_t18_loop.trips) (h : k0_cond8 (BitVec.ofNat 32 p) k = 1#1) :
    iprop(Table c arg1 T q ∗ Slot arg17 arg12 arg20 c plV pgs (sl k.val) none)
      ⊢ wp frame (wpE defs 𝒱 (c : Thread nD τ) bd) Set.univ
        (Scf.Loop.for k0_t20_loop k0_t20_ok ⟨⟩ (k0_t20_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg17 arg12 arg20 c plV pgs (sl k.val) (some k.val)) :=
  start_block c defs 𝒱 bd arg17 arg12 arg20 plV pgs arg1 T q htw harg17 harg12 k0_t20_loop k0_t20_ok rfl _
    (fun g => k0_off55 k g) (fun g => k0_off55_inb k g)
    (k0_off56 k) (k0_off56_inb k)
    (fun g => k0_off57 k g) (fun g => k0_off57_inb k g)
    (fun g => k0_off57_wordsfp8e4m3 k g)
    (k0_chk13 (BitVec.ofNat 32 p) v1 k) (k0_chk13.dec (BitVec.ofNat 32 p) v1 k)
    (fun w hw => k0_off58_inb (BitVec.ofNat 32 p) v1 k w hw k0_h1 h) (fun w hw => k0_off58_wordsfp8e4m3 (BitVec.ofNat 32 p) v1 k w hw k0_h1 h)
    (fun w hw => chk13 _ _ w hw k) (sl k.val) k.val
    (by have : k.val < 5 := k.isLt; omega)
    (fun g => congrArg (fun x : ℕ => ![x]) (prime_off k.val k.isLt g.val g.isLt).1) (primeSW k) (fun g => primeBW k g) (fun _ => rfl)

include hp in
theorem t18_wp (q7 q8 : PosShare TreeShare) (X7 : Buf (Elt F) (arg7.view.loc (c : Thread nD τ))) (X8 : Buf (Elt F) (arg8.view.loc (c : Thread nD τ))) :
    Main c arg16 arg17 arg11 arg12 arg19 arg20 arg18 plK plV pgs arg1 T q (Ex78 arg7 arg8 c q7 q8 X7 X8) (fun _ => none)
      ⊢ wp frame (wpE defs 𝒱 (c : Thread nD τ) bd) Set.univ (Scf.Loop.for k0_t18_loop k0_t18_ok ⟨⟩ (k0_t18_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95))
        fun _ => Main c arg16 arg17 arg11 arg12 arg19 arg20 arg18 plK plV pgs arg1 T q (Ex78 arg7 arg8 c q7 q8 X7 X8) (st (nb p) 0) := by
  iintro H
  iapply (wp_wand _ _ _) $$ [H]
  · rw [← st0_zero (nb p)]
    iapply (carry_loop c defs 𝒱 bd (n := 5) k0_t18_loop k0_t18_ok rfl () _ (fun (_ : Fin 5) _ => ()) (fun k => Main c arg16 arg17 arg11 arg12 arg19 arg20 arg18 plK plV pgs arg1 T q (Ex78 arg7 arg8 c q7 q8 X7 X8) (st0 (nb p) k)) fun j t ht a => ?_) $$ H
    obtain rfl : t = j := Fin.ext ht
    iintro H
    unfold k0_t18_body
    iapply (start_wp c defs 𝒱 bd arg16 arg17 arg11 arg12 arg19 arg20 arg18 plK plV pgs arg1 T q (Ex78 arg7 arg8 c q7 q8 X7 X8) (nb p) t.val _ (cond8_iff p hp t) _ _ (fun _ => pure ())
      (fun h => t19_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) (fun h => t20_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) _ (st0_free _ _ t.isLt))
    isplitl [H]; · iexact H
    rw [st0_start _ _ t.isLt]
    iintro H
    iapply (ret_wp c defs 𝒱 bd)
    isplitr
    · ipureintro; rfl
    iexact H
  rw [st0_five]
  iintro %r ⟨-, H⟩
  iexact H

include hp in
theorem part36_wp (q7 q8 : PosShare TreeShare) (X7 : Buf (Elt F) (arg7.view.loc (c : Thread nD τ))) (X8 : Buf (Elt F) (arg8.view.loc (c : Thread nD τ))) (q9 q2 : PosShare TreeShare) (X9 : Buf (Elt F) (arg9.view.loc (c : Thread nD τ))) (X2 : Buf (Elt F) (arg2.view.loc (c : Thread nD τ))) :
    iprop((arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q (Ex78 arg7 arg8 c q7 q8 X7 X8) (fun _ => none))
      ⊢ wp frame (wpE defs 𝒱 (c : Thread nD τ) bd) Set.univ (k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95)
        fun r => iprop(⌜r = (⟨k0_pay146 v93 c4 v95, k0_pay147 (rd9 arg9 c X9), k0_pay148 (rd2 arg2 c X2), Scalar.addi 0#32 (Scalar.muli (Scalar.divsi (Scalar.subi v19 0#32) 1#32) 1#32),
            (stateW arg7 arg8 arg11 arg12 arg16 arg17 c plK plV pgs p hp X7 X8 v30 v41 v68 v70 v72 v77 v82 v87 v92 (k0_pay146 v93 c4 v95) (k0_pay147 (rd9 arg9 c X9)) (k0_pay148 (rd2 arg2 c X2))).1, (stateW arg7 arg8 arg11 arg12 arg16 arg17 c plK plV pgs p hp X7 X8 v30 v41 v68 v70 v72 v77 v82 v87 v92 (k0_pay146 v93 c4 v95) (k0_pay147 (rd9 arg9 c X9)) (k0_pay148 (rd2 arg2 c X2))).2.1, (stateW arg7 arg8 arg11 arg12 arg16 arg17 c plK plV pgs p hp X7 X8 v30 v41 v68 v70 v72 v77 v82 v87 v92 (k0_pay146 v93 c4 v95) (k0_pay147 (rd9 arg9 c X9)) (k0_pay148 (rd2 arg2 c X2))).2.2⟩ :
            Σ' (v117 : IVec S32x256 32) (v121 : FVec F S32x256 .f32) (v123 : FVec F S128x256 .bf16) (v132 : BitVec 32) (v133_0 : FVec F S32x128 .f32) (v133_1 : FVec F S32x128 .f32), FVec F S128x128 .f32)⌝
          ∗ (arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q (Ex78 arg7 arg8 c q7 q8 X7 X8) (fun _ => none)) := by
  rw [k0_part36_eq_skeleton]
  unfold k0_part36_skel
  iintro ⟨H9, H2, HM⟩
  iapply (load_any c defs 𝒱 bd arg9 _ q9 X9) $$ H9
  iintro H9
  iapply (load_any c defs 𝒱 bd arg2 _ q2 X2) $$ H2
  iintro H2
  iapply (ret_bind_wp c defs 𝒱 bd _ _)
  iapply (bind_wp c defs 𝒱 bd _ _)
  iapply (wp_wand _ _ _) $$ [HM]
  · iapply (t18_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) q7 q8 X7 X8) $$ HM
  iintro %r HM
  iapply (bind_wp c defs 𝒱 bd _ _)
  iapply (wp_wand _ _ _) $$ [HM]
  · iapply (carry_loop c defs 𝒱 bd (n := nb p) (k0_t21_loop (BitVec.ofNat 32 p)) (k0_t21_ok (BitVec.ofNat 32 p) v1 k0_hw3 k0_h1) (t21_trips p hp) (k0_pay149 (F := F), k0_pay150 (F := F), k0_pay151 (F := F))
      (k0_t21_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 (rd9 arg9 c X9) (rd2 arg2 c X2))
      (fun j : Fin (nb p) => tripW arg7 arg8 arg11 arg12 arg16 arg17 c plK plV pgs p X7 X8 v30 v41 v68 v70 v72 v77 v82 v87 v92 (k0_pay146 v93 c4 v95) (k0_pay147 (rd9 arg9 c X9)) (k0_pay148 (rd2 arg2 c X2)) (Fin.cast (t21_trips p hp).symm j))
      (fun k => Main c arg16 arg17 arg11 arg12 arg19 arg20 arg18 plK plV pgs arg1 T q (Ex78 arg7 arg8 c q7 q8 X7 X8) (st (nb p) k)) fun j t ht a => ?_) $$ HM
    obtain rfl : t = Fin.cast (t21_trips p hp).symm j := Fin.ext ht
    exact t21_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) q7 q8 X7 X8 (rd9 arg9 c X9) (rd2 arg2 c X2) (Fin.cast (t21_trips p hp).symm j) a
  iintro %r ⟨%hr, HM⟩
  subst hr
  rw [st_end]
  iapply (ret_wp c defs 𝒱 bd)
  isplitr
  · ipureintro; rfl
  isplitl [H9]; · iexact H9
  isplitl [H2]; · iexact H2
  iexact HM

end Loop4

end Cert.KernelIdeal.Hand
-- ==== Proof.Body.lean ====
/-
  The whole kernel body run: the two words, the codes, the branch the flag chooses, the output.
-/
module

public import proofs.«01_k».proof.Proof.Widen

@[expose] public section

set_option synthInstance.maxSize 4096

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)
  (T : Buf (Elt F) (arg1.view.loc (c : Thread nD τ))) (q : PosShare TreeShare)
variable (htw : ∀ i < 1024, (tw (F := F) arg1 T i).toNat = (pgs i).val)
variable (p : ℕ) (hp : p < 131072)

theorem store_any {s : Shape} {e : EltTy} (m : Memref sig .tc .vmem s e) (r : Rect s) (w : Vec F r.shape e) (X : Buf (Elt F) (m.view.loc (c : Thread nD τ)))
    {α : Type} {Q : α → sProp 𝕄} {hx hm} {k : PUnit → Prog (TpuEff nD τ sig (Elt F) Λ₀ .tc) α} :
    (m.view.loc (c : Thread nD τ) ↦[Finset.univ]{fullShare} X)
      ⊢ iprop(((m.view.loc (c : Thread nD τ) ↦[Finset.univ]{fullShare} (m.access r).write (Elt F) X w Finset.univ)
          -∗ wp frame (wpE defs 𝒱 (c : Thread nD τ) bd) Set.univ (k ⟨⟩) Q)
        -∗ wp frame (wpE defs 𝒱 (c : Thread nD τ) bd) Set.univ (.op (.store m r w Finset.univ hx hm) k) Q) :=
  wp_store 𝒱 (c : Thread nD τ) bd Set.univ (m := m) (r := r) (S := Finset.univ) (f := X) (w := w) (Finset.subset_univ _)

theorem smem_any (m : Memref sig .tc .smem S2 .i32) (o : Fin 1 → ℕ) {h : ∀ a, o a + S1.size a ≤ S2.size a} (X : Buf (Elt F) (m.view.loc (c : Thread nD τ)))
    {Q : BitVec 32 → sProp 𝕄} :
    (m.view.loc (c : Thread nD τ) ↦[Finset.univ]{fullShare} X)
      ⊢ iprop(((m.view.loc (c : Thread nD τ) ↦[Finset.univ]{fullShare} X)
          -∗ Q ((m.access (Rect.unit (s := S2) o S1.size h)).read (Elt F) X (Shape.Idx.first ((numel1_S1 : (Rect.unit (s := S2) o S1.size h).shape.numel = 1).symm ▸ Nat.one_pos))))
        -∗ wp frame (wpE defs 𝒱 (c : Thread nD τ) bd) Set.univ (smemLoad m (Rect.unit (s := S2) o S1.size h) numel1_S1 rfl) Q) := by
  unfold smemLoad
  iintro H Hk
  iapply (wp_smemLoadElt 𝒱 (c : Thread nD τ) bd Set.univ (m := m) (r := Rect.unit (s := S2) o S1.size h) (S := Finset.univ) (q := fullShare) (f := X)
    (Finset.subset_univ _)) $$ H
  iintro H
  rw [wp_ret]
  imodintro
  iapply Hk
  iexact H

/-- The two words: the position and the flag. -/
def w0 (X0 : Buf (Elt F) (arg0.view.loc (c : Thread nD τ))) : BitVec 32 :=
  (arg0.access (Rect.unit (s := S2) ![0] S1.size inb_S2_S1_0)).read (Elt F) X0
    (Shape.Idx.first ((numel1_S1 : (Rect.unit (s := S2) ![0] S1.size inb_S2_S1_0).shape.numel = 1).symm ▸ Nat.one_pos))
def w1 (X0 : Buf (Elt F) (arg0.view.loc (c : Thread nD τ))) : BitVec 32 :=
  (arg0.access (Rect.unit (s := S2) ![1] S1.size inb_S2_S1_1)).read (Elt F) X0
    (Shape.Idx.first ((numel1_S1 : (Rect.unit (s := S2) ![1] S1.size inb_S2_S1_1).shape.numel = 1).symm ▸ Nat.one_pos))

abbrev rd8x {e : EltTy} (m : Memref sig .tc .vmem S8x128 e) (X : Buf (Elt F) (m.view.loc (c : Thread nD τ))) : Vec F S8x128 e :=
  (m.access (Rect.unit (s := S8x128) ![0, 0] S8x128.size inb_S8x128_S8x128_0_0)).read (Elt F) X
abbrev rd128 {e : EltTy} (m : Memref sig .tc .vmem S128x128 e) (X : Buf (Elt F) (m.view.loc (c : Thread nD τ))) : Vec F S128x128 e :=
  (m.access (Rect.unit (s := S128x128) ![0, 0] S128x128.size inb_S128x128_S128x128_0_0)).read (Elt F) X

/-- The new token's codes. -/
def codeK (X3 : Buf (Elt F) (arg3.view.loc (c : Thread nD τ))) (X5 : Buf (Elt F) (arg5.view.loc (c : Thread nD τ))) : FVec F S8x128 .fp8e4m3 :=
  k0_pay160 (rd8x c arg3 X3) (rd8x c arg5 X5)
def codeV (X4 : Buf (Elt F) (arg4.view.loc (c : Thread nD τ))) (X6 : Buf (Elt F) (arg6.view.loc (c : Thread nD τ))) : FVec F S8x128 .fp8e4m3 :=
  k0_pay1 (k0_pay161 (rd8x c arg4 X4) (rd8x c arg6 X6)) (Scalar.ofBits .f32 0xC3E00000#32) (Scalar.ofBits .f32 0x43E00000#32)

variable (X0 : Buf (Elt F) (arg0.view.loc (c : Thread nD τ))) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

/-- What the first part of the body hands on. -/
abbrev Words0 (F : FTy → Type) : Type := Σ' (v0 : Elt F .i32) (v1 : Elt F .i32) (k0_hw3 : k0_chk3 v0 v1) (v19 : BitVec 32) (v30 : FVec F S8x128 .fp8e4m3) (v36 : FVec F S8x128 .f32) (cst_14 : F .f32), F .f32
def Got (r : Words0 F) : Prop :=
  ∃ v0 v1 hw v19, v0 = BitVec.ofNat 32 p ∧ v1 = w1 arg0 c X0 ∧ r = ⟨v0, v1, hw, v19, codeK arg3 arg5 c X3 X5, k0_pay161 (rd8x c arg4 X4) (rd8x c arg6 X6), Scalar.ofBits .f32 0xC3E00000#32, Scalar.ofBits .f32 0x43E00000#32⟩

include hp in
theorem part37_wp (hv0 : w0 arg0 c X0 = BitVec.ofNat 32 p) :
    (iprop((arg0.view.loc (c : Thread nD τ) ↦[Finset.univ]{fullShare} X0) ∗ (arg3.view.loc (c : Thread nD τ) ↦[Finset.univ]{fullShare} X3) ∗ (arg4.view.loc (c : Thread nD τ) ↦[Finset.univ]{fullShare} X4) ∗ (arg5.view.loc (c : Thread nD τ) ↦[Finset.univ]{fullShare} X5) ∗ (arg6.view.loc (c : Thread nD τ) ↦[Finset.univ]{fullShare} X6)) : sProp 𝕄)
      ⊢ wp frame (wpE defs 𝒱 (c : Thread nD τ) bd) Set.univ (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20)
        fun r : Words0 F => iprop(⌜Got arg0 arg3 arg4 arg5 arg6 c p X0 X3 X4 X5 X6 r⌝ ∗ (arg0.view.loc (c : Thread nD τ) ↦[Finset.univ]{fullShare} X0) ∗ (arg3.view.loc (c : Thread nD τ) ↦[Finset.univ]{fullShare} X3) ∗ (arg4.view.loc (c : Thread nD τ) ↦[Finset.univ]{fullShare} X4) ∗ (arg5.view.loc (c : Thread nD τ) ↦[Finset.univ]{fullShare} X5) ∗ (arg6.view.loc (c : Thread nD τ) ↦[Finset.univ]{fullShare} X6)) := by
  rw [k0_part37_eq_skeleton]
  unfold k0_part37_skel
  iintro ⟨H0, H3, H4, H5, H6⟩
  iapply (bind_wp c defs 𝒱 bd _ _)
  iapply (smem_any c defs 𝒱 bd arg0 ![0] X0) $$ H0
  iintro H0
  iapply (bind_wp c defs 𝒱 bd _ _)
  iapply (smem_any c defs 𝒱 bd arg0 ![1] X0) $$ H0
  iintro H0
  have hc : k0_chk3 (w0 arg0 c X0) (w1 arg0 c X0) := by rw [hv0]; exact chk3 p hp _
  iapply (wp_assume 𝒱 (c : Thread nD τ) bd Set.univ hc)
  iapply (load_any c defs 𝒱 bd arg3 _ fullShare X3) $$ H3
  iintro H3
  iapply (load_any c defs 𝒱 bd arg5 _ fullShare X5) $$ H5
  iintro H5
  iapply (load_any c defs 𝒱 bd arg4 _ fullShare X4) $$ H4
  iintro H4
  iapply (load_any c defs 𝒱 bd arg6 _ fullShare X6) $$ H6
  iintro H6
  iapply (ret_wp c defs 𝒱 bd)
  isplitr
  · ipureintro; exact ⟨_, _, _, _, hv0, rfl, rfl⟩
  isplitl [H0]; · iexact H0
  isplitl [H3]; · iexact H3
  isplitl [H4]; · iexact H4
  isplitl [H5]; · iexact H5
  iexact H6

theorem part17_eq : k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 = Prog.ret ⟨k0_pay69, k0_pay70, k0_pay71, k0_pay72 (F := F), k0_pay73 (F := F), k0_pay74 (F := F), k0_pay75 (F := F), iota .tc S32x256 32 [1] iota_S32x256_d1_w32, 4#32, k0_pay76⟩ := by
  rw [k0_part17_eq_skeleton]; rfl
theorem part35_eq : k0_part35 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 = Prog.ret ⟨k0_pay138, k0_pay139, k0_pay140, k0_pay141 (F := F), k0_pay142 (F := F), k0_pay143 (F := F), k0_pay144 (F := F), iota .tc S32x256 32 [1] iota_S32x256_d1_w32, 4#32, k0_pay145⟩ := by
  rw [k0_part35_eq_skeleton]; rfl

/-- What the exact branch and the widening branch fold to. -/
def foldedE : FVec F S32x128 .f32 × FVec F S32x128 .f32 × FVec F S128x128 .f32 :=
  stateE arg11 arg12 arg16 arg17 c plK plV pgs p hp (codeK arg3 arg5 c X3 X5) (codeV arg4 arg6 c X4 X6) k0_pay69 k0_pay70 k0_pay71 k0_pay72 k0_pay73 k0_pay74 k0_pay75
    (k0_pay77 (iota .tc S32x256 32 [1] iota_S32x256_d1_w32) 4#32 k0_pay76) (k0_pay78 (rd9 arg9 c X9)) (k0_pay79 (rd2 arg2 c X2))
def foldedW : FVec F S32x128 .f32 × FVec F S32x128 .f32 × FVec F S128x128 .f32 :=
  stateW arg7 arg8 arg11 arg12 arg16 arg17 c plK plV pgs p hp X7 X8 (codeK arg3 arg5 c X3 X5) (codeV arg4 arg6 c X4 X6) k0_pay138 k0_pay139 k0_pay140 k0_pay141 k0_pay142 k0_pay143 k0_pay144
    (k0_pay146 (iota .tc S32x256 32 [1] iota_S32x256_d1_w32) 4#32 k0_pay145) (k0_pay147 (rd9 arg9 c X9)) (k0_pay148 (rd2 arg2 c X2))

/-- The output. -/
def outY : Vec F S128x128 .bf16 :=
  if w1 arg0 c X0 = 1#32 then k0_pay10 (foldedE arg2 arg3 arg4 arg5 arg6 arg9 arg11 arg12 arg16 arg17 c plK plV pgs p hp X2 X3 X4 X5 X6 X9).2.1 (foldedE arg2 arg3 arg4 arg5 arg6 arg9 arg11 arg12 arg16 arg17 c plK plV pgs p hp X2 X3 X4 X5 X6 X9).2.2 (rd128 c arg10 X10)
  else k0_pay19 (foldedW arg2 arg3 arg4 arg5 arg6 arg7 arg8 arg9 arg11 arg12 arg16 arg17 c plK plV pgs p hp X2 X3 X4 X5 X6 X7 X8 X9).2.1 (foldedW arg2 arg3 arg4 arg5 arg6 arg7 arg8 arg9 arg11 arg12 arg16 arg17 c plK plV pgs p hp X2 X3 X4 X5 X6 X7 X8 X9).2.2 (rd128 c arg10 X10)

/-- The inputs, held. -/
def Ins : sProp 𝕄 :=
  iprop((arg0.view.loc (c : Thread nD τ) ↦[Finset.univ]{fullShare} X0) ∗ (arg2.view.loc (c : Thread nD τ) ↦[Finset.univ]{fullShare} X2) ∗ (arg3.view.loc (c : Thread nD τ) ↦[Finset.univ]{fullShare} X3) ∗ (arg4.view.loc (c : Thread nD τ) ↦[Finset.univ]{fullShare} X4) ∗ (arg5.view.loc (c : Thread nD τ) ↦[Finset.univ]{fullShare} X5) ∗ (arg6.view.loc (c : Thread nD τ) ↦[Finset.univ]{fullShare} X6) ∗ (arg9.view.loc (c : Thread nD τ) ↦[Finset.univ]{fullShare} X9) ∗ (arg10.view.loc (c : Thread nD τ) ↦[Finset.univ]{fullShare} X10))
abbrev Out8 (m : Memref sig .tc .vmem S8x128 .fp8e4m3) (w : Vec F S8x128 .fp8e4m3) : sProp 𝕄 :=
  iprop(∃ f : Buf (Elt F) (m.view.loc (c : Thread nD τ)), ⌜rd8x c m f = w⌝ ∗ (m.view.loc (c : Thread nD τ) ↦[Finset.univ]{fullShare} f))
abbrev Out128 (m : Memref sig .tc .vmem S128x128 .bf16) (w : Vec F S128x128 .bf16) : sProp 𝕄 :=
  iprop(∃ f : Buf (Elt F) (m.view.loc (c : Thread nD τ)), ⌜rd128 c m f = w⌝ ∗ (m.view.loc (c : Thread nD τ) ↦[Finset.univ]{fullShare} f))

theorem cond_one : k0_cond1 1#32 = 1#1 ∧ ¬ k0_cond7 1#32 = 1#1 := by decide
theorem cond_zero : ¬ k0_cond1 0#32 = 1#1 ∧ k0_cond7 0#32 = 1#1 := by decide

include hp htw in
theorem body_wp (hv0 : w0 arg0 c X0 = BitVec.ofNat 32 p) (h01 : w1 arg0 c X0 = 1#32 ∨ w1 arg0 c X0 = 0#32)
    (f13 : Buf (Elt F) (arg13.view.loc (c : Thread nD τ))) (f14 : Buf (Elt F) (arg14.view.loc (c : Thread nD τ))) (f15 : Buf (Elt F) (arg15.view.loc (c : Thread nD τ))) :
    iprop(Ins arg0 arg2 arg3 arg4 arg5 arg6 arg9 arg10 c X0 X2 X3 X4 X5 X6 X9 X10 ∗ Main c arg16 arg17 arg11 arg12 arg19 arg20 arg18 plK plV pgs arg1 T q (Ex78 arg7 arg8 c fullShare fullShare X7 X8) (fun _ => none)
        ∗ (arg13.view.loc (c : Thread nD τ) ↦[Finset.univ]{fullShare} f13) ∗ (arg14.view.loc (c : Thread nD τ) ↦[Finset.univ]{fullShare} f14) ∗ (arg15.view.loc (c : Thread nD τ) ↦[Finset.univ]{fullShare} f15))
      ⊢ wp frame (wpE defs 𝒱 (c : Thread nD τ) bd) Set.univ (cc0_paged_fp8_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20)
        fun _ => iprop(Ins arg0 arg2 arg3 arg4 arg5 arg6 arg9 arg10 c X0 X2 X3 X4 X5 X6 X9 X10 ∗ Main c arg16 arg17 arg11 arg12 arg19 arg20 arg18 plK plV pgs arg1 T q (Ex78 arg7 arg8 c fullShare fullShare X7 X8) (fun _ => none)
          ∗ Out128 c arg13 (outY arg0 arg2 arg3 arg4 arg5 arg6 arg7 arg8 arg9 arg10 arg11 arg12 arg16 arg17 c plK plV pgs p hp X0 X2 X3 X4 X5 X6 X7 X8 X9 X10)
          ∗ Out8 c arg14 (codeK arg3 arg5 c X3 X5) ∗ Out8 c arg15 (codeV arg4 arg6 c X4 X6)) := by
  rw [cc0_paged_fp8_decode_eq_skeleton]
  unfold cc0_paged_fp8_decode_skel
  unfold Ins
  iintro ⟨⟨H0, H2, H3, H4, H5, H6, H9, H10⟩, HM, H13, H14, H15⟩
  iapply (bind_wp c defs 𝒱 bd _ _)
  iapply (wp_wand _ _ _) $$ [H0 H3 H4 H5 H6]
  · iapply (part37_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp X0 X3 X4 X5 X6 hv0)
    isplitl [H0]; · iexact H0
    isplitl [H3]; · iexact H3
    isplitl [H4]; · iexact H4
    isplitl [H5]; · iexact H5
    iexact H6
  iintro %r ⟨%hr, H0, H3, H4, H5, H6⟩
  obtain ⟨v0, v1, hw, v19, e0, e1, rfl⟩ := hr
  subst e0
  iapply (load_any c defs 𝒱 bd arg14 _ fullShare f14) $$ H14
  iintro H14
  iapply (store_any c defs 𝒱 bd arg14 _ _ f14) $$ H14
  iintro H14
  iapply (load_any c defs 𝒱 bd arg15 _ fullShare f15) $$ H15
  iintro H15
  iapply (store_any c defs 𝒱 bd arg15 _ _ f15) $$ H15
  iintro H15
  rcases h01 with h1 | h1
  · have ev : v1 = 1#32 := e1.trans h1
    subst ev
    rw [dif_pos cond_one.1, dif_neg cond_one.2, part17_eq]
    iapply (ret_bind_wp c defs 𝒱 bd _ _)
    iapply (ret_bind_wp c defs 𝒱 bd _ _)
    iapply (bind_wp c defs 𝒱 bd _ _)
    iapply (wp_wand _ _ _) $$ [HM H9 H2]
    · iapply (part18_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp 1#32 hw (Ex78 arg7 arg8 c fullShare fullShare X7 X8) fullShare fullShare X9 X2)
      isplitl [H9]; · iexact H9
      isplitl [H2]; · iexact H2
      iexact HM
    iintro %r ⟨%hr, H9, H2, HM⟩
    subst hr
    iapply (bind_wp c defs 𝒱 bd _ _)
    iapply (wp_wand _ _ _) $$ [HM]
    · iapply (carry_loop c defs 𝒱 bd (n := 0) (k0_t11_loop (BitVec.ofNat 32 p)) (k0_t11_ok (BitVec.ofNat 32 p) 1#32 hw cond_one.1) (t11_trips p hp) _ _ (fun _ a => a)
        (fun _ => Main c arg16 arg17 arg11 arg12 arg19 arg20 arg18 plK plV pgs arg1 T q (Ex78 arg7 arg8 c fullShare fullShare X7 X8) (fun _ => none)) (fun j => j.elim0)) $$ HM
    iintro %r ⟨%hr, HM⟩
    subst hr
    iapply (load_any c defs 𝒱 bd arg10 _ fullShare X10) $$ H10
    iintro H10
    iapply (load_any c defs 𝒱 bd arg13 _ fullShare f13) $$ H13
    iintro H13
    iapply (store_any c defs 𝒱 bd arg13 _ _ f13) $$ H13
    iintro H13
    iapply (ret_wp c defs 𝒱 bd)
    isplitl [H0 H2 H3 H4 H5 H6 H9 H10]
    · isplitl [H0]; · iexact H0
      isplitl [H2]; · iexact H2
      isplitl [H3]; · iexact H3
      isplitl [H4]; · iexact H4
      isplitl [H5]; · iexact H5
      isplitl [H6]; · iexact H6
      isplitl [H9]; · iexact H9
      iexact H10
    isplitl [HM]; · iexact HM
    isplitl [H13]
    · iexists _; isplitr; swap; · iexact H13
      ipureintro; exact (View.read_write_univ _ _).trans (by unfold outY foldedE foldedW; rw [if_pos h1]; rfl)
    isplitl [H14]
    · iexists _; isplitr; swap; · iexact H14
      ipureintro; exact View.read_write_univ _ _
    iexists _; isplitr; swap; · iexact H15
    ipureintro; exact View.read_write_univ _ _
  · have ev : v1 = 0#32 := e1.trans h1
    subst ev
    rw [dif_neg cond_zero.1, dif_pos cond_zero.2, part35_eq]
    iapply (ret_bind_wp c defs 𝒱 bd _ _)
    iapply (ret_bind_wp c defs 𝒱 bd _ _)
    iapply (bind_wp c defs 𝒱 bd _ _)
    iapply (wp_wand _ _ _) $$ [HM H9 H2]
    · iapply (part36_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp 0#32 hw fullShare fullShare X7 X8 fullShare fullShare X9 X2)
      isplitl [H9]; · iexact H9
      isplitl [H2]; · iexact H2
      iexact HM
    iintro %r ⟨%hr, H9, H2, HM⟩
    subst hr
    iapply (bind_wp c defs 𝒱 bd _ _)
    iapply (wp_wand _ _ _) $$ [HM]
    · iapply (carry_loop c defs 𝒱 bd (n := 0) (k0_t28_loop (BitVec.ofNat 32 p)) (k0_t28_ok (BitVec.ofNat 32 p) 0#32 hw cond_zero.2) (t28_trips p hp) _ _ (fun _ a => a)
        (fun _ => Main c arg16 arg17 arg11 arg12 arg19 arg20 arg18 plK plV pgs arg1 T q (Ex78 arg7 arg8 c fullShare fullShare X7 X8) (fun _ => none)) (fun j => j.elim0)) $$ HM
    iintro %r ⟨%hr, HM⟩
    subst hr
    iapply (load_any c defs 𝒱 bd arg10 _ fullShare X10) $$ H10
    iintro H10
    iapply (load_any c defs 𝒱 bd arg13 _ fullShare f13) $$ H13
    iintro H13
    iapply (store_any c defs 𝒱 bd arg13 _ _ f13) $$ H13
    iintro H13
    iapply (ret_wp c defs 𝒱 bd)
    isplitl [H0 H2 H3 H4 H5 H6 H9 H10]
    · isplitl [H0]; · iexact H0
      isplitl [H2]; · iexact H2
      isplitl [H3]; · iexact H3
      isplitl [H4]; · iexact H4
      isplitl [H5]; · iexact H5
      isplitl [H6]; · iexact H6
      isplitl [H9]; · iexact H9
      iexact H10
    isplitl [HM]; · iexact HM
    isplitl [H13]
    · iexists _; isplitr; swap; · iexact H13
      ipureintro; exact (View.read_write_univ _ _).trans (by unfold outY foldedE foldedW; rw [if_neg (by rw [h1]; decide)]; rfl)
    isplitl [H14]
    · iexists _; isplitr; swap; · iexact H14
      ipureintro; exact View.read_write_univ _ _
    iexists _; isplitr; swap; · iexact H15
    ipureintro; exact View.read_write_univ _ _

end Cert.KernelIdeal.Hand

end
-- ==== Proof.Owned.lean ====
/-
  The kernel body from the blocks its operands hold, to what the three results hold.
-/
module

public import proofs.«01_k».proof.Proof.Body
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.LaneScatter.Own

@[expose] public section

set_option synthInstance.maxSize 4096

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

theorem acc_zero {κ : Kind} {sp : Space} {s : Shape} {e : EltTy} (m : Memref sig κ sp s e) {off : Fin s.rank → ℕ} (h : off = fun _ => 0)
    (inb : ∀ a, off a + s.size a ≤ s.size a) (f : m.view.ty.Contents (Elt F)) :
    (m.access (Rect.unit off s.size inb)).read (Elt F) f = m.view.read (Elt F) f := by
  subst h
  funext x
  rw [View.read_apply, View.read_apply]
  exact congrArg (fun i => cast _ (f (m.view.emb i))) (Rect.emb_whole_apply s x)

section
variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)

variable (p : ℕ) (hp : p < 131072)

variable (d0 : Vec F S2 .i32) (d1 : Vec F S1024 .i32) (d2 : Vec F S128x256 .bf16) (d3 : Vec F S8x128 .bf16) (d4 : Vec F S8x128 .bf16) (d5 : Vec F S8x128 .f32) (d6 : Vec F S8x128 .f32) (d7 : Vec F S2x256x128 .bf16) (d8 : Vec F S2x256x128 .bf16) (d9 : Vec F S32x256 .f32) (d10 : Vec F S128x128 .f32)

theorem owns_univ {sp : Space} {s : Shape} {e : EltTy} (m : Memref sig .tc sp s e) (h : m.IsWhole) (x : s.Idx → Elt F e) :
    (owns (c : Thread nD τ) m fullShare x : sProp 𝕄) ⊢ (m.view.loc (c : Thread nD τ) ↦[Finset.univ]{fullShare} h.unread x) := by
  unfold owns
  iintro ⟨%f, %hf, H⟩
  obtain rfl := h.eq_unread hf
  rw [h.set_eq_univ]
  iexact H

theorem univ_owns {sp : Space} {s : Shape} {e : EltTy} (m : Memref sig .tc sp s e) (h : m.IsWhole) (f : m.view.ty.Contents (Elt F)) (x : s.Idx → Elt F e) (hx : m.view.read (Elt F) f = x) :
    (m.view.loc (c : Thread nD τ) ↦[Finset.univ]{fullShare} f : sProp 𝕄) ⊢ owns (c : Thread nD τ) m fullShare x := by
  unfold owns
  iintro H
  iexists f
  isplitr
  · ipureintro; exact hx
  rw [h.set_eq_univ]
  iexact H

/-- The body, from the blocks its operands hold. -/
theorem body_owns (htw : ∀ i < 1024, (tw (F := F) arg1 (harg1.unread d1) i).toNat = (pgs i).val)
    (hv0 : w0 arg0 c (harg0.unread d0) = BitVec.ofNat 32 p) (h01 : w1 arg0 c (harg0.unread d0) = 1#32 ∨ w1 arg0 c (harg0.unread d0) = 0#32) :
    (iprop(owns (c : Thread nD τ) arg0 fullShare d0 ∗ owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10
        ∗ (∃ d, owns (c : Thread nD τ) arg13 fullShare d) ∗ (∃ d, owns (c : Thread nD τ) arg14 fullShare d) ∗ (∃ d, owns (c : Thread nD τ) arg15 fullShare d)
        ∗ (∃ f : Buf (Elt F) (arg16.view.loc (c : Thread nD τ)), arg16.view.loc (c : Thread nD τ) ↦{fullShare} f) ∗ (∃ f : Buf (Elt F) (arg17.view.loc (c : Thread nD τ)), arg17.view.loc (c : Thread nD τ) ↦{fullShare} f) ∗ (∃ f : Buf (Elt F) (arg18.view.loc (c : Thread nD τ)), arg18.view.loc (c : Thread nD τ) ↦{fullShare} f)
        ∗ cells arg19 c ∗ cells arg20 c ∗ poolPt arg11 c plK fullShare ∗ poolPt arg12 c plV fullShare ∗ Owes c) : sProp 𝕄)
      ⊢ wp frame (wpE defs 𝒱 (c : Thread nD τ) bd) Set.univ (cc0_paged_fp8_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20)
        fun _ => iprop(owns (c : Thread nD τ) arg0 fullShare d0 ∗ owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10
        ∗ owns (c : Thread nD τ) arg13 fullShare (outY arg0 arg2 arg3 arg4 arg5 arg6 arg7 arg8 arg9 arg10 arg11 arg12 arg16 arg17 c plK plV pgs p hp (harg0.unread d0) (harg2.unread d2) (harg3.unread d3) (harg4.unread d4) (harg5.unread d5) (harg6.unread d6) (harg7.unread d7) (harg8.unread d8) (harg9.unread d9) (harg10.unread d10))
        ∗ owns (c : Thread nD τ) arg14 fullShare (codeK arg3 arg5 c (harg3.unread d3) (harg5.unread d5))
        ∗ owns (c : Thread nD τ) arg15 fullShare (codeV arg4 arg6 c (harg4.unread d4) (harg6.unread d6))
        ∗ (∃ f : Buf (Elt F) (arg16.view.loc (c : Thread nD τ)), arg16.view.loc (c : Thread nD τ) ↦{fullShare} f) ∗ (∃ f : Buf (Elt F) (arg17.view.loc (c : Thread nD τ)), arg17.view.loc (c : Thread nD τ) ↦{fullShare} f) ∗ (∃ f : Buf (Elt F) (arg18.view.loc (c : Thread nD τ)), arg18.view.loc (c : Thread nD τ) ↦{fullShare} f)
        ∗ cells arg19 c ∗ cells arg20 c ∗ poolPt arg11 c plK fullShare ∗ poolPt arg12 c plV fullShare ∗ Owes c) := by
  iintro ⟨H0, H1, H2, H3, H4, H5, H6, H7, H8, H9, H10, ⟨%e13, H13⟩, ⟨%e14, H14⟩, ⟨%e15, H15⟩, ⟨%f16, H16⟩, ⟨%f17, H17⟩, ⟨%f18, H18⟩, HcK, HcV, HpK, HpV, HW⟩
  ihave H0 := (owns_univ c arg0 harg0 _) $$ H0
  ihave H2 := (owns_univ c arg2 harg2 _) $$ H2
  ihave H3 := (owns_univ c arg3 harg3 _) $$ H3
  ihave H4 := (owns_univ c arg4 harg4 _) $$ H4
  ihave H5 := (owns_univ c arg5 harg5 _) $$ H5
  ihave H6 := (owns_univ c arg6 harg6 _) $$ H6
  ihave H7 := (owns_univ c arg7 harg7 _) $$ H7
  ihave H8 := (owns_univ c arg8 harg8 _) $$ H8
  ihave H9 := (owns_univ c arg9 harg9 _) $$ H9
  ihave H10 := (owns_univ c arg10 harg10 _) $$ H10
  ihave H13 := (owns_univ c arg13 harg13 _) $$ H13
  ihave H14 := (owns_univ c arg14 harg14 _) $$ H14
  ihave H15 := (owns_univ c arg15 harg15 _) $$ H15
  ihave H1 := (LaneScatter.owns_raw (c : Thread nD τ) arg1 harg1 _) $$ H1
  ihave HK := (ring_enter arg16 arg11 arg19 c plK pgs harg16.set_eq_univ f16) $$ [HcK H16 HpK]
  · isplitl [HcK]; · iexact HcK
    isplitl [H16]; · iexact H16
    iexact HpK
  icases HK with ⟨HK, HrK⟩
  ihave HV := (ring_enter arg17 arg12 arg20 c plV pgs harg17.set_eq_univ f17) $$ [HcV H17 HpV]
  · isplitl [HcV]; · iexact HcV
    isplitl [H17]; · iexact H17
    iexact HpV
  icases HV with ⟨HV, HrV⟩
  iapply (wp_wand _ _ _) $$ [H0 H1 H2 H3 H4 H5 H6 H7 H8 H9 H10 H13 H14 H15 H18 HK HV HW]
  · iapply (body_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs (harg1.unread d1) fullShare htw p hp (harg0.unread d0) (harg2.unread d2) (harg3.unread d3) (harg4.unread d4) (harg5.unread d5) (harg6.unread d6) (harg7.unread d7) (harg8.unread d8) (harg9.unread d9) (harg10.unread d10) hv0 h01 (harg13.unread e13) (harg14.unread e14) (harg15.unread e15))
    unfold Ins Main Ex78
    isplitl [H0 H2 H3 H4 H5 H6 H9 H10]
    · isplitl [H0]; · iexact H0
      isplitl [H2]; · iexact H2
      isplitl [H3]; · iexact H3
      isplitl [H4]; · iexact H4
      isplitl [H5]; · iexact H5
      isplitl [H6]; · iexact H6
      isplitl [H9]; · iexact H9
      iexact H10
    isplitl [H1 H7 H8 H18 HK HV HW]
    · isplitl [HK]; · iexact HK
      isplitl [HV]; · iexact HV
      isplitl [H1]; · iexact H1
      isplitl [HW]; · iexact HW
      isplitl [H18]; · iexists f18; iexact H18
      isplitl [H7]; · iexact H7
      iexact H8
    isplitl [H13]; · iexact H13
    isplitl [H14]; · iexact H14
    iexact H15
  unfold Ins Main Ex78 Out8 Out128
  iintro %u ⟨⟨H0, H2, H3, H4, H5, H6, H9, H10⟩, ⟨HK, HV, H1, HW, ⟨%Y, H18⟩, H7, H8⟩, ⟨%g13, %hg13, H13⟩, ⟨%g14, %hg14, H14⟩, ⟨%g15, %hg15, H15⟩⟩
  have z2 : (![0, 0] : Fin 2 → ℕ) = fun _ => 0 := by funext a; fin_cases a <;> rfl
  have hg13' := (acc_zero arg13 z2 inb_S128x128_S128x128_0_0 g13).symm.trans hg13
  have hg14' := (acc_zero arg14 z2 inb_S8x128_S8x128_0_0 g14).symm.trans hg14
  have hg15' := (acc_zero arg15 z2 inb_S8x128_S8x128_0_0 g15).symm.trans hg15
  ihave HK := (ring_exit arg16 arg11 arg19 c plK pgs harg16.set_eq_univ) $$ [HK HrK]
  · isplitl [HK]; · iexact HK
    iexact HrK
  icases HK with ⟨HcK, ⟨%k16, H16⟩, HpK⟩
  ihave HV := (ring_exit arg17 arg12 arg20 c plV pgs harg17.set_eq_univ) $$ [HV HrV]
  · isplitl [HV]; · iexact HV
    iexact HrV
  icases HV with ⟨HcV, ⟨%k17, H17⟩, HpV⟩
  isplitl [H0]; · iapply (univ_owns c arg0 harg0 _ _ (harg0.read_unread d0)); iexact H0
  isplitl [H1]; · iapply (LaneScatter.raw_owns (c : Thread nD τ) arg1 (harg1.read_unread d1)); iexact H1
  isplitl [H2]; · iapply (univ_owns c arg2 harg2 _ _ (harg2.read_unread d2)); iexact H2
  isplitl [H3]; · iapply (univ_owns c arg3 harg3 _ _ (harg3.read_unread d3)); iexact H3
  isplitl [H4]; · iapply (univ_owns c arg4 harg4 _ _ (harg4.read_unread d4)); iexact H4
  isplitl [H5]; · iapply (univ_owns c arg5 harg5 _ _ (harg5.read_unread d5)); iexact H5
  isplitl [H6]; · iapply (univ_owns c arg6 harg6 _ _ (harg6.read_unread d6)); iexact H6
  isplitl [H7]; · iapply (univ_owns c arg7 harg7 _ _ (harg7.read_unread d7)); iexact H7
  isplitl [H8]; · iapply (univ_owns c arg8 harg8 _ _ (harg8.read_unread d8)); iexact H8
  isplitl [H9]; · iapply (univ_owns c arg9 harg9 _ _ (harg9.read_unread d9)); iexact H9
  isplitl [H10]; · iapply (univ_owns c arg10 harg10 _ _ (harg10.read_unread d10)); iexact H10
  isplitl [H13]; · iapply (univ_owns c arg13 harg13 _ _ hg13'); iexact H13
  isplitl [H14]; · iapply (univ_owns c arg14 harg14 _ _ hg14'); iexact H14
  isplitl [H15]; · iapply (univ_owns c arg15 harg15 _ _ hg15'); iexact H15
  isplitl [H16]; · iexists k16; iexact H16
  isplitl [H17]; · iexists k17; iexact H17
  isplitl [H18]; · iexists Y; iexact H18
  isplitl [HcK]; · iexact HcK
  isplitl [HcV]; · iexact HcV
  isplitl [HpK]; · iexact HpK
  isplitl [HpV]; · iexact HpV
  iexact HW

end

end Cert.KernelIdeal.Hand

end
-- ==== Proof.Run.lean ====
/-
  The launch: the proof data, the body obligation, the run with what every array ends at, and the frame — the program ends,
  nothing faults, the arguments end unchanged and every semaphore counter ends at zero.
-/
module

public import proofs.«01_k».proof.Proof.Owned
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.LaneScatter.Own

@[expose] public section

set_option synthInstance.maxSize 4096

set_option maxRecDepth 16384

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The body writes no unscoped buffer itself. -/
def R0 : Finset (Ref sig .tc) := ∅

/-! ## The program up to the region -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## What the body holds beside its windows -/

abbrev ms0_0 (t : Fin cfg0.N) : Memref sig .tc .smem S2 .i32 := win0_0.stage (cfg0.slots t 0)
abbrev hs0_0 (t : Fin cfg0.N) : (ms0_0 t).IsWhole := hstage0_0 0
abbrev ms0_1 (t : Fin cfg0.N) : Memref sig .tc .smem S1024 .i32 := win0_1.stage (cfg0.slots t 1)
abbrev hs0_1 (t : Fin cfg0.N) : (ms0_1 t).IsWhole := hstage0_1 0
abbrev ms0_2 (t : Fin cfg0.N) : Memref sig .tc .vmem S128x256 .bf16 := win0_2.stage (cfg0.slots t 2)
abbrev hs0_2 (t : Fin cfg0.N) : (ms0_2 t).IsWhole := hstage0_2 0
abbrev ms0_3 (t : Fin cfg0.N) : Memref sig .tc .vmem S8x128 .bf16 := win0_3.stage (cfg0.slots t 3)
abbrev hs0_3 (t : Fin cfg0.N) : (ms0_3 t).IsWhole := hstage0_3 0
abbrev ms0_4 (t : Fin cfg0.N) : Memref sig .tc .vmem S8x128 .bf16 := win0_4.stage (cfg0.slots t 4)
abbrev hs0_4 (t : Fin cfg0.N) : (ms0_4 t).IsWhole := hstage0_4 0
abbrev ms0_5 (t : Fin cfg0.N) : Memref sig .tc .vmem S8x128 .f32 := win0_5.stage (cfg0.slots t 5)
abbrev hs0_5 (t : Fin cfg0.N) : (ms0_5 t).IsWhole := hstage0_5 0
abbrev ms0_6 (t : Fin cfg0.N) : Memref sig .tc .vmem S8x128 .f32 := win0_6.stage (cfg0.slots t 6)
abbrev hs0_6 (t : Fin cfg0.N) : (ms0_6 t).IsWhole := hstage0_6 0
abbrev ms0_7 (t : Fin cfg0.N) : Memref sig .tc .vmem S2x256x128 .bf16 := win0_7.stage (cfg0.slots t 7)
abbrev hs0_7 (t : Fin cfg0.N) : (ms0_7 t).IsWhole := hstage0_7 0
abbrev ms0_8 (t : Fin cfg0.N) : Memref sig .tc .vmem S2x256x128 .bf16 := win0_8.stage (cfg0.slots t 8)
abbrev hs0_8 (t : Fin cfg0.N) : (ms0_8 t).IsWhole := hstage0_8 0
abbrev ms0_9 (t : Fin cfg0.N) : Memref sig .tc .vmem S32x256 .f32 := win0_9.stage (cfg0.slots t 9)
abbrev hs0_9 (t : Fin cfg0.N) : (ms0_9 t).IsWhole := hstage0_9 0
abbrev ms0_10 (t : Fin cfg0.N) : Memref sig .tc .vmem S128x128 .f32 := win0_10.stage (cfg0.slots t 10)
abbrev hs0_10 (t : Fin cfg0.N) : (ms0_10 t).IsWhole := hstage0_10 0
abbrev ms0_11 (t : Fin cfg0.N) : Memref sig .tc .vmem S128x128 .bf16 := win0_11.stage (cfg0.slots t 11)
abbrev hs0_11 (t : Fin cfg0.N) : (ms0_11 t).IsWhole := hstage0_11 0
abbrev ms0_12 (t : Fin cfg0.N) : Memref sig .tc .vmem S8x128 .fp8e4m3 := win0_12.stage (cfg0.slots t 12)
abbrev hs0_12 (t : Fin cfg0.N) : (ms0_12 t).IsWhole := hstage0_12 0
abbrev ms0_13 (t : Fin cfg0.N) : Memref sig .tc .vmem S8x128 .fp8e4m3 := win0_13.stage (cfg0.slots t 13)
abbrev hs0_13 (t : Fin cfg0.N) : (ms0_13 t).IsWhole := hstage0_13 0

/-- The body's twelve DMA cells, six for the keys' ring and six for the values'. -/
abbrev osem0 : Fin 12 → SemLoc sig := fun j => (![SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 12 → SemLoc sig) j
theorem ownSemFacts0 : Pipeline.OwnSemFacts spec0 osem0 := by decide
theorem cells_list (sems : DmaSems sig S6) (c : Dev nD) : (cells (F := F) sems c : sProp 𝕄)
    = iprop(semVal ((c : Thread nD τ), SemLoc.dma (cellOf sems 0)) 0 ∗ semVal ((c : Thread nD τ), SemLoc.dma (cellOf sems 1)) 0 ∗ semVal ((c : Thread nD τ), SemLoc.dma (cellOf sems 2)) 0 ∗ semVal ((c : Thread nD τ), SemLoc.dma (cellOf sems 3)) 0 ∗ semVal ((c : Thread nD τ), SemLoc.dma (cellOf sems 4)) 0 ∗ semVal ((c : Thread nD τ), SemLoc.dma (cellOf sems 5)) 0) := by
  unfold cells
  rw [BI.bigSep_eq_bigSepL_of_eq [0, 1, 2, 3, 4, 5] (by decide) (by decide)]
  rfl
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9, 10, 11] (by decide) (by decide)]; rfl
/-- The two caches, left in HBM. -/
def H0 : Finset (Ref sig .tc) := {main_v52, main_v53}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v52) ↦{fullShare} V m c main_v52) ∗ (((c : Thread nD τ).loc main_v53) ↦{fullShare} V m c main_v53)) := by
  rw [BI.bigSep_eq_bigSepL_of_eq [main_v52, main_v53] (by decide) (by decide)]; rfl
theorem poolPt_whole (pool : Memref sig .tc .hbm S1024x1024x128 .fp8e4m3) (h : pool.IsWhole) (c : Dev nD) (pl : Buf (Elt F) (pool.view.loc (c : Thread nD τ))) :
    (poolPt pool c pl fullShare : sProp 𝕄) = (pool.view.loc (c : Thread nD τ) ↦{fullShare} pl) := by
  unfold poolPt
  rw [h.set_eq_univ]
theorem R0_sub : R0 ⊆ Pipeline.restRefs sig spec0 \ H0 := Finset.empty_subset _

/-! ## The values -/

/-- The position and the page numbers, as the region finds them. -/
abbrev X0 (c : Dev nD) (t : Fin cfg0.N) : Buf (Elt F) ((ms0_0 t).view.loc (c : Thread nD τ)) := (hs0_0 t).unread (iblk m c 0 t)
def pos (c : Dev nD) (t : Fin cfg0.N) : ℕ := (w0 (ms0_0 t) c (X0 m c t)).toNat % 131072
theorem pos_lt (c : Dev nD) (t : Fin cfg0.N) : pos m c t < 131072 := Nat.mod_lt _ (Nat.succ_pos _)
def pgOf (c : Dev nD) (t : Fin cfg0.N) (i : ℕ) : Fin 1024 :=
  ⟨(tw (F := F) (ms0_1 t) ((hs0_1 t).unread (iblk m c 1 t)) i).toNat % 1024, Nat.mod_lt _ (Nat.succ_pos _)⟩

/-- What the three results' staging buffers hold after the body. -/
def yAt (c : Dev nD) (t : Fin cfg0.N) : Vec F S128x128 .bf16 :=
  outY (ms0_0 t) (ms0_2 t) (ms0_3 t) (ms0_4 t) (ms0_5 t) (ms0_6 t) (ms0_7 t) (ms0_8 t) (ms0_9 t) (ms0_10 t) (Memref.whole main_v52) (Memref.whole main_v53) (Memref.whole cc0_scratch0) (Memref.whole cc0_scratch1) c (V m c main_v52) (V m c main_v53) (pgOf m c t) (pos m c t) (pos_lt m c t)
    ((hs0_0 t).unread (iblk m c 0 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t))
def kAt (c : Dev nD) (t : Fin cfg0.N) : Vec F S8x128 .fp8e4m3 := codeK (ms0_3 t) (ms0_5 t) c ((hs0_3 t).unread (iblk m c 3 t)) ((hs0_5 t).unread (iblk m c 5 t))
def vAt (c : Dev nD) (t : Fin cfg0.N) : Vec F S8x128 .fp8e4m3 := codeV (ms0_4 t) (ms0_6 t) c ((hs0_4 t).unread (iblk m c 4 t)) ((hs0_6 t).unread (iblk m c 6 t))

/-- What is asked of the words: the position and every page number in range, the flag 0 or 1. -/
structure Good (c : Dev nD) (t : Fin cfg0.N) : Prop where
  pos : (w0 (ms0_0 t) c (X0 m c t)).toNat < 131072
  flag : w1 (ms0_0 t) c (X0 m c t) = 1#32 ∨ w1 (ms0_0 t) c (X0 m c t) = 0#32
  pages : ∀ i < 1024, (tw (F := F) (ms0_1 t) ((hs0_1 t).unread (iblk m c 1 t)) i).toNat < 1024

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, _⟩ => kAt m c t
    | ⟨13, _⟩ => vAt m c t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = yAt m c t := by dsimp only [dats]
theorem after0_12 (c : Dev nD) (t : Fin cfg0.N) : (dats m 0 c).after 12 t = kAt m c t := by dsimp only [dats]
theorem after0_13 (c : Dev nD) (t : Fin cfg0.N) : (dats m 0 c).after 13 t = vAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t))

set_option maxHeartbeats 800000 in
theorem sound_body (c : Dev nD) (t : Fin cfg0.N) (hg : Good m c t) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, after0_9, after0_10, after0_11, after0_12, after0_13]
  simp only [before0_0, before0_1, before0_2, before0_3, before0_4, before0_5, before0_6, before0_7, before0_8, before0_9, before0_10]
  rw [show (dats m 0 c).Φ t.castSucc = Pipeline.ΦDR osem0 spec0 H0 R0 (V m) c from rfl, Pipeline.ΦDR_eq, scopedRest0_eq, ownSems00_eq, hbmPts0_eq]
  unfold Dat.owesAt Pipeline.owesWithin
  rw [show (dats m 0 c).owed t.castSucc = 0 from rfl, show (dats m 0 c).owed t.succ = 0 from rfl]
  have htw : ∀ i < 1024, (tw (F := F) (ms0_1 t) ((hs0_1 t).unread (iblk m c 1 t)) i).toNat = (pgOf m c t i).val := fun i hi => by
    unfold pgOf; exact (Nat.mod_eq_of_lt (hg.pages i hi)).symm
  have hv0 : w0 (ms0_0 t) c (X0 m c t) = BitVec.ofNat 32 (pos m c t) := by
    unfold pos; rw [Nat.mod_eq_of_lt hg.pos, BitVec.ofNat_toNat, BitVec.setWidth_eq]
  have hB := body_owns (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (Memref.whole main_v52) (Memref.isWhole_whole _) (Memref.whole main_v53) (Memref.isWhole_whole _) (win0_11.stage (cfg0.slots t 11)) (hstage0_11 0) (win0_12.stage (cfg0.slots t 12)) (hstage0_12 0) (win0_13.stage (cfg0.slots t 13)) (hstage0_13 0) (Memref.whole cc0_scratch0) (Memref.isWhole_whole _) (Memref.whole cc0_scratch1) (Memref.isWhole_whole _) (Memref.whole cc0_scratch2) (Memref.isWhole_whole _) cc0_scratch3 cc0_scratch4 c (defs₀ (F := F)) Variants.none none (V m c main_v52) (V m c main_v53) (pgOf m c t) (pos m c t) (pos_lt m c t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) htw hv0 hg.flag
  rw [cells_list, cells_list, poolPt_whole (Memref.whole main_v52) (Memref.isWhole_whole _), poolPt_whole (Memref.whole main_v53) (Memref.isWhole_whole _)] at hB
  iintro ⟨⟨⟨HS0, HS1, HS2⟩, Hg, ⟨Hq0, Hq1, Hq2, Hq3, Hq4, Hq5, Hq6, Hq7, Hq8, Hq9, Hq10, Hq11⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_wand _ _ _) $$ [HS0 HS1 HS2 Hq0 Hq1 Hq2 Hq3 Hq4 Hq5 Hq6 Hq7 Hq8 Hq9 Hq10 Hq11 Hh0 Hh1 HW H0 H1 H2 H3 H4 H5 H6 H7 H8 H9 H10 H11 H12 H13]
  · iapply hB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hq6 Hq7 Hq8 Hq9 Hq10 Hq11]
    · isplitl [Hq6]; · iexact Hq6
      isplitl [Hq7]; · iexact Hq7
      isplitl [Hq8]; · iexact Hq8
      isplitl [Hq9]; · iexact Hq9
      isplitl [Hq10]; · iexact Hq10
      iexact Hq11
    isplitl [Hh0]; · iexact Hh0
    isplitl [Hh1]; · iexact Hh1
    unfold Owes; iexists W; iexact HW
  unfold Owes
  iintro %u ⟨H0, H1, H2, H3, H4, H5, H6, H7, H8, H9, H10, H11, H12, H13, HS0, HS1, HS2, ⟨Hq0, Hq1, Hq2, Hq3, Hq4, Hq5⟩, ⟨Hq6, Hq7, Hq8, Hq9, Hq10, Hq11⟩, Hh0, Hh1, ⟨%W', HW'⟩⟩
  isplitl [HS0 HS1 HS2 Hg Hr Hq0 Hq1 Hq2 Hq3 Hq4 Hq5 Hq6 Hq7 Hq8 Hq9 Hq10 Hq11 Hh0 Hh1]
  · isplitl [HS0 HS1 HS2]
    · isplitl [HS0]; · iexact HS0
      isplitl [HS1]; · iexact HS1
      iexact HS2
    isplitl [Hg]; · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0 Hh1]
    · isplitl [Hh0]; · iexact Hh0
      iexact Hh1
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) (hg : ∀ t, Good m c t) : BodyObligation (dats (F := F) m 0 c) (defs₀ (F := F)) Variants.none () Set.univ := fun t => by
  rw [bigSep_W0, bigSep_W0, defs₀_row]
  exact triple_restated (sound_body m c t (hg t)) rfl .rfl fun _ => .rfl

/-! ## The run and the frame -/

set_option backward.isDefEq.respectTransparency.types false in
theorem run_main (hg : ∀ c t, Good m c t) : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c (hg c)).loose) (hshare := fun c => (dats m 0 c).share_full fun _ => rfl)
    (howed := fun _ _ => rfl) (V := V m) (hmain := hmainD m Variants.none) (hA := A_eq m)
    (hin := fun _ => .rfl) (hout := fun _ => .rfl)

theorem args_of {r : PUnit × MemSt nD τ sig (Elt F)} (h : Pipeline.FramePostR cfgs (dats m) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Finset.mem_sdiff.mpr ⟨Pipeline.mem_restRefs_of main_arg0 (by decide) (by decide), by decide⟩)).trans (V_main_arg0 m c),
   ((h c).2 main_arg1 (Finset.mem_sdiff.mpr ⟨Pipeline.mem_restRefs_of main_arg1 (by decide) (by decide), by decide⟩)).trans (V_main_arg1 m c),
   ((h c).2 main_arg2 (Finset.mem_sdiff.mpr ⟨Pipeline.mem_restRefs_of main_arg2 (by decide) (by decide), by decide⟩)).trans (V_main_arg2 m c),
   ((h c).2 main_arg3 (Finset.mem_sdiff.mpr ⟨Pipeline.mem_restRefs_of main_arg3 (by decide) (by decide), by decide⟩)).trans (V_main_arg3 m c),
   ((h c).2 main_arg4 (Finset.mem_sdiff.mpr ⟨Pipeline.mem_restRefs_of main_arg4 (by decide) (by decide), by decide⟩)).trans (V_main_arg4 m c),
   ((h c).2 main_arg5 (Finset.mem_sdiff.mpr ⟨Pipeline.mem_restRefs_of main_arg5 (by decide) (by decide), by decide⟩)).trans (V_main_arg5 m c),
   ((h c).2 main_arg6 (Finset.mem_sdiff.mpr ⟨Pipeline.mem_restRefs_of main_arg6 (by decide) (by decide), by decide⟩)).trans (V_main_arg6 m c),
   ((h c).2 main_arg7 (Finset.mem_sdiff.mpr ⟨Pipeline.mem_restRefs_of main_arg7 (by decide) (by decide), by decide⟩)).trans (V_main_arg7 m c),
   ((h c).2 main_arg8 (Finset.mem_sdiff.mpr ⟨Pipeline.mem_restRefs_of main_arg8 (by decide) (by decide), by decide⟩)).trans (V_main_arg8 m c),
   ((h c).2 main_arg9 (Finset.mem_sdiff.mpr ⟨Pipeline.mem_restRefs_of main_arg9 (by decide) (by decide), by decide⟩)).trans (V_main_arg9 m c),
   ((h c).2 main_arg10 (Finset.mem_sdiff.mpr ⟨Pipeline.mem_restRefs_of main_arg10 (by decide) (by decide), by decide⟩)).trans (V_main_arg10 m c),
   ((h c).2 main_arg11 (Finset.mem_sdiff.mpr ⟨Pipeline.mem_restRefs_of main_arg11 (by decide) (by decide), by decide⟩)).trans (V_main_arg11 m c)⟩

/-- The frame. -/
theorem frame_run (hg : ∀ c t, Good m c t) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨args_of m h.1, h.2⟩) (run_main m ρ hg)

end Cert.KernelIdeal.Hand

end
-- ==== Proof.Host.lean ====
/-
  What the host lines before the region leave in the words the kernel reads, and what each window's block is.
-/
module

public import proofs.«01_k».proof.Proof.Run
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.ReadAt
public import Idealize.ShloMosaic.Lib.LaneScatter.Own

@[expose] public section

set_option synthInstance.maxSize 4096

set_option maxRecDepth 16384

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The position, the flag and the page table, in the words the kernel reads. -/
theorem V8_0 (c : Dev nD) (j : S2.Idx) (hj : (j 0).val = 0) :
    V m c main_v8 j = m (c, Proc.tc.devRef main_arg8) (ix1 0) := by
  unfold V
  simp only [hostOps0, hostOps0_1, hostOps0_2, hostOps0_3, hostOps0_4, List.flatten_cons, List.flatten_nil, List.append_nil, List.cons_append, List.nil_append]
  after_reads_at
  rw [dif_pos (by omega)]
theorem V8_1 (c : Dev nD) (j : S2.Idx) (hj : (j 0).val = 1) :
    V m c main_v8 j = BitVec.setWidth 32 (IntOp.cmpi CmpIPredicate.ne (m (c, Proc.tc.devRef main_arg9) (ix1 0)) 0#32) := by
  unfold V
  simp only [hostOps0, hostOps0_1, hostOps0_2, hostOps0_3, hostOps0_4, List.flatten_cons, List.flatten_nil, List.append_nil, List.cons_append, List.nil_append]
  after_reads_at
  rw [dif_neg (by omega)]
theorem V33 (c : Dev nD) (j : S1024.Idx) :
    V m c main_v33 j = m (c, Proc.tc.devRef main_arg7) (Idealize.ShloMosaic.ix2 0 (j 0)) := by
  unfold V
  simp only [hostOps0, hostOps0_1, hostOps0_2, hostOps0_3, hostOps0_4, List.flatten_cons, List.flatten_nil, List.append_nil, List.cons_append, List.nil_append]
  after_reads_at

theorem emb0 (t : Fin cfg0.N) (j : S2.Idx) : ((cfg0.win 0).blk t).view.emb j = j := by
  funext a
  exact Fin.ext (match a with
    | ⟨0, _⟩ => by show 0 * 2 + 1 * (j 0).val = (j 0).val; omega)
theorem iblk0_eq (c : Dev nD) (t : Fin cfg0.N) : iblk m c 0 t = V m c main_v8 := by
  funext j; show V m c main_v8 (((cfg0.win 0).blk t).view.emb j) = V m c main_v8 j; rw [emb0]
theorem emb1 (t : Fin cfg0.N) (j : S1024.Idx) : ((cfg0.win 1).blk t).view.emb j = j := by
  funext a
  exact Fin.ext (match a with
    | ⟨0, _⟩ => by show 0 * 1024 + 1 * (j 0).val = (j 0).val; omega)
theorem iblk1_eq (c : Dev nD) (t : Fin cfg0.N) : iblk m c 1 t = V m c main_v33 := by
  funext j; show V m c main_v33 (((cfg0.win 1).blk t).view.emb j) = V m c main_v33 j; rw [emb1]
theorem emb2 (t : Fin cfg0.N) (j : S128x256.Idx) : ((cfg0.win 2).blk t).view.emb j = j := by
  funext a
  exact Fin.ext (match a with
    | ⟨0, _⟩ => by show 0 * 128 + 1 * (j 0).val = (j 0).val; omega
    | ⟨1, _⟩ => by show 0 * 256 + 1 * (j 1).val = (j 1).val; omega)
theorem iblk2_eq (c : Dev nD) (t : Fin cfg0.N) : iblk m c 2 t = V m c main_v19 := by
  funext j; show V m c main_v19 (((cfg0.win 2).blk t).view.emb j) = V m c main_v19 j; rw [emb2]
theorem emb3 (t : Fin cfg0.N) (j : S8x128.Idx) : ((cfg0.win 3).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk3_eq (c : Dev nD) (t : Fin cfg0.N) : iblk m c 3 t = V m c main_v34 := by
  funext j; show V m c main_v34 (((cfg0.win 3).blk t).view.emb j) = V m c main_v34 j; rw [emb3]
theorem emb4 (t : Fin cfg0.N) (j : S8x128.Idx) : ((cfg0.win 4).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk4_eq (c : Dev nD) (t : Fin cfg0.N) : iblk m c 4 t = V m c main_v35 := by
  funext j; show V m c main_v35 (((cfg0.win 4).blk t).view.emb j) = V m c main_v35 j; rw [emb4]
theorem emb5 (t : Fin cfg0.N) (j : S8x128.Idx) : ((cfg0.win 5).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk5_eq (c : Dev nD) (t : Fin cfg0.N) : iblk m c 5 t = V m c main_v37 := by
  funext j; show V m c main_v37 (((cfg0.win 5).blk t).view.emb j) = V m c main_v37 j; rw [emb5]
theorem emb6 (t : Fin cfg0.N) (j : S8x128.Idx) : ((cfg0.win 6).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk6_eq (c : Dev nD) (t : Fin cfg0.N) : iblk m c 6 t = V m c main_v39 := by
  funext j; show V m c main_v39 (((cfg0.win 6).blk t).view.emb j) = V m c main_v39 j; rw [emb6]
theorem emb7 (t : Fin cfg0.N) (j : S2x256x128.Idx) : ((cfg0.win 7).blk t).view.emb j = j := by
  funext a
  exact Fin.ext (match a with
    | ⟨0, _⟩ => by show 0 * 2 + 1 * (j 0).val = (j 0).val; omega
    | ⟨1, _⟩ => by show 0 * 256 + 1 * (j 1).val = (j 1).val; omega
    | ⟨2, _⟩ => by show 0 * 128 + 1 * (j 2).val = (j 2).val; omega)
theorem iblk7_eq (c : Dev nD) (t : Fin cfg0.N) : iblk m c 7 t = V m c main_v45 := by
  funext j; show V m c main_v45 (((cfg0.win 7).blk t).view.emb j) = V m c main_v45 j; rw [emb7]
theorem emb8 (t : Fin cfg0.N) (j : S2x256x128.Idx) : ((cfg0.win 8).blk t).view.emb j = j := by
  funext a
  exact Fin.ext (match a with
    | ⟨0, _⟩ => by show 0 * 2 + 1 * (j 0).val = (j 0).val; omega
    | ⟨1, _⟩ => by show 0 * 256 + 1 * (j 1).val = (j 1).val; omega
    | ⟨2, _⟩ => by show 0 * 128 + 1 * (j 2).val = (j 2).val; omega)
theorem iblk8_eq (c : Dev nD) (t : Fin cfg0.N) : iblk m c 8 t = V m c main_v51 := by
  funext j; show V m c main_v51 (((cfg0.win 8).blk t).view.emb j) = V m c main_v51 j; rw [emb8]
theorem emb9 (t : Fin cfg0.N) (j : S32x256.Idx) : ((cfg0.win 9).blk t).view.emb j = j := by
  funext a
  exact Fin.ext (match a with
    | ⟨0, _⟩ => by show 0 * 32 + 1 * (j 0).val = (j 0).val; omega
    | ⟨1, _⟩ => by show 0 * 256 + 1 * (j 1).val = (j 1).val; omega)
theorem iblk9_eq (c : Dev nD) (t : Fin cfg0.N) : iblk m c 9 t = V m c main_v28 := by
  funext j; show V m c main_v28 (((cfg0.win 9).blk t).view.emb j) = V m c main_v28 j; rw [emb9]
theorem emb10 (t : Fin cfg0.N) (j : S128x128.Idx) : ((cfg0.win 10).blk t).view.emb j = j := by
  funext a
  exact Fin.ext (match a with
    | ⟨0, _⟩ => by show 0 * 128 + 1 * (j 0).val = (j 0).val; omega
    | ⟨1, _⟩ => by show 0 * 128 + 1 * (j 1).val = (j 1).val; omega)
theorem iblk10_eq (c : Dev nD) (t : Fin cfg0.N) : iblk m c 10 t = V m c main_v32 := by
  funext j; show V m c main_v32 (((cfg0.win 10).blk t).view.emb j) = V m c main_v32 j; rw [emb10]
theorem emb11 (t : Fin cfg0.N) (j : S128x128.Idx) : ((cfg0.win 11).blk t).view.emb j = j := by
  funext a
  exact Fin.ext (match a with
    | ⟨0, _⟩ => by show 0 * 128 + 1 * (j 0).val = (j 0).val; omega
    | ⟨1, _⟩ => by show 0 * 128 + 1 * (j 1).val = (j 1).val; omega)
theorem emb12 (t : Fin cfg0.N) (j : S8x128.Idx) : ((cfg0.win 12).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem emb13 (t : Fin cfg0.N) (j : S8x128.Idx) : ((cfg0.win 13).blk t).view.emb j = j := by
  funext a
  exact Fin.ext (match a with
    | ⟨0, _⟩ => by show 0 * 8 + 1 * (j 0).val = (j 0).val; omega
    | ⟨1, _⟩ => by show 0 * 128 + 1 * (j 1).val = (j 1).val; omega)

theorem acc_unread {κ : Kind} {sp : Space} {s : Shape} {e : EltTy} (M : Memref sig κ sp s e) (h : M.IsWhole) (x : s.Idx → Elt F e) (r : Rect s) (y : r.shape.Idx) :
    (M.access r).read (Elt F) (h.unread x) y = x (r.emb y) := congrFun (h.read_unread x) (r.emb y)

/-- The one coordinate a word's rectangle names. -/
theorem word_at {n : ℕ} (o : Fin 1 → ℕ) (h : ∀ a, o a + S1.size a ≤ (⟨1, ![n]⟩ : Shape).size a) (y : (Rect.unit (s := ⟨1, ![n]⟩) o S1.size h).shape.Idx) :
    ((Rect.unit (s := ⟨1, ![n]⟩) o S1.size h).emb y 0).val = o 0 := by
  have hy : (y 0).val < 1 := (y 0).isLt
  show o 0 + 1 * (y 0).val = o 0
  omega

theorem w0_eq (c : Dev nD) (t : Fin cfg0.N) : w0 (ms0_0 t) c (X0 m c t) = m (c, Proc.tc.devRef main_arg8) (ix1 0) := by
  unfold w0 X0
  rw [acc_unread, iblk0_eq]
  exact V8_0 m c _ (word_at _ _ _)
theorem w1_eq (c : Dev nD) (t : Fin cfg0.N) : w1 (ms0_0 t) c (X0 m c t) = BitVec.setWidth 32 (IntOp.cmpi CmpIPredicate.ne (m (c, Proc.tc.devRef main_arg9) (ix1 0)) 0#32) := by
  unfold w1 X0
  rw [acc_unread, iblk0_eq]
  exact V8_1 m c _ (word_at _ _ _)
theorem tw_eq (c : Dev nD) (t : Fin cfg0.N) (i : ℕ) (hi : i < 1024) :
    tw (F := F) (ms0_1 t) ((hs0_1 t).unread (iblk m c 1 t)) i = m (c, Proc.tc.devRef main_arg7) (Idealize.ShloMosaic.ix2 0 ⟨i, hi⟩) := by
  unfold tw
  rw [dif_pos hi, acc_unread, iblk1_eq, V33]
  exact congrArg _ (congrArg _ (Fin.ext (word_at _ _ _)))

theorem good (h8 : ∀ c : Dev nD, (m (c, Proc.tc.devRef main_arg8) (ix1 0)).toNat < 131072)
    (h7 : ∀ (c : Dev nD) (i : Fin 1024), (m (c, Proc.tc.devRef main_arg7) (Idealize.ShloMosaic.ix2 0 i)).toNat < 1024) (c : Dev nD) (t : Fin cfg0.N) : Good m c t where
  pos := by rw [w0_eq]; exact h8 c
  flag := by
    rw [w1_eq]
    generalize IntOp.cmpi CmpIPredicate.ne (m (c, Proc.tc.devRef main_arg9) (ix1 0)) 0#32 = b
    revert b; decide
  pages := fun i hi => by rw [tw_eq m c t i hi]; exact h7 c _

end Cert.KernelIdeal.Hand

end
-- ==== Proof.Codes.lean ====
/-
  The run of the whole kernel with the two arrays of codes read: each is the quantised row of the new token.
-/
module

public import proofs.«01_k».proof.Proof.Host
public import Idealize.ShloMosaic.Lib.Pipeline.Value
public import Idealize.ShloMosaic.Lib.StableHlo.ReadAt

@[expose] public section

set_option maxRecDepth 16384

noncomputable section

namespace Cert.KernelIdeal.Hand

open Cert.KernelIdeal Cert.KernelIdeal.Gen Cert.KernelIdeal.Words
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- A whole 8 by 128 array read at the origin is itself. -/
theorem rd8x_unread {e : EltTy} (M : Memref sig .tc .vmem S8x128 e) (h : M.IsWhole) (c : Dev nD) (x : S8x128.Idx → Elt F e) :
    rd8x c M (h.unread x) = x := by
  funext y
  show (M.access (Rect.unit (s := S8x128) ![0, 0] S8x128.size inb_S8x128_S8x128_0_0)).read (Elt F) (h.unread x) y = x y
  rw [acc_unread]
  refine congrArg x (funext fun a => Fin.ext ?_)
  match a with
  | ⟨0, _⟩ => show 0 + 1 * (y 0).val = (y 0).val; omega
  | ⟨1, _⟩ => show 0 + 1 * (y 1).val = (y 1).val; omega

def rowK (c : Dev nD) : FVec F S8x128 .fp8e4m3 := k0_pay160 (V m c main_v34) (V m c main_v37)
def rowV (c : Dev nD) : FVec F S8x128 .fp8e4m3 :=
  k0_pay1 (k0_pay161 (V m c main_v35) (V m c main_v39)) (Scalar.ofBits .f32 0xC3E00000#32) (Scalar.ofBits .f32 0x43E00000#32)

theorem kAt_eq (c : Dev nD) (t : Fin cfg0.N) : kAt m c t = rowK m c := by
  unfold kAt codeK rowK
  rw [rd8x_unread, rd8x_unread, iblk3_eq, iblk5_eq]
theorem vAt_eq (c : Dev nD) (t : Fin cfg0.N) : vAt m c t = rowV m c := by
  unfold vAt codeV rowV
  rw [rd8x_unread, rd8x_unread, iblk4_eq, iblk6_eq]

theorem flushed12_eq (c : Dev nD) (t : Fin cfg0.N) :
    (dats m 0 c).flushed 12 t = ((cfg0.win 12).blk t).view.read (Elt F) (rowK m c) := by
  show (cfg0.win 12).cut (grid0.coords t) ((dats m 0 c).after 12 t) = _
  rw [after0_12, kAt_eq]
  funext j
  show rowK m c j = rowK m c (((cfg0.win 12).blk t).view.emb j)
  rw [emb12]
theorem flushed13_eq (c : Dev nD) (t : Fin cfg0.N) :
    (dats m 0 c).flushed 13 t = ((cfg0.win 13).blk t).view.read (Elt F) (rowV m c) := by
  show (cfg0.win 13).cut (grid0.coords t) ((dats m 0 c).after 13 t) = _
  rw [after0_13, vAt_eq]
  funext j
  show rowV m c j = rowV m c (((cfg0.win 13).blk t).view.emb j)
  rw [emb13]

theorem covered12 (i : S8x128.Idx) : ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩
theorem covered13 (i : S8x128.Idx) : ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

theorem final12 (c : Dev nD) : (dats m 0 c).arrAt 12 cfg0.N = rowK m c :=
  (dats m 0 c).arrAt_eq_of_cover 12 (rowK m c) (fun t _ => flushed12_eq m c t) covered12
theorem final13 (c : Dev nD) : (dats m 0 c).arrAt 13 cfg0.N = rowV m c :=
  (dats m 0 c).arrAt_eq_of_cover 13 (rowV m c) (fun t _ => flushed13_eq m c t) covered13

/-- What the two arrays of codes hold after the run. -/
theorem codes_of {r : PUnit × MemSt nD τ sig (Elt F)} (h : Pipeline.FramePostR cfgs (dats m) 0 R0 (V m) r) (c : Dev nD) :
    r.2.mem ((c.tc : Thread nD τ).loc main_v54_1) = rowK m c ∧ r.2.mem ((c.tc : Thread nD τ).loc main_v54_2) = rowV m c :=
  ⟨((h c).1 12).trans (final12 m c), ((h c).1 13).trans (final13 m c)⟩

/-! The kernel's rows: the new token's, reshaped, and the reciprocal scales, spread along the lanes. -/

theorem V34_eq (c : Dev nD) (j : S8x128.Idx) : V m c main_v34 j = m (c, Proc.tc.devRef main_arg1) (Idealize.ShloMosaic.ix4 0 0 (j 0) (j 1)) := by
  unfold V
  simp only [hostOps0, hostOps0_1, hostOps0_2, hostOps0_3, hostOps0_4, List.flatten_cons, List.flatten_nil, List.append_nil, List.cons_append, List.nil_append]
  after_reads_at
theorem V35_eq (c : Dev nD) (j : S8x128.Idx) : V m c main_v35 j = m (c, Proc.tc.devRef main_arg2) (Idealize.ShloMosaic.ix4 0 0 (j 0) (j 1)) := by
  unfold V
  simp only [hostOps0, hostOps0_1, hostOps0_2, hostOps0_3, hostOps0_4, List.flatten_cons, List.flatten_nil, List.append_nil, List.cons_append, List.nil_append]
  after_reads_at
theorem V37_eq (c : Dev nD) (j : S8x128.Idx) : V m c main_v37 j = m (c, Proc.tc.devRef main_arg10) (Idealize.ShloMosaic.ix1 (j 0)) := by
  unfold V
  simp only [hostOps0, hostOps0_1, hostOps0_2, hostOps0_3, hostOps0_4, List.flatten_cons, List.flatten_nil, List.append_nil, List.cons_append, List.nil_append]
  after_reads_at
theorem V39_eq (c : Dev nD) (j : S8x128.Idx) : V m c main_v39 j = m (c, Proc.tc.devRef main_arg11) (Idealize.ShloMosaic.ix1 (j 0)) := by
  unfold V
  simp only [hostOps0, hostOps0_1, hostOps0_2, hostOps0_3, hostOps0_4, List.flatten_cons, List.flatten_nil, List.append_nil, List.cons_append, List.nil_append]
  after_reads_at

end Cert.KernelIdeal.Hand

end
-- ==== Proof.RefCodes.lean ====
/-
  The reference's quantiser and the kernel's, entry by entry: the same clip of the same product.
-/
module

public import proofs.«01_k».proof.Proof.Gen.ReferenceIdeal.Value
public import proofs.«01_k».proof.Proof.Gen.KernelIdeal.Skeleton
public import Idealize.ShloMosaic.Lib.ValueIdxCore
public import Idealize.ShloMosaic.Lib.Pointwise

@[expose] public section

noncomputable section

namespace Cert.ReferenceIdeal.Value

open Cert.ReferenceIdeal Cert.ReferenceIdeal.Gen
open Idealize.ShloMosaic

variable {F : FTy → Type} [FloatOps F] [Named F]

theorem row_cast {α : Type} (x : S1x1x8x128.Idx → α) (j : S8x128.Idx) :
    shapeCast S8x128 x shapeCasts_S1x1x8x128_S8x128 j = x (Idealize.ShloMosaic.ix4 0 0 (j 0) (j 1)) := by
  pointwise

theorem lane_cast {α : Type} (x : S8.Idx → α) (j : S8x128.Idx) :
    broadcastTo S8x128 (shapeCast S8x1 x shapeCasts_S8_S8x1) broadcasts_S8x1_S8x128 j = x (Idealize.ShloMosaic.ix1 (j 0)) := by
  pointwise

/-- The kernel's quantiser of rows already cast and spread, and the reference's, at one entry. -/
theorem pay160_eq (u : Vec F S8x128 .bf16) (w : Vec F S8x128 .f32) (x : Vec F S1x1x8x128 .bf16) (s : Vec F S8 .f32) (j : S8x128.Idx)
    (hu : u j = x (Idealize.ShloMosaic.ix4 0 0 (j 0) (j 1))) (hw : w j = s (Idealize.ShloMosaic.ix1 (j 0))) :
    Cert.KernelIdeal.Gen.k0_pay160 (F := F) u w j = k0_pay2 (F := F) x s j := by
  unfold Cert.KernelIdeal.Gen.k0_pay160 k0_pay2
  simp only [shapeCast_self]
  dsimp only [truncf, minimumf, maximumf, mulf, extf, broadcast]
  rw [row_cast, lane_cast, hu, hw]

theorem pay161_eq (u : Vec F S8x128 .bf16) (w : Vec F S8x128 .f32) (x : Vec F S1x1x8x128 .bf16) (s : Vec F S8 .f32) (j : S8x128.Idx)
    (hu : u j = x (Idealize.ShloMosaic.ix4 0 0 (j 0) (j 1))) (hw : w j = s (Idealize.ShloMosaic.ix1 (j 0))) :
    Cert.KernelIdeal.Gen.k0_pay1 (F := F) (Cert.KernelIdeal.Gen.k0_pay161 (F := F) u w) (Scalar.ofBits .f32 0xC3E00000#32)
      (Scalar.ofBits .f32 0x43E00000#32) j = k0_pay3 (F := F) x s j := by
  unfold Cert.KernelIdeal.Gen.k0_pay1 Cert.KernelIdeal.Gen.k0_pay161 k0_pay3
  simp only [shapeCast_self]
  dsimp only [truncf, minimumf, maximumf, mulf, extf, broadcast]
  rw [row_cast, lane_cast, hu, hw]

end Cert.ReferenceIdeal.Value

end
-- ==== Proof.Softmax.lean ====
/-
  The softmax of a list read block by block: rescaling the running sums, and the base-two form against the natural one, over
  the extended reals.
-/
module

public import Idealize.ShloMosaic.PureOps.Ideal.Laws

@[expose] public section

noncomputable section

namespace Cert.Online

open Idealize.ShloMosaic

theorem exp2_nonneg (x : EReal) : 0 ≤ Ideal.exp2 x := by
  induction x with
  | bot => simp
  | top => simp
  | coe r => rw [Ideal.exp2_coe]; exact_mod_cast Real.rpow_nonneg (by norm_num) r

theorem exp2_ne_top {x : EReal} (h : x ≤ 0) : Ideal.exp2 x ≠ ⊤ := by
  induction x with
  | bot => simp
  | top => simp at h
  | coe r => rw [Ideal.exp2_coe]; exact EReal.coe_ne_top _

/-- Moving the reference point of an exponent from `M` up to `M'`. -/
theorem exp2_shift {s M M' : EReal} (h : s ≤ M) (h' : M ≤ M') :
    Ideal.exp2 (M - M') * Ideal.exp2 (s - M) = Ideal.exp2 (s - M') := by
  induction M' with
  | top => simp [sub_eq_add_neg]
  | bot =>
    obtain rfl : M = ⊥ := le_bot_iff.mp h'
    obtain rfl : s = ⊥ := le_bot_iff.mp h
    simp [sub_eq_add_neg]
  | coe m' =>
    induction M with
    | top => simp at h'
    | bot =>
      obtain rfl : s = ⊥ := le_bot_iff.mp h
      simp [sub_eq_add_neg]
    | coe m =>
      induction s with
      | top => simp at h
      | bot => simp [sub_eq_add_neg]
      | coe r =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (r - m) = (2 : ℝ) ^ (r - m')
        rw [← Real.rpow_add (by norm_num)]
        congr 1; ring

theorem sub_le_zero {M M' : EReal} (h : M ≤ M') : M - M' ≤ 0 := by
  induction M' with
  | top => simp [sub_eq_add_neg]
  | bot => obtain rfl : M = ⊥ := le_bot_iff.mp h; simp [sub_eq_add_neg]
  | coe m' =>
    induction M with
    | top => simp at h
    | bot => simp [sub_eq_add_neg]
    | coe m => rw [← EReal.coe_sub]; exact_mod_cast sub_nonpos.mpr (by exact_mod_cast h)

/-- A nonnegative finite factor goes through a sum, whatever the terms. -/
theorem mul_sum {ι : Type*} {a : EReal} (h0 : 0 ≤ a) (ht : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

theorem sum_mul {ι : Type*} {a : EReal} (h0 : 0 ≤ a) (ht : a ≠ ⊤) (s : Finset ι) (f : ι → EReal) :
    (∑ i ∈ s, f i) * a = ∑ i ∈ s, f i * a := by
  rw [mul_comm, mul_sum h0 ht]; simp only [mul_comm]

/-- The rescaled sum is the sum at the new reference point. -/
theorem rescale {ι : Type*} (s : Finset ι) (S W : ι → EReal) {M M' : EReal} (hS : ∀ i ∈ s, S i ≤ M) (h : M ≤ M') :
    Ideal.exp2 (M - M') * ∑ i ∈ s, Ideal.exp2 (S i - M) * W i = ∑ i ∈ s, Ideal.exp2 (S i - M') * W i := by
  rw [mul_sum (exp2_nonneg _) (exp2_ne_top (sub_le_zero h))]
  refine Finset.sum_congr rfl fun i hi => ?_
  rw [← mul_assoc, exp2_shift (hS i hi) h]

/-- `log₂ e` as an extended real, and its inverse. -/
abbrev lg : EReal := (((Real.log 2)⁻¹ : ℝ) : EReal)
abbrev ln2 : EReal := ((Real.log 2 : ℝ) : EReal)

theorem log2_pos : 0 < Real.log 2 := Real.log_pos (by norm_num)
theorem lg_nonneg : (0 : EReal) ≤ lg := EReal.coe_nonneg.mpr (inv_pos.mpr log2_pos).le
theorem ln2_nonneg : (0 : EReal) ≤ ln2 := EReal.coe_nonneg.mpr log2_pos.le
theorem lg_ln2 (x : EReal) : x * lg * ln2 = x := by
  rw [mul_assoc, ← EReal.coe_mul, inv_mul_cancel₀ log2_pos.ne', EReal.coe_one, mul_one]
theorem ln2_lg (x : EReal) : x * ln2 * lg = x := by
  rw [mul_assoc, ← EReal.coe_mul, mul_inv_cancel₀ log2_pos.ne', EReal.coe_one, mul_one]

theorem exp2_lg (x : EReal) : Ideal.exp2 (x * lg) = Ideal.exp x := by
  have h : 0 < (Real.log 2)⁻¹ := inv_pos.mpr log2_pos
  induction x with
  | bot => rw [EReal.bot_mul_coe_of_pos h]; simp
  | top => rw [EReal.top_mul_coe_of_pos h]; simp
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    field_simp

/-- The base-two weights at the base-two maximum of the first `n` entries are the natural weights at the natural maximum, and
    the entries past `pos` weigh nothing. -/
theorem weights {n N pos : ℕ} (hn : pos < n) (hN : n ≤ N) (s S : ℕ → EReal) (hS : ∀ t, S t = if t ≤ pos then s t * lg else ⊥)
    {m M : EReal} (hm : ∀ z, m ≤ z ↔ ∀ t < N, t ≤ pos → s t ≤ z) (hM : ∀ z, M ≤ z ↔ ∀ t < n, S t ≤ z) (W : ℕ → EReal) :
    ∑ t ∈ Finset.range n, Ideal.exp2 (S t - M) * W t
      = ∑ t ∈ Finset.range N, (if t ≤ pos then Ideal.exp (s t - m) else 0) * W t := by
  have e : M = m * lg := by
    refine le_antisymm ((hM _).mpr fun t ht => ?_) ?_
    · rw [hS]
      split_ifs with h
      · exact mul_le_mul_of_nonneg_right ((hm m).mp le_rfl t (by omega) h) lg_nonneg
      · exact bot_le
    · have : m ≤ M * ln2 := (hm _).mpr fun t ht h => by
        have := (hM M).mp le_rfl t (by omega)
        rw [hS, if_pos h] at this
        simpa only [lg_ln2] using mul_le_mul_of_nonneg_right this ln2_nonneg
      simpa only [ln2_lg] using mul_le_mul_of_nonneg_right this lg_nonneg
  have hz : ∀ t, Ideal.exp2 (S t - M) = if t ≤ pos then Ideal.exp (s t - m) else 0 := fun t => by
    rw [hS, e]
    split_ifs with h
    · rw [← exp2_lg, sub_eq_add_neg, sub_eq_add_neg, EReal.right_distrib_of_nonneg_of_ne_top lg_nonneg (EReal.coe_ne_top _), EReal.neg_mul]
    · simp [sub_eq_add_neg]
  simp only [hz]
  refine Finset.sum_subset (Finset.range_mono hN) fun t _ h => ?_
  rw [if_neg (by simp at h; omega), zero_mul]

/-- The tokens of a block by half page and place: what a sum over the block's lanes of one class adds up. -/
theorem sum_block (f : ℕ → EReal) : ∑ u : Fin 16, ∑ x : Fin 64, f (64 * u.val + x.val) = ∑ t ∈ Finset.range 1024, f t := by
  have h : ∀ n, ∑ u ∈ Finset.range n, ∑ x ∈ Finset.range 64, f (64 * u + x) = ∑ t ∈ Finset.range (64 * n), f t := fun n => by
    induction n with
    | zero => simp
    | succ n ih => rw [Finset.sum_range_succ, ih, Nat.mul_succ, Finset.sum_range_add]
  rw [← h 16, Finset.sum_range]
  exact Finset.sum_congr rfl fun u _ => (Finset.sum_range fun x => f (64 * u.val + x)).symm

end Cert.Online

end
-- ==== Proof.Model.lean ====
/-
  What both programs compute over the reals: softmax attention over the tokens up to a position, read from a paged cache of codes.
-/
module

public import proofs.«01_k».proof.Proof.Softmax

@[expose] public section

noncomputable section

namespace Cert.Online

open Idealize.ShloMosaic

/-- The reciprocal of the square root of the head dimension. -/
def rt : EReal := (((Real.sqrt 128)⁻¹ : ℝ) : EReal)
/-- The score of a token: the query against the token's key, the key scaled. -/
def score (x k : Fin 128 → EReal) (s : EReal) : EReal := (∑ i : Fin 128, x i * (k i * s)) * rt
/-- The greatest score attended. -/
def top (p : ℕ) (s : ℕ → EReal) : EReal := (Finset.range 131072).sup fun t => if t ≤ p then s t else ⊥
def summed (p : ℕ) (s W : ℕ → EReal) : EReal := ∑ t ∈ Finset.range 131072, (if t ≤ p then Ideal.exp (s t - top p s) else 0) * W t
/-- The attention: the weighted values over the weights. -/
def attn (p : ℕ) (s W : ℕ → EReal) : EReal := Ideal.div (summed p s W) (summed p s fun _ => 1)

theorem top_le (p : ℕ) (s : ℕ → EReal) (z : EReal) : top p s ≤ z ↔ ∀ t < 131072, t ≤ p → s t ≤ z := by
  unfold top
  rw [Finset.sup_le_iff]
  constructor
  · intro h t ht hp
    have := h t (Finset.mem_range.mpr ht)
    rwa [if_pos hp] at this
  · intro h t ht
    by_cases hp : t ≤ p
    · rw [if_pos hp]; exact h t (Finset.mem_range.mp ht) hp
    · rw [if_neg hp]; exact bot_le

theorem scale_eq : ((((Real.sqrt 128)⁻¹ * (Real.log 2)⁻¹ : ℝ)) : EReal) = rt * lg := EReal.coe_mul _ _
theorem score_exact {x k : Fin 128 → EReal} {s : EReal} (h0 : 0 ≤ s) (ht : s ≠ ⊤) : (∑ i, x i * k i) * (s * (rt * lg)) = score x k s * lg := by
  unfold score
  rw [← mul_assoc, ← mul_assoc, sum_mul h0 ht]
  simp only [mul_assoc]
theorem score_wide {x k : Fin 128 → EReal} {s : EReal} : (∑ i, x i * (k i * s)) * (1 * (rt * lg)) = score x k s * lg := by
  unfold score
  rw [one_mul, ← mul_assoc]

/-- The attention depends on the attended tokens alone. -/
theorem attn_congr {p : ℕ} {s s' W W' : ℕ → EReal} (hs : ∀ t < 131072, t ≤ p → s t = s' t) (hW : ∀ t < 131072, t ≤ p → W t = W' t) : attn p s W = attn p s' W' := by
  have ht : top p s = top p s' := eq_of_forall_ge_iff fun z => by
    rw [top_le, top_le]
    exact forall_congr' fun t => forall_congr' fun a => forall_congr' fun b => by rw [hs t a b]
  have h : ∀ U U' : ℕ → EReal, (∀ t < 131072, t ≤ p → U t = U' t) → summed p s U = summed p s' U' := fun U U' hU =>
    Finset.sum_congr rfl fun t h => by
      by_cases e : t ≤ p
      · rw [hU t (Finset.mem_range.mp h) e, hs t (Finset.mem_range.mp h) e, ht]
      · rw [if_neg e, if_neg e, zero_mul, zero_mul]
  unfold attn
  rw [h W W' hW, h _ _ fun _ _ _ => rfl]

/-- Lane `x` of the left half and of the right half of a row of 256. -/
abbrev lane0 (x : Fin 128) : Fin 256 := ⟨x.val, by omega⟩
abbrev lane1 (x : Fin 128) : Fin 256 := ⟨128 + x.val, by omega⟩

/-- A token's row of codes: the new one at position `p`, the pool's elsewhere; `tab` is the page table. -/
def tokAt (p : ℕ) (tab : Fin 1024 → BitVec 32) (row : Fin 8 → Fin 128 → EReal) (pool : Fin 1024 → Fin 128 → Fin 8 → Fin 128 → EReal) (n : Fin 8) (t : ℕ) (d : Fin 128) : EReal :=
  if t = p then row n d else pool ⟨(tab ⟨t / 128 % 1024, Nat.mod_lt _ (by norm_num)⟩).toNat % 1024, Nat.mod_lt _ (by norm_num)⟩ ⟨t % 128, Nat.mod_lt _ (by norm_num)⟩ n d
/-- Row `r`, column `d` of the attention over the paged cache; the head of keys is `r / 16`. -/
def attnAt (p : ℕ) (tab : Fin 1024 → BitVec 32) (x : Fin 128 → Fin 128 → EReal) (ks vs : Fin 8 → EReal) (krow vrow : Fin 8 → Fin 128 → EReal)
    (kpool vpool : Fin 1024 → Fin 128 → Fin 8 → Fin 128 → EReal) (r d : Fin 128) : EReal :=
  attn p (fun t => score (x r) (fun i => tokAt p tab krow kpool ⟨r.val / 16, by omega⟩ t i) (ks ⟨r.val / 16, by omega⟩))
    (fun t => tokAt p tab vrow vpool ⟨r.val / 16, by omega⟩ t d * vs ⟨r.val / 16, by omega⟩)

end Cert.Online

end
-- ==== Proof.Tile.lean ====
/-
  The kernel's vectors read entry by entry over the extended reals. A score tile holds 64 tokens by four heads of each half: row
  `a` is row `16 * q + a % 16` of half `a / 16`, where the lane's class `q = lane % 4` names the head, and `lane / 4` the token.
-/
module

public import proofs.«01_k».proof.Proof.Softmax
public import proofs.«01_k».proof.Proof.Gen.KernelIdeal.Skeleton
public import Idealize.ShloMosaic.Lib.ValueIdxCore
public import Idealize.ShloMosaic.Lib.Pointwise

@[expose] public section

noncomputable section

namespace Cert.KernelIdeal.Attend

open Cert.KernelIdeal Cert.KernelIdeal.Gen
open Idealize.ShloMosaic

/-! ## The masks -/

theorem sel0 (g : Fin 16) (l : Fin 256) : k0_pay69 (ix2 g l) = BitVec.ofBool (l.val % 4 = 0) := by
  pointwise [k0_pay69, k0_pay68]; revert l; decide +kernel
theorem sel1 (g : Fin 16) (l : Fin 256) : k0_pay70 (ix2 g l) = BitVec.ofBool (l.val % 4 = 1) := by
  pointwise [k0_pay70, k0_pay68]; revert l; decide +kernel
theorem sel2 (g : Fin 16) (l : Fin 256) : k0_pay71 (ix2 g l) = BitVec.ofBool (l.val % 4 = 2) := by
  pointwise [k0_pay71, k0_pay68]; revert l; decide +kernel

theorem sitofp_ite (c : Prop) [Decidable c] : FloatOps.sitofp (F := Ideal) FTy.f32 (if c then 1#32 else 0#32) = if c then (1 : EReal) else 0 := by
  split_ifs
  · show (((1#32 : BitVec 32).toInt : ℝ) : EReal) = 1; norm_num
  · show (((0#32 : BitVec 32).toInt : ℝ) : EReal) = 0; norm_num

theorem mask0 (g : Fin 16) (l : Fin 256) : k0_pay72 (F := Ideal) (ix2 g l) = if l.val % 4 = 0 then (1 : EReal) else 0 := by
  rw [← sitofp_ite]; pointwise [k0_pay72, k0_pay68]; congr 1; revert l; decide +kernel
theorem mask1 (g : Fin 16) (l : Fin 256) : k0_pay73 (F := Ideal) (ix2 g l) = if l.val % 4 = 1 then (1 : EReal) else 0 := by
  rw [← sitofp_ite]; pointwise [k0_pay73, k0_pay68]; congr 1; revert l; decide +kernel
theorem mask2 (g : Fin 16) (l : Fin 256) : k0_pay74 (F := Ideal) (ix2 g l) = if l.val % 4 = 2 then (1 : EReal) else 0 := by
  rw [← sitofp_ite]; pointwise [k0_pay74, k0_pay68]; congr 1; revert l; decide +kernel
theorem mask3 (g : Fin 16) (l : Fin 256) : k0_pay75 (F := Ideal) (ix2 g l) = if l.val % 4 = 3 then (1 : EReal) else 0 := by
  rw [← sitofp_ite]; pointwise [k0_pay75, k0_pay68]; congr 1; revert l; decide +kernel

/-- The token of a lane within its half page. -/
abbrev tok : IVec S32x256 32 := k0_pay77 (iota .tc S32x256 32 [1] iota_S32x256_d1_w32) 4#32 k0_pay76
theorem tok_eq (a : Fin 32) (l : Fin 256) : tok (ix2 a l) = BitVec.ofNat 32 (l.val / 4) := by
  pointwise [k0_pay77, k0_pay76]; revert l; decide +kernel

theorem neg_inf : Named.named (F := Ideal) (φ := .f32) κ "neg_inf" 0xF149F2CA#32 = (⊥ : EReal) := by
  simp [Named.named, κ]

/-! ## Rotations: the lanes of one class combined -/

abbrev rot (s : BitVec 32) (y : FVec Ideal S32x128 .f32) : FVec Ideal S32x128 .f32 := dynamicRotate 1 s none y rotates_S32x128_d1

/-- Row `a` of `y` along its lanes, repeated with period 128. -/
def lane (y : FVec Ideal S32x128 .f32) (a : Fin 32) (l : ℕ) : EReal := y (ix2 a ⟨l % 128, Nat.mod_lt _ (by omega)⟩)

theorem lane_rot4 (y : FVec Ideal S32x128 .f32) (a : Fin 32) (l : ℕ) : lane (rot 4#32 y) a l = lane y a (l + 124) := by
  unfold lane rot; pointwise; congr 3; omega
theorem lane_rot8 (y : FVec Ideal S32x128 .f32) (a : Fin 32) (l : ℕ) : lane (rot 8#32 y) a l = lane y a (l + 124 * 2) := by
  unfold lane rot; pointwise; congr 3; omega
theorem lane_rot16 (y : FVec Ideal S32x128 .f32) (a : Fin 32) (l : ℕ) : lane (rot 16#32 y) a l = lane y a (l + 124 * 4) := by
  unfold lane rot; pointwise; congr 3; omega
theorem lane_rot32 (y : FVec Ideal S32x128 .f32) (a : Fin 32) (l : ℕ) : lane (rot 32#32 y) a l = lane y a (l + 124 * 8) := by
  unfold lane rot; pointwise; congr 3; omega
theorem lane_rot64 (y : FVec Ideal S32x128 .f32) (a : Fin 32) (l : ℕ) : lane (rot 64#32 y) a l = lane y a (l + 124 * 16) := by
  unfold lane rot; pointwise; congr 3; omega

theorem lane_max (x y : FVec Ideal S32x128 .f32) (a : Fin 32) (l : ℕ) : lane (maximumf x y) a l = max (lane x a l) (lane y a l) := rfl
theorem lane_add (x y : FVec Ideal S32x128 .f32) (a : Fin 32) (l : ℕ) : lane (addf x y) a l = lane x a l + lane y a l := rfl

def addRot (s : BitVec 32) (y : FVec Ideal S32x128 .f32) : FVec Ideal S32x128 .f32 := addf y (rot s y)
def maxRot (s : BitVec 32) (y : FVec Ideal S32x128 .f32) : FVec Ideal S32x128 .f32 := maximumf y (rot s y)

/-- The sum of a row's lanes of one class, in every lane of the class. -/
def classSum (y : FVec Ideal S32x128 .f32) : FVec Ideal S32x128 .f32 :=
  addRot 64#32 (addRot 32#32 (addRot 16#32 (addRot 8#32 (addRot 4#32 y))))

theorem sum_double (f : ℕ → EReal) (n l : ℕ) :
    ∑ i ∈ Finset.range n, f (l + 124 * i) + ∑ i ∈ Finset.range n, f (l + 124 * n + 124 * i) = ∑ i ∈ Finset.range (n + n), f (l + 124 * i) := by
  rw [Finset.sum_range_add]; simp only [Nat.mul_add, Nat.add_assoc]

theorem lane_classSum (y : FVec Ideal S32x128 .f32) (a : Fin 32) (l : ℕ) :
    lane (classSum y) a l = ∑ i ∈ Finset.range 32, lane y a (l + 124 * i) := by
  have h1 : ∀ l, lane (addRot 4#32 y) a l = ∑ i ∈ Finset.range 2, lane y a (l + 124 * i) := fun l => by
    rw [addRot, lane_add, lane_rot4, Finset.sum_range_succ, Finset.sum_range_one]; rfl
  unfold classSum
  generalize addRot 4#32 y = y1 at h1 ⊢
  have h2 : ∀ l, lane (addRot 8#32 y1) a l = ∑ i ∈ Finset.range 4, lane y a (l + 124 * i) := fun l => by
    rw [addRot, lane_add, lane_rot8, h1, h1, sum_double (lane y a) 2]
  generalize addRot 8#32 y1 = y2 at h2 ⊢
  have h3 : ∀ l, lane (addRot 16#32 y2) a l = ∑ i ∈ Finset.range 8, lane y a (l + 124 * i) := fun l => by
    rw [addRot, lane_add, lane_rot16, h2, h2, sum_double (lane y a) 4]
  generalize addRot 16#32 y2 = y3 at h3 ⊢
  have h4 : ∀ l, lane (addRot 32#32 y3) a l = ∑ i ∈ Finset.range 16, lane y a (l + 124 * i) := fun l => by
    rw [addRot, lane_add, lane_rot32, h3, h3, sum_double (lane y a) 8]
  generalize addRot 32#32 y3 = y4 at h4 ⊢
  rw [addRot, lane_add, lane_rot64, h4, h4, sum_double (lane y a) 16]

/-- Lanes `4 * i + q` in turn are the class of `q`. -/
theorem sum_class_lanes (f : ℕ → EReal) (hf : ∀ l, f (l % 128) = f l) (q : ℕ) (hq : q < 4) :
    ∑ i ∈ Finset.range 32, f (q + 124 * i) = ∑ i ∈ Finset.range 32, f (4 * i + q) := by
  refine Finset.sum_bij' (fun i _ => 31 * i % 32) (fun i _ => 31 * i % 32) ?_ ?_ ?_ ?_ ?_
  · intro i hi; simp only [Finset.mem_range] at hi ⊢; omega
  · intro i hi; simp only [Finset.mem_range] at hi ⊢; omega
  · intro i hi; simp only [Finset.mem_range] at hi; omega
  · intro i hi; simp only [Finset.mem_range] at hi; omega
  · intro i hi
    rw [← hf, ← hf (4 * _ + q)]; congr 1; omega

/-- The greatest of a row's lanes of one class, in every lane of the class. -/
def classMax (y : FVec Ideal S32x128 .f32) : FVec Ideal S32x128 .f32 :=
  maxRot 64#32 (maxRot 32#32 (maxRot 16#32 (maxRot 8#32 (maxRot 4#32 y))))

theorem le_double (f : ℕ → EReal) (n l : ℕ) (z : EReal) :
    ((∀ i < n, f (l + 124 * i) ≤ z) ∧ ∀ i < n, f (l + 124 * n + 124 * i) ≤ z) ↔ ∀ i < n + n, f (l + 124 * i) ≤ z := by
  constructor
  · rintro ⟨h, h'⟩ i hi
    by_cases c : i < n
    · exact h i c
    · have := h' (i - n) (by omega); rwa [show l + 124 * n + 124 * (i - n) = l + 124 * i by omega] at this
  · intro h
    exact ⟨fun i hi => h i (by omega), fun i hi => by have := h (n + i) (by omega); rwa [show l + 124 * (n + i) = l + 124 * n + 124 * i by omega] at this⟩

theorem lane_classMax (y : FVec Ideal S32x128 .f32) (a : Fin 32) (l : ℕ) (z : EReal) :
    lane (classMax y) a l ≤ z ↔ ∀ i < 32, lane y a (l + 124 * i) ≤ z := by
  have h1 : ∀ l, lane (maxRot 4#32 y) a l ≤ z ↔ ∀ i < 2, lane y a (l + 124 * i) ≤ z := fun l => by
    rw [maxRot, lane_max, lane_rot4, max_le_iff]
    constructor
    · rintro ⟨h, h'⟩ i hi
      obtain rfl | rfl : i = 0 ∨ i = 1 := by omega
      · exact h
      · exact h'
    · intro h; exact ⟨h 0 (by omega), h 1 (by omega)⟩
  unfold classMax
  generalize maxRot 4#32 y = y1 at h1 ⊢
  have h2 : ∀ l, lane (maxRot 8#32 y1) a l ≤ z ↔ ∀ i < 4, lane y a (l + 124 * i) ≤ z := fun l => by
    rw [maxRot, lane_max, lane_rot8, max_le_iff, h1, h1, le_double (lane y a) 2]
  generalize maxRot 8#32 y1 = y2 at h2 ⊢
  have h3 : ∀ l, lane (maxRot 16#32 y2) a l ≤ z ↔ ∀ i < 8, lane y a (l + 124 * i) ≤ z := fun l => by
    rw [maxRot, lane_max, lane_rot16, max_le_iff, h2, h2, le_double (lane y a) 4]
  generalize maxRot 16#32 y2 = y3 at h3 ⊢
  have h4 : ∀ l, lane (maxRot 32#32 y3) a l ≤ z ↔ ∀ i < 16, lane y a (l + 124 * i) ≤ z := fun l => by
    rw [maxRot, lane_max, lane_rot32, max_le_iff, h3, h3, le_double (lane y a) 8]
  generalize maxRot 32#32 y3 = y4 at h4 ⊢
  rw [maxRot, lane_max, lane_rot64, max_le_iff, h4, h4, le_double (lane y a) 16]

theorem pay43_eq (x y : FVec Ideal S32x128 .f32) : k0_pay43 x y = maximumf x (classMax y) := rfl

/-! ## The fold of one half page -/

/-- A lane's entry of a tile less the maximum of its class, to the power of two. -/
def wt (m : FVec Ideal S32x128 .f32) (P : FVec Ideal S32x256 .f32) (a : Fin 32) (l : Fin 256) : EReal :=
  Ideal.exp2 (P (ix2 a l) - m (ix2 a ⟨l.val % 128, Nat.mod_lt _ (by omega)⟩))

theorem pay33_eq (m : FVec Ideal S32x128 .f32) (P : FVec Ideal S32x256 .f32) (a : Fin 32) (l : Fin 256) :
    k0_pay33 (k0_pay84 m) P (ix2 a l) = wt m P a l := by
  unfold wt
  pointwise [k0_pay33, k0_pay84]
  split_ifs with h
  · rw [show (⟨l.val % 128, _⟩ : Fin 128) = ⟨l.val, h⟩ from Fin.ext (Nat.mod_eq_of_lt h)]; rfl
  · have e : l.val % 128 = l.val - 128 := by omega
    simp only [e]; rfl
  · contradiction

theorem pay34_eq (m x : FVec Ideal S32x128 .f32) (P : FVec Ideal S32x256 .f32) (a : Fin 32) (l : Fin 128) :
    k0_pay34 (k0_pay84 m) x P (ix2 a l) = x (ix2 a l) + (wt m P a ⟨l.val, by omega⟩ + wt m P a ⟨128 + l.val, by omega⟩) := by
  rw [← pay33_eq, ← pay33_eq]
  pointwise [k0_pay34]

/-- A sum over the 256 lanes through the mask of class `q`. -/
theorem sum_mask (e b : Fin 256 → EReal) (q : Fin 4) :
    ∑ l : Fin 256, e l * (if l.val % 4 = q.val then (1 : EReal) else 0) * b l
      = ∑ x : Fin 64, e ⟨4 * x.val + q.val, by omega⟩ * b ⟨4 * x.val + q.val, by omega⟩ := by
  have h : ∀ f : Fin 256 → EReal, ∑ l, f l = ∑ x : Fin 64, ∑ c : Fin 4, f ⟨4 * x.val + c.val, by omega⟩ := fun f => by
    rw [← Fintype.sum_prod_type', ← Equiv.sum_comp (finProdFinEquiv (m := 64) (n := 4)) f]
    refine Finset.sum_congr rfl fun x _ => congrArg f (Fin.ext ?_)
    show x.2.val + 4 * x.1.val = 4 * x.1.val + x.2.val
    omega
  rw [h]
  refine Finset.sum_congr rfl fun x _ => ?_
  rw [Finset.sum_eq_single q]
  · rw [if_pos (by show (4 * x.val + q.val) % 4 = q.val; omega), mul_one]
  · intro c _ hc
    rw [if_neg (by show ¬ (4 * x.val + c.val) % 4 = q.val; have := Fin.val_ne_of_ne hc; omega), mul_zero, zero_mul]
  · simp

/-- Weights of one half, masked for each class and stacked by class. -/
def stack (w : FVec Ideal S16x256 .bf16) : FVec Ideal S64x256 .bf16 :=
  concatenate S64x256 0 [⟨S16x256, mulf w k0_pay72⟩, ⟨S16x256, mulf w k0_pay73⟩, ⟨S16x256, mulf w k0_pay74⟩, ⟨S16x256, mulf w k0_pay75⟩]
    concatenates_S16x256_S16x256_S16x256_S16x256_S64x256_d0

theorem stack_apply (w : FVec Ideal S16x256 .bf16) (q : Fin 4) (g : Fin 16) (l : Fin 256) :
    stack w (ix2 ⟨16 * q.val + g.val, by omega⟩ l) = w (ix2 g l) * if l.val % 4 = q.val then (1 : EReal) else 0 := by
  have hg := g.isLt
  obtain ⟨q, hq⟩ := q
  pointwise [stack]
  have e1 : 16 * 1 + g.val - 16 = g.val := by omega
  have e2 : 16 * 2 + g.val - 16 - 16 = g.val := by omega
  have e3 : 16 * 3 + g.val - 16 - 16 - 16 = g.val := by omega
  have e0 : 16 * 0 + g.val = g.val := by omega
  interval_cases q <;> split_ifs <;> first | omega | simp only [e0, e1, e2, e3, mask0, mask1, mask2, mask3, *] | skip

theorem stack_mul {φ : FTy} (w : FVec Ideal S16x256 .bf16) (R : FVec Ideal S256x128 φ) (q : Fin 4) (g : Fin 16) (d : Fin 128) :
    FloatOps.matmul (F := Ideal) dot_S64x256_S256x128_S64x128_1_0_0_1_n_n none (stack w) R (constant S64x128 .f32 0x00000000#32) (ix2 ⟨16 * q.val + g.val, by omega⟩ d)
      = ∑ y : Fin 64, w (ix2 g ⟨4 * y.val + q.val, by omega⟩) * R (ix2 ⟨4 * y.val + q.val, by omega⟩ d) := by
  have h : FloatOps.matmul (F := Ideal) dot_S64x256_S256x128_S64x128_1_0_0_1_n_n none (stack w) R (constant S64x128 .f32 0x00000000#32) (ix2 ⟨16 * q.val + g.val, by omega⟩ d)
      = ∑ l : Fin 256, stack w (ix2 ⟨16 * q.val + g.val, by omega⟩ l) * R (ix2 l d) := by pointwise
  rw [h, ← sum_mask (fun l => w (ix2 g l)) (fun l => R (ix2 l d)) q]
  exact Finset.sum_congr rfl fun l _ => by rw [stack_apply]

/-- The rows of the first four heads of a half page, and of the last four. -/
def rows0 (B : Vec Ideal S1x1x512x128 .fp8e4m3) : FVec Ideal S256x128 .fp8e4m3 :=
  shapeCast S256x128 (extractStridedSlice S64x4x128 ![0, 0, 0] (shapeCast S64x8x128 (shapeCast S512x128 B shapeCasts_S1x1x512x128_S512x128)
    shapeCasts_S512x128_S64x8x128) slices_S64x8x128_o0_0_0_S64x4x128) shapeCasts_S64x4x128_S256x128
def rows4 (B : Vec Ideal S1x1x512x128 .fp8e4m3) : FVec Ideal S256x128 .fp8e4m3 :=
  shapeCast S256x128 (extractStridedSlice S64x4x128 ![0, 4, 0] (shapeCast S64x8x128 (shapeCast S512x128 B shapeCasts_S1x1x512x128_S512x128)
    shapeCasts_S512x128_S64x8x128) slices_S64x8x128_o0_4_0_S64x4x128) shapeCasts_S64x4x128_S256x128
theorem rows0_apply (B : Vec Ideal S1x1x512x128 .fp8e4m3) (l : Fin 256) (d : Fin 128) :
    rows0 B (ix2 l d) = B (ix4 0 0 ⟨l.val / 4 * 8 + l.val % 4, by omega⟩ d) := by pointwise [rows0]
theorem rows4_apply (B : Vec Ideal S1x1x512x128 .fp8e4m3) (l : Fin 256) (d : Fin 128) :
    rows4 B (ix2 l d) = B (ix4 0 0 ⟨l.val / 4 * 8 + (4 + l.val % 4), by omega⟩ d) := by pointwise [rows4]

/-- The weights of the lower and of the upper half. -/
def lo (m : FVec Ideal S32x128 .f32) (P : FVec Ideal S32x256 .f32) : FVec Ideal S16x256 .bf16 :=
  extractStridedSlice S16x256 ![0, 0] (k0_pay35 (k0_pay84 m) P) slices_S32x256_o0_0_S16x256
def hi (m : FVec Ideal S32x128 .f32) (P : FVec Ideal S32x256 .f32) : FVec Ideal S16x256 .bf16 :=
  extractStridedSlice S16x256 ![16, 0] (k0_pay35 (k0_pay84 m) P) slices_S32x256_o16_0_S16x256
theorem lo_apply (m : FVec Ideal S32x128 .f32) (P : FVec Ideal S32x256 .f32) (g : Fin 16) (l : Fin 256) :
    lo m P (ix2 g l) = wt m P ⟨g.val, by omega⟩ l := by rw [← pay33_eq]; pointwise [lo, k0_pay35]
theorem hi_apply (m : FVec Ideal S32x128 .f32) (P : FVec Ideal S32x256 .f32) (g : Fin 16) (l : Fin 256) :
    hi m P (ix2 g l) = wt m P ⟨16 + g.val, by omega⟩ l := by rw [← pay33_eq]; pointwise [hi, k0_pay35]

/-- The values a half page contributes to the row of class `q` and place `g`, with `s` the factor of each entry. -/
abbrev pvSum (w : Fin 256 → EReal) (R : Fin 256 → EReal) (q : Fin 4) : EReal :=
  ∑ y : Fin 64, w ⟨4 * y.val + q.val, by omega⟩ * R ⟨4 * y.val + q.val, by omega⟩

variable (m : FVec Ideal S32x128 .f32) (x : FVec Ideal S64x128 .f32) (P : FVec Ideal S32x256 .f32) (B : Vec Ideal S1x1x512x128 .fp8e4m3)
  (E : Vec Ideal S1x256x128 .bf16) (q : Fin 4) (g : Fin 16) (d : Fin 128)

theorem pay36_eq : k0_pay36 k0_pay72 k0_pay73 k0_pay74 k0_pay75 (k0_pay84 m) x P B (ix2 ⟨16 * q.val + g.val, by omega⟩ d)
    = x (ix2 ⟨16 * q.val + g.val, by omega⟩ d) + pvSum (wt m P ⟨g.val, by omega⟩) (fun l => rows0 B (ix2 l d)) q := by
  refine congrArg (x _ + ·) ((stack_mul (lo m P) (rows0 B) q g d).trans (Finset.sum_congr rfl fun y _ => ?_))
  rw [lo_apply]
theorem pay88_eq : k0_pay88 x (k0_pay37 k0_pay72 k0_pay73 k0_pay74 k0_pay75 (k0_pay84 m) P) B (ix2 ⟨16 * q.val + g.val, by omega⟩ d)
    = x (ix2 ⟨16 * q.val + g.val, by omega⟩ d) + pvSum (wt m P ⟨16 + g.val, by omega⟩) (fun l => rows4 B (ix2 l d)) q := by
  refine congrArg (x _ + ·) ((stack_mul (hi m P) (rows4 B) q g d).trans (Finset.sum_congr rfl fun y _ => ?_))
  rw [hi_apply]
theorem pay106_eq : k0_pay106 k0_pay72 k0_pay73 k0_pay74 k0_pay75 (k0_pay84 m) x P B E (ix2 ⟨16 * q.val + g.val, by omega⟩ d)
    = x (ix2 ⟨16 * q.val + g.val, by omega⟩ d) + pvSum (wt m P ⟨g.val, by omega⟩) (fun l => rows0 B (ix2 l d) * E (ix3 0 l d)) q := by
  refine congrArg (x _ + ·) ((stack_mul (φ := .bf16) (lo m P) (mulf (rows0 B) (shapeCast S256x128 E shapeCasts_S1x256x128_S256x128)) q g d).trans (Finset.sum_congr rfl fun y _ => ?_))
  rw [lo_apply]; congr 1; pointwise
theorem pay157_eq : k0_pay157 x (k0_pay107 k0_pay72 k0_pay73 k0_pay74 k0_pay75 (k0_pay84 m) P) B E (ix2 ⟨16 * q.val + g.val, by omega⟩ d)
    = x (ix2 ⟨16 * q.val + g.val, by omega⟩ d) + pvSum (wt m P ⟨16 + g.val, by omega⟩) (fun l => rows4 B (ix2 l d) * E (ix3 0 l d)) q := by
  refine congrArg (x _ + ·) ((stack_mul (φ := .bf16) (hi m P) (mulf (rows4 B) (shapeCast S256x128 E shapeCasts_S1x256x128_S256x128)) q g d).trans (Finset.sum_congr rfl fun y _ => ?_))
  rw [hi_apply]; congr 1; pointwise

/-! ## The end of a trip -/

theorem pay89_eq (a b c e : FVec Ideal S32x128 .f32) (i : Fin 32) (l : Fin 128) :
    k0_pay89 a b c e (ix2 i l) = Ideal.exp2 (a (ix2 i l) - c (ix2 i l)) * b (ix2 i l) + e (ix2 i l) := rfl

/-- The row of the output of half `h`, class `q` and place `g`. -/
abbrev orow (h : Fin 2) (q : Fin 4) (g : Fin 16) : Fin 128 := ⟨64 * h.val + 16 * q.val + g.val, by omega⟩
abbrev srow (h : Fin 2) (g : Fin 16) : Fin 32 := ⟨16 * h.val + g.val, by omega⟩

/-- One statistic per row and class, spread over the rows of the output. -/
def perRow (x : FVec Ideal S32x128 .f32) : FVec Ideal S128x128 .f32 :=
  shapeCast S128x128 (concatenate S2x4x16x128 1
    [⟨S2x1x16x128, shapeCast S2x1x16x128 (broadcastTo S32x128 (shapeCast S32x1 (extractStridedSlice S32x1 ![0, 0] x slices_S32x128_o0_0_S32x1) shapeCasts_S32x1_S32x1) broadcasts_S32x1_S32x128) shapeCasts_S32x128_S2x1x16x128⟩,
     ⟨S2x1x16x128, shapeCast S2x1x16x128 (broadcastTo S32x128 (shapeCast S32x1 (extractStridedSlice S32x1 ![0, 1] x slices_S32x128_o0_1_S32x1) shapeCasts_S32x1_S32x1) broadcasts_S32x1_S32x128) shapeCasts_S32x128_S2x1x16x128⟩,
     ⟨S2x1x16x128, shapeCast S2x1x16x128 (broadcastTo S32x128 (shapeCast S32x1 (extractStridedSlice S32x1 ![0, 2] x slices_S32x128_o0_2_S32x1) shapeCasts_S32x1_S32x1) broadcasts_S32x1_S32x128) shapeCasts_S32x128_S2x1x16x128⟩,
     ⟨S2x1x16x128, shapeCast S2x1x16x128 (broadcastTo S32x128 (shapeCast S32x1 (extractStridedSlice S32x1 ![0, 3] x slices_S32x128_o0_3_S32x1) shapeCasts_S32x1_S32x1) broadcasts_S32x1_S32x128) shapeCasts_S32x128_S2x1x16x128⟩]
    concatenates_S2x1x16x128_S2x1x16x128_S2x1x16x128_S2x1x16x128_S2x4x16x128_d1) shapeCasts_S2x4x16x128_S128x128

theorem perRow_apply (x : FVec Ideal S32x128 .f32) (h : Fin 2) (q : Fin 4) (g : Fin 16) (d : Fin 128) :
    perRow x (ix2 (orow h q g) d) = x (ix2 (srow h g) ⟨q.val, by omega⟩) := by
  have hh := h.isLt
  have hg := g.isLt
  obtain ⟨q, hq⟩ := q
  pointwise [perRow]
  have e : (64 * h.val + 16 * q + g.val) / 64 * 16 + (64 * h.val + 16 * q + g.val) % 16 = 16 * h.val + g.val := by omega
  have e' : (64 * h.val + 16 * q + g.val) / 16 % 4 = q := by omega
  simp only [e, e']
  interval_cases q <;> rfl

theorem stack2 (e f : FVec Ideal S64x128 .f32) (i d : Fin 128) :
    concatenate S128x128 0 [⟨S64x128, e⟩, ⟨S64x128, f⟩] concatenates_S64x128_S64x128_S128x128_d0 (ix2 i d)
      = if h : i.val < 64 then e (ix2 ⟨i.val, h⟩ d) else f (ix2 ⟨i.val - 64, by omega⟩ d) := by pointwise

theorem pay90_eq (a c : FVec Ideal S32x128 .f32) (b : FVec Ideal S128x128 .f32) (e f : FVec Ideal S64x128 .f32) (h : Fin 2) (q : Fin 4) (g : Fin 16) (d : Fin 128) :
    k0_pay90 a b c e f (ix2 (orow h q g) d) = Ideal.exp2 (a (ix2 (srow h g) ⟨q.val, by omega⟩) - c (ix2 (srow h g) ⟨q.val, by omega⟩)) * b (ix2 (orow h q g) d)
      + (if h.val = 0 then e (ix2 ⟨16 * q.val + g.val, by omega⟩ d) else f (ix2 ⟨16 * q.val + g.val, by omega⟩ d)) := by
  have e1 : k0_pay90 a b c e f = addf (mulf (perRow (k0_pay83 a c)) b) (concatenate S128x128 0 [⟨S64x128, e⟩, ⟨S64x128, f⟩] concatenates_S64x128_S64x128_S128x128_d0) := rfl
  rw [e1]
  show perRow (k0_pay83 a c) (ix2 (orow h q g) d) * b (ix2 (orow h q g) d) + concatenate S128x128 0 [⟨S64x128, e⟩, ⟨S64x128, f⟩] concatenates_S64x128_S64x128_S128x128_d0 (ix2 (orow h q g) d) = _
  rw [perRow_apply, stack2]
  refine congrArg₂ (· + ·) rfl ?_
  by_cases h0 : h.val = 0
  · rw [dif_pos (show (orow h q g).val < 64 by show 64 * h.val + 16 * q.val + g.val < 64; omega), if_pos h0]
    exact congrArg (fun i => e (ix2 i d)) (Fin.ext (by show 64 * h.val + 16 * q.val + g.val = 16 * q.val + g.val; omega))
  · rw [dif_neg (show ¬ (orow h q g).val < 64 by show ¬ 64 * h.val + 16 * q.val + g.val < 64; omega), if_neg h0]
    exact congrArg (fun i => f (ix2 i d)) (Fin.ext (by show 64 * h.val + 16 * q.val + g.val - 64 = 16 * q.val + g.val; omega))

/-- The result: the weighted sum, times the entry of `w`, over the class sum of the row's weights. -/
theorem pay10_eq (l : FVec Ideal S32x128 .f32) (a : FVec Ideal S128x128 .f32) (w : Vec Ideal S128x128 .f32) (h : Fin 2) (q : Fin 4) (g : Fin 16) (d : Fin 128) :
    k0_pay10 l a w (ix2 (orow h q g) d) = Ideal.div (a (ix2 (orow h q g) d) * w (ix2 (orow h q g) d)) (lane (classSum l) (srow h g) q.val) := by
  have e1 : k0_pay10 l a w = divf (mulf a (shapeCast S128x128 w shapeCasts_S128x128_S128x128)) (perRow (classSum l)) := rfl
  rw [e1, shapeCast_self]
  show Ideal.div (a (ix2 (orow h q g) d) * w (ix2 (orow h q g) d)) (perRow (classSum l) (ix2 (orow h q g) d)) = _
  rw [perRow_apply]
  unfold lane
  congr 4; omega

end Cert.KernelIdeal.Attend

end
-- ==== Proof.Fold.lean ====
/-
  Blocks of scores folded into a running maximum, sum and accumulator: after each block the three hold the weighted sums
  over every token so far.
-/
module

public import proofs.«01_k».proof.Proof.Tile
public import proofs.«01_k».proof.Proof.Walk

@[expose] public section

noncomputable section

namespace Cert.KernelIdeal.Attend

open Cert.KernelIdeal Cert.KernelIdeal.Gen Cert.Online
open Cert.KernelIdeal.Hand (iter iter_succ)
open Idealize.ShloMosaic

/-- A field that each step adds to is a sum. -/
theorem iter_sum {σ : Type} {n : ℕ} (f : σ → EReal) (step : Fin n → σ → σ) (init : σ) (w : Fin n → EReal) (h0 : f init = 0)
    (h : ∀ j a, f (step j a) = f a + w j) : f (iter step init n) = ∑ j, w j := by
  have H : ∀ k (hk : k ≤ n), f (iter step init k) = ∑ j : Fin k, w ⟨j.val, by omega⟩ := fun k => by
    induction k with
    | zero => intro _; simpa [iter] using h0
    | succ k ih =>
      intro hk
      rw [iter_succ step init ⟨k, by omega⟩, h, ih (by omega), Fin.sum_univ_castSucc]
      rfl
  exact H n le_rfl

/-- A field that each step takes a maximum with. -/
theorem iter_max {σ : Type} {n : ℕ} (f : σ → EReal) (step : Fin n → σ → σ) (init : σ) (w : Fin n → EReal) (h0 : f init = ⊥)
    (h : ∀ j a, f (step j a) = max (f a) (w j)) (z : EReal) : f (iter step init n) ≤ z ↔ ∀ j, w j ≤ z := by
  have H : ∀ k (hk : k ≤ n), f (iter step init k) ≤ z ↔ ∀ j : Fin n, j.val < k → w j ≤ z := fun k => by
    induction k with
    | zero => intro _; simp [iter, h0]
    | succ k ih =>
      intro hk
      rw [iter_succ step init ⟨k, by omega⟩, h, max_le_iff, ih (by omega)]
      constructor
      · rintro ⟨h1, h2⟩ j hj
        by_cases c : j.val < k
        · exact h1 j c
        · have e : j = ⟨k, by omega⟩ := Fin.ext (by show j.val = k; omega)
          rw [e]; exact h2
      · intro h1
        exact ⟨fun j hj => h1 j (by omega), h1 _ (by show k < k + 1; omega)⟩
  rw [H n le_rfl]
  exact ⟨fun h j => h j j.isLt, fun h j _ => h j⟩

/-- Maximum, sum and accumulator over the first `n` tokens, for scores `S` and values `V`. -/
structure Inv (S : Fin 2 → Fin 4 → Fin 16 → ℕ → EReal) (V : Fin 2 → Fin 4 → ℕ → Fin 128 → EReal) (n : ℕ)
    (m l : FVec Ideal S32x128 .f32) (a : FVec Ideal S128x128 .f32) : Prop where
  hm : ∀ (h : Fin 2) (g : Fin 16) (x : Fin 128) (z : EReal), m (ix2 (srow h g) x) ≤ z ↔ ∀ t < n, S h ⟨x.val % 4, by omega⟩ g t ≤ z
  hl : ∀ (h : Fin 2) (q : Fin 4) (g : Fin 16), ∑ i : Fin 32, l (ix2 (srow h g) ⟨4 * i.val + q.val, by omega⟩)
      = ∑ t ∈ Finset.range n, Ideal.exp2 (S h q g t - m (ix2 (srow h g) ⟨q.val, by omega⟩)) * 1
  ha : ∀ (h : Fin 2) (q : Fin 4) (g : Fin 16) (d : Fin 128), a (ix2 (orow h q g) d)
      = ∑ t ∈ Finset.range n, Ideal.exp2 (S h q g t - m (ix2 (srow h g) ⟨q.val, by omega⟩)) * V h q t d

variable {S : Fin 2 → Fin 4 → Fin 16 → ℕ → EReal} {V : Fin 2 → Fin 4 → ℕ → Fin 128 → EReal}

theorem inv_zero {m l : FVec Ideal S32x128 .f32} {a : FVec Ideal S128x128 .f32} (hm : ∀ i, m i = ⊥) (hl : ∀ i, l i = 0) (ha : ∀ i, a i = 0) :
    Inv S V 0 m l a :=
  ⟨fun h g x z => by rw [hm]; simp, fun h q g => by simp only [hl]; simp, fun h q g d => by rw [ha]; simp⟩

/-- One block: scores `P`, values `R` of its half pages. -/
theorem inv_step {k : ℕ} {m l : FVec Ideal S32x128 .f32} {a : FVec Ideal S128x128 .f32} (I : Inv S V (1024 * k) m l a)
    (P : Fin 16 → FVec Ideal S32x256 .f32) (R : Fin 2 → Fin 16 → Fin 256 → Fin 128 → EReal)
    (hP : ∀ (u : Fin 16) (h : Fin 2) (g : Fin 16) (x : Fin 256), P u (ix2 (srow h g) x) = S h ⟨x.val % 4, by omega⟩ g (1024 * k + (64 * u.val + x.val / 4)))
    (hR : ∀ (h : Fin 2) (u : Fin 16) (x : Fin 256) (d : Fin 128), R h u x d = V h ⟨x.val % 4, by omega⟩ (1024 * k + (64 * u.val + x.val / 4)) d)
    (M : FVec Ideal S32x128 .f32)
    (hM : ∀ (i : Fin 32) (x : Fin 128) (z : EReal), M (ix2 i x) ≤ z ↔ ∀ u, P u (ix2 i ⟨x.val, by omega⟩) ≤ z ∧ P u (ix2 i ⟨128 + x.val, by omega⟩) ≤ z)
    (x1 : FVec Ideal S32x128 .f32) (x2 x3 : FVec Ideal S64x128 .f32)
    (h1 : ∀ (i : Fin 32) (x : Fin 128), x1 (ix2 i x) = ∑ u, (wt (k0_pay43 m M) (P u) i ⟨x.val, by omega⟩ + wt (k0_pay43 m M) (P u) i ⟨128 + x.val, by omega⟩))
    (h2 : ∀ (q : Fin 4) (g : Fin 16) (d : Fin 128), x2 (ix2 ⟨16 * q.val + g.val, by omega⟩ d) = ∑ u, pvSum (wt (k0_pay43 m M) (P u) (srow 0 g)) (fun x => R 0 u x d) q)
    (h3 : ∀ (q : Fin 4) (g : Fin 16) (d : Fin 128), x3 (ix2 ⟨16 * q.val + g.val, by omega⟩ d) = ∑ u, pvSum (wt (k0_pay43 m M) (P u) (srow 1 g)) (fun x => R 1 u x d) q) :
    Inv S V (1024 * (k + 1)) (k0_pay43 m M) (k0_pay89 m l (k0_pay43 m M) x1) (k0_pay90 m a (k0_pay43 m M) x2 x3) := by
  have hm' : ∀ (h : Fin 2) (g : Fin 16) (x : Fin 128) (z : EReal), k0_pay43 m M (ix2 (srow h g) x) ≤ z ↔ ∀ t < 1024 * (k + 1), S h ⟨x.val % 4, by omega⟩ g t ≤ z := by
    intro h g x z
    have e : k0_pay43 m M (ix2 (srow h g) x) = max (m (ix2 (srow h g) x)) (lane (classMax M) (srow h g) x.val) := by
      rw [pay43_eq]
      show max _ (classMax M (ix2 (srow h g) x)) = _
      exact congrArg (fun y => max (m (ix2 (srow h g) x)) (classMax M (ix2 (srow h g) y))) (Fin.ext (Nat.mod_eq_of_lt x.isLt).symm)
    rw [e, max_le_iff, I.hm, lane_classMax]
    constructor
    · rintro ⟨ho, hn⟩ t ht
      by_cases c : t < 1024 * k
      · exact ho t c
      · have hb := hn ((x.val / 4 + 32 - (t - 1024 * k) % 64 % 32) % 32) (by omega)
        unfold lane at hb
        rw [hM] at hb
        have hu := hb ⟨(t - 1024 * k) / 64, by omega⟩
        rw [hP, hP] at hu
        by_cases c' : (t - 1024 * k) % 64 < 32
        · have e1 : (x.val + 124 * ((x.val / 4 + 32 - (t - 1024 * k) % 64 % 32) % 32)) % 128 % 4 = x.val % 4 := by omega
          have e2 : 1024 * k + (64 * ((t - 1024 * k) / 64) + (x.val + 124 * ((x.val / 4 + 32 - (t - 1024 * k) % 64 % 32) % 32)) % 128 / 4) = t := by omega
          have := hu.1
          simp only [e1, e2] at this
          exact this
        · have e1 : (128 + (x.val + 124 * ((x.val / 4 + 32 - (t - 1024 * k) % 64 % 32) % 32)) % 128) % 4 = x.val % 4 := by omega
          have e2 : 1024 * k + (64 * ((t - 1024 * k) / 64) + (128 + (x.val + 124 * ((x.val / 4 + 32 - (t - 1024 * k) % 64 % 32) % 32)) % 128) / 4) = t := by omega
          have := hu.2
          simp only [e1, e2] at this
          exact this
    · intro ht
      refine ⟨fun t c => ht t (by omega), fun i hi => ?_⟩
      unfold lane
      rw [hM]
      intro u
      rw [hP, hP]
      have e1 : (x.val + 124 * i) % 128 % 4 = x.val % 4 := by omega
      have e2 : (128 + (x.val + 124 * i) % 128) % 4 = x.val % 4 := by omega
      constructor
      · have := ht (1024 * k + (64 * u.val + (x.val + 124 * i) % 128 / 4)) (by omega)
        simpa only [e1] using this
      · have := ht (1024 * k + (64 * u.val + (128 + (x.val + 124 * i) % 128) / 4)) (by omega)
        simpa only [e2] using this
  have hcl : ∀ (n : ℕ) (m : FVec Ideal S32x128 .f32) (hm : ∀ (h : Fin 2) (g : Fin 16) (x : Fin 128) (z : EReal), m (ix2 (srow h g) x) ≤ z ↔ ∀ t < n, S h ⟨x.val % 4, by omega⟩ g t ≤ z)
      (h : Fin 2) (g : Fin 16) (q : Fin 4) (x : Fin 128) (hx : x.val % 4 = q.val), m (ix2 (srow h g) x) = m (ix2 (srow h g) ⟨q.val, by omega⟩) := by
    intro n m hm h g q x hx
    refine eq_of_forall_ge_iff fun z => ?_
    rw [hm, hm]
    have e : x.val % 4 = q.val % 4 := by omega
    simp only [e]
  have ho := hcl _ m I.hm
  have hn := hcl _ _ hm'
  have hle : ∀ (h : Fin 2) (g : Fin 16) (x : Fin 128), m (ix2 (srow h g) x) ≤ k0_pay43 m M (ix2 (srow h g) x) := fun h g x =>
    (I.hm h g x _).mpr fun t ht => (hm' h g x _).mp le_rfl t (by omega)
  have hS : ∀ (h : Fin 2) (q : Fin 4) (g : Fin 16), ∀ t ∈ Finset.range (1024 * k), S h q g t ≤ m (ix2 (srow h g) ⟨q.val, by omega⟩) := fun h q g t ht => by
    have := (I.hm h g ⟨q.val, by omega⟩ _).mp le_rfl t (Finset.mem_range.mp ht)
    have e : (⟨q.val % 4, by omega⟩ : Fin 4) = q := Fin.ext (Nat.mod_eq_of_lt q.isLt)
    simpa only [e] using this
  generalize k0_pay43 m M = m' at *
  -- a weight of the block at the class `q`
  have hw : ∀ (u : Fin 16) (h : Fin 2) (g : Fin 16) (q : Fin 4) (x : Fin 256) (hx : x.val % 4 = q.val),
      wt m' (P u) (srow h g) x = Ideal.exp2 (S h q g (1024 * k + (64 * u.val + x.val / 4)) - m' (ix2 (srow h g) ⟨q.val, by omega⟩)) := by
    intro u h g q x hx
    unfold wt
    rw [hP, hn h g q ⟨x.val % 128, by omega⟩ (by show x.val % 128 % 4 = q.val; omega)]
    have e : (⟨x.val % 4, by omega⟩ : Fin 4) = q := Fin.ext hx
    rw [e]
  have hblk : ∀ (h : Fin 2) (q : Fin 4) (g : Fin 16) (W : ℕ → EReal),
      ∑ u : Fin 16, ∑ y : Fin 64, wt m' (P u) (srow h g) ⟨4 * y.val + q.val, by omega⟩ * W (1024 * k + (64 * u.val + y.val))
        = ∑ t ∈ Finset.range 1024, Ideal.exp2 (S h q g (1024 * k + t) - m' (ix2 (srow h g) ⟨q.val, by omega⟩)) * W (1024 * k + t) := by
    intro h q g W
    rw [← sum_block]
    refine Finset.sum_congr rfl fun u _ => Finset.sum_congr rfl fun y _ => ?_
    rw [hw u h g q _ (by show (4 * y.val + q.val) % 4 = q.val; omega)]
    have e : (4 * y.val + q.val) / 4 = y.val := by omega
    simp only [e]
  have hpv : ∀ (h : Fin 2) (q : Fin 4) (g : Fin 16) (d : Fin 128), ∑ u, pvSum (wt m' (P u) (srow h g)) (fun x => R h u x d) q
      = ∑ t ∈ Finset.range 1024, Ideal.exp2 (S h q g (1024 * k + t) - m' (ix2 (srow h g) ⟨q.val, by omega⟩)) * V h q (1024 * k + t) d := by
    intro h q g d
    rw [← hblk h q g fun t => V h q t d]
    refine Finset.sum_congr rfl fun u _ => Finset.sum_congr rfl fun y _ => ?_
    show _ * R h u _ d = _
    rw [hR]
    have e : (4 * y.val + q.val) / 4 = y.val := by omega
    have e' : (⟨(4 * y.val + q.val) % 4, by omega⟩ : Fin 4) = q := Fin.ext (by show (4 * y.val + q.val) % 4 = q.val; omega)
    simp only [e, e']
  refine ⟨hm', fun h q g => ?_, fun h q g d => ?_⟩
  · have e : ∀ i : Fin 32, k0_pay89 m l m' x1 (ix2 (srow h g) ⟨4 * i.val + q.val, by omega⟩)
        = Ideal.exp2 (m (ix2 (srow h g) ⟨q.val, by omega⟩) - m' (ix2 (srow h g) ⟨q.val, by omega⟩)) * l (ix2 (srow h g) ⟨4 * i.val + q.val, by omega⟩)
          + x1 (ix2 (srow h g) ⟨4 * i.val + q.val, by omega⟩) := fun i => by
      rw [pay89_eq, ho h g q _ (by show (4 * i.val + q.val) % 4 = q.val; omega), hn h g q _ (by show (4 * i.val + q.val) % 4 = q.val; omega)]
    have e1 : ∑ i : Fin 32, x1 (ix2 (srow h g) ⟨4 * i.val + q.val, by omega⟩)
        = ∑ t ∈ Finset.range 1024, Ideal.exp2 (S h q g (1024 * k + t) - m' (ix2 (srow h g) ⟨q.val, by omega⟩)) * 1 := by
      rw [← hblk h q g fun _ => 1]
      simp only [h1]
      rw [Finset.sum_comm]
      refine Finset.sum_congr rfl fun u _ => ?_
      rw [Finset.sum_add_distrib]
      refine Eq.symm ((Fin.sum_univ_add (a := 32) (b := 32) fun y : Fin 64 => wt m' (P u) (srow h g) ⟨4 * y.val + q.val, by omega⟩ * (1 : EReal)).trans (congrArg₂ (· + ·) ?_ ?_))
      · refine Finset.sum_congr rfl fun y _ => ?_
        rw [mul_one]; rfl
      · refine Finset.sum_congr rfl fun y _ => ?_
        rw [mul_one]
        refine congrArg (wt m' (P u) (srow h g)) (Fin.ext ?_)
        show 4 * (32 + y.val) + q.val = 128 + (4 * y.val + q.val)
        omega
    simp only [e]
    rw [Finset.sum_add_distrib, ← mul_sum (exp2_nonneg _) (exp2_ne_top (sub_le_zero (hle h g _))), I.hl, rescale _ _ _ (hS h q g) (hle h g _), e1, Nat.mul_succ, Finset.sum_range_add]
  · rw [pay90_eq, I.ha, rescale _ _ _ (hS h q g) (hle h g _), Nat.mul_succ, Finset.sum_range_add]
    congr 1
    by_cases c : h.val = 0
    · obtain rfl : h = 0 := Fin.ext c
      rw [if_pos c, h2, hpv]
    · obtain rfl : h = 1 := Fin.ext (by show h.val = 1; omega)
      rw [if_neg c, h3, hpv]

end Cert.KernelIdeal.Attend

end
-- ==== Proof.Score.lean ====
/-
  The scores of one half page, entry by entry: the product of a query row and a key, masked past the new token.
-/
module

public import proofs.«01_k».proof.Proof.Fold
public import proofs.«01_k».proof.Proof.Words

@[expose] public section

noncomputable section

namespace Cert.KernelIdeal.Attend

open Cert.KernelIdeal Cert.KernelIdeal.Gen Cert.Online
open Idealize.ShloMosaic

theorem iv_ofNat (n : ℕ) : Scf.iv 0#32 1#32 n = BitVec.ofNat 32 n := by simp [Scf.iv]

theorem bmod_small (x : ℤ) (h : -2147483648 ≤ x) (h' : x < 2147483648) : x.bmod (2 ^ 32) = x := by
  simp only [Int.bmod_def, Nat.reducePow]; omega

theorem toInt_small (n : ℕ) (h : n < 2147483648) : (BitVec.ofNat 32 n).toInt = n := by
  rw [show (BitVec.ofNat 32 n).toInt = (n : ℤ).bmod (2 ^ 32) from BitVec.toInt_ofNat' n]
  exact bmod_small n (by omega) (by omega)

/-- The mask's comparison, in words: the token `64 * u + x` of block `k` is not past `p`. -/
theorem mask_word (p k u x : ℕ) (hp : p < 131072) (hk : k < 1024) (hu : u < 16) (hx : x < 64) :
    IntOp.cmpi .sle (BitVec.ofNat 32 x) (Scalar.subi (Scalar.subi (BitVec.ofNat 32 p) (Scalar.muli (Scf.iv 0#32 1#32 k) 1024#32)) (Scalar.muli (Scf.iv 0#32 1#32 u) 64#32))
      = BitVec.ofBool (1024 * k + (64 * u + x) ≤ p) := by
  rw [iv_ofNat, iv_ofNat]
  simp only [IntOp.cmpi, Scalar.subi, Scalar.muli, IntOp.subi, IntOp.muli]
  congr 1
  rw [BitVec.sle_eq_decide]
  refine decide_eq_decide.mpr ?_
  rw [BitVec.toInt_sub, BitVec.toInt_sub, BitVec.toInt_mul, BitVec.toInt_mul, toInt_small p (by omega), toInt_small k (by omega), toInt_small u (by omega), toInt_small x (by omega),
    show (1024#32).toInt = 1024 by decide, show (64#32).toInt = 64 by decide]
  rw [bmod_small ((k : ℤ) * 1024) (by omega) (by omega), bmod_small ((u : ℤ) * 64) (by omega) (by omega), bmod_small ((p : ℤ) - k * 1024) (by omega) (by omega),
    bmod_small ((p : ℤ) - k * 1024 - u * 64) (by omega) (by omega)]
  omega

theorem select_bool {α : Type} (c : Prop) [Decidable c] (a b : α) : Scalar.select (BitVec.ofBool (decide c)) a b = if c then a else b := by
  by_cases h : c <;> simp [h, Scalar.select]

/-- A query row against the key rows `R` of the first four heads and `R'` of the last four. -/
abbrev dots (q : FVec Ideal S128x256 .bf16) (R R' : Fin 256 → Fin 128 → EReal) (r : Fin 128) (l : Fin 256) : EReal :=
  ∑ x : Fin 128, q (ix2 r ⟨x.val, by omega⟩) * R l x + ∑ x : Fin 128, q (ix2 r ⟨128 + x.val, by omega⟩) * R' l x

theorem pay29_eq (q2 : FVec Ideal S128x256 .bf16) (B : Vec Ideal S1x1x512x128 .fp8e4m3) (h : Fin 2) (q : Fin 4) (g : Fin 16) (l : Fin 256) :
    k0_pay29 q2 B B (ix4 h q g l) = dots q2 (fun l x => rows0 B (ix2 l x)) (fun l x => rows4 B (ix2 l x)) (orow h q g) l := by
  simp only [rows0_apply, rows4_apply]
  pointwise [k0_pay29]
  simp only [Nat.mul_comm h.val 64, Nat.mul_comm q.val 16]

theorem pay100_eq (q2 : FVec Ideal S128x256 .bf16) (B : Vec Ideal S1x1x512x128 .fp8e4m3) (E E' : Vec Ideal S1x256x128 .bf16) (h : Fin 2) (q : Fin 4) (g : Fin 16) (l : Fin 256) :
    k0_pay100 q2 B E B E' (ix4 h q g l) = dots q2 (fun l x => rows0 B (ix2 l x) * E (ix3 0 l x)) (fun l x => rows4 B (ix2 l x) * E' (ix3 0 l x)) (orow h q g) l := by
  simp only [rows0_apply, rows4_apply]
  pointwise [k0_pay100]
  simp only [Nat.mul_comm h.val 64, Nat.mul_comm q.val 16]

theorem pick {f : Fin 4 → EReal} (l : Fin 256) :
    (if l.val % 4 = 2 then f 2 else if l.val % 4 = 1 then f 1 else if l.val % 4 = 0 then f 0 else f 3) = f ⟨l.val % 4, by omega⟩ := by
  split_ifs with h2 h1 h0
  all_goals exact congrArg f (Fin.ext (by simp only [Fin.isValue]; first | exact h2.symm | exact h1.symm | exact h0.symm | (show 3 = l.val % 4; omega)))
/-- A score past the token is the least number. -/
abbrev masked (p k : ℕ) (u : Fin 16) (l : Fin 256) (z : EReal) : EReal := if 1024 * k + (64 * u.val + l.val / 4) ≤ p then z else ⊥

variable (p : ℕ) (hp : p < 131072) (c2 : FVec Ideal S32x256 .f32) (u : Fin 16) (h : Fin 2) (g : Fin 16) (l : Fin 256)

include hp in
theorem pay40_eq (k : Fin (k0_t4_loop (BitVec.ofNat 32 p)).trips) (hk : k.val < 1024) (q2 : FVec Ideal S128x256 .bf16) (B : Vec Ideal S1x1x512x128 .fp8e4m3) :
    k0_pay40 (BitVec.ofNat 32 p) tok c2 0#32 1#32 k (Scf.iv 0#32 1#32 u.val) (k0_pay30 k0_pay69 k0_pay70 q2 B B) (k0_pay31 k0_pay71) (k0_pay32 q2 B B) (ix2 (srow h g) l)
      = masked p k.val u l (dots q2 (fun l x => rows0 B (ix2 l x)) (fun l x => rows4 B (ix2 l x)) (orow h ⟨l.val % 4, by omega⟩ g) l * c2 (ix2 (srow h g) l)) := by
  have hg := g.isLt
  pointwise [k0_pay40, k0_pay30, k0_pay31, k0_pay32]
  have e1 : (16 * h.val + g.val) % 16 = g.val := by omega
  have e2 : (16 * h.val + g.val) / 16 = h.val := by omega
  simp only [e1, e2]
  have e := pick (f := fun q => k0_pay29 q2 B B (ix4 h q g l)) l
  rw [pay29_eq q2 B h ⟨l.val % 4, by omega⟩ g l] at e
  rw [sel0, sel1, sel2, tok_eq, mask_word p k.val u.val _ hp hk u.isLt (by omega), neg_inf]
  simp only [select_bool]
  rw [← e]

include hp in
theorem pay110_eq (k : Fin (k0_t21_loop (BitVec.ofNat 32 p)).trips) (hk : k.val < 1024) (q2 : FVec Ideal S128x256 .bf16) (B : Vec Ideal S1x1x512x128 .fp8e4m3) (E E' : Vec Ideal S1x256x128 .bf16) :
    k0_pay110 (BitVec.ofNat 32 p) k0_pay70 k0_pay71 tok c2 0#32 1#32 k (Scf.iv 0#32 1#32 u.val) (k0_pay100 q2 B E B E') (k0_pay101 q2 B E B E') (k0_pay102 k0_pay69) (ix2 (srow h g) l)
      = masked p k.val u l (dots q2 (fun l x => rows0 B (ix2 l x) * E (ix3 0 l x)) (fun l x => rows4 B (ix2 l x) * E' (ix3 0 l x)) (orow h ⟨l.val % 4, by omega⟩ g) l * c2 (ix2 (srow h g) l)) := by
  have hg := g.isLt
  pointwise [k0_pay110, k0_pay101, k0_pay102]
  have e1 : (16 * h.val + g.val) % 16 = g.val := by omega
  have e2 : (16 * h.val + g.val) / 16 = h.val := by omega
  simp only [e1, e2]
  have e := pick (f := fun q => k0_pay100 q2 B E B E' (ix4 h q g l)) l
  rw [pay100_eq q2 B E E' h ⟨l.val % 4, by omega⟩ g l] at e
  rw [sel0, sel1, sel2, tok_eq, mask_word p k.val u.val _ hp hk u.isLt (by omega), neg_inf]
  simp only [select_bool]
  rw [← e]

end Cert.KernelIdeal.Attend

end
-- ==== Proof.Trip.lean ====
/-
  One trip of the main loop, in both branches, carries the fold's sums over one more block of tokens.
-/
module

public import proofs.«01_k».proof.Proof.Score
public import proofs.«01_k».proof.Proof.Body

@[expose] public section

set_option maxRecDepth 16384

noncomputable section

namespace Cert.KernelIdeal.Attend

open Cert.KernelIdeal Cert.KernelIdeal.Gen Cert.Online Cert.KernelIdeal.Hand Cert.KernelIdeal.Words
open Idealize.ShloMosaic Idealize.ShloMosaic.TcCoe

variable (arg7 arg8 : Memref sig .tc .vmem S2x256x128 .bf16) (arg11 arg12 : Memref sig .tc .hbm S1024x1024x128 .fp8e4m3) (arg16 arg17 : Memref sig .tc .vmem S6x8x1024x128 .fp8e4m3) (c : Dev nD)
variable (X7 : Buf (Elt Ideal) (arg7.view.loc (c : Thread nD τ))) (X8 : Buf (Elt Ideal) (arg8.view.loc (c : Thread nD τ)))
variable (plK : Buf (Elt Ideal) (arg11.view.loc (c : Thread nD τ))) (plV : Buf (Elt Ideal) (arg12.view.loc (c : Thread nD τ))) (pgs : ℕ → Fin 1024)
theorem mx_eq (P : FVec Ideal S32x256 .f32) (a : FVec Ideal S32x128 .f32) (i : Fin 32) (x : Fin 128) :
    maximumf a (maximumf (extractStridedSlice S32x128 ![0, 0] P slices_S32x256_o0_0_S32x128) (extractStridedSlice S32x128 ![0, 128] P slices_S32x256_o0_128_S32x128)) (ix2 i x)
      = max (a (ix2 i x)) (max (P (ix2 i ⟨x.val, by omega⟩)) (P (ix2 i ⟨128 + x.val, by omega⟩))) := by
  pointwise

variable (p : ℕ) (hp : p < 131072) (v30 v41 : FVec Ideal S8x128 .fp8e4m3) (c2 : FVec Ideal S32x256 .f32) (q2 : FVec Ideal S128x256 .bf16)
variable {S : Fin 2 → Fin 4 → Fin 16 → ℕ → EReal} {V : Fin 2 → Fin 4 → ℕ → Fin 128 → EReal}

/-- The half pages of keys and of values a trip reads. -/
abbrev keysE (i : ℕ) (u : Fin 16) : Vec Ideal S1x1x512x128 .fp8e4m3 :=
  half c arg16 (sl i) u (slotVal c p arg16 i (Fof arg16 c (blkC arg11 c plK pgs i)) (newK (BitVec.ofNat 32 p) v30))
abbrev valsE (i : ℕ) (u : Fin 16) : Vec Ideal S1x1x512x128 .fp8e4m3 :=
  half c arg17 (sl i) u (slotVal c p arg17 i (Fof arg17 c (blkC arg12 c plV pgs i)) (newV (BitVec.ofNat 32 p) v41))
abbrev keysW (i : ℕ) (u : Fin 16) : Vec Ideal S1x1x512x128 .fp8e4m3 :=
  half c arg16 (sl i) u (slotVal c p arg16 i (Fof arg16 c (blkC arg11 c plK pgs i)) (newKW (BitVec.ofNat 32 p) v30))
abbrev valsW (i : ℕ) (u : Fin 16) : Vec Ideal S1x1x512x128 .fp8e4m3 :=
  half c arg17 (sl i) u (slotVal c p arg17 i (Fof arg17 c (blkC arg12 c plV pgs i)) (newVW (BitVec.ofNat 32 p) v41))

/-- The two halves of the heads take the lower and the upper rows. -/
abbrev two (f g : EReal) (h : Fin 2) : EReal := if h.val = 0 then f else g

theorem zero_row {i : S32x128.Idx} : (k0_pay39 (F := Ideal)) i = ⊥ := neg_inf
theorem zero_f {s : Shape} (i : s.Idx) : (broadcast s (Scalar.ofBits (F := Ideal) .f32 0x00000000#32) : FVec Ideal s .f32) i = 0 := Ideal.ofBits_zero_f32

include hp in
theorem tripE_inv (k : Fin (k0_t4_loop (BitVec.ofNat 32 p)).trips) (hk : k.val < 1024) (s : FVec Ideal S32x128 .f32 × FVec Ideal S32x128 .f32 × FVec Ideal S128x128 .f32)
    (I : Inv S V (1024 * k.val) s.1 s.2.1 s.2.2)
    (hS : ∀ (u : Fin 16) (h : Fin 2) (g : Fin 16) (x : Fin 256),
      masked p k.val u x (dots q2 (fun l x => rows0 (keysE arg11 arg16 c plK pgs p v30 k.val u) (ix2 l x)) (fun l x => rows4 (keysE arg11 arg16 c plK pgs p v30 k.val u) (ix2 l x)) (orow h ⟨x.val % 4, by omega⟩ g) x * c2 (ix2 (srow h g) x))
        = S h ⟨x.val % 4, by omega⟩ g (1024 * k.val + (64 * u.val + x.val / 4)))
    (hV : ∀ (h : Fin 2) (u : Fin 16) (x : Fin 256) (d : Fin 128),
      two (rows0 (valsE arg12 arg17 c plV pgs p v41 k.val u) (ix2 x d)) (rows4 (valsE arg12 arg17 c plV pgs p v41 k.val u) (ix2 x d)) h = V h ⟨x.val % 4, by omega⟩ (1024 * k.val + (64 * u.val + x.val / 4)) d) :
    Inv S V (1024 * (k.val + 1)) (tripE arg11 arg12 arg16 arg17 c plK plV pgs p v30 v41 k0_pay69 k0_pay70 k0_pay71 k0_pay72 k0_pay73 k0_pay74 k0_pay75 tok c2 q2 k s).1
      (tripE arg11 arg12 arg16 arg17 c plK plV pgs p v30 v41 k0_pay69 k0_pay70 k0_pay71 k0_pay72 k0_pay73 k0_pay74 k0_pay75 tok c2 q2 k s).2.1
      (tripE arg11 arg12 arg16 arg17 c plK plV pgs p v30 v41 k0_pay69 k0_pay70 k0_pay71 k0_pay72 k0_pay73 k0_pay74 k0_pay75 tok c2 q2 k s).2.2 := by
  have e41 : ∀ u : Fin 16, scE arg16 c p k0_pay69 k0_pay70 k0_pay71 tok c2 q2 k (slotVal c p arg16 k.val (Fof arg16 c (blkC arg11 c plK pgs k.val)) (newK (BitVec.ofNat 32 p) v30)) u
      = k0_pay40 (BitVec.ofNat 32 p) tok c2 0#32 1#32 k (Scf.iv 0#32 1#32 u.val) (k0_pay30 k0_pay69 k0_pay70 q2 (keysE arg11 arg16 c plK pgs p v30 k.val u) (keysE arg11 arg16 c plK pgs p v30 k.val u)) (k0_pay31 k0_pay71) (k0_pay32 q2 (keysE arg11 arg16 c plK pgs p v30 k.val u) (keysE arg11 arg16 c plK pgs p v30 k.val u)) :=
    fun u => by unfold scE k0_pay41; exact shapeCast_self _ _
  unfold tripE
  dsimp only
  refine inv_step I (scE arg16 c p k0_pay69 k0_pay70 k0_pay71 tok c2 q2 k (slotVal c p arg16 k.val (Fof arg16 c (blkC arg11 c plK pgs k.val)) (newK (BitVec.ofNat 32 p) v30))) (fun h u x d => two (rows0 (valsE arg12 arg17 c plV pgs p v41 k.val u) (ix2 x d)) (rows4 (valsE arg12 arg17 c plV pgs p v41 k.val u) (ix2 x d)) h) (fun u h g x => ?_) hV _ (fun i x z => ?_) _ _ _ (fun i x => ?_) (fun q g d => ?_) (fun q g d => ?_)
  · rw [e41, pay40_eq p hp c2 u h g x k hk]; exact hS u h g x
  · refine (iter_max (fun a : FVec Ideal S32x128 .f32 => a (ix2 i x)) _ _ _ zero_row (fun j a => ?_) z).trans (forall_congr' fun j => max_le_iff)
    rw [e41]
    exact mx_eq _ a i x
  · exact iter_sum (fun a : FVec Ideal S32x128 .f32 × FVec Ideal S64x128 .f32 × FVec Ideal S64x128 .f32 => a.1 (ix2 i x)) _ _ _ (zero_f (s := S32x128) (ix2 i x)) (fun j a => pay34_eq _ _ _ i x)
  · exact iter_sum (fun a : FVec Ideal S32x128 .f32 × FVec Ideal S64x128 .f32 × FVec Ideal S64x128 .f32 => a.2.1 (ix2 ⟨16 * q.val + g.val, by omega⟩ d)) _ _ _ (zero_f (s := S64x128) (ix2 ⟨16 * q.val + g.val, by omega⟩ d)) (fun j a => by
      rw [show srow 0 g = ⟨g.val, by omega⟩ from Fin.ext (by show 16 * 0 + g.val = g.val; omega)]
      exact pay36_eq _ _ _ _ q g d)
  · exact iter_sum (fun a : FVec Ideal S32x128 .f32 × FVec Ideal S64x128 .f32 × FVec Ideal S64x128 .f32 => a.2.2 (ix2 ⟨16 * q.val + g.val, by omega⟩ d)) _ _ _ (zero_f (s := S64x128) (ix2 ⟨16 * q.val + g.val, by omega⟩ d)) (fun j a => pay88_eq _ _ _ _ q g d)

include hp in
theorem tripW_inv (k : Fin (k0_t21_loop (BitVec.ofNat 32 p)).trips) (hk : k.val < 1024) (s : FVec Ideal S32x128 .f32 × FVec Ideal S32x128 .f32 × FVec Ideal S128x128 .f32)
    (I : Inv S V (1024 * k.val) s.1 s.2.1 s.2.2)
    (hS : ∀ (u : Fin 16) (h : Fin 2) (g : Fin 16) (x : Fin 256),
      masked p k.val u x (dots q2 (fun l x => rows0 (keysW arg11 arg16 c plK pgs p v30 k.val u) (ix2 l x) * rd7 arg7 c 0 X7 (ix3 0 l x)) (fun l x => rows4 (keysW arg11 arg16 c plK pgs p v30 k.val u) (ix2 l x) * rd7 arg7 c 1 X7 (ix3 0 l x)) (orow h ⟨x.val % 4, by omega⟩ g) x * c2 (ix2 (srow h g) x))
        = S h ⟨x.val % 4, by omega⟩ g (1024 * k.val + (64 * u.val + x.val / 4)))
    (hV : ∀ (h : Fin 2) (u : Fin 16) (x : Fin 256) (d : Fin 128),
      two (rows0 (valsW arg12 arg17 c plV pgs p v41 k.val u) (ix2 x d) * rd8 arg8 c 0 X8 (ix3 0 x d)) (rows4 (valsW arg12 arg17 c plV pgs p v41 k.val u) (ix2 x d) * rd8 arg8 c 1 X8 (ix3 0 x d)) h = V h ⟨x.val % 4, by omega⟩ (1024 * k.val + (64 * u.val + x.val / 4)) d) :
    Inv S V (1024 * (k.val + 1)) (tripW arg7 arg8 arg11 arg12 arg16 arg17 c plK plV pgs p X7 X8 v30 v41 k0_pay69 k0_pay70 k0_pay71 k0_pay72 k0_pay73 k0_pay74 k0_pay75 tok c2 q2 k s).1
      (tripW arg7 arg8 arg11 arg12 arg16 arg17 c plK plV pgs p X7 X8 v30 v41 k0_pay69 k0_pay70 k0_pay71 k0_pay72 k0_pay73 k0_pay74 k0_pay75 tok c2 q2 k s).2.1
      (tripW arg7 arg8 arg11 arg12 arg16 arg17 c plK plV pgs p X7 X8 v30 v41 k0_pay69 k0_pay70 k0_pay71 k0_pay72 k0_pay73 k0_pay74 k0_pay75 tok c2 q2 k s).2.2 := by
  have e41 : ∀ u : Fin 16, scW arg7 arg16 c p X7 k0_pay69 k0_pay70 k0_pay71 tok c2 q2 k (slotVal c p arg16 k.val (Fof arg16 c (blkC arg11 c plK pgs k.val)) (newKW (BitVec.ofNat 32 p) v30)) u
      = k0_pay110 (BitVec.ofNat 32 p) k0_pay70 k0_pay71 tok c2 0#32 1#32 k (Scf.iv 0#32 1#32 u.val) (k0_pay100 q2 (keysW arg11 arg16 c plK pgs p v30 k.val u) (rd7 arg7 c 0 X7) (keysW arg11 arg16 c plK pgs p v30 k.val u) (rd7 arg7 c 1 X7)) (k0_pay101 q2 (keysW arg11 arg16 c plK pgs p v30 k.val u) (rd7 arg7 c 0 X7) (keysW arg11 arg16 c plK pgs p v30 k.val u) (rd7 arg7 c 1 X7)) (k0_pay102 k0_pay69) :=
    fun u => by unfold scW k0_pay111; exact shapeCast_self _ _
  unfold tripW
  dsimp only
  refine inv_step I (scW arg7 arg16 c p X7 k0_pay69 k0_pay70 k0_pay71 tok c2 q2 k (slotVal c p arg16 k.val (Fof arg16 c (blkC arg11 c plK pgs k.val)) (newKW (BitVec.ofNat 32 p) v30))) (fun h u x d => two (rows0 (valsW arg12 arg17 c plV pgs p v41 k.val u) (ix2 x d) * rd8 arg8 c 0 X8 (ix3 0 x d)) (rows4 (valsW arg12 arg17 c plV pgs p v41 k.val u) (ix2 x d) * rd8 arg8 c 1 X8 (ix3 0 x d)) h) (fun u h g x => ?_) hV _ (fun i x z => ?_) _ _ _ (fun i x => ?_) (fun q g d => ?_) (fun q g d => ?_)
  · rw [e41, pay110_eq p hp c2 u h g x k hk]; exact hS u h g x
  · refine (iter_max (fun a : FVec Ideal S32x128 .f32 => a (ix2 i x)) _ _ _ zero_row (fun j a => ?_) z).trans (forall_congr' fun j => max_le_iff)
    rw [e41]
    exact mx_eq _ a i x
  · exact iter_sum (fun a : FVec Ideal S32x128 .f32 × FVec Ideal S64x128 .f32 × FVec Ideal S64x128 .f32 => a.1 (ix2 i x)) _ _ _ (zero_f (s := S32x128) (ix2 i x)) (fun j a => pay34_eq _ _ _ i x)
  · exact iter_sum (fun a : FVec Ideal S32x128 .f32 × FVec Ideal S64x128 .f32 × FVec Ideal S64x128 .f32 => a.2.1 (ix2 ⟨16 * q.val + g.val, by omega⟩ d)) _ _ _ (zero_f (s := S64x128) (ix2 ⟨16 * q.val + g.val, by omega⟩ d)) (fun j a => by
      rw [show srow 0 g = ⟨g.val, by omega⟩ from Fin.ext (by show 16 * 0 + g.val = g.val; omega)]
      exact pay106_eq _ _ _ _ _ q g d)
  · exact iter_sum (fun a : FVec Ideal S32x128 .f32 × FVec Ideal S64x128 .f32 × FVec Ideal S64x128 .f32 => a.2.2 (ix2 ⟨16 * q.val + g.val, by omega⟩ d)) _ _ _ (zero_f (s := S64x128) (ix2 ⟨16 * q.val + g.val, by omega⟩ d)) (fun j a => pay157_eq _ _ _ _ _ q g d)

/-- Every trip, one after the other. -/
theorem iter_inv {σ : Type} {n : ℕ} (step : Fin n → σ → σ) (init : σ) (Q : ℕ → σ → Prop) (h0 : Q 0 init) (h : ∀ (j : Fin n) s, Q j.val s → Q (j.val + 1) (step j s)) :
    Q n (iter step init n) := by
  have H : ∀ k, k ≤ n → Q k (iter step init k) := fun k => by
    induction k with
    | zero => intro _; exact h0
    | succ k ih => intro hk; rw [iter_succ step init ⟨k, by omega⟩]; exact h ⟨k, by omega⟩ _ (ih (by omega))
  exact H n le_rfl

theorem stateE_inv
    (hS : ∀ (k : ℕ) (u : Fin 16) (h : Fin 2) (g : Fin 16) (x : Fin 256), k < nb p →
      masked p k u x (dots q2 (fun l x => rows0 (keysE arg11 arg16 c plK pgs p v30 k u) (ix2 l x)) (fun l x => rows4 (keysE arg11 arg16 c plK pgs p v30 k u) (ix2 l x)) (orow h ⟨x.val % 4, by omega⟩ g) x * c2 (ix2 (srow h g) x))
        = S h ⟨x.val % 4, by omega⟩ g (1024 * k + (64 * u.val + x.val / 4)))
    (hV : ∀ (k : ℕ) (h : Fin 2) (u : Fin 16) (x : Fin 256) (d : Fin 128), k < nb p →
      two (rows0 (valsE arg12 arg17 c plV pgs p v41 k u) (ix2 x d)) (rows4 (valsE arg12 arg17 c plV pgs p v41 k u) (ix2 x d)) h = V h ⟨x.val % 4, by omega⟩ (1024 * k + (64 * u.val + x.val / 4)) d) :
    Inv S V (1024 * nb p) (stateE arg11 arg12 arg16 arg17 c plK plV pgs p hp v30 v41 k0_pay69 k0_pay70 k0_pay71 k0_pay72 k0_pay73 k0_pay74 k0_pay75 tok c2 q2).1
      (stateE arg11 arg12 arg16 arg17 c plK plV pgs p hp v30 v41 k0_pay69 k0_pay70 k0_pay71 k0_pay72 k0_pay73 k0_pay74 k0_pay75 tok c2 q2).2.1
      (stateE arg11 arg12 arg16 arg17 c plK plV pgs p hp v30 v41 k0_pay69 k0_pay70 k0_pay71 k0_pay72 k0_pay73 k0_pay74 k0_pay75 tok c2 q2).2.2 := by
  unfold stateE
  have H := iter_inv (fun j : Fin (nb p) => tripE arg11 arg12 arg16 arg17 c plK plV pgs p v30 v41 k0_pay69 k0_pay70 k0_pay71 k0_pay72 k0_pay73 k0_pay74 k0_pay75 tok c2 q2 (Fin.cast (t4_trips p hp).symm j)) (k0_pay80, k0_pay81, k0_pay82)
    (fun k s => Inv S V (1024 * k) s.1 s.2.1 s.2.2) (inv_zero (fun i => neg_inf) (fun i => zero_f (s := S32x128) i) (fun i => zero_f (s := S128x128) i)) (fun j s I => by
      have hj : j.val < nb p := j.isLt
      have := nb_lt hp
      have h := tripE_inv arg11 arg12 arg16 arg17 c plK plV pgs p hp v30 v41 c2 q2 (Fin.cast (t4_trips p hp).symm j) (by rw [Fin.val_cast]; omega) s (by rw [Fin.val_cast]; exact I) (fun u h g x => hS _ u h g x hj) (fun h u x d => hV _ h u x d hj)
      rw [Fin.val_cast] at h
      exact h)
  exact H

theorem stateW_inv
    (hS : ∀ (k : ℕ) (u : Fin 16) (h : Fin 2) (g : Fin 16) (x : Fin 256), k < nb p →
      masked p k u x (dots q2 (fun l x => rows0 (keysW arg11 arg16 c plK pgs p v30 k u) (ix2 l x) * rd7 arg7 c 0 X7 (ix3 0 l x)) (fun l x => rows4 (keysW arg11 arg16 c plK pgs p v30 k u) (ix2 l x) * rd7 arg7 c 1 X7 (ix3 0 l x)) (orow h ⟨x.val % 4, by omega⟩ g) x * c2 (ix2 (srow h g) x))
        = S h ⟨x.val % 4, by omega⟩ g (1024 * k + (64 * u.val + x.val / 4)))
    (hV : ∀ (k : ℕ) (h : Fin 2) (u : Fin 16) (x : Fin 256) (d : Fin 128), k < nb p →
      two (rows0 (valsW arg12 arg17 c plV pgs p v41 k u) (ix2 x d) * rd8 arg8 c 0 X8 (ix3 0 x d)) (rows4 (valsW arg12 arg17 c plV pgs p v41 k u) (ix2 x d) * rd8 arg8 c 1 X8 (ix3 0 x d)) h = V h ⟨x.val % 4, by omega⟩ (1024 * k + (64 * u.val + x.val / 4)) d) :
    Inv S V (1024 * nb p) (stateW arg7 arg8 arg11 arg12 arg16 arg17 c plK plV pgs p hp X7 X8 v30 v41 k0_pay69 k0_pay70 k0_pay71 k0_pay72 k0_pay73 k0_pay74 k0_pay75 tok c2 q2).1
      (stateW arg7 arg8 arg11 arg12 arg16 arg17 c plK plV pgs p hp X7 X8 v30 v41 k0_pay69 k0_pay70 k0_pay71 k0_pay72 k0_pay73 k0_pay74 k0_pay75 tok c2 q2).2.1
      (stateW arg7 arg8 arg11 arg12 arg16 arg17 c plK plV pgs p hp X7 X8 v30 v41 k0_pay69 k0_pay70 k0_pay71 k0_pay72 k0_pay73 k0_pay74 k0_pay75 tok c2 q2).2.2 := by
  unfold stateW
  have H := iter_inv (fun j : Fin (nb p) => tripW arg7 arg8 arg11 arg12 arg16 arg17 c plK plV pgs p X7 X8 v30 v41 k0_pay69 k0_pay70 k0_pay71 k0_pay72 k0_pay73 k0_pay74 k0_pay75 tok c2 q2 (Fin.cast (t21_trips p hp).symm j)) (k0_pay149, k0_pay150, k0_pay151)
    (fun k s => Inv S V (1024 * k) s.1 s.2.1 s.2.2) (inv_zero (fun i => neg_inf) (fun i => zero_f (s := S32x128) i) (fun i => zero_f (s := S128x128) i)) (fun j s I => by
      have hj : j.val < nb p := j.isLt
      have := nb_lt hp
      have h := tripW_inv arg7 arg8 arg11 arg12 arg16 arg17 c X7 X8 plK plV pgs p hp v30 v41 c2 q2 (Fin.cast (t21_trips p hp).symm j) (by rw [Fin.val_cast]; omega) s (by rw [Fin.val_cast]; exact I) (fun u h g x => hS _ u h g x hj) (fun h u x d => hV _ h u x d hj)
      rw [Fin.val_cast] at h
      exact h)
  exact H

end Cert.KernelIdeal.Attend

end
-- ==== Proof.Slot.lean ====
/-
  What a half page of a slot holds: the pages of the pool, with the new token's row over its place.
-/
module

public import proofs.«01_k».proof.Proof.Score
public import proofs.«01_k».proof.Proof.Widen

@[expose] public section

set_option maxRecDepth 16384

noncomputable section

namespace Cert.KernelIdeal.Attend

open Cert.KernelIdeal Cert.KernelIdeal.Gen Cert.KernelIdeal.Hand Cert.KernelIdeal.Words
open Idealize.ShloMosaic Idealize.ShloMosaic.TcCoe

/-- The place of a row among the four tokens of a group, as the kernel divides. -/
theorem row_word : ∀ r : Fin 32, Scalar.select
        (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 r.val) 8#32) 0#32))
          (IntOp.subi (IntOp.divsi ArithUnit.vector (BitVec.ofNat 32 r.val) 8#32) 1#32)
          (IntOp.divsi ArithUnit.vector (BitVec.ofNat 32 r.val) 8#32) = BitVec.ofNat 32 (r.val / 8) := by
  decide +kernel

theorem tok_word (p : ℕ) (hp : p < 131072) : fmod (tokW (BitVec.ofNat 32 p)) 4#32 = BitVec.ofNat 32 (p % 4) := by
  have h1 : fmod (BitVec.ofNat 32 p) 1024#32 = BitVec.ofNat 32 (p % 1024) := fmod_ofNat p 1024 (by omega) (by omega) (by omega)
  have h2 : fmod (BitVec.ofNat 32 (p % 1024)) 128#32 = BitVec.ofNat 32 (p % 1024 % 128) := fmod_ofNat (p % 1024) 128 (by omega) (by omega) (by omega)
  have h3 : fmod (BitVec.ofNat 32 (p % 1024 % 128)) 4#32 = BitVec.ofNat 32 (p % 1024 % 128 % 4) := fmod_ofNat (p % 1024 % 128) 4 (by omega) (by omega) (by omega)
  unfold tokW
  rw [h1, h2, h3]
  congr 1; omega

theorem eq_word (a b : ℕ) (ha : a < 2 ^ 32) (hb : b < 2 ^ 32) : IntOp.cmpi .eq (BitVec.ofNat 32 a) (BitVec.ofNat 32 b) = BitVec.ofBool (decide (a = b)) := by
  refine congrArg BitVec.ofBool ?_
  rw [Bool.eq_iff_iff]
  simp only [beq_iff_eq, decide_eq_true_eq]
  constructor
  · intro h
    have := congrArg BitVec.toNat h
    simp only [BitVec.toNat_ofNat] at this
    rwa [Nat.mod_eq_of_lt ha, Nat.mod_eq_of_lt hb] at this
  · rintro rfl; rfl

variable (buf : Memref sig .tc .vmem S6x8x1024x128 .fp8e4m3) (c : Dev nD) (f : Buf (Elt Ideal) (buf.view.loc (c : Thread nD τ)))

/-- The contents of a buffer at a place. -/
abbrev at4 (s : Fin 6) (g : Fin 8) (a : Fin 1024) (b : Fin 128) : EReal := buf.view.read (Elt Ideal) f (Hand.ix4 s g a b)

theorem half_at (s : Fin 6) (j : Fin 16) (a : Fin 512) (d : Fin 128) :
    half c buf s j f (Idealize.ShloMosaic.ix4 (n0 := 1) (n1 := 1) 0 0 a d) = at4 buf c f s ⟨j.val / 2, by omega⟩ ⟨512 * (j.val % 2) + a.val, by omega⟩ d := by
  show buf.view.read (Elt Ideal) f _ = _
  congr 1
  funext i
  fin_cases i <;> apply Fin.ext <;> simp [Rect.emb, Rect.unit, Idealize.ShloMosaic.ix4, Hand.ix4]

theorem quad_emb (s : Fin 6) (g : Fin 8) (t : Fin 32) (r : Fin 32) (d : Fin 128) : (patchR s g t).emb (Idealize.ShloMosaic.ix4 (n0 := 1) (n1 := 1) 0 0 r d) = Hand.ix4 s g (⟨32 * t.val + r.val, by omega⟩ : Fin 1024) d := by
  funext i
  fin_cases i <;> apply Fin.ext <;> simp [Rect.emb, Rect.unit, Idealize.ShloMosaic.ix4, Hand.ix4]
  omega

theorem quad_at (s : Fin 6) (g : Fin 8) (t : Fin 32) (r : Fin 32) (d : Fin 128) : quad c buf s g t f (Idealize.ShloMosaic.ix4 (n0 := 1) (n1 := 1) 0 0 r d) = at4 buf c f s g ⟨32 * t.val + r.val, by omega⟩ d := by
  show buf.view.read (Elt Ideal) f _ = _
  exact congrArg _ (quad_emb s g t r d)

theorem put_at (s : Fin 6) (g : Fin 8) (t : Fin 32) (w : Vec Ideal S1x1x32x128 .fp8e4m3) (g' : Fin 8) (a : Fin 1024) (d : Fin 128) :
    at4 buf c (putQuad c buf s g t f w) s g' a d = if h : g' = g ∧ a.val / 32 = t.val then w (Idealize.ShloMosaic.ix4 (n0 := 1) (n1 := 1) 0 0 ⟨a.val % 32, by omega⟩ d) else at4 buf c f s g' a d := by
  split_ifs with h
  · obtain ⟨rfl, h⟩ := h
    have e := quad_emb s g' t ⟨a.val % 32, by omega⟩ d
    have e' : (⟨32 * t.val + a.val % 32, by omega⟩ : Fin 1024) = a := Fin.ext (by show 32 * t.val + a.val % 32 = a.val; omega)
    rw [e'] at e
    show buf.view.read (Elt Ideal) _ (Hand.ix4 s g' a d) = _
    rw [← e]
    exact congrFun (View.read_write_univ (v := buf.access (patchR s g' t)) f w) _
  · refine View.read_slice_write_of_not_mem (v := buf.view) (patchR s g t) f w Finset.univ ?_
    intro hm
    obtain ⟨z, -, hz⟩ := Finset.mem_map.mp hm
    have z1 : (z 1).val < 1 := (z 1).isLt
    have z2 : (z 2).val < 32 := (z 2).isLt
    have a1 : g.val + 1 * (z 1).val = g'.val := congrArg Fin.val (congrFun hz 1)
    have a2 : t.val * 32 + 1 * (z 2).val = a.val := congrArg Fin.val (congrFun hz 2)
    exact h ⟨Fin.ext (by omega), by omega⟩

variable (pool : Memref sig .tc .hbm S1024x1024x128 .fp8e4m3) (pl : Buf (Elt Ideal) (pool.view.loc (c : Thread nD τ))) (pgs : ℕ → Fin 1024)

theorem page_at (i : ℕ) (a : Fin 1024) (d : Fin 128) : pageX pool c pl pgs i (Hand.ix2 a d) = pool.view.read (Elt Ideal) pl (Idealize.ShloMosaic.ix3 (pgs i) a d) := by
  show pool.view.read (Elt Ideal) pl _ = _
  congr 1
  have e : Shape.reshapeEquiv (squeezes_S1x1024x128_S1024x128).numel_eq (Hand.ix2 a d) = Idealize.ShloMosaic.ix3 (0 : Fin 1) a d := by
    apply Shape.reshapeEquiv_eq_of_rowMajor
    refine (Shape.rowMajor_val_three (d := ![1, 1024, 128]) _).trans (Eq.trans ?_ (Shape.rowMajor_val_two (d := ![1024, 128]) _).symm)
    simp [Idealize.ShloMosaic.ix3, Hand.ix2]
  refine (congrArg (Rect.unit (s := S1024x1024x128) ![(pgs i).val, 0, 0] S1x1024x128.size (qinb (pgs i))).emb e).trans ?_
  funext i
  fin_cases i <;> apply Fin.ext <;> simp [Rect.emb, Rect.unit, Idealize.ShloMosaic.ix3]

variable (v : FVec Ideal S8x128 .fp8e4m3) (x : Vec Ideal S1x1x32x128 .fp8e4m3) (r : Fin 32) (d : Fin 128)

theorem pick8 : (if h : r.val < 8 then v (ix2 ⟨r.val, h⟩ d) else if h : r.val - 8 < 8 then v (ix2 ⟨r.val - 8, h⟩ d)
    else if h : r.val - 8 - 8 < 8 then v (ix2 ⟨r.val - 8 - 8, h⟩ d) else v (ix2 ⟨r.val - 8 - 8 - 8, by omega⟩ d)) = v (ix2 ⟨r.val % 8, by omega⟩ d) := by
  have hr := r.isLt
  split_ifs with h1 h2 h3
  · simp only [show r.val % 8 = r.val by omega]
  · simp only [show r.val % 8 = r.val - 8 by omega]
  · simp only [show r.val % 8 = r.val - 8 - 8 by omega]
  · simp only [show r.val % 8 = r.val - 8 - 8 - 8 by omega]

variable (p : ℕ) (hp : p < 131072)

section
include hp
theorem newK_eq : newK (BitVec.ofNat 32 p) v x (ix4 0 0 r d) = if r.val / 8 = p % 4 then v (ix2 ⟨r.val % 8, by omega⟩ d) else x (ix4 0 0 r d) := by
  have e : newK (BitVec.ofNat 32 p) v x (ix4 0 0 r d) = Scalar.select (IntOp.cmpi .eq (BitVec.ofNat 32 (r.val / 8)) (fmod (tokW (BitVec.ofNat 32 p)) 4#32)) (v (ix2 ⟨r.val % 8, by omega⟩ d)) (x (ix4 0 0 r d)) := by
    unfold newK
    generalize tokW (BitVec.ofNat 32 p) = w
    pointwise [k0_pay25, k0_pay20, k0_pay21, k0_pay22, k0_pay23, k0_pay24]
    rw [row_word, pick8]
    rfl
  rw [e, tok_word p hp, eq_word _ _ (by omega) (by omega), select_bool]
theorem newV_eq : newV (BitVec.ofNat 32 p) v x (ix4 0 0 r d) = if r.val / 8 = p % 4 then v (ix2 ⟨r.val % 8, by omega⟩ d) else x (ix4 0 0 r d) := by
  rw [← newK_eq v x r d p hp]; rfl
theorem newKW_eq : newKW (BitVec.ofNat 32 p) v x (ix4 0 0 r d) = if r.val / 8 = p % 4 then v (ix2 ⟨r.val % 8, by omega⟩ d) else x (ix4 0 0 r d) := by
  rw [← newK_eq v x r d p hp]; rfl
theorem newVW_eq : newVW (BitVec.ofNat 32 p) v x (ix4 0 0 r d) = if r.val / 8 = p % 4 then v (ix2 ⟨r.val % 8, by omega⟩ d) else x (ix4 0 0 r d) := by
  rw [← newK_eq v x r d p hp]; rfl
end

/-- A half page, row `8·τ + n` of it: head `n` of token `τ`. -/
theorem slot_at (k : ℕ) (hk : k < nb p) (new : Vec Ideal S1x1x32x128 .fp8e4m3 → FVec Ideal S1x1x32x128 .fp8e4m3)
    (hn : ∀ x (r : Fin 32) (d : Fin 128), new x (ix4 0 0 r d) = if r.val / 8 = p % 4 then v (ix2 ⟨r.val % 8, by omega⟩ d) else x (ix4 0 0 r d))
    (u : Fin 16) (t : Fin 64) (n : Fin 8) (d : Fin 128) :
    half c buf (sl k) u (slotVal c p buf k (Fof buf c (blkC pool c pl pgs k)) new) (ix4 0 0 ⟨t.val * 8 + n.val, by omega⟩ d)
      = if 1024 * k + (64 * u.val + t.val) = p then v (ix2 n d)
        else pool.view.read (Elt Ideal) pl (ix3 (pgs ((1024 * k + (64 * u.val + t.val)) / 128)) ⟨(1024 * k + (64 * u.val + t.val)) % 128 * 8 + n.val, by omega⟩ d) := by
  have hb : ∀ (g : Fin 8) (a : Fin 1024), at4 buf c (Fof buf c (blkC pool c pl pgs k)) (sl k) g a d = pool.view.read (Elt Ideal) pl (ix3 (pgs (8 * k + g.val)) a d) := fun g a => by
    rw [← page_at]
    exact congrFun (View.read_write_univ (v := buf.view) _ _) _
  have e1 : (1024 * k + (64 * u.val + t.val)) / 128 = 8 * k + u.val / 2 := by omega
  have e2 : 512 * (u.val % 2) + (t.val * 8 + n.val) = (1024 * k + (64 * u.val + t.val)) % 128 * 8 + n.val := by omega
  rw [half_at]
  unfold slotVal
  have hu := u.isLt
  split_ifs with h1 h2 h2
  · rw [put_at, dif_pos ⟨Fin.ext (by show u.val / 2 = p % 1024 / 128; omega), by show (512 * (u.val % 2) + (t.val * 8 + n.val)) / 32 = p % 128 / 4; omega⟩, hn, if_pos (by show (512 * (u.val % 2) + (t.val * 8 + n.val)) % 32 / 8 = p % 4; omega)]
    simp only [show (512 * (u.val % 2) + (t.val * 8 + n.val)) % 32 % 8 = n.val by omega]
  · rw [put_at]
    split_ifs with h3
    · obtain ⟨h3, h4⟩ := h3
      have h3' : u.val / 2 = p % 1024 / 128 := congrArg Fin.val h3
      have h4' : (512 * (u.val % 2) + (t.val * 8 + n.val)) / 32 = p % 128 / 4 := h4
      have hq : nb p = p / 1024 + 1 := rfl
      rw [hn, if_neg (by show ¬ (512 * (u.val % 2) + (t.val * 8 + n.val)) % 32 / 8 = p % 4; omega), quad_at, hb]
      simp only [show 8 * k + (gOf p).val = (1024 * k + (64 * u.val + t.val)) / 128 by show 8 * k + p % 1024 / 128 = _; omega, show 32 * (rOf p).val + (512 * (u.val % 2) + (t.val * 8 + n.val)) % 32 = (1024 * k + (64 * u.val + t.val)) % 128 * 8 + n.val by show 32 * (p % 128 / 4) + _ = _; omega]
    · rw [hb, e1]; simp only [e2]
  · exact absurd (show k + 1 = p / 1024 + 1 by omega) h1
  · rw [hb, e1]; simp only [e2]

end Cert.KernelIdeal.Attend

end
-- ==== Proof.Attn.lean ====
/-
  The attention the kernel computes, as two sums over all the tokens: the sum of the weighted values over the sum of the weights.
-/
module

public import proofs.«01_k».proof.Proof.Model
public import proofs.«01_k».proof.Proof.Trip
public import proofs.«01_k».proof.Proof.Slot

@[expose] public section

set_option maxRecDepth 16384

noncomputable section

namespace Cert.KernelIdeal.Attend

open Cert.KernelIdeal Cert.KernelIdeal.Gen Cert.Online Cert.KernelIdeal.Hand Cert.KernelIdeal.Words
open Idealize.ShloMosaic Idealize.ShloMosaic.TcCoe

/-- The quotient of the folded sums is the attention. -/
theorem quot_eq {S : Fin 2 → Fin 4 → Fin 16 → ℕ → EReal} {V : Fin 2 → Fin 4 → ℕ → Fin 128 → EReal} {n p : ℕ} {m l : FVec Ideal S32x128 .f32} {a : FVec Ideal S128x128 .f32}
    (I : Inv S V n m l a) (hn : p < n) (hN : n ≤ 131072) (h : Fin 2) (q : Fin 4) (g : Fin 16) (d : Fin 128) (w : Vec Ideal S128x128 .f32) (s W : ℕ → EReal)
    (hS : ∀ t, S h q g t = if t ≤ p then s t * lg else ⊥) (h0 : 0 ≤ w (Idealize.ShloMosaic.ix2 (orow h q g) d)) (ht : w (Idealize.ShloMosaic.ix2 (orow h q g) d) ≠ ⊤)
    (hW : ∀ t, V h q t d * w (Idealize.ShloMosaic.ix2 (orow h q g) d) = W t) :
    k0_pay10 l a w (Idealize.ShloMosaic.ix2 (orow h q g) d) = attn p s W := by
  have hM : ∀ z, m (Idealize.ShloMosaic.ix2 (srow h g) ⟨q.val, by omega⟩) ≤ z ↔ ∀ t < n, S h q g t ≤ z := fun z => by
    have e : (⟨q.val % 4, by omega⟩ : Fin 4) = q := Fin.ext (Nat.mod_eq_of_lt q.isLt)
    have := I.hm h g ⟨q.val, by omega⟩ z
    rwa [e] at this
  rw [pay10_eq, I.ha, sum_mul h0 ht]
  simp only [mul_assoc, hW]
  have hden : lane (classSum l) (srow h g) q.val = ∑ t ∈ Finset.range n, Ideal.exp2 (S h q g t - m (Idealize.ShloMosaic.ix2 (srow h g) ⟨q.val, by omega⟩)) * 1 := by
    rw [← I.hl, lane_classSum, sum_class_lanes (fun x => lane l (srow h g) x) (fun x => by unfold lane; simp only [Nat.mod_mod]) q.val q.isLt, Finset.sum_range]
    refine Finset.sum_congr rfl fun i _ => ?_
    unfold lane
    exact congrArg (fun z => l (Idealize.ShloMosaic.ix2 (srow h g) z)) (Fin.ext (Nat.mod_eq_of_lt (by omega)))
  rw [hden, weights hn hN s (S h q g) hS (top_le p s) hM W, weights hn hN s (S h q g) hS (top_le p s) hM (fun _ => 1)]
  rfl

section
variable {q2 : FVec Ideal S128x256 .bf16} {xq : Fin 128 → Fin 128 → EReal}
theorem dots_eq (hlo : ∀ r x : Fin 128, q2 (Idealize.ShloMosaic.ix2 r ⟨x.val, by omega⟩) = if r.val < 64 then xq r x else 0)
    (hhi : ∀ r x : Fin 128, q2 (Idealize.ShloMosaic.ix2 r ⟨128 + x.val, by omega⟩) = if r.val < 64 then 0 else xq r x)
    (R R' : Fin 256 → Fin 128 → EReal) (h : Fin 2) (q : Fin 4) (g : Fin 16) (l : Fin 256) :
    dots q2 R R' (orow h q g) l = ∑ x : Fin 128, xq (orow h q g) x * two (R l x) (R' l x) h := by
  unfold dots
  simp only [hlo, hhi]
  match h with
  | ⟨0, _⟩ =>
    have e : (orow ⟨0, by omega⟩ q g).val < 64 := by show 64 * 0 + 16 * q.val + g.val < 64; omega
    simp only [if_pos e, zero_mul, Finset.sum_const_zero, add_zero]
    rfl
  | ⟨1, _⟩ =>
    have e : ¬ (orow ⟨1, by omega⟩ q g).val < 64 := by show ¬ 64 * 1 + 16 * q.val + g.val < 64; omega
    simp only [if_neg e, zero_mul, Finset.sum_const_zero, zero_add]
    rfl
end

/-- The code of a token's row: the new token's at its position, the pool's elsewhere. -/
def codeAt (p : ℕ) (pgs : ℕ → Fin 1024) (v : FVec Ideal S8x128 .fp8e4m3) (pool : S1024x1024x128.Idx → EReal) (n : Fin 8) (t : ℕ) (d : Fin 128) : EReal :=
  if t = p then v (Idealize.ShloMosaic.ix2 n d) else pool (Idealize.ShloMosaic.ix3 (pgs (t / 128)) ⟨t % 128 * 8 + n.val, by omega⟩ d)
/-- The head a half and a class name. -/
abbrev hd (h : Fin 2) (q : Fin 4) : Fin 8 := ⟨4 * h.val + q.val, by omega⟩

section
variable (buf : Memref sig .tc .vmem S6x8x1024x128 .fp8e4m3) (c : Dev nD) (pool : Memref sig .tc .hbm S1024x1024x128 .fp8e4m3) (pl : Buf (Elt Ideal) (pool.view.loc (c : Thread nD τ))) (pgs : ℕ → Fin 1024) (v : FVec Ideal S8x128 .fp8e4m3) (p : ℕ)
  (k : ℕ) (hk : k < nb p) (new : Vec Ideal S1x1x32x128 .fp8e4m3 → FVec Ideal S1x1x32x128 .fp8e4m3)
    (hn : ∀ x (r : Fin 32) (d : Fin 128), new x (Idealize.ShloMosaic.ix4 0 0 r d) = if r.val / 8 = p % 4 then v (Idealize.ShloMosaic.ix2 ⟨r.val % 8, by omega⟩ d) else x (Idealize.ShloMosaic.ix4 0 0 r d)) (u : Fin 16) (l : Fin 256) (d : Fin 128)
include hk hn
theorem rows0_code : rows0 (half c buf (sl k) u (slotVal c p buf k (Fof buf c (blkC pool c pl pgs k)) new)) (Idealize.ShloMosaic.ix2 l d)
    = codeAt p pgs v (pool.view.read (Elt Ideal) pl) (hd 0 ⟨l.val % 4, by omega⟩) (1024 * k + (64 * u.val + l.val / 4)) d := by
  rw [rows0_apply]
  exact (congrArg (fun z => half c buf (sl k) u (slotVal c p buf k (Fof buf c (blkC pool c pl pgs k)) new) (Idealize.ShloMosaic.ix4 0 0 z d)) (Fin.ext (by simp))).trans
    (slot_at buf c pool pl pgs v p k hk new hn u ⟨l.val / 4, by omega⟩ (hd 0 ⟨l.val % 4, by omega⟩) d)
theorem rows4_code : rows4 (half c buf (sl k) u (slotVal c p buf k (Fof buf c (blkC pool c pl pgs k)) new)) (Idealize.ShloMosaic.ix2 l d)
    = codeAt p pgs v (pool.view.read (Elt Ideal) pl) (hd 1 ⟨l.val % 4, by omega⟩) (1024 * k + (64 * u.val + l.val / 4)) d := by
  rw [rows4_apply]
  exact (congrArg (fun z => half c buf (sl k) u (slotVal c p buf k (Fof buf c (blkC pool c pl pgs k)) new) (Idealize.ShloMosaic.ix4 0 0 z d)) (Fin.ext (by simp))).trans
    (slot_at buf c pool pl pgs v p k hk new hn u ⟨l.val / 4, by omega⟩ (hd 1 ⟨l.val % 4, by omega⟩) d)
end

variable (arg7 arg8 : Memref sig .tc .vmem S2x256x128 .bf16) (arg11 arg12 : Memref sig .tc .hbm S1024x1024x128 .fp8e4m3) (arg16 arg17 : Memref sig .tc .vmem S6x8x1024x128 .fp8e4m3) (c : Dev nD)
variable (X7 : Buf (Elt Ideal) (arg7.view.loc (c : Thread nD τ))) (X8 : Buf (Elt Ideal) (arg8.view.loc (c : Thread nD τ)))
variable (plK : Buf (Elt Ideal) (arg11.view.loc (c : Thread nD τ))) (plV : Buf (Elt Ideal) (arg12.view.loc (c : Thread nD τ))) (pgs : ℕ → Fin 1024)
variable (p : ℕ) (hp : p < 131072) (v30 v41 : FVec Ideal S8x128 .fp8e4m3) (c2 : FVec Ideal S32x256 .f32) (q2 : FVec Ideal S128x256 .bf16) (w : Vec Ideal S128x128 .f32)
variable (xq : Fin 128 → Fin 128 → EReal) (ks vs : Fin 8 → EReal) (hk0 : ∀ n, 0 ≤ ks n) (hkt : ∀ n, ks n ≠ ⊤) (hv0 : ∀ n, 0 ≤ vs n) (hvt : ∀ n, vs n ≠ ⊤)
  (hlo : ∀ r x : Fin 128, q2 (Idealize.ShloMosaic.ix2 r (lane0 x)) = if r.val < 64 then xq r x else 0)
  (hhi : ∀ r x : Fin 128, q2 (Idealize.ShloMosaic.ix2 r (lane1 x)) = if r.val < 64 then 0 else xq r x)

/-- The scores and the values. -/
abbrev sc (h : Fin 2) (q : Fin 4) (g : Fin 16) (t : ℕ) : EReal :=
  score (xq (orow h q g)) (codeAt p pgs v30 (arg11.view.read (Elt Ideal) plK) (hd h q) t) (ks (hd h q))
abbrev cv (h : Fin 2) (q : Fin 4) (t : ℕ) (d : Fin 128) : EReal := codeAt p pgs v41 (arg12.view.read (Elt Ideal) plV) (hd h q) t d

include hp hk0 hkt hv0 hvt hlo hhi in
theorem exact_eq (hc2 : ∀ (h : Fin 2) (g : Fin 16) (x : Fin 256), c2 (Idealize.ShloMosaic.ix2 (srow h g) x) = ks (hd h ⟨x.val % 4, by omega⟩) * (rt * lg))
    (hw : ∀ (h : Fin 2) (q : Fin 4) (g : Fin 16) (d : Fin 128), w (Idealize.ShloMosaic.ix2 (orow h q g) d) = vs (hd h q)) (h : Fin 2) (q : Fin 4) (g : Fin 16) (d : Fin 128) :
    k0_pay10 (stateE arg11 arg12 arg16 arg17 c plK plV pgs p hp v30 v41 k0_pay69 k0_pay70 k0_pay71 k0_pay72 k0_pay73 k0_pay74 k0_pay75 tok c2 q2).2.1
      (stateE arg11 arg12 arg16 arg17 c plK plV pgs p hp v30 v41 k0_pay69 k0_pay70 k0_pay71 k0_pay72 k0_pay73 k0_pay74 k0_pay75 tok c2 q2).2.2 w (Idealize.ShloMosaic.ix2 (orow h q g) d)
      = attn p (sc arg11 c plK pgs p v30 xq ks h q g) (fun t => cv arg12 c plV pgs p v41 h q t d * vs (hd h q)) := by
  have I := stateE_inv (S := fun h q g t => if t ≤ p then sc arg11 c plK pgs p v30 xq ks h q g t * lg else ⊥) (V := cv arg12 c plV pgs p v41)
    arg11 arg12 arg16 arg17 c plK plV pgs p hp v30 v41 c2 q2
    (fun k u h g x hk => by
      unfold masked
      rw [dots_eq hlo hhi, hc2, ← score_exact (hk0 _) (hkt _)]
      simp only [rows0_code arg16 c arg11 plK pgs v30 p k hk _ (fun x r d => newK_eq v30 x r d p hp), rows4_code arg16 c arg11 plK pgs v30 p k hk _ (fun x r d => newK_eq v30 x r d p hp)]
      match h with
      | ⟨0, _⟩ => rfl
      | ⟨1, _⟩ => rfl)
    (fun k h u x d hk => by
      rw [rows0_code arg17 c arg12 plV pgs v41 p k hk _ (fun x r d => newV_eq v41 x r d p hp), rows4_code arg17 c arg12 plV pgs v41 p k hk _ (fun x r d => newV_eq v41 x r d p hp)]
      match h with
      | ⟨0, _⟩ => rfl
      | ⟨1, _⟩ => rfl)
  refine quot_eq I (p := p) ?_ ?_ h q g d w (sc arg11 c plK pgs p v30 xq ks h q g) _ (fun t => rfl) (by rw [hw]; exact hv0 _) (by rw [hw]; exact hvt _) (fun t => by rw [hw])
  · unfold nb; omega
  · unfold nb; omega

include hp hk0 hkt hv0 hvt hlo hhi in
theorem wide_eq (hc2 : ∀ (h : Fin 2) (g : Fin 16) (x : Fin 256), c2 (Idealize.ShloMosaic.ix2 (srow h g) x) = 1 * (rt * lg))
    (hw : ∀ i, w i = (1 : EReal))
    (h7 : ∀ (h : Fin 2) (l : Fin 256) (x : Fin 128), rd7 arg7 c h X7 (Idealize.ShloMosaic.ix3 0 l x) = ks (hd h ⟨l.val % 4, by omega⟩))
    (h8 : ∀ (h : Fin 2) (l : Fin 256) (x : Fin 128), rd8 arg8 c h X8 (Idealize.ShloMosaic.ix3 0 l x) = vs (hd h ⟨l.val % 4, by omega⟩)) (h : Fin 2) (q : Fin 4) (g : Fin 16) (d : Fin 128) :
    k0_pay10 (stateW arg7 arg8 arg11 arg12 arg16 arg17 c plK plV pgs p hp X7 X8 v30 v41 k0_pay69 k0_pay70 k0_pay71 k0_pay72 k0_pay73 k0_pay74 k0_pay75 tok c2 q2).2.1
      (stateW arg7 arg8 arg11 arg12 arg16 arg17 c plK plV pgs p hp X7 X8 v30 v41 k0_pay69 k0_pay70 k0_pay71 k0_pay72 k0_pay73 k0_pay74 k0_pay75 tok c2 q2).2.2 w (Idealize.ShloMosaic.ix2 (orow h q g) d)
      = attn p (sc arg11 c plK pgs p v30 xq ks h q g) (fun t => cv arg12 c plV pgs p v41 h q t d * vs (hd h q)) := by
  have I := stateW_inv (S := fun h q g t => if t ≤ p then sc arg11 c plK pgs p v30 xq ks h q g t * lg else ⊥) (V := fun h q t d => cv arg12 c plV pgs p v41 h q t d * vs (hd h q))
    arg7 arg8 arg11 arg12 arg16 arg17 c X7 X8 plK plV pgs p hp v30 v41 c2 q2
    (fun k u h g x hk => by
      unfold masked
      rw [dots_eq hlo hhi, hc2, ← score_wide]
      simp only [rows0_code arg16 c arg11 plK pgs v30 p k hk _ (fun x r d => newKW_eq v30 x r d p hp), rows4_code arg16 c arg11 plK pgs v30 p k hk _ (fun x r d => newKW_eq v30 x r d p hp)]
      refine if_congr Iff.rfl (congrArg (fun z => z * (1 * (rt * lg))) (Finset.sum_congr rfl fun i _ => congrArg (fun z => xq (orow h ⟨x.val % 4, by omega⟩ g) i * z) ?_)) rfl
      match h with
      | ⟨0, _⟩ => exact congrArg (fun z => codeAt p pgs v30 (arg11.view.read (Elt Ideal) plK) (hd 0 ⟨x.val % 4, by omega⟩) (1024 * k + (64 * u.val + x.val / 4)) i * z) (h7 0 x i)
      | ⟨1, _⟩ => exact congrArg (fun z => codeAt p pgs v30 (arg11.view.read (Elt Ideal) plK) (hd 1 ⟨x.val % 4, by omega⟩) (1024 * k + (64 * u.val + x.val / 4)) i * z) (h7 1 x i))
    (fun k h u x d hk => by
      rw [rows0_code arg17 c arg12 plV pgs v41 p k hk _ (fun x r d => newVW_eq v41 x r d p hp), rows4_code arg17 c arg12 plV pgs v41 p k hk _ (fun x r d => newVW_eq v41 x r d p hp)]
      match h with
      | ⟨0, _⟩ => exact congrArg (fun z => cv arg12 c plV pgs p v41 0 ⟨x.val % 4, by omega⟩ (1024 * k + (64 * u.val + x.val / 4)) d * z) (h8 0 x d)
      | ⟨1, _⟩ => exact congrArg (fun z => cv arg12 c plV pgs p v41 1 ⟨x.val % 4, by omega⟩ (1024 * k + (64 * u.val + x.val / 4)) d * z) (h8 1 x d))
  refine quot_eq I (p := p) ?_ ?_ h q g d w (sc arg11 c plK pgs p v30 xq ks h q g) _ (fun t => rfl) (by rw [hw]; exact zero_le_one) (by rw [hw]; exact EReal.coe_ne_top 1) (fun t => by rw [hw, mul_one])
  · unfold nb; omega
  · unfold nb; omega

end Cert.KernelIdeal.Attend

end
-- ==== Proof.HostRead.lean ====
/-
  What the kernel's host hands the region, entry by entry: the queries in two blocks, the scales, the pools by pages.
-/
module

public import proofs.«01_k».proof.Proof.Codes
public import Idealize.ShloMosaic.Lib.IdealHost

@[expose] public section

set_option maxRecDepth 16384

noncomputable section

namespace Cert.KernelIdeal.Hand

open Cert.KernelIdeal Cert.KernelIdeal.Gen
open Idealize.ShloMosaic

variable (m : (ℓ : Loc nD τ sig) → Buf (Elt Ideal) ℓ) (c : Dev nD)

theorem V19_lo (r x : Fin 128) : V m c main_v19 (Idealize.ShloMosaic.ix2 r ⟨x.val, by omega⟩)
    = if r.val < 64 then m (c, Proc.tc.devRef main_arg0) (Idealize.ShloMosaic.ix3 0 0 ⟨r.val * 128 + x.val, by omega⟩) else (0 : EReal) := by
  unfold V
  simp only [hostOps0, hostOps0_1, hostOps0_2, hostOps0_3, hostOps0_4, List.flatten_cons, List.flatten_nil, List.append_nil, List.cons_append, List.nil_append]
  after_reads_at
  split_ifs
  all_goals first | omega | after_reads_at
  all_goals first | rfl | exact Ideal.ofBits_zero_bf16

theorem V19_hi (r x : Fin 128) : V m c main_v19 (Idealize.ShloMosaic.ix2 r ⟨128 + x.val, by omega⟩)
    = if r.val < 64 then (0 : EReal) else m (c, Proc.tc.devRef main_arg0) (Idealize.ShloMosaic.ix3 0 0 ⟨r.val * 128 + x.val, by omega⟩) := by
  unfold V
  simp only [hostOps0, hostOps0_1, hostOps0_2, hostOps0_3, hostOps0_4, List.flatten_cons, List.flatten_nil, List.append_nil, List.cons_append, List.nil_append]
  after_reads_at
  split_ifs
  all_goals first | omega | after_reads_at
  all_goals first | rfl | exact Ideal.ofBits_zero_bf16 | (congr 2; apply Fin.ext; simp; omega)

theorem ne_one {w : BitVec 32} (h : w ≠ 0#32) : IntOp.cmpi .ne w 0#32 = 1#1 := by
  show BitVec.ofBool (w != 0#32) = 1#1
  rw [bne_iff_ne.mpr h]; rfl

theorem sel_on {α : Type} {w : BitVec 32} (h : w ≠ 0#32) (x y : α) : Scalar.select (IntOp.cmpi .ne w 0#32) x y = x := by
  rw [ne_one h]; rfl
theorem sel_off {α : Type} {w : BitVec 32} (h : w = 0#32) (x y : α) : Scalar.select (IntOp.cmpi .ne w 0#32) x y = y := by
  rw [h]; rfl

theorem V28_on (hf : m (c, Proc.tc.devRef main_arg9) (Idealize.ShloMosaic.ix1 0) ≠ 0#32) (r : Fin 32) (x : Fin 256) :
    V m c main_v28 (Idealize.ShloMosaic.ix2 r x) = m (c, Proc.tc.devRef main_arg4) (Idealize.ShloMosaic.ix1 ⟨r.val / 16 * 4 + x.val % 4, by omega⟩) := by
  unfold V
  simp only [hostOps0, hostOps0_1, hostOps0_2, hostOps0_3, hostOps0_4, List.flatten_cons, List.flatten_nil, List.append_nil, List.cons_append, List.nil_append]
  after_reads_at
  exact sel_on hf _ _
theorem V28_off (hf : m (c, Proc.tc.devRef main_arg9) (Idealize.ShloMosaic.ix1 0) = 0#32) (j : S32x256.Idx) : V m c main_v28 j = (1 : EReal) := by
  unfold V
  simp only [hostOps0, hostOps0_1, hostOps0_2, hostOps0_3, hostOps0_4, List.flatten_cons, List.flatten_nil, List.append_nil, List.cons_append, List.nil_append]
  after_reads_at
  exact (sel_off hf _ _).trans Ideal.ofBits_one_f32
theorem V32_on (hf : m (c, Proc.tc.devRef main_arg9) (Idealize.ShloMosaic.ix1 0) ≠ 0#32) (r d : Fin 128) :
    V m c main_v32 (Idealize.ShloMosaic.ix2 r d) = m (c, Proc.tc.devRef main_arg6) (Idealize.ShloMosaic.ix1 ⟨r.val / 16, by omega⟩) := by
  unfold V
  simp only [hostOps0, hostOps0_1, hostOps0_2, hostOps0_3, hostOps0_4, List.flatten_cons, List.flatten_nil, List.append_nil, List.cons_append, List.nil_append]
  after_reads_at
  exact sel_on hf _ _
theorem V32_off (hf : m (c, Proc.tc.devRef main_arg9) (Idealize.ShloMosaic.ix1 0) = 0#32) (j : S128x128.Idx) : V m c main_v32 j = (1 : EReal) := by
  unfold V
  simp only [hostOps0, hostOps0_1, hostOps0_2, hostOps0_3, hostOps0_4, List.flatten_cons, List.flatten_nil, List.append_nil, List.cons_append, List.nil_append]
  after_reads_at
  exact (sel_off hf _ _).trans Ideal.ofBits_one_f32
theorem V45_at (h : Fin 2) (l : Fin 256) (d : Fin 128) :
    V m c main_v45 (Idealize.ShloMosaic.ix3 h l d) = m (c, Proc.tc.devRef main_arg4) (Idealize.ShloMosaic.ix1 ⟨h.val * 4 + l.val % 4, by omega⟩) := by
  unfold V
  simp only [hostOps0, hostOps0_1, hostOps0_2, hostOps0_3, hostOps0_4, List.flatten_cons, List.flatten_nil, List.append_nil, List.cons_append, List.nil_append]
  after_reads_at
  rfl
theorem V51_at (h : Fin 2) (l : Fin 256) (d : Fin 128) :
    V m c main_v51 (Idealize.ShloMosaic.ix3 h l d) = m (c, Proc.tc.devRef main_arg6) (Idealize.ShloMosaic.ix1 ⟨h.val * 4 + l.val % 4, by omega⟩) := by
  unfold V
  simp only [hostOps0, hostOps0_1, hostOps0_2, hostOps0_3, hostOps0_4, List.flatten_cons, List.flatten_nil, List.append_nil, List.cons_append, List.nil_append]
  after_reads_at
  rfl
theorem V52_at (p : Fin 1024) (a : Fin 1024) (d : Fin 128) :
    V m c main_v52 (Idealize.ShloMosaic.ix3 p a d) = m (c, Proc.tc.devRef main_arg3) (Idealize.ShloMosaic.ix4 p ⟨a.val / 8, by omega⟩ ⟨a.val % 8, by omega⟩ d) := by
  unfold V
  simp only [hostOps0, hostOps0_1, hostOps0_2, hostOps0_3, hostOps0_4, List.flatten_cons, List.flatten_nil, List.append_nil, List.cons_append, List.nil_append]
  after_reads_at
theorem V53_at (p : Fin 1024) (a : Fin 1024) (d : Fin 128) :
    V m c main_v53 (Idealize.ShloMosaic.ix3 p a d) = m (c, Proc.tc.devRef main_arg5) (Idealize.ShloMosaic.ix4 p ⟨a.val / 8, by omega⟩ ⟨a.val % 8, by omega⟩ d) := by
  unfold V
  simp only [hostOps0, hostOps0_1, hostOps0_2, hostOps0_3, hostOps0_4, List.flatten_cons, List.flatten_nil, List.append_nil, List.cons_append, List.nil_append]
  after_reads_at

end Cert.KernelIdeal.Hand

end
-- ==== Proof.Ky.lean ====
/-
  The kernel's first result, entry by entry: the attention over the paged cache, in either branch.
-/
module

public import proofs.«01_k».proof.Proof.Attn
public import proofs.«01_k».proof.Proof.HostRead

@[expose] public section

set_option maxRecDepth 16384

noncomputable section

namespace Cert.KernelIdeal.Attend

open Cert.KernelIdeal Cert.KernelIdeal.Gen Cert.Online Cert.KernelIdeal.Hand Cert.KernelIdeal.Words
open Idealize.ShloMosaic Idealize.ShloMosaic.TcCoe

section
variable {e : EltTy} (c : Dev nD)
theorem rd2_unread (M : Memref sig .tc .vmem S128x256 .bf16) (h : M.IsWhole) (x : S128x256.Idx → EReal) : rd2 (F := Ideal) M c (h.unread x) = x := by
  funext y
  show (M.access (Rect.unit (s := S128x256) _ S128x256.size inb_S128x256_S128x256_0_0)).read (Elt Ideal) (h.unread x) y = x y
  rw [acc_unread]
  exact congrArg x (funext fun a => Fin.ext (match a with
    | ⟨0, _⟩ => by show 0 + 1 * (y 0).val = (y 0).val; omega
    | ⟨1, _⟩ => by show 0 + 1 * (y 1).val = (y 1).val; omega))
theorem rd9_unread (M : Memref sig .tc .vmem S32x256 .f32) (h : M.IsWhole) (x : S32x256.Idx → EReal) : rd9 (F := Ideal) M c (h.unread x) = x := by
  funext y
  show (M.access (Rect.unit (s := S32x256) _ S32x256.size inb_S32x256_S32x256_0_0)).read (Elt Ideal) (h.unread x) y = x y
  rw [acc_unread]
  exact congrArg x (funext fun a => Fin.ext (match a with
    | ⟨0, _⟩ => by show 0 + 1 * (y 0).val = (y 0).val; omega
    | ⟨1, _⟩ => by show 0 + 1 * (y 1).val = (y 1).val; omega))
theorem rd128_unread (M : Memref sig .tc .vmem S128x128 .f32) (h : M.IsWhole) (x : S128x128.Idx → EReal) : rd128 (F := Ideal) c M (h.unread x) = x := by
  funext y
  show (M.access (Rect.unit (s := S128x128) _ S128x128.size inb_S128x128_S128x128_0_0)).read (Elt Ideal) (h.unread x) y = x y
  rw [acc_unread]
  exact congrArg x (funext fun a => Fin.ext (match a with
    | ⟨0, _⟩ => by show 0 + 1 * (y 0).val = (y 0).val; omega
    | ⟨1, _⟩ => by show 0 + 1 * (y 1).val = (y 1).val; omega))
theorem rd7_unread (M : Memref sig .tc .vmem S2x256x128 .bf16) (h : M.IsWhole) (x : S2x256x128.Idx → EReal) (i : Fin 2) (l : Fin 256) (d : Fin 128) :
    rd7 (F := Ideal) M c i (h.unread x) (Idealize.ShloMosaic.ix3 0 l d) = x (Idealize.ShloMosaic.ix3 i l d) := by
  match i with
  | ⟨0, _⟩ =>
    show (M.access (Rect.unit (s := S2x256x128) ![0, 0, 0] S1x256x128.size inb_S2x256x128_S1x256x128_0_0_0)).read (Elt Ideal) (h.unread x) (Idealize.ShloMosaic.ix3 0 l d) = _
    rw [acc_unread]
    exact congrArg x (funext fun a => Fin.ext (match a with
      | ⟨0, _⟩ => rfl
      | ⟨1, _⟩ => by show 0 + 1 * l.val = l.val; omega
      | ⟨2, _⟩ => by show 0 + 1 * d.val = d.val; omega))
  | ⟨1, _⟩ =>
    show (M.access (Rect.unit (s := S2x256x128) ![1, 0, 0] S1x256x128.size inb_S2x256x128_S1x256x128_1_0_0)).read (Elt Ideal) (h.unread x) (Idealize.ShloMosaic.ix3 0 l d) = _
    rw [acc_unread]
    exact congrArg x (funext fun a => Fin.ext (match a with
      | ⟨0, _⟩ => rfl
      | ⟨1, _⟩ => by show 0 + 1 * l.val = l.val; omega
      | ⟨2, _⟩ => by show 0 + 1 * d.val = d.val; omega))
end

theorem pay78_at (x : Vec Ideal S32x256 .f32) (i : S32x256.Idx) : k0_pay78 (F := Ideal) x i = (x i : EReal) * (rt * lg) := by
  unfold k0_pay78
  rw [shapeCast_self, ← scale_eq]
  show (x i : EReal) * Named.named (F := Ideal) (φ := .f32) κ "log2_softmax_scale" 0x3E0293EE#32 = _
  congr 1
theorem pay79_self (x : Vec Ideal S128x256 .bf16) : k0_pay79 (F := Ideal) x = x := shapeCast_self _ _

variable (m : (ℓ : Loc nD τ sig) → Buf (Elt Ideal) ℓ) (c : Dev nD) (t : Fin cfg0.N)

/-- The queries, row by row. -/
abbrev qry (r i : Fin 128) : EReal := m (c, Proc.tc.devRef main_arg0) (Idealize.ShloMosaic.ix3 0 0 ⟨r.val * 128 + i.val, by omega⟩)
abbrev scaleK (n : Fin 8) : EReal := m (c, Proc.tc.devRef main_arg4) (Idealize.ShloMosaic.ix1 n)
abbrev scaleV (n : Fin 8) : EReal := m (c, Proc.tc.devRef main_arg6) (Idealize.ShloMosaic.ix1 n)

theorem flag_on (hw : w1 (ms0_0 t) c (X0 m c t) = 1#32) : m (c, Proc.tc.devRef main_arg9) (Idealize.ShloMosaic.ix1 0) ≠ 0#32 := fun h => by
  rw [w1_eq] at hw
  rw [show m (c, Proc.tc.devRef main_arg9) (ix1 0) = 0#32 from h] at hw
  exact absurd hw (by decide)
theorem flag_off (hw : ¬ w1 (ms0_0 t) c (X0 m c t) = 1#32) : m (c, Proc.tc.devRef main_arg9) (Idealize.ShloMosaic.ix1 0) = 0#32 := by
  by_contra h
  apply hw
  rw [w1_eq]
  exact congrArg (BitVec.setWidth 32) (ne_one h)

set_option maxHeartbeats 2000000 in
theorem y_code (hk0 : ∀ n, 0 ≤ scaleK m c n) (hkt : ∀ n, scaleK m c n ≠ ⊤) (hv0 : ∀ n, 0 ≤ scaleV m c n) (hvt : ∀ n, scaleV m c n ≠ ⊤)
    (h : Fin 2) (q : Fin 4) (g : Fin 16) (d : Fin 128) :
    yAt m c t (Idealize.ShloMosaic.ix2 (orow h q g) d)
      = attn (pos m c t) (sc (Memref.whole main_v52) c (V m c main_v52) (pgOf m c t) (pos m c t) (rowK m c) (qry m c) (scaleK m c) h q g)
          (fun u => cv (Memref.whole main_v53) c (V m c main_v53) (pgOf m c t) (pos m c t) (rowV m c) h q u d * scaleV m c (hd h q)) := by
  have eK : codeK (ms0_3 t) (ms0_5 t) c ((hs0_3 t).unread (iblk m c 3 t)) ((hs0_5 t).unread (iblk m c 5 t)) = rowK m c := kAt_eq m c t
  have eV : codeV (ms0_4 t) (ms0_6 t) c ((hs0_4 t).unread (iblk m c 4 t)) ((hs0_6 t).unread (iblk m c 6 t)) = rowV m c := vAt_eq m c t
  have e2 : rd2 (ms0_2 t) c ((hs0_2 t).unread (iblk m c 2 t)) = V m c main_v19 := by rw [rd2_unread, iblk2_eq]
  have e9 : rd9 (ms0_9 t) c ((hs0_9 t).unread (iblk m c 9 t)) = V m c main_v28 := by rw [rd9_unread, iblk9_eq]
  have e10 : rd128 c (ms0_10 t) ((hs0_10 t).unread (iblk m c 10 t)) = V m c main_v32 := by rw [rd128_unread, iblk10_eq]
  unfold yAt outY
  split_ifs with hw
  · have hf := flag_on m c t hw
    unfold foldedE
    rw [eK, eV, e2, e9, e10, pay79_self]
    refine exact_eq (Memref.whole main_v52) (Memref.whole main_v53) (Memref.whole cc0_scratch0) (Memref.whole cc0_scratch1) c (V m c main_v52) (V m c main_v53) (pgOf m c t) (pos m c t) (pos_lt m c t) (rowK m c) (rowV m c) (k0_pay78 (V m c main_v28)) (V m c main_v19) (V m c main_v32) (qry m c) (scaleK m c) (scaleV m c) hk0 hkt hv0 hvt (V19_lo m c) (V19_hi m c) (fun h g x => ?_) (fun h q g d => ?_) h q g d
    · rw [pay78_at, V28_on m c hf]
      refine congrArg (fun z => scaleK m c z * (rt * lg)) (Fin.ext ?_)
      show (16 * h.val + g.val) / 16 * 4 + x.val % 4 = 4 * h.val + x.val % 4
      omega
    · rw [V32_on m c hf]
      refine congrArg (fun z => scaleV m c z) (Fin.ext ?_)
      show (64 * h.val + 16 * q.val + g.val) / 16 = 4 * h.val + q.val
      omega
  · have hf := flag_off m c t hw
    unfold foldedW
    rw [eK, eV, e2, e9, e10]
    rw [show k0_pay148 (V m c main_v19) = V m c main_v19 from pay79_self _]
    refine wide_eq (ms0_7 t) (ms0_8 t) (Memref.whole main_v52) (Memref.whole main_v53) (Memref.whole cc0_scratch0) (Memref.whole cc0_scratch1) c _ _ (V m c main_v52) (V m c main_v53) (pgOf m c t) (pos m c t) (pos_lt m c t) (rowK m c) (rowV m c) (k0_pay78 (V m c main_v28)) (V m c main_v19) (V m c main_v32) (qry m c) (scaleK m c) (scaleV m c) hk0 hkt hv0 hvt (V19_lo m c) (V19_hi m c) (fun h g x => ?_) (V32_off m c hf) (fun h l x => ?_) (fun h l x => ?_) h q g d
    · rw [pay78_at, V28_off m c hf]
    · rw [rd7_unread, iblk7_eq, V45_at]
      exact congrArg (fun z => scaleK m c z) (Fin.ext (by show h.val * 4 + l.val % 4 = 4 * h.val + l.val % 4; omega))
    · refine (rd7_unread c (ms0_8 t) (hs0_8 t) (iblk m c 8 t) h l x).trans ?_
      rw [iblk8_eq, V51_at]
      exact congrArg (fun z => scaleV m c z) (Fin.ext (by show h.val * 4 + l.val % 4 = 4 * h.val + l.val % 4; omega))

/-- The kernel's first result is the attention over the paged cache. -/
theorem y_eq (hk0 : ∀ n, 0 ≤ scaleK m c n) (hkt : ∀ n, scaleK m c n ≠ ⊤) (hv0 : ∀ n, 0 ≤ scaleV m c n) (hvt : ∀ n, scaleV m c n ≠ ⊤)
    (p : ℕ) (hp : p < 131072) (h8 : m (c, Proc.tc.devRef main_arg8) (Idealize.ShloMosaic.ix1 0) = BitVec.ofNat 32 p) (r d : Fin 128) :
    yAt m c t (Idealize.ShloMosaic.ix2 r d) = attnAt p (fun i => m (c, Proc.tc.devRef main_arg7) (Idealize.ShloMosaic.ix2 0 i)) (qry m c) (scaleK m c) (scaleV m c)
      (fun n i => rowK m c (Idealize.ShloMosaic.ix2 n i)) (fun n i => rowV m c (Idealize.ShloMosaic.ix2 n i))
      (fun g t n i => m (c, Proc.tc.devRef main_arg3) (Idealize.ShloMosaic.ix4 g t n i)) (fun g t n i => m (c, Proc.tc.devRef main_arg5) (Idealize.ShloMosaic.ix4 g t n i)) r d := by
  have er : r = orow ⟨r.val / 64, by omega⟩ ⟨r.val / 16 % 4, by omega⟩ ⟨r.val % 16, by omega⟩ := Fin.ext (by show r.val = 64 * (r.val / 64) + 16 * (r.val / 16 % 4) + r.val % 16; omega)
  have eh : hd ⟨r.val / 64, by omega⟩ ⟨r.val / 16 % 4, by omega⟩ = ⟨r.val / 16, by omega⟩ := Fin.ext (by show 4 * (r.val / 64) + r.val / 16 % 4 = r.val / 16; omega)
  have ep : pos m c t = p := by
    unfold pos
    rw [w0_eq, show m (c, Proc.tc.devRef main_arg8) (ix1 0) = BitVec.ofNat 32 p from h8, BitVec.toNat_ofNat]
    omega
  have hpg : ∀ u < 131072, pgOf m c t (u / 128) = ⟨((fun i => m (c, Proc.tc.devRef main_arg7) (Idealize.ShloMosaic.ix2 0 i)) (⟨u / 128 % 1024, Nat.mod_lt _ (by norm_num)⟩ : Fin 1024) : BitVec 32).toNat % 1024, Nat.mod_lt _ (by norm_num)⟩ := fun u hu => by
    have e : (⟨u / 128 % 1024, Nat.mod_lt _ (by norm_num)⟩ : Fin 1024) = ⟨u / 128, by omega⟩ := Fin.ext (Nat.mod_eq_of_lt (by omega))
    unfold pgOf
    rw [e]
    exact Fin.ext (congrArg (fun w : BitVec 32 => w.toNat % 1024) (tw_eq m c t (u / 128) (by omega)))
  have hcode : ∀ (v : FVec Ideal S8x128 .fp8e4m3) (pool : S1024x1024x128.Idx → EReal) (A : Fin 1024 → Fin 128 → Fin 8 → Fin 128 → EReal)
      (hA : ∀ (g : Fin 1024) (a : Fin 1024) (d : Fin 128), pool (Idealize.ShloMosaic.ix3 g a d) = A g ⟨a.val / 8, by omega⟩ ⟨a.val % 8, by omega⟩ d) (n : Fin 8) (u : ℕ) (hu : u < 131072) (i : Fin 128),
      codeAt p (pgOf m c t) v pool n u i = tokAt p (fun i => m (c, Proc.tc.devRef main_arg7) (Idealize.ShloMosaic.ix2 0 i)) (fun n i => v (Idealize.ShloMosaic.ix2 n i)) A n u i := fun v pool A hA n u hu i => by
    unfold codeAt tokAt
    rw [hA, hpg u hu]
    have e1 : (⟨(u % 128 * 8 + n.val) / 8, by omega⟩ : Fin 128) = ⟨u % 128, by omega⟩ := Fin.ext (by show (u % 128 * 8 + n.val) / 8 = u % 128; omega)
    have e2 : (⟨(u % 128 * 8 + n.val) % 8, by omega⟩ : Fin 8) = n := Fin.ext (by show (u % 128 * 8 + n.val) % 8 = n.val; omega)
    simp only [e1, e2]
  rw [er, y_code m c t hk0 hkt hv0 hvt, ← er, ep]
  unfold attnAt
  refine attn_congr (fun u hu _ => ?_) (fun u hu _ => ?_)
  · show score (qry m c (orow _ _ _)) (fun i => codeAt p (pgOf m c t) (rowK m c) (V m c main_v52) (hd _ _) u i) (scaleK m c (hd _ _)) = _
    rw [eh, ← er]
    exact congrArg (fun z => score (qry m c r) z (scaleK m c ⟨r.val / 16, by omega⟩)) (funext fun i => hcode _ _ _ (V52_at m c) _ u hu i)
  · show codeAt p (pgOf m c t) (rowV m c) (V m c main_v53) (hd _ _) u d * scaleV m c (hd _ _) = _
    rw [eh]
    exact congrArg (fun z => z * scaleV m c ⟨r.val / 16, by omega⟩) (hcode _ _ _ (V53_at m c) _ u hu d)

/-! The array after the run. -/

abbrev t0 : Fin cfg0.N := ⟨0, by decide⟩
theorem flushed11_eq (t : Fin cfg0.N) : (dats m 0 c).flushed 11 t = ((cfg0.win 11).blk t).view.read (Elt Ideal) (yAt m c t0) := by
  have e : t = t0 := (by decide +kernel : ∀ t : Fin grid0.N, t = ⟨0, by decide⟩) t
  subst e
  show (cfg0.win 11).cut (grid0.coords t0) ((dats m 0 c).after 11 t0) = _
  rw [after0_11]
  funext j
  show yAt m c t0 j = yAt m c t0 (((cfg0.win 11).blk t0).view.emb j)
  rw [emb11]
theorem covered11 (i : S128x128.Idx) : ∃ t : Fin cfg0.N, (cfg0.win 11).flush t = true ∧ i ∈ ((cfg0.win 11).blk t).view.set :=
  ⟨t0, flush0_11 _, by have h := ((cfg0.win 11).blk t0).view.emb_mem_set i; rwa [emb11] at h⟩
theorem final11 : (dats m 0 c).arrAt 11 cfg0.N = yAt m c t0 :=
  (dats m 0 c).arrAt_eq_of_cover 11 (yAt m c t0) (fun t _ => flushed11_eq m c t) covered11
theorem y_of {r : PUnit × MemSt nD τ sig (Elt Ideal)} (h : Pipeline.FramePostR cfgs (dats m) 0 R0 (V m) r) (c : Dev nD) :
    r.2.mem ((c.tc : Thread nD τ).loc main_v54_0) = yAt m c t0 := ((h c).1 11).trans (final11 m c)

end Cert.KernelIdeal.Attend

end
-- ==== Proof.RefRead.lean ====
/-
  The reference's payloads read at one entry, over the reals.
-/
module

public import proofs.«01_k».proof.Proof.Gen.ReferenceIdeal.Skeleton
public import Idealize.ShloMosaic.Lib.ValueIdxCore
public import Idealize.ShloMosaic.Lib.Pointwise

@[expose] public section

noncomputable section

namespace Cert.ReferenceIdeal.Value

open Cert.ReferenceIdeal Cert.ReferenceIdeal.Gen
open Idealize.ShloMosaic

theorem ref7 (v23 : FVec Ideal S8x128 .fp8e4m3) (v50 : Vec Ideal S1x131072x1 .i32) (v56 : Vec Ideal S8 .f32) (v61 : Vec Ideal S8x131072x128 .fp8e4m3) (v64 : Vec Ideal S8 .f32)
    (n : Fin 8) (t : Fin 131072) (d : Fin 128) : k0_pay7 v23 v50 v56 v61 v64 (ix3 n t d)
      = Scalar.select (IntOp.cmpi .ne (v50 (ix3 0 t 0)) 0#32) ((v23 (ix2 n d) : EReal) * v56 (ix1 n)) ((v61 (ix3 n t d) : EReal) * v64 (ix1 n)) := by
  pointwise [k0_pay7]
theorem ref8 (v26 : Vec Ideal S1x131072x1 .i32) (v0 : Vec Ideal S1x1x8x128 .bf16) (v3 : Vec Ideal S8 .f32) (v34 : Vec Ideal S8 .f32) (v37 : Vec Ideal S8x131072x128 .fp8e4m3) (v40 : Vec Ideal S8 .f32) (v74 : Vec Ideal S8x16x128 .bf16)
    (n : Fin 8) (g : Fin 16) (t : Fin 131072) : k0_pay8 (k0_pay4 v26) (k0_pay5 v0 v3) (k0_pay6 v34) v37 v40 v74 (ix3 n g t)
      = ∑ x : Fin 128, (v74 (ix3 n g x) : EReal) * Scalar.select (IntOp.cmpi .ne (v26 (ix3 0 t 0)) 0#32) ((k0_pay2 v0 v3 (ix2 n x) : EReal) * v34 (ix1 n)) ((v37 (ix3 n t x) : EReal) * v40 (ix1 n)) := by
  pointwise [k0_pay8, k0_pay4, k0_pay5, k0_pay6]
/-- Row `r` of the result: `z` the scores of its row, masked by `v80`. -/
theorem ref1 (v73 : FVec Ideal S8x131072x128 .bf16) (v76 : FVec Ideal S8x16x131072 .f32) (cst : Ideal .f32) (v80 : Vec Ideal S1x1x131072 .i32)
    (r d : Fin 128) (z : Fin 131072 → EReal) (hz : ∀ x, z x = Ideal.div (v76 (ix3 ⟨r.val / 16, by omega⟩ ⟨r.val % 16, by omega⟩ x)) (Scalar.sqrt cst)) :
    k0_pay1 v73 v76 cst v80 (ix2 r d)
      = Ideal.div (∑ x : Fin 131072, Scalar.select (IntOp.cmpi .ne (v80 (ix3 0 0 x)) 0#32)
            (Ideal.exp (z x - Finset.fold max (Ideal.ofBits .f32 4286578688#32) (fun x' => Scalar.select (IntOp.cmpi .ne (v80 (ix3 0 0 x')) 0#32) (z x') (Ideal.ofBits .f32 4286578688#32)) Finset.univ) * v73 (ix3 ⟨r.val / 16, by omega⟩ x d)) 0)
          (∑ x : Fin 131072, Scalar.select (IntOp.cmpi .ne (v80 (ix3 0 0 x)) 0#32)
            (Ideal.exp (z x - Finset.fold max (Ideal.ofBits .f32 4286578688#32) (fun x' => Scalar.select (IntOp.cmpi .ne (v80 (ix3 0 0 x')) 0#32) (z x') (Ideal.ofBits .f32 4286578688#32)) Finset.univ)) 0) := by
  obtain rfl : z = _ := funext hz
  pointwise [k0_pay1]

end Cert.ReferenceIdeal.Value

end
-- ==== Proof.RefHost.lean ====
/-
  What the reference's host hands its region, entry by entry: the queries, the pools token by token, and which tokens are written
  and which are attended.
-/
module

public import proofs.«01_k».proof.Proof.Gen.ReferenceIdeal.Value
public import Idealize.ShloMosaic.Lib.Pointwise
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic

/-- A page of the pool, taken by the page table. -/
theorem gather_page {α : Type} (x : S1024x128x8x128.Idx → α) (idx : IVec S1024x1 32) (a : Fin 1024) (b : Fin 128) (n : Fin 8) (d : Fin 128) :
    Host.gather gather_S1024x128x8x128_S1024x1_S1024x128x8x128_123_0_n_n_0_1_11288128 x idx (Idealize.ShloMosaic.ix4 a b n d)
      = x (Idealize.ShloMosaic.ix4 ⟨min (idx (Idealize.ShloMosaic.ix2 a 0)).toInt.toNat 1023, by omega⟩ b n d) := by
  unfold Host.gather
  congr 1
  funext i
  refine Fin.ext ?_
  show GatherDims.start _ _ idx i + GatherDims.batchCoord _ _ i + GatherDims.offCoord _ _ i = _
  rw [GatherDims.batchCoord_eq_zero _ _ _ List.not_mem_nil]
  match i with
  | ⟨0, _⟩ =>
    rw [GatherDims.offCoord_eq_zero _ _ _ (fun h => ((GatherDims.mem_sKept _ _).mp h).1 (List.mem_singleton.mpr rfl))]
    simp only [Nat.add_zero]
    have hsi : gather_S1024x128x8x128_S1024x1_S1024x128x8x128_123_0_n_n_0_1_11288128.siIdx (Idealize.ShloMosaic.ix4 a b n d) ⟨List.idxOf (0 : Fin 4) gather_S1024x128x8x128_S1024x1_S1024x128x8x128_123_0_n_n_0_1_11288128.startIndexMap,
        List.idxOf_lt_length_iff.2 (List.mem_singleton.mpr rfl)⟩ = Idealize.ShloMosaic.ix2 a 0 := by
      funext k; refine Fin.ext ?_
      match k with
      | ⟨0, _⟩ => rfl
      | ⟨1, _⟩ => rfl
    exact (dif_pos (show (0 : Fin 4) ∈ [(0 : Fin 4)] from List.mem_singleton.mpr rfl)).trans (congrArg (fun z => min (idx z).toInt.toNat 1023) hsi)
  | ⟨1, _⟩ =>
    have e : GatherDims.start gather_S1024x128x8x128_S1024x1_S1024x128x8x128_123_0_n_n_0_1_11288128 (Idealize.ShloMosaic.ix4 a b n d) idx (1 : Fin 4) = 0 := dif_neg (show (1 : Fin 4) ∉ [(0 : Fin 4)] by decide)
    refine (congrArg (fun z => z + 0 + GatherDims.offCoord gather_S1024x128x8x128_S1024x1_S1024x128x8x128_123_0_n_n_0_1_11288128 (Idealize.ShloMosaic.ix4 a b n d) (1 : Fin 4)) e).trans ?_
    simp only [Nat.zero_add, Nat.add_zero]
    rfl
  | ⟨2, _⟩ =>
    have e : GatherDims.start gather_S1024x128x8x128_S1024x1_S1024x128x8x128_123_0_n_n_0_1_11288128 (Idealize.ShloMosaic.ix4 a b n d) idx (2 : Fin 4) = 0 := dif_neg (show (2 : Fin 4) ∉ [(0 : Fin 4)] by decide)
    refine (congrArg (fun z => z + 0 + GatherDims.offCoord gather_S1024x128x8x128_S1024x1_S1024x128x8x128_123_0_n_n_0_1_11288128 (Idealize.ShloMosaic.ix4 a b n d) (2 : Fin 4)) e).trans ?_
    simp only [Nat.zero_add, Nat.add_zero]
    rfl
  | ⟨3, _⟩ =>
    have e : GatherDims.start gather_S1024x128x8x128_S1024x1_S1024x128x8x128_123_0_n_n_0_1_11288128 (Idealize.ShloMosaic.ix4 a b n d) idx (3 : Fin 4) = 0 := dif_neg (show (3 : Fin 4) ∉ [(0 : Fin 4)] by decide)
    refine (congrArg (fun z => z + 0 + GatherDims.offCoord gather_S1024x128x8x128_S1024x1_S1024x128x8x128_123_0_n_n_0_1_11288128 (Idealize.ShloMosaic.ix4 a b n d) (3 : Fin 4)) e).trans ?_
    simp only [Nat.zero_add, Nat.add_zero]
    rfl

variable (m : (ℓ : Loc nD τ sig) → Buf (Elt Ideal) ℓ) (c : Dev nD)

theorem page_min {w : BitVec 32} (h : w.toNat < 1024) : min w.toInt.toNat 1023 = w.toNat % 1024 := by
  have : w.toInt = w.toNat := by rw [BitVec.toInt_eq_toNat_cond]; split <;> omega
  rw [this]; omega

theorem V23_eq (a : Fin 8) (b : Fin 16) (d : Fin 128) : V m c main_v23 (Idealize.ShloMosaic.ix3 a b d)
    = m (c, Proc.tc.devRef main_arg0) (Idealize.ShloMosaic.ix3 0 0 ⟨(a.val * 16 + b.val) * 128 + d.val, by omega⟩) := by
  unfold V
  simp only [hostOps0, hostOps0_1, hostOps0_2, hostOps0_3, hostOps0_4, List.flatten_cons, List.flatten_nil, List.append_nil, List.cons_append, List.nil_append]
  after_reads_at
  congr 2; apply Fin.ext; simp; omega
theorem V26_eq (hpg : ∀ i : Fin 1024, (m (c, Proc.tc.devRef main_arg7) (Idealize.ShloMosaic.ix2 0 i)).toNat < 1024) (a : Fin 8) (t : Fin 131072) (d : Fin 128) :
    V m c main_v26 (Idealize.ShloMosaic.ix3 a t d) = m (c, Proc.tc.devRef main_arg3) (Idealize.ShloMosaic.ix4 ⟨(m (c, Proc.tc.devRef main_arg7) (Idealize.ShloMosaic.ix2 0 ⟨t.val / 128, by omega⟩)).toNat % 1024, by omega⟩ ⟨t.val % 128, by omega⟩ a d) := by
  unfold V
  simp only [hostOps0, hostOps0_1, hostOps0_2, hostOps0_3, hostOps0_4, List.flatten_cons, List.flatten_nil, List.append_nil, List.cons_append, List.nil_append]
  after_reads_at
  rw [gather_page]
  exact congrArg (fun z : Fin 1024 => m (c, Proc.tc.devRef main_arg3) (Idealize.ShloMosaic.ix4 z ⟨t.val % 128, by omega⟩ a d)) (Fin.ext (page_min (hpg _)))
theorem V29_eq (hpg : ∀ i : Fin 1024, (m (c, Proc.tc.devRef main_arg7) (Idealize.ShloMosaic.ix2 0 i)).toNat < 1024) (a : Fin 8) (t : Fin 131072) (d : Fin 128) :
    V m c main_v29 (Idealize.ShloMosaic.ix3 a t d) = m (c, Proc.tc.devRef main_arg5) (Idealize.ShloMosaic.ix4 ⟨(m (c, Proc.tc.devRef main_arg7) (Idealize.ShloMosaic.ix2 0 ⟨t.val / 128, by omega⟩)).toNat % 1024, by omega⟩ ⟨t.val % 128, by omega⟩ a d) := by
  unfold V
  simp only [hostOps0, hostOps0_1, hostOps0_2, hostOps0_3, hostOps0_4, List.flatten_cons, List.flatten_nil, List.append_nil, List.cons_append, List.nil_append]
  after_reads_at
  rw [gather_page]
  exact congrArg (fun z : Fin 1024 => m (c, Proc.tc.devRef main_arg5) (Idealize.ShloMosaic.ix4 z ⟨t.val % 128, by omega⟩ a d)) (Fin.ext (page_min (hpg _)))
theorem V31_eq (t : Fin 131072) : V m c main_v31 (Idealize.ShloMosaic.ix3 0 0 t) = BitVec.setWidth 32 (IntOp.cmpi .sle (BitVec.ofNat 32 t.val) (m (c, Proc.tc.devRef main_arg8) (Idealize.ShloMosaic.ix1 0))) := by
  unfold V
  simp only [hostOps0, hostOps0_1, hostOps0_2, hostOps0_3, hostOps0_4, List.flatten_cons, List.flatten_nil, List.append_nil, List.cons_append, List.nil_append]
  after_reads_at

/-- The place of a token. -/
def placeW (x : IVec S1x1024 32) (t : Fin 131072) : BitVec 32 :=
  IntOp.addi (IntOp.muli (x (Idealize.ShloMosaic.ix2 0 ⟨t.val / 128, by omega⟩)) 128#32) (BitVec.ofNat 32 (t.val % 128))

theorem V11_eq (t : Fin 131072) : V m c main_v11 (Idealize.ShloMosaic.ix1 t) = placeW (m (c, Proc.tc.devRef main_arg7)) t := by
  unfold V
  simp only [hostOps0, hostOps0_1, hostOps0_2, hostOps0_3, hostOps0_4, List.flatten_cons, List.flatten_nil, List.append_nil, List.cons_append, List.nil_append]
  after_reads_at
  rfl

theorem cast_result {τ' : Topo} {sig' : RefSig} {Val : EltTy → Type} (op : HloOp τ' sig' Val) (F : Valuation τ' sig' Val) {b b' : DevRef τ' sig'} {T : Type} (e : b = b') (h : b.ty.Contents Val = T) (h' : b'.ty.Contents Val = T) :
    cast h (op.result F b) = cast h' (op.result F b') := by subst e; rfl

theorem V15_eq (p : ℕ) (hp : p < 131072) (h8 : m (c, Proc.tc.devRef main_arg8) (Idealize.ShloMosaic.ix1 0) = BitVec.ofNat 32 p) :
    V m c main_v15 (Idealize.ShloMosaic.ix1 0) = placeW (m (c, Proc.tc.devRef main_arg7)) ⟨p, hp⟩ := by
  rw [← V11_eq]
  unfold V
  simp only [hostOps0, hostOps0_1, hostOps0_2, hostOps0_3, hostOps0_4, List.flatten_cons, List.flatten_nil, List.append_nil, List.cons_append, List.nil_append]
  after_results_simp
  refine (congrArg (fun st => Host.dynamicSlice S1 _ st sliceFits_S131072_S1 (Idealize.ShloMosaic.ix1 0)) (funext fun k => ?_ : _ = fun _ : Fin 1 => (p : ℤ))).trans ?_
  · obtain rfl : k = 0 := Subsingleton.elim _ _
    refine (congrArg (fun z : S_.Idx → BitVec 32 => BitVec.toInt (z (Shape.Idx.first h_S_))) (cast_result _ _ (b' := Proc.tc.devRef main_v14) rfl _ rfl)).trans ?_
    rw [cast_eq]
    after_results_simp
    pointwise
    rw [h8]
    have hs : IntOp.cmpi .slt (BitVec.ofNat 32 p) 0#32 = 0#1 := by
      have : ¬ (BitVec.ofNat 32 p).slt 0#32 = true := by
        rw [BitVec.slt_eq_decide, decide_eq_true_eq, BitVec.toInt_eq_toNat_cond, BitVec.toNat_ofNat]
        simp; omega
      show BitVec.ofBool ((BitVec.ofNat 32 p).slt 0#32) = 0#1
      rw [Bool.not_eq_true] at this
      rw [this]; rfl
    rw [hs]
    show (BitVec.ofNat 32 p).toInt = p
    rw [BitVec.toInt_eq_toNat_cond, BitVec.toNat_ofNat]
    split <;> omega
  · generalize shapeCast main_v11.ty.shape _ shapeCasts_S1024x128_S131072 = x
    rw [Host.dynamicSlice_apply]
    refine congrArg x (funext fun a => Fin.ext ?_)
    match a with
    | ⟨0, _⟩ =>
      show Host.clampedStart S131072 S1 _ (fun _ => (p : ℤ)) 0 + 0 = p
      rw [Host.clampedStart_of_le _ _ _ p rfl (by show p + 1 ≤ 131072; omega)]
      rfl

theorem V30_eq (t : Fin 131072) : V m c main_v30 (Idealize.ShloMosaic.ix3 0 t 0) = BitVec.setWidth 32 (IntOp.cmpi .eq (V m c main_v11 (Idealize.ShloMosaic.ix1 t)) (V m c main_v15 (Idealize.ShloMosaic.ix1 0))) := by
  unfold V
  simp only [hostOps0, hostOps0_1, hostOps0_2, hostOps0_3, hostOps0_4, List.flatten_cons, List.flatten_nil, List.append_nil, List.cons_append, List.nil_append]
  rfl

end Cert.ReferenceIdeal.Value

end
-- ==== Proof.RefArrays.lean ====
/-
  The reference's three results as whole arrays: its region has one grid point, every window is its whole array, and each result
  is one store.
-/
module

public import proofs.«01_k».proof.Proof.RefHost

@[expose] public section

set_option maxRecDepth 16384

noncomputable section

namespace Cert.ReferenceIdeal.Value

open Cert.ReferenceIdeal Cert.ReferenceIdeal.Gen
open Idealize.ShloMosaic Idealize.ShloMosaic.TcCoe

variable (m : (ℓ : Loc nD τ sig) → Buf (Elt Ideal) ℓ) (c : Dev nD)

theorem emb0 (t : Fin cfg0.N) (j : S8x16x128.Idx) : ((cfg0.win 0).blk t).view.emb j = j :=
  funext fun a => Fin.ext (match a with
    | ⟨0, _⟩ => by show 0 * 8 + 1 * (j 0).val = (j 0).val; omega
    | ⟨1, _⟩ => by show 0 * 16 + 1 * (j 1).val = (j 1).val; omega
    | ⟨2, _⟩ => by show 0 * 128 + 1 * (j 2).val = (j 2).val; omega)
theorem iblk0_eq (t : Fin cfg0.N) : iblk m c 0 t = V m c main_v23 := by
  funext j; show V m c main_v23 (((cfg0.win 0).blk t).view.emb j) = _; rw [emb0]
theorem emb1 (t : Fin cfg0.N) (j : S1x1x8x128.Idx) : ((cfg0.win 1).blk t).view.emb j = j :=
  funext fun a => Fin.ext (match a with
    | ⟨0, _⟩ => by show 0 * 1 + 1 * (j 0).val = (j 0).val; omega
    | ⟨1, _⟩ => by show 0 * 1 + 1 * (j 1).val = (j 1).val; omega
    | ⟨2, _⟩ => by show 0 * 8 + 1 * (j 2).val = (j 2).val; omega
    | ⟨3, _⟩ => by show 0 * 128 + 1 * (j 3).val = (j 3).val; omega)
theorem iblk1_eq (t : Fin cfg0.N) : iblk m c 1 t = m (c, Proc.tc.devRef main_arg1) := by
  funext j; show V m c main_arg1 (((cfg0.win 1).blk t).view.emb j) = _; rw [emb1, V_main_arg1]
theorem emb2 (t : Fin cfg0.N) (j : S1x1x8x128.Idx) : ((cfg0.win 2).blk t).view.emb j = j :=
  funext fun a => Fin.ext (match a with
    | ⟨0, _⟩ => by show 0 * 1 + 1 * (j 0).val = (j 0).val; omega
    | ⟨1, _⟩ => by show 0 * 1 + 1 * (j 1).val = (j 1).val; omega
    | ⟨2, _⟩ => by show 0 * 8 + 1 * (j 2).val = (j 2).val; omega
    | ⟨3, _⟩ => by show 0 * 128 + 1 * (j 3).val = (j 3).val; omega)
theorem iblk2_eq (t : Fin cfg0.N) : iblk m c 2 t = m (c, Proc.tc.devRef main_arg2) := by
  funext j; show V m c main_arg2 (((cfg0.win 2).blk t).view.emb j) = _; rw [emb2, V_main_arg2]
theorem emb3 (t : Fin cfg0.N) (j : S8.Idx) : ((cfg0.win 3).blk t).view.emb j = j :=
  funext fun a => Fin.ext (match a with
    | ⟨0, _⟩ => by show 0 * 8 + 1 * (j 0).val = (j 0).val; omega)
theorem iblk3_eq (t : Fin cfg0.N) : iblk m c 3 t = m (c, Proc.tc.devRef main_arg10) := by
  funext j; show V m c main_arg10 (((cfg0.win 3).blk t).view.emb j) = _; rw [emb3, V_main_arg10]
theorem emb4 (t : Fin cfg0.N) (j : S8.Idx) : ((cfg0.win 4).blk t).view.emb j = j :=
  funext fun a => Fin.ext (match a with
    | ⟨0, _⟩ => by show 0 * 8 + 1 * (j 0).val = (j 0).val; omega)
theorem iblk4_eq (t : Fin cfg0.N) : iblk m c 4 t = m (c, Proc.tc.devRef main_arg11) := by
  funext j; show V m c main_arg11 (((cfg0.win 4).blk t).view.emb j) = _; rw [emb4, V_main_arg11]
theorem emb5 (t : Fin cfg0.N) (j : S8.Idx) : ((cfg0.win 5).blk t).view.emb j = j :=
  funext fun a => Fin.ext (match a with
    | ⟨0, _⟩ => by show 0 * 8 + 1 * (j 0).val = (j 0).val; omega)
theorem iblk5_eq (t : Fin cfg0.N) : iblk m c 5 t = m (c, Proc.tc.devRef main_arg4) := by
  funext j; show V m c main_arg4 (((cfg0.win 5).blk t).view.emb j) = _; rw [emb5, V_main_arg4]
theorem emb6 (t : Fin cfg0.N) (j : S8.Idx) : ((cfg0.win 6).blk t).view.emb j = j :=
  funext fun a => Fin.ext (match a with
    | ⟨0, _⟩ => by show 0 * 8 + 1 * (j 0).val = (j 0).val; omega)
theorem iblk6_eq (t : Fin cfg0.N) : iblk m c 6 t = m (c, Proc.tc.devRef main_arg6) := by
  funext j; show V m c main_arg6 (((cfg0.win 6).blk t).view.emb j) = _; rw [emb6, V_main_arg6]
theorem emb7 (t : Fin cfg0.N) (j : S8x131072x128.Idx) : ((cfg0.win 7).blk t).view.emb j = j :=
  funext fun a => Fin.ext (match a with
    | ⟨0, _⟩ => by show 0 * 8 + 1 * (j 0).val = (j 0).val; omega
    | ⟨1, _⟩ => by show 0 * 131072 + 1 * (j 1).val = (j 1).val; omega
    | ⟨2, _⟩ => by show 0 * 128 + 1 * (j 2).val = (j 2).val; omega)
theorem iblk7_eq (t : Fin cfg0.N) : iblk m c 7 t = V m c main_v26 := by
  funext j; show V m c main_v26 (((cfg0.win 7).blk t).view.emb j) = _; rw [emb7]
theorem emb8 (t : Fin cfg0.N) (j : S8x131072x128.Idx) : ((cfg0.win 8).blk t).view.emb j = j :=
  funext fun a => Fin.ext (match a with
    | ⟨0, _⟩ => by show 0 * 8 + 1 * (j 0).val = (j 0).val; omega
    | ⟨1, _⟩ => by show 0 * 131072 + 1 * (j 1).val = (j 1).val; omega
    | ⟨2, _⟩ => by show 0 * 128 + 1 * (j 2).val = (j 2).val; omega)
theorem iblk8_eq (t : Fin cfg0.N) : iblk m c 8 t = V m c main_v29 := by
  funext j; show V m c main_v29 (((cfg0.win 8).blk t).view.emb j) = _; rw [emb8]
theorem emb9 (t : Fin cfg0.N) (j : S1x131072x1.Idx) : ((cfg0.win 9).blk t).view.emb j = j :=
  funext fun a => Fin.ext (match a with
    | ⟨0, _⟩ => by show 0 * 1 + 1 * (j 0).val = (j 0).val; omega
    | ⟨1, _⟩ => by show 0 * 131072 + 1 * (j 1).val = (j 1).val; omega
    | ⟨2, _⟩ => by show 0 * 1 + 1 * (j 2).val = (j 2).val; omega)
theorem iblk9_eq (t : Fin cfg0.N) : iblk m c 9 t = V m c main_v30 := by
  funext j; show V m c main_v30 (((cfg0.win 9).blk t).view.emb j) = _; rw [emb9]
theorem emb10 (t : Fin cfg0.N) (j : S1x1x131072.Idx) : ((cfg0.win 10).blk t).view.emb j = j :=
  funext fun a => Fin.ext (match a with
    | ⟨0, _⟩ => by show 0 * 1 + 1 * (j 0).val = (j 0).val; omega
    | ⟨1, _⟩ => by show 0 * 1 + 1 * (j 1).val = (j 1).val; omega
    | ⟨2, _⟩ => by show 0 * 131072 + 1 * (j 2).val = (j 2).val; omega)
theorem iblk10_eq (t : Fin cfg0.N) : iblk m c 10 t = V m c main_v31 := by
  funext j; show V m c main_v31 (((cfg0.win 10).blk t).view.emb j) = _; rw [emb10]
theorem emb11 (t : Fin cfg0.N) (j : S128x128.Idx) : ((cfg0.win 11).blk t).view.emb j = j :=
  funext fun a => Fin.ext (match a with
    | ⟨0, _⟩ => by show 0 * 128 + 1 * (j 0).val = (j 0).val; omega
    | ⟨1, _⟩ => by show 0 * 128 + 1 * (j 1).val = (j 1).val; omega)
theorem emb12 (t : Fin cfg0.N) (j : S8x128.Idx) : ((cfg0.win 12).blk t).view.emb j = j :=
  funext fun a => Fin.ext (match a with
    | ⟨0, _⟩ => by show 0 * 8 + 1 * (j 0).val = (j 0).val; omega
    | ⟨1, _⟩ => by show 0 * 128 + 1 * (j 1).val = (j 1).val; omega)
theorem emb13 (t : Fin cfg0.N) (j : S8x128.Idx) : ((cfg0.win 13).blk t).view.emb j = j :=
  funext fun a => Fin.ext (match a with
    | ⟨0, _⟩ => by show 0 * 8 + 1 * (j 0).val = (j 0).val; omega
    | ⟨1, _⟩ => by show 0 * 128 + 1 * (j 1).val = (j 1).val; omega)
theorem r0 (j : S1x1x8x128.Idx) : r0_0.emb j = j :=
  funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega
    | ⟨3, _⟩ => by show 0 + 1 * (j 3).val = (j 3).val; omega)
theorem ld0 {e : EltTy} (x : Vec Ideal S1x1x8x128 e) : View.ld x r0_0 = x := funext fun j => congrArg x (r0 j)
theorem r1 (j : S8.Idx) : r0_1.emb j = j :=
  funext fun a => Fin.ext (match a with
    | ⟨0, _⟩ => by show 0 + 1 * (j 0).val = (j 0).val; omega)
theorem ld1 {e : EltTy} (x : Vec Ideal S8 e) : View.ld x r0_1 = x := funext fun j => congrArg x (r1 j)
theorem r2 (j : S8x128.Idx) : r0_2.emb j = j :=
  funext fun a => Fin.ext (match a with
    | ⟨0, _⟩ => by show 0 + 1 * (j 0).val = (j 0).val; omega
    | ⟨1, _⟩ => by show 0 + 1 * (j 1).val = (j 1).val; omega)
theorem r3 (j : S1x131072x1.Idx) : r0_3.emb j = j :=
  funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega)
theorem ld3 {e : EltTy} (x : Vec Ideal S1x131072x1 e) : View.ld x r0_3 = x := funext fun j => congrArg x (r3 j)
theorem r4 (j : S8x131072x128.Idx) : r0_4.emb j = j :=
  funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega)
theorem ld4 {e : EltTy} (x : Vec Ideal S8x131072x128 e) : View.ld x r0_4 = x := funext fun j => congrArg x (r4 j)
theorem r5 (j : S8x16x128.Idx) : r0_5.emb j = j :=
  funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega)
theorem ld5 {e : EltTy} (x : Vec Ideal S8x16x128 e) : View.ld x r0_5 = x := funext fun j => congrArg x (r5 j)
theorem r6 (j : S1x1x131072.Idx) : r0_6.emb j = j :=
  funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega)
theorem ld6 {e : EltTy} (x : Vec Ideal S1x1x131072 e) : View.ld x r0_6 = x := funext fun j => congrArg x (r6 j)
theorem r7 (j : S128x128.Idx) : r0_7.emb j = j :=
  funext fun a => Fin.ext (match a with
    | ⟨0, _⟩ => by show 0 + 1 * (j 0).val = (j 0).val; omega
    | ⟨1, _⟩ => by show 0 + 1 * (j 1).val = (j 1).val; omega)

def keyRow : FVec Ideal S8x128 .fp8e4m3 := k0_pay2 (m (c, Proc.tc.devRef main_arg1)) (m (c, Proc.tc.devRef main_arg10))
def valRow : FVec Ideal S8x128 .fp8e4m3 := k0_pay3 (m (c, Proc.tc.devRef main_arg2)) (m (c, Proc.tc.devRef main_arg11))
def out : FVec Ideal S128x128 .bf16 :=
  k0_pay1 (k0_pay7 (valRow m c) (V m c main_v30) (m (c, Proc.tc.devRef main_arg6)) (V m c main_v29) (m (c, Proc.tc.devRef main_arg6)))
    (k0_pay8 (k0_pay4 (V m c main_v30)) (k0_pay5 (m (c, Proc.tc.devRef main_arg1)) (m (c, Proc.tc.devRef main_arg10))) (k0_pay6 (m (c, Proc.tc.devRef main_arg4))) (V m c main_v26) (m (c, Proc.tc.devRef main_arg4)) (V m c main_v23))
    (Scalar.ofBits .f32 0x43000000#32) (V m c main_v31)

theorem flushed11_eq (t : Fin cfg0.N) : (dats m 0 c).flushed 11 t = ((cfg0.win 11).blk t).view.read (Elt Ideal) (out m c) := by
  rw [flushed11]
  funext j
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j = out m c (((cfg0.win 11).blk t).view.emb j)
  rw [emb11, iblk0_eq, iblk1_eq, iblk2_eq, iblk3_eq, iblk4_eq, iblk5_eq, iblk6_eq, iblk7_eq, iblk8_eq, iblk9_eq, iblk10_eq]
  unfold out0_11 out
  simp only [ld0, ld1, ld3, ld4, ld5, ld6]
  refine View.canon_apply_of_pieces _ _ ?_ j (cover0_11 _ j)
  intro pc hpc
  rcases List.mem_cons.mp hpc with rfl | hpc
  · intro x
    exact congrArg _ (r7 x).symm
  nomatch hpc
theorem covered11 (i : S128x128.Idx) : ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩
theorem final11 : (dats m 0 c).arrAt 11 cfg0.N = out m c :=
  (dats m 0 c).arrAt_eq_of_cover 11 (out m c) (fun t _ => flushed11_eq m c t) covered11

theorem flushed12_eq (t : Fin cfg0.N) : (dats m 0 c).flushed 12 t = ((cfg0.win 12).blk t).view.read (Elt Ideal) (keyRow m c) := by
  rw [flushed12]
  funext j
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) j = keyRow m c (((cfg0.win 12).blk t).view.emb j)
  rw [emb12, iblk0_eq, iblk1_eq, iblk2_eq, iblk3_eq, iblk4_eq, iblk5_eq, iblk6_eq, iblk7_eq, iblk8_eq, iblk9_eq, iblk10_eq]
  unfold out0_12 keyRow
  simp only [ld0, ld1, ld3, ld4, ld5, ld6]
  refine View.canon_apply_of_pieces _ _ ?_ j (cover0_12 _ j)
  intro pc hpc
  rcases List.mem_cons.mp hpc with rfl | hpc
  · intro x
    exact congrArg _ (r2 x).symm
  nomatch hpc
theorem covered12 (i : S8x128.Idx) : ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩
theorem final12 : (dats m 0 c).arrAt 12 cfg0.N = keyRow m c :=
  (dats m 0 c).arrAt_eq_of_cover 12 (keyRow m c) (fun t _ => flushed12_eq m c t) covered12

theorem flushed13_eq (t : Fin cfg0.N) : (dats m 0 c).flushed 13 t = ((cfg0.win 13).blk t).view.read (Elt Ideal) (valRow m c) := by
  rw [flushed13]
  funext j
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) j = valRow m c (((cfg0.win 13).blk t).view.emb j)
  rw [emb13, iblk0_eq, iblk1_eq, iblk2_eq, iblk3_eq, iblk4_eq, iblk5_eq, iblk6_eq, iblk7_eq, iblk8_eq, iblk9_eq, iblk10_eq]
  unfold out0_13 valRow
  simp only [ld0, ld1, ld3, ld4, ld5, ld6]
  refine View.canon_apply_of_pieces _ _ ?_ j (cover0_13 _ j)
  intro pc hpc
  rcases List.mem_cons.mp hpc with rfl | hpc
  · intro x
    exact congrArg _ (r2 x).symm
  nomatch hpc
theorem covered13 (i : S8x128.Idx) : ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩
theorem final13 : (dats m 0 c).arrAt 13 cfg0.N = valRow m c :=
  (dats m 0 c).arrAt_eq_of_cover 13 (valRow m c) (fun t _ => flushed13_eq m c t) covered13

end Cert.ReferenceIdeal.Value

end
-- ==== Proof.RefAttn.lean ====
/-
  The reference's first result is the attention over the paged cache.
-/
module

public import proofs.«01_k».proof.Proof.Model
public import proofs.«01_k».proof.Proof.RefRead
public import proofs.«01_k».proof.Proof.RefArrays
public import Idealize.ShloMosaic.Lib.IdealHost

@[expose] public section

set_option maxRecDepth 16384

noncomputable section

namespace Cert.ReferenceIdeal.Value

open Cert.ReferenceIdeal Cert.ReferenceIdeal.Gen Cert.Online
open Idealize.ShloMosaic

theorem minus_inf : Ideal.ofBits .f32 4286578688#32 = ⊥ := by simp [Ideal.ofBits, Ideal.ieee]
theorem dim_f : (Scalar.ofBits (F := Ideal) .f32 0x43000000#32 : EReal) = ((128 : ℝ) : EReal) := by
  show Ideal.ofBits .f32 0x43000000#32 = _
  simp [Ideal.ofBits, Ideal.ieee]
  rw [← EReal.coe_mul]
  norm_num
theorem div_dim (x : EReal) : Ideal.div x (Scalar.sqrt (F := Ideal) (φ := .f32) (Scalar.ofBits .f32 0x43000000#32)) = x * rt := by
  have e : Scalar.sqrt (F := Ideal) (φ := .f32) (Scalar.ofBits .f32 0x43000000#32) = ((Real.sqrt 128 : ℝ) : EReal) := by
    rw [dim_f]
    show Ideal.sqrt ((128 : ℝ) : EReal) = _
    show (if (128 : ℝ) < 0 then (⊥ : EReal) else ((Real.sqrt 128 : ℝ) : EReal)) = _
    exact if_neg (by norm_num)
  rw [e, Ideal.div_coe (by positivity)]
  unfold rt
  rw [one_div]

theorem sel_flag {α : Type} {q : Prop} [Decidable q] {b : BitVec 1} (h : b = BitVec.ofBool (decide q)) (x y : α) :
    Scalar.select (IntOp.cmpi .ne (BitVec.setWidth 32 b) 0#32) x y = if q then x else y := by
  subst h
  by_cases e : q
  · rw [if_pos e, decide_eq_true e]; rfl
  · rw [if_neg e, decide_eq_false e]; rfl

theorem sle_ofNat {t p : ℕ} (ht : t < 131072) (hp : p < 131072) : IntOp.cmpi .sle (BitVec.ofNat 32 t) (BitVec.ofNat 32 p) = BitVec.ofBool (decide (t ≤ p)) := by
  show BitVec.ofBool ((BitVec.ofNat 32 t).sle (BitVec.ofNat 32 p)) = _
  congr 1
  rw [BitVec.sle_eq_decide]
  simp only [BitVec.toInt_eq_toNat_cond, BitVec.toNat_ofNat]
  congr 1
  rw [Nat.mod_eq_of_lt (by omega), Nat.mod_eq_of_lt (by omega), if_pos (by omega), if_pos (by omega), Int.ofNat_le]

/-- The masked quotient of sums is the attention. -/
theorem masked_quot {p : ℕ} (hp : p < 131072) (z W : Fin 131072 → EReal) (s U : ℕ → EReal) (hz : ∀ t : Fin 131072, t.val ≤ p → z t = s t.val) (hW : ∀ t : Fin 131072, t.val ≤ p → W t = U t.val)
    (M : EReal) (hM : M = Finset.fold max ⊥ (fun x : Fin 131072 => if x.val ≤ p then z x else ⊥) Finset.univ) :
    Ideal.div (∑ x : Fin 131072, if x.val ≤ p then Ideal.exp (z x - M) * W x else 0) (∑ x : Fin 131072, if x.val ≤ p then Ideal.exp (z x - M) else 0) = attn p s U := by
  have e : M = top p s := by
    rw [hM]
    refine eq_of_forall_ge_iff fun y => ?_
    rw [Finset.fold_max_le, top_le]
    constructor
    · intro h t ht hp
      have := h.2 ⟨t, ht⟩ (Finset.mem_univ _)
      rwa [if_pos hp, hz _ hp] at this
    · intro h
      refine ⟨bot_le, fun t _ => ?_⟩
      by_cases hp : t.val ≤ p
      · rw [if_pos hp, hz _ hp]; exact h _ t.isLt hp
      · rw [if_neg hp]; exact bot_le
  unfold attn summed
  rw [Finset.sum_range, Finset.sum_range, ← e]
  refine congrArg₂ Ideal.div ?_ ?_
  · refine Finset.sum_congr rfl fun t _ => ?_
    by_cases hp : t.val ≤ p
    · rw [if_pos hp, if_pos hp, hz _ hp, hW _ hp]
    · rw [if_neg hp, if_neg hp, zero_mul]
  · refine Finset.sum_congr rfl fun t _ => ?_
    by_cases hp : t.val ≤ p
    · rw [if_pos hp, if_pos hp, hz _ hp, mul_one]
    · rw [if_neg hp, if_neg hp, zero_mul]

variable (m : (ℓ : Loc nD τ sig) → Buf (Elt Ideal) ℓ) (c : Dev nD)

theorem out_eq (p : ℕ) (hp : p < 131072) (h8 : m (c, Proc.tc.devRef main_arg8) (ix1 0) = BitVec.ofNat 32 p)
    (hpg : ∀ i : Fin 1024, (m (c, Proc.tc.devRef main_arg7) (ix2 0 i)).toNat < 1024)
    (hpl : ∀ t : Fin 131072, t.val < p → placeW (m (c, Proc.tc.devRef main_arg7)) t ≠ placeW (m (c, Proc.tc.devRef main_arg7)) ⟨p, hp⟩) (r d : Fin 128) :
    out m c (ix2 r d) = attnAt p (fun i => m (c, Proc.tc.devRef main_arg7) (ix2 0 i)) (fun r i => m (c, Proc.tc.devRef main_arg0) (ix3 0 0 ⟨r.val * 128 + i.val, by omega⟩))
      (fun n => m (c, Proc.tc.devRef main_arg4) (ix1 n)) (fun n => m (c, Proc.tc.devRef main_arg6) (ix1 n)) (fun n i => keyRow m c (ix2 n i)) (fun n i => valRow m c (ix2 n i))
      (fun g t n i => m (c, Proc.tc.devRef main_arg3) (ix4 g t n i)) (fun g t n i => m (c, Proc.tc.devRef main_arg5) (ix4 g t n i)) r d := by
  have hwr : ∀ t : Fin 131072, t.val ≤ p → ∀ x y : EReal, Scalar.select (IntOp.cmpi .ne (V m c main_v30 (ix3 0 t 0)) 0#32) x y = if t.val = p then x else y := fun t ht x y => by
    rw [V30_eq, V11_eq, V15_eq m c p hp h8]
    refine sel_flag ?_ x y
    show BitVec.ofBool (placeW (m (c, Proc.tc.devRef main_arg7)) t == placeW (m (c, Proc.tc.devRef main_arg7)) ⟨p, hp⟩) = _
    congr 1
    by_cases e : t.val = p
    · obtain rfl : t = ⟨p, hp⟩ := Fin.ext e
      simp
    · rw [decide_eq_false e]
      exact beq_eq_false_iff_ne.mpr (hpl t (by omega))
  have hva : ∀ (t : Fin 131072) (x y : EReal), Scalar.select (IntOp.cmpi .ne (V m c main_v31 (ix3 0 0 t)) 0#32) x y = if t.val ≤ p then x else y := fun t x y => by
    rw [V31_eq, h8]
    exact sel_flag (sle_ofNat t.isLt hp) x y
  have htab : ∀ t : Fin 131072, (⟨t.val / 128 % 1024, Nat.mod_lt _ (by norm_num)⟩ : Fin 1024) = ⟨t.val / 128, by omega⟩ := fun t => Fin.ext (Nat.mod_eq_of_lt (by omega))
  unfold out
  rw [ref1 _ _ _ _ r d _ fun x => rfl]
  simp only [hva, minus_inf]
  unfold attnAt
  refine masked_quot hp _ _ _ _ (fun t ht => ?_) (fun t ht => ?_) _ rfl
  · rw [div_dim, ref8]
    unfold score
    refine congrArg (fun z => z * rt) (Finset.sum_congr rfl fun i _ => ?_)
    rw [hwr t ht, V23_eq, V26_eq m c hpg]
    unfold tokAt
    simp only [htab]
    have er : r.val / 16 * 16 + r.val % 16 = r.val := by omega
    by_cases e : t.val = p
    · rw [if_pos e, if_pos e]
      simp only [er]; rfl
    · rw [if_neg e, if_neg e]
      simp only [er]
  · rw [ref7, hwr t ht, V29_eq m c hpg]
    unfold tokAt
    simp only [htab]
    by_cases e : t.val = p
    · rw [if_pos e, if_pos e]
    · rw [if_neg e, if_neg e]

end Cert.ReferenceIdeal.Value

end
-- ==== Proof.Bits.Words.lean ====
/-
  The same as the module of this name one directory up, for the kernel with its constants as printed.
  The words of the kernel: floor division and remainder by a power of two as the program writes them, the number of
  blocks of 1024 tokens a position needs, and the closed form of each window's offsets at a trip of a loop.
-/
module

public import proofs.«01_k».proof.Kernel
public import Idealize.ShloMosaic.Lib.WordArith
public import Idealize.ShloMosaic.Lib.WordCmp

@[expose] public section

namespace Cert.Kernel.Words

open Idealize.ShloMosaic

/-- The floor of a quotient of words, as the program computes it from the quotient toward zero. -/
def fdiv (x c : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

/-- The remainder of the divisor's sign, as the program computes it from the remainder of the dividend's. -/
def fmod (x c : BitVec 32) : BitVec 32 :=
  let d := Scalar.select (Scalar.cmpi .eq c 0#32) 1#32 c
  let r := Scalar.remsi x d
  Scalar.select (Scalar.andi (Scalar.xori (Scalar.cmpi .slt r 0#32) (Scalar.cmpi .slt d 0#32)) (Scalar.cmpi .ne r 0#32))
    (Scalar.addi r d) r

theorem not_corner (a c : ℕ) (hc : 0 < c) (hc' : c < 2 ^ 31) (ha : a < 2 ^ 31) :
    ¬ IntOp.SDivCorner (BitVec.ofNat 32 a) (BitVec.ofNat 32 c) := by
  rintro (h | ⟨h, -⟩)
  · have := congrArg BitVec.toNat h
    simp at this; omega
  · have := congrArg BitVec.toNat h
    simp [BitVec.intMin] at this; omega

theorem msb_false (a : ℕ) (ha : a < 2 ^ 31) : (BitVec.ofNat 32 a).msb = false := by
  rw [BitVec.msb_eq_decide]; simp; omega

theorem divsi_ofNat (a c : ℕ) (hc : 0 < c) (hc' : c < 2 ^ 31) (ha : a < 2 ^ 31) :
    Scalar.divsi (BitVec.ofNat 32 a) (BitVec.ofNat 32 c) = BitVec.ofNat 32 (a / c) := by
  unfold Scalar.divsi IntOp.divsi
  rw [if_neg (not_corner a c hc hc' ha), BitVec.sdiv_eq, msb_false a ha, msb_false c hc']
  apply BitVec.eq_of_toNat_eq
  have : a / c ≤ a := Nat.div_le_self _ _
  simp only [BitVec.udiv_eq, BitVec.toNat_udiv, BitVec.toNat_ofNat]
  rw [Nat.mod_eq_of_lt (by omega), Nat.mod_eq_of_lt (by omega), Nat.mod_eq_of_lt (by omega)]

theorem remsi_ofNat (a c : ℕ) (hc : 0 < c) (hc' : c < 2 ^ 31) (ha : a < 2 ^ 31) :
    Scalar.remsi (BitVec.ofNat 32 a) (BitVec.ofNat 32 c) = BitVec.ofNat 32 (a % c) := by
  unfold Scalar.remsi IntOp.remsi
  rw [if_neg (not_corner a c hc hc' ha), BitVec.srem_eq, msb_false a ha, msb_false c hc']
  apply BitVec.eq_of_toNat_eq
  have : a % c ≤ a := Nat.mod_le _ _
  simp only [BitVec.umod_eq, BitVec.toNat_umod, BitVec.toNat_ofNat]
  rw [Nat.mod_eq_of_lt (a := a) (by omega), Nat.mod_eq_of_lt (a := c) (by omega), Nat.mod_eq_of_lt (a := a % c) (by omega)]

theorem slt_zero (a : ℕ) (ha : a < 2 ^ 31) : Scalar.cmpi .slt (BitVec.ofNat 32 a) 0#32 = 0#1 := by
  unfold Scalar.cmpi
  rw [WordCmp.cmpi_slt_zero]
  have : ¬ (2 ^ (32 - 1) ≤ (BitVec.ofNat 32 a).toNat) := by simp; omega
  rw [decide_eq_false this]; rfl

theorem sgt_zero (a : ℕ) (h0 : 0 < a) (ha : a < 2 ^ 31) : Scalar.cmpi .sgt (BitVec.ofNat 32 a) 0#32 = 1#1 :=
  (WordCmp.cmpi_sgt_ofNat_eq_one_iff (w := 32) (a := a) (b := 0) (by omega) (by omega)).2 h0

theorem fdiv_ofNat (a c : ℕ) (hc : 0 < c) (hc' : c < 2 ^ 31) (ha : a < 2 ^ 31) :
    fdiv (BitVec.ofNat 32 a) (BitVec.ofNat 32 c) = BitVec.ofNat 32 (a / c) := by
  unfold fdiv
  rw [divsi_ofNat a c hc hc' ha, remsi_ofNat a c hc hc' ha, slt_zero a ha, slt_zero c hc', sgt_zero c hc hc']
  apply WordCmp.select_of_eq_zero
  rcases Nat.eq_zero_or_pos a with rfl | h0
  · simp; decide
  · rw [sgt_zero a h0 ha]
    have : Scalar.cmpi .ne (Scalar.subi (Scalar.extui 1#1) (Scalar.extui 0#1)) (Scalar.subi (Scalar.extui 1#1) (Scalar.extui 0#1)) = 0#1 := by
      decide
    rw [this]; unfold Scalar.andi IntOp.andi; simp

theorem fmod_ofNat (a c : ℕ) (hc : 0 < c) (hc' : c < 2 ^ 31) (ha : a < 2 ^ 31) :
    fmod (BitVec.ofNat 32 a) (BitVec.ofNat 32 c) = BitVec.ofNat 32 (a % c) := by
  have hd : Scalar.select (Scalar.cmpi .eq (BitVec.ofNat 32 c) 0#32) 1#32 (BitVec.ofNat 32 c) = BitVec.ofNat 32 c :=
    WordCmp.select_of_eq_zero ((WordCmp.cmpi_eq_ofNat_eq_zero_iff (w := 32) (a := c) (b := 0) (by omega) (by omega)).2 (by omega)) _ _
  unfold fmod
  simp only [hd, remsi_ofNat a c hc hc' ha]
  have hm : a % c ≤ a := Nat.mod_le _ _
  rw [slt_zero (a % c) (by omega), slt_zero c hc']
  apply WordCmp.select_of_eq_zero
  have : Scalar.xori 0#1 0#1 = 0#1 := by decide
  rw [this]; unfold Scalar.andi IntOp.andi; simp

/-- The number of blocks of 1024 tokens that hold the positions 0 to `q`. -/
abbrev nb (q : ℕ) : ℕ := q / 1024 + 1

theorem nb_lt {q : ℕ} (hq : q < 131072) : nb q < 129 := by show q / 1024 + 1 < 129; omega

theorem nb_word (q : ℕ) (hq : q < 131072) : Scalar.addi (fdiv (BitVec.ofNat 32 q) 1024#32) 1#32 = BitVec.ofNat 32 (nb q) := by
  have h := fdiv_ofNat q 1024 (by omega) (by omega) (by omega)
  have h' : fdiv (BitVec.ofNat 32 q) 1024#32 = BitVec.ofNat 32 (q / 1024) := h
  rw [h']
  exact WordCmp.addi_ofNat (w := 32) (q / 1024) 1

theorem loop_ub (q : ℕ) (hq : q < 131072) :
    Scalar.addi 0#32 (Scalar.muli (Scalar.divsi (Scalar.subi (Scalar.addi (fdiv (BitVec.ofNat 32 q) 1024#32) 1#32) 0#32) 1#32) 1#32)
      = BitVec.ofNat 32 (nb q) := by
  rw [nb_word q hq]
  have : ∀ n < 129, Scalar.addi 0#32 (Scalar.muli (Scalar.divsi (Scalar.subi (BitVec.ofNat 32 n) 0#32) 1#32) 1#32) = BitVec.ofNat 32 n := by
    decide +kernel
  exact this _ (nb_lt hq)

theorem t4_loop (q : ℕ) (hq : q < 131072) : k0_t4_loop (BitVec.ofNat 32 q) = ⟨0#32, BitVec.ofNat 32 (nb q), 1#32⟩ :=
  congrArg (fun u => (⟨0#32, u, 1#32⟩ : Scf.Loop 32)) (loop_ub q hq)
theorem t21_loop (q : ℕ) (hq : q < 131072) : k0_t21_loop (BitVec.ofNat 32 q) = ⟨0#32, BitVec.ofNat 32 (nb q), 1#32⟩ :=
  congrArg (fun u => (⟨0#32, u, 1#32⟩ : Scf.Loop 32)) (loop_ub q hq)
theorem t11_loop (q : ℕ) (hq : q < 131072) : k0_t11_loop (BitVec.ofNat 32 q) = ⟨BitVec.ofNat 32 (nb q), BitVec.ofNat 32 (nb q), 1#32⟩ := by
  have h2 : Scalar.addi 0#32 (Scalar.subi (Scalar.addi (fdiv (BitVec.ofNat 32 q) 1024#32) 1#32) 0#32) = BitVec.ofNat 32 (nb q) := by
    rw [nb_word q hq]
    have : ∀ n < 129, Scalar.addi 0#32 (Scalar.subi (BitVec.ofNat 32 n) 0#32) = BitVec.ofNat 32 n := by decide +kernel
    exact this _ (nb_lt hq)
  exact congrArg₂ (fun l u => (⟨l, u, 1#32⟩ : Scf.Loop 32)) (loop_ub q hq) h2
theorem t28_loop (q : ℕ) (hq : q < 131072) : k0_t28_loop (BitVec.ofNat 32 q) = ⟨BitVec.ofNat 32 (nb q), BitVec.ofNat 32 (nb q), 1#32⟩ :=
  t11_loop q hq

theorem trips_main : ∀ n < 129, Scf.trips 0#32 (BitVec.ofNat 32 n) 1#32 = n ∧ Scf.OK 0#32 (BitVec.ofNat 32 n) 1#32
    ∧ Scf.trips (BitVec.ofNat 32 n) (BitVec.ofNat 32 n) 1#32 = 0 ∧ Scf.OK (BitVec.ofNat 32 n) (BitVec.ofNat 32 n) 1#32 := by
  decide +kernel

theorem t4_trips (q : ℕ) (hq : q < 131072) : (k0_t4_loop (BitVec.ofNat 32 q)).trips = nb q := by
  rw [t4_loop q hq]; exact (trips_main _ (nb_lt hq)).1
theorem t21_trips (q : ℕ) (hq : q < 131072) : (k0_t21_loop (BitVec.ofNat 32 q)).trips = nb q := by
  rw [t21_loop q hq]; exact (trips_main _ (nb_lt hq)).1
theorem t11_trips (q : ℕ) (hq : q < 131072) : (k0_t11_loop (BitVec.ofNat 32 q)).trips = 0 := by
  rw [t11_loop q hq]; exact (trips_main _ (nb_lt hq)).2.2.1
theorem t28_trips (q : ℕ) (hq : q < 131072) : (k0_t28_loop (BitVec.ofNat 32 q)).trips = 0 := by
  rw [t28_loop q hq]; exact (trips_main _ (nb_lt hq)).2.2.1
theorem t4_OK (q : ℕ) (hq : q < 131072) : (k0_t4_loop (BitVec.ofNat 32 q)).OK := by
  rw [t4_loop q hq]; exact (trips_main _ (nb_lt hq)).2.1
theorem t11_OK (q : ℕ) (hq : q < 131072) : (k0_t11_loop (BitVec.ofNat 32 q)).OK := by
  rw [t11_loop q hq]; exact (trips_main _ (nb_lt hq)).2.2.2

/-! ## Closed forms at a trip -/

theorem prime_off : ∀ i < 5, ∀ g < 8,
    (Scalar.addi (Scalar.muli (Scf.iv 0#32 1#32 i) 8#32) (Scf.iv 0#32 1#32 g)).toNat = 8 * i + g
    ∧ (Scf.iv 0#32 1#32 i : BitVec 32).toNat = i ∧ (Scf.iv 0#32 1#32 g : BitVec 32).toNat = g := by decide +kernel

theorem start_off : ∀ i < 128, ∀ g < 8,
    (Scalar.addi (Scalar.muli (Scalar.subi (Scalar.addi (Scf.iv 0#32 1#32 i) 6#32) 1#32) 8#32) (Scf.iv 0#32 1#32 g)).toNat = 8 * (i + 5) + g
    ∧ (Scalar.remsi (Scalar.subi (Scalar.addi (Scf.iv 0#32 1#32 i) 6#32) 1#32) 6#32).toNat = (i + 5) % 6
    ∧ (Scf.iv 0#32 1#32 g : BitVec 32).toNat = g := by decide +kernel

theorem wait_off : ∀ i < 128, ∀ g < 8,
    (Scalar.addi (Scalar.muli (Scf.iv 0#32 1#32 i) 8#32) (Scf.iv 0#32 1#32 g)).toNat = 8 * i + g
    ∧ (Scalar.remsi (Scf.iv 0#32 1#32 i) 6#32).toNat = i % 6
    ∧ (Scf.iv 0#32 1#32 g : BitVec 32).toNat = g := by decide +kernel

theorem pair_off : ∀ j < 16,
    (Scalar.divsi (Scalar.muli (Scf.iv 0#32 1#32 j) 128#32) 256#32).toNat = j / 2
    ∧ (Scalar.muli (Scalar.remsi (Scalar.muli (Scf.iv 0#32 1#32 j) 128#32) 256#32) 4#32).toNat = 512 * (j % 2)
    ∧ (Scalar.muli (Scf.iv 0#32 1#32 j) 256#32).toNat = 256 * j := by decide +kernel

theorem cond_lt (q : ℕ) (hq : q < 131072) (x : ℕ) (hx : x < 2 ^ 31) (w : BitVec 32) (hw : w = BitVec.ofNat 32 x) :
    (Scalar.cmpi .ne (Scalar.extui (Scalar.cmpi .slt w (Scalar.addi (fdiv (BitVec.ofNat 32 q) 1024#32) 1#32))) 0#32 = 1#1) ↔ x < nb q := by
  rw [nb_word q hq, hw]
  have key : ∀ b : BitVec 1, (Scalar.cmpi .ne (Scalar.extui b) 0#32 = 1#1) ↔ b = 1#1 := by decide
  have hn := nb_lt hq
  rw [key]
  exact WordCmp.cmpi_slt_ofNat_eq_one_iff (w := 32) (by omega) (by omega)

theorem start_word : ∀ i < 128, Scalar.subi (Scalar.addi (Scf.iv 0#32 1#32 i) 6#32) 1#32 = BitVec.ofNat 32 (i + 5) := by decide +kernel

theorem iv_word : ∀ i < 128, (Scf.iv 0#32 1#32 i : BitVec 32) = BitVec.ofNat 32 i := by decide +kernel

theorem cond2_iff (q : ℕ) (hq : q < 131072) (k : Fin k0_t1_loop.trips) : k0_cond2 (BitVec.ofNat 32 q) k = 1#1 ↔ k.val < nb q :=
  cond_lt q hq k.val (by have : k.val < 5 := k.isLt; omega) _ (iv_word _ (by have : k.val < 5 := k.isLt; omega))

theorem cond3_iff (q : ℕ) (hq : q < 131072) (k : Fin (k0_t4_loop (BitVec.ofNat 32 q)).trips) :
    k0_cond3 (BitVec.ofNat 32 q) k = 1#1 ↔ k.val + 5 < nb q := by
  have hk : k.val < nb q := lt_of_lt_of_eq k.isLt (t4_trips q hq)
  have hn : nb q = q / 1024 + 1 := rfl
  exact cond_lt q hq (k.val + 5) (by omega) _ (start_word _ (by omega))

theorem cond4_iff (q : ℕ) (hq : q < 131072) (k : Fin (k0_t4_loop (BitVec.ofNat 32 q)).trips) :
    k0_cond4 (BitVec.ofNat 32 q) k = 1#1 ↔ k.val + 1 = nb q := by
  have hk : k.val < nb q := lt_of_lt_of_eq k.isLt (t4_trips q hq)
  have hn : nb q = q / 1024 + 1 := rfl
  show (Scalar.cmpi .ne (Scalar.extui (Scalar.cmpi .eq (Scf.iv 0#32 1#32 k.val)
    (Scalar.subi (Scalar.addi (fdiv (BitVec.ofNat 32 q) 1024#32) 1#32) 1#32))) 0#32 = 1#1) ↔ _
  rw [nb_word q hq, iv_word _ (by omega)]
  have h1 : Scalar.subi (BitVec.ofNat 32 (nb q)) 1#32 = BitVec.ofNat 32 (q / 1024) := by
    have : ∀ n < 128, Scalar.subi (BitVec.ofNat 32 (n + 1)) 1#32 = BitVec.ofNat 32 n := by decide +kernel
    exact this _ (by omega)
  have key : ∀ b : BitVec 1, (Scalar.cmpi .ne (Scalar.extui b) 0#32 = 1#1) ↔ b = 1#1 := by decide
  rw [h1, key]
  refine (WordCmp.cmpi_eq_ofNat_eq_one_iff (w := 32) (by omega) (by omega)).trans ?_
  omega

theorem cond8_iff (q : ℕ) (hq : q < 131072) (k : Fin k0_t18_loop.trips) : k0_cond8 (BitVec.ofNat 32 q) k = 1#1 ↔ k.val < nb q :=
  cond2_iff q hq k
theorem cond9_iff (q : ℕ) (hq : q < 131072) (k : Fin (k0_t21_loop (BitVec.ofNat 32 q)).trips) :
    k0_cond9 (BitVec.ofNat 32 q) k = 1#1 ↔ k.val + 5 < nb q := cond3_iff q hq k
theorem cond10_iff (q : ℕ) (hq : q < 131072) (k : Fin (k0_t21_loop (BitVec.ofNat 32 q)).trips) :
    k0_cond10 (BitVec.ofNat 32 q) k = 1#1 ↔ k.val + 1 = nb q := cond4_iff q hq k

/-- The page within its block of the position `q`, and the first of the 32 rows (four tokens of eight heads) that
    hold its token. -/
theorem patch_page (q : ℕ) (hq : q < 131072) :
    fdiv (fmod (BitVec.ofNat 32 q) 1024#32) 128#32 = BitVec.ofNat 32 (q % 1024 / 128) := by
  have h1 : fmod (BitVec.ofNat 32 q) 1024#32 = BitVec.ofNat 32 (q % 1024) := fmod_ofNat q 1024 (by omega) (by omega) (by omega)
  rw [h1]
  exact fdiv_ofNat (q % 1024) 128 (by omega) (by omega) (by omega)

theorem patch_slot (q : ℕ) (hq : q < 131072) :
    fmod (fmod (BitVec.ofNat 32 q) 1024#32) 128#32 = BitVec.ofNat 32 (q % 128) := by
  have h1 : fmod (BitVec.ofNat 32 q) 1024#32 = BitVec.ofNat 32 (q % 1024) := fmod_ofNat q 1024 (by omega) (by omega) (by omega)
  have h2 : fmod (BitVec.ofNat 32 (q % 1024)) 128#32 = BitVec.ofNat 32 (q % 1024 % 128) := fmod_ofNat (q % 1024) 128 (by omega) (by omega) (by omega)
  rw [h1, h2, Nat.mod_mod_of_dvd q (by decide : 128 ∣ 1024)]

theorem patch_row (q : ℕ) (hq : q < 131072) :
    Scalar.muli (fdiv (fmod (fmod (BitVec.ofNat 32 q) 1024#32) 128#32) 4#32) 32#32 = BitVec.ofNat 32 (q % 128 / 4 * 32) := by
  rw [patch_slot q hq]
  have h3 : fdiv (BitVec.ofNat 32 (q % 128)) 4#32 = BitVec.ofNat 32 (q % 128 / 4) := fdiv_ofNat (q % 128) 4 (by omega) (by omega) (by omega)
  rw [h3]
  exact WordCmp.muli_ofNat (w := 32) (q % 128 / 4) 32

theorem off25_eq (q : ℕ) (hq : q < 131072) (k : Fin (k0_t4_loop (BitVec.ofNat 32 q)).trips) :
    k0_off25 (BitVec.ofNat 32 q) k = ![k.val % 6, q % 1024 / 128, q % 128 / 4 * 32, 0] := by
  have hk : k.val < nb q := lt_of_lt_of_eq k.isLt (t4_trips q hq)
  have hn : nb q = q / 1024 + 1 := rfl
  show ![(Scalar.remsi (Scf.iv 0#32 1#32 k.val) 6#32).toNat, (fdiv (fmod (BitVec.ofNat 32 q) 1024#32) 128#32).toNat,
    (Scalar.muli (fdiv (fmod (fmod (BitVec.ofNat 32 q) 1024#32) 128#32) 4#32) 32#32).toNat, 0] = _
  rw [patch_row q hq, patch_page q hq, (wait_off k.val (by omega) 0 (by omega)).2.1]
  congr 2
  · simp; omega
  · congr 1; simp; omega

theorem off9_eq (q : ℕ) (hq : q < 131072) (k : Fin (k0_t4_loop (BitVec.ofNat 32 q)).trips) (g : Fin k0_t5_loop.trips) :
    k0_off9 (BitVec.ofNat 32 q) k g = ![8 * (k.val + 5) + g.val] := by
  have hk : k.val < nb q := lt_of_lt_of_eq k.isLt (t4_trips q hq)
  have hn : nb q = q / 1024 + 1 := rfl
  exact congrArg (fun x => ![x]) (start_off k.val (by omega) g.val g.isLt).1
theorem off10_eq (q : ℕ) (hq : q < 131072) (k : Fin (k0_t4_loop (BitVec.ofNat 32 q)).trips) :
    k0_off10 (BitVec.ofNat 32 q) k = ![(k.val + 5) % 6] := by
  have hk : k.val < nb q := lt_of_lt_of_eq k.isLt (t4_trips q hq)
  have hn : nb q = q / 1024 + 1 := rfl
  exact congrArg (fun x => ![x]) (start_off k.val (by omega) 0 (by omega)).2.1
theorem off11_eq (q : ℕ) (hq : q < 131072) (k : Fin (k0_t4_loop (BitVec.ofNat 32 q)).trips) (g : Fin k0_t5_loop.trips) :
    k0_off11 (BitVec.ofNat 32 q) k g = ![(k.val + 5) % 6, g.val, 0, 0] := by
  have hk : k.val < nb q := lt_of_lt_of_eq k.isLt (t4_trips q hq)
  have hn : nb q = q / 1024 + 1 := rfl
  have h := start_off k.val (by omega) g.val g.isLt
  exact congrArg₂ (fun x y => ![x, y, 0, 0]) h.2.1 h.2.2
theorem off17_eq (q : ℕ) (hq : q < 131072) (k : Fin (k0_t4_loop (BitVec.ofNat 32 q)).trips) (g : Fin k0_t7_loop.trips) :
    k0_off17 (BitVec.ofNat 32 q) k g = ![8 * k.val + g.val] := by
  have hk : k.val < nb q := lt_of_lt_of_eq k.isLt (t4_trips q hq)
  have hn : nb q = q / 1024 + 1 := rfl
  exact congrArg (fun x => ![x]) (wait_off k.val (by omega) g.val g.isLt).1
theorem off18_eq (q : ℕ) (hq : q < 131072) (k : Fin (k0_t4_loop (BitVec.ofNat 32 q)).trips) :
    k0_off18 (BitVec.ofNat 32 q) k = ![k.val % 6] := by
  have hk : k.val < nb q := lt_of_lt_of_eq k.isLt (t4_trips q hq)
  have hn : nb q = q / 1024 + 1 := rfl
  exact congrArg (fun x => ![x]) (wait_off k.val (by omega) 0 (by omega)).2.1
theorem off19_eq (q : ℕ) (hq : q < 131072) (k : Fin (k0_t4_loop (BitVec.ofNat 32 q)).trips) (g : Fin k0_t7_loop.trips) :
    k0_off19 (BitVec.ofNat 32 q) k g = ![k.val % 6, g.val, 0, 0] := by
  have hk : k.val < nb q := lt_of_lt_of_eq k.isLt (t4_trips q hq)
  have hn : nb q = q / 1024 + 1 := rfl
  have h := wait_off k.val (by omega) g.val g.isLt
  exact congrArg₂ (fun x y => ![x, y, 0, 0]) h.2.1 h.2.2
theorem off26_eq (q : ℕ) (hq : q < 131072) (k : Fin (k0_t4_loop (BitVec.ofNat 32 q)).trips) (j : Fin k0_t9_loop.trips) :
    k0_off26 (BitVec.ofNat 32 q) k j = ![k.val % 6, j.val / 2, 512 * (j.val % 2), 0] := by
  have hk : k.val < nb q := lt_of_lt_of_eq k.isLt (t4_trips q hq)
  have hn : nb q = q / 1024 + 1 := rfl
  have h := pair_off j.val j.isLt
  show ![(Scalar.remsi (Scf.iv 0#32 1#32 k.val) 6#32).toNat, _, _, 0] = _
  rw [(wait_off k.val (by omega) 0 (by omega)).2.1]
  exact congrArg₂ (fun x y => ![k.val % 6, x, y, 0]) h.1 h.2.1
theorem off27_eq (j : Fin k0_t9_loop.trips) : k0_off27 j = ![0, 256 * j.val] :=
  congrArg (fun x => ![0, x]) (pair_off j.val j.isLt).2.2
theorem off29_eq (q : ℕ) (hq : q < 131072) (k : Fin (k0_t4_loop (BitVec.ofNat 32 q)).trips) (j : Fin k0_t10_loop.trips) :
    k0_off29 (BitVec.ofNat 32 q) k j = ![k.val % 6, j.val / 2, 512 * (j.val % 2), 0] := off26_eq q hq k j

theorem mult1_dvd (q : ℕ) (hq : q < 131072) : 32 ∣ (k0_mult1 (BitVec.ofNat 32 q)).toNat := by
  have h : k0_mult1 (BitVec.ofNat 32 q) = BitVec.ofNat 32 (q % 128 / 4 * 32) := patch_row q hq
  rw [h]; simp; omega

/-! ## The kernel's side condition -/

theorem inb1 {a b c : ℕ} (h : a + b ≤ c) : ∀ i : Fin 1, (![a] : Fin 1 → ℕ) i + (![b] : Fin 1 → ℕ) i ≤ (![c] : Fin 1 → ℕ) i := by
  intro i; fin_cases i; exact h

theorem inb4 (o : Fin 4 → ℕ) (a g r : ℕ) (t : ℕ) (ho : o = ![a, g, r, 0]) (ha : a < 6) (hg : g < 8) (hr : r + t ≤ 1024) :
    ∀ i : Fin 4, o i + (![1, 1, t, 128] : Fin 4 → ℕ) i ≤ (![6, 8, 1024, 128] : Fin 4 → ℕ) i := by
  subst ho; intro i; fin_cases i <;> simp <;> omega

theorem packed4 (o : Fin 4 → ℕ) (a g r : ℕ) (ho : o = ![a, g, r, 0]) (hr : 4 ∣ r)
    (hinb : ∀ a, o a + S1x1x32x128.size a ≤ S6x8x1024x128.size a) :
    (Rect.unit (s := S6x8x1024x128) o S1x1x32x128.size hinb).PackedRows (EltTy.packing .fp8e4m3) := by
  subst ho
  have h2 : 2 ≤ S6x8x1024x128.rank := by decide
  exact .inr ⟨h2, rfl, .inl ⟨hr, (⟨8, rfl⟩ : 4 ∣ 32)⟩⟩

theorem whole4 (o : Fin 4 → ℕ) (ho : o 2 = 0)
    (hinb : ∀ a, o a + S1x1x1024x128.size a ≤ S6x8x1024x128.size a) :
    (Rect.unit (s := S6x8x1024x128) o S1x1x1024x128.size hinb).WholeWords (EltTy.packing .fp8e4m3) :=
  .inr ⟨by decide, rfl, ho, rfl⟩

theorem whole3 (o : Fin 3 → ℕ) (ho : o 1 = 0)
    (hinb : ∀ a, o a + S1x1024x128.size a ≤ S1024x1024x128.size a) :
    (Rect.unit (s := S1024x1024x128) o S1x1024x128.size hinb).WholeWords (EltTy.packing .fp8e4m3) :=
  .inr ⟨by decide, rfl, ho, rfl⟩

/-- The facts of one branch's loop over the blocks: every window of the first branch's main loop within its memref. -/
theorem branch_facts (q : ℕ) (hq : q < 131072) (k : Fin (k0_t4_loop (BitVec.ofNat 32 q)).trips) :
    (∀ g : Fin k0_t5_loop.trips, k.val + 5 < nb q → ∀ a, k0_off9 (BitVec.ofNat 32 q) k g a + S1.size a ≤ S1024.size a)
    ∧ (∀ a, k0_off10 (BitVec.ofNat 32 q) k a + S1.size a ≤ S6.size a)
    ∧ (∀ g : Fin k0_t5_loop.trips, ∀ a, k0_off11 (BitVec.ofNat 32 q) k g a + S1x1x1024x128.size a ≤ S6x8x1024x128.size a)
    ∧ (∀ g : Fin k0_t7_loop.trips, ∀ a, k0_off17 (BitVec.ofNat 32 q) k g a + S1.size a ≤ S1024.size a)
    ∧ (∀ a, k0_off18 (BitVec.ofNat 32 q) k a + S1.size a ≤ S6.size a)
    ∧ (∀ g : Fin k0_t7_loop.trips, ∀ a, k0_off19 (BitVec.ofNat 32 q) k g a + S1x1x1024x128.size a ≤ S6x8x1024x128.size a)
    ∧ (∀ a, k0_off25 (BitVec.ofNat 32 q) k a + S1x1x32x128.size a ≤ S6x8x1024x128.size a)
    ∧ (∀ hinb : ∀ a, k0_off25 (BitVec.ofNat 32 q) k a + S1x1x32x128.size a ≤ S6x8x1024x128.size a,
        (Rect.unit (s := S6x8x1024x128) (k0_off25 (BitVec.ofNat 32 q) k) S1x1x32x128.size hinb).PackedRows (EltTy.packing .fp8e4m3))
    ∧ (∀ j : Fin k0_t9_loop.trips, ∀ a, k0_off26 (BitVec.ofNat 32 q) k j a + S1x1x512x128.size a ≤ S6x8x1024x128.size a) := by
  have hk : k.val < nb q := lt_of_lt_of_eq k.isLt (t4_trips q hq)
  have hn : nb q = q / 1024 + 1 := rfl
  refine ⟨fun g hs => ?_, ?_, fun g => ?_, fun g => ?_, ?_, fun g => ?_, ?_, ?_, fun j => ?_⟩
  · have hg : g.val < 8 := g.isLt
    rw [off9_eq q hq]; exact inb1 (by omega)
  · rw [off10_eq q hq]; exact inb1 (by omega)
  · exact inb4 _ _ _ _ 1024 (off11_eq q hq k g) (by omega) g.isLt (by omega)
  · have hg : g.val < 8 := g.isLt
    rw [off17_eq q hq]; exact inb1 (by omega)
  · rw [off18_eq q hq]; exact inb1 (by omega)
  · exact inb4 _ _ _ _ 1024 (off19_eq q hq k g) (by omega) g.isLt (by omega)
  · exact inb4 _ _ _ _ 32 (off25_eq q hq k) (by omega) (by omega) (by omega)
  · exact fun hinb => packed4 _ _ _ _ (off25_eq q hq k) (by omega) hinb
  · have hj : j.val < 16 := j.isLt
    exact inb4 _ _ _ _ 512 (off26_eq q hq k j) (by omega) (by omega) (by omega)

theorem no_trip {n : ℕ} (h : n = 0) {P : Fin n → Prop} : ∀ k, P k := by subst h; exact fun k => k.elim0

theorem chk3_0 (q : ℕ) (hq : q < 131072) (v1 : BitVec 32) : k0_chk3_0 (BitVec.ofNat 32 q) v1 := by
  have B := branch_facts q hq
  have E := @no_trip _ (t11_trips q hq)
  refine ⟨fun _ => t4_OK q hq, fun k g _ h => (B k).1 g ((cond3_iff q hq k).1 h), fun k _ _ => (B k).2.1, fun k g _ _ => (B k).2.2.1 g,
    fun k g _ _ h => whole4 _ rfl h, fun k g _ h => (B k).1 g ((cond3_iff q hq k).1 h), fun k _ _ => (B k).2.1, fun k g _ _ => (B k).2.2.1 g,
    fun k g _ _ h => whole4 _ rfl h, fun k g _ => (B k).2.2.2.1 g, fun k _ => (B k).2.2.2.2.1, fun k g _ => (B k).2.2.2.2.2.1 g,
    fun k g _ h => whole4 _ rfl h, fun k g _ => (B k).2.2.2.1 g, fun k _ => (B k).2.2.2.2.1, fun k g _ => (B k).2.2.2.2.2.1 g,
    fun k g _ h => whole4 _ rfl h, fun _ _ _ => mult1_dvd q hq, fun k _ _ => (B k).2.2.2.2.2.2.1, fun k _ _ => (B k).2.2.2.2.2.2.2.1,
    fun _ _ _ => mult1_dvd q hq, fun k j _ => (B k).2.2.2.2.2.2.2.2 j, fun k j _ => (B k).2.2.2.2.2.2.2.2 j, fun _ => t11_OK q hq, ?_⟩
  exact ⟨E, E, E, E, E, E, E, E⟩

theorem chk3_1 (q : ℕ) (hq : q < 131072) (v1 : BitVec 32) : k0_chk3_1 (BitVec.ofNat 32 q) v1 := by
  have B := branch_facts q hq
  have E := @no_trip _ (t11_trips q hq)
  refine ⟨E, E, E, E, E, E, E, E, E, E, E, E, E, E,
    fun _ => t4_OK q hq, fun k g _ h => (B k).1 g ((cond3_iff q hq k).1 h), fun k _ _ => (B k).2.1, fun k g _ _ => (B k).2.2.1 g,
    fun k g _ _ h => whole4 _ rfl h, fun k g _ h => (B k).1 g ((cond3_iff q hq k).1 h), fun k _ _ => (B k).2.1, fun k g _ _ => (B k).2.2.1 g,
    fun k g _ _ h => whole4 _ rfl h, fun k g _ => (B k).2.2.2.1 g, fun k _ => (B k).2.2.2.2.1, fun k g _ => (B k).2.2.2.2.2.1 g,
    fun k g _ h => whole4 _ rfl h, fun k g _ => (B k).2.2.2.1 g, fun k _ => (B k).2.2.2.2.1, fun k g _ => (B k).2.2.2.2.2.1 g,
    fun k g _ h => whole4 _ rfl h, fun _ _ _ => mult1_dvd q hq⟩

theorem chk3_2 (q : ℕ) (hq : q < 131072) (v1 : BitVec 32) : k0_chk3_2 (BitVec.ofNat 32 q) v1 := by
  have B := branch_facts q hq
  have E := @no_trip _ (t28_trips q hq)
  exact ⟨fun k _ _ => (B k).2.2.2.2.2.2.1, fun k _ _ => (B k).2.2.2.2.2.2.2.1,
    fun _ _ _ => mult1_dvd q hq, fun k j _ => (B k).2.2.2.2.2.2.2.2 j, fun k j _ => (B k).2.2.2.2.2.2.2.2 j, fun _ => t11_OK q hq,
    E, E, E, E, E, E, E, E, E, E, E, E, E, E, E, E, E, E, E, E, E, E⟩

theorem chk3 (q : ℕ) (hq : q < 131072) (v1 : BitVec 32) : k0_chk3 (BitVec.ofNat 32 q) v1 :=
  ⟨chk3_0 q hq v1, chk3_1 q hq v1, chk3_2 q hq v1⟩

/-- A page number within the pool: the window of its page is within the pool, of whole words. -/
theorem page_inb (w : BitVec 32) (hw : w.toNat < 1024) : ∀ a, k0_off4 w a + S1x1024x128.size a ≤ S1024x1024x128.size a := by
  intro a; show (![w.toNat, 0, 0] : Fin 3 → ℕ) a + (![1, 1024, 128] : Fin 3 → ℕ) a ≤ (![1024, 1024, 128] : Fin 3 → ℕ) a
  fin_cases a <;> simp <;> omega

theorem chk1 (v0 v1 w : BitVec 32) (hw : w.toNat < 1024) (k) : k0_chk1 v0 v1 k w :=
  ⟨fun _ _ => page_inb w hw, fun _ _ h => whole3 _ rfl h⟩
theorem chk2 (v0 v1 w : BitVec 32) (hw : w.toNat < 1024) (k) : k0_chk2 v0 v1 k w := chk1 v0 v1 w hw k
theorem chk4 (v0 v1 w : BitVec 32) (hw : w.toNat < 1024) (k) : k0_chk4 v0 v1 k w :=
  ⟨fun _ _ => page_inb w hw, fun _ _ h => whole3 _ rfl h⟩
theorem chk5 (v0 v1 w : BitVec 32) (hw : w.toNat < 1024) (k) : k0_chk5 v0 v1 k w := chk4 v0 v1 w hw k
theorem chk6 (v1 w : BitVec 32) (hw : w.toNat < 1024) : k0_chk6 v1 w := ⟨fun _ => page_inb w hw, fun _ h => whole3 _ rfl h⟩
theorem chk7 (v1 w : BitVec 32) (hw : w.toNat < 1024) : k0_chk7 v1 w := chk6 v1 w hw
theorem chk12 (v0 v1 w : BitVec 32) (hw : w.toNat < 1024) (k) : k0_chk12 v0 v1 k w :=
  ⟨fun _ _ => page_inb w hw, fun _ _ h => whole3 _ rfl h⟩
theorem chk13 (v0 v1 w : BitVec 32) (hw : w.toNat < 1024) (k) : k0_chk13 v0 v1 k w := chk12 v0 v1 w hw k
theorem chk14 (v0 v1 w : BitVec 32) (hw : w.toNat < 1024) (k) : k0_chk14 v0 v1 k w :=
  ⟨fun _ _ => page_inb w hw, fun _ _ h => whole3 _ rfl h⟩
theorem chk15 (v0 v1 w : BitVec 32) (hw : w.toNat < 1024) (k) : k0_chk15 v0 v1 k w := chk14 v0 v1 w hw k
theorem chk16 (v1 w : BitVec 32) (hw : w.toNat < 1024) : k0_chk16 v1 w := ⟨fun _ => page_inb w hw, fun _ h => whole3 _ rfl h⟩
theorem chk17 (v1 w : BitVec 32) (hw : w.toNat < 1024) : k0_chk17 v1 w := chk16 v1 w hw

end Cert.Kernel.Words
-- ==== Proof.Bits.Ring.lean ====
/-
  The same as the module of this name one directory up, for the kernel with its constants as printed.
  The page ring: one scratch buffer of six slots of eight pages, filled from a pool of pages in HBM by
  eight transfers per slot, all on the slot's own semaphore cell, and drained by eight waits on it.

  Everything is generic in the memrefs (the key ring and the value ring are the same lemmas) and in the
  offsets as the program spells them.
-/
module

public import proofs.«01_k».proof.Proof.Bits.Words
public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [∀ e, Nonempty (Elt F e)]

local notation "𝕄" => MT nD τ sig Unit (Elt F) ℕ (Pipeline.UD sig nD τ) ℕ

/-! ## The views -/

theorem pinb (s : Fin 6) (g : Fin 8) :
    ∀ a, (![s.val, g.val, 0, 0] : Fin 4 → ℕ) a + S1x1x1024x128.size a ≤ S6x8x1024x128.size a :=
  inb4 _ s.val g.val 0 1024 rfl s.isLt g.isLt (by omega)

theorem qinb (p : Fin 1024) : ∀ a, (![p.val, 0, 0] : Fin 3 → ℕ) a + S1x1024x128.size a ≤ S1024x1024x128.size a := by
  intro a
  show (![p.val, 0, 0] : Fin 3 → ℕ) a + (![1, 1024, 128] : Fin 3 → ℕ) a ≤ (![1024, 1024, 128] : Fin 3 → ℕ) a
  fin_cases a <;> simp <;> omega

theorem cinb (s : Fin 6) : ∀ a, (![s.val] : Fin 1 → ℕ) a + S1.size a ≤ S6.size a := inb1 (by omega)
theorem tinb {i : ℕ} (hi : i < 1024) : ∀ a, (![i] : Fin 1 → ℕ) a + S1.size a ≤ S1024.size a := inb1 (by omega)

/-- The page of a ring buffer at a printed offset. -/
abbrev pageAt (buf : Memref sig .tc .vmem S6x8x1024x128 .fp8e4m3) (o : Fin 4 → ℕ)
    (h : ∀ a, o a + S1x1x1024x128.size a ≤ S6x8x1024x128.size a) : Memref sig .tc .vmem S1024x128 .fp8e4m3 :=
  (buf.slice (Rect.unit (s := S6x8x1024x128) o S1x1x1024x128.size h) (fun _ => rfl)).squeeze S1024x128 squeezes_S1x1x1024x128_S1024x128

/-- The page of the pool at a printed offset. -/
abbrev poolAt (pool : Memref sig .tc .hbm S1024x1024x128 .fp8e4m3) (o : Fin 3 → ℕ)
    (h : ∀ a, o a + S1x1024x128.size a ≤ S1024x1024x128.size a) : Memref sig .tc .hbm S1024x128 .fp8e4m3 :=
  (pool.slice (Rect.unit (s := S1024x1024x128) o S1x1024x128.size h) (fun _ => rfl)).squeeze S1024x128 squeezes_S1x1024x128_S1024x128

abbrev pageOf (buf : Memref sig .tc .vmem S6x8x1024x128 .fp8e4m3) (s : Fin 6) (g : Fin 8) := pageAt buf _ (pinb s g)
abbrev poolPage (pool : Memref sig .tc .hbm S1024x1024x128 .fp8e4m3) (p : Fin 1024) := poolAt pool _ (qinb p)

/-- The semaphore cell at a printed offset. -/
abbrev cellAt (sems : DmaSems sig S6) (o : Fin 1 → ℕ) (h : ∀ a, o a + S1.size a ≤ S6.size a) : DmaSem sig :=
  ((sems.slice (Rect.unit (s := S6) o S1.size h)).squeeze S_ squeezes_S1_S_).sem
abbrev cellOf (sems : DmaSems sig S6) (s : Fin 6) : DmaSem sig := cellAt sems _ (cinb s)

/-- The multi-indices of a page and of a ring buffer by their coordinates. -/
def ix2 (a : Fin 1024) (b : Fin 128) : S1024x128.Idx := fun i => match i with
  | ⟨0, _⟩ => a
  | ⟨1, _⟩ => b
def ix4 (s : Fin 6) (g : Fin 8) (a : Fin 1024) (b : Fin 128) : S6x8x1024x128.Idx := fun i => match i with
  | ⟨0, _⟩ => s
  | ⟨1, _⟩ => g
  | ⟨2, _⟩ => a
  | ⟨3, _⟩ => b
def ix4' (a : Fin 1024) (b : Fin 128) : S1x1x1024x128.Idx := fun i => match i with
  | ⟨0, _⟩ => (0 : Fin 1)
  | ⟨1, _⟩ => (0 : Fin 1)
  | ⟨2, _⟩ => a
  | ⟨3, _⟩ => b

/-- The page table's word `i`, as a one-word load reads it. -/
def tw (tab : Memref sig .tc .smem S1024 .i32) (T : tab.view.ty.Contents (Elt F)) (i : ℕ) : BitVec 32 :=
  if h : i < 1024 then
    (tab.access (Rect.unit (s := S1024) ![i] S1.size (tinb h))).read (Elt F) T
      (Shape.Idx.first ((numel1_S1 : (Rect.unit (s := S1024) ![i] S1.size (tinb h)).shape.numel = 1).symm ▸ Nat.one_pos))
  else 0#32

/-! ## Element sets -/

/-- The elements of page `g` of slot `s`. -/
abbrev pgRect (s : Fin 6) (g : Fin 8) : Rect S6x8x1024x128 := Rect.unit (s := S6x8x1024x128) ![s.val, g.val, 0, 0] S1x1x1024x128.size (pinb s g)

theorem mem_pgRect (s : Fin 6) (g : Fin 8) (y : S6x8x1024x128.Idx) :
    y ∈ (pgRect s g).set ↔ (y 0).val = s.val ∧ (y 1).val = g.val := by
  rw [Rect.mem_set_unit]
  have h2 : (y 2).val < 1024 := (y 2).isLt
  have h3 : (y 3).val < 128 := (y 3).isLt
  constructor
  · intro H
    have a0 : s.val ≤ (y 0).val ∧ (y 0).val < s.val + 1 := H 0
    have a1 : g.val ≤ (y 1).val ∧ (y 1).val < g.val + 1 := H 1
    omega
  · rintro ⟨h0, h1⟩ a; fin_cases a
    · show s.val ≤ (y 0).val ∧ (y 0).val < s.val + 1; omega
    · show g.val ≤ (y 1).val ∧ (y 1).val < g.val + 1; omega
    · show 0 ≤ (y 2).val ∧ (y 2).val < 0 + 1024; omega
    · show 0 ≤ (y 3).val ∧ (y 3).val < 0 + 128; omega

variable (buf : Memref sig .tc .vmem S6x8x1024x128 .fp8e4m3)

/-- The buffer's elements under page `g` of slot `s`; those under slot `s`. -/
abbrev pgSet (s : Fin 6) (g : Fin 8) : Finset buf.view.ty.Idx := (pgRect s g).set.map buf.view.emb
def slotSet (s : Fin 6) : Finset buf.view.ty.Idx := Finset.univ.biUnion (pgSet buf s)

theorem pageOf_set (s : Fin 6) (g : Fin 8) : (pageOf buf s g).view.set = pgSet buf s g :=
  (View.set_reshape _ _).trans (View.set_slice _ _)

theorem pgSet_disjoint {s s' : Fin 6} {g g' : Fin 8} (h : s ≠ s' ∨ g ≠ g') : Disjoint (pgSet buf s g) (pgSet buf s' g') := by
  rw [Finset.disjoint_map, Finset.disjoint_left]
  intro y hy hy'
  rw [mem_pgRect] at hy hy'
  rcases h with h | h
  · exact h (Fin.ext (by omega))
  · exact h (Fin.ext (by omega))

theorem slotSet_disjoint {s s' : Fin 6} (h : s ≠ s') : Disjoint (slotSet buf s) (slotSet buf s') := by
  unfold slotSet
  rw [Finset.disjoint_biUnion_left]; intro g _
  rw [Finset.disjoint_biUnion_right]; intro g' _
  exact pgSet_disjoint buf (.inl h)

theorem mem_slotSet (s : Fin 6) (y : S6x8x1024x128.Idx) : buf.view.emb y ∈ slotSet buf s ↔ (y 0).val = s.val := by
  unfold slotSet
  rw [Finset.mem_biUnion]
  constructor
  · rintro ⟨g, -, hg⟩
    rw [Finset.mem_map' , mem_pgRect] at hg; exact hg.1
  · intro h
    refine ⟨(y 1 : Fin 8), Finset.mem_univ _, ?_⟩
    rw [Finset.mem_map']; exact (mem_pgRect s (y 1 : Fin 8) y).mpr ⟨h, rfl⟩

theorem slotSet_cover (hbuf : buf.view.set = Finset.univ) : Finset.univ.biUnion (slotSet buf) = Finset.univ := by
  ext i
  simp only [Finset.mem_biUnion, Finset.mem_univ, true_and, iff_true]
  have hi : i ∈ buf.view.set := by rw [hbuf]; exact Finset.mem_univ i
  obtain ⟨y, -, rfl⟩ := Finset.mem_map.mp hi
  exact ⟨y 0, (mem_slotSet buf _ y).mpr rfl⟩

/-! ## Contents -/

variable (pool : Memref sig .tc .hbm S1024x1024x128 .fp8e4m3) (sems : DmaSems sig S6)
variable (c : Dev nD) (pl : Buf (Elt F) (pool.view.loc (c : Thread nD τ))) (pgs : ℕ → Fin 1024)

/-- Page `i` of the sequence, as a transfer reads it. -/
def pageX (i : ℕ) : S1024x128.Idx → Elt F .fp8e4m3 := (poolPage pool (pgs i)).view.read (Elt F) pl

/-- Block `b`'s contents, at every slot. -/
def blkC (b : ℕ) : S6x8x1024x128.Idx → Elt F .fp8e4m3 := fun y => pageX pool c pl pgs (8 * b + (y 1).val) (ix2 (y 2) (y 3))

/-- A tensor as contents of the buffer. -/
def Fof (C : S6x8x1024x128.Idx → Elt F .fp8e4m3) : Buf (Elt F) (buf.view.loc (c : Thread nD τ)) :=
  buf.view.write (Elt F) buf.view.junk C Finset.univ

theorem page_idx (x : S1024x128.Idx) :
    Shape.reshapeEquiv (squeezes_S1x1x1024x128_S1024x128).numel_eq x = ix4' (x 0) (x 1) := by
  apply Shape.reshapeEquiv_eq_of_rowMajor
  refine (Shape.rowMajor_val_four (d := ![1, 1, 1024, 128]) _).trans (Eq.trans ?_ (Shape.rowMajor_val_two (d := ![1024, 128]) x).symm)
  simp [ix4']

theorem page_emb (s : Fin 6) (g : Fin 8) (x : S1024x128.Idx) :
    (pgRect s g).emb (ix4' (x 0) (x 1)) = ix4 s g (x 0) (x 1) := by
  funext a; fin_cases a <;> apply Fin.ext <;> simp [Rect.emb, ix4, ix4', Rect.unit]

theorem ix2_eta (x : S1024x128.Idx) : ix2 (x 0) (x 1) = x := by
  funext a; fin_cases a <;> rfl

theorem page_landed (b : ℕ) (s : Fin 6) (g : Fin 8) (f : Buf (Elt F) (buf.view.loc (c : Thread nD τ))) :
    ∀ i ∈ (pageOf buf s g).view.set,
      (pageOf buf s g).view.write (Elt F) f (pageX pool c pl pgs (8 * b + g.val)) Finset.univ i
        = Fof buf c (blkC pool c pl pgs b) i := by
  intro i hi
  obtain ⟨x, -, rfl⟩ := Finset.mem_map.mp hi
  refine (View.write_emb_of_mem _ _ (Finset.mem_univ x)).trans ?_
  have he : (pageOf buf s g).view.emb x = buf.view.emb (ix4 s g (x 0) (x 1)) := by
    show buf.view.emb ((pgRect s g).emb (Shape.reshapeEquiv (squeezes_S1x1x1024x128_S1024x128).numel_eq x)) = _
    rw [page_idx, page_emb]
  refine Eq.trans ?_ ((congrArg (Fof buf c (blkC pool c pl pgs b)) he).trans (View.write_emb_of_mem _ _ (Finset.mem_univ _))).symm
  show _ = cast _ (pageX pool c pl pgs (8 * b + g.val) (ix2 (x 0) (x 1)))
  rw [ix2_eta]

/-! ## The slot's states -/

/-- The pool's elements under page `p`. -/
abbrev poolSet (p : Fin 1024) : Finset (Idx (pool.view.loc (c : Thread nD τ))) :=
  (Rect.unit (s := S1024x1024x128) ![p.val, 0, 0] S1x1024x128.size (qinb p)).set.map pool.view.emb

theorem poolPage_set (p : Fin 1024) : (poolPage pool p).view.set = poolSet pool c p :=
  (View.set_reshape _ _).trans (View.set_slice _ _)

/-- Read token `g` of slot `s`'s share of the pool. -/
abbrev tok (S : Finset (Idx (pool.view.loc (c : Thread nD τ)))) (s : Fin 6) (g : Fin 8) : sProp 𝕄 :=
  pool.view.loc (c : Thread nD τ) ↦[S]{Transfers.shareTokN (Transfers.shareTokN fullShare s.val) g.val} pl

/-- A slot at rest, its contents `f`. -/
def Held (s : Fin 6) (f : Buf (Elt F) (buf.view.loc (c : Thread nD τ))) : sProp 𝕄 :=
  iprop(semVal ((c : Thread nD τ), SemLoc.dma (cellOf sems s)) 0
    ∗ (buf.view.loc (c : Thread nD τ) ↦[slotSet buf s]{fullShare} f)
    ∗ bigSep Finset.univ fun g => tok pool c pl pool.view.set s g)

/-- What transfer `g` of block `b` into slot `s` delivers. -/
def Dlv (s : Fin 6) (b : ℕ) (g : Fin 8) : sProp 𝕄 :=
  iprop((buf.view.loc (c : Thread nD τ) ↦[pgSet buf s g]{fullShare} Fof buf c (blkC pool c pl pgs b))
    ∗ tok pool c pl (poolSet pool c (pgs (8 * b + g.val))) s g)

instance Dlv_storable (s : Fin 6) (b : ℕ) (g : Fin 8) : BI.Storable (upEmb : UEmb _ 𝕄) (Dlv buf pool c pl pgs s b g) := by
  unfold Dlv; infer_instance

/-- What stays behind of token `g` while its transfer is in flight. -/
abbrev Left (s : Fin 6) (b : ℕ) (g : Fin 8) : sProp 𝕄 :=
  tok pool c pl (pool.view.set \ poolSet pool c (pgs (8 * b + g.val))) s g

/-- What a page's transfer credits. -/
abbrev NN : ℕ := (pageOf buf 0 0).view.dmaCredit

theorem NN_pos : 0 < NN buf := View.dmaCredit_pos _ (by decide)

abbrev Bat (s : Fin 6) (b j u : ℕ) : sProp 𝕄 :=
  Transfers.Batch (countersEmb (U := Pipeline.UD sig nD τ)) (c : Thread nD τ) (.dma (cellOf sems s)) () (NN buf)
    (Dlv buf pool c pl pgs s b) j u

/-- A slot with block `b`'s eight transfers in flight. -/
def Flight (s : Fin 6) (b : ℕ) : sProp 𝕄 :=
  iprop(Bat buf pool sems c pl pgs s b 8 0 ∗ bigSep Finset.univ (Left pool c pl pgs s b))

/-- A slot's state: at rest at some contents, or a block in flight. -/
def Slot (s : Fin 6) : Option ℕ → sProp 𝕄
  | none => iprop(∃ f, Held buf pool sems c pl s f)
  | some b => Flight buf pool sems c pl pgs s b

/-! ## One transfer, one wait -/

variable (tab : Memref sig .tc .smem S1024 .i32) (T : Buf (Elt F) (tab.view.loc (c : Thread nD τ)))

abbrev Table (q : PosShare TreeShare) : sProp 𝕄 := tab.view.loc (c : Thread nD τ) ↦[tab.view.set]{q} T

/-- The program of one transfer's issue: the page's number read from the table and checked, the page's copy enqueued. -/
def startTrip (hbuf : buf.IsWhole) (hpool : pool.IsWhole)
    (oT : Fin 1 → ℕ) (hT : ∀ a, oT a + S1.size a ≤ S1024.size a) (oS : Fin 1 → ℕ) (hS : ∀ a, oS a + S1.size a ≤ S6.size a)
    (oB : Fin 4 → ℕ) (hB : ∀ a, oB a + S1x1x1024x128.size a ≤ S6x8x1024x128.size a)
    (hBw : (Rect.unit (s := S6x8x1024x128) oB S1x1x1024x128.size hB).WholeWords (EltTy.packing .fp8e4m3))
    (chk : BitVec 32 → Prop) (dec : ∀ w, Decidable (chk w))
    (hP : ∀ w, chk w → ∀ a, (![w.toNat, 0, 0] : Fin 3 → ℕ) a + S1x1024x128.size a ≤ S1024x1024x128.size a)
    (hPw : ∀ w (h : chk w), (Rect.unit (s := S1024x1024x128) ![w.toNat, 0, 0] S1x1024x128.size (hP w h)).WholeWords (EltTy.packing .fp8e4m3)) :
    Prog (TpuEff nD τ sig (Elt F) Λ₀ .tc) Unit :=
  smemLoadElt tab (Rect.unit (s := S1024) oT S1.size hT) (View.loads_smem_one rfl numel1_S1)
    (Shape.Idx.first ((numel1_S1 : (Rect.unit (s := S1024) oT S1.size hT).shape.numel = 1).symm ▸ Nat.one_pos)) fun w =>
  .op (.assume (chk w) (dec w)) fun h =>
  .op (.enqueueDmaAs (poolAt pool ![w.toNat, 0, 0] (hP w h.down)) (.here (pageAt buf oB hB)) .same (.dma (cellAt sems oS hS))
    ((hpool.wordExact_slice rfl _ (hPw w h.down)).reshape _ _) ((hbuf.wordExact_slice rfl _ hBw).reshape _ _) ⟨Or.inl rfl, trivial⟩)
    fun _ => .ret ⟨⟩

/-- The program of one wait: the same page's number read and checked, one page's amount consumed. -/
def waitTrip (hbuf : buf.IsWhole) (hpool : pool.IsWhole)
    (oT : Fin 1 → ℕ) (hT : ∀ a, oT a + S1.size a ≤ S1024.size a) (oS : Fin 1 → ℕ) (hS : ∀ a, oS a + S1.size a ≤ S6.size a)
    (oB : Fin 4 → ℕ) (hB : ∀ a, oB a + S1x1x1024x128.size a ≤ S6x8x1024x128.size a)
    (hBw : (Rect.unit (s := S6x8x1024x128) oB S1x1x1024x128.size hB).WholeWords (EltTy.packing .fp8e4m3))
    (chk : BitVec 32 → Prop) (dec : ∀ w, Decidable (chk w))
    (hP : ∀ w, chk w → ∀ a, (![w.toNat, 0, 0] : Fin 3 → ℕ) a + S1x1024x128.size a ≤ S1024x1024x128.size a)
    (hPw : ∀ w (h : chk w), (Rect.unit (s := S1024x1024x128) ![w.toNat, 0, 0] S1x1024x128.size (hP w h)).WholeWords (EltTy.packing .fp8e4m3)) :
    Prog (TpuEff nD τ sig (Elt F) Λ₀ .tc) Unit :=
  smemLoadElt tab (Rect.unit (s := S1024) oT S1.size hT) (View.loads_smem_one rfl numel1_S1)
    (Shape.Idx.first ((numel1_S1 : (Rect.unit (s := S1024) oT S1.size hT).shape.numel = 1).symm ▸ Nat.one_pos)) fun w =>
  .op (.assume (chk w) (dec w)) fun h =>
  .op (.waitDma2 (cellAt sems oS hS) (poolAt pool ![w.toNat, 0, 0] (hP w h.down)) (pageAt buf oB hB)
    ((hpool.wordExact_slice rfl _ (hPw w h.down)).reshape _ _) ((hbuf.wordExact_slice rfl _ hBw).reshape _ _))
    fun _ => .ret ⟨⟩

section Trips

variable (defs : Defs nD τ sig (Elt F) Λ₀) (𝒱 : Variants) (bd : Option 𝒱.V) (q : PosShare TreeShare)
variable (hbuf : buf.IsWhole) (hpool : pool.IsWhole)
  (oT : Fin 1 → ℕ) (hT : ∀ a, oT a + S1.size a ≤ S1024.size a) (oS : Fin 1 → ℕ) (hS : ∀ a, oS a + S1.size a ≤ S6.size a)
  (oB : Fin 4 → ℕ) (hB : ∀ a, oB a + S1x1x1024x128.size a ≤ S6x8x1024x128.size a)
  (hBw : (Rect.unit (s := S6x8x1024x128) oB S1x1x1024x128.size hB).WholeWords (EltTy.packing .fp8e4m3))
  (chk : BitVec 32 → Prop) (dec : ∀ w, Decidable (chk w))
  (hP : ∀ w, chk w → ∀ a, (![w.toNat, 0, 0] : Fin 3 → ℕ) a + S1x1024x128.size a ≤ S1024x1024x128.size a)
  (hPw : ∀ w (h : chk w), (Rect.unit (s := S1024x1024x128) ![w.toNat, 0, 0] S1x1024x128.size (hP w h)).WholeWords (EltTy.packing .fp8e4m3))

theorem word_wp {α : Type} {Q : α → sProp 𝕄} {hw : (tab.access (Rect.unit (s := S1024) oT S1.size hT)).Loads} {x}
    {k : BitVec 32 → Prog (TpuEff nD τ sig (Elt F) Λ₀ .tc) α} :
    Table c tab T q ⊢ iprop((Table c tab T q -∗ wp frame (wpE defs 𝒱 (c : Thread nD τ) bd) Set.univ
        (k ((tab.access (Rect.unit (s := S1024) oT S1.size hT)).read (Elt F) T x)) Q)
      -∗ wp frame (wpE defs 𝒱 (c : Thread nD τ) bd) Set.univ (smemLoadElt tab (Rect.unit (s := S1024) oT S1.size hT) hw x k) Q) :=
  wp_smemLoadElt 𝒱 (c : Thread nD τ) bd Set.univ (m := tab) (r := Rect.unit (s := S1024) oT S1.size hT) (S := tab.view.set) (q := q) (f := T)
    (View.set_slice_subset _ _)

theorem issue_wp {α : Type} {Q : α → sProp 𝕄} (s : Fin 6) (b : ℕ) (g : Fin 8)
    (oS : Fin 1 → ℕ) {hS : ∀ a, oS a + S1.size a ≤ S6.size a} (eS : oS = ![s.val])
    (oB : Fin 4 → ℕ) {hB : ∀ a, oB a + S1x1x1024x128.size a ≤ S6x8x1024x128.size a} (eB : oB = ![s.val, g.val, 0, 0])
    (oP : Fin 3 → ℕ) {hP : ∀ a, oP a + S1x1024x128.size a ≤ S1024x1024x128.size a} (eP : oP = ![(pgs (8 * b + g.val)).val, 0, 0])
    {f : Buf (Elt F) (buf.view.loc (c : Thread nD τ))} {h1 h2 h3} {k : PUnit → Prog (TpuEff nD τ sig (Elt F) Λ₀ .tc) α} :
    iprop(Bat buf pool sems c pl pgs s b g.val 0 ∗ (buf.view.loc (c : Thread nD τ) ↦[pgSet buf s g]{fullShare} f)
        ∗ tok pool c pl pool.view.set s g)
      ⊢ iprop((iprop(Bat buf pool sems c pl pgs s b (g.val + 1) 0 ∗ Left pool c pl pgs s b g)
            -∗ wp frame (wpE defs 𝒱 (c : Thread nD τ) bd) Set.univ (k ⟨⟩) Q)
        -∗ wp frame (wpE defs 𝒱 (c : Thread nD τ) bd) Set.univ
          (.op (.enqueueDmaAs (poolAt pool oP hP) (.here (pageAt buf oB hB)) .same (.dma (cellAt sems oS hS)) h1 h2 h3) k) Q) := by
  subst eS eB eP
  have hsub : poolSet pool c (pgs (8 * b + g.val)) ⊆ pool.view.set := by
    rw [← poolPage_set]
    exact (View.set_reshape _ _).subset.trans (View.set_slice_subset _ _)
  iintro ⟨HB, Hf, Ht⟩ Hk
  ihave Ht' := (pointsTo_split_subset hsub).1 $$ Ht
  icases Ht' with ⟨Ht, HL⟩
  iapply (Transfers.wp_dmaBatch (countersEmb (U := Pipeline.UD sig nD τ)) 𝒱 (c : Thread nD τ) bd (n := 8)
    (src := poolPage pool (pgs (8 * b + g.val))) (dst := pageOf buf s g) (via := .same) (sm := .dma (cellOf sems s))
    (q := Transfers.shareTokN (Transfers.shareTokN fullShare s.val) g.val) (fs := pl) (Sd := pgSet buf s g) (fd := f)
    (D := Dlv buf pool c pl pgs s b) (j := g.val) (u := 0) () (NN buf) ?_ ?_ g.isLt (Nat.zero_le _) ?_) $$ [HB Hf Ht]
  · rfl
  · exact (pageOf_set buf s g).subset
  · unfold Dlv
    refine sep_mono (Entails.of_eq ?_) (Entails.of_eq ?_)
    · exact pointsTo_congr fun i hi => page_landed buf pool c pl pgs b s g f i (by rw [pageOf_set]; exact hi)
    · have h := poolPage_set pool c (pgs (8 * b + g.val))
      exact congrArg (fun S => (pool.view.loc (c : Thread nD τ) ↦[S]{Transfers.shareTokN (Transfers.shareTokN fullShare s.val) g.val} pl : sProp 𝕄)) h
  · isplitl [Ht]
    · have h := poolPage_set pool c (pgs (8 * b + g.val))
      iapply (Entails.of_eq (congrArg (fun S => (pool.view.loc (c : Thread nD τ) ↦[S]{Transfers.shareTokN (Transfers.shareTokN fullShare s.val) g.val} pl : sProp 𝕄)) h.symm))
      iexact Ht
    isplitl [Hf]; · iexact Hf
    iexact HB
  · iintro HB
    iapply Hk
    isplitl [HB]; · iexact HB
    iexact HL

theorem startTrip_wp (htw : ∀ i < 1024, (tw (F := F) tab T i).toNat = (pgs i).val)
    (hchk : ∀ w : BitVec 32, w.toNat < 1024 → chk w)
    (s : Fin 6) (b : ℕ) (hb : b < 128) (g : Fin 8) (eT : oT = ![8 * b + g.val]) (eS : oS = ![s.val]) (eB : oB = ![s.val, g.val, 0, 0]) :
    iprop(Table c tab T q ∗ Bat buf pool sems c pl pgs s b g.val 0
        ∗ (∃ f, buf.view.loc (c : Thread nD τ) ↦[pgSet buf s g]{fullShare} f) ∗ tok pool c pl pool.view.set s g)
      ⊢ wp frame (wpE defs 𝒱 (c : Thread nD τ) bd) Set.univ
        (startTrip buf pool sems tab hbuf hpool oT hT oS hS oB hB hBw chk dec hP hPw)
        fun _ => iprop(Table c tab T q ∗ Bat buf pool sems c pl pgs s b (g.val + 1) 0 ∗ Left pool c pl pgs s b g) := by
  subst eT eS eB
  have hi : 8 * b + g.val < 1024 := by omega
  have hw := htw _ hi
  unfold tw at hw
  rw [dif_pos hi] at hw
  unfold startTrip
  iintro ⟨HT, HB, ⟨%f, Hf⟩, Ht⟩
  iapply (word_wp c tab T defs 𝒱 bd q) $$ HT
  iintro HT
  generalize hwd : (tab.access (Rect.unit (s := S1024) ![8 * b + g.val] S1.size hT)).read (Elt F) T _ = w
  have hwv : w.toNat = (pgs (8 * b + g.val)).val := by rw [← hwd]; exact hw
  have hc : chk w := hchk w (by rw [hwv]; exact (pgs _).isLt)
  iapply (wp_assume 𝒱 (c : Thread nD τ) bd Set.univ hc)
  iapply (issue_wp buf pool sems c pl pgs defs 𝒱 bd s b g _ rfl _ rfl _ (by rw [hwv])) $$ [Ht Hf HB]
  · isplitl [HB]; · iexact HB
    isplitl [Hf]; · iexact Hf
    iexact Ht
  iintro ⟨HB, HL⟩
  rw [wp_ret]
  imodintro
  isplitl [HT]; · iexact HT
  isplitl [HB]; · iexact HB
  iexact HL

/-- One wait: one page's amount consumed of the slot's eight. -/
theorem waitTrip_wp (htw : ∀ i < 1024, (tw (F := F) tab T i).toNat = (pgs i).val)
    (hchk : ∀ w : BitVec 32, w.toNat < 1024 → chk w)
    (s : Fin 6) (b : ℕ) (hb : b < 128) (g : Fin 8) (eT : oT = ![8 * b + g.val]) (eS : oS = ![s.val]) (eB : oB = ![s.val, g.val, 0, 0]) :
    iprop(Table c tab T q ∗ Bat buf pool sems c pl pgs s b 8 (g.val * NN buf) ∗ (∃ W, owes (c : Thread nD τ) 0 W))
      ⊢ wp frame (wpE defs 𝒱 (c : Thread nD τ) bd) Set.univ
        (waitTrip buf pool sems tab hbuf hpool oT hT oS hS oB hB hBw chk dec hP hPw)
        fun _ => iprop(Table c tab T q ∗ Bat buf pool sems c pl pgs s b 8 ((g.val + 1) * NN buf) ∗ (∃ W, owes (c : Thread nD τ) 0 W)) := by
  subst eT eS eB
  have hi : 8 * b + g.val < 1024 := by omega
  have hw := htw _ hi
  unfold tw at hw
  rw [dif_pos hi] at hw
  unfold waitTrip
  iintro ⟨HT, HB, ⟨%W, HO⟩⟩
  iapply (word_wp c tab T defs 𝒱 bd q) $$ HT
  iintro HT
  generalize hwd : (tab.access (Rect.unit (s := S1024) ![8 * b + g.val] S1.size hT)).read (Elt F) T _ = w
  have hwv : w.toNat = (pgs (8 * b + g.val)).val := by rw [← hwd]; exact hw
  have hc : chk w := hchk w (by rw [hwv]; exact (pgs _).isLt)
  iapply (wp_assume 𝒱 (c : Thread nD τ) bd Set.univ hc)
  have hg := g.isLt
  have hle : g.val * NN buf + 1 * NN buf ≤ NN buf * 8 := by
    have : (g.val + 1) * NN buf ≤ 8 * NN buf := Nat.mul_le_mul_right _ hg
    rw [Nat.add_mul] at this; omega
  iapply (Transfers.wp_waitBatchMul (countersEmb (U := Pipeline.UD sig nD τ)) 𝒱 (c : Thread nD τ) bd (n := 8)
    (dstw := pageAt buf ![s.val, g.val, 0, 0] hB) () (N := NN buf) 1 (Nat.one_mul _).symm (D := Dlv buf pool c pl pgs s b) (j := 8)
    (u := g.val * NN buf) hle (W := W)) $$ [HB HO]
  · isplitl [HB]; · iexact HB
    iexact HO
  iintro ⟨HB, HO⟩
  rw [wp_ret]
  imodintro
  isplitl [HT]; · iexact HT
  isplitl [HB]
  · rw [Nat.add_mul]; iexact HB
  iexists _; iexact HO

end Trips

/-! ## The eight issues, the eight waits -/

section Loops

variable (defs : Defs nD τ sig (Elt F) Λ₀) (𝒱 : Variants) (bd : Option 𝒱.V) (q : PosShare TreeShare)
variable (L : Scf.Loop 32) (ok : L.OK) (body : Fin L.trips → Unit → Prog (TpuEff nD τ sig (Elt F) Λ₀ .tc) Unit)

theorem sep_split (A B : Fin 8 → sProp 𝕄) :
    bigSep Finset.univ (fun g => iprop(A g ∗ B g)) ⊢ iprop(bigSep Finset.univ A ∗ bigSep Finset.univ B) := Entails.of_eq (BI.bigSep_sep _ _ _)
theorem sep_merge (A B : Fin 8 → sProp 𝕄) :
    iprop(bigSep Finset.univ A ∗ bigSep Finset.univ B) ⊢ bigSep Finset.univ (fun g => iprop(A g ∗ B g)) := Entails.of_eq (BI.bigSep_sep _ _ _).symm

theorem fin_mono (A B : Fin 8 → sProp 𝕄) (h : ∀ g, A g ⊢ B g) : bigSep Finset.univ A ⊢ bigSep Finset.univ B :=
  BI.bigSep_mono fun g _ => h g

theorem slot_pages (s : Fin 6) (f : Buf (Elt F) (buf.view.loc (c : Thread nD τ))) :
    (buf.view.loc (c : Thread nD τ) ↦[slotSet buf s]{fullShare} f : sProp 𝕄)
      = bigSep Finset.univ fun g => buf.view.loc (c : Thread nD τ) ↦[pgSet buf s g]{fullShare} f :=
  Ring.pointsTo_sub_blocks (ℓ := buf.view.loc (c : Thread nD τ)) (pgSet buf s) (fun g g' h => pgSet_disjoint buf (.inr h)) _ rfl f

theorem start_loop (h8 : L.trips = 8) (s : Fin 6) (b : ℕ) {Q : Unit → sProp 𝕄}
    (hstep : ∀ (g : Fin 8) (k : Fin L.trips), k.val = g.val →
      iprop(Table c tab T q ∗ Bat buf pool sems c pl pgs s b g.val 0
        ∗ (∃ f, buf.view.loc (c : Thread nD τ) ↦[pgSet buf s g]{fullShare} f) ∗ tok pool c pl pool.view.set s g)
      ⊢ wp frame (wpE defs 𝒱 (c : Thread nD τ) bd) Set.univ (body k ⟨⟩)
        fun _ => iprop(Table c tab T q ∗ Bat buf pool sems c pl pgs s b (g.val + 1) 0 ∗ Left pool c pl pgs s b g)) :
    iprop((Table c tab T q ∗ Slot buf pool sems c pl pgs s none)
        ∗ (iprop(Table c tab T q ∗ Slot buf pool sems c pl pgs s (some b)) -∗ Q ⟨⟩))
      ⊢ wp frame (wpE defs 𝒱 (c : Thread nD τ) bd) Set.univ (Scf.Loop.for L ok ⟨⟩ body) Q := by
  unfold Slot Held
  iintro ⟨⟨HT, ⟨%f, Hc, Hf, Ht⟩⟩, HQ⟩
  imod (Transfers.batch_alloc' (Lvl := ℕ) (countersEmb (U := Pipeline.UD sig nD τ)) (c : Thread nD τ) () (NN buf)
    (Dlv buf pool c pl pgs s b) (sm := .dma (cellOf sems s)) (E := Set.univ)) $$ Hc with HB
  iapply (Scf.wp_for _ _ _ L.lb L.ub L.st ok () body (fun k _ => iprop(Table c tab T q
    ∗ Bat buf pool sems c pl pgs s b k 0 ∗ bigSep (Ring.rangeSet 8 0 k) (Left pool c pl pgs s b)
    ∗ bigSep (Ring.rangeSet 8 k 8) (fun g => iprop((∃ f, buf.view.loc (c : Thread nD τ) ↦[pgSet buf s g]{fullShare} f) ∗ tok pool c pl pool.view.set s g)))) ?_)
  · intro k acc
    have hk : k.val < 8 := lt_of_lt_of_eq k.isLt h8
    rw [Ring.bigSep_rangeSet_head (lo := k.val) (hi := 8) hk hk, Ring.bigSep_rangeSet_last (lo := 0) (hi := k.val + 1) (by omega) (by omega)]
    iintro ⟨HT, HB, HL, ⟨⟨Hf, Ht⟩, Hr⟩⟩
    iapply (wp_wand _ _ _) $$ [HT HB Hf Ht]
    · iapply (hstep ⟨k.val, hk⟩ k rfl)
      isplitl [HT]; · iexact HT
      isplitl [HB]; · iexact HB
      isplitl [Hf] <;> iassumption
    iintro %x ⟨HT, HB, HL'⟩
    isplitl [HT]; · iexact HT
    isplitl [HB]; · iexact HB
    isplitl [HL HL']
    · isplitl [HL']; · iexact HL'
      iexact HL
    iexact Hr
  isplitl [HT HB Hf Ht]
  · isplitl [HT]; · iexact HT
    isplitl [HB]; · iexact HB
    isplitr
    · rw [Ring.bigSep_rangeSet_empty (le_refl 0)]; iempintro
    · rw [Ring.rangeSet_univ]
      iapply (sep_merge _ _)
      isplitl [Hf]
      · iapply (fin_mono (fun g => iprop(buf.view.loc (c : Thread nD τ) ↦[pgSet buf s g]{fullShare} f)) _
          fun g => exists_intro (Φ := fun f => iprop(buf.view.loc (c : Thread nD τ) ↦[pgSet buf s g]{fullShare} f)) f)
        iapply (Entails.of_eq (slot_pages buf c s f))
        iexact Hf
      iexact Ht
  · iintro %acc ⟨HT, HB, HL, -⟩
    iapply HQ
    isplitl [HT]; · iexact HT
    unfold Flight
    rw [show Scf.trips L.lb L.ub L.st = 8 from h8, Ring.rangeSet_univ]
    isplitl [HB]; · iexact HB
    iexact HL

theorem wait_loop (h8 : L.trips = 8) (s : Fin 6) (b : ℕ) {Q : Unit → sProp 𝕄}
    (hstep : ∀ (g : Fin 8) (k : Fin L.trips), k.val = g.val →
      iprop(Table c tab T q ∗ Bat buf pool sems c pl pgs s b 8 (g.val * NN buf) ∗ (∃ W, owes (c : Thread nD τ) 0 W))
      ⊢ wp frame (wpE defs 𝒱 (c : Thread nD τ) bd) Set.univ (body k ⟨⟩)
        fun _ => iprop(Table c tab T q ∗ Bat buf pool sems c pl pgs s b 8 ((g.val + 1) * NN buf) ∗ (∃ W, owes (c : Thread nD τ) 0 W))) :
    iprop((Table c tab T q ∗ Slot buf pool sems c pl pgs s (some b) ∗ (∃ W, owes (c : Thread nD τ) 0 W))
        ∗ (iprop(Table c tab T q ∗ Held buf pool sems c pl s (Fof buf c (blkC pool c pl pgs b)) ∗ (∃ W, owes (c : Thread nD τ) 0 W)) -∗ Q ⟨⟩))
      ⊢ wp frame (wpE defs 𝒱 (c : Thread nD τ) bd) Set.univ (Scf.Loop.for L ok ⟨⟩ body) Q := by
  unfold Slot Flight Held
  iintro ⟨⟨HT, ⟨HB, HL⟩, HO⟩, HQ⟩
  iapply (wp_fupd _ _ _)
  iapply (Scf.wp_for _ _ _ L.lb L.ub L.st ok () body (fun k _ => iprop(Table c tab T q
    ∗ Bat buf pool sems c pl pgs s b 8 (k * NN buf) ∗ (∃ W, owes (c : Thread nD τ) 0 W))) ?_)
  · intro k acc
    have hk : k.val < 8 := lt_of_lt_of_eq k.isLt h8
    exact hstep ⟨k.val, hk⟩ k rfl
  isplitl [HT HB HO]
  · rw [Nat.zero_mul]
    isplitl [HT]; · iexact HT
    isplitl [HB]; · iexact HB
    iexact HO
  · iintro %acc ⟨HT, HB, HO⟩
    rw [show Scf.trips L.lb L.ub L.st = 8 from h8, Nat.mul_comm 8]
    imod (Transfers.batch_collect' (countersEmb (U := Pipeline.UD sig nD τ)) (c : Thread nD τ) (NN_pos buf)) $$ HB with ⟨HD, Hc⟩
    imodintro
    iapply HQ
    isplitl [HT]; · iexact HT
    isplitr [HO]
    · isplitl [Hc]; · iexact Hc
      unfold Dlv
      ihave HD' := (sep_split _ _) $$ HD
      icases HD' with ⟨Hf, Ht⟩
      isplitl [Hf]
      · iapply (Entails.of_eq (slot_pages buf c s _).symm); iexact Hf
      ihave H2 := (sep_merge _ _) $$ [Ht HL]
      · isplitl [Ht]; · iexact Ht
        iexact HL
      iapply (fin_mono _ _ (fun g => ?_)) $$ H2
      refine (pointsTo_split_subset ?_).2
      rw [← poolPage_set]
      exact (View.set_reshape _ _).subset.trans (View.set_slice_subset _ _)
    iexact HO

end Loops

/-! ## The ring from the whole buffer, and back -/

theorem sep6_split (A B : Fin 6 → sProp 𝕄) :
    bigSep Finset.univ (fun g => iprop(A g ∗ B g)) ⊢ iprop(bigSep Finset.univ A ∗ bigSep Finset.univ B) := Entails.of_eq (BI.bigSep_sep _ _ _)
theorem sep6_merge (A B : Fin 6 → sProp 𝕄) :
    iprop(bigSep Finset.univ A ∗ bigSep Finset.univ B) ⊢ bigSep Finset.univ (fun g => iprop(A g ∗ B g)) := Entails.of_eq (BI.bigSep_sep _ _ _).symm
theorem fin6_mono (A B : Fin 6 → sProp 𝕄) (h : ∀ g, A g ⊢ B g) : bigSep Finset.univ A ⊢ bigSep Finset.univ B :=
  BI.bigSep_mono fun g _ => h g

/-- The pool at a share. -/
abbrev poolPt (q : PosShare TreeShare) : sProp 𝕄 := pool.view.loc (c : Thread nD τ) ↦[pool.view.set]{q} pl

theorem toks_fin (q : PosShare TreeShare) (n : ℕ) :
    (poolPt pool c pl q : sProp 𝕄) ⊣⊢ iprop((poolPt pool c pl (Transfers.shareDrop q n))
      ∗ bigSep (Finset.univ : Finset (Fin n)) fun i => poolPt pool c pl (Transfers.shareTokN q i.val)) := by
  have h := Ring.bigSep_fin_eq_range n (fun i => (poolPt pool c pl (Transfers.shareTokN q i.val) : sProp 𝕄))
    (fun i => poolPt pool c pl (Transfers.shareTokN q i)) (fun t ht => rfl)
  have h2 := Transfers.pointsTo_toks_range (Ix := Unit) (Name := ℕ) (U := Pipeline.UD sig nD τ) (Lvl := ℕ) (ℓ := pool.view.loc (c : Thread nD τ)) (S := pool.view.set) (f := pl) q n
  rw [h]; exact h2

/-- What is left of the pool's share beside the slots' tokens. -/
def poolRest : sProp 𝕄 :=
  iprop(poolPt pool c pl (Transfers.shareDrop fullShare 6)
    ∗ bigSep Finset.univ fun s : Fin 6 => poolPt pool c pl (Transfers.shareDrop (Transfers.shareTokN fullShare s.val) 8))

abbrev cells : sProp 𝕄 := bigSep Finset.univ fun s : Fin 6 => semVal ((c : Thread nD τ), SemLoc.dma (cellOf sems s)) 0

/-- The six slots, each in its state. -/
abbrev RingSt (st : Fin 6 → Option ℕ) : sProp 𝕄 := Ring.AtW (fun s => Slot buf pool sems c pl pgs s) st

theorem ringSt_none : (RingSt buf pool sems c pl pgs (fun _ => none) : sProp 𝕄)
    = bigSep Finset.univ (fun s => Slot buf pool sems c pl pgs s none) := rfl

theorem ring_enter (hbuf : buf.view.set = Finset.univ) (f : Buf (Elt F) (buf.view.loc (c : Thread nD τ))) :
    iprop(cells sems c ∗ (buf.view.loc (c : Thread nD τ) ↦{fullShare} f) ∗ poolPt pool c pl fullShare)
      ⊢ (iprop(RingSt buf pool sems c pl pgs (fun _ => none) ∗ poolRest pool c pl) : sProp 𝕄) := by
  iintro ⟨Hc, Hf, Hp⟩
  ihave Hp' := (toks_fin pool c pl fullShare 6).1 $$ Hp
  icases Hp' with ⟨Hd, Hs⟩
  ihave Hs' := (fin6_mono _ _ (fun s => (toks_fin pool c pl (Transfers.shareTokN fullShare s.val) 8).1)) $$ Hs
  ihave Hs2 := (sep6_split _ _) $$ Hs'
  icases Hs2 with ⟨Hr, Ht⟩
  isplitr [Hd Hr]
  · rw [ringSt_none]
    ihave Hf' := (Entails.of_eq (Ring.pointsTo_blocks (ℓ := buf.view.loc (c : Thread nD τ)) (slotSet buf)
      (fun s s' h => slotSet_disjoint buf h) (slotSet_cover buf hbuf) f)) $$ Hf
    ihave H1 := (sep6_merge _ _) $$ [Hf' Ht]
    · isplitl [Hf']; · iexact Hf'
      iexact Ht
    ihave H2 := (sep6_merge _ _) $$ [Hc H1]
    · isplitl [Hc]; · iexact Hc
      iexact H1
    iapply (fin6_mono _ _ (fun s => ?_)) $$ H2
    unfold Slot Held
    iintro H; iexists f; iexact H
  · unfold poolRest
    isplitl [Hd] <;> iassumption

theorem ring_exit (hbuf : buf.view.set = Finset.univ) :
    (iprop(RingSt buf pool sems c pl pgs (fun _ => none) ∗ poolRest pool c pl) : sProp 𝕄)
      ⊢ iprop(cells sems c ∗ (∃ f, buf.view.loc (c : Thread nD τ) ↦{fullShare} f) ∗ poolPt pool c pl fullShare) := by
  unfold poolRest
  rw [ringSt_none]
  iintro ⟨HR, ⟨Hd, Hr⟩⟩
  ihave H := (fin6_mono _ (fun s => iprop(semVal ((c : Thread nD τ), SemLoc.dma (cellOf sems s)) 0
    ∗ ((∃ f, buf.view.loc (c : Thread nD τ) ↦[slotSet buf s]{fullShare} f) ∗ bigSep Finset.univ fun g : Fin 8 => tok pool c pl pool.view.set s g)))
    (fun s => by unfold Slot Held; iintro ⟨%f, Hc, Hf, Ht⟩; isplitl [Hc]; · iexact Hc
                 isplitl [Hf]; · iexists f; iexact Hf
                 iexact Ht)) $$ HR
  ihave H1 := (sep6_split _ _) $$ H
  icases H1 with ⟨Hc, H⟩
  ihave H2 := (sep6_split _ _) $$ H
  icases H2 with ⟨Hf, Ht⟩
  isplitl [Hc]; · iexact Hc
  isplitl [Hf]
  · iapply (Ring.pointsTo_blocks_join_exists (ℓ := buf.view.loc (c : Thread nD τ)) (slotSet buf)
      (fun s s' h => slotSet_disjoint buf h) (slotSet_cover buf hbuf) (buf.view.junk)) $$ Hf
  iapply (toks_fin pool c pl fullShare 6).2
  isplitl [Hd]; · iexact Hd
  ihave H3 := (sep6_merge _ _) $$ [Hr Ht]
  · isplitl [Hr]; · iexact Hr
    iexact Ht
  iapply (fin6_mono _ _ (fun s => (toks_fin pool c pl (Transfers.shareTokN fullShare s.val) 8).2)) $$ H3

end Cert.Kernel.Hand
-- ==== Proof.Bits.Walk.lean ====
/-
  The same as the module of this name one directory up, for the kernel with its constants as printed.
  One trip of the main loop over the two rings, and the loops around it, stated over the trip's parts: the blocks'
  transfers started and awaited, the new token patched in, the scores of the block's sixteen tiles, the fold of the
  tiles. What the parts compute is a parameter.
-/
module

public import proofs.«01_k».proof.Proof.Bits.Ring

@[expose] public section

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [∀ e, Nonempty (Elt F e)]

local notation "𝕄" => MT nD τ sig Unit (Elt F) ℕ (Pipeline.UD sig nD τ) ℕ

/-! ## A step function iterated along the trips of a loop -/

/-- The carried value before trip `k`. -/
def iter {σ : Type} {n : ℕ} (step : Fin n → σ → σ) (init : σ) : ℕ → σ
  | 0 => init
  | k + 1 => if h : k < n then step ⟨k, h⟩ (iter step init k) else iter step init k

theorem iter_succ {σ : Type} {n : ℕ} (step : Fin n → σ → σ) (init : σ) (k : Fin n) :
    iter step init (k.val + 1) = step k (iter step init k.val) := by
  simp [iter, k.isLt]

/-! ## The ring's schedule -/

/-- Slot of a block. -/
abbrev sl (i : ℕ) : Fin 6 := ⟨i % 6, Nat.mod_lt _ (by omega)⟩

/-- The block slot `s` serves in the window of six from block `i`. -/
def blkAt (i : ℕ) (s : Fin 6) : ℕ := i + (s.val + 6 - i % 6) % 6

/-- Before trip `i`: blocks `i` to `i + 4` below `n` in flight. -/
def st (n i : ℕ) (s : Fin 6) : Option ℕ := if blkAt i s < i + 5 ∧ blkAt i s < n then some (blkAt i s) else none
/-- In trip `i` after its start: blocks `i` to `i + 5`. -/
def stp (n i : ℕ) (s : Fin 6) : Option ℕ := if blkAt i s < n then some (blkAt i s) else none
/-- After `k` starts of the prologue. -/
def st0 (n k : ℕ) (s : Fin 6) : Option ℕ := if s.val < k ∧ s.val < n then some s.val else none

theorem st_free (n i : ℕ) : st n i (sl (i + 5)) = none := by
  unfold st blkAt; rw [if_neg]; simp only [sl]; omega

theorem st_start (n i : ℕ) : Function.update (st n i) (sl (i + 5)) (if i + 5 < n then some (i + 5) else none) = stp n i := by
  funext s
  have hs := s.isLt
  by_cases h : s = sl (i + 5)
  · have hb : blkAt i s = i + 5 := by subst h; simp only [blkAt, sl]; omega
    rw [h, Function.update_self, ← h]; unfold stp; rw [hb]
  · rw [Function.update_of_ne h]
    have hne : s.val ≠ (i + 5) % 6 := fun e => h (Fin.ext e)
    have hb : blkAt i s < i + 5 := by unfold blkAt; omega
    unfold st stp; simp [hb]

theorem stp_here (n i : ℕ) (h : i < n) : stp n i (sl i) = some i := by
  have hb : blkAt i (sl i) = i := by simp only [blkAt, sl]; omega
  unfold stp; rw [hb, if_pos h]

theorem st_next (n i : ℕ) : Function.update (stp n i) (sl i) none = st n (i + 1) := by
  funext s
  have hs := s.isLt
  by_cases h : s = sl i
  · rw [h, Function.update_self]
    unfold st; rw [if_neg]; simp only [blkAt, sl]; omega
  · rw [Function.update_of_ne h]
    have hne : s.val ≠ i % 6 := fun e => h (Fin.ext e)
    have hb : blkAt (i + 1) s = blkAt i s := by unfold blkAt; omega
    have hb2 : blkAt (i + 1) s < i + 6 := by unfold blkAt; omega
    unfold st stp; rw [hb] at hb2 ⊢
    simp [hb2]

theorem st_end (n : ℕ) : st n n = fun _ => none := by
  funext s; unfold st; rw [if_neg]; unfold blkAt; omega

theorem st0_zero (n : ℕ) : st0 n 0 = fun _ => none := by
  funext s; unfold st0; rw [if_neg]; omega

theorem st0_five (n : ℕ) : st0 n 5 = st n 0 := by
  funext s
  have hs := s.isLt
  have hb : blkAt 0 s = s.val := by unfold blkAt; omega
  unfold st0 st; rw [hb]

theorem st0_free (n k : ℕ) (hk : k < 5) : st0 n k (sl k) = none := by
  unfold st0; rw [if_neg]; simp only [sl]; omega

theorem st0_start (n k : ℕ) (hk : k < 5) : Function.update (st0 n k) (sl k) (if k < n then some k else none) = st0 n (k + 1) := by
  funext s
  by_cases h : s = sl k
  · have hv : s.val = k := by rw [h]; simp only [sl]; omega
    rw [h, Function.update_self, ← h]; unfold st0; rw [hv]; simp
  · rw [Function.update_of_ne h]
    have hne : s.val ≠ k := fun e => h (Fin.ext (by simp only [sl]; omega))
    unfold st0
    have : (s.val < k + 1) ↔ s.val < k := by omega
    simp only [this]

/-! ## Loads and stores at canonical offsets -/

section Ops

variable (c : Dev nD) (defs : Defs nD τ sig (Elt F) Λ₀) (𝒱 : Variants) (bd : Option 𝒱.V)
variable (buf : Memref sig .tc .vmem S6x8x1024x128 .fp8e4m3) (t : Memref sig .tc .vmem S32x4096 .f32)

theorem ret_wp {α : Type} {Q : α → sProp 𝕄} (x : α) :
    Q x ⊢ wp frame (wpE defs 𝒱 (c : Thread nD τ) bd) Set.univ (pure x) Q := by
  show _ ⊢ wp _ _ _ (Prog.ret x) _
  rw [wp_ret]
  iintro H
  imodintro
  iexact H

theorem hinb (s : Fin 6) (j : Fin 16) :
    ∀ a, (![s.val, j.val / 2, 512 * (j.val % 2), 0] : Fin 4 → ℕ) a + S1x1x512x128.size a ≤ S6x8x1024x128.size a :=
  inb4 _ s.val (j.val / 2) (512 * (j.val % 2)) 512 rfl s.isLt (by omega) (by omega)

/-- Half page `j` of slot `s`. -/
def half (s : Fin 6) (j : Fin 16) (f : Buf (Elt F) (buf.view.loc (c : Thread nD τ))) : Vec F S1x1x512x128 .fp8e4m3 :=
  (buf.access (Rect.unit (s := S6x8x1024x128) _ S1x1x512x128.size (hinb s j))).read (Elt F) f

theorem slot_sub (s : Fin 6) (r : Rect S6x8x1024x128) (h0 : ∀ x, (r.emb x 0).val = s.val) :
    (buf.access r).set ⊆ slotSet buf s := by
  intro i hi
  obtain ⟨x, -, rfl⟩ := Finset.mem_map.mp hi
  exact (mem_slotSet buf s _).mpr (h0 x)

theorem load_half (s : Fin 6) (j : Fin 16) {o : Fin 4 → ℕ} {h : ∀ a, o a + S1x1x512x128.size a ≤ S6x8x1024x128.size a}
    (e : o = ![s.val, j.val / 2, 512 * (j.val % 2), 0]) (f : Buf (Elt F) (buf.view.loc (c : Thread nD τ)))
    {α : Type} {Q : α → sProp 𝕄} {hl} {k : (Vec F S1x1x512x128 .fp8e4m3) → Prog (TpuEff nD τ sig (Elt F) Λ₀ .tc) α} :
    (buf.view.loc (c : Thread nD τ) ↦[slotSet buf s]{fullShare} f)
      ⊢ iprop(((buf.view.loc (c : Thread nD τ) ↦[slotSet buf s]{fullShare} f)
          -∗ wp frame (wpE defs 𝒱 (c : Thread nD τ) bd) Set.univ (k (half c buf s j f)) Q)
        -∗ wp frame (wpE defs 𝒱 (c : Thread nD τ) bd) Set.univ
          (.op (.load buf (Rect.unit (s := S6x8x1024x128) o S1x1x512x128.size h).toLoadRect hl) k) Q) := by
  subst e
  refine wp_load_rect 𝒱 (c : Thread nD τ) bd Set.univ (m := buf) (r := Rect.unit (s := S6x8x1024x128) _ S1x1x512x128.size h)
    (S := slotSet buf s) (q := fullShare) (f := f) (slot_sub buf s _ fun x => ?_)
  have : (x 0).val < 1 := (x 0).isLt
  simp [Rect.emb, Rect.unit]; omega

theorem qinb4 (s : Fin 6) (g : Fin 8) (r : Fin 32) :
    ∀ a, (![s.val, g.val, r.val * 32, 0] : Fin 4 → ℕ) a + S1x1x32x128.size a ≤ S6x8x1024x128.size a :=
  inb4 _ s.val g.val (r.val * 32) 32 rfl s.isLt g.isLt (by omega)

/-- The rectangle of the four packed token rows the new token is patched into. -/
abbrev patchR (s : Fin 6) (g : Fin 8) (r : Fin 32) : Rect S6x8x1024x128 :=
  Rect.unit (s := S6x8x1024x128) _ S1x1x32x128.size (qinb4 s g r)

def quad (s : Fin 6) (g : Fin 8) (r : Fin 32) (f : Buf (Elt F) (buf.view.loc (c : Thread nD τ))) : Vec F S1x1x32x128 .fp8e4m3 :=
  (buf.access (patchR s g r)).read (Elt F) f

def putQuad (s : Fin 6) (g : Fin 8) (r : Fin 32) (f : Buf (Elt F) (buf.view.loc (c : Thread nD τ))) (w : Vec F S1x1x32x128 .fp8e4m3) :
    Buf (Elt F) (buf.view.loc (c : Thread nD τ)) :=
  (buf.access (patchR s g r)).write (Elt F) f w Finset.univ

theorem quad_sub (s : Fin 6) (g : Fin 8) (r : Fin 32) : (buf.access (patchR s g r)).set ⊆ slotSet buf s := by
  refine slot_sub buf s _ fun x => ?_
  have : (x 0).val < 1 := (x 0).isLt
  simp [Rect.emb, Rect.unit]; omega

theorem load_quad (s : Fin 6) (g : Fin 8) (r : Fin 32) {o : Fin 4 → ℕ} {h : ∀ a, o a + S1x1x32x128.size a ≤ S6x8x1024x128.size a}
    (e : o = ![s.val, g.val, r.val * 32, 0]) (f : Buf (Elt F) (buf.view.loc (c : Thread nD τ)))
    {α : Type} {Q : α → sProp 𝕄} {hl} {k : (Vec F S1x1x32x128 .fp8e4m3) → Prog (TpuEff nD τ sig (Elt F) Λ₀ .tc) α} :
    (buf.view.loc (c : Thread nD τ) ↦[slotSet buf s]{fullShare} f)
      ⊢ iprop(((buf.view.loc (c : Thread nD τ) ↦[slotSet buf s]{fullShare} f)
          -∗ wp frame (wpE defs 𝒱 (c : Thread nD τ) bd) Set.univ (k (quad c buf s g r f)) Q)
        -∗ wp frame (wpE defs 𝒱 (c : Thread nD τ) bd) Set.univ
          (.op (.load buf (Rect.unit (s := S6x8x1024x128) o S1x1x32x128.size h).toLoadRect hl) k) Q) := by
  subst e
  exact wp_load_rect 𝒱 (c : Thread nD τ) bd Set.univ (m := buf) (r := patchR s g r) (S := slotSet buf s) (q := fullShare) (f := f)
    (quad_sub buf s g r)

theorem store_quad (s : Fin 6) (g : Fin 8) (r : Fin 32) {o : Fin 4 → ℕ} {h : ∀ a, o a + S1x1x32x128.size a ≤ S6x8x1024x128.size a}
    (e : o = ![s.val, g.val, r.val * 32, 0]) (f : Buf (Elt F) (buf.view.loc (c : Thread nD τ))) (w : Vec F S1x1x32x128 .fp8e4m3)
    {α : Type} {Q : α → sProp 𝕄} {hx hm} {k : PUnit → Prog (TpuEff nD τ sig (Elt F) Λ₀ .tc) α} :
    (buf.view.loc (c : Thread nD τ) ↦[slotSet buf s]{fullShare} f)
      ⊢ iprop(((buf.view.loc (c : Thread nD τ) ↦[slotSet buf s]{fullShare} putQuad c buf s g r f w)
          -∗ wp frame (wpE defs 𝒱 (c : Thread nD τ) bd) Set.univ (k ⟨⟩) Q)
        -∗ wp frame (wpE defs 𝒱 (c : Thread nD τ) bd) Set.univ
          (.op (.store buf (Rect.unit (s := S6x8x1024x128) o S1x1x32x128.size h) w Finset.univ hx hm) k) Q) := by
  subst e
  exact wp_store 𝒱 (c : Thread nD τ) bd Set.univ (m := buf) (r := patchR s g r) (S := slotSet buf s) (f := f) (w := w)
    ((View.setOn_univ _).subset.trans (quad_sub buf s g r))

theorem inbT (j : Fin 16) : ∀ a, (![0, 256 * j.val] : Fin 2 → ℕ) a + S32x256.size a ≤ S32x4096.size a := by
  intro a
  show (![0, 256 * j.val] : Fin 2 → ℕ) a + (![32, 256] : Fin 2 → ℕ) a ≤ (![32, 4096] : Fin 2 → ℕ) a
  fin_cases a <;> simp <;> omega

abbrev tileR (j : Fin 16) : Rect S32x4096 := Rect.unit (s := S32x4096) _ S32x256.size (inbT j)

/-- Tile `j` of the score buffer. -/
def tile (j : Fin 16) (Y : Buf (Elt F) (t.view.loc (c : Thread nD τ))) : Vec F S32x256 .f32 :=
  (t.access (tileR j)).read (Elt F) Y

def putTile (j : Fin 16) (Y : Buf (Elt F) (t.view.loc (c : Thread nD τ))) (w : Vec F S32x256 .f32) : Buf (Elt F) (t.view.loc (c : Thread nD τ)) :=
  (t.access (tileR j)).write (Elt F) Y w Finset.univ

/-- The first `k` tiles are written. -/
def TileOK (k : ℕ) (P : Fin 16 → Vec F S32x256 .f32) (Y : Buf (Elt F) (t.view.loc (c : Thread nD τ))) : Prop :=
  ∀ j : Fin 16, j.val < k → tile c t j Y = P j

theorem tile_put (j : Fin 16) (Y : Buf (Elt F) (t.view.loc (c : Thread nD τ))) (w : Vec F S32x256 .f32) :
    tile c t j (putTile c t j Y w) = w := View.read_write_univ _ _

theorem tile_put_ne (i j : Fin 16) (h : i ≠ j) (Y : Buf (Elt F) (t.view.loc (c : Thread nD τ))) (w : Vec F S32x256 .f32) :
    tile c t i (putTile c t j Y w) = tile c t i Y := by
  refine View.read_slice_write_slice_of_disjoint (v := t.view) (tileR i) (tileR j) Y w (M := Finset.univ) ?_
  rw [View.setOn_univ, View.set_slice, View.set_slice, Finset.disjoint_map, Finset.disjoint_left]
  intro y hi hj
  rw [Rect.mem_set_unit] at hi hj
  have a1 : 256 * i.val ≤ (y 1).val ∧ (y 1).val < 256 * i.val + 256 := hi 1
  have a2 : 256 * j.val ≤ (y 1).val ∧ (y 1).val < 256 * j.val + 256 := hj 1
  exact h (Fin.ext (by omega))

abbrev tPt (Y : Buf (Elt F) (t.view.loc (c : Thread nD τ))) : sProp 𝕄 := t.view.loc (c : Thread nD τ) ↦[Finset.univ]{fullShare} Y

theorem load_tile (j : Fin 16) {o : Fin 2 → ℕ} {h : ∀ a, o a + S32x256.size a ≤ S32x4096.size a}
    (e : o = ![0, 256 * j.val]) (Y : Buf (Elt F) (t.view.loc (c : Thread nD τ)))
    {α : Type} {Q : α → sProp 𝕄} {hl} {k : (Vec F S32x256 .f32) → Prog (TpuEff nD τ sig (Elt F) Λ₀ .tc) α} :
    tPt c t Y
      ⊢ iprop((tPt c t Y -∗ wp frame (wpE defs 𝒱 (c : Thread nD τ) bd) Set.univ (k (tile c t j Y)) Q)
        -∗ wp frame (wpE defs 𝒱 (c : Thread nD τ) bd) Set.univ
          (.op (.load t (Rect.unit (s := S32x4096) o S32x256.size h).toLoadRect hl) k) Q) := by
  subst e
  exact wp_load_rect 𝒱 (c : Thread nD τ) bd Set.univ (m := t) (r := tileR j) (S := Finset.univ) (q := fullShare) (f := Y)
    (Finset.subset_univ _)

theorem store_tile (j : Fin 16) {o : Fin 2 → ℕ} {h : ∀ a, o a + S32x256.size a ≤ S32x4096.size a}
    (e : o = ![0, 256 * j.val]) (Y : Buf (Elt F) (t.view.loc (c : Thread nD τ))) (w : Vec F S32x256 .f32)
    {α : Type} {Q : α → sProp 𝕄} {hx hm} {k : PUnit → Prog (TpuEff nD τ sig (Elt F) Λ₀ .tc) α} :
    tPt c t Y
      ⊢ iprop((tPt c t (putTile c t j Y w) -∗ wp frame (wpE defs 𝒱 (c : Thread nD τ) bd) Set.univ (k ⟨⟩) Q)
        -∗ wp frame (wpE defs 𝒱 (c : Thread nD τ) bd) Set.univ
          (.op (.store t (Rect.unit (s := S32x4096) o S32x256.size h) w Finset.univ hx hm) k) Q) := by
  subst e
  exact wp_store 𝒱 (c : Thread nD τ) bd Set.univ (m := t) (r := tileR j) (S := Finset.univ) (f := Y) (w := w)
    (Finset.subset_univ _)

/-! ## The loop of the scores and the loop of the fold -/

/-- The score loop: each trip writes its tile and folds its maximum. -/
theorem score_loop (R : sProp 𝕄) {σ : Type} (L : Scf.Loop 32) (ok : L.OK) (h16 : L.trips = 16) (init : σ)
    (body : Fin L.trips → σ → Prog (TpuEff nD τ sig (Elt F) Λ₀ .tc) σ)
    (P : Fin 16 → Vec F S32x256 .f32) (M : Fin 16 → σ → σ)
    (hstep : ∀ (j : Fin 16) (k : Fin L.trips), k.val = j.val → ∀ (a : σ) (Y : Buf (Elt F) (t.view.loc (c : Thread nD τ))),
      iprop(tPt c t Y ∗ R) ⊢ wp frame (wpE defs 𝒱 (c : Thread nD τ) bd) Set.univ (body k a)
        fun r => iprop(⌜r = M j a⌝ ∗ tPt c t (putTile c t j Y (P j)) ∗ R)) :
    iprop((∃ Y : Buf (Elt F) (t.view.loc (c : Thread nD τ)), tPt c t Y) ∗ R) ⊢ wp frame (wpE defs 𝒱 (c : Thread nD τ) bd) Set.univ (Scf.Loop.for L ok init body)
      fun r => iprop(⌜r = iter M init 16⌝ ∗ (∃ Y : Buf (Elt F) (t.view.loc (c : Thread nD τ)), ⌜TileOK c t 16 P Y⌝ ∗ tPt c t Y) ∗ R) := by
  iintro ⟨⟨%Y, HY⟩, HR⟩
  iapply (Scf.wp_for _ _ _ L.lb L.ub L.st ok init body (fun k a => iprop(⌜a = iter M init k⌝
    ∗ (∃ Y : Buf (Elt F) (t.view.loc (c : Thread nD τ)), ⌜TileOK c t k P Y⌝ ∗ tPt c t Y) ∗ R)) ?_)
  · intro k a
    have hk : k.val < 16 := lt_of_lt_of_eq k.isLt h16
    iintro ⟨%ha, ⟨%Y, %hY, HY⟩, HR⟩
    iapply (wp_wand _ _ _) $$ [HY HR]
    · iapply (hstep ⟨k.val, hk⟩ k rfl a Y)
      isplitl [HY] <;> iassumption
    iintro %r ⟨%hr, HY, HR⟩
    isplitr
    · ipureintro
      rw [hr, ha]; exact (iter_succ M init ⟨k.val, hk⟩).symm
    isplitl [HY]
    · iexists _
      isplitr
      · ipureintro
        intro j hj
        by_cases hjk : j = ⟨k.val, hk⟩
        · rw [hjk]; exact tile_put c t _ Y _
        · rw [tile_put_ne c t j _ hjk]
          refine hY j ?_
          have : j.val ≠ k.val := fun e => hjk (Fin.ext e)
          omega
      iexact HY
    iexact HR
  isplitl [HY HR]
  · isplitr
    · ipureintro; rfl
    isplitl [HY]
    · iexists Y
      isplitr
      · ipureintro; intro j hj; omega
      iexact HY
    iexact HR
  · iintro %a ⟨%ha, ⟨%Y, %hY, HY⟩, HR⟩
    rw [show Scf.trips L.lb L.ub L.st = 16 from h16] at ha hY
    isplitr
    · ipureintro; exact ha
    isplitl [HY]
    · iexists Y
      isplitr
      · ipureintro; exact hY
      iexact HY
    iexact HR

/-- A loop that leaves its resource as it was, carrying a value. -/
theorem carry_loop {σ : Type} {n : ℕ} (L : Scf.Loop 32) (ok : L.OK) (hn : L.trips = n) (init : σ)
    (body : Fin L.trips → σ → Prog (TpuEff nD τ sig (Elt F) Λ₀ .tc) σ) (M : Fin n → σ → σ) (I : ℕ → sProp 𝕄)
    (hstep : ∀ (j : Fin n) (k : Fin L.trips), k.val = j.val → ∀ (a : σ),
      I j.val ⊢ wp frame (wpE defs 𝒱 (c : Thread nD τ) bd) Set.univ (body k a) fun r => iprop(⌜r = M j a⌝ ∗ I (j.val + 1))) :
    I 0 ⊢ wp frame (wpE defs 𝒱 (c : Thread nD τ) bd) Set.univ (Scf.Loop.for L ok init body)
      fun r => iprop(⌜r = iter M init n⌝ ∗ I n) := by
  iintro HR
  iapply (Scf.wp_for _ _ _ L.lb L.ub L.st ok init body (fun k a => iprop(⌜a = iter M init k⌝ ∗ I k)) ?_)
  · intro k a
    have hk : k.val < n := lt_of_lt_of_eq k.isLt hn
    iintro ⟨%ha, HR⟩
    iapply (wp_wand _ _ _) $$ [HR]
    · iapply (hstep ⟨k.val, hk⟩ k rfl a) $$ HR
    iintro %r ⟨%hr, HR⟩
    isplitr
    · ipureintro
      rw [hr, ha]; exact (iter_succ M init ⟨k.val, hk⟩).symm
    iexact HR
  isplitl [HR]
  · isplitr
    · ipureintro; rfl
    iexact HR
  · iintro %a ⟨%ha, HR⟩
    rw [show Scf.trips L.lb L.ub L.st = n from hn] at ha ⊢
    isplitr
    · ipureintro; exact ha
    iexact HR

end Ops

/-! ## The eight transfers of a block from the program's loop -/

section Blocks

variable (c : Dev nD) (defs : Defs nD τ sig (Elt F) Λ₀) (𝒱 : Variants) (bd : Option 𝒱.V)
variable (buf : Memref sig .tc .vmem S6x8x1024x128 .fp8e4m3) (pool : Memref sig .tc .hbm S1024x1024x128 .fp8e4m3)
  (sems : DmaSems sig S6) (pl : Buf (Elt F) (pool.view.loc (c : Thread nD τ))) (pgs : ℕ → Fin 1024)
  (tab : Memref sig .tc .smem S1024 .i32) (T : Buf (Elt F) (tab.view.loc (c : Thread nD τ))) (q : PosShare TreeShare)
variable (htw : ∀ i < 1024, (tw (F := F) tab T i).toNat = (pgs i).val)
  (hbuf : buf.IsWhole) (hpool : pool.IsWhole)
  (L : Scf.Loop 32) (ok : L.OK) (h8 : L.trips = 8) (body : Fin L.trips → Unit → Prog (TpuEff nD τ sig (Elt F) Λ₀ .tc) Unit)
  (oT : Fin L.trips → Fin 1 → ℕ) (hT : ∀ k, ∀ a, oT k a + S1.size a ≤ S1024.size a)
  (oS : Fin 1 → ℕ) (hS : ∀ a, oS a + S1.size a ≤ S6.size a)
  (oB : Fin L.trips → Fin 4 → ℕ) (hB : ∀ k, ∀ a, oB k a + S1x1x1024x128.size a ≤ S6x8x1024x128.size a)
  (hBw : ∀ k, (Rect.unit (s := S6x8x1024x128) (oB k) S1x1x1024x128.size (hB k)).WholeWords (EltTy.packing .fp8e4m3))
  (chk : BitVec 32 → Prop) (dec : ∀ w, Decidable (chk w))
  (hP : ∀ w, chk w → ∀ a, (![w.toNat, 0, 0] : Fin 3 → ℕ) a + S1x1024x128.size a ≤ S1024x1024x128.size a)
  (hPw : ∀ w (h : chk w), (Rect.unit (s := S1024x1024x128) ![w.toNat, 0, 0] S1x1024x128.size (hP w h)).WholeWords (EltTy.packing .fp8e4m3))
  (hchk : ∀ w : BitVec 32, w.toNat < 1024 → chk w)
  (s : Fin 6) (b : ℕ) (hb : b < 128)
  (eT : ∀ k, oT k = ![8 * b + k.val]) (eS : oS = ![s.val]) (eB : ∀ k, oB k = ![s.val, k.val, 0, 0])

include htw h8 hchk hb eT eS eB

theorem start_block
    (hbody : ∀ k, body k ⟨⟩ = startTrip buf pool sems tab hbuf hpool (oT k) (hT k) oS hS (oB k) (hB k) (hBw k) chk dec hP hPw) :
    iprop(Table c tab T q ∗ Slot buf pool sems c pl pgs s none)
      ⊢ wp frame (wpE defs 𝒱 (c : Thread nD τ) bd) Set.univ (Scf.Loop.for L ok ⟨⟩ body)
        fun _ => iprop(Table c tab T q ∗ Slot buf pool sems c pl pgs s (some b)) := by
  iintro H
  iapply (start_loop buf pool sems c pl pgs tab T defs 𝒱 bd q L ok body h8 s b (fun g k hk => ?_))
  · rw [hbody k]
    exact startTrip_wp buf pool sems c pl pgs tab T defs 𝒱 bd q hbuf hpool _ _ _ _ _ _ _ _ _ _ _ htw hchk s b hb g
      (by rw [eT k, hk]) eS (by rw [eB k, hk])
  isplitl [H]; · iexact H
  iintro H; iexact H

theorem wait_block
    (hbody : ∀ k, body k ⟨⟩ = waitTrip buf pool sems tab hbuf hpool (oT k) (hT k) oS hS (oB k) (hB k) (hBw k) chk dec hP hPw) :
    iprop(Table c tab T q ∗ Slot buf pool sems c pl pgs s (some b) ∗ (∃ W, owes (c : Thread nD τ) 0 W))
      ⊢ wp frame (wpE defs 𝒱 (c : Thread nD τ) bd) Set.univ (Scf.Loop.for L ok ⟨⟩ body)
        fun _ => iprop(Table c tab T q ∗ Held buf pool sems c pl s (Fof buf c (blkC pool c pl pgs b)) ∗ (∃ W, owes (c : Thread nD τ) 0 W)) := by
  iintro H
  iapply (wait_loop buf pool sems c pl pgs tab T defs 𝒱 bd q L ok body h8 s b (fun g k hk => ?_))
  · rw [hbody k]
    exact waitTrip_wp buf pool sems c pl pgs tab T defs 𝒱 bd q hbuf hpool _ _ _ _ _ _ _ _ _ _ _ htw hchk s b hb g
      (by rw [eT k, hk]) eS (by rw [eB k, hk])
  isplitl [H]; · iexact H
  iintro H; iexact H

end Blocks

/-! ## One trip -/

section Trip

variable (c : Dev nD) (defs : Defs nD τ sig (Elt F) Λ₀) (𝒱 : Variants) (bd : Option 𝒱.V)
variable (bufK bufV : Memref sig .tc .vmem S6x8x1024x128 .fp8e4m3) (poolK poolV : Memref sig .tc .hbm S1024x1024x128 .fp8e4m3)
  (semK semV : DmaSems sig S6) (t : Memref sig .tc .vmem S32x4096 .f32)
  (plK : Buf (Elt F) (poolK.view.loc (c : Thread nD τ))) (plV : Buf (Elt F) (poolV.view.loc (c : Thread nD τ))) (pgs : ℕ → Fin 1024)
  (tab : Memref sig .tc .smem S1024 .i32) (T : Buf (Elt F) (tab.view.loc (c : Thread nD τ))) (q : PosShare TreeShare)

abbrev Owes : sProp 𝕄 := iprop(∃ W, owes (c : Thread nD τ) 0 W)
abbrev slotPt (buf : Memref sig .tc .vmem S6x8x1024x128 .fp8e4m3) (s : Fin 6) (f : Buf (Elt F) (buf.view.loc (c : Thread nD τ))) : sProp 𝕄 :=
  buf.view.loc (c : Thread nD τ) ↦[slotSet buf s]{fullShare} f

/-- What the main loop holds with the rings at schedule `a`. -/
def Main (Ex : sProp 𝕄) (a : Fin 6 → Option ℕ) : sProp 𝕄 :=
  iprop(RingSt bufK poolK semK c plK pgs a ∗ RingSt bufV poolV semV c plV pgs a ∗ Table c tab T q ∗ Owes c ∗ (∃ Y : Buf (Elt F) (t.view.loc (c : Thread nD τ)), tPt c t Y) ∗ Ex)

/-- What a trip holds between its scores and its fold. -/
def Mid (Ex : sProp 𝕄) (n i : ℕ) (fk : Buf (Elt F) (bufK.view.loc (c : Thread nD τ))) (fv : Buf (Elt F) (bufV.view.loc (c : Thread nD τ)))
    (P : Fin 16 → Vec F S32x256 .f32) : sProp 𝕄 :=
  iprop((Held bufK poolK semK c plK (sl i) fk ∗ Ring.restW (fun s => Slot bufK poolK semK c plK pgs s) (stp n i) (sl i))
    ∗ (Held bufV poolV semV c plV (sl i) fv ∗ Ring.restW (fun s => Slot bufV poolV semV c plV pgs s) (stp n i) (sl i))
    ∗ Table c tab T q ∗ Owes c ∗ (∃ Y : Buf (Elt F) (t.view.loc (c : Thread nD τ)), ⌜TileOK c t 16 P Y⌝ ∗ tPt c t Y) ∗ Ex)

/-- What follows the start of a trip's transfers: wait, patch, score. -/
def headRest {A B : Type} (wk wv : Prog (TpuEff nD τ sig (Elt F) Λ₀ .tc) Unit) (c4 : Prop) [Decidable c4]
    (pt : c4 → Prog (TpuEff nD τ sig (Elt F) Λ₀ .tc) Unit) (score : Prog (TpuEff nD τ sig (Elt F) Λ₀ .tc) A) (out : A → B)
    (_ : Unit) : Prog (TpuEff nD τ sig (Elt F) Λ₀ .tc) B :=
  wk >>= fun _ => wv >>= fun _ =>
    if h : c4 then pt h >>= fun _ => score >>= fun a => pure (out a) else score >>= fun a => pure (out a)

/-- The first half of a trip: start, wait, patch, score. -/
def headProg {A B : Type} (c3 : Prop) [Decidable c3] (sk sv : c3 → Prog (TpuEff nD τ sig (Elt F) Λ₀ .tc) Unit)
    (wk wv : Prog (TpuEff nD τ sig (Elt F) Λ₀ .tc) Unit) (c4 : Prop) [Decidable c4]
    (pt : c4 → Prog (TpuEff nD τ sig (Elt F) Λ₀ .tc) Unit) (score : Prog (TpuEff nD τ sig (Elt F) Λ₀ .tc) A) (out : A → B) :
    Prog (TpuEff nD τ sig (Elt F) Λ₀ .tc) B :=
  if h : c3 then sk h >>= fun _ => sv h >>= fun _ => headRest wk wv c4 pt score out ⟨⟩ else headRest wk wv c4 pt score out ⟨⟩

theorem start_wp (Ex : sProp 𝕄) {α : Type} {Q : α → sProp 𝕄} (n b : ℕ) (c3 : Prop) [Decidable c3] (h3 : c3 ↔ b < n)
    (sk sv : c3 → Prog (TpuEff nD τ sig (Elt F) Λ₀ .tc) Unit) (k : Unit → Prog (TpuEff nD τ sig (Elt F) Λ₀ .tc) α)
    (hsk : ∀ h, iprop(Table c tab T q ∗ Slot bufK poolK semK c plK pgs (sl b) none)
      ⊢ wp frame (wpE defs 𝒱 (c : Thread nD τ) bd) Set.univ (sk h) fun _ => iprop(Table c tab T q ∗ Slot bufK poolK semK c plK pgs (sl b) (some b)))
    (hsv : ∀ h, iprop(Table c tab T q ∗ Slot bufV poolV semV c plV pgs (sl b) none)
      ⊢ wp frame (wpE defs 𝒱 (c : Thread nD τ) bd) Set.univ (sv h) fun _ => iprop(Table c tab T q ∗ Slot bufV poolV semV c plV pgs (sl b) (some b)))
    (a : Fin 6 → Option ℕ) (ha : a (sl b) = none) :
    iprop(Main c bufK bufV poolK poolV semK semV t plK plV pgs tab T q Ex a
        ∗ (Main c bufK bufV poolK poolV semK semV t plK plV pgs tab T q Ex (Function.update a (sl b) (if b < n then some b else none))
          -∗ wp frame (wpE defs 𝒱 (c : Thread nD τ) bd) Set.univ (k ⟨⟩) Q))
      ⊢ wp frame (wpE defs 𝒱 (c : Thread nD τ) bd) Set.univ
        (if h : c3 then sk h >>= fun _ => sv h >>= fun _ => k ⟨⟩ else k ⟨⟩) Q := by
  by_cases hc : c3
  · rw [dif_pos hc, if_pos (h3.mp hc)]
    unfold Main
    iintro ⟨⟨HK, HV, HT, HO, HY, HE⟩, Hk⟩
    rw [wp_bind]
    ihave HK' := (Entails.of_eq (Ring.AtW_focus (fun s => Slot bufK poolK semK c plK pgs s) a (sl b))) $$ HK
    icases HK' with ⟨HK, HKr⟩
    ihave HV' := (Entails.of_eq (Ring.AtW_focus (fun s => Slot bufV poolV semV c plV pgs s) a (sl b))) $$ HV
    icases HV' with ⟨HV, HVr⟩
    rw [ha]
    iapply (wp_wand _ _ _) $$ [HT HK]
    · iapply (hsk hc)
      isplitl [HT] <;> iassumption
    iintro %x ⟨HT, HK⟩
    rw [wp_bind]
    iapply (wp_wand _ _ _) $$ [HT HV]
    · iapply (hsv hc)
      isplitl [HT] <;> iassumption
    iintro %x ⟨HT, HV⟩
    iapply Hk
    isplitl [HK HKr]
    · iapply (Ring.AtW_update (fun s => Slot bufK poolK semK c plK pgs s) a (sl b) (some b))
      isplitl [HK] <;> iassumption
    isplitl [HV HVr]
    · iapply (Ring.AtW_update (fun s => Slot bufV poolV semV c plV pgs s) a (sl b) (some b))
      isplitl [HV] <;> iassumption
    isplitl [HT]; · iexact HT
    isplitl [HO]; · iexact HO
    isplitl [HY]; · iexact HY
    iexact HE
  · rw [dif_neg hc, if_neg (fun h => hc (h3.mpr h))]
    have hu : Function.update a (sl b) none = a := by rw [← ha]; exact Function.update_eq_self _ _
    rw [hu]
    iintro ⟨HM, Hk⟩
    iapply Hk; iexact HM

theorem patch_wp {α : Type} {Q : α → sProp 𝕄} (i : ℕ) (c4 : Prop) [Decidable c4]
    (pt : c4 → Prog (TpuEff nD τ sig (Elt F) Λ₀ .tc) Unit) (k : Unit → Prog (TpuEff nD τ sig (Elt F) Λ₀ .tc) α)
    (gk : Buf (Elt F) (bufK.view.loc (c : Thread nD τ))) (gv : Buf (Elt F) (bufV.view.loc (c : Thread nD τ)))
    (fk : Buf (Elt F) (bufK.view.loc (c : Thread nD τ))) (fv : Buf (Elt F) (bufV.view.loc (c : Thread nD τ)))
    (hpt : ∀ h : c4, iprop(slotPt c bufK (sl i) gk ∗ slotPt c bufV (sl i) gv)
      ⊢ wp frame (wpE defs 𝒱 (c : Thread nD τ) bd) Set.univ (pt h) fun _ => iprop(slotPt c bufK (sl i) fk ∗ slotPt c bufV (sl i) fv))
    (hnp : ¬ c4 → fk = gk ∧ fv = gv) :
    iprop((slotPt c bufK (sl i) gk ∗ slotPt c bufV (sl i) gv)
        ∗ (iprop(slotPt c bufK (sl i) fk ∗ slotPt c bufV (sl i) fv) -∗ wp frame (wpE defs 𝒱 (c : Thread nD τ) bd) Set.univ (k ⟨⟩) Q))
      ⊢ wp frame (wpE defs 𝒱 (c : Thread nD τ) bd) Set.univ (if h : c4 then pt h >>= k else k ⟨⟩) Q := by
  by_cases hc : c4
  · rw [dif_pos hc, wp_bind]
    iintro ⟨H, Hk⟩
    iapply (wp_wand _ _ _) $$ [H]
    · iapply (hpt hc) $$ H
    iintro %x H
    iapply Hk; iexact H
  · rw [dif_neg hc, (hnp hc).1, (hnp hc).2]
    iintro ⟨H, Hk⟩
    iapply Hk; iexact H

theorem head_wp (Ex : sProp 𝕄) {A B : Type} (n i : ℕ) (hi : i < n) (c3 : Prop) [Decidable c3] (h3 : c3 ↔ i + 5 < n)
    (sk sv : c3 → Prog (TpuEff nD τ sig (Elt F) Λ₀ .tc) Unit)
    (wk wv : Prog (TpuEff nD τ sig (Elt F) Λ₀ .tc) Unit) (c4 : Prop) [Decidable c4]
    (pt : c4 → Prog (TpuEff nD τ sig (Elt F) Λ₀ .tc) Unit) (score : Prog (TpuEff nD τ sig (Elt F) Λ₀ .tc) A) (out : A → B)
    (fk : Buf (Elt F) (bufK.view.loc (c : Thread nD τ))) (fv : Buf (Elt F) (bufV.view.loc (c : Thread nD τ)))
    (P : Fin 16 → Vec F S32x256 .f32) (a₀ : A)
    (hsk : ∀ h, iprop(Table c tab T q ∗ Slot bufK poolK semK c plK pgs (sl (i + 5)) none)
      ⊢ wp frame (wpE defs 𝒱 (c : Thread nD τ) bd) Set.univ (sk h) fun _ => iprop(Table c tab T q ∗ Slot bufK poolK semK c plK pgs (sl (i + 5)) (some (i + 5))))
    (hsv : ∀ h, iprop(Table c tab T q ∗ Slot bufV poolV semV c plV pgs (sl (i + 5)) none)
      ⊢ wp frame (wpE defs 𝒱 (c : Thread nD τ) bd) Set.univ (sv h) fun _ => iprop(Table c tab T q ∗ Slot bufV poolV semV c plV pgs (sl (i + 5)) (some (i + 5))))
    (hwk : iprop(Table c tab T q ∗ Slot bufK poolK semK c plK pgs (sl i) (some i) ∗ Owes c)
      ⊢ wp frame (wpE defs 𝒱 (c : Thread nD τ) bd) Set.univ wk fun _ =>
        iprop(Table c tab T q ∗ Held bufK poolK semK c plK (sl i) (Fof bufK c (blkC poolK c plK pgs i)) ∗ Owes c))
    (hwv : iprop(Table c tab T q ∗ Slot bufV poolV semV c plV pgs (sl i) (some i) ∗ Owes c)
      ⊢ wp frame (wpE defs 𝒱 (c : Thread nD τ) bd) Set.univ wv fun _ =>
        iprop(Table c tab T q ∗ Held bufV poolV semV c plV (sl i) (Fof bufV c (blkC poolV c plV pgs i)) ∗ Owes c))
    (hpt : ∀ h : c4, iprop(slotPt c bufK (sl i) (Fof bufK c (blkC poolK c plK pgs i)) ∗ slotPt c bufV (sl i) (Fof bufV c (blkC poolV c plV pgs i)))
      ⊢ wp frame (wpE defs 𝒱 (c : Thread nD τ) bd) Set.univ (pt h) fun _ => iprop(slotPt c bufK (sl i) fk ∗ slotPt c bufV (sl i) fv))
    (hnp : ¬ c4 → fk = Fof bufK c (blkC poolK c plK pgs i) ∧ fv = Fof bufV c (blkC poolV c plV pgs i))
    (hsc : iprop((∃ Y : Buf (Elt F) (t.view.loc (c : Thread nD τ)), tPt c t Y) ∗ slotPt c bufK (sl i) fk ∗ Ex)
      ⊢ wp frame (wpE defs 𝒱 (c : Thread nD τ) bd) Set.univ score fun a => iprop(⌜a = a₀⌝ ∗ (∃ Y : Buf (Elt F) (t.view.loc (c : Thread nD τ)), ⌜TileOK c t 16 P Y⌝ ∗ tPt c t Y)
        ∗ slotPt c bufK (sl i) fk ∗ Ex)) :
    Main c bufK bufV poolK poolV semK semV t plK plV pgs tab T q Ex (st n i)
      ⊢ wp frame (wpE defs 𝒱 (c : Thread nD τ) bd) Set.univ (headProg c3 sk sv wk wv c4 pt score out)
        fun r => iprop(⌜r = out a₀⌝ ∗ Mid c bufK bufV poolK poolV semK semV t plK plV pgs tab T q Ex n i fk fv P) := by
  iintro HM
  unfold headProg
  iapply (start_wp c defs 𝒱 bd bufK bufV poolK poolV semK semV t plK plV pgs tab T q Ex n (i + 5) c3 h3 sk sv (headRest wk wv c4 pt score out) hsk hsv _ (st_free n i))
  isplitl [HM]; · iexact HM
  rw [st_start]
  unfold Main headRest
  iintro ⟨HK, HV, HT, HO, HY, HE⟩
  ihave HK' := (Entails.of_eq (Ring.AtW_focus (fun s => Slot bufK poolK semK c plK pgs s) (stp n i) (sl i))) $$ HK
  icases HK' with ⟨HK, HKr⟩
  ihave HV' := (Entails.of_eq (Ring.AtW_focus (fun s => Slot bufV poolV semV c plV pgs s) (stp n i) (sl i))) $$ HV
  icases HV' with ⟨HV, HVr⟩
  rw [stp_here n i hi]
  rw [wp_bind]
  iapply (wp_wand _ _ _) $$ [HT HK HO]
  · iapply hwk
    isplitl [HT]; · iexact HT
    isplitl [HK] <;> iassumption
  iintro %x ⟨HT, HK, HO⟩
  rw [wp_bind]
  iapply (wp_wand _ _ _) $$ [HT HV HO]
  · iapply hwv
    isplitl [HT]; · iexact HT
    isplitl [HV] <;> iassumption
  iintro %x ⟨HT, HV, HO⟩
  unfold Held
  icases HK with ⟨HKc, HKf, HKt⟩
  icases HV with ⟨HVc, HVf, HVt⟩
  iapply (patch_wp c defs 𝒱 bd bufK bufV i c4 pt (fun _ => score >>= fun a => pure (out a)) _ _ fk fv hpt hnp)
  isplitl [HKf HVf]
  · isplitl [HKf] <;> iassumption
  iintro ⟨HKf, HVf⟩
  rw [wp_bind]
  iapply (wp_wand _ _ _) $$ [HY HKf HE]
  · iapply hsc
    isplitl [HY]; · iexact HY
    isplitl [HKf] <;> iassumption
  iintro %r ⟨%hr, HY, HKf, HE⟩
  iapply (ret_wp c defs 𝒱 bd)
  isplitr
  · ipureintro; rw [hr]
  unfold Mid Held
  isplitl [HKc HKf HKt HKr]
  · isplitr [HKr]
    · isplitl [HKc]; · iexact HKc
      isplitl [HKf] <;> iassumption
    · iexact HKr
  isplitl [HVc HVf HVt HVr]
  · isplitr [HVr]
    · isplitl [HVc]; · iexact HVc
      isplitl [HVf] <;> iassumption
    · iexact HVr
  isplitl [HT]; · iexact HT
  isplitl [HO]; · iexact HO
  isplitl [HY]; · iexact HY
  iexact HE

/-- The second half: the fold, and the slot free again. -/
theorem tail_wp (Ex : sProp 𝕄) {X S : Type} (n i : ℕ) (fold : Prog (TpuEff nD τ sig (Elt F) Λ₀ .tc) X) (out : X → S)
    (fk : Buf (Elt F) (bufK.view.loc (c : Thread nD τ))) (fv : Buf (Elt F) (bufV.view.loc (c : Thread nD τ)))
    (P : Fin 16 → Vec F S32x256 .f32) (x₀ : X)
    (hf : ∀ Y, TileOK c t 16 P Y → iprop(tPt c t Y ∗ slotPt c bufV (sl i) fv ∗ Ex)
      ⊢ wp frame (wpE defs 𝒱 (c : Thread nD τ) bd) Set.univ fold fun x => iprop(⌜x = x₀⌝ ∗ tPt c t Y ∗ slotPt c bufV (sl i) fv ∗ Ex)) :
    Mid c bufK bufV poolK poolV semK semV t plK plV pgs tab T q Ex n i fk fv P
      ⊢ wp frame (wpE defs 𝒱 (c : Thread nD τ) bd) Set.univ (fold >>= fun x => pure (out x))
        fun r => iprop(⌜r = out x₀⌝ ∗ Main c bufK bufV poolK poolV semK semV t plK plV pgs tab T q Ex (st n (i + 1))) := by
  unfold Mid Main Held
  iintro ⟨⟨⟨HKc, HKf, HKt⟩, HKr⟩, ⟨⟨HVc, HVf, HVt⟩, HVr⟩, HT, HO, ⟨%Y, %hY, HY⟩, HE⟩
  rw [wp_bind]
  iapply (wp_wand _ _ _) $$ [HY HVf HE]
  · iapply (hf Y hY)
    isplitl [HY]; · iexact HY
    isplitl [HVf] <;> iassumption
  iintro %r ⟨%hr, HY, HVf, HE⟩
  iapply (ret_wp c defs 𝒱 bd)
  isplitr
  · ipureintro; rw [hr]
  rw [← st_next n i]
  isplitl [HKc HKf HKt HKr]
  · iapply (Ring.AtW_update (fun s => Slot bufK poolK semK c plK pgs s) (stp n i) (sl i) none)
    isplitr [HKr]
    · unfold Slot Held
      iexists fk
      isplitl [HKc]; · iexact HKc
      isplitl [HKf] <;> iassumption
    · iexact HKr
  isplitl [HVc HVf HVt HVr]
  · iapply (Ring.AtW_update (fun s => Slot bufV poolV semV c plV pgs s) (stp n i) (sl i) none)
    isplitr [HVr]
    · unfold Slot Held
      iexists fv
      isplitl [HVc]; · iexact HVc
      isplitl [HVf] <;> iassumption
    · iexact HVr
  isplitl [HT]; · iexact HT
  isplitl [HO]; · iexact HO
  isplitl [HY]; · iexists Y; iexact HY
  iexact HE

end Trip

end Cert.Kernel.Hand
-- ==== Proof.Bits.Exact.lean ====
/-
  The same as the module of this name one directory up, for the kernel with its constants as printed.
  The parts of a trip where the scales are powers of two: the printed loops as the ring's lemmas read them, and the
  values the trip computes.
-/
module

public import proofs.«01_k».proof.Proof.Bits.Walk

@[expose] public section

set_option synthInstance.maxSize 4096

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)
  (T : Buf (Elt F) (arg1.view.loc (c : Thread nD τ))) (q : PosShare TreeShare)
variable (htw : ∀ i < 1024, (tw (F := F) arg1 T i).toNat = (pgs i).val)
variable (p : ℕ) (hp : p < 131072) (v1 : Elt F .i32) (k0_hw3 : k0_chk3 (BitVec.ofNat 32 p) v1)

theorem ret_bind_wp {α β : Type} {Q : β → sProp 𝕄} (x : α) (k : α → Prog (TpuEff nD τ sig (Elt F) Λ₀ .tc) β) :
    wp frame (wpE defs 𝒱 (c : Thread nD τ) bd) Set.univ (k x) Q
      ⊢ wp frame (wpE defs 𝒱 (c : Thread nD τ) bd) Set.univ (Prog.ret x >>= k) Q := .rfl

theorem bind_wp {α β : Type} {Q : β → sProp 𝕄} (p : Prog (TpuEff nD τ sig (Elt F) Λ₀ .tc) α) (k : α → Prog (TpuEff nD τ sig (Elt F) Λ₀ .tc) β) :
    wp frame (wpE defs 𝒱 (c : Thread nD τ) bd) Set.univ p (fun x => wp frame (wpE defs 𝒱 (c : Thread nD τ) bd) Set.univ (k x) Q)
      ⊢ wp frame (wpE defs 𝒱 (c : Thread nD τ) bd) Set.univ (p >>= k) Q := by
  rw [wp_bind]

theorem load_any {s : Shape} {e : EltTy} (m : Memref sig .tc .vmem s e) (r : Rect s) (qq : PosShare TreeShare) (X : Buf (Elt F) (m.view.loc (c : Thread nD τ)))
    {α : Type} {Q : α → sProp 𝕄} {hl} {k : Vec F r.shape e → Prog (TpuEff nD τ sig (Elt F) Λ₀ .tc) α} :
    (m.view.loc (c : Thread nD τ) ↦[Finset.univ]{qq} X)
      ⊢ iprop(((m.view.loc (c : Thread nD τ) ↦[Finset.univ]{qq} X)
          -∗ wp frame (wpE defs 𝒱 (c : Thread nD τ) bd) Set.univ (k ((m.access r).read (Elt F) X)) Q)
        -∗ wp frame (wpE defs 𝒱 (c : Thread nD τ) bd) Set.univ (.op (.load m r.toLoadRect hl) k) Q) :=
  wp_load_rect 𝒱 (c : Thread nD τ) bd Set.univ (m := m) (r := r) (S := Finset.univ) (q := qq) (f := X) (Finset.subset_univ _)

section Blocks4

variable (v19 : BitVec 32) (v30 : FVec F S8x128 .fp8e4m3) (v41 : FVec F S8x128 .fp8e4m3) (k0_h1 : k0_cond1 v1 = 1#1) (v68 : IVec S16x256 1) (v70 : IVec S16x256 1) (v72 : IVec S16x256 1) (v117 : IVec S32x256 32) (v121 : FVec F S32x256 .f32) (v123 : FVec F S128x256 .bf16) (k : Fin (k0_t4_loop (BitVec.ofNat 32 p)).trips) (arg22 : FVec F S32x128 .f32)
include htw hp

theorem t5_wp (h : k0_cond3 (BitVec.ofNat 32 p) k = 1#1) :
    iprop(Table c arg1 T q ∗ Slot arg16 arg11 arg19 c plK pgs (sl (k.val + 5)) none)
      ⊢ wp frame (wpE defs 𝒱 (c : Thread nD τ) bd) Set.univ
        (Scf.Loop.for k0_t5_loop k0_t5_ok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg16 arg11 arg19 c plK pgs (sl (k.val + 5)) (some (k.val + 5))) :=
  start_block c defs 𝒱 bd arg16 arg11 arg19 plK pgs arg1 T q htw harg16 harg11 k0_t5_loop k0_t5_ok rfl _
    (fun g => k0_off9 (BitVec.ofNat 32 p) k g) (fun g => k0_off9_inb (BitVec.ofNat 32 p) v1 k0_hw3 k g k0_h1 h)
    (k0_off10 (BitVec.ofNat 32 p) k) (k0_off10_inb (BitVec.ofNat 32 p) v1 k0_hw3 k k0_h1 h)
    (fun g => k0_off11 (BitVec.ofNat 32 p) k g) (fun g => k0_off11_inb (BitVec.ofNat 32 p) v1 k0_hw3 k g k0_h1 h)
    (fun g => k0_off11_wordsfp8e4m3 (BitVec.ofNat 32 p) v1 k0_hw3 k g k0_h1 h)
    (k0_chk4 (BitVec.ofNat 32 p) v1 k) (k0_chk4.dec (BitVec.ofNat 32 p) v1 k)
    (fun w hw => k0_off12_inb (BitVec.ofNat 32 p) v1 k w hw k0_h1 h) (fun w hw => k0_off12_wordsfp8e4m3 (BitVec.ofNat 32 p) v1 k w hw k0_h1 h)
    (fun w hw => chk4 _ _ w hw k) (sl (k.val + 5)) (k.val + 5)
    (by have := (cond3_iff p hp k).mp h; have := nb_lt hp; omega)
    (fun g => off9_eq p hp k g) (off10_eq p hp k) (fun g => off11_eq p hp k g) (fun _ => rfl)

theorem t6_wp (h : k0_cond3 (BitVec.ofNat 32 p) k = 1#1) :
    iprop(Table c arg1 T q ∗ Slot arg17 arg12 arg20 c plV pgs (sl (k.val + 5)) none)
      ⊢ wp frame (wpE defs 𝒱 (c : Thread nD τ) bd) Set.univ
        (Scf.Loop.for k0_t6_loop k0_t6_ok ⟨⟩ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg17 arg12 arg20 c plV pgs (sl (k.val + 5)) (some (k.val + 5))) :=
  start_block c defs 𝒱 bd arg17 arg12 arg20 plV pgs arg1 T q htw harg17 harg12 k0_t6_loop k0_t6_ok rfl _
    (fun g => k0_off13 (BitVec.ofNat 32 p) k g) (fun g => k0_off13_inb (BitVec.ofNat 32 p) v1 k0_hw3 k g k0_h1 h)
    (k0_off14 (BitVec.ofNat 32 p) k) (k0_off14_inb (BitVec.ofNat 32 p) v1 k0_hw3 k k0_h1 h)
    (fun g => k0_off15 (BitVec.ofNat 32 p) k g) (fun g => k0_off15_inb (BitVec.ofNat 32 p) v1 k0_hw3 k g k0_h1 h)
    (fun g => k0_off15_wordsfp8e4m3 (BitVec.ofNat 32 p) v1 k0_hw3 k g k0_h1 h)
    (k0_chk5 (BitVec.ofNat 32 p) v1 k) (k0_chk5.dec (BitVec.ofNat 32 p) v1 k)
    (fun w hw => k0_off16_inb (BitVec.ofNat 32 p) v1 k w hw k0_h1 h) (fun w hw => k0_off16_wordsfp8e4m3 (BitVec.ofNat 32 p) v1 k w hw k0_h1 h)
    (fun w hw => chk5 _ _ w hw k) (sl (k.val + 5)) (k.val + 5)
    (by have := (cond3_iff p hp k).mp h; have := nb_lt hp; omega)
    (fun g => off9_eq p hp k g) (off10_eq p hp k) (fun g => off11_eq p hp k g) (fun _ => rfl)

theorem t7_wp :
    iprop(Table c arg1 T q ∗ Slot arg16 arg11 arg19 c plK pgs (sl k.val) (some k.val) ∗ Owes c)
      ⊢ wp frame (wpE defs 𝒱 (c : Thread nD τ) bd) Set.univ
        (Scf.Loop.for k0_t7_loop k0_t7_ok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg16 arg11 arg19 c plK (sl k.val) (Fof arg16 c (blkC arg11 c plK pgs k.val)) ∗ Owes c) :=
  wait_block c defs 𝒱 bd arg16 arg11 arg19 plK pgs arg1 T q htw harg16 harg11 k0_t7_loop k0_t7_ok rfl _
    (fun g => k0_off17 (BitVec.ofNat 32 p) k g) (fun g => k0_off17_inb (BitVec.ofNat 32 p) v1 k0_hw3 k g k0_h1)
    (k0_off18 (BitVec.ofNat 32 p) k) (k0_off18_inb (BitVec.ofNat 32 p) v1 k0_hw3 k k0_h1)
    (fun g => k0_off19 (BitVec.ofNat 32 p) k g) (fun g => k0_off19_inb (BitVec.ofNat 32 p) v1 k0_hw3 k g k0_h1)
    (fun g => k0_off19_wordsfp8e4m3 (BitVec.ofNat 32 p) v1 k0_hw3 k g k0_h1)
    (k0_chk6 v1) (k0_chk6.dec v1)
    (fun w hw => k0_off20_inb v1 w hw k0_h1) (fun w hw => k0_off20_wordsfp8e4m3 v1 w hw k0_h1)
    (fun w hw => chk6 _ w hw) (sl k.val) k.val
    (by have := lt_of_lt_of_eq k.isLt (t4_trips p hp); have := nb_lt hp; omega)
    (fun g => off17_eq p hp k g) (off18_eq p hp k) (fun g => off19_eq p hp k g) (fun _ => rfl)

theorem t8_wp :
    iprop(Table c arg1 T q ∗ Slot arg17 arg12 arg20 c plV pgs (sl k.val) (some k.val) ∗ Owes c)
      ⊢ wp frame (wpE defs 𝒱 (c : Thread nD τ) bd) Set.univ
        (Scf.Loop.for k0_t8_loop k0_t8_ok ⟨⟩ (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg17 arg12 arg20 c plV (sl k.val) (Fof arg17 c (blkC arg12 c plV pgs k.val)) ∗ Owes c) :=
  wait_block c defs 𝒱 bd arg17 arg12 arg20 plV pgs arg1 T q htw harg17 harg12 k0_t8_loop k0_t8_ok rfl _
    (fun g => k0_off21 (BitVec.ofNat 32 p) k g) (fun g => k0_off21_inb (BitVec.ofNat 32 p) v1 k0_hw3 k g k0_h1)
    (k0_off22 (BitVec.ofNat 32 p) k) (k0_off22_inb (BitVec.ofNat 32 p) v1 k0_hw3 k k0_h1)
    (fun g => k0_off23 (BitVec.ofNat 32 p) k g) (fun g => k0_off23_inb (BitVec.ofNat 32 p) v1 k0_hw3 k g k0_h1)
    (fun g => k0_off23_wordsfp8e4m3 (BitVec.ofNat 32 p) v1 k0_hw3 k g k0_h1)
    (k0_chk7 v1) (k0_chk7.dec v1)
    (fun w hw => k0_off24_inb v1 w hw k0_h1) (fun w hw => k0_off24_wordsfp8e4m3 v1 w hw k0_h1)
    (fun w hw => chk7 _ w hw) (sl k.val) k.val
    (by have := lt_of_lt_of_eq k.isLt (t4_trips p hp); have := nb_lt hp; omega)
    (fun g => off17_eq p hp k g) (off18_eq p hp k) (fun g => off19_eq p hp k g) (fun _ => rfl)

end Blocks4

/-! ## The new token, the scores, the fold -/

/-- The place of the token among the page's rows, as the kernel computes it. -/
abbrev tokW (v0 : BitVec 32) : BitVec 32 := fmod (fmod v0 1024#32) 128#32
/-- The page of the block the token lies in. -/
def gOf : Fin 8 := ⟨p % 1024 / 128, by omega⟩
/-- The group of four rows the token lies in. -/
def rOf : Fin 32 := ⟨p % 128 / 4, by omega⟩

/-- What the store of the new key writes over the four rows `x`. -/
abbrev newK (v0 : BitVec 32) (v30 : FVec F S8x128 .fp8e4m3) (x : Vec F S1x1x32x128 .fp8e4m3) : FVec F S1x1x32x128 .fp8e4m3 :=
  k0_pay25 (tokW v0) (k0_pay20 x) (k0_pay21 v30) k0_pay22 k0_pay23 k0_pay24
abbrev newV (v0 : BitVec 32) (v41 : FVec F S8x128 .fp8e4m3) (x : Vec F S1x1x32x128 .fp8e4m3) : FVec F S1x1x32x128 .fp8e4m3 :=
  k0_pay38 (k0_pay28 (tokW v0) (k0_pay26 x) (k0_pay27 v41) (iota .tc S32x128 32 [0] iota_S32x128_d0_w32))

/-- Slot contents a trip scores: the block's pages, with the new token over its place in the last block. -/
def slotVal (buf : Memref sig .tc .vmem S6x8x1024x128 .fp8e4m3) (i : ℕ) (f : Buf (Elt F) (buf.view.loc (c : Thread nD τ)))
    (new : Vec F S1x1x32x128 .fp8e4m3 → FVec F S1x1x32x128 .fp8e4m3) : Buf (Elt F) (buf.view.loc (c : Thread nD τ)) :=
  if i + 1 = nb p then putQuad c buf (sl i) (gOf p) (rOf p) f (new (quad c buf (sl i) (gOf p) (rOf p) f)) else f

section Patch

variable {v19 : BitVec 32} {v30 : FVec F S8x128 .fp8e4m3} {v41 : FVec F S8x128 .fp8e4m3} {k0_h1 : k0_cond1 v1 = 1#1} {v68 : IVec S16x256 1} {v70 : IVec S16x256 1} {v72 : IVec S16x256 1} {v117 : IVec S32x256 32} {v121 : FVec F S32x256 .f32} {v123 : FVec F S128x256 .bf16} {k : Fin (k0_t4_loop (BitVec.ofNat 32 p)).trips} {arg22 : FVec F S32x128 .f32}

/-- The patch, as one chain of loads and stores. -/
def patchProg (h4 : k0_cond4 (BitVec.ofNat 32 p) k = 1#1) : Prog (TpuEff nD τ sig (Elt F) Λ₀ .tc) Unit := do
  let x ← Prog.lift (.load arg16 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  let _ ← Prog.lift (.load arg16 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  Prog.lift (.store arg16 (Rect.unit (s := S6x8x1024x128) (k0_off25 (BitVec.ofNat 32 p) k) S1x1x32x128.size (k0_off25_inb (BitVec.ofNat 32 p) v1 k0_hw3 k k0_h1 h4)) (newK (BitVec.ofNat 32 p) v30 x) Finset.univ (View.stores_vmem h_S1x1x32x128 (harg16.storeExact_slice rfl _ (k0_off25_packedfp8e4m3 (BitVec.ofNat 32 p) v1 k0_hw3 k k0_h1 h4)) (fun _ => rfl)) (.inl rfl))
  let y ← Prog.lift (.load arg17 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  let _ ← Prog.lift (.load arg17 (Rect.unit (s := S6x8x1024x128) (k0_off25 (BitVec.ofNat 32 p) k) S1x1x32x128.size (k0_off25_inb (BitVec.ofNat 32 p) v1 k0_hw3 k k0_h1 h4)).toLoadRect (View.loadsAt_vmem h_S1x1x32x128))
  Prog.lift (.store arg17 (Rect.unit (s := S6x8x1024x128) (k0_off25 (BitVec.ofNat 32 p) k) S1x1x32x128.size (k0_off25_inb (BitVec.ofNat 32 p) v1 k0_hw3 k k0_h1 h4)) (newV (BitVec.ofNat 32 p) v41 y) Finset.univ (View.stores_vmem h_S1x1x32x128 (harg17.storeExact_slice rfl _ (k0_off25_packedfp8e4m3 (BitVec.ofNat 32 p) v1 k0_hw3 k k0_h1 h4)) (fun _ => rfl)) (.inl rfl))
  pure ⟨⟩

include hp

theorem patchProg_wp (h4 : k0_cond4 (BitVec.ofNat 32 p) k = 1#1)
    (gk : Buf (Elt F) (arg16.view.loc (c : Thread nD τ))) (gv : Buf (Elt F) (arg17.view.loc (c : Thread nD τ))) :
    iprop(slotPt c arg16 (sl k.val) gk ∗ slotPt c arg17 (sl k.val) gv)
      ⊢ wp frame (wpE defs 𝒱 (c : Thread nD τ) bd) Set.univ (patchProg arg16 harg16 arg17 harg17 p v1 k0_hw3 (v30 := v30) (v41 := v41) (k0_h1 := k0_h1) (k := k) h4)
        fun _ => iprop(slotPt c arg16 (sl k.val) (slotVal c p arg16 k.val gk (newK (BitVec.ofNat 32 p) v30)) ∗ slotPt c arg17 (sl k.val) (slotVal c p arg17 k.val gv (newV (BitVec.ofNat 32 p) v41))) := by
  have e : k0_off25 (BitVec.ofNat 32 p) k = ![(sl k.val).val, (gOf p).val, (rOf p).val * 32, 0] := off25_eq p hp k
  unfold patchProg slotVal
  rw [if_pos ((cond4_iff p hp k).mp h4), if_pos ((cond4_iff p hp k).mp h4)]
  iintro ⟨HK, HV⟩
  iapply (load_quad c defs 𝒱 bd arg16 (sl k.val) (gOf p) (rOf p) e gk) $$ HK
  iintro HK
  iapply (load_quad c defs 𝒱 bd arg16 (sl k.val) (gOf p) (rOf p) e gk) $$ HK
  iintro HK
  iapply (store_quad c defs 𝒱 bd arg16 (sl k.val) (gOf p) (rOf p) e gk) $$ HK
  iintro HK
  iapply (load_quad c defs 𝒱 bd arg17 (sl k.val) (gOf p) (rOf p) e gv) $$ HV
  iintro HV
  iapply (load_quad c defs 𝒱 bd arg17 (sl k.val) (gOf p) (rOf p) e gv) $$ HV
  iintro HV
  iapply (store_quad c defs 𝒱 bd arg17 (sl k.val) (gOf p) (rOf p) e gv) $$ HV
  iintro HV
  iapply (ret_wp c defs 𝒱 bd)
  isplitl [HK] <;> iassumption

/-- The scores of half page `j` of the block in `f`. -/
def scE (v68 v70 v72 : IVec S16x256 1) (v117 : IVec S32x256 32) (v121 : FVec F S32x256 .f32) (v123 : FVec F S128x256 .bf16) (k : Fin (k0_t4_loop (BitVec.ofNat 32 p)).trips)
    (f : Buf (Elt F) (arg16.view.loc (c : Thread nD τ))) (j : Fin 16) : FVec F S32x256 .f32 :=
  k0_pay41 (BitVec.ofNat 32 p) v117 v121 0#32 1#32 k (Scf.iv 0#32 1#32 j.val) (k0_pay30 v68 v70 v123 (half c arg16 (sl k.val) j f) (half c arg16 (sl k.val) j f)) (k0_pay31 v72)
    (k0_pay32 v123 (half c arg16 (sl k.val) j f) (half c arg16 (sl k.val) j f))
def mxE (v68 v70 v72 : IVec S16x256 1) (v117 : IVec S32x256 32) (v121 : FVec F S32x256 .f32) (v123 : FVec F S128x256 .bf16) (k : Fin (k0_t4_loop (BitVec.ofNat 32 p)).trips)
    (f : Buf (Elt F) (arg16.view.loc (c : Thread nD τ))) (j : Fin 16) (a : FVec F S32x128 .f32) : FVec F S32x128 .f32 :=
  k0_pay42 (BitVec.ofNat 32 p) v117 v121 0#32 1#32 k a (Scf.iv 0#32 1#32 j.val) (k0_pay30 v68 v70 v123 (half c arg16 (sl k.val) j f) (half c arg16 (sl k.val) j f)) (k0_pay31 v72)
    (k0_pay32 v123 (half c arg16 (sl k.val) j f) (half c arg16 (sl k.val) j f))

theorem t9_wp (Ex : sProp 𝕄) (v169 : BitVec 32) (f : Buf (Elt F) (arg16.view.loc (c : Thread nD τ))) :
    iprop((∃ Y : Buf (Elt F) (arg18.view.loc (c : Thread nD τ)), tPt c arg18 Y) ∗ slotPt c arg16 (sl k.val) f ∗ Ex)
      ⊢ wp frame (wpE defs 𝒱 (c : Thread nD τ) bd) Set.univ (Scf.Loop.for k0_t9_loop k0_t9_ok (k0_pay39 (F := F)) (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 v169))
        fun r => iprop(⌜r = iter (mxE arg16 c p v68 v70 v72 v117 v121 v123 k f) k0_pay39 16⌝
          ∗ (∃ Y : Buf (Elt F) (arg18.view.loc (c : Thread nD τ)), ⌜TileOK c arg18 16 (scE arg16 c p v68 v70 v72 v117 v121 v123 k f) Y⌝ ∗ tPt c arg18 Y) ∗ slotPt c arg16 (sl k.val) f ∗ Ex) := by
  refine score_loop c defs 𝒱 bd arg18 iprop(slotPt c arg16 (sl k.val) f ∗ Ex) k0_t9_loop k0_t9_ok rfl k0_pay39 _ _ _ fun j t ht a Y => ?_
  obtain rfl : t = j := Fin.ext ht
  iintro ⟨HY, HK, HE⟩
  unfold k0_t9_body
  rw [k0_part6_eq_skeleton]
  unfold k0_part6_skel
  iapply (load_half c defs 𝒱 bd arg16 (sl k.val) t (off26_eq p hp k t) f) $$ HK
  iintro HK
  iapply (load_half c defs 𝒱 bd arg16 (sl k.val) t (off26_eq p hp k t) f) $$ HK
  iintro HK
  iapply (load_tile c defs 𝒱 bd arg18 t (off27_eq t) Y) $$ HY
  iintro HY
  iapply (store_tile c defs 𝒱 bd arg18 t (off27_eq t) Y) $$ HY
  iintro HY
  iapply (ret_wp c defs 𝒱 bd)
  isplitr
  · ipureintro; rfl
  isplitl [HY]; · iexact HY
  isplitl [HK] <;> iassumption

/-- One half page folded into the sum and the two halves of the accumulator. -/
def foldE (v77 v82 v87 v92 : FVec F S16x256 .bf16) (v196 : FVec F S32x128 .f32) (s : Fin 6)
    (P : Fin 16 → FVec F S32x256 .f32) (f : Buf (Elt F) (arg17.view.loc (c : Thread nD τ))) (j : Fin 16)
    (a : FVec F S32x128 .f32 × FVec F S64x128 .f32 × FVec F S64x128 .f32) : FVec F S32x128 .f32 × FVec F S64x128 .f32 × FVec F S64x128 .f32 :=
  (k0_pay34 (k0_pay84 v196) a.1 (P j), k0_pay36 v77 v82 v87 v92 (k0_pay84 v196) a.2.1 (P j) (half c arg17 s j f),
    k0_pay88 a.2.2 (k0_pay37 v77 v82 v87 v92 (k0_pay84 v196) (P j)) (half c arg17 s j f))

theorem t10_wp (Ex : sProp 𝕄) (v77 v82 v87 v92 : FVec F S16x256 .bf16) (v93 : IVec S32x256 32) (c4 : BitVec 32) (v95 : IVec S32x256 32) (v169 : BitVec 32) (v196 : FVec F S32x128 .f32)
    (P : Fin 16 → FVec F S32x256 .f32) (f : Buf (Elt F) (arg17.view.loc (c : Thread nD τ)))
    (Y : Buf (Elt F) (arg18.view.loc (c : Thread nD τ))) (hY : TileOK c arg18 16 P Y) :
    iprop(tPt c arg18 Y ∗ slotPt c arg17 (sl k.val) f ∗ Ex)
      ⊢ wp frame (wpE defs 𝒱 (c : Thread nD τ) bd) Set.univ (Scf.Loop.for k0_t10_loop k0_t10_ok (k0_pay85 (F := F), k0_pay86 (F := F), k0_pay87 (F := F))
          (k0_t10_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k v169 v196))
        fun r => iprop(⌜r = iter (foldE arg17 c v77 v82 v87 v92 v196 (sl k.val) P f) (k0_pay85, k0_pay86, k0_pay87) 16⌝
          ∗ tPt c arg18 Y ∗ slotPt c arg17 (sl k.val) f ∗ Ex) := by
  refine carry_loop c defs 𝒱 bd k0_t10_loop k0_t10_ok rfl _ _ _ (fun _ => iprop(tPt c arg18 Y ∗ slotPt c arg17 (sl k.val) f ∗ Ex)) fun j t ht a => ?_
  obtain rfl : t = j := Fin.ext ht
  obtain ⟨a, b, d⟩ := a
  iintro ⟨HY, HV, HE⟩
  unfold k0_t10_body
  rw [k0_part7_eq_skeleton]
  unfold k0_part7_skel
  iapply (load_tile c defs 𝒱 bd arg18 t (off27_eq t) Y) $$ HY
  iintro HY
  iapply (load_half c defs 𝒱 bd arg17 (sl k.val) t (off29_eq p hp k t) f) $$ HV
  iintro HV
  iapply (load_half c defs 𝒱 bd arg17 (sl k.val) t (off29_eq p hp k t) f) $$ HV
  iintro HV
  iapply (ret_wp c defs 𝒱 bd)
  isplitr
  · ipureintro
    rw [hY t t.isLt]
    rfl
  isplitl [HY]; · iexact HY
  isplitl [HV] <;> iassumption

end Patch

/-! ## A trip, the first transfers, the loop -/

section Loop4

/-- A trip's values: the new maximum, the new sum, the new accumulator. -/
def tripE (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) (k : Fin (k0_t4_loop (BitVec.ofNat 32 p)).trips) (a : FVec F S32x128 .f32 × FVec F S32x128 .f32 × FVec F S128x128 .f32) :
    FVec F S32x128 .f32 × FVec F S32x128 .f32 × FVec F S128x128 .f32 :=
  let m := k0_pay43 a.1 (iter (mxE arg16 c p v68 v70 v72 v117 v121 v123 k (slotVal c p arg16 k.val (Fof arg16 c (blkC arg11 c plK pgs k.val)) (newK (BitVec.ofNat 32 p) v30))) k0_pay39 16)
  let x := iter (foldE arg17 c v77 v82 v87 v92 m (sl k.val) (scE arg16 c p v68 v70 v72 v117 v121 v123 k (slotVal c p arg16 k.val (Fof arg16 c (blkC arg11 c plK pgs k.val)) (newK (BitVec.ofNat 32 p) v30))) (slotVal c p arg17 k.val (Fof arg17 c (blkC arg12 c plV pgs k.val)) (newV (BitVec.ofNat 32 p) v41))) (k0_pay85, k0_pay86, k0_pay87) 16
  (m, k0_pay89 a.1 a.2.1 m x.1, k0_pay90 a.1 a.2.2 m x.2.1 x.2.2)

/-- The state after `i` trips. -/
def stateE (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) : FVec F S32x128 .f32 × FVec F S32x128 .f32 × FVec F S128x128 .f32 :=
  iter (fun j : Fin (nb p) => tripE arg11 arg12 arg16 arg17 c plK plV pgs p v30 v41 v68 v70 v72 v77 v82 v87 v92 v117 v121 v123 (Fin.cast (t4_trips p hp).symm j))
    (k0_pay80, k0_pay81, k0_pay82) (nb p)

variable {v19 : BitVec 32} {v30 : FVec F S8x128 .fp8e4m3} {v41 : FVec F S8x128 .fp8e4m3} {k0_h1 : k0_cond1 v1 = 1#1} {v68 : IVec S16x256 1} {v70 : IVec S16x256 1} {v72 : IVec S16x256 1} {v77 : FVec F S16x256 .bf16} {v82 : FVec F S16x256 .bf16} {v87 : FVec F S16x256 .bf16} {v92 : FVec F S16x256 .bf16} {v93 : IVec S32x256 32} {c4 : BitVec 32} {v95 : IVec S32x256 32}

theorem part8_eq (v117 : IVec S32x256 32) (v121 : FVec F S32x256 .f32) (v123 : FVec F S128x256 .bf16) (k : Fin (k0_t4_loop (BitVec.ofNat 32 p)).trips) (arg22 : FVec F S32x128 .f32) :
    k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22
      = headProg (k0_cond3 (BitVec.ofNat 32 p) k = 1#1)
          (fun h => Scf.Loop.for k0_t5_loop k0_t5_ok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (fun h => Scf.Loop.for k0_t6_loop k0_t6_ok ⟨⟩ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (Scf.Loop.for k0_t7_loop k0_t7_ok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (Scf.Loop.for k0_t8_loop k0_t8_ok ⟨⟩ (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (k0_cond4 (BitVec.ofNat 32 p) k = 1#1)
          (fun h => patchProg arg16 harg16 arg17 harg17 p v1 k0_hw3 (v30 := v30) (v41 := v41) (k0_h1 := k0_h1) (k := k) h)
          (Scf.Loop.for k0_t9_loop k0_t9_ok (k0_pay39 (F := F)) (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 (Scalar.remsi (Scf.iv 0#32 1#32 k) 6#32)))
          (fun a => (⟨Scalar.remsi (Scf.iv 0#32 1#32 k) 6#32, k0_pay43 arg22 a⟩ : Σ' (v169 : BitVec 32), FVec F S32x128 .f32)) := by
  rw [k0_part8_eq_skeleton]
  rfl

include htw hp in
theorem t4_wp (Ex : sProp 𝕄) (v118 : Vec F S32x256 .f32) (v122 : Vec F S128x256 .bf16) (k : Fin (k0_t4_loop (BitVec.ofNat 32 p)).trips)
    (a : FVec F S32x128 .f32 × FVec F S32x128 .f32 × FVec F S128x128 .f32) :
    Main c arg16 arg17 arg11 arg12 arg19 arg20 arg18 plK plV pgs arg1 T q Ex (st (nb p) k.val)
      ⊢ wp frame (wpE defs 𝒱 (c : Thread nD τ) bd) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 v118 v122 k a)
        fun r => iprop(⌜r = tripE arg11 arg12 arg16 arg17 c plK plV pgs p v30 v41 v68 v70 v72 v77 v82 v87 v92 (k0_pay77 v93 c4 v95) (k0_pay78 v118) (k0_pay79 v122) k a⌝
          ∗ Main c arg16 arg17 arg11 arg12 arg19 arg20 arg18 plK plV pgs arg1 T q Ex (st (nb p) (k.val + 1))) := by
  obtain ⟨m, l, acc⟩ := a
  have hk : k.val < nb p := lt_of_lt_of_eq k.isLt (t4_trips p hp)
  unfold k0_t4_body
  iintro H
  rw [wp_bind, part8_eq]
  iapply (wp_wand _ _ _) $$ [H]
  · iapply (head_wp c defs 𝒱 bd arg16 arg17 arg11 arg12 arg19 arg20 arg18 plK plV pgs arg1 T q Ex (nb p) k.val hk _ (cond3_iff p hp k) _ _ _ _ _ _ _ _
      (slotVal c p arg16 k.val (Fof arg16 c (blkC arg11 c plK pgs k.val)) (newK (BitVec.ofNat 32 p) v30)) (slotVal c p arg17 k.val (Fof arg17 c (blkC arg12 c plV pgs k.val)) (newV (BitVec.ofNat 32 p) v41)) (scE arg16 c p v68 v70 v72 (k0_pay77 v93 c4 v95) (k0_pay78 v118) (k0_pay79 v122) k (slotVal c p arg16 k.val (Fof arg16 c (blkC arg11 c plK pgs k.val)) (newK (BitVec.ofNat 32 p) v30)))
      (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)
      (fun h => t5_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m) h) (fun h => t6_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m) h)
      (t7_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m)) (t8_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m))
      (fun h => patchProg_wp arg16 harg16 arg17 harg17 c defs 𝒱 bd p hp v1 k0_hw3 (v30 := v30) (v41 := v41) (k0_h1 := k0_h1) (k := k) h _ _)
      (fun h => ?_) (t9_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (v117 := k0_pay77 v93 c4 v95) (v121 := k0_pay78 v118) (v123 := k0_pay79 v122) (k := k) (arg22 := m) Ex _ _)) $$ H
    have h' : ¬ (k.val + 1 = nb p) := fun e => h ((cond4_iff p hp k).mpr e)
    unfold slotVal
    exact ⟨if_neg h', if_neg h'⟩
  iintro %r ⟨%hr, H⟩
  subst hr
  iapply (tail_wp c defs 𝒱 bd arg16 arg17 arg11 arg12 arg19 arg20 arg18 plK plV pgs arg1 T q Ex (nb p) k.val _
    (fun x => ((k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)), k0_pay89 m l (k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)) x.1, k0_pay90 m acc (k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)) x.2.1 x.2.2)) (slotVal c p arg16 k.val (Fof arg16 c (blkC arg11 c plK pgs k.val)) (newK (BitVec.ofNat 32 p) v30)) (slotVal c p arg17 k.val (Fof arg17 c (blkC arg12 c plV pgs k.val)) (newV (BitVec.ofNat 32 p) v41)) _ _
    (fun Y hY => t10_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (k := k) Ex v77 v82 v87 v92 v93 c4 v95 _ (k0_pay43 m (iter (mxE arg16 c p v68 v70 v72 (k0_pay77 v93 c4 v95) (k0_pay78 v118) (k0_pay79 v122) k (slotVal c p arg16 k.val (Fof arg16 c (blkC arg11 c plK pgs k.val)) (newK (BitVec.ofNat 32 p) v30))) k0_pay39 16)) _ _ Y hY)) $$ H

theorem primeS (k : Fin k0_t1_loop.trips) : k0_off2 k = ![(sl k.val).val] := by
  have hk : k.val < 5 := k.isLt
  have : k0_off2 k = ![k.val] := congrArg (fun x : ℕ => ![x]) (prime_off k.val k.isLt 0 (by decide)).2.1
  rw [this]
  show ![k.val] = ![k.val % 6]
  rw [Nat.mod_eq_of_lt (by omega)]

theorem primeB (k : Fin k0_t1_loop.trips) (g : Fin k0_t2_loop.trips) : k0_off3 k g = ![(sl k.val).val, g.val, 0, 0] := by
  have hk : k.val < 5 := k.isLt
  have h := prime_off k.val k.isLt g.val g.isLt
  show ![(Scf.iv 0#32 1#32 k.val : BitVec 32).toNat, (Scf.iv 0#32 1#32 g.val : BitVec 32).toNat, 0, 0] = ![k.val % 6, g.val, 0, 0]
  rw [h.2.1, h.2.2, Nat.mod_eq_of_lt (by omega)]

include htw

theorem t2_wp (k : Fin k0_t1_loop.trips) (h : k0_cond2 (BitVec.ofNat 32 p) k = 1#1) :
    iprop(Table c arg1 T q ∗ Slot arg16 arg11 arg19 c plK pgs (sl k.val) none)
      ⊢ wp frame (wpE defs 𝒱 (c : Thread nD τ) bd) Set.univ
        (Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg16 arg11 arg19 c plK pgs (sl k.val) (some k.val)) :=
  start_block c defs 𝒱 bd arg16 arg11 arg19 plK pgs arg1 T q htw harg16 harg11 k0_t2_loop k0_t2_ok rfl _
    (fun g => k0_off1 k g) (fun g => k0_off1_inb k g)
    (k0_off2 k) (k0_off2_inb k)
    (fun g => k0_off3 k g) (fun g => k0_off3_inb k g)
    (fun g => k0_off3_wordsfp8e4m3 k g)
    (k0_chk1 (BitVec.ofNat 32 p) v1 k) (k0_chk1.dec (BitVec.ofNat 32 p) v1 k)
    (fun w hw => k0_off4_inb (BitVec.ofNat 32 p) v1 k w hw k0_h1 h) (fun w hw => k0_off4_wordsfp8e4m3 (BitVec.ofNat 32 p) v1 k w hw k0_h1 h)
    (fun w hw => chk1 _ _ w hw k) (sl k.val) k.val
    (by have : k.val < 5 := k.isLt; omega)
    (fun g => congrArg (fun x : ℕ => ![x]) (prime_off k.val k.isLt g.val g.isLt).1) (primeS k) (fun g => primeB k g) (fun _ => rfl)

theorem t3_wp (k : Fin k0_t1_loop.trips) (h : k0_cond2 (BitVec.ofNat 32 p) k = 1#1) :
    iprop(Table c arg1 T q ∗ Slot arg17 arg12 arg20 c plV pgs (sl k.val) none)
      ⊢ wp frame (wpE defs 𝒱 (c : Thread nD τ) bd) Set.univ
        (Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg17 arg12 arg20 c plV pgs (sl k.val) (some k.val)) :=
  start_block c defs 𝒱 bd arg17 arg12 arg20 plV pgs arg1 T q htw harg17 harg12 k0_t3_loop k0_t3_ok rfl _
    (fun g => k0_off5 k g) (fun g => k0_off5_inb k g)
    (k0_off6 k) (k0_off6_inb k)
    (fun g => k0_off7 k g) (fun g => k0_off7_inb k g)
    (fun g => k0_off7_wordsfp8e4m3 k g)
    (k0_chk2 (BitVec.ofNat 32 p) v1 k) (k0_chk2.dec (BitVec.ofNat 32 p) v1 k)
    (fun w hw => k0_off8_inb (BitVec.ofNat 32 p) v1 k w hw k0_h1 h) (fun w hw => k0_off8_wordsfp8e4m3 (BitVec.ofNat 32 p) v1 k w hw k0_h1 h)
    (fun w hw => chk2 _ _ w hw k) (sl k.val) k.val
    (by have : k.val < 5 := k.isLt; omega)
    (fun g => congrArg (fun x : ℕ => ![x]) (prime_off k.val k.isLt g.val g.isLt).1) (primeS k) (fun g => primeB k g) (fun _ => rfl)

include hp in
theorem t1_wp (Ex : sProp 𝕄) :
    Main c arg16 arg17 arg11 arg12 arg19 arg20 arg18 plK plV pgs arg1 T q Ex (fun _ => none)
      ⊢ wp frame (wpE defs 𝒱 (c : Thread nD τ) bd) Set.univ (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95))
        fun _ => Main c arg16 arg17 arg11 arg12 arg19 arg20 arg18 plK plV pgs arg1 T q Ex (st (nb p) 0) := by
  iintro H
  iapply (wp_wand _ _ _) $$ [H]
  · rw [← st0_zero (nb p)]
    iapply (carry_loop c defs 𝒱 bd (n := 5) k0_t1_loop k0_t1_ok rfl () _ (fun (_ : Fin 5) _ => ()) (fun k => Main c arg16 arg17 arg11 arg12 arg19 arg20 arg18 plK plV pgs arg1 T q Ex (st0 (nb p) k)) fun j t ht a => ?_) $$ H
    obtain rfl : t = j := Fin.ext ht
    iintro H
    unfold k0_t1_body
    iapply (start_wp c defs 𝒱 bd arg16 arg17 arg11 arg12 arg19 arg20 arg18 plK plV pgs arg1 T q Ex (nb p) t.val _ (cond2_iff p hp t) _ _ (fun _ => pure ())
      (fun h => t2_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) (fun h => t3_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) _ (st0_free _ _ t.isLt))
    isplitl [H]; · iexact H
    rw [st0_start _ _ t.isLt]
    iintro H
    iapply (ret_wp c defs 𝒱 bd)
    isplitr
    · ipureintro; rfl
    iexact H
  rw [st0_five]
  iintro %r ⟨-, H⟩
  iexact H

/-- The whole of a buffer, as a load reads it. -/
abbrev rd9 (X9 : Buf (Elt F) (arg9.view.loc (c : Thread nD τ))) : Vec F S32x256 .f32 :=
  (arg9.access (Rect.unit (s := S32x256) ![0, 0] S32x256.size inb_S32x256_S32x256_0_0)).read (Elt F) X9
abbrev rd2 (X2 : Buf (Elt F) (arg2.view.loc (c : Thread nD τ))) : Vec F S128x256 .bf16 :=
  (arg2.access (Rect.unit (s := S128x256) ![0, 0] S128x256.size inb_S128x256_S128x256_0_0)).read (Elt F) X2

include hp in
theorem part18_wp (Ex : sProp 𝕄) (q9 q2 : PosShare TreeShare) (X9 : Buf (Elt F) (arg9.view.loc (c : Thread nD τ))) (X2 : Buf (Elt F) (arg2.view.loc (c : Thread nD τ))) :
    iprop((arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q Ex (fun _ => none))
      ⊢ wp frame (wpE defs 𝒱 (c : Thread nD τ) bd) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95)
        fun r => iprop(⌜r = (⟨k0_pay77 v93 c4 v95, k0_pay78 (rd9 arg9 c X9), k0_pay79 (rd2 arg2 c X2), Scalar.addi 0#32 (Scalar.muli (Scalar.divsi (Scalar.subi v19 0#32) 1#32) 1#32),
            (stateE arg11 arg12 arg16 arg17 c plK plV pgs p hp v30 v41 v68 v70 v72 v77 v82 v87 v92 (k0_pay77 v93 c4 v95) (k0_pay78 (rd9 arg9 c X9)) (k0_pay79 (rd2 arg2 c X2))).1, (stateE arg11 arg12 arg16 arg17 c plK plV pgs p hp v30 v41 v68 v70 v72 v77 v82 v87 v92 (k0_pay77 v93 c4 v95) (k0_pay78 (rd9 arg9 c X9)) (k0_pay79 (rd2 arg2 c X2))).2.1, (stateE arg11 arg12 arg16 arg17 c plK plV pgs p hp v30 v41 v68 v70 v72 v77 v82 v87 v92 (k0_pay77 v93 c4 v95) (k0_pay78 (rd9 arg9 c X9)) (k0_pay79 (rd2 arg2 c X2))).2.2⟩ :
            Σ' (v117 : IVec S32x256 32) (v121 : FVec F S32x256 .f32) (v123 : FVec F S128x256 .bf16) (v132 : BitVec 32) (v133_0 : FVec F S32x128 .f32) (v133_1 : FVec F S32x128 .f32), FVec F S128x128 .f32)⌝
          ∗ (arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q Ex (fun _ => none)) := by
  rw [k0_part18_eq_skeleton]
  unfold k0_part18_skel
  iintro ⟨H9, H2, HM⟩
  iapply (load_any c defs 𝒱 bd arg9 _ q9 X9) $$ H9
  iintro H9
  iapply (load_any c defs 𝒱 bd arg2 _ q2 X2) $$ H2
  iintro H2
  iapply (ret_bind_wp c defs 𝒱 bd _ _)
  iapply (bind_wp c defs 𝒱 bd _ _)
  iapply (wp_wand _ _ _) $$ [HM]
  · iapply (t1_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) Ex) $$ HM
  iintro %r HM
  iapply (bind_wp c defs 𝒱 bd _ _)
  iapply (wp_wand _ _ _) $$ [HM]
  · iapply (carry_loop c defs 𝒱 bd (n := nb p) (k0_t4_loop (BitVec.ofNat 32 p)) (k0_t4_ok (BitVec.ofNat 32 p) v1 k0_hw3 k0_h1) (t4_trips p hp) (k0_pay80 (F := F), k0_pay81 (F := F), k0_pay82 (F := F))
      (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 (rd9 arg9 c X9) (rd2 arg2 c X2))
      (fun j : Fin (nb p) => tripE arg11 arg12 arg16 arg17 c plK plV pgs p v30 v41 v68 v70 v72 v77 v82 v87 v92 (k0_pay77 v93 c4 v95) (k0_pay78 (rd9 arg9 c X9)) (k0_pay79 (rd2 arg2 c X2)) (Fin.cast (t4_trips p hp).symm j))
      (fun k => Main c arg16 arg17 arg11 arg12 arg19 arg20 arg18 plK plV pgs arg1 T q Ex (st (nb p) k)) fun j t ht a => ?_) $$ HM
    obtain rfl : t = Fin.cast (t4_trips p hp).symm j := Fin.ext ht
    exact t4_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) Ex (rd9 arg9 c X9) (rd2 arg2 c X2) (Fin.cast (t4_trips p hp).symm j) a
  iintro %r ⟨%hr, HM⟩
  subst hr
  rw [st_end]
  iapply (ret_wp c defs 𝒱 bd)
  isplitr
  · ipureintro; rfl
  isplitl [H9]; · iexact H9
  isplitl [H2]; · iexact H2
  iexact HM

end Loop4

end Cert.Kernel.Hand
-- ==== Proof.Bits.Widen.lean ====
/-
  The same as the module of this name one directory up, for the kernel with its constants as printed.
  The parts of a trip where the scales are not powers of two: the printed loops as the ring's lemmas read them, and the
  values the trip computes.
-/
module

public import proofs.«01_k».proof.Proof.Bits.Exact

@[expose] public section

set_option synthInstance.maxSize 4096

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)
  (T : Buf (Elt F) (arg1.view.loc (c : Thread nD τ))) (q : PosShare TreeShare)
variable (htw : ∀ i < 1024, (tw (F := F) arg1 T i).toNat = (pgs i).val)
variable (p : ℕ) (hp : p < 131072) (v1 : Elt F .i32) (k0_hw3 : k0_chk3 (BitVec.ofNat 32 p) v1)

section Blocks4

variable (v19 : BitVec 32) (v30 : FVec F S8x128 .fp8e4m3) (v41 : FVec F S8x128 .fp8e4m3) (k0_h1 : k0_cond7 v1 = 1#1) (v68 : IVec S16x256 1) (v70 : IVec S16x256 1) (v72 : IVec S16x256 1) (v117 : IVec S32x256 32) (v121 : FVec F S32x256 .f32) (v123 : FVec F S128x256 .bf16) (k : Fin (k0_t21_loop (BitVec.ofNat 32 p)).trips) (arg22 : FVec F S32x128 .f32)
include htw hp

theorem t22_wp (h : k0_cond9 (BitVec.ofNat 32 p) k = 1#1) :
    iprop(Table c arg1 T q ∗ Slot arg16 arg11 arg19 c plK pgs (sl (k.val + 5)) none)
      ⊢ wp frame (wpE defs 𝒱 (c : Thread nD τ) bd) Set.univ
        (Scf.Loop.for k0_t22_loop k0_t22_ok ⟨⟩ (k0_t22_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg16 arg11 arg19 c plK pgs (sl (k.val + 5)) (some (k.val + 5))) :=
  start_block c defs 𝒱 bd arg16 arg11 arg19 plK pgs arg1 T q htw harg16 harg11 k0_t22_loop k0_t22_ok rfl _
    (fun g => k0_off59 (BitVec.ofNat 32 p) k g) (fun g => k0_off59_inb (BitVec.ofNat 32 p) v1 k0_hw3 k g k0_h1 h)
    (k0_off60 (BitVec.ofNat 32 p) k) (k0_off60_inb (BitVec.ofNat 32 p) v1 k0_hw3 k k0_h1 h)
    (fun g => k0_off61 (BitVec.ofNat 32 p) k g) (fun g => k0_off61_inb (BitVec.ofNat 32 p) v1 k0_hw3 k g k0_h1 h)
    (fun g => k0_off61_wordsfp8e4m3 (BitVec.ofNat 32 p) v1 k0_hw3 k g k0_h1 h)
    (k0_chk14 (BitVec.ofNat 32 p) v1 k) (k0_chk14.dec (BitVec.ofNat 32 p) v1 k)
    (fun w hw => k0_off62_inb (BitVec.ofNat 32 p) v1 k w hw k0_h1 h) (fun w hw => k0_off62_wordsfp8e4m3 (BitVec.ofNat 32 p) v1 k w hw k0_h1 h)
    (fun w hw => chk14 _ _ w hw k) (sl (k.val + 5)) (k.val + 5)
    (by have := (cond9_iff p hp k).mp h; have := nb_lt hp; omega)
    (fun g => off9_eq p hp k g) (off10_eq p hp k) (fun g => off11_eq p hp k g) (fun _ => rfl)

theorem t23_wp (h : k0_cond9 (BitVec.ofNat 32 p) k = 1#1) :
    iprop(Table c arg1 T q ∗ Slot arg17 arg12 arg20 c plV pgs (sl (k.val + 5)) none)
      ⊢ wp frame (wpE defs 𝒱 (c : Thread nD τ) bd) Set.univ
        (Scf.Loop.for k0_t23_loop k0_t23_ok ⟨⟩ (k0_t23_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
        fun _ => iprop(Table c arg1 T q ∗ Slot arg17 arg12 arg20 c plV pgs (sl (k.val + 5)) (some (k.val + 5))) :=
  start_block c defs 𝒱 bd arg17 arg12 arg20 plV pgs arg1 T q htw harg17 harg12 k0_t23_loop k0_t23_ok rfl _
    (fun g => k0_off63 (BitVec.ofNat 32 p) k g) (fun g => k0_off63_inb (BitVec.ofNat 32 p) v1 k0_hw3 k g k0_h1 h)
    (k0_off64 (BitVec.ofNat 32 p) k) (k0_off64_inb (BitVec.ofNat 32 p) v1 k0_hw3 k k0_h1 h)
    (fun g => k0_off65 (BitVec.ofNat 32 p) k g) (fun g => k0_off65_inb (BitVec.ofNat 32 p) v1 k0_hw3 k g k0_h1 h)
    (fun g => k0_off65_wordsfp8e4m3 (BitVec.ofNat 32 p) v1 k0_hw3 k g k0_h1 h)
    (k0_chk15 (BitVec.ofNat 32 p) v1 k) (k0_chk15.dec (BitVec.ofNat 32 p) v1 k)
    (fun w hw => k0_off66_inb (BitVec.ofNat 32 p) v1 k w hw k0_h1 h) (fun w hw => k0_off66_wordsfp8e4m3 (BitVec.ofNat 32 p) v1 k w hw k0_h1 h)
    (fun w hw => chk15 _ _ w hw k) (sl (k.val + 5)) (k.val + 5)
    (by have := (cond9_iff p hp k).mp h; have := nb_lt hp; omega)
    (fun g => off9_eq p hp k g) (off10_eq p hp k) (fun g => off11_eq p hp k g) (fun _ => rfl)

theorem t24_wp :
    iprop(Table c arg1 T q ∗ Slot arg16 arg11 arg19 c plK pgs (sl k.val) (some k.val) ∗ Owes c)
      ⊢ wp frame (wpE defs 𝒱 (c : Thread nD τ) bd) Set.univ
        (Scf.Loop.for k0_t24_loop k0_t24_ok ⟨⟩ (k0_t24_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg16 arg11 arg19 c plK (sl k.val) (Fof arg16 c (blkC arg11 c plK pgs k.val)) ∗ Owes c) :=
  wait_block c defs 𝒱 bd arg16 arg11 arg19 plK pgs arg1 T q htw harg16 harg11 k0_t24_loop k0_t24_ok rfl _
    (fun g => k0_off67 (BitVec.ofNat 32 p) k g) (fun g => k0_off67_inb (BitVec.ofNat 32 p) v1 k0_hw3 k g k0_h1)
    (k0_off68 (BitVec.ofNat 32 p) k) (k0_off68_inb (BitVec.ofNat 32 p) v1 k0_hw3 k k0_h1)
    (fun g => k0_off69 (BitVec.ofNat 32 p) k g) (fun g => k0_off69_inb (BitVec.ofNat 32 p) v1 k0_hw3 k g k0_h1)
    (fun g => k0_off69_wordsfp8e4m3 (BitVec.ofNat 32 p) v1 k0_hw3 k g k0_h1)
    (k0_chk16 v1) (k0_chk16.dec v1)
    (fun w hw => k0_off70_inb v1 w hw k0_h1) (fun w hw => k0_off70_wordsfp8e4m3 v1 w hw k0_h1)
    (fun w hw => chk16 _ w hw) (sl k.val) k.val
    (by have := lt_of_lt_of_eq k.isLt (t21_trips p hp); have := nb_lt hp; omega)
    (fun g => off17_eq p hp k g) (off18_eq p hp k) (fun g => off19_eq p hp k g) (fun _ => rfl)

theorem t25_wp :
    iprop(Table c arg1 T q ∗ Slot arg17 arg12 arg20 c plV pgs (sl k.val) (some k.val) ∗ Owes c)
      ⊢ wp frame (wpE defs 𝒱 (c : Thread nD τ) bd) Set.univ
        (Scf.Loop.for k0_t25_loop k0_t25_ok ⟨⟩ (k0_t25_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
        fun _ => iprop(Table c arg1 T q ∗ Held arg17 arg12 arg20 c plV (sl k.val) (Fof arg17 c (blkC arg12 c plV pgs k.val)) ∗ Owes c) :=
  wait_block c defs 𝒱 bd arg17 arg12 arg20 plV pgs arg1 T q htw harg17 harg12 k0_t25_loop k0_t25_ok rfl _
    (fun g => k0_off71 (BitVec.ofNat 32 p) k g) (fun g => k0_off71_inb (BitVec.ofNat 32 p) v1 k0_hw3 k g k0_h1)
    (k0_off72 (BitVec.ofNat 32 p) k) (k0_off72_inb (BitVec.ofNat 32 p) v1 k0_hw3 k k0_h1)
    (fun g => k0_off73 (BitVec.ofNat 32 p) k g) (fun g => k0_off73_inb (BitVec.ofNat 32 p) v1 k0_hw3 k g k0_h1)
    (fun g => k0_off73_wordsfp8e4m3 (BitVec.ofNat 32 p) v1 k0_hw3 k g k0_h1)
    (k0_chk17 v1) (k0_chk17.dec v1)
    (fun w hw => k0_off74_inb v1 w hw k0_h1) (fun w hw => k0_off74_wordsfp8e4m3 v1 w hw k0_h1)
    (fun w hw => chk17 _ w hw) (sl k.val) k.val
    (by have := lt_of_lt_of_eq k.isLt (t21_trips p hp); have := nb_lt hp; omega)
    (fun g => off17_eq p hp k g) (off18_eq p hp k) (fun g => off19_eq p hp k g) (fun _ => rfl)

end Blocks4

/-! ## The new token, the scores, the fold -/

/-- What the store of the new key writes over the four rows `x`. -/
abbrev newKW (v0 : BitVec 32) (v30 : FVec F S8x128 .fp8e4m3) (x : Vec F S1x1x32x128 .fp8e4m3) : FVec F S1x1x32x128 .fp8e4m3 :=
  k0_pay96 (tokW v0) (k0_pay91 x) (k0_pay92 v30) k0_pay93 k0_pay94 k0_pay95
abbrev newVW (v0 : BitVec 32) (v41 : FVec F S8x128 .fp8e4m3) (x : Vec F S1x1x32x128 .fp8e4m3) : FVec F S1x1x32x128 .fp8e4m3 :=
  k0_pay108 (k0_pay99 (tokW v0) (k0_pay97 x) (k0_pay98 v41) (iota .tc S32x128 32 [0] iota_S32x128_d0_w32))

section Patch

variable {v19 : BitVec 32} {v30 : FVec F S8x128 .fp8e4m3} {v41 : FVec F S8x128 .fp8e4m3} {k0_h1 : k0_cond7 v1 = 1#1} {v68 : IVec S16x256 1} {v70 : IVec S16x256 1} {v72 : IVec S16x256 1} {v117 : IVec S32x256 32} {v121 : FVec F S32x256 .f32} {v123 : FVec F S128x256 .bf16} {k : Fin (k0_t21_loop (BitVec.ofNat 32 p)).trips} {arg22 : FVec F S32x128 .f32}

/-- The patch, as one chain of loads and stores. -/
def patchProgW (h4 : k0_cond10 (BitVec.ofNat 32 p) k = 1#1) : Prog (TpuEff nD τ sig (Elt F) Λ₀ .tc) Unit := do
  let x ← Prog.lift (.load arg16 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  let _ ← Prog.lift (.load arg16 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  Prog.lift (.store arg16 (Rect.unit (s := S6x8x1024x128) (k0_off75 (BitVec.ofNat 32 p) k) S1x1x32x128.size (k0_off75_inb (BitVec.ofNat 32 p) v1 k0_hw3 k k0_h1 h4)) (newKW (BitVec.ofNat 32 p) v30 x) Finset.univ (View.stores_vmem h_S1x1x32x128 (harg16.storeExact_slice rfl _ (k0_off75_packedfp8e4m3 (BitVec.ofNat 32 p) v1 k0_hw3 k k0_h1 h4)) (fun _ => rfl)) (.inl rfl))
  let y ← Prog.lift (.load arg17 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  let _ ← Prog.lift (.load arg17 (Rect.unit (s := S6x8x1024x128) (k0_off75 (BitVec.ofNat 32 p) k) S1x1x32x128.size (k0_off75_inb (BitVec.ofNat 32 p) v1 k0_hw3 k k0_h1 h4)).toLoadRect (View.loadsAt_vmem h_S1x1x32x128))
  Prog.lift (.store arg17 (Rect.unit (s := S6x8x1024x128) (k0_off75 (BitVec.ofNat 32 p) k) S1x1x32x128.size (k0_off75_inb (BitVec.ofNat 32 p) v1 k0_hw3 k k0_h1 h4)) (newVW (BitVec.ofNat 32 p) v41 y) Finset.univ (View.stores_vmem h_S1x1x32x128 (harg17.storeExact_slice rfl _ (k0_off75_packedfp8e4m3 (BitVec.ofNat 32 p) v1 k0_hw3 k k0_h1 h4)) (fun _ => rfl)) (.inl rfl))
  pure ⟨⟩

include hp

theorem patchProgW_wp (h4 : k0_cond10 (BitVec.ofNat 32 p) k = 1#1)
    (gk : Buf (Elt F) (arg16.view.loc (c : Thread nD τ))) (gv : Buf (Elt F) (arg17.view.loc (c : Thread nD τ))) :
    iprop(slotPt c arg16 (sl k.val) gk ∗ slotPt c arg17 (sl k.val) gv)
      ⊢ wp frame (wpE defs 𝒱 (c : Thread nD τ) bd) Set.univ (patchProgW arg16 harg16 arg17 harg17 p v1 k0_hw3 (v30 := v30) (v41 := v41) (k0_h1 := k0_h1) (k := k) h4)
        fun _ => iprop(slotPt c arg16 (sl k.val) (slotVal c p arg16 k.val gk (newKW (BitVec.ofNat 32 p) v30)) ∗ slotPt c arg17 (sl k.val) (slotVal c p arg17 k.val gv (newVW (BitVec.ofNat 32 p) v41))) := by
  have e : k0_off75 (BitVec.ofNat 32 p) k = ![(sl k.val).val, (gOf p).val, (rOf p).val * 32, 0] := off25_eq p hp k
  unfold patchProgW slotVal
  rw [if_pos ((cond10_iff p hp k).mp h4), if_pos ((cond10_iff p hp k).mp h4)]
  iintro ⟨HK, HV⟩
  iapply (load_quad c defs 𝒱 bd arg16 (sl k.val) (gOf p) (rOf p) e gk) $$ HK
  iintro HK
  iapply (load_quad c defs 𝒱 bd arg16 (sl k.val) (gOf p) (rOf p) e gk) $$ HK
  iintro HK
  iapply (store_quad c defs 𝒱 bd arg16 (sl k.val) (gOf p) (rOf p) e gk) $$ HK
  iintro HK
  iapply (load_quad c defs 𝒱 bd arg17 (sl k.val) (gOf p) (rOf p) e gv) $$ HV
  iintro HV
  iapply (load_quad c defs 𝒱 bd arg17 (sl k.val) (gOf p) (rOf p) e gv) $$ HV
  iintro HV
  iapply (store_quad c defs 𝒱 bd arg17 (sl k.val) (gOf p) (rOf p) e gv) $$ HV
  iintro HV
  iapply (ret_wp c defs 𝒱 bd)
  isplitl [HK] <;> iassumption

/-- The two matrices of multiples: what the keys and the values are spread with. -/
abbrev rd7 (i : Fin 2) (X7 : Buf (Elt F) (arg7.view.loc (c : Thread nD τ))) : Vec F S1x256x128 .bf16 :=
  match i with
  | 0 => (arg7.access (Rect.unit (s := S2x256x128) ![0, 0, 0] S1x256x128.size inb_S2x256x128_S1x256x128_0_0_0)).read (Elt F) X7
  | 1 => (arg7.access (Rect.unit (s := S2x256x128) ![1, 0, 0] S1x256x128.size inb_S2x256x128_S1x256x128_1_0_0)).read (Elt F) X7
abbrev rd8 (i : Fin 2) (X8 : Buf (Elt F) (arg8.view.loc (c : Thread nD τ))) : Vec F S1x256x128 .bf16 :=
  match i with
  | 0 => (arg8.access (Rect.unit (s := S2x256x128) ![0, 0, 0] S1x256x128.size inb_S2x256x128_S1x256x128_0_0_0)).read (Elt F) X8
  | 1 => (arg8.access (Rect.unit (s := S2x256x128) ![1, 0, 0] S1x256x128.size inb_S2x256x128_S1x256x128_1_0_0)).read (Elt F) X8

/-- The two matrices, held. -/
abbrev Ex78 (q7 q8 : PosShare TreeShare) (X7 : Buf (Elt F) (arg7.view.loc (c : Thread nD τ))) (X8 : Buf (Elt F) (arg8.view.loc (c : Thread nD τ))) : sProp 𝕄 :=
  iprop((arg7.view.loc (c : Thread nD τ) ↦[Finset.univ]{q7} X7) ∗ (arg8.view.loc (c : Thread nD τ) ↦[Finset.univ]{q8} X8))

/-- The scores of half page `j` of the block in `f`. -/
def scW (X7 : Buf (Elt F) (arg7.view.loc (c : Thread nD τ))) (v68 v70 v72 : IVec S16x256 1) (v117 : IVec S32x256 32) (v121 : FVec F S32x256 .f32) (v123 : FVec F S128x256 .bf16) (k : Fin (k0_t21_loop (BitVec.ofNat 32 p)).trips)
    (f : Buf (Elt F) (arg16.view.loc (c : Thread nD τ))) (j : Fin 16) : FVec F S32x256 .f32 :=
  k0_pay111 (BitVec.ofNat 32 p) v70 v72 v117 v121 0#32 1#32 k (Scf.iv 0#32 1#32 j.val)
    (k0_pay100 v123 (half c arg16 (sl k.val) j f) (rd7 arg7 c 0 X7) (half c arg16 (sl k.val) j f) (rd7 arg7 c 1 X7))
    (k0_pay101 v123 (half c arg16 (sl k.val) j f) (rd7 arg7 c 0 X7) (half c arg16 (sl k.val) j f) (rd7 arg7 c 1 X7)) (k0_pay102 v68)
def mxW (X7 : Buf (Elt F) (arg7.view.loc (c : Thread nD τ))) (v68 v70 v72 : IVec S16x256 1) (v117 : IVec S32x256 32) (v121 : FVec F S32x256 .f32) (v123 : FVec F S128x256 .bf16) (k : Fin (k0_t21_loop (BitVec.ofNat 32 p)).trips)
    (f : Buf (Elt F) (arg16.view.loc (c : Thread nD τ))) (j : Fin 16) (a : FVec F S32x128 .f32) : FVec F S32x128 .f32 :=
  k0_pay112 (BitVec.ofNat 32 p) v70 v72 v117 v121 0#32 1#32 k a (Scf.iv 0#32 1#32 j.val)
    (k0_pay100 v123 (half c arg16 (sl k.val) j f) (rd7 arg7 c 0 X7) (half c arg16 (sl k.val) j f) (rd7 arg7 c 1 X7))
    (k0_pay101 v123 (half c arg16 (sl k.val) j f) (rd7 arg7 c 0 X7) (half c arg16 (sl k.val) j f) (rd7 arg7 c 1 X7)) (k0_pay102 v68)

theorem t26_wp (q7 q8 : PosShare TreeShare) (X7 : Buf (Elt F) (arg7.view.loc (c : Thread nD τ))) (X8 : Buf (Elt F) (arg8.view.loc (c : Thread nD τ))) (v169 : BitVec 32) (f : Buf (Elt F) (arg16.view.loc (c : Thread nD τ))) :
    iprop((∃ Y : Buf (Elt F) (arg18.view.loc (c : Thread nD τ)), tPt c arg18 Y) ∗ slotPt c arg16 (sl k.val) f ∗ (Ex78 arg7 arg8 c q7 q8 X7 X8))
      ⊢ wp frame (wpE defs 𝒱 (c : Thread nD τ) bd) Set.univ (Scf.Loop.for k0_t26_loop k0_t26_ok (k0_pay109 (F := F)) (k0_t26_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 v169))
        fun r => iprop(⌜r = iter (mxW arg7 arg16 c p X7 v68 v70 v72 v117 v121 v123 k f) k0_pay109 16⌝
          ∗ (∃ Y : Buf (Elt F) (arg18.view.loc (c : Thread nD τ)), ⌜TileOK c arg18 16 (scW arg7 arg16 c p X7 v68 v70 v72 v117 v121 v123 k f) Y⌝ ∗ tPt c arg18 Y) ∗ slotPt c arg16 (sl k.val) f ∗ (Ex78 arg7 arg8 c q7 q8 X7 X8)) := by
  refine score_loop c defs 𝒱 bd arg18 iprop(slotPt c arg16 (sl k.val) f ∗ (Ex78 arg7 arg8 c q7 q8 X7 X8)) k0_t26_loop k0_t26_ok rfl k0_pay109 _ _ _ fun j t ht a Y => ?_
  obtain rfl : t = j := Fin.ext ht
  iintro ⟨HY, HK, H7, H8⟩
  unfold k0_t26_body
  rw [k0_part24_eq_skeleton]
  unfold k0_part24_skel
  iapply (load_half c defs 𝒱 bd arg16 (sl k.val) t (off26_eq p hp k t) f) $$ HK
  iintro HK
  iapply (load_any c defs 𝒱 bd arg7 _ q7 X7) $$ H7
  iintro H7
  iapply (load_half c defs 𝒱 bd arg16 (sl k.val) t (off26_eq p hp k t) f) $$ HK
  iintro HK
  iapply (load_any c defs 𝒱 bd arg7 _ q7 X7) $$ H7
  iintro H7
  iapply (load_tile c defs 𝒱 bd arg18 t (off27_eq t) Y) $$ HY
  iintro HY
  iapply (store_tile c defs 𝒱 bd arg18 t (off27_eq t) Y) $$ HY
  iintro HY
  iapply (ret_wp c defs 𝒱 bd)
  isplitr
  · ipureintro; rfl
  isplitl [HY]; · iexact HY
  isplitl [HK]; · iexact HK
  isplitl [H7] <;> iassumption

/-- One half page folded into the sum and the two halves of the accumulator. -/
def foldW (X8 : Buf (Elt F) (arg8.view.loc (c : Thread nD τ))) (v77 v82 v87 v92 : FVec F S16x256 .bf16) (v196 : FVec F S32x128 .f32) (s : Fin 6)
    (P : Fin 16 → FVec F S32x256 .f32) (f : Buf (Elt F) (arg17.view.loc (c : Thread nD τ))) (j : Fin 16)
    (a : FVec F S32x128 .f32 × FVec F S64x128 .f32 × FVec F S64x128 .f32) : FVec F S32x128 .f32 × FVec F S64x128 .f32 × FVec F S64x128 .f32 :=
  (k0_pay104 (k0_pay153 v196) a.1 (P j), k0_pay106 v77 v82 v87 v92 (k0_pay153 v196) a.2.1 (P j) (half c arg17 s j f) (rd8 arg8 c 0 X8),
    k0_pay157 a.2.2 (k0_pay107 v77 v82 v87 v92 (k0_pay153 v196) (P j)) (half c arg17 s j f) (rd8 arg8 c 1 X8))

theorem t27_wp (q7 q8 : PosShare TreeShare) (X7 : Buf (Elt F) (arg7.view.loc (c : Thread nD τ))) (X8 : Buf (Elt F) (arg8.view.loc (c : Thread nD τ))) (v77 v82 v87 v92 : FVec F S16x256 .bf16) (v93 : IVec S32x256 32) (c4 : BitVec 32) (v95 : IVec S32x256 32) (v169 : BitVec 32) (v196 : FVec F S32x128 .f32)
    (P : Fin 16 → FVec F S32x256 .f32) (f : Buf (Elt F) (arg17.view.loc (c : Thread nD τ)))
    (Y : Buf (Elt F) (arg18.view.loc (c : Thread nD τ))) (hY : TileOK c arg18 16 P Y) :
    iprop(tPt c arg18 Y ∗ slotPt c arg17 (sl k.val) f ∗ (Ex78 arg7 arg8 c q7 q8 X7 X8))
      ⊢ wp frame (wpE defs 𝒱 (c : Thread nD τ) bd) Set.univ (Scf.Loop.for k0_t27_loop k0_t27_ok (k0_pay154 (F := F), k0_pay155 (F := F), k0_pay156 (F := F))
          (k0_t27_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k v169 v196))
        fun r => iprop(⌜r = iter (foldW arg8 arg17 c X8 v77 v82 v87 v92 v196 (sl k.val) P f) (k0_pay154, k0_pay155, k0_pay156) 16⌝
          ∗ tPt c arg18 Y ∗ slotPt c arg17 (sl k.val) f ∗ (Ex78 arg7 arg8 c q7 q8 X7 X8)) := by
  refine carry_loop c defs 𝒱 bd k0_t27_loop k0_t27_ok rfl _ _ _ (fun _ => iprop(tPt c arg18 Y ∗ slotPt c arg17 (sl k.val) f ∗ (Ex78 arg7 arg8 c q7 q8 X7 X8))) fun j t ht a => ?_
  obtain rfl : t = j := Fin.ext ht
  obtain ⟨a, b, d⟩ := a
  iintro ⟨HY, HV, H7, H8⟩
  unfold k0_t27_body
  rw [k0_part25_eq_skeleton]
  unfold k0_part25_skel
  iapply (load_tile c defs 𝒱 bd arg18 t (off27_eq t) Y) $$ HY
  iintro HY
  iapply (load_half c defs 𝒱 bd arg17 (sl k.val) t (off29_eq p hp k t) f) $$ HV
  iintro HV
  iapply (load_any c defs 𝒱 bd arg8 _ q8 X8) $$ H8
  iintro H8
  iapply (load_half c defs 𝒱 bd arg17 (sl k.val) t (off29_eq p hp k t) f) $$ HV
  iintro HV
  iapply (load_any c defs 𝒱 bd arg8 _ q8 X8) $$ H8
  iintro H8
  iapply (ret_wp c defs 𝒱 bd)
  isplitr
  · ipureintro
    rw [hY t t.isLt]
    rfl
  isplitl [HY]; · iexact HY
  isplitl [HV]; · iexact HV
  isplitl [H7] <;> iassumption

end Patch

/-! ## A trip, the first transfers, the loop -/

section Loop4

/-- A trip's values: the new maximum, the new sum, the new accumulator. -/
def tripW (X7 : Buf (Elt F) (arg7.view.loc (c : Thread nD τ))) (X8 : Buf (Elt F) (arg8.view.loc (c : Thread nD τ))) (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) (k : Fin (k0_t21_loop (BitVec.ofNat 32 p)).trips) (a : FVec F S32x128 .f32 × FVec F S32x128 .f32 × FVec F S128x128 .f32) :
    FVec F S32x128 .f32 × FVec F S32x128 .f32 × FVec F S128x128 .f32 :=
  let m := k0_pay113 a.1 (iter (mxW arg7 arg16 c p X7 v68 v70 v72 v117 v121 v123 k (slotVal c p arg16 k.val (Fof arg16 c (blkC arg11 c plK pgs k.val)) (newKW (BitVec.ofNat 32 p) v30))) k0_pay109 16)
  let x := iter (foldW arg8 arg17 c X8 v77 v82 v87 v92 m (sl k.val) (scW arg7 arg16 c p X7 v68 v70 v72 v117 v121 v123 k (slotVal c p arg16 k.val (Fof arg16 c (blkC arg11 c plK pgs k.val)) (newKW (BitVec.ofNat 32 p) v30))) (slotVal c p arg17 k.val (Fof arg17 c (blkC arg12 c plV pgs k.val)) (newVW (BitVec.ofNat 32 p) v41))) (k0_pay154, k0_pay155, k0_pay156) 16
  (m, k0_pay158 a.1 a.2.1 m x.1, k0_pay159 a.1 a.2.2 m x.2.1 x.2.2)

/-- The state after `i` trips. -/
def stateW (X7 : Buf (Elt F) (arg7.view.loc (c : Thread nD τ))) (X8 : Buf (Elt F) (arg8.view.loc (c : Thread nD τ))) (v30 v41 : FVec F S8x128 .fp8e4m3) (v68 v70 v72 : IVec S16x256 1) (v77 v82 v87 v92 : FVec F S16x256 .bf16) (v117 : IVec S32x256 32) (v121 : FVec F S32x256 .f32) (v123 : FVec F S128x256 .bf16) : FVec F S32x128 .f32 × FVec F S32x128 .f32 × FVec F S128x128 .f32 :=
  iter (fun j : Fin (nb p) => tripW arg7 arg8 arg11 arg12 arg16 arg17 c plK plV pgs p X7 X8 v30 v41 v68 v70 v72 v77 v82 v87 v92 v117 v121 v123 (Fin.cast (t21_trips p hp).symm j))
    (k0_pay149, k0_pay150, k0_pay151) (nb p)

variable {v19 : BitVec 32} {v30 : FVec F S8x128 .fp8e4m3} {v41 : FVec F S8x128 .fp8e4m3} {k0_h1 : k0_cond7 v1 = 1#1} {v68 : IVec S16x256 1} {v70 : IVec S16x256 1} {v72 : IVec S16x256 1} {v77 : FVec F S16x256 .bf16} {v82 : FVec F S16x256 .bf16} {v87 : FVec F S16x256 .bf16} {v92 : FVec F S16x256 .bf16} {v93 : IVec S32x256 32} {c4 : BitVec 32} {v95 : IVec S32x256 32}

theorem part26_eq (v117 : IVec S32x256 32) (v121 : FVec F S32x256 .f32) (v123 : FVec F S128x256 .bf16) (k : Fin (k0_t21_loop (BitVec.ofNat 32 p)).trips) (arg22 : FVec F S32x128 .f32) :
    k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22
      = headProg (k0_cond9 (BitVec.ofNat 32 p) k = 1#1)
          (fun h => Scf.Loop.for k0_t22_loop k0_t22_ok ⟨⟩ (k0_t22_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (fun h => Scf.Loop.for k0_t23_loop k0_t23_ok ⟨⟩ (k0_t23_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 h))
          (Scf.Loop.for k0_t24_loop k0_t24_ok ⟨⟩ (k0_t24_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (Scf.Loop.for k0_t25_loop k0_t25_ok ⟨⟩ (k0_t25_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22))
          (k0_cond10 (BitVec.ofNat 32 p) k = 1#1)
          (fun h => patchProgW arg16 harg16 arg17 harg17 p v1 k0_hw3 (v30 := v30) (v41 := v41) (k0_h1 := k0_h1) (k := k) h)
          (Scf.Loop.for k0_t26_loop k0_t26_ok (k0_pay109 (F := F)) (k0_t26_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v117 v121 v123 0#32 1#32 k arg22 (Scalar.remsi (Scf.iv 0#32 1#32 k) 6#32)))
          (fun a => (⟨Scalar.remsi (Scf.iv 0#32 1#32 k) 6#32, k0_pay113 arg22 a⟩ : Σ' (v169 : BitVec 32), FVec F S32x128 .f32)) := by
  rw [k0_part26_eq_skeleton]
  rfl

include htw hp in
theorem t21_wp (q7 q8 : PosShare TreeShare) (X7 : Buf (Elt F) (arg7.view.loc (c : Thread nD τ))) (X8 : Buf (Elt F) (arg8.view.loc (c : Thread nD τ))) (v118 : Vec F S32x256 .f32) (v122 : Vec F S128x256 .bf16) (k : Fin (k0_t21_loop (BitVec.ofNat 32 p)).trips)
    (a : FVec F S32x128 .f32 × FVec F S32x128 .f32 × FVec F S128x128 .f32) :
    Main c arg16 arg17 arg11 arg12 arg19 arg20 arg18 plK plV pgs arg1 T q (Ex78 arg7 arg8 c q7 q8 X7 X8) (st (nb p) k.val)
      ⊢ wp frame (wpE defs 𝒱 (c : Thread nD τ) bd) Set.univ (k0_t21_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 v118 v122 k a)
        fun r => iprop(⌜r = tripW arg7 arg8 arg11 arg12 arg16 arg17 c plK plV pgs p X7 X8 v30 v41 v68 v70 v72 v77 v82 v87 v92 (k0_pay146 v93 c4 v95) (k0_pay147 v118) (k0_pay148 v122) k a⌝
          ∗ Main c arg16 arg17 arg11 arg12 arg19 arg20 arg18 plK plV pgs arg1 T q (Ex78 arg7 arg8 c q7 q8 X7 X8) (st (nb p) (k.val + 1))) := by
  obtain ⟨m, l, acc⟩ := a
  have hk : k.val < nb p := lt_of_lt_of_eq k.isLt (t21_trips p hp)
  unfold k0_t21_body
  iintro H
  rw [wp_bind, part26_eq]
  iapply (wp_wand _ _ _) $$ [H]
  · iapply (head_wp c defs 𝒱 bd arg16 arg17 arg11 arg12 arg19 arg20 arg18 plK plV pgs arg1 T q (Ex78 arg7 arg8 c q7 q8 X7 X8) (nb p) k.val hk _ (cond9_iff p hp k) _ _ _ _ _ _ _ _
      (slotVal c p arg16 k.val (Fof arg16 c (blkC arg11 c plK pgs k.val)) (newKW (BitVec.ofNat 32 p) v30)) (slotVal c p arg17 k.val (Fof arg17 c (blkC arg12 c plV pgs k.val)) (newVW (BitVec.ofNat 32 p) v41)) (scW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30)))
      (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)
      (fun h => t22_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m) h) (fun h => t23_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m) h)
      (t24_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m)) (t25_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m))
      (fun h => patchProgW_wp arg16 harg16 arg17 harg17 c defs 𝒱 bd p hp v1 k0_hw3 (v30 := v30) (v41 := v41) (k0_h1 := k0_h1) (k := k) h _ _)
      (fun h => ?_) (t26_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (v117 := k0_pay146 v93 c4 v95) (v121 := k0_pay147 v118) (v123 := k0_pay148 v122) (k := k) (arg22 := m) q7 q8 X7 X8 _ _)) $$ H
    have h' : ¬ (k.val + 1 = nb p) := fun e => h ((cond10_iff p hp k).mpr e)
    unfold slotVal
    exact ⟨if_neg h', if_neg h'⟩
  iintro %r ⟨%hr, H⟩
  subst hr
  iapply (tail_wp c defs 𝒱 bd arg16 arg17 arg11 arg12 arg19 arg20 arg18 plK plV pgs arg1 T q (Ex78 arg7 arg8 c q7 q8 X7 X8) (nb p) k.val _
    (fun x => ((k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)), k0_pay158 m l (k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)) x.1, k0_pay159 m acc (k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)) x.2.1 x.2.2)) (slotVal c p arg16 k.val (Fof arg16 c (blkC arg11 c plK pgs k.val)) (newKW (BitVec.ofNat 32 p) v30)) (slotVal c p arg17 k.val (Fof arg17 c (blkC arg12 c plV pgs k.val)) (newVW (BitVec.ofNat 32 p) v41)) _ _
    (fun Y hY => t27_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp v1 k0_hw3 (v19 := v19) (v30 := v30) (v41 := v41) (k0_h1 := k0_h1) (v68 := v68) (v70 := v70) (v72 := v72) (k := k) q7 q8 X7 X8 v77 v82 v87 v92 v93 c4 v95 _ (k0_pay113 m (iter (mxW arg7 arg16 c p X7 v68 v70 v72 (k0_pay146 v93 c4 v95) (k0_pay147 v118) (k0_pay148 v122) k (slotVal c p arg16 k.val (Fof arg16 c (blkC arg11 c plK pgs k.val)) (newKW (BitVec.ofNat 32 p) v30))) k0_pay109 16)) _ _ Y hY)) $$ H

theorem primeSW (k : Fin k0_t18_loop.trips) : k0_off52 k = ![(sl k.val).val] := by
  have hk : k.val < 5 := k.isLt
  have : k0_off52 k = ![k.val] := congrArg (fun x : ℕ => ![x]) (prime_off k.val k.isLt 0 (by decide)).2.1
  rw [this]
  show ![k.val] = ![k.val % 6]
  rw [Nat.mod_eq_of_lt (by omega)]

theorem primeBW (k : Fin k0_t18_loop.trips) (g : Fin k0_t19_loop.trips) : k0_off53 k g = ![(sl k.val).val, g.val, 0, 0] := by
  have hk : k.val < 5 := k.isLt
  have h := prime_off k.val k.isLt g.val g.isLt
  show ![(Scf.iv 0#32 1#32 k.val : BitVec 32).toNat, (Scf.iv 0#32 1#32 g.val : BitVec 32).toNat, 0, 0] = ![k.val % 6, g.val, 0, 0]
  rw [h.2.1, h.2.2, Nat.mod_eq_of_lt (by omega)]

include htw

theorem t19_wp (k : Fin k0_t18_loop.trips) (h : k0_cond8 (BitVec.ofNat 32 p) k = 1#1) :
    iprop(Table c arg1 T q ∗ Slot arg16 arg11 arg19 c plK pgs (sl k.val) none)
      ⊢ wp frame (wpE defs 𝒱 (c : Thread nD τ) bd) Set.univ
        (Scf.Loop.for k0_t19_loop k0_t19_ok ⟨⟩ (k0_t19_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg16 arg11 arg19 c plK pgs (sl k.val) (some k.val)) :=
  start_block c defs 𝒱 bd arg16 arg11 arg19 plK pgs arg1 T q htw harg16 harg11 k0_t19_loop k0_t19_ok rfl _
    (fun g => k0_off51 k g) (fun g => k0_off51_inb k g)
    (k0_off52 k) (k0_off52_inb k)
    (fun g => k0_off53 k g) (fun g => k0_off53_inb k g)
    (fun g => k0_off53_wordsfp8e4m3 k g)
    (k0_chk12 (BitVec.ofNat 32 p) v1 k) (k0_chk12.dec (BitVec.ofNat 32 p) v1 k)
    (fun w hw => k0_off54_inb (BitVec.ofNat 32 p) v1 k w hw k0_h1 h) (fun w hw => k0_off54_wordsfp8e4m3 (BitVec.ofNat 32 p) v1 k w hw k0_h1 h)
    (fun w hw => chk12 _ _ w hw k) (sl k.val) k.val
    (by have : k.val < 5 := k.isLt; omega)
    (fun g => congrArg (fun x : ℕ => ![x]) (prime_off k.val k.isLt g.val g.isLt).1) (primeSW k) (fun g => primeBW k g) (fun _ => rfl)

theorem t20_wp (k : Fin k0_t18_loop.trips) (h : k0_cond8 (BitVec.ofNat 32 p) k = 1#1) :
    iprop(Table c arg1 T q ∗ Slot arg17 arg12 arg20 c plV pgs (sl k.val) none)
      ⊢ wp frame (wpE defs 𝒱 (c : Thread nD τ) bd) Set.univ
        (Scf.Loop.for k0_t20_loop k0_t20_ok ⟨⟩ (k0_t20_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 k h))
        fun _ => iprop(Table c arg1 T q ∗ Slot arg17 arg12 arg20 c plV pgs (sl k.val) (some k.val)) :=
  start_block c defs 𝒱 bd arg17 arg12 arg20 plV pgs arg1 T q htw harg17 harg12 k0_t20_loop k0_t20_ok rfl _
    (fun g => k0_off55 k g) (fun g => k0_off55_inb k g)
    (k0_off56 k) (k0_off56_inb k)
    (fun g => k0_off57 k g) (fun g => k0_off57_inb k g)
    (fun g => k0_off57_wordsfp8e4m3 k g)
    (k0_chk13 (BitVec.ofNat 32 p) v1 k) (k0_chk13.dec (BitVec.ofNat 32 p) v1 k)
    (fun w hw => k0_off58_inb (BitVec.ofNat 32 p) v1 k w hw k0_h1 h) (fun w hw => k0_off58_wordsfp8e4m3 (BitVec.ofNat 32 p) v1 k w hw k0_h1 h)
    (fun w hw => chk13 _ _ w hw k) (sl k.val) k.val
    (by have : k.val < 5 := k.isLt; omega)
    (fun g => congrArg (fun x : ℕ => ![x]) (prime_off k.val k.isLt g.val g.isLt).1) (primeSW k) (fun g => primeBW k g) (fun _ => rfl)

include hp in
theorem t18_wp (q7 q8 : PosShare TreeShare) (X7 : Buf (Elt F) (arg7.view.loc (c : Thread nD τ))) (X8 : Buf (Elt F) (arg8.view.loc (c : Thread nD τ))) :
    Main c arg16 arg17 arg11 arg12 arg19 arg20 arg18 plK plV pgs arg1 T q (Ex78 arg7 arg8 c q7 q8 X7 X8) (fun _ => none)
      ⊢ wp frame (wpE defs 𝒱 (c : Thread nD τ) bd) Set.univ (Scf.Loop.for k0_t18_loop k0_t18_ok ⟨⟩ (k0_t18_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95))
        fun _ => Main c arg16 arg17 arg11 arg12 arg19 arg20 arg18 plK plV pgs arg1 T q (Ex78 arg7 arg8 c q7 q8 X7 X8) (st (nb p) 0) := by
  iintro H
  iapply (wp_wand _ _ _) $$ [H]
  · rw [← st0_zero (nb p)]
    iapply (carry_loop c defs 𝒱 bd (n := 5) k0_t18_loop k0_t18_ok rfl () _ (fun (_ : Fin 5) _ => ()) (fun k => Main c arg16 arg17 arg11 arg12 arg19 arg20 arg18 plK plV pgs arg1 T q (Ex78 arg7 arg8 c q7 q8 X7 X8) (st0 (nb p) k)) fun j t ht a => ?_) $$ H
    obtain rfl : t = j := Fin.ext ht
    iintro H
    unfold k0_t18_body
    iapply (start_wp c defs 𝒱 bd arg16 arg17 arg11 arg12 arg19 arg20 arg18 plK plV pgs arg1 T q (Ex78 arg7 arg8 c q7 q8 X7 X8) (nb p) t.val _ (cond8_iff p hp t) _ _ (fun _ => pure ())
      (fun h => t19_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) (fun h => t20_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plV pgs T q htw p v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) t h) _ (st0_free _ _ t.isLt))
    isplitl [H]; · iexact H
    rw [st0_start _ _ t.isLt]
    iintro H
    iapply (ret_wp c defs 𝒱 bd)
    isplitr
    · ipureintro; rfl
    iexact H
  rw [st0_five]
  iintro %r ⟨-, H⟩
  iexact H

include hp in
theorem part36_wp (q7 q8 : PosShare TreeShare) (X7 : Buf (Elt F) (arg7.view.loc (c : Thread nD τ))) (X8 : Buf (Elt F) (arg8.view.loc (c : Thread nD τ))) (q9 q2 : PosShare TreeShare) (X9 : Buf (Elt F) (arg9.view.loc (c : Thread nD τ))) (X2 : Buf (Elt F) (arg2.view.loc (c : Thread nD τ))) :
    iprop((arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q (Ex78 arg7 arg8 c q7 q8 X7 X8) (fun _ => none))
      ⊢ wp frame (wpE defs 𝒱 (c : Thread nD τ) bd) Set.univ (k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95)
        fun r => iprop(⌜r = (⟨k0_pay146 v93 c4 v95, k0_pay147 (rd9 arg9 c X9), k0_pay148 (rd2 arg2 c X2), Scalar.addi 0#32 (Scalar.muli (Scalar.divsi (Scalar.subi v19 0#32) 1#32) 1#32),
            (stateW arg7 arg8 arg11 arg12 arg16 arg17 c plK plV pgs p hp X7 X8 v30 v41 v68 v70 v72 v77 v82 v87 v92 (k0_pay146 v93 c4 v95) (k0_pay147 (rd9 arg9 c X9)) (k0_pay148 (rd2 arg2 c X2))).1, (stateW arg7 arg8 arg11 arg12 arg16 arg17 c plK plV pgs p hp X7 X8 v30 v41 v68 v70 v72 v77 v82 v87 v92 (k0_pay146 v93 c4 v95) (k0_pay147 (rd9 arg9 c X9)) (k0_pay148 (rd2 arg2 c X2))).2.1, (stateW arg7 arg8 arg11 arg12 arg16 arg17 c plK plV pgs p hp X7 X8 v30 v41 v68 v70 v72 v77 v82 v87 v92 (k0_pay146 v93 c4 v95) (k0_pay147 (rd9 arg9 c X9)) (k0_pay148 (rd2 arg2 c X2))).2.2⟩ :
            Σ' (v117 : IVec S32x256 32) (v121 : FVec F S32x256 .f32) (v123 : FVec F S128x256 .bf16) (v132 : BitVec 32) (v133_0 : FVec F S32x128 .f32) (v133_1 : FVec F S32x128 .f32), FVec F S128x128 .f32)⌝
          ∗ (arg9.view.loc (c : Thread nD τ) ↦[Finset.univ]{q9} X9) ∗ (arg2.view.loc (c : Thread nD τ) ↦[Finset.univ]{q2} X2) ∗ Main c arg16 arg17 arg11 arg12 arg19 arg20 arg18 plK plV pgs arg1 T q (Ex78 arg7 arg8 c q7 q8 X7 X8) (fun _ => none)) := by
  rw [k0_part36_eq_skeleton]
  unfold k0_part36_skel
  iintro ⟨H9, H2, HM⟩
  iapply (load_any c defs 𝒱 bd arg9 _ q9 X9) $$ H9
  iintro H9
  iapply (load_any c defs 𝒱 bd arg2 _ q2 X2) $$ H2
  iintro H2
  iapply (ret_bind_wp c defs 𝒱 bd _ _)
  iapply (bind_wp c defs 𝒱 bd _ _)
  iapply (wp_wand _ _ _) $$ [HM]
  · iapply (t18_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) q7 q8 X7 X8) $$ HM
  iintro %r HM
  iapply (bind_wp c defs 𝒱 bd _ _)
  iapply (wp_wand _ _ _) $$ [HM]
  · iapply (carry_loop c defs 𝒱 bd (n := nb p) (k0_t21_loop (BitVec.ofNat 32 p)) (k0_t21_ok (BitVec.ofNat 32 p) v1 k0_hw3 k0_h1) (t21_trips p hp) (k0_pay149 (F := F), k0_pay150 (F := F), k0_pay151 (F := F))
      (k0_t21_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 (BitVec.ofNat 32 p) v1 k0_hw3 v19 v30 v41 k0_h1 v68 v70 v72 v77 v82 v87 v92 v93 c4 v95 (rd9 arg9 c X9) (rd2 arg2 c X2))
      (fun j : Fin (nb p) => tripW arg7 arg8 arg11 arg12 arg16 arg17 c plK plV pgs p X7 X8 v30 v41 v68 v70 v72 v77 v82 v87 v92 (k0_pay146 v93 c4 v95) (k0_pay147 (rd9 arg9 c X9)) (k0_pay148 (rd2 arg2 c X2)) (Fin.cast (t21_trips p hp).symm j))
      (fun k => Main c arg16 arg17 arg11 arg12 arg19 arg20 arg18 plK plV pgs arg1 T q (Ex78 arg7 arg8 c q7 q8 X7 X8) (st (nb p) k)) fun j t ht a => ?_) $$ HM
    obtain rfl : t = Fin.cast (t21_trips p hp).symm j := Fin.ext ht
    exact t21_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp v1 k0_hw3 (v19 := v19) (v30 := v30) (v41 := v41) (k0_h1 := k0_h1) (v68 := v68) (v70 := v70) (v72 := v72) (v77 := v77) (v82 := v82) (v87 := v87) (v92 := v92) (v93 := v93) (c4 := c4) (v95 := v95) q7 q8 X7 X8 (rd9 arg9 c X9) (rd2 arg2 c X2) (Fin.cast (t21_trips p hp).symm j) a
  iintro %r ⟨%hr, HM⟩
  subst hr
  rw [st_end]
  iapply (ret_wp c defs 𝒱 bd)
  isplitr
  · ipureintro; rfl
  isplitl [H9]; · iexact H9
  isplitl [H2]; · iexact H2
  iexact HM

end Loop4

end Cert.Kernel.Hand
-- ==== Proof.Bits.Body.lean ====
/-
  The same as the module of this name one directory up, for the kernel with its constants as printed.
  The whole kernel body run: the two words, the codes, the branch the flag chooses, the output.
-/
module

public import proofs.«01_k».proof.Proof.Bits.Widen

@[expose] public section

set_option synthInstance.maxSize 4096

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)
  (T : Buf (Elt F) (arg1.view.loc (c : Thread nD τ))) (q : PosShare TreeShare)
variable (htw : ∀ i < 1024, (tw (F := F) arg1 T i).toNat = (pgs i).val)
variable (p : ℕ) (hp : p < 131072)

theorem store_any {s : Shape} {e : EltTy} (m : Memref sig .tc .vmem s e) (r : Rect s) (w : Vec F r.shape e) (X : Buf (Elt F) (m.view.loc (c : Thread nD τ)))
    {α : Type} {Q : α → sProp 𝕄} {hx hm} {k : PUnit → Prog (TpuEff nD τ sig (Elt F) Λ₀ .tc) α} :
    (m.view.loc (c : Thread nD τ) ↦[Finset.univ]{fullShare} X)
      ⊢ iprop(((m.view.loc (c : Thread nD τ) ↦[Finset.univ]{fullShare} (m.access r).write (Elt F) X w Finset.univ)
          -∗ wp frame (wpE defs 𝒱 (c : Thread nD τ) bd) Set.univ (k ⟨⟩) Q)
        -∗ wp frame (wpE defs 𝒱 (c : Thread nD τ) bd) Set.univ (.op (.store m r w Finset.univ hx hm) k) Q) :=
  wp_store 𝒱 (c : Thread nD τ) bd Set.univ (m := m) (r := r) (S := Finset.univ) (f := X) (w := w) (Finset.subset_univ _)

theorem smem_any (m : Memref sig .tc .smem S2 .i32) (o : Fin 1 → ℕ) {h : ∀ a, o a + S1.size a ≤ S2.size a} (X : Buf (Elt F) (m.view.loc (c : Thread nD τ)))
    {Q : BitVec 32 → sProp 𝕄} :
    (m.view.loc (c : Thread nD τ) ↦[Finset.univ]{fullShare} X)
      ⊢ iprop(((m.view.loc (c : Thread nD τ) ↦[Finset.univ]{fullShare} X)
          -∗ Q ((m.access (Rect.unit (s := S2) o S1.size h)).read (Elt F) X (Shape.Idx.first ((numel1_S1 : (Rect.unit (s := S2) o S1.size h).shape.numel = 1).symm ▸ Nat.one_pos))))
        -∗ wp frame (wpE defs 𝒱 (c : Thread nD τ) bd) Set.univ (smemLoad m (Rect.unit (s := S2) o S1.size h) numel1_S1 rfl) Q) := by
  unfold smemLoad
  iintro H Hk
  iapply (wp_smemLoadElt 𝒱 (c : Thread nD τ) bd Set.univ (m := m) (r := Rect.unit (s := S2) o S1.size h) (S := Finset.univ) (q := fullShare) (f := X)
    (Finset.subset_univ _)) $$ H
  iintro H
  rw [wp_ret]
  imodintro
  iapply Hk
  iexact H

/-- The two words: the position and the flag. -/
def w0 (X0 : Buf (Elt F) (arg0.view.loc (c : Thread nD τ))) : BitVec 32 :=
  (arg0.access (Rect.unit (s := S2) ![0] S1.size inb_S2_S1_0)).read (Elt F) X0
    (Shape.Idx.first ((numel1_S1 : (Rect.unit (s := S2) ![0] S1.size inb_S2_S1_0).shape.numel = 1).symm ▸ Nat.one_pos))
def w1 (X0 : Buf (Elt F) (arg0.view.loc (c : Thread nD τ))) : BitVec 32 :=
  (arg0.access (Rect.unit (s := S2) ![1] S1.size inb_S2_S1_1)).read (Elt F) X0
    (Shape.Idx.first ((numel1_S1 : (Rect.unit (s := S2) ![1] S1.size inb_S2_S1_1).shape.numel = 1).symm ▸ Nat.one_pos))

abbrev rd8x {e : EltTy} (m : Memref sig .tc .vmem S8x128 e) (X : Buf (Elt F) (m.view.loc (c : Thread nD τ))) : Vec F S8x128 e :=
  (m.access (Rect.unit (s := S8x128) ![0, 0] S8x128.size inb_S8x128_S8x128_0_0)).read (Elt F) X
abbrev rd128 {e : EltTy} (m : Memref sig .tc .vmem S128x128 e) (X : Buf (Elt F) (m.view.loc (c : Thread nD τ))) : Vec F S128x128 e :=
  (m.access (Rect.unit (s := S128x128) ![0, 0] S128x128.size inb_S128x128_S128x128_0_0)).read (Elt F) X

/-- The new token's codes. -/
def codeK (X3 : Buf (Elt F) (arg3.view.loc (c : Thread nD τ))) (X5 : Buf (Elt F) (arg5.view.loc (c : Thread nD τ))) : FVec F S8x128 .fp8e4m3 :=
  k0_pay160 (rd8x c arg3 X3) (rd8x c arg5 X5)
def codeV (X4 : Buf (Elt F) (arg4.view.loc (c : Thread nD τ))) (X6 : Buf (Elt F) (arg6.view.loc (c : Thread nD τ))) : FVec F S8x128 .fp8e4m3 :=
  k0_pay1 (k0_pay161 (rd8x c arg4 X4) (rd8x c arg6 X6)) (Scalar.ofBits .f32 0xC3E00000#32) (Scalar.ofBits .f32 0x43E00000#32)

variable (X0 : Buf (Elt F) (arg0.view.loc (c : Thread nD τ))) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

/-- What the first part of the body hands on. -/
abbrev Words0 (F : FTy → Type) : Type := Σ' (v0 : Elt F .i32) (v1 : Elt F .i32) (k0_hw3 : k0_chk3 v0 v1) (v19 : BitVec 32) (v30 : FVec F S8x128 .fp8e4m3) (v36 : FVec F S8x128 .f32) (cst_14 : F .f32), F .f32
def Got (r : Words0 F) : Prop :=
  ∃ v0 v1 hw v19, v0 = BitVec.ofNat 32 p ∧ v1 = w1 arg0 c X0 ∧ r = ⟨v0, v1, hw, v19, codeK arg3 arg5 c X3 X5, k0_pay161 (rd8x c arg4 X4) (rd8x c arg6 X6), Scalar.ofBits .f32 0xC3E00000#32, Scalar.ofBits .f32 0x43E00000#32⟩

include hp in
theorem part37_wp (hv0 : w0 arg0 c X0 = BitVec.ofNat 32 p) :
    (iprop((arg0.view.loc (c : Thread nD τ) ↦[Finset.univ]{fullShare} X0) ∗ (arg3.view.loc (c : Thread nD τ) ↦[Finset.univ]{fullShare} X3) ∗ (arg4.view.loc (c : Thread nD τ) ↦[Finset.univ]{fullShare} X4) ∗ (arg5.view.loc (c : Thread nD τ) ↦[Finset.univ]{fullShare} X5) ∗ (arg6.view.loc (c : Thread nD τ) ↦[Finset.univ]{fullShare} X6)) : sProp 𝕄)
      ⊢ wp frame (wpE defs 𝒱 (c : Thread nD τ) bd) Set.univ (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20)
        fun r : Words0 F => iprop(⌜Got arg0 arg3 arg4 arg5 arg6 c p X0 X3 X4 X5 X6 r⌝ ∗ (arg0.view.loc (c : Thread nD τ) ↦[Finset.univ]{fullShare} X0) ∗ (arg3.view.loc (c : Thread nD τ) ↦[Finset.univ]{fullShare} X3) ∗ (arg4.view.loc (c : Thread nD τ) ↦[Finset.univ]{fullShare} X4) ∗ (arg5.view.loc (c : Thread nD τ) ↦[Finset.univ]{fullShare} X5) ∗ (arg6.view.loc (c : Thread nD τ) ↦[Finset.univ]{fullShare} X6)) := by
  rw [k0_part37_eq_skeleton]
  unfold k0_part37_skel
  iintro ⟨H0, H3, H4, H5, H6⟩
  iapply (bind_wp c defs 𝒱 bd _ _)
  iapply (smem_any c defs 𝒱 bd arg0 ![0] X0) $$ H0
  iintro H0
  iapply (bind_wp c defs 𝒱 bd _ _)
  iapply (smem_any c defs 𝒱 bd arg0 ![1] X0) $$ H0
  iintro H0
  have hc : k0_chk3 (w0 arg0 c X0) (w1 arg0 c X0) := by rw [hv0]; exact chk3 p hp _
  iapply (wp_assume 𝒱 (c : Thread nD τ) bd Set.univ hc)
  iapply (load_any c defs 𝒱 bd arg3 _ fullShare X3) $$ H3
  iintro H3
  iapply (load_any c defs 𝒱 bd arg5 _ fullShare X5) $$ H5
  iintro H5
  iapply (load_any c defs 𝒱 bd arg4 _ fullShare X4) $$ H4
  iintro H4
  iapply (load_any c defs 𝒱 bd arg6 _ fullShare X6) $$ H6
  iintro H6
  iapply (ret_wp c defs 𝒱 bd)
  isplitr
  · ipureintro; exact ⟨_, _, _, _, hv0, rfl, rfl⟩
  isplitl [H0]; · iexact H0
  isplitl [H3]; · iexact H3
  isplitl [H4]; · iexact H4
  isplitl [H5]; · iexact H5
  iexact H6

theorem part17_eq : k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 = Prog.ret ⟨k0_pay69, k0_pay70, k0_pay71, k0_pay72 (F := F), k0_pay73 (F := F), k0_pay74 (F := F), k0_pay75 (F := F), iota .tc S32x256 32 [1] iota_S32x256_d1_w32, 4#32, k0_pay76⟩ := by
  rw [k0_part17_eq_skeleton]; rfl
theorem part35_eq : k0_part35 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 = Prog.ret ⟨k0_pay138, k0_pay139, k0_pay140, k0_pay141 (F := F), k0_pay142 (F := F), k0_pay143 (F := F), k0_pay144 (F := F), iota .tc S32x256 32 [1] iota_S32x256_d1_w32, 4#32, k0_pay145⟩ := by
  rw [k0_part35_eq_skeleton]; rfl

/-- What the exact branch and the widening branch fold to. -/
def foldedE : FVec F S32x128 .f32 × FVec F S32x128 .f32 × FVec F S128x128 .f32 :=
  stateE arg11 arg12 arg16 arg17 c plK plV pgs p hp (codeK arg3 arg5 c X3 X5) (codeV arg4 arg6 c X4 X6) k0_pay69 k0_pay70 k0_pay71 k0_pay72 k0_pay73 k0_pay74 k0_pay75
    (k0_pay77 (iota .tc S32x256 32 [1] iota_S32x256_d1_w32) 4#32 k0_pay76) (k0_pay78 (rd9 arg9 c X9)) (k0_pay79 (rd2 arg2 c X2))
def foldedW : FVec F S32x128 .f32 × FVec F S32x128 .f32 × FVec F S128x128 .f32 :=
  stateW arg7 arg8 arg11 arg12 arg16 arg17 c plK plV pgs p hp X7 X8 (codeK arg3 arg5 c X3 X5) (codeV arg4 arg6 c X4 X6) k0_pay138 k0_pay139 k0_pay140 k0_pay141 k0_pay142 k0_pay143 k0_pay144
    (k0_pay146 (iota .tc S32x256 32 [1] iota_S32x256_d1_w32) 4#32 k0_pay145) (k0_pay147 (rd9 arg9 c X9)) (k0_pay148 (rd2 arg2 c X2))

/-- The output. -/
def outY : Vec F S128x128 .bf16 :=
  if w1 arg0 c X0 = 1#32 then k0_pay10 (foldedE arg2 arg3 arg4 arg5 arg6 arg9 arg11 arg12 arg16 arg17 c plK plV pgs p hp X2 X3 X4 X5 X6 X9).2.1 (foldedE arg2 arg3 arg4 arg5 arg6 arg9 arg11 arg12 arg16 arg17 c plK plV pgs p hp X2 X3 X4 X5 X6 X9).2.2 (rd128 c arg10 X10)
  else k0_pay19 (foldedW arg2 arg3 arg4 arg5 arg6 arg7 arg8 arg9 arg11 arg12 arg16 arg17 c plK plV pgs p hp X2 X3 X4 X5 X6 X7 X8 X9).2.1 (foldedW arg2 arg3 arg4 arg5 arg6 arg7 arg8 arg9 arg11 arg12 arg16 arg17 c plK plV pgs p hp X2 X3 X4 X5 X6 X7 X8 X9).2.2 (rd128 c arg10 X10)

/-- The inputs, held. -/
def Ins : sProp 𝕄 :=
  iprop((arg0.view.loc (c : Thread nD τ) ↦[Finset.univ]{fullShare} X0) ∗ (arg2.view.loc (c : Thread nD τ) ↦[Finset.univ]{fullShare} X2) ∗ (arg3.view.loc (c : Thread nD τ) ↦[Finset.univ]{fullShare} X3) ∗ (arg4.view.loc (c : Thread nD τ) ↦[Finset.univ]{fullShare} X4) ∗ (arg5.view.loc (c : Thread nD τ) ↦[Finset.univ]{fullShare} X5) ∗ (arg6.view.loc (c : Thread nD τ) ↦[Finset.univ]{fullShare} X6) ∗ (arg9.view.loc (c : Thread nD τ) ↦[Finset.univ]{fullShare} X9) ∗ (arg10.view.loc (c : Thread nD τ) ↦[Finset.univ]{fullShare} X10))
abbrev Out8 (m : Memref sig .tc .vmem S8x128 .fp8e4m3) (w : Vec F S8x128 .fp8e4m3) : sProp 𝕄 :=
  iprop(∃ f : Buf (Elt F) (m.view.loc (c : Thread nD τ)), ⌜rd8x c m f = w⌝ ∗ (m.view.loc (c : Thread nD τ) ↦[Finset.univ]{fullShare} f))
abbrev Out128 (m : Memref sig .tc .vmem S128x128 .bf16) (w : Vec F S128x128 .bf16) : sProp 𝕄 :=
  iprop(∃ f : Buf (Elt F) (m.view.loc (c : Thread nD τ)), ⌜rd128 c m f = w⌝ ∗ (m.view.loc (c : Thread nD τ) ↦[Finset.univ]{fullShare} f))

theorem cond_one : k0_cond1 1#32 = 1#1 ∧ ¬ k0_cond7 1#32 = 1#1 := by decide
theorem cond_zero : ¬ k0_cond1 0#32 = 1#1 ∧ k0_cond7 0#32 = 1#1 := by decide

include hp htw in
theorem body_wp (hv0 : w0 arg0 c X0 = BitVec.ofNat 32 p) (h01 : w1 arg0 c X0 = 1#32 ∨ w1 arg0 c X0 = 0#32)
    (f13 : Buf (Elt F) (arg13.view.loc (c : Thread nD τ))) (f14 : Buf (Elt F) (arg14.view.loc (c : Thread nD τ))) (f15 : Buf (Elt F) (arg15.view.loc (c : Thread nD τ))) :
    iprop(Ins arg0 arg2 arg3 arg4 arg5 arg6 arg9 arg10 c X0 X2 X3 X4 X5 X6 X9 X10 ∗ Main c arg16 arg17 arg11 arg12 arg19 arg20 arg18 plK plV pgs arg1 T q (Ex78 arg7 arg8 c fullShare fullShare X7 X8) (fun _ => none)
        ∗ (arg13.view.loc (c : Thread nD τ) ↦[Finset.univ]{fullShare} f13) ∗ (arg14.view.loc (c : Thread nD τ) ↦[Finset.univ]{fullShare} f14) ∗ (arg15.view.loc (c : Thread nD τ) ↦[Finset.univ]{fullShare} f15))
      ⊢ wp frame (wpE defs 𝒱 (c : Thread nD τ) bd) Set.univ (cc0_paged_fp8_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20)
        fun _ => iprop(Ins arg0 arg2 arg3 arg4 arg5 arg6 arg9 arg10 c X0 X2 X3 X4 X5 X6 X9 X10 ∗ Main c arg16 arg17 arg11 arg12 arg19 arg20 arg18 plK plV pgs arg1 T q (Ex78 arg7 arg8 c fullShare fullShare X7 X8) (fun _ => none)
          ∗ Out128 c arg13 (outY arg0 arg2 arg3 arg4 arg5 arg6 arg7 arg8 arg9 arg10 arg11 arg12 arg16 arg17 c plK plV pgs p hp X0 X2 X3 X4 X5 X6 X7 X8 X9 X10)
          ∗ Out8 c arg14 (codeK arg3 arg5 c X3 X5) ∗ Out8 c arg15 (codeV arg4 arg6 c X4 X6)) := by
  rw [cc0_paged_fp8_decode_eq_skeleton]
  unfold cc0_paged_fp8_decode_skel
  unfold Ins
  iintro ⟨⟨H0, H2, H3, H4, H5, H6, H9, H10⟩, HM, H13, H14, H15⟩
  iapply (bind_wp c defs 𝒱 bd _ _)
  iapply (wp_wand _ _ _) $$ [H0 H3 H4 H5 H6]
  · iapply (part37_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd p hp X0 X3 X4 X5 X6 hv0)
    isplitl [H0]; · iexact H0
    isplitl [H3]; · iexact H3
    isplitl [H4]; · iexact H4
    isplitl [H5]; · iexact H5
    iexact H6
  iintro %r ⟨%hr, H0, H3, H4, H5, H6⟩
  obtain ⟨v0, v1, hw, v19, e0, e1, rfl⟩ := hr
  subst e0
  iapply (load_any c defs 𝒱 bd arg14 _ fullShare f14) $$ H14
  iintro H14
  iapply (store_any c defs 𝒱 bd arg14 _ _ f14) $$ H14
  iintro H14
  iapply (load_any c defs 𝒱 bd arg15 _ fullShare f15) $$ H15
  iintro H15
  iapply (store_any c defs 𝒱 bd arg15 _ _ f15) $$ H15
  iintro H15
  rcases h01 with h1 | h1
  · have ev : v1 = 1#32 := e1.trans h1
    subst ev
    rw [dif_pos cond_one.1, dif_neg cond_one.2, part17_eq]
    iapply (ret_bind_wp c defs 𝒱 bd _ _)
    iapply (ret_bind_wp c defs 𝒱 bd _ _)
    iapply (bind_wp c defs 𝒱 bd _ _)
    iapply (wp_wand _ _ _) $$ [HM H9 H2]
    · iapply (part18_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp 1#32 hw (Ex78 arg7 arg8 c fullShare fullShare X7 X8) fullShare fullShare X9 X2)
      isplitl [H9]; · iexact H9
      isplitl [H2]; · iexact H2
      iexact HM
    iintro %r ⟨%hr, H9, H2, HM⟩
    subst hr
    iapply (bind_wp c defs 𝒱 bd _ _)
    iapply (wp_wand _ _ _) $$ [HM]
    · iapply (carry_loop c defs 𝒱 bd (n := 0) (k0_t11_loop (BitVec.ofNat 32 p)) (k0_t11_ok (BitVec.ofNat 32 p) 1#32 hw cond_one.1) (t11_trips p hp) _ _ (fun _ a => a)
        (fun _ => Main c arg16 arg17 arg11 arg12 arg19 arg20 arg18 plK plV pgs arg1 T q (Ex78 arg7 arg8 c fullShare fullShare X7 X8) (fun _ => none)) (fun j => j.elim0)) $$ HM
    iintro %r ⟨%hr, HM⟩
    subst hr
    iapply (load_any c defs 𝒱 bd arg10 _ fullShare X10) $$ H10
    iintro H10
    iapply (load_any c defs 𝒱 bd arg13 _ fullShare f13) $$ H13
    iintro H13
    iapply (store_any c defs 𝒱 bd arg13 _ _ f13) $$ H13
    iintro H13
    iapply (ret_wp c defs 𝒱 bd)
    isplitl [H0 H2 H3 H4 H5 H6 H9 H10]
    · isplitl [H0]; · iexact H0
      isplitl [H2]; · iexact H2
      isplitl [H3]; · iexact H3
      isplitl [H4]; · iexact H4
      isplitl [H5]; · iexact H5
      isplitl [H6]; · iexact H6
      isplitl [H9]; · iexact H9
      iexact H10
    isplitl [HM]; · iexact HM
    isplitl [H13]
    · iexists _; isplitr; swap; · iexact H13
      ipureintro; exact (View.read_write_univ _ _).trans (by unfold outY foldedE foldedW; rw [if_pos h1]; rfl)
    isplitl [H14]
    · iexists _; isplitr; swap; · iexact H14
      ipureintro; exact View.read_write_univ _ _
    iexists _; isplitr; swap; · iexact H15
    ipureintro; exact View.read_write_univ _ _
  · have ev : v1 = 0#32 := e1.trans h1
    subst ev
    rw [dif_neg cond_zero.1, dif_pos cond_zero.2, part35_eq]
    iapply (ret_bind_wp c defs 𝒱 bd _ _)
    iapply (ret_bind_wp c defs 𝒱 bd _ _)
    iapply (bind_wp c defs 𝒱 bd _ _)
    iapply (wp_wand _ _ _) $$ [HM H9 H2]
    · iapply (part36_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs T q htw p hp 0#32 hw fullShare fullShare X7 X8 fullShare fullShare X9 X2)
      isplitl [H9]; · iexact H9
      isplitl [H2]; · iexact H2
      iexact HM
    iintro %r ⟨%hr, H9, H2, HM⟩
    subst hr
    iapply (bind_wp c defs 𝒱 bd _ _)
    iapply (wp_wand _ _ _) $$ [HM]
    · iapply (carry_loop c defs 𝒱 bd (n := 0) (k0_t28_loop (BitVec.ofNat 32 p)) (k0_t28_ok (BitVec.ofNat 32 p) 0#32 hw cond_zero.2) (t28_trips p hp) _ _ (fun _ a => a)
        (fun _ => Main c arg16 arg17 arg11 arg12 arg19 arg20 arg18 plK plV pgs arg1 T q (Ex78 arg7 arg8 c fullShare fullShare X7 X8) (fun _ => none)) (fun j => j.elim0)) $$ HM
    iintro %r ⟨%hr, HM⟩
    subst hr
    iapply (load_any c defs 𝒱 bd arg10 _ fullShare X10) $$ H10
    iintro H10
    iapply (load_any c defs 𝒱 bd arg13 _ fullShare f13) $$ H13
    iintro H13
    iapply (store_any c defs 𝒱 bd arg13 _ _ f13) $$ H13
    iintro H13
    iapply (ret_wp c defs 𝒱 bd)
    isplitl [H0 H2 H3 H4 H5 H6 H9 H10]
    · isplitl [H0]; · iexact H0
      isplitl [H2]; · iexact H2
      isplitl [H3]; · iexact H3
      isplitl [H4]; · iexact H4
      isplitl [H5]; · iexact H5
      isplitl [H6]; · iexact H6
      isplitl [H9]; · iexact H9
      iexact H10
    isplitl [HM]; · iexact HM
    isplitl [H13]
    · iexists _; isplitr; swap; · iexact H13
      ipureintro; exact (View.read_write_univ _ _).trans (by unfold outY foldedE foldedW; rw [if_neg (by rw [h1]; decide)]; rfl)
    isplitl [H14]
    · iexists _; isplitr; swap; · iexact H14
      ipureintro; exact View.read_write_univ _ _
    iexists _; isplitr; swap; · iexact H15
    ipureintro; exact View.read_write_univ _ _

end Cert.Kernel.Hand

end
-- ==== Proof.Bits.Owned.lean ====
/-
  The same as the module of this name one directory up, for the kernel with its constants as printed.
  The kernel body from the blocks its operands hold, to what the three results hold.
-/
module

public import proofs.«01_k».proof.Proof.Bits.Body
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.LaneScatter.Own

@[expose] public section

set_option synthInstance.maxSize 4096

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

theorem acc_zero {κ : Kind} {sp : Space} {s : Shape} {e : EltTy} (m : Memref sig κ sp s e) {off : Fin s.rank → ℕ} (h : off = fun _ => 0)
    (inb : ∀ a, off a + s.size a ≤ s.size a) (f : m.view.ty.Contents (Elt F)) :
    (m.access (Rect.unit off s.size inb)).read (Elt F) f = m.view.read (Elt F) f := by
  subst h
  funext x
  rw [View.read_apply, View.read_apply]
  exact congrArg (fun i => cast _ (f (m.view.emb i))) (Rect.emb_whole_apply s x)

section
variable (arg0 : Memref sig .tc .smem S2 .i32) (harg0 : arg0.IsWhole) (arg1 : Memref sig .tc .smem S1024 .i32) (harg1 : arg1.IsWhole) (arg2 : Memref sig .tc .vmem S128x256 .bf16) (harg2 : arg2.IsWhole) (arg3 : Memref sig .tc .vmem S8x128 .bf16) (harg3 : arg3.IsWhole) (arg4 : Memref sig .tc .vmem S8x128 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S2x256x128 .bf16) (harg7 : arg7.IsWhole) (arg8 : Memref sig .tc .vmem S2x256x128 .bf16) (harg8 : arg8.IsWhole) (arg9 : Memref sig .tc .vmem S32x256 .f32) (harg9 : arg9.IsWhole) (arg10 : Memref sig .tc .vmem S128x128 .f32) (harg10 : arg10.IsWhole) (arg11 : Memref sig .tc .hbm S1024x1024x128 .fp8e4m3) (harg11 : arg11.IsWhole) (arg12 : Memref sig .tc .hbm S1024x1024x128 .fp8e4m3) (harg12 : arg12.IsWhole) (arg13 : Memref sig .tc .vmem S128x128 .bf16) (harg13 : arg13.IsWhole) (arg14 : Memref sig .tc .vmem S8x128 .fp8e4m3) (harg14 : arg14.IsWhole) (arg15 : Memref sig .tc .vmem S8x128 .fp8e4m3) (harg15 : arg15.IsWhole) (arg16 : Memref sig .tc .vmem S6x8x1024x128 .fp8e4m3) (harg16 : arg16.IsWhole) (arg17 : Memref sig .tc .vmem S6x8x1024x128 .fp8e4m3) (harg17 : arg17.IsWhole) (arg18 : Memref sig .tc .vmem S32x4096 .f32) (harg18 : arg18.IsWhole) (arg19 : DmaSems sig S6) (arg20 : DmaSems sig S6)

variable (c : Dev nD) (defs : Defs nD τ sig (Elt F) Λ₀) (𝒱 : Variants) (bd : Option 𝒱.V)
variable (plK : Buf (Elt F) (arg11.view.loc (c : Thread nD τ))) (plV : Buf (Elt F) (arg12.view.loc (c : Thread nD τ))) (pgs : ℕ → Fin 1024)

variable (p : ℕ) (hp : p < 131072)

variable (d0 : Vec F S2 .i32) (d1 : Vec F S1024 .i32) (d2 : Vec F S128x256 .bf16) (d3 : Vec F S8x128 .bf16) (d4 : Vec F S8x128 .bf16) (d5 : Vec F S8x128 .f32) (d6 : Vec F S8x128 .f32) (d7 : Vec F S2x256x128 .bf16) (d8 : Vec F S2x256x128 .bf16) (d9 : Vec F S32x256 .f32) (d10 : Vec F S128x128 .f32)

theorem owns_univ {sp : Space} {s : Shape} {e : EltTy} (m : Memref sig .tc sp s e) (h : m.IsWhole) (x : s.Idx → Elt F e) :
    (owns (c : Thread nD τ) m fullShare x : sProp 𝕄) ⊢ (m.view.loc (c : Thread nD τ) ↦[Finset.univ]{fullShare} h.unread x) := by
  unfold owns
  iintro ⟨%f, %hf, H⟩
  obtain rfl := h.eq_unread hf
  rw [h.set_eq_univ]
  iexact H

theorem univ_owns {sp : Space} {s : Shape} {e : EltTy} (m : Memref sig .tc sp s e) (h : m.IsWhole) (f : m.view.ty.Contents (Elt F)) (x : s.Idx → Elt F e) (hx : m.view.read (Elt F) f = x) :
    (m.view.loc (c : Thread nD τ) ↦[Finset.univ]{fullShare} f : sProp 𝕄) ⊢ owns (c : Thread nD τ) m fullShare x := by
  unfold owns
  iintro H
  iexists f
  isplitr
  · ipureintro; exact hx
  rw [h.set_eq_univ]
  iexact H

/-- The body, from the blocks its operands hold. -/
theorem body_owns (htw : ∀ i < 1024, (tw (F := F) arg1 (harg1.unread d1) i).toNat = (pgs i).val)
    (hv0 : w0 arg0 c (harg0.unread d0) = BitVec.ofNat 32 p) (h01 : w1 arg0 c (harg0.unread d0) = 1#32 ∨ w1 arg0 c (harg0.unread d0) = 0#32) :
    (iprop(owns (c : Thread nD τ) arg0 fullShare d0 ∗ owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10
        ∗ (∃ d, owns (c : Thread nD τ) arg13 fullShare d) ∗ (∃ d, owns (c : Thread nD τ) arg14 fullShare d) ∗ (∃ d, owns (c : Thread nD τ) arg15 fullShare d)
        ∗ (∃ f : Buf (Elt F) (arg16.view.loc (c : Thread nD τ)), arg16.view.loc (c : Thread nD τ) ↦{fullShare} f) ∗ (∃ f : Buf (Elt F) (arg17.view.loc (c : Thread nD τ)), arg17.view.loc (c : Thread nD τ) ↦{fullShare} f) ∗ (∃ f : Buf (Elt F) (arg18.view.loc (c : Thread nD τ)), arg18.view.loc (c : Thread nD τ) ↦{fullShare} f)
        ∗ cells arg19 c ∗ cells arg20 c ∗ poolPt arg11 c plK fullShare ∗ poolPt arg12 c plV fullShare ∗ Owes c) : sProp 𝕄)
      ⊢ wp frame (wpE defs 𝒱 (c : Thread nD τ) bd) Set.univ (cc0_paged_fp8_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20)
        fun _ => iprop(owns (c : Thread nD τ) arg0 fullShare d0 ∗ owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10
        ∗ owns (c : Thread nD τ) arg13 fullShare (outY arg0 arg2 arg3 arg4 arg5 arg6 arg7 arg8 arg9 arg10 arg11 arg12 arg16 arg17 c plK plV pgs p hp (harg0.unread d0) (harg2.unread d2) (harg3.unread d3) (harg4.unread d4) (harg5.unread d5) (harg6.unread d6) (harg7.unread d7) (harg8.unread d8) (harg9.unread d9) (harg10.unread d10))
        ∗ owns (c : Thread nD τ) arg14 fullShare (codeK arg3 arg5 c (harg3.unread d3) (harg5.unread d5))
        ∗ owns (c : Thread nD τ) arg15 fullShare (codeV arg4 arg6 c (harg4.unread d4) (harg6.unread d6))
        ∗ (∃ f : Buf (Elt F) (arg16.view.loc (c : Thread nD τ)), arg16.view.loc (c : Thread nD τ) ↦{fullShare} f) ∗ (∃ f : Buf (Elt F) (arg17.view.loc (c : Thread nD τ)), arg17.view.loc (c : Thread nD τ) ↦{fullShare} f) ∗ (∃ f : Buf (Elt F) (arg18.view.loc (c : Thread nD τ)), arg18.view.loc (c : Thread nD τ) ↦{fullShare} f)
        ∗ cells arg19 c ∗ cells arg20 c ∗ poolPt arg11 c plK fullShare ∗ poolPt arg12 c plV fullShare ∗ Owes c) := by
  iintro ⟨H0, H1, H2, H3, H4, H5, H6, H7, H8, H9, H10, ⟨%e13, H13⟩, ⟨%e14, H14⟩, ⟨%e15, H15⟩, ⟨%f16, H16⟩, ⟨%f17, H17⟩, ⟨%f18, H18⟩, HcK, HcV, HpK, HpV, HW⟩
  ihave H0 := (owns_univ c arg0 harg0 _) $$ H0
  ihave H2 := (owns_univ c arg2 harg2 _) $$ H2
  ihave H3 := (owns_univ c arg3 harg3 _) $$ H3
  ihave H4 := (owns_univ c arg4 harg4 _) $$ H4
  ihave H5 := (owns_univ c arg5 harg5 _) $$ H5
  ihave H6 := (owns_univ c arg6 harg6 _) $$ H6
  ihave H7 := (owns_univ c arg7 harg7 _) $$ H7
  ihave H8 := (owns_univ c arg8 harg8 _) $$ H8
  ihave H9 := (owns_univ c arg9 harg9 _) $$ H9
  ihave H10 := (owns_univ c arg10 harg10 _) $$ H10
  ihave H13 := (owns_univ c arg13 harg13 _) $$ H13
  ihave H14 := (owns_univ c arg14 harg14 _) $$ H14
  ihave H15 := (owns_univ c arg15 harg15 _) $$ H15
  ihave H1 := (LaneScatter.owns_raw (c : Thread nD τ) arg1 harg1 _) $$ H1
  ihave HK := (ring_enter arg16 arg11 arg19 c plK pgs harg16.set_eq_univ f16) $$ [HcK H16 HpK]
  · isplitl [HcK]; · iexact HcK
    isplitl [H16]; · iexact H16
    iexact HpK
  icases HK with ⟨HK, HrK⟩
  ihave HV := (ring_enter arg17 arg12 arg20 c plV pgs harg17.set_eq_univ f17) $$ [HcV H17 HpV]
  · isplitl [HcV]; · iexact HcV
    isplitl [H17]; · iexact H17
    iexact HpV
  icases HV with ⟨HV, HrV⟩
  iapply (wp_wand _ _ _) $$ [H0 H1 H2 H3 H4 H5 H6 H7 H8 H9 H10 H13 H14 H15 H18 HK HV HW]
  · iapply (body_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c defs 𝒱 bd plK plV pgs (harg1.unread d1) fullShare htw p hp (harg0.unread d0) (harg2.unread d2) (harg3.unread d3) (harg4.unread d4) (harg5.unread d5) (harg6.unread d6) (harg7.unread d7) (harg8.unread d8) (harg9.unread d9) (harg10.unread d10) hv0 h01 (harg13.unread e13) (harg14.unread e14) (harg15.unread e15))
    unfold Ins Main Ex78
    isplitl [H0 H2 H3 H4 H5 H6 H9 H10]
    · isplitl [H0]; · iexact H0
      isplitl [H2]; · iexact H2
      isplitl [H3]; · iexact H3
      isplitl [H4]; · iexact H4
      isplitl [H5]; · iexact H5
      isplitl [H6]; · iexact H6
      isplitl [H9]; · iexact H9
      iexact H10
    isplitl [H1 H7 H8 H18 HK HV HW]
    · isplitl [HK]; · iexact HK
      isplitl [HV]; · iexact HV
      isplitl [H1]; · iexact H1
      isplitl [HW]; · iexact HW
      isplitl [H18]; · iexists f18; iexact H18
      isplitl [H7]; · iexact H7
      iexact H8
    isplitl [H13]; · iexact H13
    isplitl [H14]; · iexact H14
    iexact H15
  unfold Ins Main Ex78 Out8 Out128
  iintro %u ⟨⟨H0, H2, H3, H4, H5, H6, H9, H10⟩, ⟨HK, HV, H1, HW, ⟨%Y, H18⟩, H7, H8⟩, ⟨%g13, %hg13, H13⟩, ⟨%g14, %hg14, H14⟩, ⟨%g15, %hg15, H15⟩⟩
  have z2 : (![0, 0] : Fin 2 → ℕ) = fun _ => 0 := by funext a; fin_cases a <;> rfl
  have hg13' := (acc_zero arg13 z2 inb_S128x128_S128x128_0_0 g13).symm.trans hg13
  have hg14' := (acc_zero arg14 z2 inb_S8x128_S8x128_0_0 g14).symm.trans hg14
  have hg15' := (acc_zero arg15 z2 inb_S8x128_S8x128_0_0 g15).symm.trans hg15
  ihave HK := (ring_exit arg16 arg11 arg19 c plK pgs harg16.set_eq_univ) $$ [HK HrK]
  · isplitl [HK]; · iexact HK
    iexact HrK
  icases HK with ⟨HcK, ⟨%k16, H16⟩, HpK⟩
  ihave HV := (ring_exit arg17 arg12 arg20 c plV pgs harg17.set_eq_univ) $$ [HV HrV]
  · isplitl [HV]; · iexact HV
    iexact HrV
  icases HV with ⟨HcV, ⟨%k17, H17⟩, HpV⟩
  isplitl [H0]; · iapply (univ_owns c arg0 harg0 _ _ (harg0.read_unread d0)); iexact H0
  isplitl [H1]; · iapply (LaneScatter.raw_owns (c : Thread nD τ) arg1 (harg1.read_unread d1)); iexact H1
  isplitl [H2]; · iapply (univ_owns c arg2 harg2 _ _ (harg2.read_unread d2)); iexact H2
  isplitl [H3]; · iapply (univ_owns c arg3 harg3 _ _ (harg3.read_unread d3)); iexact H3
  isplitl [H4]; · iapply (univ_owns c arg4 harg4 _ _ (harg4.read_unread d4)); iexact H4
  isplitl [H5]; · iapply (univ_owns c arg5 harg5 _ _ (harg5.read_unread d5)); iexact H5
  isplitl [H6]; · iapply (univ_owns c arg6 harg6 _ _ (harg6.read_unread d6)); iexact H6
  isplitl [H7]; · iapply (univ_owns c arg7 harg7 _ _ (harg7.read_unread d7)); iexact H7
  isplitl [H8]; · iapply (univ_owns c arg8 harg8 _ _ (harg8.read_unread d8)); iexact H8
  isplitl [H9]; · iapply (univ_owns c arg9 harg9 _ _ (harg9.read_unread d9)); iexact H9
  isplitl [H10]; · iapply (univ_owns c arg10 harg10 _ _ (harg10.read_unread d10)); iexact H10
  isplitl [H13]; · iapply (univ_owns c arg13 harg13 _ _ hg13'); iexact H13
  isplitl [H14]; · iapply (univ_owns c arg14 harg14 _ _ hg14'); iexact H14
  isplitl [H15]; · iapply (univ_owns c arg15 harg15 _ _ hg15'); iexact H15
  isplitl [H16]; · iexists k16; iexact H16
  isplitl [H17]; · iexists k17; iexact H17
  isplitl [H18]; · iexists Y; iexact H18
  isplitl [HcK]; · iexact HcK
  isplitl [HcV]; · iexact HcV
  isplitl [HpK]; · iexact HpK
  isplitl [HpV]; · iexact HpV
  iexact HW

end

end Cert.Kernel.Hand

end
-- ==== Proof.Bits.Run.lean ====
/-
  The same as the module of this name one directory up, for the kernel with its constants as printed.
  The launch: the proof data, the body obligation, the run with what every array ends at, and the frame — the program ends,
  nothing faults, the arguments end unchanged and every semaphore counter ends at zero.
-/
module

public import proofs.«01_k».proof.Proof.Bits.Owned
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.LaneScatter.Own

@[expose] public section

set_option synthInstance.maxSize 4096

set_option maxRecDepth 16384

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body writes no unscoped buffer itself. -/
def R0 : Finset (Ref sig .tc) := ∅

/-! ## The program up to the region -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## What the body holds beside its windows -/

abbrev ms0_0 (t : Fin cfg0.N) : Memref sig .tc .smem S2 .i32 := win0_0.stage (cfg0.slots t 0)
abbrev hs0_0 (t : Fin cfg0.N) : (ms0_0 t).IsWhole := hstage0_0 0
abbrev ms0_1 (t : Fin cfg0.N) : Memref sig .tc .smem S1024 .i32 := win0_1.stage (cfg0.slots t 1)
abbrev hs0_1 (t : Fin cfg0.N) : (ms0_1 t).IsWhole := hstage0_1 0
abbrev ms0_2 (t : Fin cfg0.N) : Memref sig .tc .vmem S128x256 .bf16 := win0_2.stage (cfg0.slots t 2)
abbrev hs0_2 (t : Fin cfg0.N) : (ms0_2 t).IsWhole := hstage0_2 0
abbrev ms0_3 (t : Fin cfg0.N) : Memref sig .tc .vmem S8x128 .bf16 := win0_3.stage (cfg0.slots t 3)
abbrev hs0_3 (t : Fin cfg0.N) : (ms0_3 t).IsWhole := hstage0_3 0
abbrev ms0_4 (t : Fin cfg0.N) : Memref sig .tc .vmem S8x128 .bf16 := win0_4.stage (cfg0.slots t 4)
abbrev hs0_4 (t : Fin cfg0.N) : (ms0_4 t).IsWhole := hstage0_4 0
abbrev ms0_5 (t : Fin cfg0.N) : Memref sig .tc .vmem S8x128 .f32 := win0_5.stage (cfg0.slots t 5)
abbrev hs0_5 (t : Fin cfg0.N) : (ms0_5 t).IsWhole := hstage0_5 0
abbrev ms0_6 (t : Fin cfg0.N) : Memref sig .tc .vmem S8x128 .f32 := win0_6.stage (cfg0.slots t 6)
abbrev hs0_6 (t : Fin cfg0.N) : (ms0_6 t).IsWhole := hstage0_6 0
abbrev ms0_7 (t : Fin cfg0.N) : Memref sig .tc .vmem S2x256x128 .bf16 := win0_7.stage (cfg0.slots t 7)
abbrev hs0_7 (t : Fin cfg0.N) : (ms0_7 t).IsWhole := hstage0_7 0
abbrev ms0_8 (t : Fin cfg0.N) : Memref sig .tc .vmem S2x256x128 .bf16 := win0_8.stage (cfg0.slots t 8)
abbrev hs0_8 (t : Fin cfg0.N) : (ms0_8 t).IsWhole := hstage0_8 0
abbrev ms0_9 (t : Fin cfg0.N) : Memref sig .tc .vmem S32x256 .f32 := win0_9.stage (cfg0.slots t 9)
abbrev hs0_9 (t : Fin cfg0.N) : (ms0_9 t).IsWhole := hstage0_9 0
abbrev ms0_10 (t : Fin cfg0.N) : Memref sig .tc .vmem S128x128 .f32 := win0_10.stage (cfg0.slots t 10)
abbrev hs0_10 (t : Fin cfg0.N) : (ms0_10 t).IsWhole := hstage0_10 0
abbrev ms0_11 (t : Fin cfg0.N) : Memref sig .tc .vmem S128x128 .bf16 := win0_11.stage (cfg0.slots t 11)
abbrev hs0_11 (t : Fin cfg0.N) : (ms0_11 t).IsWhole := hstage0_11 0
abbrev ms0_12 (t : Fin cfg0.N) : Memref sig .tc .vmem S8x128 .fp8e4m3 := win0_12.stage (cfg0.slots t 12)
abbrev hs0_12 (t : Fin cfg0.N) : (ms0_12 t).IsWhole := hstage0_12 0
abbrev ms0_13 (t : Fin cfg0.N) : Memref sig .tc .vmem S8x128 .fp8e4m3 := win0_13.stage (cfg0.slots t 13)
abbrev hs0_13 (t : Fin cfg0.N) : (ms0_13 t).IsWhole := hstage0_13 0

/-- The body's twelve DMA cells, six for the keys' ring and six for the values'. -/
abbrev osem0 : Fin 12 → SemLoc sig := fun j => (![SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 12 → SemLoc sig) j
theorem ownSemFacts0 : Pipeline.OwnSemFacts spec0 osem0 := by decide
theorem cells_list (sems : DmaSems sig S6) (c : Dev nD) : (cells (F := F) sems c : sProp 𝕄)
    = iprop(semVal ((c : Thread nD τ), SemLoc.dma (cellOf sems 0)) 0 ∗ semVal ((c : Thread nD τ), SemLoc.dma (cellOf sems 1)) 0 ∗ semVal ((c : Thread nD τ), SemLoc.dma (cellOf sems 2)) 0 ∗ semVal ((c : Thread nD τ), SemLoc.dma (cellOf sems 3)) 0 ∗ semVal ((c : Thread nD τ), SemLoc.dma (cellOf sems 4)) 0 ∗ semVal ((c : Thread nD τ), SemLoc.dma (cellOf sems 5)) 0) := by
  unfold cells
  rw [BI.bigSep_eq_bigSepL_of_eq [0, 1, 2, 3, 4, 5] (by decide) (by decide)]
  rfl
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9, 10, 11] (by decide) (by decide)]; rfl
/-- The two caches, left in HBM. -/
def H0 : Finset (Ref sig .tc) := {main_v52, main_v53}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v52) ↦{fullShare} V m c main_v52) ∗ (((c : Thread nD τ).loc main_v53) ↦{fullShare} V m c main_v53)) := by
  rw [BI.bigSep_eq_bigSepL_of_eq [main_v52, main_v53] (by decide) (by decide)]; rfl
theorem poolPt_whole (pool : Memref sig .tc .hbm S1024x1024x128 .fp8e4m3) (h : pool.IsWhole) (c : Dev nD) (pl : Buf (Elt F) (pool.view.loc (c : Thread nD τ))) :
    (poolPt pool c pl fullShare : sProp 𝕄) = (pool.view.loc (c : Thread nD τ) ↦{fullShare} pl) := by
  unfold poolPt
  rw [h.set_eq_univ]
theorem R0_sub : R0 ⊆ Pipeline.restRefs sig spec0 \ H0 := Finset.empty_subset _

/-! ## The values -/

/-- The position and the page numbers, as the region finds them. -/
abbrev X0 (c : Dev nD) (t : Fin cfg0.N) : Buf (Elt F) ((ms0_0 t).view.loc (c : Thread nD τ)) := (hs0_0 t).unread (iblk m c 0 t)
def pos (c : Dev nD) (t : Fin cfg0.N) : ℕ := (w0 (ms0_0 t) c (X0 m c t)).toNat % 131072
theorem pos_lt (c : Dev nD) (t : Fin cfg0.N) : pos m c t < 131072 := Nat.mod_lt _ (Nat.succ_pos _)
def pgOf (c : Dev nD) (t : Fin cfg0.N) (i : ℕ) : Fin 1024 :=
  ⟨(tw (F := F) (ms0_1 t) ((hs0_1 t).unread (iblk m c 1 t)) i).toNat % 1024, Nat.mod_lt _ (Nat.succ_pos _)⟩

/-- What the three results' staging buffers hold after the body. -/
def yAt (c : Dev nD) (t : Fin cfg0.N) : Vec F S128x128 .bf16 :=
  outY (ms0_0 t) (ms0_2 t) (ms0_3 t) (ms0_4 t) (ms0_5 t) (ms0_6 t) (ms0_7 t) (ms0_8 t) (ms0_9 t) (ms0_10 t) (Memref.whole main_v52) (Memref.whole main_v53) (Memref.whole cc0_scratch0) (Memref.whole cc0_scratch1) c (V m c main_v52) (V m c main_v53) (pgOf m c t) (pos m c t) (pos_lt m c t)
    ((hs0_0 t).unread (iblk m c 0 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t))
def kAt (c : Dev nD) (t : Fin cfg0.N) : Vec F S8x128 .fp8e4m3 := codeK (ms0_3 t) (ms0_5 t) c ((hs0_3 t).unread (iblk m c 3 t)) ((hs0_5 t).unread (iblk m c 5 t))
def vAt (c : Dev nD) (t : Fin cfg0.N) : Vec F S8x128 .fp8e4m3 := codeV (ms0_4 t) (ms0_6 t) c ((hs0_4 t).unread (iblk m c 4 t)) ((hs0_6 t).unread (iblk m c 6 t))

/-- What is asked of the words: the position and every page number in range, the flag 0 or 1. -/
structure Good (c : Dev nD) (t : Fin cfg0.N) : Prop where
  pos : (w0 (ms0_0 t) c (X0 m c t)).toNat < 131072
  flag : w1 (ms0_0 t) c (X0 m c t) = 1#32 ∨ w1 (ms0_0 t) c (X0 m c t) = 0#32
  pages : ∀ i < 1024, (tw (F := F) (ms0_1 t) ((hs0_1 t).unread (iblk m c 1 t)) i).toNat < 1024

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, _⟩ => kAt m c t
    | ⟨13, _⟩ => vAt m c t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = yAt m c t := by dsimp only [dats]
theorem after0_12 (c : Dev nD) (t : Fin cfg0.N) : (dats m 0 c).after 12 t = kAt m c t := by dsimp only [dats]
theorem after0_13 (c : Dev nD) (t : Fin cfg0.N) : (dats m 0 c).after 13 t = vAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t))

set_option maxHeartbeats 800000 in
theorem sound_body (c : Dev nD) (t : Fin cfg0.N) (hg : Good m c t) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, after0_9, after0_10, after0_11, after0_12, after0_13]
  simp only [before0_0, before0_1, before0_2, before0_3, before0_4, before0_5, before0_6, before0_7, before0_8, before0_9, before0_10]
  rw [show (dats m 0 c).Φ t.castSucc = Pipeline.ΦDR osem0 spec0 H0 R0 (V m) c from rfl, Pipeline.ΦDR_eq, scopedRest0_eq, ownSems00_eq, hbmPts0_eq]
  unfold Dat.owesAt Pipeline.owesWithin
  rw [show (dats m 0 c).owed t.castSucc = 0 from rfl, show (dats m 0 c).owed t.succ = 0 from rfl]
  have htw : ∀ i < 1024, (tw (F := F) (ms0_1 t) ((hs0_1 t).unread (iblk m c 1 t)) i).toNat = (pgOf m c t i).val := fun i hi => by
    unfold pgOf; exact (Nat.mod_eq_of_lt (hg.pages i hi)).symm
  have hv0 : w0 (ms0_0 t) c (X0 m c t) = BitVec.ofNat 32 (pos m c t) := by
    unfold pos; rw [Nat.mod_eq_of_lt hg.pos, BitVec.ofNat_toNat, BitVec.setWidth_eq]
  have hB := body_owns (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (Memref.whole main_v52) (Memref.isWhole_whole _) (Memref.whole main_v53) (Memref.isWhole_whole _) (win0_11.stage (cfg0.slots t 11)) (hstage0_11 0) (win0_12.stage (cfg0.slots t 12)) (hstage0_12 0) (win0_13.stage (cfg0.slots t 13)) (hstage0_13 0) (Memref.whole cc0_scratch0) (Memref.isWhole_whole _) (Memref.whole cc0_scratch1) (Memref.isWhole_whole _) (Memref.whole cc0_scratch2) (Memref.isWhole_whole _) cc0_scratch3 cc0_scratch4 c (defs₀ (F := F)) Variants.none none (V m c main_v52) (V m c main_v53) (pgOf m c t) (pos m c t) (pos_lt m c t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) htw hv0 hg.flag
  rw [cells_list, cells_list, poolPt_whole (Memref.whole main_v52) (Memref.isWhole_whole _), poolPt_whole (Memref.whole main_v53) (Memref.isWhole_whole _)] at hB
  iintro ⟨⟨⟨HS0, HS1, HS2⟩, Hg, ⟨Hq0, Hq1, Hq2, Hq3, Hq4, Hq5, Hq6, Hq7, Hq8, Hq9, Hq10, Hq11⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_wand _ _ _) $$ [HS0 HS1 HS2 Hq0 Hq1 Hq2 Hq3 Hq4 Hq5 Hq6 Hq7 Hq8 Hq9 Hq10 Hq11 Hh0 Hh1 HW H0 H1 H2 H3 H4 H5 H6 H7 H8 H9 H10 H11 H12 H13]
  · iapply hB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hq6 Hq7 Hq8 Hq9 Hq10 Hq11]
    · isplitl [Hq6]; · iexact Hq6
      isplitl [Hq7]; · iexact Hq7
      isplitl [Hq8]; · iexact Hq8
      isplitl [Hq9]; · iexact Hq9
      isplitl [Hq10]; · iexact Hq10
      iexact Hq11
    isplitl [Hh0]; · iexact Hh0
    isplitl [Hh1]; · iexact Hh1
    unfold Owes; iexists W; iexact HW
  unfold Owes
  iintro %u ⟨H0, H1, H2, H3, H4, H5, H6, H7, H8, H9, H10, H11, H12, H13, HS0, HS1, HS2, ⟨Hq0, Hq1, Hq2, Hq3, Hq4, Hq5⟩, ⟨Hq6, Hq7, Hq8, Hq9, Hq10, Hq11⟩, Hh0, Hh1, ⟨%W', HW'⟩⟩
  isplitl [HS0 HS1 HS2 Hg Hr Hq0 Hq1 Hq2 Hq3 Hq4 Hq5 Hq6 Hq7 Hq8 Hq9 Hq10 Hq11 Hh0 Hh1]
  · isplitl [HS0 HS1 HS2]
    · isplitl [HS0]; · iexact HS0
      isplitl [HS1]; · iexact HS1
      iexact HS2
    isplitl [Hg]; · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0 Hh1]
    · isplitl [Hh0]; · iexact Hh0
      iexact Hh1
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) (hg : ∀ t, Good m c t) : BodyObligation (dats (F := F) m 0 c) (defs₀ (F := F)) Variants.none () Set.univ := fun t => by
  rw [bigSep_W0, bigSep_W0, defs₀_row]
  exact triple_restated (sound_body m c t (hg t)) rfl .rfl fun _ => .rfl

/-! ## The run and the frame -/

set_option backward.isDefEq.respectTransparency.types false in
theorem run_main (hg : ∀ c t, Good m c t) : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c (hg c)).loose) (hshare := fun c => (dats m 0 c).share_full fun _ => rfl)
    (howed := fun _ _ => rfl) (V := V m) (hmain := hmainD m Variants.none) (hA := A_eq m)
    (hin := fun _ => .rfl) (hout := fun _ => .rfl)

theorem args_of {r : PUnit × MemSt nD τ sig (Elt F)} (h : Pipeline.FramePostR cfgs (dats m) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Finset.mem_sdiff.mpr ⟨Pipeline.mem_restRefs_of main_arg0 (by decide) (by decide), by decide⟩)).trans (V_main_arg0 m c),
   ((h c).2 main_arg1 (Finset.mem_sdiff.mpr ⟨Pipeline.mem_restRefs_of main_arg1 (by decide) (by decide), by decide⟩)).trans (V_main_arg1 m c),
   ((h c).2 main_arg2 (Finset.mem_sdiff.mpr ⟨Pipeline.mem_restRefs_of main_arg2 (by decide) (by decide), by decide⟩)).trans (V_main_arg2 m c),
   ((h c).2 main_arg3 (Finset.mem_sdiff.mpr ⟨Pipeline.mem_restRefs_of main_arg3 (by decide) (by decide), by decide⟩)).trans (V_main_arg3 m c),
   ((h c).2 main_arg4 (Finset.mem_sdiff.mpr ⟨Pipeline.mem_restRefs_of main_arg4 (by decide) (by decide), by decide⟩)).trans (V_main_arg4 m c),
   ((h c).2 main_arg5 (Finset.mem_sdiff.mpr ⟨Pipeline.mem_restRefs_of main_arg5 (by decide) (by decide), by decide⟩)).trans (V_main_arg5 m c),
   ((h c).2 main_arg6 (Finset.mem_sdiff.mpr ⟨Pipeline.mem_restRefs_of main_arg6 (by decide) (by decide), by decide⟩)).trans (V_main_arg6 m c),
   ((h c).2 main_arg7 (Finset.mem_sdiff.mpr ⟨Pipeline.mem_restRefs_of main_arg7 (by decide) (by decide), by decide⟩)).trans (V_main_arg7 m c),
   ((h c).2 main_arg8 (Finset.mem_sdiff.mpr ⟨Pipeline.mem_restRefs_of main_arg8 (by decide) (by decide), by decide⟩)).trans (V_main_arg8 m c),
   ((h c).2 main_arg9 (Finset.mem_sdiff.mpr ⟨Pipeline.mem_restRefs_of main_arg9 (by decide) (by decide), by decide⟩)).trans (V_main_arg9 m c),
   ((h c).2 main_arg10 (Finset.mem_sdiff.mpr ⟨Pipeline.mem_restRefs_of main_arg10 (by decide) (by decide), by decide⟩)).trans (V_main_arg10 m c),
   ((h c).2 main_arg11 (Finset.mem_sdiff.mpr ⟨Pipeline.mem_restRefs_of main_arg11 (by decide) (by decide), by decide⟩)).trans (V_main_arg11 m c)⟩

/-- The frame. -/
theorem frame_run (hg : ∀ c t, Good m c t) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨args_of m h.1, h.2⟩) (run_main m ρ hg)

end Cert.Kernel.Hand

end
-- ==== Proof.Bits.Host.lean ====
/-
  The same as the module of this name one directory up, for the kernel with its constants as printed.
  What the host lines before the region leave in the words the kernel reads, and what each window's block is.
-/
module

public import proofs.«01_k».proof.Proof.Bits.Run
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.ReadAt
public import Idealize.ShloMosaic.Lib.LaneScatter.Own

@[expose] public section

set_option synthInstance.maxSize 4096

set_option maxRecDepth 16384

noncomputable section

namespace Cert.Kernel.Hand

open Cert.Kernel Cert.Kernel.Gen Cert.Kernel.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The position, the flag and the page table, in the words the kernel reads. -/
theorem V8_0 (c : Dev nD) (j : S2.Idx) (hj : (j 0).val = 0) :
    V m c main_v8 j = m (c, Proc.tc.devRef main_arg8) (ix1 0) := by
  unfold V
  simp only [hostOps0, hostOps0_1, hostOps0_2, hostOps0_3, hostOps0_4, List.flatten_cons, List.flatten_nil, List.append_nil, List.cons_append, List.nil_append]
  after_reads_at
  rw [dif_pos (by omega)]
theorem V8_1 (c : Dev nD) (j : S2.Idx) (hj : (j 0).val = 1) :
    V m c main_v8 j = BitVec.setWidth 32 (IntOp.cmpi CmpIPredicate.ne (m (c, Proc.tc.devRef main_arg9) (ix1 0)) 0#32) := by
  unfold V
  simp only [hostOps0, hostOps0_1, hostOps0_2, hostOps0_3, hostOps0_4, List.flatten_cons, List.flatten_nil, List.append_nil, List.cons_append, List.nil_append]
  after_reads_at
  rw [dif_neg (by omega)]
theorem V33 (c : Dev nD) (j : S1024.Idx) :
    V m c main_v33 j = m (c, Proc.tc.devRef main_arg7) (Idealize.ShloMosaic.ix2 0 (j 0)) := by
  unfold V
  simp only [hostOps0, hostOps0_1, hostOps0_2, hostOps0_3, hostOps0_4, List.flatten_cons, List.flatten_nil, List.append_nil, List.cons_append, List.nil_append]
  after_reads_at

theorem emb0 (t : Fin cfg0.N) (j : S2.Idx) : ((cfg0.win 0).blk t).view.emb j = j := by
  funext a
  exact Fin.ext (match a with
    | ⟨0, _⟩ => by show 0 * 2 + 1 * (j 0).val = (j 0).val; omega)
theorem iblk0_eq (c : Dev nD) (t : Fin cfg0.N) : iblk m c 0 t = V m c main_v8 := by
  funext j; show V m c main_v8 (((cfg0.win 0).blk t).view.emb j) = V m c main_v8 j; rw [emb0]
theorem emb1 (t : Fin cfg0.N) (j : S1024.Idx) : ((cfg0.win 1).blk t).view.emb j = j := by
  funext a
  exact Fin.ext (match a with
    | ⟨0, _⟩ => by show 0 * 1024 + 1 * (j 0).val = (j 0).val; omega)
theorem iblk1_eq (c : Dev nD) (t : Fin cfg0.N) : iblk m c 1 t = V m c main_v33 := by
  funext j; show V m c main_v33 (((cfg0.win 1).blk t).view.emb j) = V m c main_v33 j; rw [emb1]
theorem emb2 (t : Fin cfg0.N) (j : S128x256.Idx) : ((cfg0.win 2).blk t).view.emb j = j := by
  funext a
  exact Fin.ext (match a with
    | ⟨0, _⟩ => by show 0 * 128 + 1 * (j 0).val = (j 0).val; omega
    | ⟨1, _⟩ => by show 0 * 256 + 1 * (j 1).val = (j 1).val; omega)
theorem iblk2_eq (c : Dev nD) (t : Fin cfg0.N) : iblk m c 2 t = V m c main_v19 := by
  funext j; show V m c main_v19 (((cfg0.win 2).blk t).view.emb j) = V m c main_v19 j; rw [emb2]
theorem emb3 (t : Fin cfg0.N) (j : S8x128.Idx) : ((cfg0.win 3).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk3_eq (c : Dev nD) (t : Fin cfg0.N) : iblk m c 3 t = V m c main_v34 := by
  funext j; show V m c main_v34 (((cfg0.win 3).blk t).view.emb j) = V m c main_v34 j; rw [emb3]
theorem emb4 (t : Fin cfg0.N) (j : S8x128.Idx) : ((cfg0.win 4).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk4_eq (c : Dev nD) (t : Fin cfg0.N) : iblk m c 4 t = V m c main_v35 := by
  funext j; show V m c main_v35 (((cfg0.win 4).blk t).view.emb j) = V m c main_v35 j; rw [emb4]
theorem emb5 (t : Fin cfg0.N) (j : S8x128.Idx) : ((cfg0.win 5).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk5_eq (c : Dev nD) (t : Fin cfg0.N) : iblk m c 5 t = V m c main_v37 := by
  funext j; show V m c main_v37 (((cfg0.win 5).blk t).view.emb j) = V m c main_v37 j; rw [emb5]
theorem emb6 (t : Fin cfg0.N) (j : S8x128.Idx) : ((cfg0.win 6).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem iblk6_eq (c : Dev nD) (t : Fin cfg0.N) : iblk m c 6 t = V m c main_v39 := by
  funext j; show V m c main_v39 (((cfg0.win 6).blk t).view.emb j) = V m c main_v39 j; rw [emb6]
theorem emb7 (t : Fin cfg0.N) (j : S2x256x128.Idx) : ((cfg0.win 7).blk t).view.emb j = j := by
  funext a
  exact Fin.ext (match a with
    | ⟨0, _⟩ => by show 0 * 2 + 1 * (j 0).val = (j 0).val; omega
    | ⟨1, _⟩ => by show 0 * 256 + 1 * (j 1).val = (j 1).val; omega
    | ⟨2, _⟩ => by show 0 * 128 + 1 * (j 2).val = (j 2).val; omega)
theorem iblk7_eq (c : Dev nD) (t : Fin cfg0.N) : iblk m c 7 t = V m c main_v45 := by
  funext j; show V m c main_v45 (((cfg0.win 7).blk t).view.emb j) = V m c main_v45 j; rw [emb7]
theorem emb8 (t : Fin cfg0.N) (j : S2x256x128.Idx) : ((cfg0.win 8).blk t).view.emb j = j := by
  funext a
  exact Fin.ext (match a with
    | ⟨0, _⟩ => by show 0 * 2 + 1 * (j 0).val = (j 0).val; omega
    | ⟨1, _⟩ => by show 0 * 256 + 1 * (j 1).val = (j 1).val; omega
    | ⟨2, _⟩ => by show 0 * 128 + 1 * (j 2).val = (j 2).val; omega)
theorem iblk8_eq (c : Dev nD) (t : Fin cfg0.N) : iblk m c 8 t = V m c main_v51 := by
  funext j; show V m c main_v51 (((cfg0.win 8).blk t).view.emb j) = V m c main_v51 j; rw [emb8]
theorem emb9 (t : Fin cfg0.N) (j : S32x256.Idx) : ((cfg0.win 9).blk t).view.emb j = j := by
  funext a
  exact Fin.ext (match a with
    | ⟨0, _⟩ => by show 0 * 32 + 1 * (j 0).val = (j 0).val; omega
    | ⟨1, _⟩ => by show 0 * 256 + 1 * (j 1).val = (j 1).val; omega)
theorem iblk9_eq (c : Dev nD) (t : Fin cfg0.N) : iblk m c 9 t = V m c main_v28 := by
  funext j; show V m c main_v28 (((cfg0.win 9).blk t).view.emb j) = V m c main_v28 j; rw [emb9]
theorem emb10 (t : Fin cfg0.N) (j : S128x128.Idx) : ((cfg0.win 10).blk t).view.emb j = j := by
  funext a
  exact Fin.ext (match a with
    | ⟨0, _⟩ => by show 0 * 128 + 1 * (j 0).val = (j 0).val; omega
    | ⟨1, _⟩ => by show 0 * 128 + 1 * (j 1).val = (j 1).val; omega)
theorem iblk10_eq (c : Dev nD) (t : Fin cfg0.N) : iblk m c 10 t = V m c main_v32 := by
  funext j; show V m c main_v32 (((cfg0.win 10).blk t).view.emb j) = V m c main_v32 j; rw [emb10]
theorem emb11 (t : Fin cfg0.N) (j : S128x128.Idx) : ((cfg0.win 11).blk t).view.emb j = j := by
  funext a
  exact Fin.ext (match a with
    | ⟨0, _⟩ => by show 0 * 128 + 1 * (j 0).val = (j 0).val; omega
    | ⟨1, _⟩ => by show 0 * 128 + 1 * (j 1).val = (j 1).val; omega)
theorem emb12 (t : Fin cfg0.N) (j : S8x128.Idx) : ((cfg0.win 12).blk t).view.emb j = j := by
  funext a
  exact Fin.ext (match a with
    | ⟨0, _⟩ => by show 0 * 8 + 1 * (j 0).val = (j 0).val; omega
    | ⟨1, _⟩ => by show 0 * 128 + 1 * (j 1).val = (j 1).val; omega)
theorem emb13 (t : Fin cfg0.N) (j : S8x128.Idx) : ((cfg0.win 13).blk t).view.emb j = j := by
  funext a
  exact Fin.ext (match a with
    | ⟨0, _⟩ => by show 0 * 8 + 1 * (j 0).val = (j 0).val; omega
    | ⟨1, _⟩ => by show 0 * 128 + 1 * (j 1).val = (j 1).val; omega)

theorem acc_unread {κ : Kind} {sp : Space} {s : Shape} {e : EltTy} (M : Memref sig κ sp s e) (h : M.IsWhole) (x : s.Idx → Elt F e) (r : Rect s) (y : r.shape.Idx) :
    (M.access r).read (Elt F) (h.unread x) y = x (r.emb y) := congrFun (h.read_unread x) (r.emb y)

/-- The one coordinate a word's rectangle names. -/
theorem word_at {n : ℕ} (o : Fin 1 → ℕ) (h : ∀ a, o a + S1.size a ≤ (⟨1, ![n]⟩ : Shape).size a) (y : (Rect.unit (s := ⟨1, ![n]⟩) o S1.size h).shape.Idx) :
    ((Rect.unit (s := ⟨1, ![n]⟩) o S1.size h).emb y 0).val = o 0 := by
  have hy : (y 0).val < 1 := (y 0).isLt
  show o 0 + 1 * (y 0).val = o 0
  omega

theorem w0_eq (c : Dev nD) (t : Fin cfg0.N) : w0 (ms0_0 t) c (X0 m c t) = m (c, Proc.tc.devRef main_arg8) (ix1 0) := by
  unfold w0 X0
  rw [acc_unread, iblk0_eq]
  exact V8_0 m c _ (word_at _ _ _)
theorem w1_eq (c : Dev nD) (t : Fin cfg0.N) : w1 (ms0_0 t) c (X0 m c t) = BitVec.setWidth 32 (IntOp.cmpi CmpIPredicate.ne (m (c, Proc.tc.devRef main_arg9) (ix1 0)) 0#32) := by
  unfold w1 X0
  rw [acc_unread, iblk0_eq]
  exact V8_1 m c _ (word_at _ _ _)
theorem tw_eq (c : Dev nD) (t : Fin cfg0.N) (i : ℕ) (hi : i < 1024) :
    tw (F := F) (ms0_1 t) ((hs0_1 t).unread (iblk m c 1 t)) i = m (c, Proc.tc.devRef main_arg7) (Idealize.ShloMosaic.ix2 0 ⟨i, hi⟩) := by
  unfold tw
  rw [dif_pos hi, acc_unread, iblk1_eq, V33]
  exact congrArg _ (congrArg _ (Fin.ext (word_at _ _ _)))

theorem good (h8 : ∀ c : Dev nD, (m (c, Proc.tc.devRef main_arg8) (ix1 0)).toNat < 131072)
    (h7 : ∀ (c : Dev nD) (i : Fin 1024), (m (c, Proc.tc.devRef main_arg7) (Idealize.ShloMosaic.ix2 0 i)).toNat < 1024) (c : Dev nD) (t : Fin cfg0.N) : Good m c t where
  pos := by rw [w0_eq]; exact h8 c
  flag := by
    rw [w1_eq]
    generalize IntOp.cmpi CmpIPredicate.ne (m (c, Proc.tc.devRef main_arg9) (ix1 0)) 0#32 = b
    revert b; decide
  pages := fun i hi => by rw [tw_eq m c t i hi]; exact h7 c _

end Cert.Kernel.Hand

end
-- ==== Proof.lean ====
/-
  The proof of `Cert.Claim`: the kernel's two frames (at the bit-exact instance and idealized) by its hand-written run under
  what the precondition says of the position and the page table, the reference's frame by its generated run, the two named
  constants, and the equality of the attention's result and of the two arrays of codes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.ReferenceIdeal.Frame
public import proofs.«01_k».proof.Proof.Gen.Pre_sound
public import proofs.«01_k».proof.Proof.Asked
public import proofs.«01_k».proof.Proof.Host
public import proofs.«01_k».proof.Proof.Codes
public import proofs.«01_k».proof.Proof.RefCodes
public import proofs.«01_k».proof.Proof.Ky
public import proofs.«01_k».proof.Proof.RefAttn
public import proofs.«01_k».proof.Proof.Bits.Host

@[expose] public section

noncomputable section

namespace Cert.Proof

open Idealize.ShloMosaic Idealize.SL.Sem

/-- The precondition at the bit-exact instance gives what the kernel asks of its words. -/
theorem good_bits (m : (ℓ : Loc Cert.Kernel.nD Cert.Kernel.τ Cert.Kernel.sig) → Buf (Elt Bits) ℓ) (h : Cert.Pre_Kernel m) (c) (t) :
    Cert.Kernel.Hand.Good m c t :=
  Cert.Kernel.Hand.good m
    (fun c => (Cert.Pre_sound.asked (F := Bits) _ _ _ _ _ _ _ _ _ _ _ _ (h c).1 (h c).2.1).2 _)
    (fun c i => (Cert.Pre_sound.asked (F := Bits) _ _ _ _ _ _ _ _ _ _ _ _ (h c).1 (h c).2.1).1 _) c t

/-- And over the reals. -/
theorem good_ideal (m : (ℓ : Loc Cert.KernelIdeal.nD Cert.KernelIdeal.τ Cert.KernelIdeal.sig) → Buf (Elt Ideal) ℓ) (h : Cert.Pre_KernelIdeal m) (c) (t) :
    Cert.KernelIdeal.Hand.Good m c t :=
  Cert.KernelIdeal.Hand.good m
    (fun c => (Cert.Pre_sound.asked (F := Ideal) _ _ _ _ _ _ _ _ _ _ _ _ (h c).1 (h c).2.1).2 _)
    (fun c i => (Cert.Pre_sound.asked (F := Ideal) _ _ _ _ _ _ _ _ _ _ _ _ (h c).1 (h c).2.1).1 _) c t

theorem preserves : Cert.preserves_Kernel_KernelIdeal :=
  ⟨IdealRules.named_const.statement Cert.KernelIdeal.κ "log2_softmax_scale" .f32 _ _ rfl,
    IdealRules.named_const.statement Cert.KernelIdeal.κ "neg_inf" .f32 _ _ rfl⟩

theorem attnAt_args {p : ℕ} {tab tab' : Fin 1024 → BitVec 32} {x x' : Fin 128 → Fin 128 → EReal} {ks ks' vs vs' : Fin 8 → EReal} {kr kr' vr vr' : Fin 8 → Fin 128 → EReal}
    {kp kp' vp vp' : Fin 1024 → Fin 128 → Fin 8 → Fin 128 → EReal} (h1 : tab = tab') (h2 : x = x') (h3 : ks = ks') (h4 : vs = vs') (h5 : kr = kr') (h6 : vr = vr') (h7 : kp = kp') (h8 : vp = vp') (r d : Fin 128) :
    Cert.Online.attnAt p tab x ks vs kr vr kp vp r d = Cert.Online.attnAt p tab' x' ks' vs' kr' vr' kp' vp' r d := by
  subst h1 h2 h3 h4 h5 h6 h7 h8; rfl

/-- From equal arguments the kernel's attention and two arrays of codes and the reference's are equal. -/
theorem algebraic : Cert.algebraic_KernelIdeal_ReferenceIdeal := by
  intro m g m' g' hpre hargs
  refine ⟨fun c => Cert.KernelIdeal.Hand.yAt m c Cert.KernelIdeal.Attend.t0, fun c => Cert.KernelIdeal.Hand.rowK m c, fun c => Cert.KernelIdeal.Hand.rowV m c,
    (θ_run (Cert.KernelIdeal.defs (F := Ideal)) _ _).mono (fun r h c => ?_)
      (Cert.KernelIdeal.Hand.run_main m g (good_ideal m hpre)),
    (θ_run (Cert.ReferenceIdeal.defs (F := Ideal)) _ _).mono (fun r h c => ?_) (Cert.ReferenceIdeal.Value.run_blocks (F := Ideal) m' g')⟩
  · have hc := Cert.KernelIdeal.Hand.codes_of m h.1 c
    exact ⟨Cert.KernelIdeal.Attend.y_of m h.1 c, hc.1, hc.2, Cert.KernelIdeal.Hand.args_of m h.1 c⟩
  · obtain ⟨hy, hk, hv, hrest⟩ := h c
    obtain ⟨h0, h1, h2, h3, h4, h5, h6, h7, h8, _, h10, h11⟩ := hargs c
    have hkr : Cert.ReferenceIdeal.Value.keyRow m' c = Cert.KernelIdeal.Hand.rowK m c := by
      funext j
      refine (congrFun (congrArg₂ (Cert.ReferenceIdeal.Gen.k0_pay2 (F := Ideal)) h1 h10) j).trans ?_
      exact (Cert.ReferenceIdeal.Value.pay160_eq _ _ _ _ j (Cert.KernelIdeal.Hand.V34_eq m c j) (Cert.KernelIdeal.Hand.V37_eq m c j)).symm
    have hvr : Cert.ReferenceIdeal.Value.valRow m' c = Cert.KernelIdeal.Hand.rowV m c := by
      funext j
      refine (congrFun (congrArg₂ (Cert.ReferenceIdeal.Gen.k0_pay3 (F := Ideal)) h2 h11) j).trans ?_
      exact (Cert.ReferenceIdeal.Value.pay161_eq _ _ _ _ j (Cert.KernelIdeal.Hand.V35_eq m c j) (Cert.KernelIdeal.Hand.V39_eq m c j)).symm
    refine ⟨hy.trans ((Cert.ReferenceIdeal.Value.final11 m' c).trans ?_), hk.trans ((Cert.ReferenceIdeal.Value.final12 m' c).trans hkr), hv.trans ((Cert.ReferenceIdeal.Value.final13 m' c).trans hvr), hrest⟩
    obtain ⟨q7, q8, q4, q6, q9⟩ := hpre c
    have hw := Cert.Pre_sound.asked (F := Ideal) _ _ _ _ _ _ _ _ _ _ _ _ q7 q8
    have s4 := Cert.Pre_sound.scale4 _ _ _ _ _ _ _ _ _ _ _ _ q4
    have s6 := Cert.Pre_sound.scale6 _ _ _ _ _ _ _ _ _ _ _ _ q6
    have hp := hw.2 (Idealize.ShloMosaic.ix1 0)
    have e8 : ∀ i : Cert.Pre_sound.S1.Idx, m ((c.tc : Thread Cert.KernelIdeal.nD Cert.KernelIdeal.τ).loc Cert.KernelIdeal.main_arg8) i
        = BitVec.ofNat 32 (m ((c.tc : Thread Cert.KernelIdeal.nD Cert.KernelIdeal.τ).loc Cert.KernelIdeal.main_arg8) (Idealize.ShloMosaic.ix1 0)).toNat := fun i => by
      have ei : i = Idealize.ShloMosaic.ix1 0 := funext fun a => match a with
        | ⟨0, _⟩ => Fin.ext (by have h : (i 0).val < 1 := (i 0).isLt; show (i 0).val = 0; omega)
      rw [ei]
      exact BitVec.eq_of_toNat_eq (by rw [BitVec.toNat_ofNat]; exact (Nat.mod_eq_of_lt (BitVec.isLt _)).symm)
    have hpl := Cert.Pre_sound.apart _ _ _ _ _ _ _ _ _ _ _ _ q9 _ hp e8
    funext i
    have ei : i = Idealize.ShloMosaic.ix2 (n0 := 128) (n1 := 128) (i 0) (i 1) := funext fun a => match a with
      | ⟨0, _⟩ => rfl
      | ⟨1, _⟩ => rfl
    rw [ei]
    refine (Cert.ReferenceIdeal.Value.out_eq m' c _ hp ((congrFun h8 (Idealize.ShloMosaic.ix1 0)).trans (e8 _)) (fun i => ?_) (fun t ht => ?_) (i 0) (i 1)).trans
      (Eq.trans ?_ (Cert.KernelIdeal.Attend.y_eq m c Cert.KernelIdeal.Attend.t0 (fun n => (s4 _).1) (fun n => (s4 _).2) (fun n => (s6 _).1) (fun n => (s6 _).2) _ hp (e8 _) (i 0) (i 1)).symm)
    · exact (congrArg BitVec.toNat (congrFun h7 (Idealize.ShloMosaic.ix2 0 i))).trans_lt (hw.1 _)
    · exact (congrFun (congrArg Cert.ReferenceIdeal.Value.placeW h7) t).trans_ne ((hpl t ht).trans_eq (congrFun (congrArg Cert.ReferenceIdeal.Value.placeW h7) _).symm)
    · exact attnAt_args (funext fun i => congrFun h7 _) (funext fun r => funext fun i => congrFun h0 _) (funext fun n => congrFun h4 _) (funext fun n => congrFun h6 _)
        (funext fun n => funext fun i => congrFun hkr _) (funext fun n => funext fun i => congrFun hvr _) (funext fun g => funext fun t => funext fun n => funext fun i => congrFun h3 _)
        (funext fun g => funext fun t => funext fun n => funext fun i => congrFun h5 _) _ _

theorem claim : Cert.Claim :=
  ⟨Cert.Kernel.Gen.facts, Cert.KernelIdeal.Gen.facts, Cert.ReferenceIdeal.Gen.facts, Cert.Pre_sound.Gen.facts,
    fun m g h => Cert.Kernel.Hand.frame_run m g (good_bits m h),
    fun m g h => Cert.KernelIdeal.Hand.frame_run m g (good_ideal m h),
    fun m g _ => Cert.ReferenceIdeal.Gen.frame m g, fun m g _ => Cert.ReferenceIdeal.Gen.frame m g,
    preserves, algebraic⟩

end Cert.Proof

end
